-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 64]⟩ ⟨2, ![4096, 2048]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.block ⟨2, ![4096, 64]⟩ ⟨2, ![4096, 2048]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x64 : Shape := ⟨2, ![4096, 64]⟩
abbrev S1 : Shape := ⟨1, ![1]⟩
abbrev S32 : Shape := ⟨1, ![32]⟩
abbrev S32x32 : Shape := ⟨2, ![32, 32]⟩
abbrev S1x1 : Shape := ⟨2, ![1, 1]⟩
abbrev S32x128x4096 : Shape := ⟨3, ![32, 128, 4096]⟩
abbrev S_ : Shape := ⟨0, ![]⟩
abbrev S32x4 : Shape := ⟨2, ![32, 4]⟩
abbrev S1x128x4096 : Shape := ⟨3, ![1, 128, 4096]⟩
abbrev S1x64x1024 : Shape := ⟨3, ![1, 64, 1024]⟩
abbrev S64x1024 : Shape := ⟨2, ![64, 1024]⟩
abbrev S128x64 : Shape := ⟨2, ![128, 64]⟩
abbrev S1x64x4096 : Shape := ⟨3, ![1, 64, 4096]⟩
abbrev S64x4096 : Shape := ⟨2, ![64, 4096]⟩
abbrev S64x64 : Shape := ⟨2, ![64, 64]⟩

abbrev nBuf : Space → Nat
  | .hbm => 11
  | .vmem => 4
  | .smem => 5
  | _ => 0

abbrev bufTy : (tb : Table) → Fin (tcTables nBuf tb) → BufTy
  | .hbm, ⟨0, _⟩ => ⟨S128x4096, .fp8e5m2⟩
  | .hbm, ⟨1, _⟩ => ⟨S4096x64, .fp8e5m2⟩
  | .hbm, ⟨2, _⟩ => ⟨S1, .f32⟩
  | .hbm, ⟨3, _⟩ => ⟨S1, .f32⟩
  | .hbm, ⟨4, _⟩ => ⟨S32, .i32⟩
  | .hbm, ⟨5, _⟩ => ⟨S32, .i32⟩
  | .hbm, ⟨6, _⟩ => ⟨S32x32, .i32⟩
  | .hbm, ⟨7, _⟩ => ⟨S32x32, .i32⟩
  | .hbm, ⟨8, _⟩ => ⟨S1, .f32⟩
  | .hbm, ⟨9, _⟩ => ⟨S1x1, .f32⟩
  | .hbm, ⟨10, _⟩ => ⟨S4096x64, .f32⟩
  | .local _ .vmem, ⟨0, _⟩ => ⟨S128x4096, .fp8e5m2⟩
  | .local _ .vmem, ⟨1, _⟩ => ⟨S4096x64, .fp8e5m2⟩
  | .local _ .vmem, ⟨2, _⟩ => ⟨S4096x64, .f32⟩
  | .local _ .vmem, ⟨3, _⟩ => ⟨S32x128x4096, .fp8e5m2⟩
  | .local _ .smem, ⟨0, _⟩ => ⟨S1x1, .f32⟩
  | .local _ .smem, ⟨1, _⟩ => ⟨S32, .i32⟩
  | .local _ .smem, ⟨2, _⟩ => ⟨S32, .i32⟩
  | .local _ .smem, ⟨3, _⟩ => ⟨S32x32, .i32⟩
  | .local _ .smem, ⟨4, _⟩ => ⟨S32x32, .i32⟩
  | _, _ => ⟨S128x4096, .fp8e5m2⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_3 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_4 (i : Nat) : Bool := match i % 128 with
  | 0 => true
  | 1 => true
  | 2 => true
  | 3 => true
  | 4 => true
  | 5 => true
  | 6 => true
  | 7 => true
  | 8 => true
  | _ => false

abbrev dmaSemScopedAt (i : Nat) : Bool := match i / 128 with
  | 0 => dmaSemScopedAt0_0 i
  | 1 => dmaSemScopedAt0_1 i
  | 2 => dmaSemScopedAt0_2 i
  | 3 => dmaSemScopedAt0_3 i
  | 4 => dmaSemScopedAt0_4 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 1 → Bool
  | ⟨0, _⟩ => false
  | _ => false

abbrev dmaSemScoped : Fin 521 → Bool
  | ⟨i, _⟩ => dmaSemScopedAt i

abbrev sig : RefSig :=
  (ofTc nBuf bufTy 1 521 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg7_0 : Ref sig .tc := ⟨.vmem, 2, rfl⟩
abbrev cc0_scratch0 : Ref sig .tc := ⟨.vmem, 3, rfl⟩
abbrev cc0_stg2_0 : Ref sig .tc := ⟨.smem, 0, rfl⟩
abbrev cc0_stg3_0 : Ref sig .tc := ⟨.smem, 1, rfl⟩
abbrev cc0_stg4_0 : Ref sig .tc := ⟨.smem, 2, rfl⟩
abbrev cc0_stg5_0 : Ref sig .tc := ⟨.smem, 3, rfl⟩
abbrev cc0_stg6_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 32
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3 : Index := Scalar.indexCast v2
  ![v3.toNat]
def k0_dev1 (v6 : BitVec 32) : Nat :=
  let c0_i32 : BitVec 32 := 0#32
  let c1_i32_1 : BitVec 32 := 1#32
  let v8 : BitVec 32 := Scalar.muli v6 c1_i32_1
  let v9 : BitVec 32 := Scalar.addi c0_i32 v8
  v9.toNat

def k0_dev2 (v4 : BitVec 32) : Nat :=
  let c0_i32_4 : BitVec 32 := 0#32
  let c1_i32_3 : BitVec 32 := 1#32
  let v10 : BitVec 32 := Scalar.muli v4 c1_i32_3
  let v11 : BitVec 32 := Scalar.addi c0_i32_4 v10
  v11.toNat

def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let c0_i32_6 : BitVec 32 := 0#32
  ![v2.toNat, 0, 0]
def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_18 : BitVec 32 := 0#32
  let c0_i32_19 : BitVec 32 := 0#32
  ![v2.toNat, 0, 0]
def k0_dev3 (v4 : BitVec 32) : Nat :=
  let c0_i32_17 : BitVec 32 := 0#32
  let c1_i32_16 : BitVec 32 := 1#32
  let v19 : BitVec 32 := Scalar.muli v4 c1_i32_16
  let v20 : BitVec 32 := Scalar.addi c0_i32_17 v19
  v20.toNat
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32 : BitVec 32 := 64#32
  let c0_i32_28 : BitVec 32 := 0#32
  ![v2.toNat, 64, 0]
def k0_dev4 (v6 : BitVec 32) : Nat :=
  let c0_i32_27 : BitVec 32 := 0#32
  let c1_i32_26 : BitVec 32 := 1#32
  let v29 : BitVec 32 := Scalar.muli v6 c1_i32_26
  let v30 : BitVec 32 := Scalar.addi c0_i32_27 v29
  v30.toNat
def k0_off5 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_37 : BitVec 32 := 0#32
  let c1024_i32 : BitVec 32 := 1024#32
  ![v2.toNat, 0, 1024]
def k0_dev5 (v4 : BitVec 32) : Nat :=
  let c0_i32_36 : BitVec 32 := 0#32
  let c1_i32_35 : BitVec 32 := 1#32
  let v39 : BitVec 32 := Scalar.muli v4 c1_i32_35
  let v40 : BitVec 32 := Scalar.addi c0_i32_36 v39
  v40.toNat
def k0_off6 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_46 : BitVec 32 := 64#32
  let c1024_i32_47 : BitVec 32 := 1024#32
  ![v2.toNat, 64, 1024]
def k0_dev6 (v6 : BitVec 32) : Nat :=
  let c0_i32_45 : BitVec 32 := 0#32
  let c1_i32_44 : BitVec 32 := 1#32
  let v49 : BitVec 32 := Scalar.muli v6 c1_i32_44
  let v50 : BitVec 32 := Scalar.addi c0_i32_45 v49
  v50.toNat
def k0_off7 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_56 : BitVec 32 := 0#32
  let c2048_i32 : BitVec 32 := 2048#32
  ![v2.toNat, 0, 2048]
def k0_dev7 (v4 : BitVec 32) : Nat :=
  let c0_i32_55 : BitVec 32 := 0#32
  let c1_i32_54 : BitVec 32 := 1#32
  let v59 : BitVec 32 := Scalar.muli v4 c1_i32_54
  let v60 : BitVec 32 := Scalar.addi c0_i32_55 v59
  v60.toNat
def k0_off8 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_65 : BitVec 32 := 64#32
  let c2048_i32_66 : BitVec 32 := 2048#32
  ![v2.toNat, 64, 2048]
def k0_dev8 (v6 : BitVec 32) : Nat :=
  let c0_i32_64 : BitVec 32 := 0#32
  let c1_i32_63 : BitVec 32 := 1#32
  let v69 : BitVec 32 := Scalar.muli v6 c1_i32_63
  let v70 : BitVec 32 := Scalar.addi c0_i32_64 v69
  v70.toNat
def k0_off9 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_74 : BitVec 32 := 0#32
  let c3072_i32 : BitVec 32 := 3072#32
  ![v2.toNat, 0, 3072]
def k0_dev9 (v4 : BitVec 32) : Nat :=
  let c0_i32_73 : BitVec 32 := 0#32
  let c1_i32_72 : BitVec 32 := 1#32
  let v79 : BitVec 32 := Scalar.muli v4 c1_i32_72
  let v80 : BitVec 32 := Scalar.addi c0_i32_73 v79
  v80.toNat
def k0_off10 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_83 : BitVec 32 := 64#32
  let c3072_i32_84 : BitVec 32 := 3072#32
  ![v2.toNat, 64, 3072]
def k0_dev10 (v6 : BitVec 32) : Nat :=
  let c0_i32_82 : BitVec 32 := 0#32
  let c1_i32_81 : BitVec 32 := 1#32
  let v89 : BitVec 32 := Scalar.muli v6 c1_i32_81
  let v90 : BitVec 32 := Scalar.addi c0_i32_82 v89
  v90.toNat
def k0_off11 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v102 : BitVec 32 := Scalar.muli v2 c128_i32
  let v107 : Index := Scalar.indexCast v102
  let c0_89 : Index := 0#32
  ![v107.toNat, 0]
def k0_off12 (d0 : Dev nD) : Fin 2 → Nat :=
  let c1 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v109 : Index := Scalar.indexCast v2
  ![1, v109.toNat]
def k0_off13 (v110 : BitVec 32) : Fin 3 → Nat :=
  let c0_i32_97 : BitVec 32 := 0#32
  let c0_i32_98 : BitVec 32 := 0#32
  ![v110.toNat, 0, 0]

def k0_dev11 (v4 : BitVec 32) : Nat :=
  let c0_i32_106 : BitVec 32 := 0#32
  let c1_i32_105 : BitVec 32 := 1#32
  let v121 : BitVec 32 := Scalar.muli v4 c1_i32_105
  let v122 : BitVec 32 := Scalar.addi c0_i32_106 v121
  v122.toNat
def k0_off14 (v112 : BitVec 32) : Fin 3 → Nat :=
  let c64_i32_117 : BitVec 32 := 64#32
  let c0_i32_118 : BitVec 32 := 0#32
  ![v112.toNat, 64, 0]

def k0_dev12 (v6 : BitVec 32) : Nat :=
  let c0_i32_126 : BitVec 32 := 0#32
  let c1_i32_125 : BitVec 32 := 1#32
  let v139 : BitVec 32 := Scalar.muli v6 c1_i32_125
  let v140 : BitVec 32 := Scalar.addi c0_i32_126 v139
  v140.toNat
def k0_off15 (v110 : BitVec 32) : Fin 3 → Nat :=
  let c0_i32_137 : BitVec 32 := 0#32
  let c1024_i32_138 : BitVec 32 := 1024#32
  ![v110.toNat, 0, 1024]
def k0_dev13 (v4 : BitVec 32) : Nat :=
  let c0_i32_146 : BitVec 32 := 0#32
  let c1_i32_145 : BitVec 32 := 1#32
  let v157 : BitVec 32 := Scalar.muli v4 c1_i32_145
  let v158 : BitVec 32 := Scalar.addi c0_i32_146 v157
  v158.toNat
def k0_off16 (v112 : BitVec 32) : Fin 3 → Nat :=
  let c64_i32_157 : BitVec 32 := 64#32
  let c1024_i32_158 : BitVec 32 := 1024#32
  ![v112.toNat, 64, 1024]
def k0_dev14 (v6 : BitVec 32) : Nat :=
  let c0_i32_166 : BitVec 32 := 0#32
  let c1_i32_165 : BitVec 32 := 1#32
  let v175 : BitVec 32 := Scalar.muli v6 c1_i32_165
  let v176 : BitVec 32 := Scalar.addi c0_i32_166 v175
  v176.toNat
def k0_off17 (v110 : BitVec 32) : Fin 3 → Nat :=
  let c0_i32_177 : BitVec 32 := 0#32
  let c2048_i32_178 : BitVec 32 := 2048#32
  ![v110.toNat, 0, 2048]
def k0_dev15 (v4 : BitVec 32) : Nat :=
  let c0_i32_186 : BitVec 32 := 0#32
  let c1_i32_185 : BitVec 32 := 1#32
  let v193 : BitVec 32 := Scalar.muli v4 c1_i32_185
  let v194 : BitVec 32 := Scalar.addi c0_i32_186 v193
  v194.toNat
def k0_off18 (v112 : BitVec 32) : Fin 3 → Nat :=
  let c64_i32_197 : BitVec 32 := 64#32
  let c2048_i32_198 : BitVec 32 := 2048#32
  ![v112.toNat, 64, 2048]
def k0_dev16 (v6 : BitVec 32) : Nat :=
  let c0_i32_206 : BitVec 32 := 0#32
  let c1_i32_205 : BitVec 32 := 1#32
  let v211 : BitVec 32 := Scalar.muli v6 c1_i32_205
  let v212 : BitVec 32 := Scalar.addi c0_i32_206 v211
  v212.toNat
def k0_off19 (v110 : BitVec 32) : Fin 3 → Nat :=
  let c0_i32_217 : BitVec 32 := 0#32
  let c3072_i32_218 : BitVec 32 := 3072#32
  ![v110.toNat, 0, 3072]
def k0_dev17 (v4 : BitVec 32) : Nat :=
  let c0_i32_226 : BitVec 32 := 0#32
  let c1_i32_225 : BitVec 32 := 1#32
  let v229 : BitVec 32 := Scalar.muli v4 c1_i32_225
  let v230 : BitVec 32 := Scalar.addi c0_i32_226 v229
  v230.toNat
def k0_off20 (v112 : BitVec 32) : Fin 3 → Nat :=
  let c64_i32_237 : BitVec 32 := 64#32
  let c3072_i32_238 : BitVec 32 := 3072#32
  ![v112.toNat, 64, 3072]
def k0_dev18 (v6 : BitVec 32) : Nat :=
  let c0_i32_246 : BitVec 32 := 0#32
  let c1_i32_245 : BitVec 32 := 1#32
  let v247 : BitVec 32 := Scalar.muli v6 c1_i32_245
  let v248 : BitVec 32 := Scalar.addi c0_i32_246 v247
  v248.toNat
def k0_off21 (v110 : BitVec 32) : Fin 3 → Nat :=
  let v257 : Index := Scalar.indexCast v110
  let c0_251 : Index := 0#32
  let c0_252 : Index := 0#32
  ![v257.toNat, 0, 0]
def k0_off22 (v110 : BitVec 32) : Fin 2 → Nat :=
  let c128_i32_254 : BitVec 32 := 128#32
  let v261 : BitVec 32 := Scalar.muli v110 c128_i32_254
  let c0_i32_255 : BitVec 32 := 0#32
  let v262 : BitVec 32 := Scalar.addi v261 c0_i32_255
  let v267 : Index := Scalar.indexCast v262
  let c0_256 : Index := 0#32
  ![v267.toNat, 0]

def k0_chk3 (v110 : BitVec 32) : Prop :=
  (∀ a, (k0_off13 v110) a + S1x64x1024.size a ≤ S32x128x4096.size a) ∧
  (∀ (hinb : ∀ a, (k0_off13 v110) a + S1x64x1024.size a ≤ S32x128x4096.size a), (Rect.unit (s := S32x128x4096) (k0_off13 v110) S1x64x1024.size hinb).WholeWords (EltTy.packing .fp8e5m2)) ∧
  (∀ a, (k0_off15 v110) a + S1x64x1024.size a ≤ S32x128x4096.size a) ∧
  (∀ (hinb : ∀ a, (k0_off15 v110) a + S1x64x1024.size a ≤ S32x128x4096.size a), (Rect.unit (s := S32x128x4096) (k0_off15 v110) S1x64x1024.size hinb).WholeWords (EltTy.packing .fp8e5m2)) ∧
  (∀ a, (k0_off17 v110) a + S1x64x1024.size a ≤ S32x128x4096.size a) ∧
  (∀ (hinb : ∀ a, (k0_off17 v110) a + S1x64x1024.size a ≤ S32x128x4096.size a), (Rect.unit (s := S32x128x4096) (k0_off17 v110) S1x64x1024.size hinb).WholeWords (EltTy.packing .fp8e5m2)) ∧
  (∀ a, (k0_off19 v110) a + S1x64x1024.size a ≤ S32x128x4096.size a) ∧
  (∀ (hinb : ∀ a, (k0_off19 v110) a + S1x64x1024.size a ≤ S32x128x4096.size a), (Rect.unit (s := S32x128x4096) (k0_off19 v110) S1x64x1024.size hinb).WholeWords (EltTy.packing .fp8e5m2)) ∧
  (∀ a, (k0_off21 v110) a + S1x64x4096.size a ≤ S32x128x4096.size a) ∧
  (∀ a, (k0_off22 v110) a + S64x64.size a ≤ S4096x64.size a)
theorem k0_off13_inb : ∀ (v110 : BitVec 32) (k0_hw3 : k0_chk3 v110), ∀ a, (k0_off13 v110) a + S1x64x1024.size a ≤ S32x128x4096.size a := fun v110 k0_hw3 => k0_hw3.1
theorem k0_off13_wordsfp8e5m2 : ∀ (v110 : BitVec 32) (k0_hw3 : k0_chk3 v110), (Rect.unit (s := S32x128x4096) (k0_off13 v110) S1x64x1024.size (k0_off13_inb v110 k0_hw3)).WholeWords (EltTy.packing .fp8e5m2) := fun v110 k0_hw3 => k0_hw3.2.1 (k0_off13_inb v110 k0_hw3)
theorem k0_off15_inb : ∀ (v110 : BitVec 32) (k0_hw3 : k0_chk3 v110), ∀ a, (k0_off15 v110) a + S1x64x1024.size a ≤ S32x128x4096.size a := fun v110 k0_hw3 => k0_hw3.2.2.1
theorem k0_off15_wordsfp8e5m2 : ∀ (v110 : BitVec 32) (k0_hw3 : k0_chk3 v110), (Rect.unit (s := S32x128x4096) (k0_off15 v110) S1x64x1024.size (k0_off15_inb v110 k0_hw3)).WholeWords (EltTy.packing .fp8e5m2) := fun v110 k0_hw3 => k0_hw3.2.2.2.1 (k0_off15_inb v110 k0_hw3)
theorem k0_off17_inb : ∀ (v110 : BitVec 32) (k0_hw3 : k0_chk3 v110), ∀ a, (k0_off17 v110) a + S1x64x1024.size a ≤ S32x128x4096.size a := fun v110 k0_hw3 => k0_hw3.2.2.2.2.1
theorem k0_off17_wordsfp8e5m2 : ∀ (v110 : BitVec 32) (k0_hw3 : k0_chk3 v110), (Rect.unit (s := S32x128x4096) (k0_off17 v110) S1x64x1024.size (k0_off17_inb v110 k0_hw3)).WholeWords (EltTy.packing .fp8e5m2) := fun v110 k0_hw3 => k0_hw3.2.2.2.2.2.1 (k0_off17_inb v110 k0_hw3)
theorem k0_off19_inb : ∀ (v110 : BitVec 32) (k0_hw3 : k0_chk3 v110), ∀ a, (k0_off19 v110) a + S1x64x1024.size a ≤ S32x128x4096.size a := fun v110 k0_hw3 => k0_hw3.2.2.2.2.2.2.1
theorem k0_off19_wordsfp8e5m2 : ∀ (v110 : BitVec 32) (k0_hw3 : k0_chk3 v110), (Rect.unit (s := S32x128x4096) (k0_off19 v110) S1x64x1024.size (k0_off19_inb v110 k0_hw3)).WholeWords (EltTy.packing .fp8e5m2) := fun v110 k0_hw3 => k0_hw3.2.2.2.2.2.2.2.1 (k0_off19_inb v110 k0_hw3)
theorem k0_off21_inb : ∀ (v110 : BitVec 32) (k0_hw3 : k0_chk3 v110), ∀ a, (k0_off21 v110) a + S1x64x4096.size a ≤ S32x128x4096.size a := fun v110 k0_hw3 => k0_hw3.2.2.2.2.2.2.2.2.1
theorem k0_off22_inb : ∀ (v110 : BitVec 32) (k0_hw3 : k0_chk3 v110), ∀ a, (k0_off22 v110) a + S64x64.size a ≤ S4096x64.size a := fun v110 k0_hw3 => k0_hw3.2.2.2.2.2.2.2.2.2

def k0_off23 (v112 : BitVec 32) : Fin 3 → Nat :=
  let v269 : Index := Scalar.indexCast v112
  let c64 : Index := 64#32
  let c0_257 : Index := 0#32
  ![v269.toNat, 64, 0]
def k0_off24 (v112 : BitVec 32) : Fin 2 → Nat :=
  let c128_i32_259 : BitVec 32 := 128#32
  let v273 : BitVec 32 := Scalar.muli v112 c128_i32_259
  let c64_i32_260 : BitVec 32 := 64#32
  let v274 : BitVec 32 := Scalar.addi v273 c64_i32_260
  let v279 : Index := Scalar.indexCast v274
  let c0_261 : Index := 0#32
  ![v279.toNat, 0]

def k0_chk4 (v112 : BitVec 32) : Prop :=
  (∀ a, (k0_off14 v112) a + S1x64x1024.size a ≤ S32x128x4096.size a) ∧
  (∀ (hinb : ∀ a, (k0_off14 v112) a + S1x64x1024.size a ≤ S32x128x4096.size a), (Rect.unit (s := S32x128x4096) (k0_off14 v112) S1x64x1024.size hinb).WholeWords (EltTy.packing .fp8e5m2)) ∧
  (∀ a, (k0_off16 v112) a + S1x64x1024.size a ≤ S32x128x4096.size a) ∧
  (∀ (hinb : ∀ a, (k0_off16 v112) a + S1x64x1024.size a ≤ S32x128x4096.size a), (Rect.unit (s := S32x128x4096) (k0_off16 v112) S1x64x1024.size hinb).WholeWords (EltTy.packing .fp8e5m2)) ∧
  (∀ a, (k0_off18 v112) a + S1x64x1024.size a ≤ S32x128x4096.size a) ∧
  (∀ (hinb : ∀ a, (k0_off18 v112) a + S1x64x1024.size a ≤ S32x128x4096.size a), (Rect.unit (s := S32x128x4096) (k0_off18 v112) S1x64x1024.size hinb).WholeWords (EltTy.packing .fp8e5m2)) ∧
  (∀ a, (k0_off20 v112) a + S1x64x1024.size a ≤ S32x128x4096.size a) ∧
  (∀ (hinb : ∀ a, (k0_off20 v112) a + S1x64x1024.size a ≤ S32x128x4096.size a), (Rect.unit (s := S32x128x4096) (k0_off20 v112) S1x64x1024.size hinb).WholeWords (EltTy.packing .fp8e5m2)) ∧
  (∀ a, (k0_off23 v112) a + S1x64x4096.size a ≤ S32x128x4096.size a) ∧
  (∀ a, (k0_off24 v112) a + S64x64.size a ≤ S4096x64.size a)
theorem k0_off14_inb : ∀ (v112 : BitVec 32) (k0_hw4 : k0_chk4 v112), ∀ a, (k0_off14 v112) a + S1x64x1024.size a ≤ S32x128x4096.size a := fun v112 k0_hw4 => k0_hw4.1
theorem k0_off14_wordsfp8e5m2 : ∀ (v112 : BitVec 32) (k0_hw4 : k0_chk4 v112), (Rect.unit (s := S32x128x4096) (k0_off14 v112) S1x64x1024.size (k0_off14_inb v112 k0_hw4)).WholeWords (EltTy.packing .fp8e5m2) := fun v112 k0_hw4 => k0_hw4.2.1 (k0_off14_inb v112 k0_hw4)
theorem k0_off16_inb : ∀ (v112 : BitVec 32) (k0_hw4 : k0_chk4 v112), ∀ a, (k0_off16 v112) a + S1x64x1024.size a ≤ S32x128x4096.size a := fun v112 k0_hw4 => k0_hw4.2.2.1
theorem k0_off16_wordsfp8e5m2 : ∀ (v112 : BitVec 32) (k0_hw4 : k0_chk4 v112), (Rect.unit (s := S32x128x4096) (k0_off16 v112) S1x64x1024.size (k0_off16_inb v112 k0_hw4)).WholeWords (EltTy.packing .fp8e5m2) := fun v112 k0_hw4 => k0_hw4.2.2.2.1 (k0_off16_inb v112 k0_hw4)
theorem k0_off18_inb : ∀ (v112 : BitVec 32) (k0_hw4 : k0_chk4 v112), ∀ a, (k0_off18 v112) a + S1x64x1024.size a ≤ S32x128x4096.size a := fun v112 k0_hw4 => k0_hw4.2.2.2.2.1
theorem k0_off18_wordsfp8e5m2 : ∀ (v112 : BitVec 32) (k0_hw4 : k0_chk4 v112), (Rect.unit (s := S32x128x4096) (k0_off18 v112) S1x64x1024.size (k0_off18_inb v112 k0_hw4)).WholeWords (EltTy.packing .fp8e5m2) := fun v112 k0_hw4 => k0_hw4.2.2.2.2.2.1 (k0_off18_inb v112 k0_hw4)
theorem k0_off20_inb : ∀ (v112 : BitVec 32) (k0_hw4 : k0_chk4 v112), ∀ a, (k0_off20 v112) a + S1x64x1024.size a ≤ S32x128x4096.size a := fun v112 k0_hw4 => k0_hw4.2.2.2.2.2.2.1
theorem k0_off20_wordsfp8e5m2 : ∀ (v112 : BitVec 32) (k0_hw4 : k0_chk4 v112), (Rect.unit (s := S32x128x4096) (k0_off20 v112) S1x64x1024.size (k0_off20_inb v112 k0_hw4)).WholeWords (EltTy.packing .fp8e5m2) := fun v112 k0_hw4 => k0_hw4.2.2.2.2.2.2.2.1 (k0_off20_inb v112 k0_hw4)
theorem k0_off23_inb : ∀ (v112 : BitVec 32) (k0_hw4 : k0_chk4 v112), ∀ a, (k0_off23 v112) a + S1x64x4096.size a ≤ S32x128x4096.size a := fun v112 k0_hw4 => k0_hw4.2.2.2.2.2.2.2.2.1
theorem k0_off24_inb : ∀ (v112 : BitVec 32) (k0_hw4 : k0_chk4 v112), ∀ a, (k0_off24 v112) a + S64x64.size a ≤ S4096x64.size a := fun v112 k0_hw4 => k0_hw4.2.2.2.2.2.2.2.2.2

def k0_off25 (d0 : Dev nD) : Fin 2 → Nat :=
  let c2 : Index := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v281 : Index := Scalar.indexCast v2
  ![2, v281.toNat]
def k0_off26 (v282 : BitVec 32) : Fin 3 → Nat :=
  let c0_i32_269 : BitVec 32 := 0#32
  let c0_i32_270 : BitVec 32 := 0#32
  ![v282.toNat, 0, 0]

def k0_dev19 (v4 : BitVec 32) : Nat :=
  let c0_i32_278 : BitVec 32 := 0#32
  let c1_i32_277 : BitVec 32 := 1#32
  let v293 : BitVec 32 := Scalar.muli v4 c1_i32_277
  let v294 : BitVec 32 := Scalar.addi c0_i32_278 v293
  v294.toNat
def k0_off27 (v284 : BitVec 32) : Fin 3 → Nat :=
  let c64_i32_289 : BitVec 32 := 64#32
  let c0_i32_290 : BitVec 32 := 0#32
  ![v284.toNat, 64, 0]

def k0_dev20 (v6 : BitVec 32) : Nat :=
  let c0_i32_298 : BitVec 32 := 0#32
  let c1_i32_297 : BitVec 32 := 1#32
  let v311 : BitVec 32 := Scalar.muli v6 c1_i32_297
  let v312 : BitVec 32 := Scalar.addi c0_i32_298 v311
  v312.toNat
def k0_off28 (v282 : BitVec 32) : Fin 3 → Nat :=
  let c0_i32_309 : BitVec 32 := 0#32
  let c1024_i32_310 : BitVec 32 := 1024#32
  ![v282.toNat, 0, 1024]
def k0_dev21 (v4 : BitVec 32) : Nat :=
  let c0_i32_318 : BitVec 32 := 0#32
  let c1_i32_317 : BitVec 32 := 1#32
  let v329 : BitVec 32 := Scalar.muli v4 c1_i32_317
  let v330 : BitVec 32 := Scalar.addi c0_i32_318 v329
  v330.toNat
def k0_off29 (v284 : BitVec 32) : Fin 3 → Nat :=
  let c64_i32_329 : BitVec 32 := 64#32
  let c1024_i32_330 : BitVec 32 := 1024#32
  ![v284.toNat, 64, 1024]
def k0_dev22 (v6 : BitVec 32) : Nat :=
  let c0_i32_338 : BitVec 32 := 0#32
  let c1_i32_337 : BitVec 32 := 1#32
  let v347 : BitVec 32 := Scalar.muli v6 c1_i32_337
  let v348 : BitVec 32 := Scalar.addi c0_i32_338 v347
  v348.toNat
def k0_off30 (v282 : BitVec 32) : Fin 3 → Nat :=
  let c0_i32_349 : BitVec 32 := 0#32
  let c2048_i32_350 : BitVec 32 := 2048#32
  ![v282.toNat, 0, 2048]
def k0_dev23 (v4 : BitVec 32) : Nat :=
  let c0_i32_358 : BitVec 32 := 0#32
  let c1_i32_357 : BitVec 32 := 1#32
  let v365 : BitVec 32 := Scalar.muli v4 c1_i32_357
  let v366 : BitVec 32 := Scalar.addi c0_i32_358 v365
  v366.toNat
def k0_off31 (v284 : BitVec 32) : Fin 3 → Nat :=
  let c64_i32_369 : BitVec 32 := 64#32
  let c2048_i32_370 : BitVec 32 := 2048#32
  ![v284.toNat, 64, 2048]
def k0_dev24 (v6 : BitVec 32) : Nat :=
  let c0_i32_378 : BitVec 32 := 0#32
  let c1_i32_377 : BitVec 32 := 1#32
  let v383 : BitVec 32 := Scalar.muli v6 c1_i32_377
  let v384 : BitVec 32 := Scalar.addi c0_i32_378 v383
  v384.toNat
def k0_off32 (v282 : BitVec 32) : Fin 3 → Nat :=
  let c0_i32_389 : BitVec 32 := 0#32
  let c3072_i32_390 : BitVec 32 := 3072#32
  ![v282.toNat, 0, 3072]
def k0_dev25 (v4 : BitVec 32) : Nat :=
  let c0_i32_398 : BitVec 32 := 0#32
  let c1_i32_397 : BitVec 32 := 1#32
  let v401 : BitVec 32 := Scalar.muli v4 c1_i32_397
  let v402 : BitVec 32 := Scalar.addi c0_i32_398 v401
  v402.toNat
def k0_off33 (v284 : BitVec 32) : Fin 3 → Nat :=
  let c64_i32_409 : BitVec 32 := 64#32
  let c3072_i32_410 : BitVec 32 := 3072#32
  ![v284.toNat, 64, 3072]
def k0_dev26 (v6 : BitVec 32) : Nat :=
  let c0_i32_418 : BitVec 32 := 0#32
  let c1_i32_417 : BitVec 32 := 1#32
  let v419 : BitVec 32 := Scalar.muli v6 c1_i32_417
  let v420 : BitVec 32 := Scalar.addi c0_i32_418 v419
  v420.toNat
def k0_off34 (v282 : BitVec 32) : Fin 3 → Nat :=
  let v429 : Index := Scalar.indexCast v282
  let c0_423 : Index := 0#32
  let c0_424 : Index := 0#32
  ![v429.toNat, 0, 0]
def k0_off35 (v282 : BitVec 32) : Fin 2 → Nat :=
  let c128_i32_426 : BitVec 32 := 128#32
  let v433 : BitVec 32 := Scalar.muli v282 c128_i32_426
  let c0_i32_427 : BitVec 32 := 0#32
  let v434 : BitVec 32 := Scalar.addi v433 c0_i32_427
  let v439 : Index := Scalar.indexCast v434
  let c0_428 : Index := 0#32
  ![v439.toNat, 0]

def k0_chk5 (v282 : BitVec 32) : Prop :=
  (∀ a, (k0_off26 v282) a + S1x64x1024.size a ≤ S32x128x4096.size a) ∧
  (∀ (hinb : ∀ a, (k0_off26 v282) a + S1x64x1024.size a ≤ S32x128x4096.size a), (Rect.unit (s := S32x128x4096) (k0_off26 v282) S1x64x1024.size hinb).WholeWords (EltTy.packing .fp8e5m2)) ∧
  (∀ a, (k0_off28 v282) a + S1x64x1024.size a ≤ S32x128x4096.size a) ∧
  (∀ (hinb : ∀ a, (k0_off28 v282) a + S1x64x1024.size a ≤ S32x128x4096.size a), (Rect.unit (s := S32x128x4096) (k0_off28 v282) S1x64x1024.size hinb).WholeWords (EltTy.packing .fp8e5m2)) ∧
  (∀ a, (k0_off30 v282) a + S1x64x1024.size a ≤ S32x128x4096.size a) ∧
  (∀ (hinb : ∀ a, (k0_off30 v282) a + S1x64x1024.size a ≤ S32x128x4096.size a), (Rect.unit (s := S32x128x4096) (k0_off30 v282) S1x64x1024.size hinb).WholeWords (EltTy.packing .fp8e5m2)) ∧
  (∀ a, (k0_off32 v282) a + S1x64x1024.size a ≤ S32x128x4096.size a) ∧
  (∀ (hinb : ∀ a, (k0_off32 v282) a + S1x64x1024.size a ≤ S32x128x4096.size a), (Rect.unit (s := S32x128x4096) (k0_off32 v282) S1x64x1024.size hinb).WholeWords (EltTy.packing .fp8e5m2)) ∧
  (∀ a, (k0_off34 v282) a + S1x64x4096.size a ≤ S32x128x4096.size a) ∧
  (∀ a, (k0_off35 v282) a + S64x64.size a ≤ S4096x64.size a)
theorem k0_off26_inb : ∀ (v282 : BitVec 32) (k0_hw5 : k0_chk5 v282), ∀ a, (k0_off26 v282) a + S1x64x1024.size a ≤ S32x128x4096.size a := fun v282 k0_hw5 => k0_hw5.1
theorem k0_off26_wordsfp8e5m2 : ∀ (v282 : BitVec 32) (k0_hw5 : k0_chk5 v282), (Rect.unit (s := S32x128x4096) (k0_off26 v282) S1x64x1024.size (k0_off26_inb v282 k0_hw5)).WholeWords (EltTy.packing .fp8e5m2) := fun v282 k0_hw5 => k0_hw5.2.1 (k0_off26_inb v282 k0_hw5)
theorem k0_off28_inb : ∀ (v282 : BitVec 32) (k0_hw5 : k0_chk5 v282), ∀ a, (k0_off28 v282) a + S1x64x1024.size a ≤ S32x128x4096.size a := fun v282 k0_hw5 => k0_hw5.2.2.1
theorem k0_off28_wordsfp8e5m2 : ∀ (v282 : BitVec 32) (k0_hw5 : k0_chk5 v282), (Rect.unit (s := S32x128x4096) (k0_off28 v282) S1x64x1024.size (k0_off28_inb v282 k0_hw5)).WholeWords (EltTy.packing .fp8e5m2) := fun v282 k0_hw5 => k0_hw5.2.2.2.1 (k0_off28_inb v282 k0_hw5)
theorem k0_off30_inb : ∀ (v282 : BitVec 32) (k0_hw5 : k0_chk5 v282), ∀ a, (k0_off30 v282) a + S1x64x1024.size a ≤ S32x128x4096.size a := fun v282 k0_hw5 => k0_hw5.2.2.2.2.1
theorem k0_off30_wordsfp8e5m2 : ∀ (v282 : BitVec 32) (k0_hw5 : k0_chk5 v282), (Rect.unit (s := S32x128x4096) (k0_off30 v282) S1x64x1024.size (k0_off30_inb v282 k0_hw5)).WholeWords (EltTy.packing .fp8e5m2) := fun v282 k0_hw5 => k0_hw5.2.2.2.2.2.1 (k0_off30_inb v282 k0_hw5)
theorem k0_off32_inb : ∀ (v282 : BitVec 32) (k0_hw5 : k0_chk5 v282), ∀ a, (k0_off32 v282) a + S1x64x1024.size a ≤ S32x128x4096.size a := fun v282 k0_hw5 => k0_hw5.2.2.2.2.2.2.1
theorem k0_off32_wordsfp8e5m2 : ∀ (v282 : BitVec 32) (k0_hw5 : k0_chk5 v282), (Rect.unit (s := S32x128x4096) (k0_off32 v282) S1x64x1024.size (k0_off32_inb v282 k0_hw5)).WholeWords (EltTy.packing .fp8e5m2) := fun v282 k0_hw5 => k0_hw5.2.2.2.2.2.2.2.1 (k0_off32_inb v282 k0_hw5)
theorem k0_off34_inb : ∀ (v282 : BitVec 32) (k0_hw5 : k0_chk5 v282), ∀ a, (k0_off34 v282) a + S1x64x4096.size a ≤ S32x128x4096.size a := fun v282 k0_hw5 => k0_hw5.2.2.2.2.2.2.2.2.1
theorem k0_off35_inb : ∀ (v282 : BitVec 32) (k0_hw5 : k0_chk5 v282), ∀ a, (k0_off35 v282) a + S64x64.size a ≤ S4096x64.size a := fun v282 k0_hw5 => k0_hw5.2.2.2.2.2.2.2.2.2

def k0_off36 (v284 : BitVec 32) : Fin 3 → Nat :=
  let v441 : Index := Scalar.indexCast v284
  let c64_429 : Index := 64#32
  let c0_430 : Index := 0#32
  ![v441.toNat, 64, 0]
def k0_off37 (v284 : BitVec 32) : Fin 2 → Nat :=
  let c128_i32_432 : BitVec 32 := 128#32
  let v445 : BitVec 32 := Scalar.muli v284 c128_i32_432
  let c64_i32_433 : BitVec 32 := 64#32
  let v446 : BitVec 32 := Scalar.addi v445 c64_i32_433
  let v451 : Index := Scalar.indexCast v446
  let c0_434 : Index := 0#32
  ![v451.toNat, 0]

def k0_chk6 (v284 : BitVec 32) : Prop :=
  (∀ a, (k0_off27 v284) a + S1x64x1024.size a ≤ S32x128x4096.size a) ∧
  (∀ (hinb : ∀ a, (k0_off27 v284) a + S1x64x1024.size a ≤ S32x128x4096.size a), (Rect.unit (s := S32x128x4096) (k0_off27 v284) S1x64x1024.size hinb).WholeWords (EltTy.packing .fp8e5m2)) ∧
  (∀ a, (k0_off29 v284) a + S1x64x1024.size a ≤ S32x128x4096.size a) ∧
  (∀ (hinb : ∀ a, (k0_off29 v284) a + S1x64x1024.size a ≤ S32x128x4096.size a), (Rect.unit (s := S32x128x4096) (k0_off29 v284) S1x64x1024.size hinb).WholeWords (EltTy.packing .fp8e5m2)) ∧
  (∀ a, (k0_off31 v284) a + S1x64x1024.size a ≤ S32x128x4096.size a) ∧
  (∀ (hinb : ∀ a, (k0_off31 v284) a + S1x64x1024.size a ≤ S32x128x4096.size a), (Rect.unit (s := S32x128x4096) (k0_off31 v284) S1x64x1024.size hinb).WholeWords (EltTy.packing .fp8e5m2)) ∧
  (∀ a, (k0_off33 v284) a + S1x64x1024.size a ≤ S32x128x4096.size a) ∧
  (∀ (hinb : ∀ a, (k0_off33 v284) a + S1x64x1024.size a ≤ S32x128x4096.size a), (Rect.unit (s := S32x128x4096) (k0_off33 v284) S1x64x1024.size hinb).WholeWords (EltTy.packing .fp8e5m2)) ∧
  (∀ a, (k0_off36 v284) a + S1x64x4096.size a ≤ S32x128x4096.size a) ∧
  (∀ a, (k0_off37 v284) a + S64x64.size a ≤ S4096x64.size a)
theorem k0_off27_inb : ∀ (v284 : BitVec 32) (k0_hw6 : k0_chk6 v284), ∀ a, (k0_off27 v284) a + S1x64x1024.size a ≤ S32x128x4096.size a := fun v284 k0_hw6 => k0_hw6.1
theorem k0_off27_wordsfp8e5m2 : ∀ (v284 : BitVec 32) (k0_hw6 : k0_chk6 v284), (Rect.unit (s := S32x128x4096) (k0_off27 v284) S1x64x1024.size (k0_off27_inb v284 k0_hw6)).WholeWords (EltTy.packing .fp8e5m2) := fun v284 k0_hw6 => k0_hw6.2.1 (k0_off27_inb v284 k0_hw6)
theorem k0_off29_inb : ∀ (v284 : BitVec 32) (k0_hw6 : k0_chk6 v284), ∀ a, (k0_off29 v284) a + S1x64x1024.size a ≤ S32x128x4096.size a := fun v284 k0_hw6 => k0_hw6.2.2.1
theorem k0_off29_wordsfp8e5m2 : ∀ (v284 : BitVec 32) (k0_hw6 : k0_chk6 v284), (Rect.unit (s := S32x128x4096) (k0_off29 v284) S1x64x1024.size (k0_off29_inb v284 k0_hw6)).WholeWords (EltTy.packing .fp8e5m2) := fun v284 k0_hw6 => k0_hw6.2.2.2.1 (k0_off29_inb v284 k0_hw6)
theorem k0_off31_inb : ∀ (v284 : BitVec 32) (k0_hw6 : k0_chk6 v284), ∀ a, (k0_off31 v284) a + S1x64x1024.size a ≤ S32x128x4096.size a := fun v284 k0_hw6 => k0_hw6.2.2.2.2.1
theorem k0_off31_wordsfp8e5m2 : ∀ (v284 : BitVec 32) (k0_hw6 : k0_chk6 v284), (Rect.unit (s := S32x128x4096) (k0_off31 v284) S1x64x1024.size (k0_off31_inb v284 k0_hw6)).WholeWords (EltTy.packing .fp8e5m2) := fun v284 k0_hw6 => k0_hw6.2.2.2.2.2.1 (k0_off31_inb v284 k0_hw6)
theorem k0_off33_inb : ∀ (v284 : BitVec 32) (k0_hw6 : k0_chk6 v284), ∀ a, (k0_off33 v284) a + S1x64x1024.size a ≤ S32x128x4096.size a := fun v284 k0_hw6 => k0_hw6.2.2.2.2.2.2.1
theorem k0_off33_wordsfp8e5m2 : ∀ (v284 : BitVec 32) (k0_hw6 : k0_chk6 v284), (Rect.unit (s := S32x128x4096) (k0_off33 v284) S1x64x1024.size (k0_off33_inb v284 k0_hw6)).WholeWords (EltTy.packing .fp8e5m2) := fun v284 k0_hw6 => k0_hw6.2.2.2.2.2.2.2.1 (k0_off33_inb v284 k0_hw6)
theorem k0_off36_inb : ∀ (v284 : BitVec 32) (k0_hw6 : k0_chk6 v284), ∀ a, (k0_off36 v284) a + S1x64x4096.size a ≤ S32x128x4096.size a := fun v284 k0_hw6 => k0_hw6.2.2.2.2.2.2.2.2.1
theorem k0_off37_inb : ∀ (v284 : BitVec 32) (k0_hw6 : k0_chk6 v284), ∀ a, (k0_off37 v284) a + S64x64.size a ≤ S4096x64.size a := fun v284 k0_hw6 => k0_hw6.2.2.2.2.2.2.2.2.2

def k0_off38 (d0 : Dev nD) : Fin 2 → Nat :=
  let c3 : Index := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v453 : Index := Scalar.indexCast v2
  ![3, v453.toNat]
def k0_off39 (v454 : BitVec 32) : Fin 3 → Nat :=
  let c0_i32_442 : BitVec 32 := 0#32
  let c0_i32_443 : BitVec 32 := 0#32
  ![v454.toNat, 0, 0]

def k0_dev27 (v4 : BitVec 32) : Nat :=
  let c0_i32_451 : BitVec 32 := 0#32
  let c1_i32_450 : BitVec 32 := 1#32
  let v465 : BitVec 32 := Scalar.muli v4 c1_i32_450
  let v466 : BitVec 32 := Scalar.addi c0_i32_451 v465
  v466.toNat
def k0_off40 (v456 : BitVec 32) : Fin 3 → Nat :=
  let c64_i32_462 : BitVec 32 := 64#32
  let c0_i32_463 : BitVec 32 := 0#32
  ![v456.toNat, 64, 0]

def k0_dev28 (v6 : BitVec 32) : Nat :=
  let c0_i32_471 : BitVec 32 := 0#32
  let c1_i32_470 : BitVec 32 := 1#32
  let v483 : BitVec 32 := Scalar.muli v6 c1_i32_470
  let v484 : BitVec 32 := Scalar.addi c0_i32_471 v483
  v484.toNat
def k0_off41 (v454 : BitVec 32) : Fin 3 → Nat :=
  let c0_i32_482 : BitVec 32 := 0#32
  let c1024_i32_483 : BitVec 32 := 1024#32
  ![v454.toNat, 0, 1024]
def k0_dev29 (v4 : BitVec 32) : Nat :=
  let c0_i32_491 : BitVec 32 := 0#32
  let c1_i32_490 : BitVec 32 := 1#32
  let v501 : BitVec 32 := Scalar.muli v4 c1_i32_490
  let v502 : BitVec 32 := Scalar.addi c0_i32_491 v501
  v502.toNat
def k0_off42 (v456 : BitVec 32) : Fin 3 → Nat :=
  let c64_i32_502 : BitVec 32 := 64#32
  let c1024_i32_503 : BitVec 32 := 1024#32
  ![v456.toNat, 64, 1024]
def k0_dev30 (v6 : BitVec 32) : Nat :=
  let c0_i32_511 : BitVec 32 := 0#32
  let c1_i32_510 : BitVec 32 := 1#32
  let v519 : BitVec 32 := Scalar.muli v6 c1_i32_510
  let v520 : BitVec 32 := Scalar.addi c0_i32_511 v519
  v520.toNat
def k0_off43 (v454 : BitVec 32) : Fin 3 → Nat :=
  let c0_i32_522 : BitVec 32 := 0#32
  let c2048_i32_523 : BitVec 32 := 2048#32
  ![v454.toNat, 0, 2048]
def k0_dev31 (v4 : BitVec 32) : Nat :=
  let c0_i32_531 : BitVec 32 := 0#32
  let c1_i32_530 : BitVec 32 := 1#32
  let v537 : BitVec 32 := Scalar.muli v4 c1_i32_530
  let v538 : BitVec 32 := Scalar.addi c0_i32_531 v537
  v538.toNat
def k0_off44 (v456 : BitVec 32) : Fin 3 → Nat :=
  let c64_i32_542 : BitVec 32 := 64#32
  let c2048_i32_543 : BitVec 32 := 2048#32
  ![v456.toNat, 64, 2048]
def k0_dev32 (v6 : BitVec 32) : Nat :=
  let c0_i32_551 : BitVec 32 := 0#32
  let c1_i32_550 : BitVec 32 := 1#32
  let v555 : BitVec 32 := Scalar.muli v6 c1_i32_550
  let v556 : BitVec 32 := Scalar.addi c0_i32_551 v555
  v556.toNat
def k0_off45 (v454 : BitVec 32) : Fin 3 → Nat :=
  let c0_i32_562 : BitVec 32 := 0#32
  let c3072_i32_563 : BitVec 32 := 3072#32
  ![v454.toNat, 0, 3072]
def k0_dev33 (v4 : BitVec 32) : Nat :=
  let c0_i32_571 : BitVec 32 := 0#32
  let c1_i32_570 : BitVec 32 := 1#32
  let v573 : BitVec 32 := Scalar.muli v4 c1_i32_570
  let v574 : BitVec 32 := Scalar.addi c0_i32_571 v573
  v574.toNat
def k0_off46 (v456 : BitVec 32) : Fin 3 → Nat :=
  let c64_i32_582 : BitVec 32 := 64#32
  let c3072_i32_583 : BitVec 32 := 3072#32
  ![v456.toNat, 64, 3072]
def k0_dev34 (v6 : BitVec 32) : Nat :=
  let c0_i32_591 : BitVec 32 := 0#32
  let c1_i32_590 : BitVec 32 := 1#32
  let v591 : BitVec 32 := Scalar.muli v6 c1_i32_590
  let v592 : BitVec 32 := Scalar.addi c0_i32_591 v591
  v592.toNat
def k0_off47 (v454 : BitVec 32) : Fin 3 → Nat :=
  let v601 : Index := Scalar.indexCast v454
  let c0_596 : Index := 0#32
  let c0_597 : Index := 0#32
  ![v601.toNat, 0, 0]
def k0_off48 (v454 : BitVec 32) : Fin 2 → Nat :=
  let c128_i32_599 : BitVec 32 := 128#32
  let v605 : BitVec 32 := Scalar.muli v454 c128_i32_599
  let c0_i32_600 : BitVec 32 := 0#32
  let v606 : BitVec 32 := Scalar.addi v605 c0_i32_600
  let v611 : Index := Scalar.indexCast v606
  let c0_601 : Index := 0#32
  ![v611.toNat, 0]

def k0_chk7 (v454 : BitVec 32) : Prop :=
  (∀ a, (k0_off39 v454) a + S1x64x1024.size a ≤ S32x128x4096.size a) ∧
  (∀ (hinb : ∀ a, (k0_off39 v454) a + S1x64x1024.size a ≤ S32x128x4096.size a), (Rect.unit (s := S32x128x4096) (k0_off39 v454) S1x64x1024.size hinb).WholeWords (EltTy.packing .fp8e5m2)) ∧
  (∀ a, (k0_off41 v454) a + S1x64x1024.size a ≤ S32x128x4096.size a) ∧
  (∀ (hinb : ∀ a, (k0_off41 v454) a + S1x64x1024.size a ≤ S32x128x4096.size a), (Rect.unit (s := S32x128x4096) (k0_off41 v454) S1x64x1024.size hinb).WholeWords (EltTy.packing .fp8e5m2)) ∧
  (∀ a, (k0_off43 v454) a + S1x64x1024.size a ≤ S32x128x4096.size a) ∧
  (∀ (hinb : ∀ a, (k0_off43 v454) a + S1x64x1024.size a ≤ S32x128x4096.size a), (Rect.unit (s := S32x128x4096) (k0_off43 v454) S1x64x1024.size hinb).WholeWords (EltTy.packing .fp8e5m2)) ∧
  (∀ a, (k0_off45 v454) a + S1x64x1024.size a ≤ S32x128x4096.size a) ∧
  (∀ (hinb : ∀ a, (k0_off45 v454) a + S1x64x1024.size a ≤ S32x128x4096.size a), (Rect.unit (s := S32x128x4096) (k0_off45 v454) S1x64x1024.size hinb).WholeWords (EltTy.packing .fp8e5m2)) ∧
  (∀ a, (k0_off47 v454) a + S1x64x4096.size a ≤ S32x128x4096.size a) ∧
  (∀ a, (k0_off48 v454) a + S64x64.size a ≤ S4096x64.size a)
theorem k0_off39_inb : ∀ (v454 : BitVec 32) (k0_hw7 : k0_chk7 v454), ∀ a, (k0_off39 v454) a + S1x64x1024.size a ≤ S32x128x4096.size a := fun v454 k0_hw7 => k0_hw7.1
theorem k0_off39_wordsfp8e5m2 : ∀ (v454 : BitVec 32) (k0_hw7 : k0_chk7 v454), (Rect.unit (s := S32x128x4096) (k0_off39 v454) S1x64x1024.size (k0_off39_inb v454 k0_hw7)).WholeWords (EltTy.packing .fp8e5m2) := fun v454 k0_hw7 => k0_hw7.2.1 (k0_off39_inb v454 k0_hw7)
theorem k0_off41_inb : ∀ (v454 : BitVec 32) (k0_hw7 : k0_chk7 v454), ∀ a, (k0_off41 v454) a + S1x64x1024.size a ≤ S32x128x4096.size a := fun v454 k0_hw7 => k0_hw7.2.2.1
theorem k0_off41_wordsfp8e5m2 : ∀ (v454 : BitVec 32) (k0_hw7 : k0_chk7 v454), (Rect.unit (s := S32x128x4096) (k0_off41 v454) S1x64x1024.size (k0_off41_inb v454 k0_hw7)).WholeWords (EltTy.packing .fp8e5m2) := fun v454 k0_hw7 => k0_hw7.2.2.2.1 (k0_off41_inb v454 k0_hw7)
theorem k0_off43_inb : ∀ (v454 : BitVec 32) (k0_hw7 : k0_chk7 v454), ∀ a, (k0_off43 v454) a + S1x64x1024.size a ≤ S32x128x4096.size a := fun v454 k0_hw7 => k0_hw7.2.2.2.2.1
theorem k0_off43_wordsfp8e5m2 : ∀ (v454 : BitVec 32) (k0_hw7 : k0_chk7 v454), (Rect.unit (s := S32x128x4096) (k0_off43 v454) S1x64x1024.size (k0_off43_inb v454 k0_hw7)).WholeWords (EltTy.packing .fp8e5m2) := fun v454 k0_hw7 => k0_hw7.2.2.2.2.2.1 (k0_off43_inb v454 k0_hw7)
theorem k0_off45_inb : ∀ (v454 : BitVec 32) (k0_hw7 : k0_chk7 v454), ∀ a, (k0_off45 v454) a + S1x64x1024.size a ≤ S32x128x4096.size a := fun v454 k0_hw7 => k0_hw7.2.2.2.2.2.2.1
theorem k0_off45_wordsfp8e5m2 : ∀ (v454 : BitVec 32) (k0_hw7 : k0_chk7 v454), (Rect.unit (s := S32x128x4096) (k0_off45 v454) S1x64x1024.size (k0_off45_inb v454 k0_hw7)).WholeWords (EltTy.packing .fp8e5m2) := fun v454 k0_hw7 => k0_hw7.2.2.2.2.2.2.2.1 (k0_off45_inb v454 k0_hw7)
theorem k0_off47_inb : ∀ (v454 : BitVec 32) (k0_hw7 : k0_chk7 v454), ∀ a, (k0_off47 v454) a + S1x64x4096.size a ≤ S32x128x4096.size a := fun v454 k0_hw7 => k0_hw7.2.2.2.2.2.2.2.2.1
theorem k0_off48_inb : ∀ (v454 : BitVec 32) (k0_hw7 : k0_chk7 v454), ∀ a, (k0_off48 v454) a + S64x64.size a ≤ S4096x64.size a := fun v454 k0_hw7 => k0_hw7.2.2.2.2.2.2.2.2.2

def k0_off49 (v456 : BitVec 32) : Fin 3 → Nat :=
  let v613 : Index := Scalar.indexCast v456
  let c64_602 : Index := 64#32
  let c0_603 : Index := 0#32
  ![v613.toNat, 64, 0]
def k0_off50 (v456 : BitVec 32) : Fin 2 → Nat :=
  let c128_i32_605 : BitVec 32 := 128#32
  let v617 : BitVec 32 := Scalar.muli v456 c128_i32_605
  let c64_i32_606 : BitVec 32 := 64#32
  let v618 : BitVec 32 := Scalar.addi v617 c64_i32_606
  let v623 : Index := Scalar.indexCast v618
  let c0_607 : Index := 0#32
  ![v623.toNat, 0]

def k0_chk8 (v456 : BitVec 32) : Prop :=
  (∀ a, (k0_off40 v456) a + S1x64x1024.size a ≤ S32x128x4096.size a) ∧
  (∀ (hinb : ∀ a, (k0_off40 v456) a + S1x64x1024.size a ≤ S32x128x4096.size a), (Rect.unit (s := S32x128x4096) (k0_off40 v456) S1x64x1024.size hinb).WholeWords (EltTy.packing .fp8e5m2)) ∧
  (∀ a, (k0_off42 v456) a + S1x64x1024.size a ≤ S32x128x4096.size a) ∧
  (∀ (hinb : ∀ a, (k0_off42 v456) a + S1x64x1024.size a ≤ S32x128x4096.size a), (Rect.unit (s := S32x128x4096) (k0_off42 v456) S1x64x1024.size hinb).WholeWords (EltTy.packing .fp8e5m2)) ∧
  (∀ a, (k0_off44 v456) a + S1x64x1024.size a ≤ S32x128x4096.size a) ∧
  (∀ (hinb : ∀ a, (k0_off44 v456) a + S1x64x1024.size a ≤ S32x128x4096.size a), (Rect.unit (s := S32x128x4096) (k0_off44 v456) S1x64x1024.size hinb).WholeWords (EltTy.packing .fp8e5m2)) ∧
  (∀ a, (k0_off46 v456) a + S1x64x1024.size a ≤ S32x128x4096.size a) ∧
  (∀ (hinb : ∀ a, (k0_off46 v456) a + S1x64x1024.size a ≤ S32x128x4096.size a), (Rect.unit (s := S32x128x4096) (k0_off46 v456) S1x64x1024.size hinb).WholeWords (EltTy.packing .fp8e5m2)) ∧
  (∀ a, (k0_off49 v456) a + S1x64x4096.size a ≤ S32x128x4096.size a) ∧
  (∀ a, (k0_off50 v456) a + S64x64.size a ≤ S4096x64.size a)
theorem k0_off40_inb : ∀ (v456 : BitVec 32) (k0_hw8 : k0_chk8 v456), ∀ a, (k0_off40 v456) a + S1x64x1024.size a ≤ S32x128x4096.size a := fun v456 k0_hw8 => k0_hw8.1
theorem k0_off40_wordsfp8e5m2 : ∀ (v456 : BitVec 32) (k0_hw8 : k0_chk8 v456), (Rect.unit (s := S32x128x4096) (k0_off40 v456) S1x64x1024.size (k0_off40_inb v456 k0_hw8)).WholeWords (EltTy.packing .fp8e5m2) := fun v456 k0_hw8 => k0_hw8.2.1 (k0_off40_inb v456 k0_hw8)
theorem k0_off42_inb : ∀ (v456 : BitVec 32) (k0_hw8 : k0_chk8 v456), ∀ a, (k0_off42 v456) a + S1x64x1024.size a ≤ S32x128x4096.size a := fun v456 k0_hw8 => k0_hw8.2.2.1
theorem k0_off42_wordsfp8e5m2 : ∀ (v456 : BitVec 32) (k0_hw8 : k0_chk8 v456), (Rect.unit (s := S32x128x4096) (k0_off42 v456) S1x64x1024.size (k0_off42_inb v456 k0_hw8)).WholeWords (EltTy.packing .fp8e5m2) := fun v456 k0_hw8 => k0_hw8.2.2.2.1 (k0_off42_inb v456 k0_hw8)
theorem k0_off44_inb : ∀ (v456 : BitVec 32) (k0_hw8 : k0_chk8 v456), ∀ a, (k0_off44 v456) a + S1x64x1024.size a ≤ S32x128x4096.size a := fun v456 k0_hw8 => k0_hw8.2.2.2.2.1
theorem k0_off44_wordsfp8e5m2 : ∀ (v456 : BitVec 32) (k0_hw8 : k0_chk8 v456), (Rect.unit (s := S32x128x4096) (k0_off44 v456) S1x64x1024.size (k0_off44_inb v456 k0_hw8)).WholeWords (EltTy.packing .fp8e5m2) := fun v456 k0_hw8 => k0_hw8.2.2.2.2.2.1 (k0_off44_inb v456 k0_hw8)
theorem k0_off46_inb : ∀ (v456 : BitVec 32) (k0_hw8 : k0_chk8 v456), ∀ a, (k0_off46 v456) a + S1x64x1024.size a ≤ S32x128x4096.size a := fun v456 k0_hw8 => k0_hw8.2.2.2.2.2.2.1
theorem k0_off46_wordsfp8e5m2 : ∀ (v456 : BitVec 32) (k0_hw8 : k0_chk8 v456), (Rect.unit (s := S32x128x4096) (k0_off46 v456) S1x64x1024.size (k0_off46_inb v456 k0_hw8)).WholeWords (EltTy.packing .fp8e5m2) := fun v456 k0_hw8 => k0_hw8.2.2.2.2.2.2.2.1 (k0_off46_inb v456 k0_hw8)
theorem k0_off49_inb : ∀ (v456 : BitVec 32) (k0_hw8 : k0_chk8 v456), ∀ a, (k0_off49 v456) a + S1x64x4096.size a ≤ S32x128x4096.size a := fun v456 k0_hw8 => k0_hw8.2.2.2.2.2.2.2.2.1
theorem k0_off50_inb : ∀ (v456 : BitVec 32) (k0_hw8 : k0_chk8 v456), ∀ a, (k0_off50 v456) a + S64x64.size a ≤ S4096x64.size a := fun v456 k0_hw8 => k0_hw8.2.2.2.2.2.2.2.2.2

def k0_off51 (d0 : Dev nD) : Fin 2 → Nat :=
  let c4 : Index := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v625 : Index := Scalar.indexCast v2
  ![4, v625.toNat]
def k0_off52 (v626 : BitVec 32) : Fin 3 → Nat :=
  let c0_i32_615 : BitVec 32 := 0#32
  let c0_i32_616 : BitVec 32 := 0#32
  ![v626.toNat, 0, 0]

def k0_dev35 (v4 : BitVec 32) : Nat :=
  let c0_i32_623 : BitVec 32 := 0#32
  let c1_i32_622 : BitVec 32 := 1#32
  let v637 : BitVec 32 := Scalar.muli v4 c1_i32_622
  let v638 : BitVec 32 := Scalar.addi c0_i32_623 v637
  v638.toNat
def k0_off53 (v628 : BitVec 32) : Fin 3 → Nat :=
  let c64_i32_634 : BitVec 32 := 64#32
  let c0_i32_635 : BitVec 32 := 0#32
  ![v628.toNat, 64, 0]

def k0_dev36 (v6 : BitVec 32) : Nat :=
  let c0_i32_643 : BitVec 32 := 0#32
  let c1_i32_642 : BitVec 32 := 1#32
  let v655 : BitVec 32 := Scalar.muli v6 c1_i32_642
  let v656 : BitVec 32 := Scalar.addi c0_i32_643 v655
  v656.toNat
def k0_off54 (v626 : BitVec 32) : Fin 3 → Nat :=
  let c0_i32_654 : BitVec 32 := 0#32
  let c1024_i32_655 : BitVec 32 := 1024#32
  ![v626.toNat, 0, 1024]
def k0_dev37 (v4 : BitVec 32) : Nat :=
  let c0_i32_663 : BitVec 32 := 0#32
  let c1_i32_662 : BitVec 32 := 1#32
  let v673 : BitVec 32 := Scalar.muli v4 c1_i32_662
  let v674 : BitVec 32 := Scalar.addi c0_i32_663 v673
  v674.toNat
def k0_off55 (v628 : BitVec 32) : Fin 3 → Nat :=
  let c64_i32_674 : BitVec 32 := 64#32
  let c1024_i32_675 : BitVec 32 := 1024#32
  ![v628.toNat, 64, 1024]
def k0_dev38 (v6 : BitVec 32) : Nat :=
  let c0_i32_683 : BitVec 32 := 0#32
  let c1_i32_682 : BitVec 32 := 1#32
  let v691 : BitVec 32 := Scalar.muli v6 c1_i32_682
  let v692 : BitVec 32 := Scalar.addi c0_i32_683 v691
  v692.toNat
def k0_off56 (v626 : BitVec 32) : Fin 3 → Nat :=
  let c0_i32_694 : BitVec 32 := 0#32
  let c2048_i32_695 : BitVec 32 := 2048#32
  ![v626.toNat, 0, 2048]
def k0_dev39 (v4 : BitVec 32) : Nat :=
  let c0_i32_703 : BitVec 32 := 0#32
  let c1_i32_702 : BitVec 32 := 1#32
  let v709 : BitVec 32 := Scalar.muli v4 c1_i32_702
  let v710 : BitVec 32 := Scalar.addi c0_i32_703 v709
  v710.toNat
def k0_off57 (v628 : BitVec 32) : Fin 3 → Nat :=
  let c64_i32_714 : BitVec 32 := 64#32
  let c2048_i32_715 : BitVec 32 := 2048#32
  ![v628.toNat, 64, 2048]
def k0_dev40 (v6 : BitVec 32) : Nat :=
  let c0_i32_723 : BitVec 32 := 0#32
  let c1_i32_722 : BitVec 32 := 1#32
  let v727 : BitVec 32 := Scalar.muli v6 c1_i32_722
  let v728 : BitVec 32 := Scalar.addi c0_i32_723 v727
  v728.toNat
def k0_off58 (v626 : BitVec 32) : Fin 3 → Nat :=
  let c0_i32_734 : BitVec 32 := 0#32
  let c3072_i32_735 : BitVec 32 := 3072#32
  ![v626.toNat, 0, 3072]
def k0_dev41 (v4 : BitVec 32) : Nat :=
  let c0_i32_743 : BitVec 32 := 0#32
  let c1_i32_742 : BitVec 32 := 1#32
  let v745 : BitVec 32 := Scalar.muli v4 c1_i32_742
  let v746 : BitVec 32 := Scalar.addi c0_i32_743 v745
  v746.toNat
def k0_off59 (v628 : BitVec 32) : Fin 3 → Nat :=
  let c64_i32_754 : BitVec 32 := 64#32
  let c3072_i32_755 : BitVec 32 := 3072#32
  ![v628.toNat, 64, 3072]
def k0_dev42 (v6 : BitVec 32) : Nat :=
  let c0_i32_763 : BitVec 32 := 0#32
  let c1_i32_762 : BitVec 32 := 1#32
  let v763 : BitVec 32 := Scalar.muli v6 c1_i32_762
  let v764 : BitVec 32 := Scalar.addi c0_i32_763 v763
  v764.toNat
def k0_off60 (v626 : BitVec 32) : Fin 3 → Nat :=
  let v773 : Index := Scalar.indexCast v626
  let c0_768 : Index := 0#32
  let c0_769 : Index := 0#32
  ![v773.toNat, 0, 0]
def k0_off61 (v626 : BitVec 32) : Fin 2 → Nat :=
  let c128_i32_771 : BitVec 32 := 128#32
  let v777 : BitVec 32 := Scalar.muli v626 c128_i32_771
  let c0_i32_772 : BitVec 32 := 0#32
  let v778 : BitVec 32 := Scalar.addi v777 c0_i32_772
  let v783 : Index := Scalar.indexCast v778
  let c0_773 : Index := 0#32
  ![v783.toNat, 0]

def k0_chk9 (v626 : BitVec 32) : Prop :=
  (∀ a, (k0_off52 v626) a + S1x64x1024.size a ≤ S32x128x4096.size a) ∧
  (∀ (hinb : ∀ a, (k0_off52 v626) a + S1x64x1024.size a ≤ S32x128x4096.size a), (Rect.unit (s := S32x128x4096) (k0_off52 v626) S1x64x1024.size hinb).WholeWords (EltTy.packing .fp8e5m2)) ∧
  (∀ a, (k0_off54 v626) a + S1x64x1024.size a ≤ S32x128x4096.size a) ∧
  (∀ (hinb : ∀ a, (k0_off54 v626) a + S1x64x1024.size a ≤ S32x128x4096.size a), (Rect.unit (s := S32x128x4096) (k0_off54 v626) S1x64x1024.size hinb).WholeWords (EltTy.packing .fp8e5m2)) ∧
  (∀ a, (k0_off56 v626) a + S1x64x1024.size a ≤ S32x128x4096.size a) ∧
  (∀ (hinb : ∀ a, (k0_off56 v626) a + S1x64x1024.size a ≤ S32x128x4096.size a), (Rect.unit (s := S32x128x4096) (k0_off56 v626) S1x64x1024.size hinb).WholeWords (EltTy.packing .fp8e5m2)) ∧
  (∀ a, (k0_off58 v626) a + S1x64x1024.size a ≤ S32x128x4096.size a) ∧
  (∀ (hinb : ∀ a, (k0_off58 v626) a + S1x64x1024.size a ≤ S32x128x4096.size a), (Rect.unit (s := S32x128x4096) (k0_off58 v626) S1x64x1024.size hinb).WholeWords (EltTy.packing .fp8e5m2)) ∧
  (∀ a, (k0_off60 v626) a + S1x64x4096.size a ≤ S32x128x4096.size a) ∧
  (∀ a, (k0_off61 v626) a + S64x64.size a ≤ S4096x64.size a)
theorem k0_off52_inb : ∀ (v626 : BitVec 32) (k0_hw9 : k0_chk9 v626), ∀ a, (k0_off52 v626) a + S1x64x1024.size a ≤ S32x128x4096.size a := fun v626 k0_hw9 => k0_hw9.1
theorem k0_off52_wordsfp8e5m2 : ∀ (v626 : BitVec 32) (k0_hw9 : k0_chk9 v626), (Rect.unit (s := S32x128x4096) (k0_off52 v626) S1x64x1024.size (k0_off52_inb v626 k0_hw9)).WholeWords (EltTy.packing .fp8e5m2) := fun v626 k0_hw9 => k0_hw9.2.1 (k0_off52_inb v626 k0_hw9)
theorem k0_off54_inb : ∀ (v626 : BitVec 32) (k0_hw9 : k0_chk9 v626), ∀ a, (k0_off54 v626) a + S1x64x1024.size a ≤ S32x128x4096.size a := fun v626 k0_hw9 => k0_hw9.2.2.1
theorem k0_off54_wordsfp8e5m2 : ∀ (v626 : BitVec 32) (k0_hw9 : k0_chk9 v626), (Rect.unit (s := S32x128x4096) (k0_off54 v626) S1x64x1024.size (k0_off54_inb v626 k0_hw9)).WholeWords (EltTy.packing .fp8e5m2) := fun v626 k0_hw9 => k0_hw9.2.2.2.1 (k0_off54_inb v626 k0_hw9)
theorem k0_off56_inb : ∀ (v626 : BitVec 32) (k0_hw9 : k0_chk9 v626), ∀ a, (k0_off56 v626) a + S1x64x1024.size a ≤ S32x128x4096.size a := fun v626 k0_hw9 => k0_hw9.2.2.2.2.1
theorem k0_off56_wordsfp8e5m2 : ∀ (v626 : BitVec 32) (k0_hw9 : k0_chk9 v626), (Rect.unit (s := S32x128x4096) (k0_off56 v626) S1x64x1024.size (k0_off56_inb v626 k0_hw9)).WholeWords (EltTy.packing .fp8e5m2) := fun v626 k0_hw9 => k0_hw9.2.2.2.2.2.1 (k0_off56_inb v626 k0_hw9)
theorem k0_off58_inb : ∀ (v626 : BitVec 32) (k0_hw9 : k0_chk9 v626), ∀ a, (k0_off58 v626) a + S1x64x1024.size a ≤ S32x128x4096.size a := fun v626 k0_hw9 => k0_hw9.2.2.2.2.2.2.1
theorem k0_off58_wordsfp8e5m2 : ∀ (v626 : BitVec 32) (k0_hw9 : k0_chk9 v626), (Rect.unit (s := S32x128x4096) (k0_off58 v626) S1x64x1024.size (k0_off58_inb v626 k0_hw9)).WholeWords (EltTy.packing .fp8e5m2) := fun v626 k0_hw9 => k0_hw9.2.2.2.2.2.2.2.1 (k0_off58_inb v626 k0_hw9)
theorem k0_off60_inb : ∀ (v626 : BitVec 32) (k0_hw9 : k0_chk9 v626), ∀ a, (k0_off60 v626) a + S1x64x4096.size a ≤ S32x128x4096.size a := fun v626 k0_hw9 => k0_hw9.2.2.2.2.2.2.2.2.1
theorem k0_off61_inb : ∀ (v626 : BitVec 32) (k0_hw9 : k0_chk9 v626), ∀ a, (k0_off61 v626) a + S64x64.size a ≤ S4096x64.size a := fun v626 k0_hw9 => k0_hw9.2.2.2.2.2.2.2.2.2

def k0_off62 (v628 : BitVec 32) : Fin 3 → Nat :=
  let v785 : Index := Scalar.indexCast v628
  let c64_774 : Index := 64#32
  let c0_775 : Index := 0#32
  ![v785.toNat, 64, 0]
def k0_off63 (v628 : BitVec 32) : Fin 2 → Nat :=
  let c128_i32_777 : BitVec 32 := 128#32
  let v789 : BitVec 32 := Scalar.muli v628 c128_i32_777
  let c64_i32_778 : BitVec 32 := 64#32
  let v790 : BitVec 32 := Scalar.addi v789 c64_i32_778
  let v795 : Index := Scalar.indexCast v790
  let c0_779 : Index := 0#32
  ![v795.toNat, 0]

def k0_chk10 (v628 : BitVec 32) : Prop :=
  (∀ a, (k0_off53 v628) a + S1x64x1024.size a ≤ S32x128x4096.size a) ∧
  (∀ (hinb : ∀ a, (k0_off53 v628) a + S1x64x1024.size a ≤ S32x128x4096.size a), (Rect.unit (s := S32x128x4096) (k0_off53 v628) S1x64x1024.size hinb).WholeWords (EltTy.packing .fp8e5m2)) ∧
  (∀ a, (k0_off55 v628) a + S1x64x1024.size a ≤ S32x128x4096.size a) ∧
  (∀ (hinb : ∀ a, (k0_off55 v628) a + S1x64x1024.size a ≤ S32x128x4096.size a), (Rect.unit (s := S32x128x4096) (k0_off55 v628) S1x64x1024.size hinb).WholeWords (EltTy.packing .fp8e5m2)) ∧
  (∀ a, (k0_off57 v628) a + S1x64x1024.size a ≤ S32x128x4096.size a) ∧
  (∀ (hinb : ∀ a, (k0_off57 v628) a + S1x64x1024.size a ≤ S32x128x4096.size a), (Rect.unit (s := S32x128x4096) (k0_off57 v628) S1x64x1024.size hinb).WholeWords (EltTy.packing .fp8e5m2)) ∧
  (∀ a, (k0_off59 v628) a + S1x64x1024.size a ≤ S32x128x4096.size a) ∧
  (∀ (hinb : ∀ a, (k0_off59 v628) a + S1x64x1024.size a ≤ S32x128x4096.size a), (Rect.unit (s := S32x128x4096) (k0_off59 v628) S1x64x1024.size hinb).WholeWords (EltTy.packing .fp8e5m2)) ∧
  (∀ a, (k0_off62 v628) a + S1x64x4096.size a ≤ S32x128x4096.size a) ∧
  (∀ a, (k0_off63 v628) a + S64x64.size a ≤ S4096x64.size a)
theorem k0_off53_inb : ∀ (v628 : BitVec 32) (k0_hw10 : k0_chk10 v628), ∀ a, (k0_off53 v628) a + S1x64x1024.size a ≤ S32x128x4096.size a := fun v628 k0_hw10 => k0_hw10.1
theorem k0_off53_wordsfp8e5m2 : ∀ (v628 : BitVec 32) (k0_hw10 : k0_chk10 v628), (Rect.unit (s := S32x128x4096) (k0_off53 v628) S1x64x1024.size (k0_off53_inb v628 k0_hw10)).WholeWords (EltTy.packing .fp8e5m2) := fun v628 k0_hw10 => k0_hw10.2.1 (k0_off53_inb v628 k0_hw10)
theorem k0_off55_inb : ∀ (v628 : BitVec 32) (k0_hw10 : k0_chk10 v628), ∀ a, (k0_off55 v628) a + S1x64x1024.size a ≤ S32x128x4096.size a := fun v628 k0_hw10 => k0_hw10.2.2.1
theorem k0_off55_wordsfp8e5m2 : ∀ (v628 : BitVec 32) (k0_hw10 : k0_chk10 v628), (Rect.unit (s := S32x128x4096) (k0_off55 v628) S1x64x1024.size (k0_off55_inb v628 k0_hw10)).WholeWords (EltTy.packing .fp8e5m2) := fun v628 k0_hw10 => k0_hw10.2.2.2.1 (k0_off55_inb v628 k0_hw10)
theorem k0_off57_inb : ∀ (v628 : BitVec 32) (k0_hw10 : k0_chk10 v628), ∀ a, (k0_off57 v628) a + S1x64x1024.size a ≤ S32x128x4096.size a := fun v628 k0_hw10 => k0_hw10.2.2.2.2.1
theorem k0_off57_wordsfp8e5m2 : ∀ (v628 : BitVec 32) (k0_hw10 : k0_chk10 v628), (Rect.unit (s := S32x128x4096) (k0_off57 v628) S1x64x1024.size (k0_off57_inb v628 k0_hw10)).WholeWords (EltTy.packing .fp8e5m2) := fun v628 k0_hw10 => k0_hw10.2.2.2.2.2.1 (k0_off57_inb v628 k0_hw10)
theorem k0_off59_inb : ∀ (v628 : BitVec 32) (k0_hw10 : k0_chk10 v628), ∀ a, (k0_off59 v628) a + S1x64x1024.size a ≤ S32x128x4096.size a := fun v628 k0_hw10 => k0_hw10.2.2.2.2.2.2.1
theorem k0_off59_wordsfp8e5m2 : ∀ (v628 : BitVec 32) (k0_hw10 : k0_chk10 v628), (Rect.unit (s := S32x128x4096) (k0_off59 v628) S1x64x1024.size (k0_off59_inb v628 k0_hw10)).WholeWords (EltTy.packing .fp8e5m2) := fun v628 k0_hw10 => k0_hw10.2.2.2.2.2.2.2.1 (k0_off59_inb v628 k0_hw10)
theorem k0_off62_inb : ∀ (v628 : BitVec 32) (k0_hw10 : k0_chk10 v628), ∀ a, (k0_off62 v628) a + S1x64x4096.size a ≤ S32x128x4096.size a := fun v628 k0_hw10 => k0_hw10.2.2.2.2.2.2.2.2.1
theorem k0_off63_inb : ∀ (v628 : BitVec 32) (k0_hw10 : k0_chk10 v628), ∀ a, (k0_off63 v628) a + S64x64.size a ≤ S4096x64.size a := fun v628 k0_hw10 => k0_hw10.2.2.2.2.2.2.2.2.2

def k0_off64 (d0 : Dev nD) : Fin 2 → Nat :=
  let c5 : Index := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v797 : Index := Scalar.indexCast v2
  ![5, v797.toNat]
def k0_off65 (v798 : BitVec 32) : Fin 3 → Nat :=
  let c0_i32_787 : BitVec 32 := 0#32
  let c0_i32_788 : BitVec 32 := 0#32
  ![v798.toNat, 0, 0]

def k0_dev43 (v4 : BitVec 32) : Nat :=
  let c0_i32_795 : BitVec 32 := 0#32
  let c1_i32_794 : BitVec 32 := 1#32
  let v809 : BitVec 32 := Scalar.muli v4 c1_i32_794
  let v810 : BitVec 32 := Scalar.addi c0_i32_795 v809
  v810.toNat
def k0_off66 (v800 : BitVec 32) : Fin 3 → Nat :=
  let c64_i32_806 : BitVec 32 := 64#32
  let c0_i32_807 : BitVec 32 := 0#32
  ![v800.toNat, 64, 0]

def k0_dev44 (v6 : BitVec 32) : Nat :=
  let c0_i32_815 : BitVec 32 := 0#32
  let c1_i32_814 : BitVec 32 := 1#32
  let v827 : BitVec 32 := Scalar.muli v6 c1_i32_814
  let v828 : BitVec 32 := Scalar.addi c0_i32_815 v827
  v828.toNat
def k0_off67 (v798 : BitVec 32) : Fin 3 → Nat :=
  let c0_i32_826 : BitVec 32 := 0#32
  let c1024_i32_827 : BitVec 32 := 1024#32
  ![v798.toNat, 0, 1024]
def k0_dev45 (v4 : BitVec 32) : Nat :=
  let c0_i32_835 : BitVec 32 := 0#32
  let c1_i32_834 : BitVec 32 := 1#32
  let v845 : BitVec 32 := Scalar.muli v4 c1_i32_834
  let v846 : BitVec 32 := Scalar.addi c0_i32_835 v845
  v846.toNat
def k0_off68 (v800 : BitVec 32) : Fin 3 → Nat :=
  let c64_i32_846 : BitVec 32 := 64#32
  let c1024_i32_847 : BitVec 32 := 1024#32
  ![v800.toNat, 64, 1024]
def k0_dev46 (v6 : BitVec 32) : Nat :=
  let c0_i32_855 : BitVec 32 := 0#32
  let c1_i32_854 : BitVec 32 := 1#32
  let v863 : BitVec 32 := Scalar.muli v6 c1_i32_854
  let v864 : BitVec 32 := Scalar.addi c0_i32_855 v863
  v864.toNat
def k0_off69 (v798 : BitVec 32) : Fin 3 → Nat :=
  let c0_i32_866 : BitVec 32 := 0#32
  let c2048_i32_867 : BitVec 32 := 2048#32
  ![v798.toNat, 0, 2048]
def k0_dev47 (v4 : BitVec 32) : Nat :=
  let c0_i32_875 : BitVec 32 := 0#32
  let c1_i32_874 : BitVec 32 := 1#32
  let v881 : BitVec 32 := Scalar.muli v4 c1_i32_874
  let v882 : BitVec 32 := Scalar.addi c0_i32_875 v881
  v882.toNat
def k0_off70 (v800 : BitVec 32) : Fin 3 → Nat :=
  let c64_i32_886 : BitVec 32 := 64#32
  let c2048_i32_887 : BitVec 32 := 2048#32
  ![v800.toNat, 64, 2048]
def k0_dev48 (v6 : BitVec 32) : Nat :=
  let c0_i32_895 : BitVec 32 := 0#32
  let c1_i32_894 : BitVec 32 := 1#32
  let v899 : BitVec 32 := Scalar.muli v6 c1_i32_894
  let v900 : BitVec 32 := Scalar.addi c0_i32_895 v899
  v900.toNat
def k0_off71 (v798 : BitVec 32) : Fin 3 → Nat :=
  let c0_i32_906 : BitVec 32 := 0#32
  let c3072_i32_907 : BitVec 32 := 3072#32
  ![v798.toNat, 0, 3072]
def k0_dev49 (v4 : BitVec 32) : Nat :=
  let c0_i32_915 : BitVec 32 := 0#32
  let c1_i32_914 : BitVec 32 := 1#32
  let v917 : BitVec 32 := Scalar.muli v4 c1_i32_914
  let v918 : BitVec 32 := Scalar.addi c0_i32_915 v917
  v918.toNat
def k0_off72 (v800 : BitVec 32) : Fin 3 → Nat :=
  let c64_i32_926 : BitVec 32 := 64#32
  let c3072_i32_927 : BitVec 32 := 3072#32
  ![v800.toNat, 64, 3072]
def k0_dev50 (v6 : BitVec 32) : Nat :=
  let c0_i32_935 : BitVec 32 := 0#32
  let c1_i32_934 : BitVec 32 := 1#32
  let v935 : BitVec 32 := Scalar.muli v6 c1_i32_934
  let v936 : BitVec 32 := Scalar.addi c0_i32_935 v935
  v936.toNat
def k0_off73 (v798 : BitVec 32) : Fin 3 → Nat :=
  let v945 : Index := Scalar.indexCast v798
  let c0_940 : Index := 0#32
  let c0_941 : Index := 0#32
  ![v945.toNat, 0, 0]
def k0_off74 (v798 : BitVec 32) : Fin 2 → Nat :=
  let c128_i32_943 : BitVec 32 := 128#32
  let v949 : BitVec 32 := Scalar.muli v798 c128_i32_943
  let c0_i32_944 : BitVec 32 := 0#32
  let v950 : BitVec 32 := Scalar.addi v949 c0_i32_944
  let v955 : Index := Scalar.indexCast v950
  let c0_945 : Index := 0#32
  ![v955.toNat, 0]

def k0_chk11 (v798 : BitVec 32) : Prop :=
  (∀ a, (k0_off65 v798) a + S1x64x1024.size a ≤ S32x128x4096.size a) ∧
  (∀ (hinb : ∀ a, (k0_off65 v798) a + S1x64x1024.size a ≤ S32x128x4096.size a), (Rect.unit (s := S32x128x4096) (k0_off65 v798) S1x64x1024.size hinb).WholeWords (EltTy.packing .fp8e5m2)) ∧
  (∀ a, (k0_off67 v798) a + S1x64x1024.size a ≤ S32x128x4096.size a) ∧
  (∀ (hinb : ∀ a, (k0_off67 v798) a + S1x64x1024.size a ≤ S32x128x4096.size a), (Rect.unit (s := S32x128x4096) (k0_off67 v798) S1x64x1024.size hinb).WholeWords (EltTy.packing .fp8e5m2)) ∧
  (∀ a, (k0_off69 v798) a + S1x64x1024.size a ≤ S32x128x4096.size a) ∧
  (∀ (hinb : ∀ a, (k0_off69 v798) a + S1x64x1024.size a ≤ S32x128x4096.size a), (Rect.unit (s := S32x128x4096) (k0_off69 v798) S1x64x1024.size hinb).WholeWords (EltTy.packing .fp8e5m2)) ∧
  (∀ a, (k0_off71 v798) a + S1x64x1024.size a ≤ S32x128x4096.size a) ∧
  (∀ (hinb : ∀ a, (k0_off71 v798) a + S1x64x1024.size a ≤ S32x128x4096.size a), (Rect.unit (s := S32x128x4096) (k0_off71 v798) S1x64x1024.size hinb).WholeWords (EltTy.packing .fp8e5m2)) ∧
  (∀ a, (k0_off73 v798) a + S1x64x4096.size a ≤ S32x128x4096.size a) ∧
  (∀ a, (k0_off74 v798) a + S64x64.size a ≤ S4096x64.size a)
theorem k0_off65_inb : ∀ (v798 : BitVec 32) (k0_hw11 : k0_chk11 v798), ∀ a, (k0_off65 v798) a + S1x64x1024.size a ≤ S32x128x4096.size a := fun v798 k0_hw11 => k0_hw11.1
theorem k0_off65_wordsfp8e5m2 : ∀ (v798 : BitVec 32) (k0_hw11 : k0_chk11 v798), (Rect.unit (s := S32x128x4096) (k0_off65 v798) S1x64x1024.size (k0_off65_inb v798 k0_hw11)).WholeWords (EltTy.packing .fp8e5m2) := fun v798 k0_hw11 => k0_hw11.2.1 (k0_off65_inb v798 k0_hw11)
theorem k0_off67_inb : ∀ (v798 : BitVec 32) (k0_hw11 : k0_chk11 v798), ∀ a, (k0_off67 v798) a + S1x64x1024.size a ≤ S32x128x4096.size a := fun v798 k0_hw11 => k0_hw11.2.2.1
theorem k0_off67_wordsfp8e5m2 : ∀ (v798 : BitVec 32) (k0_hw11 : k0_chk11 v798), (Rect.unit (s := S32x128x4096) (k0_off67 v798) S1x64x1024.size (k0_off67_inb v798 k0_hw11)).WholeWords (EltTy.packing .fp8e5m2) := fun v798 k0_hw11 => k0_hw11.2.2.2.1 (k0_off67_inb v798 k0_hw11)
theorem k0_off69_inb : ∀ (v798 : BitVec 32) (k0_hw11 : k0_chk11 v798), ∀ a, (k0_off69 v798) a + S1x64x1024.size a ≤ S32x128x4096.size a := fun v798 k0_hw11 => k0_hw11.2.2.2.2.1
theorem k0_off69_wordsfp8e5m2 : ∀ (v798 : BitVec 32) (k0_hw11 : k0_chk11 v798), (Rect.unit (s := S32x128x4096) (k0_off69 v798) S1x64x1024.size (k0_off69_inb v798 k0_hw11)).WholeWords (EltTy.packing .fp8e5m2) := fun v798 k0_hw11 => k0_hw11.2.2.2.2.2.1 (k0_off69_inb v798 k0_hw11)
theorem k0_off71_inb : ∀ (v798 : BitVec 32) (k0_hw11 : k0_chk11 v798), ∀ a, (k0_off71 v798) a + S1x64x1024.size a ≤ S32x128x4096.size a := fun v798 k0_hw11 => k0_hw11.2.2.2.2.2.2.1
theorem k0_off71_wordsfp8e5m2 : ∀ (v798 : BitVec 32) (k0_hw11 : k0_chk11 v798), (Rect.unit (s := S32x128x4096) (k0_off71 v798) S1x64x1024.size (k0_off71_inb v798 k0_hw11)).WholeWords (EltTy.packing .fp8e5m2) := fun v798 k0_hw11 => k0_hw11.2.2.2.2.2.2.2.1 (k0_off71_inb v798 k0_hw11)
theorem k0_off73_inb : ∀ (v798 : BitVec 32) (k0_hw11 : k0_chk11 v798), ∀ a, (k0_off73 v798) a + S1x64x4096.size a ≤ S32x128x4096.size a := fun v798 k0_hw11 => k0_hw11.2.2.2.2.2.2.2.2.1
theorem k0_off74_inb : ∀ (v798 : BitVec 32) (k0_hw11 : k0_chk11 v798), ∀ a, (k0_off74 v798) a + S64x64.size a ≤ S4096x64.size a := fun v798 k0_hw11 => k0_hw11.2.2.2.2.2.2.2.2.2

def k0_off75 (v800 : BitVec 32) : Fin 3 → Nat :=
  let v957 : Index := Scalar.indexCast v800
  let c64_946 : Index := 64#32
  let c0_947 : Index := 0#32
  ![v957.toNat, 64, 0]
def k0_off76 (v800 : BitVec 32) : Fin 2 → Nat :=
  let c128_i32_949 : BitVec 32 := 128#32
  let v961 : BitVec 32 := Scalar.muli v800 c128_i32_949
  let c64_i32_950 : BitVec 32 := 64#32
  let v962 : BitVec 32 := Scalar.addi v961 c64_i32_950
  let v967 : Index := Scalar.indexCast v962
  let c0_951 : Index := 0#32
  ![v967.toNat, 0]

def k0_chk12 (v800 : BitVec 32) : Prop :=
  (∀ a, (k0_off66 v800) a + S1x64x1024.size a ≤ S32x128x4096.size a) ∧
  (∀ (hinb : ∀ a, (k0_off66 v800) a + S1x64x1024.size a ≤ S32x128x4096.size a), (Rect.unit (s := S32x128x4096) (k0_off66 v800) S1x64x1024.size hinb).WholeWords (EltTy.packing .fp8e5m2)) ∧
  (∀ a, (k0_off68 v800) a + S1x64x1024.size a ≤ S32x128x4096.size a) ∧
  (∀ (hinb : ∀ a, (k0_off68 v800) a + S1x64x1024.size a ≤ S32x128x4096.size a), (Rect.unit (s := S32x128x4096) (k0_off68 v800) S1x64x1024.size hinb).WholeWords (EltTy.packing .fp8e5m2)) ∧
  (∀ a, (k0_off70 v800) a + S1x64x1024.size a ≤ S32x128x4096.size a) ∧
  (∀ (hinb : ∀ a, (k0_off70 v800) a + S1x64x1024.size a ≤ S32x128x4096.size a), (Rect.unit (s := S32x128x4096) (k0_off70 v800) S1x64x1024.size hinb).WholeWords (EltTy.packing .fp8e5m2)) ∧
  (∀ a, (k0_off72 v800) a + S1x64x1024.size a ≤ S32x128x4096.size a) ∧
  (∀ (hinb : ∀ a, (k0_off72 v800) a + S1x64x1024.size a ≤ S32x128x4096.size a), (Rect.unit (s := S32x128x4096) (k0_off72 v800) S1x64x1024.size hinb).WholeWords (EltTy.packing .fp8e5m2)) ∧
  (∀ a, (k0_off75 v800) a + S1x64x4096.size a ≤ S32x128x4096.size a) ∧
  (∀ a, (k0_off76 v800) a + S64x64.size a ≤ S4096x64.size a)
theorem k0_off66_inb : ∀ (v800 : BitVec 32) (k0_hw12 : k0_chk12 v800), ∀ a, (k0_off66 v800) a + S1x64x1024.size a ≤ S32x128x4096.size a := fun v800 k0_hw12 => k0_hw12.1
theorem k0_off66_wordsfp8e5m2 : ∀ (v800 : BitVec 32) (k0_hw12 : k0_chk12 v800), (Rect.unit (s := S32x128x4096) (k0_off66 v800) S1x64x1024.size (k0_off66_inb v800 k0_hw12)).WholeWords (EltTy.packing .fp8e5m2) := fun v800 k0_hw12 => k0_hw12.2.1 (k0_off66_inb v800 k0_hw12)
theorem k0_off68_inb : ∀ (v800 : BitVec 32) (k0_hw12 : k0_chk12 v800), ∀ a, (k0_off68 v800) a + S1x64x1024.size a ≤ S32x128x4096.size a := fun v800 k0_hw12 => k0_hw12.2.2.1
theorem k0_off68_wordsfp8e5m2 : ∀ (v800 : BitVec 32) (k0_hw12 : k0_chk12 v800), (Rect.unit (s := S32x128x4096) (k0_off68 v800) S1x64x1024.size (k0_off68_inb v800 k0_hw12)).WholeWords (EltTy.packing .fp8e5m2) := fun v800 k0_hw12 => k0_hw12.2.2.2.1 (k0_off68_inb v800 k0_hw12)
theorem k0_off70_inb : ∀ (v800 : BitVec 32) (k0_hw12 : k0_chk12 v800), ∀ a, (k0_off70 v800) a + S1x64x1024.size a ≤ S32x128x4096.size a := fun v800 k0_hw12 => k0_hw12.2.2.2.2.1
theorem k0_off70_wordsfp8e5m2 : ∀ (v800 : BitVec 32) (k0_hw12 : k0_chk12 v800), (Rect.unit (s := S32x128x4096) (k0_off70 v800) S1x64x1024.size (k0_off70_inb v800 k0_hw12)).WholeWords (EltTy.packing .fp8e5m2) := fun v800 k0_hw12 => k0_hw12.2.2.2.2.2.1 (k0_off70_inb v800 k0_hw12)
theorem k0_off72_inb : ∀ (v800 : BitVec 32) (k0_hw12 : k0_chk12 v800), ∀ a, (k0_off72 v800) a + S1x64x1024.size a ≤ S32x128x4096.size a := fun v800 k0_hw12 => k0_hw12.2.2.2.2.2.2.1
theorem k0_off72_wordsfp8e5m2 : ∀ (v800 : BitVec 32) (k0_hw12 : k0_chk12 v800), (Rect.unit (s := S32x128x4096) (k0_off72 v800) S1x64x1024.size (k0_off72_inb v800 k0_hw12)).WholeWords (EltTy.packing .fp8e5m2) := fun v800 k0_hw12 => k0_hw12.2.2.2.2.2.2.2.1 (k0_off72_inb v800 k0_hw12)
theorem k0_off75_inb : ∀ (v800 : BitVec 32) (k0_hw12 : k0_chk12 v800), ∀ a, (k0_off75 v800) a + S1x64x4096.size a ≤ S32x128x4096.size a := fun v800 k0_hw12 => k0_hw12.2.2.2.2.2.2.2.2.1
theorem k0_off76_inb : ∀ (v800 : BitVec 32) (k0_hw12 : k0_chk12 v800), ∀ a, (k0_off76 v800) a + S64x64.size a ≤ S4096x64.size a := fun v800 k0_hw12 => k0_hw12.2.2.2.2.2.2.2.2.2

def k0_off77 (d0 : Dev nD) : Fin 2 → Nat :=
  let c6 : Index := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v969 : Index := Scalar.indexCast v2
  ![6, v969.toNat]
def k0_off78 (v970 : BitVec 32) : Fin 3 → Nat :=
  let c0_i32_959 : BitVec 32 := 0#32
  let c0_i32_960 : BitVec 32 := 0#32
  ![v970.toNat, 0, 0]

def k0_dev51 (v4 : BitVec 32) : Nat :=
  let c0_i32_967 : BitVec 32 := 0#32
  let c1_i32_966 : BitVec 32 := 1#32
  let v981 : BitVec 32 := Scalar.muli v4 c1_i32_966
  let v982 : BitVec 32 := Scalar.addi c0_i32_967 v981
  v982.toNat
def k0_off79 (v972 : BitVec 32) : Fin 3 → Nat :=
  let c64_i32_978 : BitVec 32 := 64#32
  let c0_i32_979 : BitVec 32 := 0#32
  ![v972.toNat, 64, 0]

def k0_dev52 (v6 : BitVec 32) : Nat :=
  let c0_i32_987 : BitVec 32 := 0#32
  let c1_i32_986 : BitVec 32 := 1#32
  let v999 : BitVec 32 := Scalar.muli v6 c1_i32_986
  let v1000 : BitVec 32 := Scalar.addi c0_i32_987 v999
  v1000.toNat
def k0_off80 (v970 : BitVec 32) : Fin 3 → Nat :=
  let c0_i32_998 : BitVec 32 := 0#32
  let c1024_i32_999 : BitVec 32 := 1024#32
  ![v970.toNat, 0, 1024]
def k0_dev53 (v4 : BitVec 32) : Nat :=
  let c0_i32_1007 : BitVec 32 := 0#32
  let c1_i32_1006 : BitVec 32 := 1#32
  let v1017 : BitVec 32 := Scalar.muli v4 c1_i32_1006
  let v1018 : BitVec 32 := Scalar.addi c0_i32_1007 v1017
  v1018.toNat
def k0_off81 (v972 : BitVec 32) : Fin 3 → Nat :=
  let c64_i32_1018 : BitVec 32 := 64#32
  let c1024_i32_1019 : BitVec 32 := 1024#32
  ![v972.toNat, 64, 1024]
def k0_dev54 (v6 : BitVec 32) : Nat :=
  let c0_i32_1027 : BitVec 32 := 0#32
  let c1_i32_1026 : BitVec 32 := 1#32
  let v1035 : BitVec 32 := Scalar.muli v6 c1_i32_1026
  let v1036 : BitVec 32 := Scalar.addi c0_i32_1027 v1035
  v1036.toNat
def k0_off82 (v970 : BitVec 32) : Fin 3 → Nat :=
  let c0_i32_1038 : BitVec 32 := 0#32
  let c2048_i32_1039 : BitVec 32 := 2048#32
  ![v970.toNat, 0, 2048]
def k0_dev55 (v4 : BitVec 32) : Nat :=
  let c0_i32_1047 : BitVec 32 := 0#32
  let c1_i32_1046 : BitVec 32 := 1#32
  let v1053 : BitVec 32 := Scalar.muli v4 c1_i32_1046
  let v1054 : BitVec 32 := Scalar.addi c0_i32_1047 v1053
  v1054.toNat
def k0_off83 (v972 : BitVec 32) : Fin 3 → Nat :=
  let c64_i32_1058 : BitVec 32 := 64#32
  let c2048_i32_1059 : BitVec 32 := 2048#32
  ![v972.toNat, 64, 2048]
def k0_dev56 (v6 : BitVec 32) : Nat :=
  let c0_i32_1067 : BitVec 32 := 0#32
  let c1_i32_1066 : BitVec 32 := 1#32
  let v1071 : BitVec 32 := Scalar.muli v6 c1_i32_1066
  let v1072 : BitVec 32 := Scalar.addi c0_i32_1067 v1071
  v1072.toNat
def k0_off84 (v970 : BitVec 32) : Fin 3 → Nat :=
  let c0_i32_1078 : BitVec 32 := 0#32
  let c3072_i32_1079 : BitVec 32 := 3072#32
  ![v970.toNat, 0, 3072]
def k0_dev57 (v4 : BitVec 32) : Nat :=
  let c0_i32_1087 : BitVec 32 := 0#32
  let c1_i32_1086 : BitVec 32 := 1#32
  let v1089 : BitVec 32 := Scalar.muli v4 c1_i32_1086
  let v1090 : BitVec 32 := Scalar.addi c0_i32_1087 v1089
  v1090.toNat
def k0_off85 (v972 : BitVec 32) : Fin 3 → Nat :=
  let c64_i32_1098 : BitVec 32 := 64#32
  let c3072_i32_1099 : BitVec 32 := 3072#32
  ![v972.toNat, 64, 3072]
def k0_dev58 (v6 : BitVec 32) : Nat :=
  let c0_i32_1107 : BitVec 32 := 0#32
  let c1_i32_1106 : BitVec 32 := 1#32
  let v1107 : BitVec 32 := Scalar.muli v6 c1_i32_1106
  let v1108 : BitVec 32 := Scalar.addi c0_i32_1107 v1107
  v1108.toNat
def k0_off86 (v970 : BitVec 32) : Fin 3 → Nat :=
  let v1117 : Index := Scalar.indexCast v970
  let c0_1112 : Index := 0#32
  let c0_1113 : Index := 0#32
  ![v1117.toNat, 0, 0]
def k0_off87 (v970 : BitVec 32) : Fin 2 → Nat :=
  let c128_i32_1115 : BitVec 32 := 128#32
  let v1121 : BitVec 32 := Scalar.muli v970 c128_i32_1115
  let c0_i32_1116 : BitVec 32 := 0#32
  let v1122 : BitVec 32 := Scalar.addi v1121 c0_i32_1116
  let v1127 : Index := Scalar.indexCast v1122
  let c0_1117 : Index := 0#32
  ![v1127.toNat, 0]

def k0_chk13 (v970 : BitVec 32) : Prop :=
  (∀ a, (k0_off78 v970) a + S1x64x1024.size a ≤ S32x128x4096.size a) ∧
  (∀ (hinb : ∀ a, (k0_off78 v970) a + S1x64x1024.size a ≤ S32x128x4096.size a), (Rect.unit (s := S32x128x4096) (k0_off78 v970) S1x64x1024.size hinb).WholeWords (EltTy.packing .fp8e5m2)) ∧
  (∀ a, (k0_off80 v970) a + S1x64x1024.size a ≤ S32x128x4096.size a) ∧
  (∀ (hinb : ∀ a, (k0_off80 v970) a + S1x64x1024.size a ≤ S32x128x4096.size a), (Rect.unit (s := S32x128x4096) (k0_off80 v970) S1x64x1024.size hinb).WholeWords (EltTy.packing .fp8e5m2)) ∧
  (∀ a, (k0_off82 v970) a + S1x64x1024.size a ≤ S32x128x4096.size a) ∧
  (∀ (hinb : ∀ a, (k0_off82 v970) a + S1x64x1024.size a ≤ S32x128x4096.size a), (Rect.unit (s := S32x128x4096) (k0_off82 v970) S1x64x1024.size hinb).WholeWords (EltTy.packing .fp8e5m2)) ∧
  (∀ a, (k0_off84 v970) a + S1x64x1024.size a ≤ S32x128x4096.size a) ∧
  (∀ (hinb : ∀ a, (k0_off84 v970) a + S1x64x1024.size a ≤ S32x128x4096.size a), (Rect.unit (s := S32x128x4096) (k0_off84 v970) S1x64x1024.size hinb).WholeWords (EltTy.packing .fp8e5m2)) ∧
  (∀ a, (k0_off86 v970) a + S1x64x4096.size a ≤ S32x128x4096.size a) ∧
  (∀ a, (k0_off87 v970) a + S64x64.size a ≤ S4096x64.size a)
theorem k0_off78_inb : ∀ (v970 : BitVec 32) (k0_hw13 : k0_chk13 v970), ∀ a, (k0_off78 v970) a + S1x64x1024.size a ≤ S32x128x4096.size a := fun v970 k0_hw13 => k0_hw13.1
theorem k0_off78_wordsfp8e5m2 : ∀ (v970 : BitVec 32) (k0_hw13 : k0_chk13 v970), (Rect.unit (s := S32x128x4096) (k0_off78 v970) S1x64x1024.size (k0_off78_inb v970 k0_hw13)).WholeWords (EltTy.packing .fp8e5m2) := fun v970 k0_hw13 => k0_hw13.2.1 (k0_off78_inb v970 k0_hw13)
theorem k0_off80_inb : ∀ (v970 : BitVec 32) (k0_hw13 : k0_chk13 v970), ∀ a, (k0_off80 v970) a + S1x64x1024.size a ≤ S32x128x4096.size a := fun v970 k0_hw13 => k0_hw13.2.2.1
theorem k0_off80_wordsfp8e5m2 : ∀ (v970 : BitVec 32) (k0_hw13 : k0_chk13 v970), (Rect.unit (s := S32x128x4096) (k0_off80 v970) S1x64x1024.size (k0_off80_inb v970 k0_hw13)).WholeWords (EltTy.packing .fp8e5m2) := fun v970 k0_hw13 => k0_hw13.2.2.2.1 (k0_off80_inb v970 k0_hw13)
theorem k0_off82_inb : ∀ (v970 : BitVec 32) (k0_hw13 : k0_chk13 v970), ∀ a, (k0_off82 v970) a + S1x64x1024.size a ≤ S32x128x4096.size a := fun v970 k0_hw13 => k0_hw13.2.2.2.2.1
theorem k0_off82_wordsfp8e5m2 : ∀ (v970 : BitVec 32) (k0_hw13 : k0_chk13 v970), (Rect.unit (s := S32x128x4096) (k0_off82 v970) S1x64x1024.size (k0_off82_inb v970 k0_hw13)).WholeWords (EltTy.packing .fp8e5m2) := fun v970 k0_hw13 => k0_hw13.2.2.2.2.2.1 (k0_off82_inb v970 k0_hw13)
theorem k0_off84_inb : ∀ (v970 : BitVec 32) (k0_hw13 : k0_chk13 v970), ∀ a, (k0_off84 v970) a + S1x64x1024.size a ≤ S32x128x4096.size a := fun v970 k0_hw13 => k0_hw13.2.2.2.2.2.2.1
theorem k0_off84_wordsfp8e5m2 : ∀ (v970 : BitVec 32) (k0_hw13 : k0_chk13 v970), (Rect.unit (s := S32x128x4096) (k0_off84 v970) S1x64x1024.size (k0_off84_inb v970 k0_hw13)).WholeWords (EltTy.packing .fp8e5m2) := fun v970 k0_hw13 => k0_hw13.2.2.2.2.2.2.2.1 (k0_off84_inb v970 k0_hw13)
theorem k0_off86_inb : ∀ (v970 : BitVec 32) (k0_hw13 : k0_chk13 v970), ∀ a, (k0_off86 v970) a + S1x64x4096.size a ≤ S32x128x4096.size a := fun v970 k0_hw13 => k0_hw13.2.2.2.2.2.2.2.2.1
theorem k0_off87_inb : ∀ (v970 : BitVec 32) (k0_hw13 : k0_chk13 v970), ∀ a, (k0_off87 v970) a + S64x64.size a ≤ S4096x64.size a := fun v970 k0_hw13 => k0_hw13.2.2.2.2.2.2.2.2.2

def k0_off88 (v972 : BitVec 32) : Fin 3 → Nat :=
  let v1129 : Index := Scalar.indexCast v972
  let c64_1118 : Index := 64#32
  let c0_1119 : Index := 0#32
  ![v1129.toNat, 64, 0]
def k0_off89 (v972 : BitVec 32) : Fin 2 → Nat :=
  let c128_i32_1121 : BitVec 32 := 128#32
  let v1133 : BitVec 32 := Scalar.muli v972 c128_i32_1121
  let c64_i32_1122 : BitVec 32 := 64#32
  let v1134 : BitVec 32 := Scalar.addi v1133 c64_i32_1122
  let v1139 : Index := Scalar.indexCast v1134
  let c0_1123 : Index := 0#32
  ![v1139.toNat, 0]

def k0_chk14 (v972 : BitVec 32) : Prop :=
  (∀ a, (k0_off79 v972) a + S1x64x1024.size a ≤ S32x128x4096.size a) ∧
  (∀ (hinb : ∀ a, (k0_off79 v972) a + S1x64x1024.size a ≤ S32x128x4096.size a), (Rect.unit (s := S32x128x4096) (k0_off79 v972) S1x64x1024.size hinb).WholeWords (EltTy.packing .fp8e5m2)) ∧
  (∀ a, (k0_off81 v972) a + S1x64x1024.size a ≤ S32x128x4096.size a) ∧
  (∀ (hinb : ∀ a, (k0_off81 v972) a + S1x64x1024.size a ≤ S32x128x4096.size a), (Rect.unit (s := S32x128x4096) (k0_off81 v972) S1x64x1024.size hinb).WholeWords (EltTy.packing .fp8e5m2)) ∧
  (∀ a, (k0_off83 v972) a + S1x64x1024.size a ≤ S32x128x4096.size a) ∧
  (∀ (hinb : ∀ a, (k0_off83 v972) a + S1x64x1024.size a ≤ S32x128x4096.size a), (Rect.unit (s := S32x128x4096) (k0_off83 v972) S1x64x1024.size hinb).WholeWords (EltTy.packing .fp8e5m2)) ∧
  (∀ a, (k0_off85 v972) a + S1x64x1024.size a ≤ S32x128x4096.size a) ∧
  (∀ (hinb : ∀ a, (k0_off85 v972) a + S1x64x1024.size a ≤ S32x128x4096.size a), (Rect.unit (s := S32x128x4096) (k0_off85 v972) S1x64x1024.size hinb).WholeWords (EltTy.packing .fp8e5m2)) ∧
  (∀ a, (k0_off88 v972) a + S1x64x4096.size a ≤ S32x128x4096.size a) ∧
  (∀ a, (k0_off89 v972) a + S64x64.size a ≤ S4096x64.size a)
theorem k0_off79_inb : ∀ (v972 : BitVec 32) (k0_hw14 : k0_chk14 v972), ∀ a, (k0_off79 v972) a + S1x64x1024.size a ≤ S32x128x4096.size a := fun v972 k0_hw14 => k0_hw14.1
theorem k0_off79_wordsfp8e5m2 : ∀ (v972 : BitVec 32) (k0_hw14 : k0_chk14 v972), (Rect.unit (s := S32x128x4096) (k0_off79 v972) S1x64x1024.size (k0_off79_inb v972 k0_hw14)).WholeWords (EltTy.packing .fp8e5m2) := fun v972 k0_hw14 => k0_hw14.2.1 (k0_off79_inb v972 k0_hw14)
theorem k0_off81_inb : ∀ (v972 : BitVec 32) (k0_hw14 : k0_chk14 v972), ∀ a, (k0_off81 v972) a + S1x64x1024.size a ≤ S32x128x4096.size a := fun v972 k0_hw14 => k0_hw14.2.2.1
theorem k0_off81_wordsfp8e5m2 : ∀ (v972 : BitVec 32) (k0_hw14 : k0_chk14 v972), (Rect.unit (s := S32x128x4096) (k0_off81 v972) S1x64x1024.size (k0_off81_inb v972 k0_hw14)).WholeWords (EltTy.packing .fp8e5m2) := fun v972 k0_hw14 => k0_hw14.2.2.2.1 (k0_off81_inb v972 k0_hw14)
theorem k0_off83_inb : ∀ (v972 : BitVec 32) (k0_hw14 : k0_chk14 v972), ∀ a, (k0_off83 v972) a + S1x64x1024.size a ≤ S32x128x4096.size a := fun v972 k0_hw14 => k0_hw14.2.2.2.2.1
theorem k0_off83_wordsfp8e5m2 : ∀ (v972 : BitVec 32) (k0_hw14 : k0_chk14 v972), (Rect.unit (s := S32x128x4096) (k0_off83 v972) S1x64x1024.size (k0_off83_inb v972 k0_hw14)).WholeWords (EltTy.packing .fp8e5m2) := fun v972 k0_hw14 => k0_hw14.2.2.2.2.2.1 (k0_off83_inb v972 k0_hw14)
theorem k0_off85_inb : ∀ (v972 : BitVec 32) (k0_hw14 : k0_chk14 v972), ∀ a, (k0_off85 v972) a + S1x64x1024.size a ≤ S32x128x4096.size a := fun v972 k0_hw14 => k0_hw14.2.2.2.2.2.2.1
theorem k0_off85_wordsfp8e5m2 : ∀ (v972 : BitVec 32) (k0_hw14 : k0_chk14 v972), (Rect.unit (s := S32x128x4096) (k0_off85 v972) S1x64x1024.size (k0_off85_inb v972 k0_hw14)).WholeWords (EltTy.packing .fp8e5m2) := fun v972 k0_hw14 => k0_hw14.2.2.2.2.2.2.2.1 (k0_off85_inb v972 k0_hw14)
theorem k0_off88_inb : ∀ (v972 : BitVec 32) (k0_hw14 : k0_chk14 v972), ∀ a, (k0_off88 v972) a + S1x64x4096.size a ≤ S32x128x4096.size a := fun v972 k0_hw14 => k0_hw14.2.2.2.2.2.2.2.2.1
theorem k0_off89_inb : ∀ (v972 : BitVec 32) (k0_hw14 : k0_chk14 v972), ∀ a, (k0_off89 v972) a + S64x64.size a ≤ S4096x64.size a := fun v972 k0_hw14 => k0_hw14.2.2.2.2.2.2.2.2.2

def k0_off90 (d0 : Dev nD) : Fin 2 → Nat :=
  let c7 : Index := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1141 : Index := Scalar.indexCast v2
  ![7, v1141.toNat]
def k0_off91 (v1142 : BitVec 32) : Fin 3 → Nat :=
  let c0_i32_1131 : BitVec 32 := 0#32
  let c0_i32_1132 : BitVec 32 := 0#32
  ![v1142.toNat, 0, 0]

def k0_dev59 (v4 : BitVec 32) : Nat :=
  let c0_i32_1139 : BitVec 32 := 0#32
  let c1_i32_1138 : BitVec 32 := 1#32
  let v1153 : BitVec 32 := Scalar.muli v4 c1_i32_1138
  let v1154 : BitVec 32 := Scalar.addi c0_i32_1139 v1153
  v1154.toNat
def k0_off92 (v1144 : BitVec 32) : Fin 3 → Nat :=
  let c64_i32_1150 : BitVec 32 := 64#32
  let c0_i32_1151 : BitVec 32 := 0#32
  ![v1144.toNat, 64, 0]

def k0_dev60 (v6 : BitVec 32) : Nat :=
  let c0_i32_1159 : BitVec 32 := 0#32
  let c1_i32_1158 : BitVec 32 := 1#32
  let v1171 : BitVec 32 := Scalar.muli v6 c1_i32_1158
  let v1172 : BitVec 32 := Scalar.addi c0_i32_1159 v1171
  v1172.toNat
def k0_off93 (v1142 : BitVec 32) : Fin 3 → Nat :=
  let c0_i32_1170 : BitVec 32 := 0#32
  let c1024_i32_1171 : BitVec 32 := 1024#32
  ![v1142.toNat, 0, 1024]
def k0_dev61 (v4 : BitVec 32) : Nat :=
  let c0_i32_1179 : BitVec 32 := 0#32
  let c1_i32_1178 : BitVec 32 := 1#32
  let v1189 : BitVec 32 := Scalar.muli v4 c1_i32_1178
  let v1190 : BitVec 32 := Scalar.addi c0_i32_1179 v1189
  v1190.toNat
def k0_off94 (v1144 : BitVec 32) : Fin 3 → Nat :=
  let c64_i32_1190 : BitVec 32 := 64#32
  let c1024_i32_1191 : BitVec 32 := 1024#32
  ![v1144.toNat, 64, 1024]
def k0_dev62 (v6 : BitVec 32) : Nat :=
  let c0_i32_1199 : BitVec 32 := 0#32
  let c1_i32_1198 : BitVec 32 := 1#32
  let v1207 : BitVec 32 := Scalar.muli v6 c1_i32_1198
  let v1208 : BitVec 32 := Scalar.addi c0_i32_1199 v1207
  v1208.toNat
def k0_off95 (v1142 : BitVec 32) : Fin 3 → Nat :=
  let c0_i32_1210 : BitVec 32 := 0#32
  let c2048_i32_1211 : BitVec 32 := 2048#32
  ![v1142.toNat, 0, 2048]
def k0_dev63 (v4 : BitVec 32) : Nat :=
  let c0_i32_1219 : BitVec 32 := 0#32
  let c1_i32_1218 : BitVec 32 := 1#32
  let v1225 : BitVec 32 := Scalar.muli v4 c1_i32_1218
  let v1226 : BitVec 32 := Scalar.addi c0_i32_1219 v1225
  v1226.toNat
def k0_off96 (v1144 : BitVec 32) : Fin 3 → Nat :=
  let c64_i32_1230 : BitVec 32 := 64#32
  let c2048_i32_1231 : BitVec 32 := 2048#32
  ![v1144.toNat, 64, 2048]
def k0_dev64 (v6 : BitVec 32) : Nat :=
  let c0_i32_1239 : BitVec 32 := 0#32
  let c1_i32_1238 : BitVec 32 := 1#32
  let v1243 : BitVec 32 := Scalar.muli v6 c1_i32_1238
  let v1244 : BitVec 32 := Scalar.addi c0_i32_1239 v1243
  v1244.toNat
def k0_off97 (v1142 : BitVec 32) : Fin 3 → Nat :=
  let c0_i32_1250 : BitVec 32 := 0#32
  let c3072_i32_1251 : BitVec 32 := 3072#32
  ![v1142.toNat, 0, 3072]
def k0_dev65 (v4 : BitVec 32) : Nat :=
  let c0_i32_1259 : BitVec 32 := 0#32
  let c1_i32_1258 : BitVec 32 := 1#32
  let v1261 : BitVec 32 := Scalar.muli v4 c1_i32_1258
  let v1262 : BitVec 32 := Scalar.addi c0_i32_1259 v1261
  v1262.toNat
def k0_off98 (v1144 : BitVec 32) : Fin 3 → Nat :=
  let c64_i32_1270 : BitVec 32 := 64#32
  let c3072_i32_1271 : BitVec 32 := 3072#32
  ![v1144.toNat, 64, 3072]
def k0_dev66 (v6 : BitVec 32) : Nat :=
  let c0_i32_1279 : BitVec 32 := 0#32
  let c1_i32_1278 : BitVec 32 := 1#32
  let v1279 : BitVec 32 := Scalar.muli v6 c1_i32_1278
  let v1280 : BitVec 32 := Scalar.addi c0_i32_1279 v1279
  v1280.toNat
def k0_off99 (v1142 : BitVec 32) : Fin 3 → Nat :=
  let v1289 : Index := Scalar.indexCast v1142
  let c0_1284 : Index := 0#32
  let c0_1285 : Index := 0#32
  ![v1289.toNat, 0, 0]
def k0_off100 (v1142 : BitVec 32) : Fin 2 → Nat :=
  let c128_i32_1287 : BitVec 32 := 128#32
  let v1293 : BitVec 32 := Scalar.muli v1142 c128_i32_1287
  let c0_i32_1288 : BitVec 32 := 0#32
  let v1294 : BitVec 32 := Scalar.addi v1293 c0_i32_1288
  let v1299 : Index := Scalar.indexCast v1294
  let c0_1289 : Index := 0#32
  ![v1299.toNat, 0]

def k0_chk15 (v1142 : BitVec 32) : Prop :=
  (∀ a, (k0_off91 v1142) a + S1x64x1024.size a ≤ S32x128x4096.size a) ∧
  (∀ (hinb : ∀ a, (k0_off91 v1142) a + S1x64x1024.size a ≤ S32x128x4096.size a), (Rect.unit (s := S32x128x4096) (k0_off91 v1142) S1x64x1024.size hinb).WholeWords (EltTy.packing .fp8e5m2)) ∧
  (∀ a, (k0_off93 v1142) a + S1x64x1024.size a ≤ S32x128x4096.size a) ∧
  (∀ (hinb : ∀ a, (k0_off93 v1142) a + S1x64x1024.size a ≤ S32x128x4096.size a), (Rect.unit (s := S32x128x4096) (k0_off93 v1142) S1x64x1024.size hinb).WholeWords (EltTy.packing .fp8e5m2)) ∧
  (∀ a, (k0_off95 v1142) a + S1x64x1024.size a ≤ S32x128x4096.size a) ∧
  (∀ (hinb : ∀ a, (k0_off95 v1142) a + S1x64x1024.size a ≤ S32x128x4096.size a), (Rect.unit (s := S32x128x4096) (k0_off95 v1142) S1x64x1024.size hinb).WholeWords (EltTy.packing .fp8e5m2)) ∧
  (∀ a, (k0_off97 v1142) a + S1x64x1024.size a ≤ S32x128x4096.size a) ∧
  (∀ (hinb : ∀ a, (k0_off97 v1142) a + S1x64x1024.size a ≤ S32x128x4096.size a), (Rect.unit (s := S32x128x4096) (k0_off97 v1142) S1x64x1024.size hinb).WholeWords (EltTy.packing .fp8e5m2)) ∧
  (∀ a, (k0_off99 v1142) a + S1x64x4096.size a ≤ S32x128x4096.size a) ∧
  (∀ a, (k0_off100 v1142) a + S64x64.size a ≤ S4096x64.size a)
theorem k0_off91_inb : ∀ (v1142 : BitVec 32) (k0_hw15 : k0_chk15 v1142), ∀ a, (k0_off91 v1142) a + S1x64x1024.size a ≤ S32x128x4096.size a := fun v1142 k0_hw15 => k0_hw15.1
theorem k0_off91_wordsfp8e5m2 : ∀ (v1142 : BitVec 32) (k0_hw15 : k0_chk15 v1142), (Rect.unit (s := S32x128x4096) (k0_off91 v1142) S1x64x1024.size (k0_off91_inb v1142 k0_hw15)).WholeWords (EltTy.packing .fp8e5m2) := fun v1142 k0_hw15 => k0_hw15.2.1 (k0_off91_inb v1142 k0_hw15)
theorem k0_off93_inb : ∀ (v1142 : BitVec 32) (k0_hw15 : k0_chk15 v1142), ∀ a, (k0_off93 v1142) a + S1x64x1024.size a ≤ S32x128x4096.size a := fun v1142 k0_hw15 => k0_hw15.2.2.1
theorem k0_off93_wordsfp8e5m2 : ∀ (v1142 : BitVec 32) (k0_hw15 : k0_chk15 v1142), (Rect.unit (s := S32x128x4096) (k0_off93 v1142) S1x64x1024.size (k0_off93_inb v1142 k0_hw15)).WholeWords (EltTy.packing .fp8e5m2) := fun v1142 k0_hw15 => k0_hw15.2.2.2.1 (k0_off93_inb v1142 k0_hw15)
theorem k0_off95_inb : ∀ (v1142 : BitVec 32) (k0_hw15 : k0_chk15 v1142), ∀ a, (k0_off95 v1142) a + S1x64x1024.size a ≤ S32x128x4096.size a := fun v1142 k0_hw15 => k0_hw15.2.2.2.2.1
theorem k0_off95_wordsfp8e5m2 : ∀ (v1142 : BitVec 32) (k0_hw15 : k0_chk15 v1142), (Rect.unit (s := S32x128x4096) (k0_off95 v1142) S1x64x1024.size (k0_off95_inb v1142 k0_hw15)).WholeWords (EltTy.packing .fp8e5m2) := fun v1142 k0_hw15 => k0_hw15.2.2.2.2.2.1 (k0_off95_inb v1142 k0_hw15)
theorem k0_off97_inb : ∀ (v1142 : BitVec 32) (k0_hw15 : k0_chk15 v1142), ∀ a, (k0_off97 v1142) a + S1x64x1024.size a ≤ S32x128x4096.size a := fun v1142 k0_hw15 => k0_hw15.2.2.2.2.2.2.1
theorem k0_off97_wordsfp8e5m2 : ∀ (v1142 : BitVec 32) (k0_hw15 : k0_chk15 v1142), (Rect.unit (s := S32x128x4096) (k0_off97 v1142) S1x64x1024.size (k0_off97_inb v1142 k0_hw15)).WholeWords (EltTy.packing .fp8e5m2) := fun v1142 k0_hw15 => k0_hw15.2.2.2.2.2.2.2.1 (k0_off97_inb v1142 k0_hw15)
theorem k0_off99_inb : ∀ (v1142 : BitVec 32) (k0_hw15 : k0_chk15 v1142), ∀ a, (k0_off99 v1142) a + S1x64x4096.size a ≤ S32x128x4096.size a := fun v1142 k0_hw15 => k0_hw15.2.2.2.2.2.2.2.2.1
theorem k0_off100_inb : ∀ (v1142 : BitVec 32) (k0_hw15 : k0_chk15 v1142), ∀ a, (k0_off100 v1142) a + S64x64.size a ≤ S4096x64.size a := fun v1142 k0_hw15 => k0_hw15.2.2.2.2.2.2.2.2.2

def k0_off101 (v1144 : BitVec 32) : Fin 3 → Nat :=
  let v1301 : Index := Scalar.indexCast v1144
  let c64_1290 : Index := 64#32
  let c0_1291 : Index := 0#32
  ![v1301.toNat, 64, 0]
def k0_off102 (v1144 : BitVec 32) : Fin 2 → Nat :=
  let c128_i32_1293 : BitVec 32 := 128#32
  let v1305 : BitVec 32 := Scalar.muli v1144 c128_i32_1293
  let c64_i32_1294 : BitVec 32 := 64#32
  let v1306 : BitVec 32 := Scalar.addi v1305 c64_i32_1294
  let v1311 : Index := Scalar.indexCast v1306
  let c0_1295 : Index := 0#32
  ![v1311.toNat, 0]

def k0_chk16 (v1144 : BitVec 32) : Prop :=
  (∀ a, (k0_off92 v1144) a + S1x64x1024.size a ≤ S32x128x4096.size a) ∧
  (∀ (hinb : ∀ a, (k0_off92 v1144) a + S1x64x1024.size a ≤ S32x128x4096.size a), (Rect.unit (s := S32x128x4096) (k0_off92 v1144) S1x64x1024.size hinb).WholeWords (EltTy.packing .fp8e5m2)) ∧
  (∀ a, (k0_off94 v1144) a + S1x64x1024.size a ≤ S32x128x4096.size a) ∧
  (∀ (hinb : ∀ a, (k0_off94 v1144) a + S1x64x1024.size a ≤ S32x128x4096.size a), (Rect.unit (s := S32x128x4096) (k0_off94 v1144) S1x64x1024.size hinb).WholeWords (EltTy.packing .fp8e5m2)) ∧
  (∀ a, (k0_off96 v1144) a + S1x64x1024.size a ≤ S32x128x4096.size a) ∧
  (∀ (hinb : ∀ a, (k0_off96 v1144) a + S1x64x1024.size a ≤ S32x128x4096.size a), (Rect.unit (s := S32x128x4096) (k0_off96 v1144) S1x64x1024.size hinb).WholeWords (EltTy.packing .fp8e5m2)) ∧
  (∀ a, (k0_off98 v1144) a + S1x64x1024.size a ≤ S32x128x4096.size a) ∧
  (∀ (hinb : ∀ a, (k0_off98 v1144) a + S1x64x1024.size a ≤ S32x128x4096.size a), (Rect.unit (s := S32x128x4096) (k0_off98 v1144) S1x64x1024.size hinb).WholeWords (EltTy.packing .fp8e5m2)) ∧
  (∀ a, (k0_off101 v1144) a + S1x64x4096.size a ≤ S32x128x4096.size a) ∧
  (∀ a, (k0_off102 v1144) a + S64x64.size a ≤ S4096x64.size a)
theorem k0_off92_inb : ∀ (v1144 : BitVec 32) (k0_hw16 : k0_chk16 v1144), ∀ a, (k0_off92 v1144) a + S1x64x1024.size a ≤ S32x128x4096.size a := fun v1144 k0_hw16 => k0_hw16.1
theorem k0_off92_wordsfp8e5m2 : ∀ (v1144 : BitVec 32) (k0_hw16 : k0_chk16 v1144), (Rect.unit (s := S32x128x4096) (k0_off92 v1144) S1x64x1024.size (k0_off92_inb v1144 k0_hw16)).WholeWords (EltTy.packing .fp8e5m2) := fun v1144 k0_hw16 => k0_hw16.2.1 (k0_off92_inb v1144 k0_hw16)
theorem k0_off94_inb : ∀ (v1144 : BitVec 32) (k0_hw16 : k0_chk16 v1144), ∀ a, (k0_off94 v1144) a + S1x64x1024.size a ≤ S32x128x4096.size a := fun v1144 k0_hw16 => k0_hw16.2.2.1
theorem k0_off94_wordsfp8e5m2 : ∀ (v1144 : BitVec 32) (k0_hw16 : k0_chk16 v1144), (Rect.unit (s := S32x128x4096) (k0_off94 v1144) S1x64x1024.size (k0_off94_inb v1144 k0_hw16)).WholeWords (EltTy.packing .fp8e5m2) := fun v1144 k0_hw16 => k0_hw16.2.2.2.1 (k0_off94_inb v1144 k0_hw16)
theorem k0_off96_inb : ∀ (v1144 : BitVec 32) (k0_hw16 : k0_chk16 v1144), ∀ a, (k0_off96 v1144) a + S1x64x1024.size a ≤ S32x128x4096.size a := fun v1144 k0_hw16 => k0_hw16.2.2.2.2.1
theorem k0_off96_wordsfp8e5m2 : ∀ (v1144 : BitVec 32) (k0_hw16 : k0_chk16 v1144), (Rect.unit (s := S32x128x4096) (k0_off96 v1144) S1x64x1024.size (k0_off96_inb v1144 k0_hw16)).WholeWords (EltTy.packing .fp8e5m2) := fun v1144 k0_hw16 => k0_hw16.2.2.2.2.2.1 (k0_off96_inb v1144 k0_hw16)
theorem k0_off98_inb : ∀ (v1144 : BitVec 32) (k0_hw16 : k0_chk16 v1144), ∀ a, (k0_off98 v1144) a + S1x64x1024.size a ≤ S32x128x4096.size a := fun v1144 k0_hw16 => k0_hw16.2.2.2.2.2.2.1
theorem k0_off98_wordsfp8e5m2 : ∀ (v1144 : BitVec 32) (k0_hw16 : k0_chk16 v1144), (Rect.unit (s := S32x128x4096) (k0_off98 v1144) S1x64x1024.size (k0_off98_inb v1144 k0_hw16)).WholeWords (EltTy.packing .fp8e5m2) := fun v1144 k0_hw16 => k0_hw16.2.2.2.2.2.2.2.1 (k0_off98_inb v1144 k0_hw16)
theorem k0_off101_inb : ∀ (v1144 : BitVec 32) (k0_hw16 : k0_chk16 v1144), ∀ a, (k0_off101 v1144) a + S1x64x4096.size a ≤ S32x128x4096.size a := fun v1144 k0_hw16 => k0_hw16.2.2.2.2.2.2.2.2.1
theorem k0_off102_inb : ∀ (v1144 : BitVec 32) (k0_hw16 : k0_chk16 v1144), ∀ a, (k0_off102 v1144) a + S64x64.size a ≤ S4096x64.size a := fun v1144 k0_hw16 => k0_hw16.2.2.2.2.2.2.2.2.2

def k0_off103 (d0 : Dev nD) : Fin 2 → Nat :=
  let c8 : Index := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1313 : Index := Scalar.indexCast v2
  ![8, v1313.toNat]
def k0_off104 (v1314 : BitVec 32) : Fin 3 → Nat :=
  let c0_i32_1303 : BitVec 32 := 0#32
  let c0_i32_1304 : BitVec 32 := 0#32
  ![v1314.toNat, 0, 0]

def k0_dev67 (v4 : BitVec 32) : Nat :=
  let c0_i32_1311 : BitVec 32 := 0#32
  let c1_i32_1310 : BitVec 32 := 1#32
  let v1325 : BitVec 32 := Scalar.muli v4 c1_i32_1310
  let v1326 : BitVec 32 := Scalar.addi c0_i32_1311 v1325
  v1326.toNat
def k0_off105 (v1316 : BitVec 32) : Fin 3 → Nat :=
  let c64_i32_1322 : BitVec 32 := 64#32
  let c0_i32_1323 : BitVec 32 := 0#32
  ![v1316.toNat, 64, 0]

def k0_dev68 (v6 : BitVec 32) : Nat :=
  let c0_i32_1331 : BitVec 32 := 0#32
  let c1_i32_1330 : BitVec 32 := 1#32
  let v1343 : BitVec 32 := Scalar.muli v6 c1_i32_1330
  let v1344 : BitVec 32 := Scalar.addi c0_i32_1331 v1343
  v1344.toNat
def k0_off106 (v1314 : BitVec 32) : Fin 3 → Nat :=
  let c0_i32_1342 : BitVec 32 := 0#32
  let c1024_i32_1343 : BitVec 32 := 1024#32
  ![v1314.toNat, 0, 1024]
def k0_dev69 (v4 : BitVec 32) : Nat :=
  let c0_i32_1351 : BitVec 32 := 0#32
  let c1_i32_1350 : BitVec 32 := 1#32
  let v1361 : BitVec 32 := Scalar.muli v4 c1_i32_1350
  let v1362 : BitVec 32 := Scalar.addi c0_i32_1351 v1361
  v1362.toNat
def k0_off107 (v1316 : BitVec 32) : Fin 3 → Nat :=
  let c64_i32_1362 : BitVec 32 := 64#32
  let c1024_i32_1363 : BitVec 32 := 1024#32
  ![v1316.toNat, 64, 1024]
def k0_dev70 (v6 : BitVec 32) : Nat :=
  let c0_i32_1371 : BitVec 32 := 0#32
  let c1_i32_1370 : BitVec 32 := 1#32
  let v1379 : BitVec 32 := Scalar.muli v6 c1_i32_1370
  let v1380 : BitVec 32 := Scalar.addi c0_i32_1371 v1379
  v1380.toNat
def k0_off108 (v1314 : BitVec 32) : Fin 3 → Nat :=
  let c0_i32_1382 : BitVec 32 := 0#32
  let c2048_i32_1383 : BitVec 32 := 2048#32
  ![v1314.toNat, 0, 2048]
def k0_dev71 (v4 : BitVec 32) : Nat :=
  let c0_i32_1391 : BitVec 32 := 0#32
  let c1_i32_1390 : BitVec 32 := 1#32
  let v1397 : BitVec 32 := Scalar.muli v4 c1_i32_1390
  let v1398 : BitVec 32 := Scalar.addi c0_i32_1391 v1397
  v1398.toNat
def k0_off109 (v1316 : BitVec 32) : Fin 3 → Nat :=
  let c64_i32_1402 : BitVec 32 := 64#32
  let c2048_i32_1403 : BitVec 32 := 2048#32
  ![v1316.toNat, 64, 2048]
def k0_dev72 (v6 : BitVec 32) : Nat :=
  let c0_i32_1411 : BitVec 32 := 0#32
  let c1_i32_1410 : BitVec 32 := 1#32
  let v1415 : BitVec 32 := Scalar.muli v6 c1_i32_1410
  let v1416 : BitVec 32 := Scalar.addi c0_i32_1411 v1415
  v1416.toNat
def k0_off110 (v1314 : BitVec 32) : Fin 3 → Nat :=
  let c0_i32_1422 : BitVec 32 := 0#32
  let c3072_i32_1423 : BitVec 32 := 3072#32
  ![v1314.toNat, 0, 3072]
def k0_dev73 (v4 : BitVec 32) : Nat :=
  let c0_i32_1431 : BitVec 32 := 0#32
  let c1_i32_1430 : BitVec 32 := 1#32
  let v1433 : BitVec 32 := Scalar.muli v4 c1_i32_1430
  let v1434 : BitVec 32 := Scalar.addi c0_i32_1431 v1433
  v1434.toNat
def k0_off111 (v1316 : BitVec 32) : Fin 3 → Nat :=
  let c64_i32_1442 : BitVec 32 := 64#32
  let c3072_i32_1443 : BitVec 32 := 3072#32
  ![v1316.toNat, 64, 3072]
def k0_dev74 (v6 : BitVec 32) : Nat :=
  let c0_i32_1451 : BitVec 32 := 0#32
  let c1_i32_1450 : BitVec 32 := 1#32
  let v1451 : BitVec 32 := Scalar.muli v6 c1_i32_1450
  let v1452 : BitVec 32 := Scalar.addi c0_i32_1451 v1451
  v1452.toNat
def k0_off112 (v1314 : BitVec 32) : Fin 3 → Nat :=
  let v1461 : Index := Scalar.indexCast v1314
  let c0_1456 : Index := 0#32
  let c0_1457 : Index := 0#32
  ![v1461.toNat, 0, 0]
def k0_off113 (v1314 : BitVec 32) : Fin 2 → Nat :=
  let c128_i32_1459 : BitVec 32 := 128#32
  let v1465 : BitVec 32 := Scalar.muli v1314 c128_i32_1459
  let c0_i32_1460 : BitVec 32 := 0#32
  let v1466 : BitVec 32 := Scalar.addi v1465 c0_i32_1460
  let v1471 : Index := Scalar.indexCast v1466
  let c0_1461 : Index := 0#32
  ![v1471.toNat, 0]

def k0_chk17 (v1314 : BitVec 32) : Prop :=
  (∀ a, (k0_off104 v1314) a + S1x64x1024.size a ≤ S32x128x4096.size a) ∧
  (∀ (hinb : ∀ a, (k0_off104 v1314) a + S1x64x1024.size a ≤ S32x128x4096.size a), (Rect.unit (s := S32x128x4096) (k0_off104 v1314) S1x64x1024.size hinb).WholeWords (EltTy.packing .fp8e5m2)) ∧
  (∀ a, (k0_off106 v1314) a + S1x64x1024.size a ≤ S32x128x4096.size a) ∧
  (∀ (hinb : ∀ a, (k0_off106 v1314) a + S1x64x1024.size a ≤ S32x128x4096.size a), (Rect.unit (s := S32x128x4096) (k0_off106 v1314) S1x64x1024.size hinb).WholeWords (EltTy.packing .fp8e5m2)) ∧
  (∀ a, (k0_off108 v1314) a + S1x64x1024.size a ≤ S32x128x4096.size a) ∧
  (∀ (hinb : ∀ a, (k0_off108 v1314) a + S1x64x1024.size a ≤ S32x128x4096.size a), (Rect.unit (s := S32x128x4096) (k0_off108 v1314) S1x64x1024.size hinb).WholeWords (EltTy.packing .fp8e5m2)) ∧
  (∀ a, (k0_off110 v1314) a + S1x64x1024.size a ≤ S32x128x4096.size a) ∧
  (∀ (hinb : ∀ a, (k0_off110 v1314) a + S1x64x1024.size a ≤ S32x128x4096.size a), (Rect.unit (s := S32x128x4096) (k0_off110 v1314) S1x64x1024.size hinb).WholeWords (EltTy.packing .fp8e5m2)) ∧
  (∀ a, (k0_off112 v1314) a + S1x64x4096.size a ≤ S32x128x4096.size a) ∧
  (∀ a, (k0_off113 v1314) a + S64x64.size a ≤ S4096x64.size a)
theorem k0_off104_inb : ∀ (v1314 : BitVec 32) (k0_hw17 : k0_chk17 v1314), ∀ a, (k0_off104 v1314) a + S1x64x1024.size a ≤ S32x128x4096.size a := fun v1314 k0_hw17 => k0_hw17.1
theorem k0_off104_wordsfp8e5m2 : ∀ (v1314 : BitVec 32) (k0_hw17 : k0_chk17 v1314), (Rect.unit (s := S32x128x4096) (k0_off104 v1314) S1x64x1024.size (k0_off104_inb v1314 k0_hw17)).WholeWords (EltTy.packing .fp8e5m2) := fun v1314 k0_hw17 => k0_hw17.2.1 (k0_off104_inb v1314 k0_hw17)
theorem k0_off106_inb : ∀ (v1314 : BitVec 32) (k0_hw17 : k0_chk17 v1314), ∀ a, (k0_off106 v1314) a + S1x64x1024.size a ≤ S32x128x4096.size a := fun v1314 k0_hw17 => k0_hw17.2.2.1
theorem k0_off106_wordsfp8e5m2 : ∀ (v1314 : BitVec 32) (k0_hw17 : k0_chk17 v1314), (Rect.unit (s := S32x128x4096) (k0_off106 v1314) S1x64x1024.size (k0_off106_inb v1314 k0_hw17)).WholeWords (EltTy.packing .fp8e5m2) := fun v1314 k0_hw17 => k0_hw17.2.2.2.1 (k0_off106_inb v1314 k0_hw17)
theorem k0_off108_inb : ∀ (v1314 : BitVec 32) (k0_hw17 : k0_chk17 v1314), ∀ a, (k0_off108 v1314) a + S1x64x1024.size a ≤ S32x128x4096.size a := fun v1314 k0_hw17 => k0_hw17.2.2.2.2.1
theorem k0_off108_wordsfp8e5m2 : ∀ (v1314 : BitVec 32) (k0_hw17 : k0_chk17 v1314), (Rect.unit (s := S32x128x4096) (k0_off108 v1314) S1x64x1024.size (k0_off108_inb v1314 k0_hw17)).WholeWords (EltTy.packing .fp8e5m2) := fun v1314 k0_hw17 => k0_hw17.2.2.2.2.2.1 (k0_off108_inb v1314 k0_hw17)
theorem k0_off110_inb : ∀ (v1314 : BitVec 32) (k0_hw17 : k0_chk17 v1314), ∀ a, (k0_off110 v1314) a + S1x64x1024.size a ≤ S32x128x4096.size a := fun v1314 k0_hw17 => k0_hw17.2.2.2.2.2.2.1
theorem k0_off110_wordsfp8e5m2 : ∀ (v1314 : BitVec 32) (k0_hw17 : k0_chk17 v1314), (Rect.unit (s := S32x128x4096) (k0_off110 v1314) S1x64x1024.size (k0_off110_inb v1314 k0_hw17)).WholeWords (EltTy.packing .fp8e5m2) := fun v1314 k0_hw17 => k0_hw17.2.2.2.2.2.2.2.1 (k0_off110_inb v1314 k0_hw17)
theorem k0_off112_inb : ∀ (v1314 : BitVec 32) (k0_hw17 : k0_chk17 v1314), ∀ a, (k0_off112 v1314) a + S1x64x4096.size a ≤ S32x128x4096.size a := fun v1314 k0_hw17 => k0_hw17.2.2.2.2.2.2.2.2.1
theorem k0_off113_inb : ∀ (v1314 : BitVec 32) (k0_hw17 : k0_chk17 v1314), ∀ a, (k0_off113 v1314) a + S64x64.size a ≤ S4096x64.size a := fun v1314 k0_hw17 => k0_hw17.2.2.2.2.2.2.2.2.2

def k0_off114 (v1316 : BitVec 32) : Fin 3 → Nat :=
  let v1473 : Index := Scalar.indexCast v1316
  let c64_1462 : Index := 64#32
  let c0_1463 : Index := 0#32
  ![v1473.toNat, 64, 0]
def k0_off115 (v1316 : BitVec 32) : Fin 2 → Nat :=
  let c128_i32_1465 : BitVec 32 := 128#32
  let v1477 : BitVec 32 := Scalar.muli v1316 c128_i32_1465
  let c64_i32_1466 : BitVec 32 := 64#32
  let v1478 : BitVec 32 := Scalar.addi v1477 c64_i32_1466
  let v1483 : Index := Scalar.indexCast v1478
  let c0_1467 : Index := 0#32
  ![v1483.toNat, 0]

def k0_chk18 (v1316 : BitVec 32) : Prop :=
  (∀ a, (k0_off105 v1316) a + S1x64x1024.size a ≤ S32x128x4096.size a) ∧
  (∀ (hinb : ∀ a, (k0_off105 v1316) a + S1x64x1024.size a ≤ S32x128x4096.size a), (Rect.unit (s := S32x128x4096) (k0_off105 v1316) S1x64x1024.size hinb).WholeWords (EltTy.packing .fp8e5m2)) ∧
  (∀ a, (k0_off107 v1316) a + S1x64x1024.size a ≤ S32x128x4096.size a) ∧
  (∀ (hinb : ∀ a, (k0_off107 v1316) a + S1x64x1024.size a ≤ S32x128x4096.size a), (Rect.unit (s := S32x128x4096) (k0_off107 v1316) S1x64x1024.size hinb).WholeWords (EltTy.packing .fp8e5m2)) ∧
  (∀ a, (k0_off109 v1316) a + S1x64x1024.size a ≤ S32x128x4096.size a) ∧
  (∀ (hinb : ∀ a, (k0_off109 v1316) a + S1x64x1024.size a ≤ S32x128x4096.size a), (Rect.unit (s := S32x128x4096) (k0_off109 v1316) S1x64x1024.size hinb).WholeWords (EltTy.packing .fp8e5m2)) ∧
  (∀ a, (k0_off111 v1316) a + S1x64x1024.size a ≤ S32x128x4096.size a) ∧
  (∀ (hinb : ∀ a, (k0_off111 v1316) a + S1x64x1024.size a ≤ S32x128x4096.size a), (Rect.unit (s := S32x128x4096) (k0_off111 v1316) S1x64x1024.size hinb).WholeWords (EltTy.packing .fp8e5m2)) ∧
  (∀ a, (k0_off114 v1316) a + S1x64x4096.size a ≤ S32x128x4096.size a) ∧
  (∀ a, (k0_off115 v1316) a + S64x64.size a ≤ S4096x64.size a)
theorem k0_off105_inb : ∀ (v1316 : BitVec 32) (k0_hw18 : k0_chk18 v1316), ∀ a, (k0_off105 v1316) a + S1x64x1024.size a ≤ S32x128x4096.size a := fun v1316 k0_hw18 => k0_hw18.1
theorem k0_off105_wordsfp8e5m2 : ∀ (v1316 : BitVec 32) (k0_hw18 : k0_chk18 v1316), (Rect.unit (s := S32x128x4096) (k0_off105 v1316) S1x64x1024.size (k0_off105_inb v1316 k0_hw18)).WholeWords (EltTy.packing .fp8e5m2) := fun v1316 k0_hw18 => k0_hw18.2.1 (k0_off105_inb v1316 k0_hw18)
theorem k0_off107_inb : ∀ (v1316 : BitVec 32) (k0_hw18 : k0_chk18 v1316), ∀ a, (k0_off107 v1316) a + S1x64x1024.size a ≤ S32x128x4096.size a := fun v1316 k0_hw18 => k0_hw18.2.2.1
theorem k0_off107_wordsfp8e5m2 : ∀ (v1316 : BitVec 32) (k0_hw18 : k0_chk18 v1316), (Rect.unit (s := S32x128x4096) (k0_off107 v1316) S1x64x1024.size (k0_off107_inb v1316 k0_hw18)).WholeWords (EltTy.packing .fp8e5m2) := fun v1316 k0_hw18 => k0_hw18.2.2.2.1 (k0_off107_inb v1316 k0_hw18)
theorem k0_off109_inb : ∀ (v1316 : BitVec 32) (k0_hw18 : k0_chk18 v1316), ∀ a, (k0_off109 v1316) a + S1x64x1024.size a ≤ S32x128x4096.size a := fun v1316 k0_hw18 => k0_hw18.2.2.2.2.1
theorem k0_off109_wordsfp8e5m2 : ∀ (v1316 : BitVec 32) (k0_hw18 : k0_chk18 v1316), (Rect.unit (s := S32x128x4096) (k0_off109 v1316) S1x64x1024.size (k0_off109_inb v1316 k0_hw18)).WholeWords (EltTy.packing .fp8e5m2) := fun v1316 k0_hw18 => k0_hw18.2.2.2.2.2.1 (k0_off109_inb v1316 k0_hw18)
theorem k0_off111_inb : ∀ (v1316 : BitVec 32) (k0_hw18 : k0_chk18 v1316), ∀ a, (k0_off111 v1316) a + S1x64x1024.size a ≤ S32x128x4096.size a := fun v1316 k0_hw18 => k0_hw18.2.2.2.2.2.2.1
theorem k0_off111_wordsfp8e5m2 : ∀ (v1316 : BitVec 32) (k0_hw18 : k0_chk18 v1316), (Rect.unit (s := S32x128x4096) (k0_off111 v1316) S1x64x1024.size (k0_off111_inb v1316 k0_hw18)).WholeWords (EltTy.packing .fp8e5m2) := fun v1316 k0_hw18 => k0_hw18.2.2.2.2.2.2.2.1 (k0_off111_inb v1316 k0_hw18)
theorem k0_off114_inb : ∀ (v1316 : BitVec 32) (k0_hw18 : k0_chk18 v1316), ∀ a, (k0_off114 v1316) a + S1x64x4096.size a ≤ S32x128x4096.size a := fun v1316 k0_hw18 => k0_hw18.2.2.2.2.2.2.2.2.1
theorem k0_off115_inb : ∀ (v1316 : BitVec 32) (k0_hw18 : k0_chk18 v1316), ∀ a, (k0_off115 v1316) a + S64x64.size a ≤ S4096x64.size a := fun v1316 k0_hw18 => k0_hw18.2.2.2.2.2.2.2.2.2

def k0_off116 (d0 : Dev nD) : Fin 2 → Nat :=
  let c9 : Index := 9#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1485 : Index := Scalar.indexCast v2
  ![9, v1485.toNat]
def k0_off117 (v1486 : BitVec 32) : Fin 3 → Nat :=
  let c0_i32_1475 : BitVec 32 := 0#32
  let c0_i32_1476 : BitVec 32 := 0#32
  ![v1486.toNat, 0, 0]

def k0_dev75 (v4 : BitVec 32) : Nat :=
  let c0_i32_1483 : BitVec 32 := 0#32
  let c1_i32_1482 : BitVec 32 := 1#32
  let v1497 : BitVec 32 := Scalar.muli v4 c1_i32_1482
  let v1498 : BitVec 32 := Scalar.addi c0_i32_1483 v1497
  v1498.toNat
def k0_off118 (v1488 : BitVec 32) : Fin 3 → Nat :=
  let c64_i32_1494 : BitVec 32 := 64#32
  let c0_i32_1495 : BitVec 32 := 0#32
  ![v1488.toNat, 64, 0]

def k0_dev76 (v6 : BitVec 32) : Nat :=
  let c0_i32_1503 : BitVec 32 := 0#32
  let c1_i32_1502 : BitVec 32 := 1#32
  let v1515 : BitVec 32 := Scalar.muli v6 c1_i32_1502
  let v1516 : BitVec 32 := Scalar.addi c0_i32_1503 v1515
  v1516.toNat
def k0_off119 (v1486 : BitVec 32) : Fin 3 → Nat :=
  let c0_i32_1514 : BitVec 32 := 0#32
  let c1024_i32_1515 : BitVec 32 := 1024#32
  ![v1486.toNat, 0, 1024]
def k0_dev77 (v4 : BitVec 32) : Nat :=
  let c0_i32_1523 : BitVec 32 := 0#32
  let c1_i32_1522 : BitVec 32 := 1#32
  let v1533 : BitVec 32 := Scalar.muli v4 c1_i32_1522
  let v1534 : BitVec 32 := Scalar.addi c0_i32_1523 v1533
  v1534.toNat
def k0_off120 (v1488 : BitVec 32) : Fin 3 → Nat :=
  let c64_i32_1534 : BitVec 32 := 64#32
  let c1024_i32_1535 : BitVec 32 := 1024#32
  ![v1488.toNat, 64, 1024]
def k0_dev78 (v6 : BitVec 32) : Nat :=
  let c0_i32_1543 : BitVec 32 := 0#32
  let c1_i32_1542 : BitVec 32 := 1#32
  let v1551 : BitVec 32 := Scalar.muli v6 c1_i32_1542
  let v1552 : BitVec 32 := Scalar.addi c0_i32_1543 v1551
  v1552.toNat
def k0_off121 (v1486 : BitVec 32) : Fin 3 → Nat :=
  let c0_i32_1554 : BitVec 32 := 0#32
  let c2048_i32_1555 : BitVec 32 := 2048#32
  ![v1486.toNat, 0, 2048]
def k0_dev79 (v4 : BitVec 32) : Nat :=
  let c0_i32_1563 : BitVec 32 := 0#32
  let c1_i32_1562 : BitVec 32 := 1#32
  let v1569 : BitVec 32 := Scalar.muli v4 c1_i32_1562
  let v1570 : BitVec 32 := Scalar.addi c0_i32_1563 v1569
  v1570.toNat
def k0_off122 (v1488 : BitVec 32) : Fin 3 → Nat :=
  let c64_i32_1574 : BitVec 32 := 64#32
  let c2048_i32_1575 : BitVec 32 := 2048#32
  ![v1488.toNat, 64, 2048]
def k0_dev80 (v6 : BitVec 32) : Nat :=
  let c0_i32_1583 : BitVec 32 := 0#32
  let c1_i32_1582 : BitVec 32 := 1#32
  let v1587 : BitVec 32 := Scalar.muli v6 c1_i32_1582
  let v1588 : BitVec 32 := Scalar.addi c0_i32_1583 v1587
  v1588.toNat
def k0_off123 (v1486 : BitVec 32) : Fin 3 → Nat :=
  let c0_i32_1594 : BitVec 32 := 0#32
  let c3072_i32_1595 : BitVec 32 := 3072#32
  ![v1486.toNat, 0, 3072]
def k0_dev81 (v4 : BitVec 32) : Nat :=
  let c0_i32_1603 : BitVec 32 := 0#32
  let c1_i32_1602 : BitVec 32 := 1#32
  let v1605 : BitVec 32 := Scalar.muli v4 c1_i32_1602
  let v1606 : BitVec 32 := Scalar.addi c0_i32_1603 v1605
  v1606.toNat
def k0_off124 (v1488 : BitVec 32) : Fin 3 → Nat :=
  let c64_i32_1614 : BitVec 32 := 64#32
  let c3072_i32_1615 : BitVec 32 := 3072#32
  ![v1488.toNat, 64, 3072]
def k0_dev82 (v6 : BitVec 32) : Nat :=
  let c0_i32_1623 : BitVec 32 := 0#32
  let c1_i32_1622 : BitVec 32 := 1#32
  let v1623 : BitVec 32 := Scalar.muli v6 c1_i32_1622
  let v1624 : BitVec 32 := Scalar.addi c0_i32_1623 v1623
  v1624.toNat
def k0_off125 (v1486 : BitVec 32) : Fin 3 → Nat :=
  let v1633 : Index := Scalar.indexCast v1486
  let c0_1628 : Index := 0#32
  let c0_1629 : Index := 0#32
  ![v1633.toNat, 0, 0]
def k0_off126 (v1486 : BitVec 32) : Fin 2 → Nat :=
  let c128_i32_1631 : BitVec 32 := 128#32
  let v1637 : BitVec 32 := Scalar.muli v1486 c128_i32_1631
  let c0_i32_1632 : BitVec 32 := 0#32
  let v1638 : BitVec 32 := Scalar.addi v1637 c0_i32_1632
  let v1643 : Index := Scalar.indexCast v1638
  let c0_1633 : Index := 0#32
  ![v1643.toNat, 0]

def k0_chk19 (v1486 : BitVec 32) : Prop :=
  (∀ a, (k0_off117 v1486) a + S1x64x1024.size a ≤ S32x128x4096.size a) ∧
  (∀ (hinb : ∀ a, (k0_off117 v1486) a + S1x64x1024.size a ≤ S32x128x4096.size a), (Rect.unit (s := S32x128x4096) (k0_off117 v1486) S1x64x1024.size hinb).WholeWords (EltTy.packing .fp8e5m2)) ∧
  (∀ a, (k0_off119 v1486) a + S1x64x1024.size a ≤ S32x128x4096.size a) ∧
  (∀ (hinb : ∀ a, (k0_off119 v1486) a + S1x64x1024.size a ≤ S32x128x4096.size a), (Rect.unit (s := S32x128x4096) (k0_off119 v1486) S1x64x1024.size hinb).WholeWords (EltTy.packing .fp8e5m2)) ∧
  (∀ a, (k0_off121 v1486) a + S1x64x1024.size a ≤ S32x128x4096.size a) ∧
  (∀ (hinb : ∀ a, (k0_off121 v1486) a + S1x64x1024.size a ≤ S32x128x4096.size a), (Rect.unit (s := S32x128x4096) (k0_off121 v1486) S1x64x1024.size hinb).WholeWords (EltTy.packing .fp8e5m2)) ∧
  (∀ a, (k0_off123 v1486) a + S1x64x1024.size a ≤ S32x128x4096.size a) ∧
  (∀ (hinb : ∀ a, (k0_off123 v1486) a + S1x64x1024.size a ≤ S32x128x4096.size a), (Rect.unit (s := S32x128x4096) (k0_off123 v1486) S1x64x1024.size hinb).WholeWords (EltTy.packing .fp8e5m2)) ∧
  (∀ a, (k0_off125 v1486) a + S1x64x4096.size a ≤ S32x128x4096.size a) ∧
  (∀ a, (k0_off126 v1486) a + S64x64.size a ≤ S4096x64.size a)
theorem k0_off117_inb : ∀ (v1486 : BitVec 32) (k0_hw19 : k0_chk19 v1486), ∀ a, (k0_off117 v1486) a + S1x64x1024.size a ≤ S32x128x4096.size a := fun v1486 k0_hw19 => k0_hw19.1
theorem k0_off117_wordsfp8e5m2 : ∀ (v1486 : BitVec 32) (k0_hw19 : k0_chk19 v1486), (Rect.unit (s := S32x128x4096) (k0_off117 v1486) S1x64x1024.size (k0_off117_inb v1486 k0_hw19)).WholeWords (EltTy.packing .fp8e5m2) := fun v1486 k0_hw19 => k0_hw19.2.1 (k0_off117_inb v1486 k0_hw19)
theorem k0_off119_inb : ∀ (v1486 : BitVec 32) (k0_hw19 : k0_chk19 v1486), ∀ a, (k0_off119 v1486) a + S1x64x1024.size a ≤ S32x128x4096.size a := fun v1486 k0_hw19 => k0_hw19.2.2.1
theorem k0_off119_wordsfp8e5m2 : ∀ (v1486 : BitVec 32) (k0_hw19 : k0_chk19 v1486), (Rect.unit (s := S32x128x4096) (k0_off119 v1486) S1x64x1024.size (k0_off119_inb v1486 k0_hw19)).WholeWords (EltTy.packing .fp8e5m2) := fun v1486 k0_hw19 => k0_hw19.2.2.2.1 (k0_off119_inb v1486 k0_hw19)
theorem k0_off121_inb : ∀ (v1486 : BitVec 32) (k0_hw19 : k0_chk19 v1486), ∀ a, (k0_off121 v1486) a + S1x64x1024.size a ≤ S32x128x4096.size a := fun v1486 k0_hw19 => k0_hw19.2.2.2.2.1
theorem k0_off121_wordsfp8e5m2 : ∀ (v1486 : BitVec 32) (k0_hw19 : k0_chk19 v1486), (Rect.unit (s := S32x128x4096) (k0_off121 v1486) S1x64x1024.size (k0_off121_inb v1486 k0_hw19)).WholeWords (EltTy.packing .fp8e5m2) := fun v1486 k0_hw19 => k0_hw19.2.2.2.2.2.1 (k0_off121_inb v1486 k0_hw19)
theorem k0_off123_inb : ∀ (v1486 : BitVec 32) (k0_hw19 : k0_chk19 v1486), ∀ a, (k0_off123 v1486) a + S1x64x1024.size a ≤ S32x128x4096.size a := fun v1486 k0_hw19 => k0_hw19.2.2.2.2.2.2.1
theorem k0_off123_wordsfp8e5m2 : ∀ (v1486 : BitVec 32) (k0_hw19 : k0_chk19 v1486), (Rect.unit (s := S32x128x4096) (k0_off123 v1486) S1x64x1024.size (k0_off123_inb v1486 k0_hw19)).WholeWords (EltTy.packing .fp8e5m2) := fun v1486 k0_hw19 => k0_hw19.2.2.2.2.2.2.2.1 (k0_off123_inb v1486 k0_hw19)
theorem k0_off125_inb : ∀ (v1486 : BitVec 32) (k0_hw19 : k0_chk19 v1486), ∀ a, (k0_off125 v1486) a + S1x64x4096.size a ≤ S32x128x4096.size a := fun v1486 k0_hw19 => k0_hw19.2.2.2.2.2.2.2.2.1
theorem k0_off126_inb : ∀ (v1486 : BitVec 32) (k0_hw19 : k0_chk19 v1486), ∀ a, (k0_off126 v1486) a + S64x64.size a ≤ S4096x64.size a := fun v1486 k0_hw19 => k0_hw19.2.2.2.2.2.2.2.2.2

def k0_off127 (v1488 : BitVec 32) : Fin 3 → Nat :=
  let v1645 : Index := Scalar.indexCast v1488
  let c64_1634 : Index := 64#32
  let c0_1635 : Index := 0#32
  ![v1645.toNat, 64, 0]
def k0_off128 (v1488 : BitVec 32) : Fin 2 → Nat :=
  let c128_i32_1637 : BitVec 32 := 128#32
  let v1649 : BitVec 32 := Scalar.muli v1488 c128_i32_1637
  let c64_i32_1638 : BitVec 32 := 64#32
  let v1650 : BitVec 32 := Scalar.addi v1649 c64_i32_1638
  let v1655 : Index := Scalar.indexCast v1650
  let c0_1639 : Index := 0#32
  ![v1655.toNat, 0]

def k0_chk20 (v1488 : BitVec 32) : Prop :=
  (∀ a, (k0_off118 v1488) a + S1x64x1024.size a ≤ S32x128x4096.size a) ∧
  (∀ (hinb : ∀ a, (k0_off118 v1488) a + S1x64x1024.size a ≤ S32x128x4096.size a), (Rect.unit (s := S32x128x4096) (k0_off118 v1488) S1x64x1024.size hinb).WholeWords (EltTy.packing .fp8e5m2)) ∧
  (∀ a, (k0_off120 v1488) a + S1x64x1024.size a ≤ S32x128x4096.size a) ∧
  (∀ (hinb : ∀ a, (k0_off120 v1488) a + S1x64x1024.size a ≤ S32x128x4096.size a), (Rect.unit (s := S32x128x4096) (k0_off120 v1488) S1x64x1024.size hinb).WholeWords (EltTy.packing .fp8e5m2)) ∧
  (∀ a, (k0_off122 v1488) a + S1x64x1024.size a ≤ S32x128x4096.size a) ∧
  (∀ (hinb : ∀ a, (k0_off122 v1488) a + S1x64x1024.size a ≤ S32x128x4096.size a), (Rect.unit (s := S32x128x4096) (k0_off122 v1488) S1x64x1024.size hinb).WholeWords (EltTy.packing .fp8e5m2)) ∧
  (∀ a, (k0_off124 v1488) a + S1x64x1024.size a ≤ S32x128x4096.size a) ∧
  (∀ (hinb : ∀ a, (k0_off124 v1488) a + S1x64x1024.size a ≤ S32x128x4096.size a), (Rect.unit (s := S32x128x4096) (k0_off124 v1488) S1x64x1024.size hinb).WholeWords (EltTy.packing .fp8e5m2)) ∧
  (∀ a, (k0_off127 v1488) a + S1x64x4096.size a ≤ S32x128x4096.size a) ∧
  (∀ a, (k0_off128 v1488) a + S64x64.size a ≤ S4096x64.size a)
theorem k0_off118_inb : ∀ (v1488 : BitVec 32) (k0_hw20 : k0_chk20 v1488), ∀ a, (k0_off118 v1488) a + S1x64x1024.size a ≤ S32x128x4096.size a := fun v1488 k0_hw20 => k0_hw20.1
theorem k0_off118_wordsfp8e5m2 : ∀ (v1488 : BitVec 32) (k0_hw20 : k0_chk20 v1488), (Rect.unit (s := S32x128x4096) (k0_off118 v1488) S1x64x1024.size (k0_off118_inb v1488 k0_hw20)).WholeWords (EltTy.packing .fp8e5m2) := fun v1488 k0_hw20 => k0_hw20.2.1 (k0_off118_inb v1488 k0_hw20)
theorem k0_off120_inb : ∀ (v1488 : BitVec 32) (k0_hw20 : k0_chk20 v1488), ∀ a, (k0_off120 v1488) a + S1x64x1024.size a ≤ S32x128x4096.size a := fun v1488 k0_hw20 => k0_hw20.2.2.1
theorem k0_off120_wordsfp8e5m2 : ∀ (v1488 : BitVec 32) (k0_hw20 : k0_chk20 v1488), (Rect.unit (s := S32x128x4096) (k0_off120 v1488) S1x64x1024.size (k0_off120_inb v1488 k0_hw20)).WholeWords (EltTy.packing .fp8e5m2) := fun v1488 k0_hw20 => k0_hw20.2.2.2.1 (k0_off120_inb v1488 k0_hw20)
theorem k0_off122_inb : ∀ (v1488 : BitVec 32) (k0_hw20 : k0_chk20 v1488), ∀ a, (k0_off122 v1488) a + S1x64x1024.size a ≤ S32x128x4096.size a := fun v1488 k0_hw20 => k0_hw20.2.2.2.2.1
theorem k0_off122_wordsfp8e5m2 : ∀ (v1488 : BitVec 32) (k0_hw20 : k0_chk20 v1488), (Rect.unit (s := S32x128x4096) (k0_off122 v1488) S1x64x1024.size (k0_off122_inb v1488 k0_hw20)).WholeWords (EltTy.packing .fp8e5m2) := fun v1488 k0_hw20 => k0_hw20.2.2.2.2.2.1 (k0_off122_inb v1488 k0_hw20)
theorem k0_off124_inb : ∀ (v1488 : BitVec 32) (k0_hw20 : k0_chk20 v1488), ∀ a, (k0_off124 v1488) a + S1x64x1024.size a ≤ S32x128x4096.size a := fun v1488 k0_hw20 => k0_hw20.2.2.2.2.2.2.1
theorem k0_off124_wordsfp8e5m2 : ∀ (v1488 : BitVec 32) (k0_hw20 : k0_chk20 v1488), (Rect.unit (s := S32x128x4096) (k0_off124 v1488) S1x64x1024.size (k0_off124_inb v1488 k0_hw20)).WholeWords (EltTy.packing .fp8e5m2) := fun v1488 k0_hw20 => k0_hw20.2.2.2.2.2.2.2.1 (k0_off124_inb v1488 k0_hw20)
theorem k0_off127_inb : ∀ (v1488 : BitVec 32) (k0_hw20 : k0_chk20 v1488), ∀ a, (k0_off127 v1488) a + S1x64x4096.size a ≤ S32x128x4096.size a := fun v1488 k0_hw20 => k0_hw20.2.2.2.2.2.2.2.2.1
theorem k0_off128_inb : ∀ (v1488 : BitVec 32) (k0_hw20 : k0_chk20 v1488), ∀ a, (k0_off128 v1488) a + S64x64.size a ≤ S4096x64.size a := fun v1488 k0_hw20 => k0_hw20.2.2.2.2.2.2.2.2.2

def k0_off129 (d0 : Dev nD) : Fin 2 → Nat :=
  let c10 : Index := 10#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1657 : Index := Scalar.indexCast v2
  ![10, v1657.toNat]
def k0_off130 (v1658 : BitVec 32) : Fin 3 → Nat :=
  let c0_i32_1647 : BitVec 32 := 0#32
  let c0_i32_1648 : BitVec 32 := 0#32
  ![v1658.toNat, 0, 0]

def k0_dev83 (v4 : BitVec 32) : Nat :=
  let c0_i32_1655 : BitVec 32 := 0#32
  let c1_i32_1654 : BitVec 32 := 1#32
  let v1669 : BitVec 32 := Scalar.muli v4 c1_i32_1654
  let v1670 : BitVec 32 := Scalar.addi c0_i32_1655 v1669
  v1670.toNat
def k0_off131 (v1660 : BitVec 32) : Fin 3 → Nat :=
  let c64_i32_1666 : BitVec 32 := 64#32
  let c0_i32_1667 : BitVec 32 := 0#32
  ![v1660.toNat, 64, 0]

def k0_dev84 (v6 : BitVec 32) : Nat :=
  let c0_i32_1675 : BitVec 32 := 0#32
  let c1_i32_1674 : BitVec 32 := 1#32
  let v1687 : BitVec 32 := Scalar.muli v6 c1_i32_1674
  let v1688 : BitVec 32 := Scalar.addi c0_i32_1675 v1687
  v1688.toNat
def k0_off132 (v1658 : BitVec 32) : Fin 3 → Nat :=
  let c0_i32_1686 : BitVec 32 := 0#32
  let c1024_i32_1687 : BitVec 32 := 1024#32
  ![v1658.toNat, 0, 1024]
def k0_dev85 (v4 : BitVec 32) : Nat :=
  let c0_i32_1695 : BitVec 32 := 0#32
  let c1_i32_1694 : BitVec 32 := 1#32
  let v1705 : BitVec 32 := Scalar.muli v4 c1_i32_1694
  let v1706 : BitVec 32 := Scalar.addi c0_i32_1695 v1705
  v1706.toNat
def k0_off133 (v1660 : BitVec 32) : Fin 3 → Nat :=
  let c64_i32_1706 : BitVec 32 := 64#32
  let c1024_i32_1707 : BitVec 32 := 1024#32
  ![v1660.toNat, 64, 1024]
def k0_dev86 (v6 : BitVec 32) : Nat :=
  let c0_i32_1715 : BitVec 32 := 0#32
  let c1_i32_1714 : BitVec 32 := 1#32
  let v1723 : BitVec 32 := Scalar.muli v6 c1_i32_1714
  let v1724 : BitVec 32 := Scalar.addi c0_i32_1715 v1723
  v1724.toNat
def k0_off134 (v1658 : BitVec 32) : Fin 3 → Nat :=
  let c0_i32_1726 : BitVec 32 := 0#32
  let c2048_i32_1727 : BitVec 32 := 2048#32
  ![v1658.toNat, 0, 2048]
def k0_dev87 (v4 : BitVec 32) : Nat :=
  let c0_i32_1735 : BitVec 32 := 0#32
  let c1_i32_1734 : BitVec 32 := 1#32
  let v1741 : BitVec 32 := Scalar.muli v4 c1_i32_1734
  let v1742 : BitVec 32 := Scalar.addi c0_i32_1735 v1741
  v1742.toNat
def k0_off135 (v1660 : BitVec 32) : Fin 3 → Nat :=
  let c64_i32_1746 : BitVec 32 := 64#32
  let c2048_i32_1747 : BitVec 32 := 2048#32
  ![v1660.toNat, 64, 2048]
def k0_dev88 (v6 : BitVec 32) : Nat :=
  let c0_i32_1755 : BitVec 32 := 0#32
  let c1_i32_1754 : BitVec 32 := 1#32
  let v1759 : BitVec 32 := Scalar.muli v6 c1_i32_1754
  let v1760 : BitVec 32 := Scalar.addi c0_i32_1755 v1759
  v1760.toNat
def k0_off136 (v1658 : BitVec 32) : Fin 3 → Nat :=
  let c0_i32_1766 : BitVec 32 := 0#32
  let c3072_i32_1767 : BitVec 32 := 3072#32
  ![v1658.toNat, 0, 3072]
def k0_dev89 (v4 : BitVec 32) : Nat :=
  let c0_i32_1775 : BitVec 32 := 0#32
  let c1_i32_1774 : BitVec 32 := 1#32
  let v1777 : BitVec 32 := Scalar.muli v4 c1_i32_1774
  let v1778 : BitVec 32 := Scalar.addi c0_i32_1775 v1777
  v1778.toNat
def k0_off137 (v1660 : BitVec 32) : Fin 3 → Nat :=
  let c64_i32_1786 : BitVec 32 := 64#32
  let c3072_i32_1787 : BitVec 32 := 3072#32
  ![v1660.toNat, 64, 3072]
def k0_dev90 (v6 : BitVec 32) : Nat :=
  let c0_i32_1795 : BitVec 32 := 0#32
  let c1_i32_1794 : BitVec 32 := 1#32
  let v1795 : BitVec 32 := Scalar.muli v6 c1_i32_1794
  let v1796 : BitVec 32 := Scalar.addi c0_i32_1795 v1795
  v1796.toNat
def k0_off138 (v1658 : BitVec 32) : Fin 3 → Nat :=
  let v1805 : Index := Scalar.indexCast v1658
  let c0_1800 : Index := 0#32
  let c0_1801 : Index := 0#32
  ![v1805.toNat, 0, 0]
def k0_off139 (v1658 : BitVec 32) : Fin 2 → Nat :=
  let c128_i32_1803 : BitVec 32 := 128#32
  let v1809 : BitVec 32 := Scalar.muli v1658 c128_i32_1803
  let c0_i32_1804 : BitVec 32 := 0#32
  let v1810 : BitVec 32 := Scalar.addi v1809 c0_i32_1804
  let v1815 : Index := Scalar.indexCast v1810
  let c0_1805 : Index := 0#32
  ![v1815.toNat, 0]

def k0_chk21 (v1658 : BitVec 32) : Prop :=
  (∀ a, (k0_off130 v1658) a + S1x64x1024.size a ≤ S32x128x4096.size a) ∧
  (∀ (hinb : ∀ a, (k0_off130 v1658) a + S1x64x1024.size a ≤ S32x128x4096.size a), (Rect.unit (s := S32x128x4096) (k0_off130 v1658) S1x64x1024.size hinb).WholeWords (EltTy.packing .fp8e5m2)) ∧
  (∀ a, (k0_off132 v1658) a + S1x64x1024.size a ≤ S32x128x4096.size a) ∧
  (∀ (hinb : ∀ a, (k0_off132 v1658) a + S1x64x1024.size a ≤ S32x128x4096.size a), (Rect.unit (s := S32x128x4096) (k0_off132 v1658) S1x64x1024.size hinb).WholeWords (EltTy.packing .fp8e5m2)) ∧
  (∀ a, (k0_off134 v1658) a + S1x64x1024.size a ≤ S32x128x4096.size a) ∧
  (∀ (hinb : ∀ a, (k0_off134 v1658) a + S1x64x1024.size a ≤ S32x128x4096.size a), (Rect.unit (s := S32x128x4096) (k0_off134 v1658) S1x64x1024.size hinb).WholeWords (EltTy.packing .fp8e5m2)) ∧
  (∀ a, (k0_off136 v1658) a + S1x64x1024.size a ≤ S32x128x4096.size a) ∧
  (∀ (hinb : ∀ a, (k0_off136 v1658) a + S1x64x1024.size a ≤ S32x128x4096.size a), (Rect.unit (s := S32x128x4096) (k0_off136 v1658) S1x64x1024.size hinb).WholeWords (EltTy.packing .fp8e5m2)) ∧
  (∀ a, (k0_off138 v1658) a + S1x64x4096.size a ≤ S32x128x4096.size a) ∧
  (∀ a, (k0_off139 v1658) a + S64x64.size a ≤ S4096x64.size a)
theorem k0_off130_inb : ∀ (v1658 : BitVec 32) (k0_hw21 : k0_chk21 v1658), ∀ a, (k0_off130 v1658) a + S1x64x1024.size a ≤ S32x128x4096.size a := fun v1658 k0_hw21 => k0_hw21.1
theorem k0_off130_wordsfp8e5m2 : ∀ (v1658 : BitVec 32) (k0_hw21 : k0_chk21 v1658), (Rect.unit (s := S32x128x4096) (k0_off130 v1658) S1x64x1024.size (k0_off130_inb v1658 k0_hw21)).WholeWords (EltTy.packing .fp8e5m2) := fun v1658 k0_hw21 => k0_hw21.2.1 (k0_off130_inb v1658 k0_hw21)
theorem k0_off132_inb : ∀ (v1658 : BitVec 32) (k0_hw21 : k0_chk21 v1658), ∀ a, (k0_off132 v1658) a + S1x64x1024.size a ≤ S32x128x4096.size a := fun v1658 k0_hw21 => k0_hw21.2.2.1
theorem k0_off132_wordsfp8e5m2 : ∀ (v1658 : BitVec 32) (k0_hw21 : k0_chk21 v1658), (Rect.unit (s := S32x128x4096) (k0_off132 v1658) S1x64x1024.size (k0_off132_inb v1658 k0_hw21)).WholeWords (EltTy.packing .fp8e5m2) := fun v1658 k0_hw21 => k0_hw21.2.2.2.1 (k0_off132_inb v1658 k0_hw21)
theorem k0_off134_inb : ∀ (v1658 : BitVec 32) (k0_hw21 : k0_chk21 v1658), ∀ a, (k0_off134 v1658) a + S1x64x1024.size a ≤ S32x128x4096.size a := fun v1658 k0_hw21 => k0_hw21.2.2.2.2.1
theorem k0_off134_wordsfp8e5m2 : ∀ (v1658 : BitVec 32) (k0_hw21 : k0_chk21 v1658), (Rect.unit (s := S32x128x4096) (k0_off134 v1658) S1x64x1024.size (k0_off134_inb v1658 k0_hw21)).WholeWords (EltTy.packing .fp8e5m2) := fun v1658 k0_hw21 => k0_hw21.2.2.2.2.2.1 (k0_off134_inb v1658 k0_hw21)
theorem k0_off136_inb : ∀ (v1658 : BitVec 32) (k0_hw21 : k0_chk21 v1658), ∀ a, (k0_off136 v1658) a + S1x64x1024.size a ≤ S32x128x4096.size a := fun v1658 k0_hw21 => k0_hw21.2.2.2.2.2.2.1
theorem k0_off136_wordsfp8e5m2 : ∀ (v1658 : BitVec 32) (k0_hw21 : k0_chk21 v1658), (Rect.unit (s := S32x128x4096) (k0_off136 v1658) S1x64x1024.size (k0_off136_inb v1658 k0_hw21)).WholeWords (EltTy.packing .fp8e5m2) := fun v1658 k0_hw21 => k0_hw21.2.2.2.2.2.2.2.1 (k0_off136_inb v1658 k0_hw21)
theorem k0_off138_inb : ∀ (v1658 : BitVec 32) (k0_hw21 : k0_chk21 v1658), ∀ a, (k0_off138 v1658) a + S1x64x4096.size a ≤ S32x128x4096.size a := fun v1658 k0_hw21 => k0_hw21.2.2.2.2.2.2.2.2.1
theorem k0_off139_inb : ∀ (v1658 : BitVec 32) (k0_hw21 : k0_chk21 v1658), ∀ a, (k0_off139 v1658) a + S64x64.size a ≤ S4096x64.size a := fun v1658 k0_hw21 => k0_hw21.2.2.2.2.2.2.2.2.2

def k0_off140 (v1660 : BitVec 32) : Fin 3 → Nat :=
  let v1817 : Index := Scalar.indexCast v1660
  let c64_1806 : Index := 64#32
  let c0_1807 : Index := 0#32
  ![v1817.toNat, 64, 0]
def k0_off141 (v1660 : BitVec 32) : Fin 2 → Nat :=
  let c128_i32_1809 : BitVec 32 := 128#32
  let v1821 : BitVec 32 := Scalar.muli v1660 c128_i32_1809
  let c64_i32_1810 : BitVec 32 := 64#32
  let v1822 : BitVec 32 := Scalar.addi v1821 c64_i32_1810
  let v1827 : Index := Scalar.indexCast v1822
  let c0_1811 : Index := 0#32
  ![v1827.toNat, 0]

def k0_chk22 (v1660 : BitVec 32) : Prop :=
  (∀ a, (k0_off131 v1660) a + S1x64x1024.size a ≤ S32x128x4096.size a) ∧
  (∀ (hinb : ∀ a, (k0_off131 v1660) a + S1x64x1024.size a ≤ S32x128x4096.size a), (Rect.unit (s := S32x128x4096) (k0_off131 v1660) S1x64x1024.size hinb).WholeWords (EltTy.packing .fp8e5m2)) ∧
  (∀ a, (k0_off133 v1660) a + S1x64x1024.size a ≤ S32x128x4096.size a) ∧
  (∀ (hinb : ∀ a, (k0_off133 v1660) a + S1x64x1024.size a ≤ S32x128x4096.size a), (Rect.unit (s := S32x128x4096) (k0_off133 v1660) S1x64x1024.size hinb).WholeWords (EltTy.packing .fp8e5m2)) ∧
  (∀ a, (k0_off135 v1660) a + S1x64x1024.size a ≤ S32x128x4096.size a) ∧
  (∀ (hinb : ∀ a, (k0_off135 v1660) a + S1x64x1024.size a ≤ S32x128x4096.size a), (Rect.unit (s := S32x128x4096) (k0_off135 v1660) S1x64x1024.size hinb).WholeWords (EltTy.packing .fp8e5m2)) ∧
  (∀ a, (k0_off137 v1660) a + S1x64x1024.size a ≤ S32x128x4096.size a) ∧
  (∀ (hinb : ∀ a, (k0_off137 v1660) a + S1x64x1024.size a ≤ S32x128x4096.size a), (Rect.unit (s := S32x128x4096) (k0_off137 v1660) S1x64x1024.size hinb).WholeWords (EltTy.packing .fp8e5m2)) ∧
  (∀ a, (k0_off140 v1660) a + S1x64x4096.size a ≤ S32x128x4096.size a) ∧
  (∀ a, (k0_off141 v1660) a + S64x64.size a ≤ S4096x64.size a)
theorem k0_off131_inb : ∀ (v1660 : BitVec 32) (k0_hw22 : k0_chk22 v1660), ∀ a, (k0_off131 v1660) a + S1x64x1024.size a ≤ S32x128x4096.size a := fun v1660 k0_hw22 => k0_hw22.1
theorem k0_off131_wordsfp8e5m2 : ∀ (v1660 : BitVec 32) (k0_hw22 : k0_chk22 v1660), (Rect.unit (s := S32x128x4096) (k0_off131 v1660) S1x64x1024.size (k0_off131_inb v1660 k0_hw22)).WholeWords (EltTy.packing .fp8e5m2) := fun v1660 k0_hw22 => k0_hw22.2.1 (k0_off131_inb v1660 k0_hw22)
theorem k0_off133_inb : ∀ (v1660 : BitVec 32) (k0_hw22 : k0_chk22 v1660), ∀ a, (k0_off133 v1660) a + S1x64x1024.size a ≤ S32x128x4096.size a := fun v1660 k0_hw22 => k0_hw22.2.2.1
theorem k0_off133_wordsfp8e5m2 : ∀ (v1660 : BitVec 32) (k0_hw22 : k0_chk22 v1660), (Rect.unit (s := S32x128x4096) (k0_off133 v1660) S1x64x1024.size (k0_off133_inb v1660 k0_hw22)).WholeWords (EltTy.packing .fp8e5m2) := fun v1660 k0_hw22 => k0_hw22.2.2.2.1 (k0_off133_inb v1660 k0_hw22)
theorem k0_off135_inb : ∀ (v1660 : BitVec 32) (k0_hw22 : k0_chk22 v1660), ∀ a, (k0_off135 v1660) a + S1x64x1024.size a ≤ S32x128x4096.size a := fun v1660 k0_hw22 => k0_hw22.2.2.2.2.1
theorem k0_off135_wordsfp8e5m2 : ∀ (v1660 : BitVec 32) (k0_hw22 : k0_chk22 v1660), (Rect.unit (s := S32x128x4096) (k0_off135 v1660) S1x64x1024.size (k0_off135_inb v1660 k0_hw22)).WholeWords (EltTy.packing .fp8e5m2) := fun v1660 k0_hw22 => k0_hw22.2.2.2.2.2.1 (k0_off135_inb v1660 k0_hw22)
theorem k0_off137_inb : ∀ (v1660 : BitVec 32) (k0_hw22 : k0_chk22 v1660), ∀ a, (k0_off137 v1660) a + S1x64x1024.size a ≤ S32x128x4096.size a := fun v1660 k0_hw22 => k0_hw22.2.2.2.2.2.2.1
theorem k0_off137_wordsfp8e5m2 : ∀ (v1660 : BitVec 32) (k0_hw22 : k0_chk22 v1660), (Rect.unit (s := S32x128x4096) (k0_off137 v1660) S1x64x1024.size (k0_off137_inb v1660 k0_hw22)).WholeWords (EltTy.packing .fp8e5m2) := fun v1660 k0_hw22 => k0_hw22.2.2.2.2.2.2.2.1 (k0_off137_inb v1660 k0_hw22)
theorem k0_off140_inb : ∀ (v1660 : BitVec 32) (k0_hw22 : k0_chk22 v1660), ∀ a, (k0_off140 v1660) a + S1x64x4096.size a ≤ S32x128x4096.size a := fun v1660 k0_hw22 => k0_hw22.2.2.2.2.2.2.2.2.1
theorem k0_off141_inb : ∀ (v1660 : BitVec 32) (k0_hw22 : k0_chk22 v1660), ∀ a, (k0_off141 v1660) a + S64x64.size a ≤ S4096x64.size a := fun v1660 k0_hw22 => k0_hw22.2.2.2.2.2.2.2.2.2

def k0_off142 (d0 : Dev nD) : Fin 2 → Nat :=
  let c11 : Index := 11#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1829 : Index := Scalar.indexCast v2
  ![11, v1829.toNat]
def k0_off143 (v1830 : BitVec 32) : Fin 3 → Nat :=
  let c0_i32_1819 : BitVec 32 := 0#32
  let c0_i32_1820 : BitVec 32 := 0#32
  ![v1830.toNat, 0, 0]

def k0_dev91 (v4 : BitVec 32) : Nat :=
  let c0_i32_1827 : BitVec 32 := 0#32
  let c1_i32_1826 : BitVec 32 := 1#32
  let v1841 : BitVec 32 := Scalar.muli v4 c1_i32_1826
  let v1842 : BitVec 32 := Scalar.addi c0_i32_1827 v1841
  v1842.toNat
def k0_off144 (v1832 : BitVec 32) : Fin 3 → Nat :=
  let c64_i32_1838 : BitVec 32 := 64#32
  let c0_i32_1839 : BitVec 32 := 0#32
  ![v1832.toNat, 64, 0]

def k0_dev92 (v6 : BitVec 32) : Nat :=
  let c0_i32_1847 : BitVec 32 := 0#32
  let c1_i32_1846 : BitVec 32 := 1#32
  let v1859 : BitVec 32 := Scalar.muli v6 c1_i32_1846
  let v1860 : BitVec 32 := Scalar.addi c0_i32_1847 v1859
  v1860.toNat
def k0_off145 (v1830 : BitVec 32) : Fin 3 → Nat :=
  let c0_i32_1858 : BitVec 32 := 0#32
  let c1024_i32_1859 : BitVec 32 := 1024#32
  ![v1830.toNat, 0, 1024]
def k0_dev93 (v4 : BitVec 32) : Nat :=
  let c0_i32_1867 : BitVec 32 := 0#32
  let c1_i32_1866 : BitVec 32 := 1#32
  let v1877 : BitVec 32 := Scalar.muli v4 c1_i32_1866
  let v1878 : BitVec 32 := Scalar.addi c0_i32_1867 v1877
  v1878.toNat
def k0_off146 (v1832 : BitVec 32) : Fin 3 → Nat :=
  let c64_i32_1878 : BitVec 32 := 64#32
  let c1024_i32_1879 : BitVec 32 := 1024#32
  ![v1832.toNat, 64, 1024]
def k0_dev94 (v6 : BitVec 32) : Nat :=
  let c0_i32_1887 : BitVec 32 := 0#32
  let c1_i32_1886 : BitVec 32 := 1#32
  let v1895 : BitVec 32 := Scalar.muli v6 c1_i32_1886
  let v1896 : BitVec 32 := Scalar.addi c0_i32_1887 v1895
  v1896.toNat
def k0_off147 (v1830 : BitVec 32) : Fin 3 → Nat :=
  let c0_i32_1898 : BitVec 32 := 0#32
  let c2048_i32_1899 : BitVec 32 := 2048#32
  ![v1830.toNat, 0, 2048]
def k0_dev95 (v4 : BitVec 32) : Nat :=
  let c0_i32_1907 : BitVec 32 := 0#32
  let c1_i32_1906 : BitVec 32 := 1#32
  let v1913 : BitVec 32 := Scalar.muli v4 c1_i32_1906
  let v1914 : BitVec 32 := Scalar.addi c0_i32_1907 v1913
  v1914.toNat
def k0_off148 (v1832 : BitVec 32) : Fin 3 → Nat :=
  let c64_i32_1918 : BitVec 32 := 64#32
  let c2048_i32_1919 : BitVec 32 := 2048#32
  ![v1832.toNat, 64, 2048]
def k0_dev96 (v6 : BitVec 32) : Nat :=
  let c0_i32_1927 : BitVec 32 := 0#32
  let c1_i32_1926 : BitVec 32 := 1#32
  let v1931 : BitVec 32 := Scalar.muli v6 c1_i32_1926
  let v1932 : BitVec 32 := Scalar.addi c0_i32_1927 v1931
  v1932.toNat
def k0_off149 (v1830 : BitVec 32) : Fin 3 → Nat :=
  let c0_i32_1938 : BitVec 32 := 0#32
  let c3072_i32_1939 : BitVec 32 := 3072#32
  ![v1830.toNat, 0, 3072]
def k0_dev97 (v4 : BitVec 32) : Nat :=
  let c0_i32_1947 : BitVec 32 := 0#32
  let c1_i32_1946 : BitVec 32 := 1#32
  let v1949 : BitVec 32 := Scalar.muli v4 c1_i32_1946
  let v1950 : BitVec 32 := Scalar.addi c0_i32_1947 v1949
  v1950.toNat
def k0_off150 (v1832 : BitVec 32) : Fin 3 → Nat :=
  let c64_i32_1958 : BitVec 32 := 64#32
  let c3072_i32_1959 : BitVec 32 := 3072#32
  ![v1832.toNat, 64, 3072]
def k0_dev98 (v6 : BitVec 32) : Nat :=
  let c0_i32_1967 : BitVec 32 := 0#32
  let c1_i32_1966 : BitVec 32 := 1#32
  let v1967 : BitVec 32 := Scalar.muli v6 c1_i32_1966
  let v1968 : BitVec 32 := Scalar.addi c0_i32_1967 v1967
  v1968.toNat
def k0_off151 (v1830 : BitVec 32) : Fin 3 → Nat :=
  let v1977 : Index := Scalar.indexCast v1830
  let c0_1972 : Index := 0#32
  let c0_1973 : Index := 0#32
  ![v1977.toNat, 0, 0]
def k0_off152 (v1830 : BitVec 32) : Fin 2 → Nat :=
  let c128_i32_1975 : BitVec 32 := 128#32
  let v1981 : BitVec 32 := Scalar.muli v1830 c128_i32_1975
  let c0_i32_1976 : BitVec 32 := 0#32
  let v1982 : BitVec 32 := Scalar.addi v1981 c0_i32_1976
  let v1987 : Index := Scalar.indexCast v1982
  let c0_1977 : Index := 0#32
  ![v1987.toNat, 0]

def k0_chk23 (v1830 : BitVec 32) : Prop :=
  (∀ a, (k0_off143 v1830) a + S1x64x1024.size a ≤ S32x128x4096.size a) ∧
  (∀ (hinb : ∀ a, (k0_off143 v1830) a + S1x64x1024.size a ≤ S32x128x4096.size a), (Rect.unit (s := S32x128x4096) (k0_off143 v1830) S1x64x1024.size hinb).WholeWords (EltTy.packing .fp8e5m2)) ∧
  (∀ a, (k0_off145 v1830) a + S1x64x1024.size a ≤ S32x128x4096.size a) ∧
  (∀ (hinb : ∀ a, (k0_off145 v1830) a + S1x64x1024.size a ≤ S32x128x4096.size a), (Rect.unit (s := S32x128x4096) (k0_off145 v1830) S1x64x1024.size hinb).WholeWords (EltTy.packing .fp8e5m2)) ∧
  (∀ a, (k0_off147 v1830) a + S1x64x1024.size a ≤ S32x128x4096.size a) ∧
  (∀ (hinb : ∀ a, (k0_off147 v1830) a + S1x64x1024.size a ≤ S32x128x4096.size a), (Rect.unit (s := S32x128x4096) (k0_off147 v1830) S1x64x1024.size hinb).WholeWords (EltTy.packing .fp8e5m2)) ∧
  (∀ a, (k0_off149 v1830) a + S1x64x1024.size a ≤ S32x128x4096.size a) ∧
  (∀ (hinb : ∀ a, (k0_off149 v1830) a + S1x64x1024.size a ≤ S32x128x4096.size a), (Rect.unit (s := S32x128x4096) (k0_off149 v1830) S1x64x1024.size hinb).WholeWords (EltTy.packing .fp8e5m2)) ∧
  (∀ a, (k0_off151 v1830) a + S1x64x4096.size a ≤ S32x128x4096.size a) ∧
  (∀ a, (k0_off152 v1830) a + S64x64.size a ≤ S4096x64.size a)
theorem k0_off143_inb : ∀ (v1830 : BitVec 32) (k0_hw23 : k0_chk23 v1830), ∀ a, (k0_off143 v1830) a + S1x64x1024.size a ≤ S32x128x4096.size a := fun v1830 k0_hw23 => k0_hw23.1
theorem k0_off143_wordsfp8e5m2 : ∀ (v1830 : BitVec 32) (k0_hw23 : k0_chk23 v1830), (Rect.unit (s := S32x128x4096) (k0_off143 v1830) S1x64x1024.size (k0_off143_inb v1830 k0_hw23)).WholeWords (EltTy.packing .fp8e5m2) := fun v1830 k0_hw23 => k0_hw23.2.1 (k0_off143_inb v1830 k0_hw23)
theorem k0_off145_inb : ∀ (v1830 : BitVec 32) (k0_hw23 : k0_chk23 v1830), ∀ a, (k0_off145 v1830) a + S1x64x1024.size a ≤ S32x128x4096.size a := fun v1830 k0_hw23 => k0_hw23.2.2.1
theorem k0_off145_wordsfp8e5m2 : ∀ (v1830 : BitVec 32) (k0_hw23 : k0_chk23 v1830), (Rect.unit (s := S32x128x4096) (k0_off145 v1830) S1x64x1024.size (k0_off145_inb v1830 k0_hw23)).WholeWords (EltTy.packing .fp8e5m2) := fun v1830 k0_hw23 => k0_hw23.2.2.2.1 (k0_off145_inb v1830 k0_hw23)
theorem k0_off147_inb : ∀ (v1830 : BitVec 32) (k0_hw23 : k0_chk23 v1830), ∀ a, (k0_off147 v1830) a + S1x64x1024.size a ≤ S32x128x4096.size a := fun v1830 k0_hw23 => k0_hw23.2.2.2.2.1
theorem k0_off147_wordsfp8e5m2 : ∀ (v1830 : BitVec 32) (k0_hw23 : k0_chk23 v1830), (Rect.unit (s := S32x128x4096) (k0_off147 v1830) S1x64x1024.size (k0_off147_inb v1830 k0_hw23)).WholeWords (EltTy.packing .fp8e5m2) := fun v1830 k0_hw23 => k0_hw23.2.2.2.2.2.1 (k0_off147_inb v1830 k0_hw23)
theorem k0_off149_inb : ∀ (v1830 : BitVec 32) (k0_hw23 : k0_chk23 v1830), ∀ a, (k0_off149 v1830) a + S1x64x1024.size a ≤ S32x128x4096.size a := fun v1830 k0_hw23 => k0_hw23.2.2.2.2.2.2.1
theorem k0_off149_wordsfp8e5m2 : ∀ (v1830 : BitVec 32) (k0_hw23 : k0_chk23 v1830), (Rect.unit (s := S32x128x4096) (k0_off149 v1830) S1x64x1024.size (k0_off149_inb v1830 k0_hw23)).WholeWords (EltTy.packing .fp8e5m2) := fun v1830 k0_hw23 => k0_hw23.2.2.2.2.2.2.2.1 (k0_off149_inb v1830 k0_hw23)
theorem k0_off151_inb : ∀ (v1830 : BitVec 32) (k0_hw23 : k0_chk23 v1830), ∀ a, (k0_off151 v1830) a + S1x64x4096.size a ≤ S32x128x4096.size a := fun v1830 k0_hw23 => k0_hw23.2.2.2.2.2.2.2.2.1
theorem k0_off152_inb : ∀ (v1830 : BitVec 32) (k0_hw23 : k0_chk23 v1830), ∀ a, (k0_off152 v1830) a + S64x64.size a ≤ S4096x64.size a := fun v1830 k0_hw23 => k0_hw23.2.2.2.2.2.2.2.2.2

def k0_off153 (v1832 : BitVec 32) : Fin 3 → Nat :=
  let v1989 : Index := Scalar.indexCast v1832
  let c64_1978 : Index := 64#32
  let c0_1979 : Index := 0#32
  ![v1989.toNat, 64, 0]
def k0_off154 (v1832 : BitVec 32) : Fin 2 → Nat :=
  let c128_i32_1981 : BitVec 32 := 128#32
  let v1993 : BitVec 32 := Scalar.muli v1832 c128_i32_1981
  let c64_i32_1982 : BitVec 32 := 64#32
  let v1994 : BitVec 32 := Scalar.addi v1993 c64_i32_1982
  let v1999 : Index := Scalar.indexCast v1994
  let c0_1983 : Index := 0#32
  ![v1999.toNat, 0]

def k0_chk24 (v1832 : BitVec 32) : Prop :=
  (∀ a, (k0_off144 v1832) a + S1x64x1024.size a ≤ S32x128x4096.size a) ∧
  (∀ (hinb : ∀ a, (k0_off144 v1832) a + S1x64x1024.size a ≤ S32x128x4096.size a), (Rect.unit (s := S32x128x4096) (k0_off144 v1832) S1x64x1024.size hinb).WholeWords (EltTy.packing .fp8e5m2)) ∧
  (∀ a, (k0_off146 v1832) a + S1x64x1024.size a ≤ S32x128x4096.size a) ∧
  (∀ (hinb : ∀ a, (k0_off146 v1832) a + S1x64x1024.size a ≤ S32x128x4096.size a), (Rect.unit (s := S32x128x4096) (k0_off146 v1832) S1x64x1024.size hinb).WholeWords (EltTy.packing .fp8e5m2)) ∧
  (∀ a, (k0_off148 v1832) a + S1x64x1024.size a ≤ S32x128x4096.size a) ∧
  (∀ (hinb : ∀ a, (k0_off148 v1832) a + S1x64x1024.size a ≤ S32x128x4096.size a), (Rect.unit (s := S32x128x4096) (k0_off148 v1832) S1x64x1024.size hinb).WholeWords (EltTy.packing .fp8e5m2)) ∧
  (∀ a, (k0_off150 v1832) a + S1x64x1024.size a ≤ S32x128x4096.size a) ∧
  (∀ (hinb : ∀ a, (k0_off150 v1832) a + S1x64x1024.size a ≤ S32x128x4096.size a), (Rect.unit (s := S32x128x4096) (k0_off150 v1832) S1x64x1024.size hinb).WholeWords (EltTy.packing .fp8e5m2)) ∧
  (∀ a, (k0_off153 v1832) a + S1x64x4096.size a ≤ S32x128x4096.size a) ∧
  (∀ a, (k0_off154 v1832) a + S64x64.size a ≤ S4096x64.size a)
theorem k0_off144_inb : ∀ (v1832 : BitVec 32) (k0_hw24 : k0_chk24 v1832), ∀ a, (k0_off144 v1832) a + S1x64x1024.size a ≤ S32x128x4096.size a := fun v1832 k0_hw24 => k0_hw24.1
theorem k0_off144_wordsfp8e5m2 : ∀ (v1832 : BitVec 32) (k0_hw24 : k0_chk24 v1832), (Rect.unit (s := S32x128x4096) (k0_off144 v1832) S1x64x1024.size (k0_off144_inb v1832 k0_hw24)).WholeWords (EltTy.packing .fp8e5m2) := fun v1832 k0_hw24 => k0_hw24.2.1 (k0_off144_inb v1832 k0_hw24)
theorem k0_off146_inb : ∀ (v1832 : BitVec 32) (k0_hw24 : k0_chk24 v1832), ∀ a, (k0_off146 v1832) a + S1x64x1024.size a ≤ S32x128x4096.size a := fun v1832 k0_hw24 => k0_hw24.2.2.1
theorem k0_off146_wordsfp8e5m2 : ∀ (v1832 : BitVec 32) (k0_hw24 : k0_chk24 v1832), (Rect.unit (s := S32x128x4096) (k0_off146 v1832) S1x64x1024.size (k0_off146_inb v1832 k0_hw24)).WholeWords (EltTy.packing .fp8e5m2) := fun v1832 k0_hw24 => k0_hw24.2.2.2.1 (k0_off146_inb v1832 k0_hw24)
theorem k0_off148_inb : ∀ (v1832 : BitVec 32) (k0_hw24 : k0_chk24 v1832), ∀ a, (k0_off148 v1832) a + S1x64x1024.size a ≤ S32x128x4096.size a := fun v1832 k0_hw24 => k0_hw24.2.2.2.2.1
theorem k0_off148_wordsfp8e5m2 : ∀ (v1832 : BitVec 32) (k0_hw24 : k0_chk24 v1832), (Rect.unit (s := S32x128x4096) (k0_off148 v1832) S1x64x1024.size (k0_off148_inb v1832 k0_hw24)).WholeWords (EltTy.packing .fp8e5m2) := fun v1832 k0_hw24 => k0_hw24.2.2.2.2.2.1 (k0_off148_inb v1832 k0_hw24)
theorem k0_off150_inb : ∀ (v1832 : BitVec 32) (k0_hw24 : k0_chk24 v1832), ∀ a, (k0_off150 v1832) a + S1x64x1024.size a ≤ S32x128x4096.size a := fun v1832 k0_hw24 => k0_hw24.2.2.2.2.2.2.1
theorem k0_off150_wordsfp8e5m2 : ∀ (v1832 : BitVec 32) (k0_hw24 : k0_chk24 v1832), (Rect.unit (s := S32x128x4096) (k0_off150 v1832) S1x64x1024.size (k0_off150_inb v1832 k0_hw24)).WholeWords (EltTy.packing .fp8e5m2) := fun v1832 k0_hw24 => k0_hw24.2.2.2.2.2.2.2.1 (k0_off150_inb v1832 k0_hw24)
theorem k0_off153_inb : ∀ (v1832 : BitVec 32) (k0_hw24 : k0_chk24 v1832), ∀ a, (k0_off153 v1832) a + S1x64x4096.size a ≤ S32x128x4096.size a := fun v1832 k0_hw24 => k0_hw24.2.2.2.2.2.2.2.2.1
theorem k0_off154_inb : ∀ (v1832 : BitVec 32) (k0_hw24 : k0_chk24 v1832), ∀ a, (k0_off154 v1832) a + S64x64.size a ≤ S4096x64.size a := fun v1832 k0_hw24 => k0_hw24.2.2.2.2.2.2.2.2.2

def k0_off155 (d0 : Dev nD) : Fin 2 → Nat :=
  let c12 : Index := 12#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2001 : Index := Scalar.indexCast v2
  ![12, v2001.toNat]
def k0_off156 (v2002 : BitVec 32) : Fin 3 → Nat :=
  let c0_i32_1991 : BitVec 32 := 0#32
  let c0_i32_1992 : BitVec 32 := 0#32
  ![v2002.toNat, 0, 0]

def k0_dev99 (v4 : BitVec 32) : Nat :=
  let c0_i32_1999 : BitVec 32 := 0#32
  let c1_i32_1998 : BitVec 32 := 1#32
  let v2013 : BitVec 32 := Scalar.muli v4 c1_i32_1998
  let v2014 : BitVec 32 := Scalar.addi c0_i32_1999 v2013
  v2014.toNat
def k0_off157 (v2004 : BitVec 32) : Fin 3 → Nat :=
  let c64_i32_2010 : BitVec 32 := 64#32
  let c0_i32_2011 : BitVec 32 := 0#32
  ![v2004.toNat, 64, 0]

def k0_dev100 (v6 : BitVec 32) : Nat :=
  let c0_i32_2019 : BitVec 32 := 0#32
  let c1_i32_2018 : BitVec 32 := 1#32
  let v2031 : BitVec 32 := Scalar.muli v6 c1_i32_2018
  let v2032 : BitVec 32 := Scalar.addi c0_i32_2019 v2031
  v2032.toNat
def k0_off158 (v2002 : BitVec 32) : Fin 3 → Nat :=
  let c0_i32_2030 : BitVec 32 := 0#32
  let c1024_i32_2031 : BitVec 32 := 1024#32
  ![v2002.toNat, 0, 1024]
def k0_dev101 (v4 : BitVec 32) : Nat :=
  let c0_i32_2039 : BitVec 32 := 0#32
  let c1_i32_2038 : BitVec 32 := 1#32
  let v2049 : BitVec 32 := Scalar.muli v4 c1_i32_2038
  let v2050 : BitVec 32 := Scalar.addi c0_i32_2039 v2049
  v2050.toNat
def k0_off159 (v2004 : BitVec 32) : Fin 3 → Nat :=
  let c64_i32_2050 : BitVec 32 := 64#32
  let c1024_i32_2051 : BitVec 32 := 1024#32
  ![v2004.toNat, 64, 1024]
def k0_dev102 (v6 : BitVec 32) : Nat :=
  let c0_i32_2059 : BitVec 32 := 0#32
  let c1_i32_2058 : BitVec 32 := 1#32
  let v2067 : BitVec 32 := Scalar.muli v6 c1_i32_2058
  let v2068 : BitVec 32 := Scalar.addi c0_i32_2059 v2067
  v2068.toNat
def k0_off160 (v2002 : BitVec 32) : Fin 3 → Nat :=
  let c0_i32_2070 : BitVec 32 := 0#32
  let c2048_i32_2071 : BitVec 32 := 2048#32
  ![v2002.toNat, 0, 2048]
def k0_dev103 (v4 : BitVec 32) : Nat :=
  let c0_i32_2079 : BitVec 32 := 0#32
  let c1_i32_2078 : BitVec 32 := 1#32
  let v2085 : BitVec 32 := Scalar.muli v4 c1_i32_2078
  let v2086 : BitVec 32 := Scalar.addi c0_i32_2079 v2085
  v2086.toNat
def k0_off161 (v2004 : BitVec 32) : Fin 3 → Nat :=
  let c64_i32_2090 : BitVec 32 := 64#32
  let c2048_i32_2091 : BitVec 32 := 2048#32
  ![v2004.toNat, 64, 2048]
def k0_dev104 (v6 : BitVec 32) : Nat :=
  let c0_i32_2099 : BitVec 32 := 0#32
  let c1_i32_2098 : BitVec 32 := 1#32
  let v2103 : BitVec 32 := Scalar.muli v6 c1_i32_2098
  let v2104 : BitVec 32 := Scalar.addi c0_i32_2099 v2103
  v2104.toNat
def k0_off162 (v2002 : BitVec 32) : Fin 3 → Nat :=
  let c0_i32_2110 : BitVec 32 := 0#32
  let c3072_i32_2111 : BitVec 32 := 3072#32
  ![v2002.toNat, 0, 3072]
def k0_dev105 (v4 : BitVec 32) : Nat :=
  let c0_i32_2119 : BitVec 32 := 0#32
  let c1_i32_2118 : BitVec 32 := 1#32
  let v2121 : BitVec 32 := Scalar.muli v4 c1_i32_2118
  let v2122 : BitVec 32 := Scalar.addi c0_i32_2119 v2121
  v2122.toNat
def k0_off163 (v2004 : BitVec 32) : Fin 3 → Nat :=
  let c64_i32_2130 : BitVec 32 := 64#32
  let c3072_i32_2131 : BitVec 32 := 3072#32
  ![v2004.toNat, 64, 3072]
def k0_dev106 (v6 : BitVec 32) : Nat :=
  let c0_i32_2139 : BitVec 32 := 0#32
  let c1_i32_2138 : BitVec 32 := 1#32
  let v2139 : BitVec 32 := Scalar.muli v6 c1_i32_2138
  let v2140 : BitVec 32 := Scalar.addi c0_i32_2139 v2139
  v2140.toNat
def k0_off164 (v2002 : BitVec 32) : Fin 3 → Nat :=
  let v2149 : Index := Scalar.indexCast v2002
  let c0_2144 : Index := 0#32
  let c0_2145 : Index := 0#32
  ![v2149.toNat, 0, 0]
def k0_off165 (v2002 : BitVec 32) : Fin 2 → Nat :=
  let c128_i32_2147 : BitVec 32 := 128#32
  let v2153 : BitVec 32 := Scalar.muli v2002 c128_i32_2147
  let c0_i32_2148 : BitVec 32 := 0#32
  let v2154 : BitVec 32 := Scalar.addi v2153 c0_i32_2148
  let v2159 : Index := Scalar.indexCast v2154
  let c0_2149 : Index := 0#32
  ![v2159.toNat, 0]

def k0_chk25 (v2002 : BitVec 32) : Prop :=
  (∀ a, (k0_off156 v2002) a + S1x64x1024.size a ≤ S32x128x4096.size a) ∧
  (∀ (hinb : ∀ a, (k0_off156 v2002) a + S1x64x1024.size a ≤ S32x128x4096.size a), (Rect.unit (s := S32x128x4096) (k0_off156 v2002) S1x64x1024.size hinb).WholeWords (EltTy.packing .fp8e5m2)) ∧
  (∀ a, (k0_off158 v2002) a + S1x64x1024.size a ≤ S32x128x4096.size a) ∧
  (∀ (hinb : ∀ a, (k0_off158 v2002) a + S1x64x1024.size a ≤ S32x128x4096.size a), (Rect.unit (s := S32x128x4096) (k0_off158 v2002) S1x64x1024.size hinb).WholeWords (EltTy.packing .fp8e5m2)) ∧
  (∀ a, (k0_off160 v2002) a + S1x64x1024.size a ≤ S32x128x4096.size a) ∧
  (∀ (hinb : ∀ a, (k0_off160 v2002) a + S1x64x1024.size a ≤ S32x128x4096.size a), (Rect.unit (s := S32x128x4096) (k0_off160 v2002) S1x64x1024.size hinb).WholeWords (EltTy.packing .fp8e5m2)) ∧
  (∀ a, (k0_off162 v2002) a + S1x64x1024.size a ≤ S32x128x4096.size a) ∧
  (∀ (hinb : ∀ a, (k0_off162 v2002) a + S1x64x1024.size a ≤ S32x128x4096.size a), (Rect.unit (s := S32x128x4096) (k0_off162 v2002) S1x64x1024.size hinb).WholeWords (EltTy.packing .fp8e5m2)) ∧
  (∀ a, (k0_off164 v2002) a + S1x64x4096.size a ≤ S32x128x4096.size a) ∧
  (∀ a, (k0_off165 v2002) a + S64x64.size a ≤ S4096x64.size a)
theorem k0_off156_inb : ∀ (v2002 : BitVec 32) (k0_hw25 : k0_chk25 v2002), ∀ a, (k0_off156 v2002) a + S1x64x1024.size a ≤ S32x128x4096.size a := fun v2002 k0_hw25 => k0_hw25.1
theorem k0_off156_wordsfp8e5m2 : ∀ (v2002 : BitVec 32) (k0_hw25 : k0_chk25 v2002), (Rect.unit (s := S32x128x4096) (k0_off156 v2002) S1x64x1024.size (k0_off156_inb v2002 k0_hw25)).WholeWords (EltTy.packing .fp8e5m2) := fun v2002 k0_hw25 => k0_hw25.2.1 (k0_off156_inb v2002 k0_hw25)
theorem k0_off158_inb : ∀ (v2002 : BitVec 32) (k0_hw25 : k0_chk25 v2002), ∀ a, (k0_off158 v2002) a + S1x64x1024.size a ≤ S32x128x4096.size a := fun v2002 k0_hw25 => k0_hw25.2.2.1
theorem k0_off158_wordsfp8e5m2 : ∀ (v2002 : BitVec 32) (k0_hw25 : k0_chk25 v2002), (Rect.unit (s := S32x128x4096) (k0_off158 v2002) S1x64x1024.size (k0_off158_inb v2002 k0_hw25)).WholeWords (EltTy.packing .fp8e5m2) := fun v2002 k0_hw25 => k0_hw25.2.2.2.1 (k0_off158_inb v2002 k0_hw25)
theorem k0_off160_inb : ∀ (v2002 : BitVec 32) (k0_hw25 : k0_chk25 v2002), ∀ a, (k0_off160 v2002) a + S1x64x1024.size a ≤ S32x128x4096.size a := fun v2002 k0_hw25 => k0_hw25.2.2.2.2.1
theorem k0_off160_wordsfp8e5m2 : ∀ (v2002 : BitVec 32) (k0_hw25 : k0_chk25 v2002), (Rect.unit (s := S32x128x4096) (k0_off160 v2002) S1x64x1024.size (k0_off160_inb v2002 k0_hw25)).WholeWords (EltTy.packing .fp8e5m2) := fun v2002 k0_hw25 => k0_hw25.2.2.2.2.2.1 (k0_off160_inb v2002 k0_hw25)
theorem k0_off162_inb : ∀ (v2002 : BitVec 32) (k0_hw25 : k0_chk25 v2002), ∀ a, (k0_off162 v2002) a + S1x64x1024.size a ≤ S32x128x4096.size a := fun v2002 k0_hw25 => k0_hw25.2.2.2.2.2.2.1
theorem k0_off162_wordsfp8e5m2 : ∀ (v2002 : BitVec 32) (k0_hw25 : k0_chk25 v2002), (Rect.unit (s := S32x128x4096) (k0_off162 v2002) S1x64x1024.size (k0_off162_inb v2002 k0_hw25)).WholeWords (EltTy.packing .fp8e5m2) := fun v2002 k0_hw25 => k0_hw25.2.2.2.2.2.2.2.1 (k0_off162_inb v2002 k0_hw25)
theorem k0_off164_inb : ∀ (v2002 : BitVec 32) (k0_hw25 : k0_chk25 v2002), ∀ a, (k0_off164 v2002) a + S1x64x4096.size a ≤ S32x128x4096.size a := fun v2002 k0_hw25 => k0_hw25.2.2.2.2.2.2.2.2.1
theorem k0_off165_inb : ∀ (v2002 : BitVec 32) (k0_hw25 : k0_chk25 v2002), ∀ a, (k0_off165 v2002) a + S64x64.size a ≤ S4096x64.size a := fun v2002 k0_hw25 => k0_hw25.2.2.2.2.2.2.2.2.2

def k0_off166 (v2004 : BitVec 32) : Fin 3 → Nat :=
  let v2161 : Index := Scalar.indexCast v2004
  let c64_2150 : Index := 64#32
  let c0_2151 : Index := 0#32
  ![v2161.toNat, 64, 0]
def k0_off167 (v2004 : BitVec 32) : Fin 2 → Nat :=
  let c128_i32_2153 : BitVec 32 := 128#32
  let v2165 : BitVec 32 := Scalar.muli v2004 c128_i32_2153
  let c64_i32_2154 : BitVec 32 := 64#32
  let v2166 : BitVec 32 := Scalar.addi v2165 c64_i32_2154
  let v2171 : Index := Scalar.indexCast v2166
  let c0_2155 : Index := 0#32
  ![v2171.toNat, 0]

def k0_chk26 (v2004 : BitVec 32) : Prop :=
  (∀ a, (k0_off157 v2004) a + S1x64x1024.size a ≤ S32x128x4096.size a) ∧
  (∀ (hinb : ∀ a, (k0_off157 v2004) a + S1x64x1024.size a ≤ S32x128x4096.size a), (Rect.unit (s := S32x128x4096) (k0_off157 v2004) S1x64x1024.size hinb).WholeWords (EltTy.packing .fp8e5m2)) ∧
  (∀ a, (k0_off159 v2004) a + S1x64x1024.size a ≤ S32x128x4096.size a) ∧
  (∀ (hinb : ∀ a, (k0_off159 v2004) a + S1x64x1024.size a ≤ S32x128x4096.size a), (Rect.unit (s := S32x128x4096) (k0_off159 v2004) S1x64x1024.size hinb).WholeWords (EltTy.packing .fp8e5m2)) ∧
  (∀ a, (k0_off161 v2004) a + S1x64x1024.size a ≤ S32x128x4096.size a) ∧
  (∀ (hinb : ∀ a, (k0_off161 v2004) a + S1x64x1024.size a ≤ S32x128x4096.size a), (Rect.unit (s := S32x128x4096) (k0_off161 v2004) S1x64x1024.size hinb).WholeWords (EltTy.packing .fp8e5m2)) ∧
  (∀ a, (k0_off163 v2004) a + S1x64x1024.size a ≤ S32x128x4096.size a) ∧
  (∀ (hinb : ∀ a, (k0_off163 v2004) a + S1x64x1024.size a ≤ S32x128x4096.size a), (Rect.unit (s := S32x128x4096) (k0_off163 v2004) S1x64x1024.size hinb).WholeWords (EltTy.packing .fp8e5m2)) ∧
  (∀ a, (k0_off166 v2004) a + S1x64x4096.size a ≤ S32x128x4096.size a) ∧
  (∀ a, (k0_off167 v2004) a + S64x64.size a ≤ S4096x64.size a)
theorem k0_off157_inb : ∀ (v2004 : BitVec 32) (k0_hw26 : k0_chk26 v2004), ∀ a, (k0_off157 v2004) a + S1x64x1024.size a ≤ S32x128x4096.size a := fun v2004 k0_hw26 => k0_hw26.1
theorem k0_off157_wordsfp8e5m2 : ∀ (v2004 : BitVec 32) (k0_hw26 : k0_chk26 v2004), (Rect.unit (s := S32x128x4096) (k0_off157 v2004) S1x64x1024.size (k0_off157_inb v2004 k0_hw26)).WholeWords (EltTy.packing .fp8e5m2) := fun v2004 k0_hw26 => k0_hw26.2.1 (k0_off157_inb v2004 k0_hw26)
theorem k0_off159_inb : ∀ (v2004 : BitVec 32) (k0_hw26 : k0_chk26 v2004), ∀ a, (k0_off159 v2004) a + S1x64x1024.size a ≤ S32x128x4096.size a := fun v2004 k0_hw26 => k0_hw26.2.2.1
theorem k0_off159_wordsfp8e5m2 : ∀ (v2004 : BitVec 32) (k0_hw26 : k0_chk26 v2004), (Rect.unit (s := S32x128x4096) (k0_off159 v2004) S1x64x1024.size (k0_off159_inb v2004 k0_hw26)).WholeWords (EltTy.packing .fp8e5m2) := fun v2004 k0_hw26 => k0_hw26.2.2.2.1 (k0_off159_inb v2004 k0_hw26)
theorem k0_off161_inb : ∀ (v2004 : BitVec 32) (k0_hw26 : k0_chk26 v2004), ∀ a, (k0_off161 v2004) a + S1x64x1024.size a ≤ S32x128x4096.size a := fun v2004 k0_hw26 => k0_hw26.2.2.2.2.1
theorem k0_off161_wordsfp8e5m2 : ∀ (v2004 : BitVec 32) (k0_hw26 : k0_chk26 v2004), (Rect.unit (s := S32x128x4096) (k0_off161 v2004) S1x64x1024.size (k0_off161_inb v2004 k0_hw26)).WholeWords (EltTy.packing .fp8e5m2) := fun v2004 k0_hw26 => k0_hw26.2.2.2.2.2.1 (k0_off161_inb v2004 k0_hw26)
theorem k0_off163_inb : ∀ (v2004 : BitVec 32) (k0_hw26 : k0_chk26 v2004), ∀ a, (k0_off163 v2004) a + S1x64x1024.size a ≤ S32x128x4096.size a := fun v2004 k0_hw26 => k0_hw26.2.2.2.2.2.2.1
theorem k0_off163_wordsfp8e5m2 : ∀ (v2004 : BitVec 32) (k0_hw26 : k0_chk26 v2004), (Rect.unit (s := S32x128x4096) (k0_off163 v2004) S1x64x1024.size (k0_off163_inb v2004 k0_hw26)).WholeWords (EltTy.packing .fp8e5m2) := fun v2004 k0_hw26 => k0_hw26.2.2.2.2.2.2.2.1 (k0_off163_inb v2004 k0_hw26)
theorem k0_off166_inb : ∀ (v2004 : BitVec 32) (k0_hw26 : k0_chk26 v2004), ∀ a, (k0_off166 v2004) a + S1x64x4096.size a ≤ S32x128x4096.size a := fun v2004 k0_hw26 => k0_hw26.2.2.2.2.2.2.2.2.1
theorem k0_off167_inb : ∀ (v2004 : BitVec 32) (k0_hw26 : k0_chk26 v2004), ∀ a, (k0_off167 v2004) a + S64x64.size a ≤ S4096x64.size a := fun v2004 k0_hw26 => k0_hw26.2.2.2.2.2.2.2.2.2

def k0_off168 (d0 : Dev nD) : Fin 2 → Nat :=
  let c13 : Index := 13#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2173 : Index := Scalar.indexCast v2
  ![13, v2173.toNat]
def k0_off169 (v2174 : BitVec 32) : Fin 3 → Nat :=
  let c0_i32_2163 : BitVec 32 := 0#32
  let c0_i32_2164 : BitVec 32 := 0#32
  ![v2174.toNat, 0, 0]

def k0_dev107 (v4 : BitVec 32) : Nat :=
  let c0_i32_2171 : BitVec 32 := 0#32
  let c1_i32_2170 : BitVec 32 := 1#32
  let v2185 : BitVec 32 := Scalar.muli v4 c1_i32_2170
  let v2186 : BitVec 32 := Scalar.addi c0_i32_2171 v2185
  v2186.toNat
def k0_off170 (v2176 : BitVec 32) : Fin 3 → Nat :=
  let c64_i32_2182 : BitVec 32 := 64#32
  let c0_i32_2183 : BitVec 32 := 0#32
  ![v2176.toNat, 64, 0]

def k0_dev108 (v6 : BitVec 32) : Nat :=
  let c0_i32_2191 : BitVec 32 := 0#32
  let c1_i32_2190 : BitVec 32 := 1#32
  let v2203 : BitVec 32 := Scalar.muli v6 c1_i32_2190
  let v2204 : BitVec 32 := Scalar.addi c0_i32_2191 v2203
  v2204.toNat
def k0_off171 (v2174 : BitVec 32) : Fin 3 → Nat :=
  let c0_i32_2202 : BitVec 32 := 0#32
  let c1024_i32_2203 : BitVec 32 := 1024#32
  ![v2174.toNat, 0, 1024]
def k0_dev109 (v4 : BitVec 32) : Nat :=
  let c0_i32_2211 : BitVec 32 := 0#32
  let c1_i32_2210 : BitVec 32 := 1#32
  let v2221 : BitVec 32 := Scalar.muli v4 c1_i32_2210
  let v2222 : BitVec 32 := Scalar.addi c0_i32_2211 v2221
  v2222.toNat
def k0_off172 (v2176 : BitVec 32) : Fin 3 → Nat :=
  let c64_i32_2222 : BitVec 32 := 64#32
  let c1024_i32_2223 : BitVec 32 := 1024#32
  ![v2176.toNat, 64, 1024]
def k0_dev110 (v6 : BitVec 32) : Nat :=
  let c0_i32_2231 : BitVec 32 := 0#32
  let c1_i32_2230 : BitVec 32 := 1#32
  let v2239 : BitVec 32 := Scalar.muli v6 c1_i32_2230
  let v2240 : BitVec 32 := Scalar.addi c0_i32_2231 v2239
  v2240.toNat
def k0_off173 (v2174 : BitVec 32) : Fin 3 → Nat :=
  let c0_i32_2242 : BitVec 32 := 0#32
  let c2048_i32_2243 : BitVec 32 := 2048#32
  ![v2174.toNat, 0, 2048]
def k0_dev111 (v4 : BitVec 32) : Nat :=
  let c0_i32_2251 : BitVec 32 := 0#32
  let c1_i32_2250 : BitVec 32 := 1#32
  let v2257 : BitVec 32 := Scalar.muli v4 c1_i32_2250
  let v2258 : BitVec 32 := Scalar.addi c0_i32_2251 v2257
  v2258.toNat
def k0_off174 (v2176 : BitVec 32) : Fin 3 → Nat :=
  let c64_i32_2262 : BitVec 32 := 64#32
  let c2048_i32_2263 : BitVec 32 := 2048#32
  ![v2176.toNat, 64, 2048]
def k0_dev112 (v6 : BitVec 32) : Nat :=
  let c0_i32_2271 : BitVec 32 := 0#32
  let c1_i32_2270 : BitVec 32 := 1#32
  let v2275 : BitVec 32 := Scalar.muli v6 c1_i32_2270
  let v2276 : BitVec 32 := Scalar.addi c0_i32_2271 v2275
  v2276.toNat
def k0_off175 (v2174 : BitVec 32) : Fin 3 → Nat :=
  let c0_i32_2282 : BitVec 32 := 0#32
  let c3072_i32_2283 : BitVec 32 := 3072#32
  ![v2174.toNat, 0, 3072]
def k0_dev113 (v4 : BitVec 32) : Nat :=
  let c0_i32_2291 : BitVec 32 := 0#32
  let c1_i32_2290 : BitVec 32 := 1#32
  let v2293 : BitVec 32 := Scalar.muli v4 c1_i32_2290
  let v2294 : BitVec 32 := Scalar.addi c0_i32_2291 v2293
  v2294.toNat
def k0_off176 (v2176 : BitVec 32) : Fin 3 → Nat :=
  let c64_i32_2302 : BitVec 32 := 64#32
  let c3072_i32_2303 : BitVec 32 := 3072#32
  ![v2176.toNat, 64, 3072]
def k0_dev114 (v6 : BitVec 32) : Nat :=
  let c0_i32_2311 : BitVec 32 := 0#32
  let c1_i32_2310 : BitVec 32 := 1#32
  let v2311 : BitVec 32 := Scalar.muli v6 c1_i32_2310
  let v2312 : BitVec 32 := Scalar.addi c0_i32_2311 v2311
  v2312.toNat
def k0_off177 (v2174 : BitVec 32) : Fin 3 → Nat :=
  let v2321 : Index := Scalar.indexCast v2174
  let c0_2316 : Index := 0#32
  let c0_2317 : Index := 0#32
  ![v2321.toNat, 0, 0]
def k0_off178 (v2174 : BitVec 32) : Fin 2 → Nat :=
  let c128_i32_2319 : BitVec 32 := 128#32
  let v2325 : BitVec 32 := Scalar.muli v2174 c128_i32_2319
  let c0_i32_2320 : BitVec 32 := 0#32
  let v2326 : BitVec 32 := Scalar.addi v2325 c0_i32_2320
  let v2331 : Index := Scalar.indexCast v2326
  let c0_2321 : Index := 0#32
  ![v2331.toNat, 0]

def k0_chk27 (v2174 : BitVec 32) : Prop :=
  (∀ a, (k0_off169 v2174) a + S1x64x1024.size a ≤ S32x128x4096.size a) ∧
  (∀ (hinb : ∀ a, (k0_off169 v2174) a + S1x64x1024.size a ≤ S32x128x4096.size a), (Rect.unit (s := S32x128x4096) (k0_off169 v2174) S1x64x1024.size hinb).WholeWords (EltTy.packing .fp8e5m2)) ∧
  (∀ a, (k0_off171 v2174) a + S1x64x1024.size a ≤ S32x128x4096.size a) ∧
  (∀ (hinb : ∀ a, (k0_off171 v2174) a + S1x64x1024.size a ≤ S32x128x4096.size a), (Rect.unit (s := S32x128x4096) (k0_off171 v2174) S1x64x1024.size hinb).WholeWords (EltTy.packing .fp8e5m2)) ∧
  (∀ a, (k0_off173 v2174) a + S1x64x1024.size a ≤ S32x128x4096.size a) ∧
  (∀ (hinb : ∀ a, (k0_off173 v2174) a + S1x64x1024.size a ≤ S32x128x4096.size a), (Rect.unit (s := S32x128x4096) (k0_off173 v2174) S1x64x1024.size hinb).WholeWords (EltTy.packing .fp8e5m2)) ∧
  (∀ a, (k0_off175 v2174) a + S1x64x1024.size a ≤ S32x128x4096.size a) ∧
  (∀ (hinb : ∀ a, (k0_off175 v2174) a + S1x64x1024.size a ≤ S32x128x4096.size a), (Rect.unit (s := S32x128x4096) (k0_off175 v2174) S1x64x1024.size hinb).WholeWords (EltTy.packing .fp8e5m2)) ∧
  (∀ a, (k0_off177 v2174) a + S1x64x4096.size a ≤ S32x128x4096.size a) ∧
  (∀ a, (k0_off178 v2174) a + S64x64.size a ≤ S4096x64.size a)
theorem k0_off169_inb : ∀ (v2174 : BitVec 32) (k0_hw27 : k0_chk27 v2174), ∀ a, (k0_off169 v2174) a + S1x64x1024.size a ≤ S32x128x4096.size a := fun v2174 k0_hw27 => k0_hw27.1
theorem k0_off169_wordsfp8e5m2 : ∀ (v2174 : BitVec 32) (k0_hw27 : k0_chk27 v2174), (Rect.unit (s := S32x128x4096) (k0_off169 v2174) S1x64x1024.size (k0_off169_inb v2174 k0_hw27)).WholeWords (EltTy.packing .fp8e5m2) := fun v2174 k0_hw27 => k0_hw27.2.1 (k0_off169_inb v2174 k0_hw27)
theorem k0_off171_inb : ∀ (v2174 : BitVec 32) (k0_hw27 : k0_chk27 v2174), ∀ a, (k0_off171 v2174) a + S1x64x1024.size a ≤ S32x128x4096.size a := fun v2174 k0_hw27 => k0_hw27.2.2.1
theorem k0_off171_wordsfp8e5m2 : ∀ (v2174 : BitVec 32) (k0_hw27 : k0_chk27 v2174), (Rect.unit (s := S32x128x4096) (k0_off171 v2174) S1x64x1024.size (k0_off171_inb v2174 k0_hw27)).WholeWords (EltTy.packing .fp8e5m2) := fun v2174 k0_hw27 => k0_hw27.2.2.2.1 (k0_off171_inb v2174 k0_hw27)
theorem k0_off173_inb : ∀ (v2174 : BitVec 32) (k0_hw27 : k0_chk27 v2174), ∀ a, (k0_off173 v2174) a + S1x64x1024.size a ≤ S32x128x4096.size a := fun v2174 k0_hw27 => k0_hw27.2.2.2.2.1
theorem k0_off173_wordsfp8e5m2 : ∀ (v2174 : BitVec 32) (k0_hw27 : k0_chk27 v2174), (Rect.unit (s := S32x128x4096) (k0_off173 v2174) S1x64x1024.size (k0_off173_inb v2174 k0_hw27)).WholeWords (EltTy.packing .fp8e5m2) := fun v2174 k0_hw27 => k0_hw27.2.2.2.2.2.1 (k0_off173_inb v2174 k0_hw27)
theorem k0_off175_inb : ∀ (v2174 : BitVec 32) (k0_hw27 : k0_chk27 v2174), ∀ a, (k0_off175 v2174) a + S1x64x1024.size a ≤ S32x128x4096.size a := fun v2174 k0_hw27 => k0_hw27.2.2.2.2.2.2.1
theorem k0_off175_wordsfp8e5m2 : ∀ (v2174 : BitVec 32) (k0_hw27 : k0_chk27 v2174), (Rect.unit (s := S32x128x4096) (k0_off175 v2174) S1x64x1024.size (k0_off175_inb v2174 k0_hw27)).WholeWords (EltTy.packing .fp8e5m2) := fun v2174 k0_hw27 => k0_hw27.2.2.2.2.2.2.2.1 (k0_off175_inb v2174 k0_hw27)
theorem k0_off177_inb : ∀ (v2174 : BitVec 32) (k0_hw27 : k0_chk27 v2174), ∀ a, (k0_off177 v2174) a + S1x64x4096.size a ≤ S32x128x4096.size a := fun v2174 k0_hw27 => k0_hw27.2.2.2.2.2.2.2.2.1
theorem k0_off178_inb : ∀ (v2174 : BitVec 32) (k0_hw27 : k0_chk27 v2174), ∀ a, (k0_off178 v2174) a + S64x64.size a ≤ S4096x64.size a := fun v2174 k0_hw27 => k0_hw27.2.2.2.2.2.2.2.2.2

def k0_off179 (v2176 : BitVec 32) : Fin 3 → Nat :=
  let v2333 : Index := Scalar.indexCast v2176
  let c64_2322 : Index := 64#32
  let c0_2323 : Index := 0#32
  ![v2333.toNat, 64, 0]
def k0_off180 (v2176 : BitVec 32) : Fin 2 → Nat :=
  let c128_i32_2325 : BitVec 32 := 128#32
  let v2337 : BitVec 32 := Scalar.muli v2176 c128_i32_2325
  let c64_i32_2326 : BitVec 32 := 64#32
  let v2338 : BitVec 32 := Scalar.addi v2337 c64_i32_2326
  let v2343 : Index := Scalar.indexCast v2338
  let c0_2327 : Index := 0#32
  ![v2343.toNat, 0]

def k0_chk28 (v2176 : BitVec 32) : Prop :=
  (∀ a, (k0_off170 v2176) a + S1x64x1024.size a ≤ S32x128x4096.size a) ∧
  (∀ (hinb : ∀ a, (k0_off170 v2176) a + S1x64x1024.size a ≤ S32x128x4096.size a), (Rect.unit (s := S32x128x4096) (k0_off170 v2176) S1x64x1024.size hinb).WholeWords (EltTy.packing .fp8e5m2)) ∧
  (∀ a, (k0_off172 v2176) a + S1x64x1024.size a ≤ S32x128x4096.size a) ∧
  (∀ (hinb : ∀ a, (k0_off172 v2176) a + S1x64x1024.size a ≤ S32x128x4096.size a), (Rect.unit (s := S32x128x4096) (k0_off172 v2176) S1x64x1024.size hinb).WholeWords (EltTy.packing .fp8e5m2)) ∧
  (∀ a, (k0_off174 v2176) a + S1x64x1024.size a ≤ S32x128x4096.size a) ∧
  (∀ (hinb : ∀ a, (k0_off174 v2176) a + S1x64x1024.size a ≤ S32x128x4096.size a), (Rect.unit (s := S32x128x4096) (k0_off174 v2176) S1x64x1024.size hinb).WholeWords (EltTy.packing .fp8e5m2)) ∧
  (∀ a, (k0_off176 v2176) a + S1x64x1024.size a ≤ S32x128x4096.size a) ∧
  (∀ (hinb : ∀ a, (k0_off176 v2176) a + S1x64x1024.size a ≤ S32x128x4096.size a), (Rect.unit (s := S32x128x4096) (k0_off176 v2176) S1x64x1024.size hinb).WholeWords (EltTy.packing .fp8e5m2)) ∧
  (∀ a, (k0_off179 v2176) a + S1x64x4096.size a ≤ S32x128x4096.size a) ∧
  (∀ a, (k0_off180 v2176) a + S64x64.size a ≤ S4096x64.size a)
theorem k0_off170_inb : ∀ (v2176 : BitVec 32) (k0_hw28 : k0_chk28 v2176), ∀ a, (k0_off170 v2176) a + S1x64x1024.size a ≤ S32x128x4096.size a := fun v2176 k0_hw28 => k0_hw28.1
theorem k0_off170_wordsfp8e5m2 : ∀ (v2176 : BitVec 32) (k0_hw28 : k0_chk28 v2176), (Rect.unit (s := S32x128x4096) (k0_off170 v2176) S1x64x1024.size (k0_off170_inb v2176 k0_hw28)).WholeWords (EltTy.packing .fp8e5m2) := fun v2176 k0_hw28 => k0_hw28.2.1 (k0_off170_inb v2176 k0_hw28)
theorem k0_off172_inb : ∀ (v2176 : BitVec 32) (k0_hw28 : k0_chk28 v2176), ∀ a, (k0_off172 v2176) a + S1x64x1024.size a ≤ S32x128x4096.size a := fun v2176 k0_hw28 => k0_hw28.2.2.1
theorem k0_off172_wordsfp8e5m2 : ∀ (v2176 : BitVec 32) (k0_hw28 : k0_chk28 v2176), (Rect.unit (s := S32x128x4096) (k0_off172 v2176) S1x64x1024.size (k0_off172_inb v2176 k0_hw28)).WholeWords (EltTy.packing .fp8e5m2) := fun v2176 k0_hw28 => k0_hw28.2.2.2.1 (k0_off172_inb v2176 k0_hw28)
theorem k0_off174_inb : ∀ (v2176 : BitVec 32) (k0_hw28 : k0_chk28 v2176), ∀ a, (k0_off174 v2176) a + S1x64x1024.size a ≤ S32x128x4096.size a := fun v2176 k0_hw28 => k0_hw28.2.2.2.2.1
theorem k0_off174_wordsfp8e5m2 : ∀ (v2176 : BitVec 32) (k0_hw28 : k0_chk28 v2176), (Rect.unit (s := S32x128x4096) (k0_off174 v2176) S1x64x1024.size (k0_off174_inb v2176 k0_hw28)).WholeWords (EltTy.packing .fp8e5m2) := fun v2176 k0_hw28 => k0_hw28.2.2.2.2.2.1 (k0_off174_inb v2176 k0_hw28)
theorem k0_off176_inb : ∀ (v2176 : BitVec 32) (k0_hw28 : k0_chk28 v2176), ∀ a, (k0_off176 v2176) a + S1x64x1024.size a ≤ S32x128x4096.size a := fun v2176 k0_hw28 => k0_hw28.2.2.2.2.2.2.1
theorem k0_off176_wordsfp8e5m2 : ∀ (v2176 : BitVec 32) (k0_hw28 : k0_chk28 v2176), (Rect.unit (s := S32x128x4096) (k0_off176 v2176) S1x64x1024.size (k0_off176_inb v2176 k0_hw28)).WholeWords (EltTy.packing .fp8e5m2) := fun v2176 k0_hw28 => k0_hw28.2.2.2.2.2.2.2.1 (k0_off176_inb v2176 k0_hw28)
theorem k0_off179_inb : ∀ (v2176 : BitVec 32) (k0_hw28 : k0_chk28 v2176), ∀ a, (k0_off179 v2176) a + S1x64x4096.size a ≤ S32x128x4096.size a := fun v2176 k0_hw28 => k0_hw28.2.2.2.2.2.2.2.2.1
theorem k0_off180_inb : ∀ (v2176 : BitVec 32) (k0_hw28 : k0_chk28 v2176), ∀ a, (k0_off180 v2176) a + S64x64.size a ≤ S4096x64.size a := fun v2176 k0_hw28 => k0_hw28.2.2.2.2.2.2.2.2.2

def k0_off181 (d0 : Dev nD) : Fin 2 → Nat :=
  let c14 : Index := 14#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2345 : Index := Scalar.indexCast v2
  ![14, v2345.toNat]
def k0_off182 (v2346 : BitVec 32) : Fin 3 → Nat :=
  let c0_i32_2335 : BitVec 32 := 0#32
  let c0_i32_2336 : BitVec 32 := 0#32
  ![v2346.toNat, 0, 0]

def k0_dev115 (v4 : BitVec 32) : Nat :=
  let c0_i32_2343 : BitVec 32 := 0#32
  let c1_i32_2342 : BitVec 32 := 1#32
  let v2357 : BitVec 32 := Scalar.muli v4 c1_i32_2342
  let v2358 : BitVec 32 := Scalar.addi c0_i32_2343 v2357
  v2358.toNat
def k0_off183 (v2348 : BitVec 32) : Fin 3 → Nat :=
  let c64_i32_2354 : BitVec 32 := 64#32
  let c0_i32_2355 : BitVec 32 := 0#32
  ![v2348.toNat, 64, 0]

def k0_dev116 (v6 : BitVec 32) : Nat :=
  let c0_i32_2363 : BitVec 32 := 0#32
  let c1_i32_2362 : BitVec 32 := 1#32
  let v2375 : BitVec 32 := Scalar.muli v6 c1_i32_2362
  let v2376 : BitVec 32 := Scalar.addi c0_i32_2363 v2375
  v2376.toNat
def k0_off184 (v2346 : BitVec 32) : Fin 3 → Nat :=
  let c0_i32_2374 : BitVec 32 := 0#32
  let c1024_i32_2375 : BitVec 32 := 1024#32
  ![v2346.toNat, 0, 1024]
def k0_dev117 (v4 : BitVec 32) : Nat :=
  let c0_i32_2383 : BitVec 32 := 0#32
  let c1_i32_2382 : BitVec 32 := 1#32
  let v2393 : BitVec 32 := Scalar.muli v4 c1_i32_2382
  let v2394 : BitVec 32 := Scalar.addi c0_i32_2383 v2393
  v2394.toNat
def k0_off185 (v2348 : BitVec 32) : Fin 3 → Nat :=
  let c64_i32_2394 : BitVec 32 := 64#32
  let c1024_i32_2395 : BitVec 32 := 1024#32
  ![v2348.toNat, 64, 1024]
def k0_dev118 (v6 : BitVec 32) : Nat :=
  let c0_i32_2403 : BitVec 32 := 0#32
  let c1_i32_2402 : BitVec 32 := 1#32
  let v2411 : BitVec 32 := Scalar.muli v6 c1_i32_2402
  let v2412 : BitVec 32 := Scalar.addi c0_i32_2403 v2411
  v2412.toNat
def k0_off186 (v2346 : BitVec 32) : Fin 3 → Nat :=
  let c0_i32_2414 : BitVec 32 := 0#32
  let c2048_i32_2415 : BitVec 32 := 2048#32
  ![v2346.toNat, 0, 2048]
def k0_dev119 (v4 : BitVec 32) : Nat :=
  let c0_i32_2423 : BitVec 32 := 0#32
  let c1_i32_2422 : BitVec 32 := 1#32
  let v2429 : BitVec 32 := Scalar.muli v4 c1_i32_2422
  let v2430 : BitVec 32 := Scalar.addi c0_i32_2423 v2429
  v2430.toNat
def k0_off187 (v2348 : BitVec 32) : Fin 3 → Nat :=
  let c64_i32_2434 : BitVec 32 := 64#32
  let c2048_i32_2435 : BitVec 32 := 2048#32
  ![v2348.toNat, 64, 2048]
def k0_dev120 (v6 : BitVec 32) : Nat :=
  let c0_i32_2443 : BitVec 32 := 0#32
  let c1_i32_2442 : BitVec 32 := 1#32
  let v2447 : BitVec 32 := Scalar.muli v6 c1_i32_2442
  let v2448 : BitVec 32 := Scalar.addi c0_i32_2443 v2447
  v2448.toNat
def k0_off188 (v2346 : BitVec 32) : Fin 3 → Nat :=
  let c0_i32_2454 : BitVec 32 := 0#32
  let c3072_i32_2455 : BitVec 32 := 3072#32
  ![v2346.toNat, 0, 3072]
def k0_dev121 (v4 : BitVec 32) : Nat :=
  let c0_i32_2463 : BitVec 32 := 0#32
  let c1_i32_2462 : BitVec 32 := 1#32
  let v2465 : BitVec 32 := Scalar.muli v4 c1_i32_2462
  let v2466 : BitVec 32 := Scalar.addi c0_i32_2463 v2465
  v2466.toNat
def k0_off189 (v2348 : BitVec 32) : Fin 3 → Nat :=
  let c64_i32_2474 : BitVec 32 := 64#32
  let c3072_i32_2475 : BitVec 32 := 3072#32
  ![v2348.toNat, 64, 3072]
def k0_dev122 (v6 : BitVec 32) : Nat :=
  let c0_i32_2483 : BitVec 32 := 0#32
  let c1_i32_2482 : BitVec 32 := 1#32
  let v2483 : BitVec 32 := Scalar.muli v6 c1_i32_2482
  let v2484 : BitVec 32 := Scalar.addi c0_i32_2483 v2483
  v2484.toNat
def k0_off190 (v2346 : BitVec 32) : Fin 3 → Nat :=
  let v2493 : Index := Scalar.indexCast v2346
  let c0_2488 : Index := 0#32
  let c0_2489 : Index := 0#32
  ![v2493.toNat, 0, 0]
def k0_off191 (v2346 : BitVec 32) : Fin 2 → Nat :=
  let c128_i32_2491 : BitVec 32 := 128#32
  let v2497 : BitVec 32 := Scalar.muli v2346 c128_i32_2491
  let c0_i32_2492 : BitVec 32 := 0#32
  let v2498 : BitVec 32 := Scalar.addi v2497 c0_i32_2492
  let v2503 : Index := Scalar.indexCast v2498
  let c0_2493 : Index := 0#32
  ![v2503.toNat, 0]

def k0_chk29 (v2346 : BitVec 32) : Prop :=
  (∀ a, (k0_off182 v2346) a + S1x64x1024.size a ≤ S32x128x4096.size a) ∧
  (∀ (hinb : ∀ a, (k0_off182 v2346) a + S1x64x1024.size a ≤ S32x128x4096.size a), (Rect.unit (s := S32x128x4096) (k0_off182 v2346) S1x64x1024.size hinb).WholeWords (EltTy.packing .fp8e5m2)) ∧
  (∀ a, (k0_off184 v2346) a + S1x64x1024.size a ≤ S32x128x4096.size a) ∧
  (∀ (hinb : ∀ a, (k0_off184 v2346) a + S1x64x1024.size a ≤ S32x128x4096.size a), (Rect.unit (s := S32x128x4096) (k0_off184 v2346) S1x64x1024.size hinb).WholeWords (EltTy.packing .fp8e5m2)) ∧
  (∀ a, (k0_off186 v2346) a + S1x64x1024.size a ≤ S32x128x4096.size a) ∧
  (∀ (hinb : ∀ a, (k0_off186 v2346) a + S1x64x1024.size a ≤ S32x128x4096.size a), (Rect.unit (s := S32x128x4096) (k0_off186 v2346) S1x64x1024.size hinb).WholeWords (EltTy.packing .fp8e5m2)) ∧
  (∀ a, (k0_off188 v2346) a + S1x64x1024.size a ≤ S32x128x4096.size a) ∧
  (∀ (hinb : ∀ a, (k0_off188 v2346) a + S1x64x1024.size a ≤ S32x128x4096.size a), (Rect.unit (s := S32x128x4096) (k0_off188 v2346) S1x64x1024.size hinb).WholeWords (EltTy.packing .fp8e5m2)) ∧
  (∀ a, (k0_off190 v2346) a + S1x64x4096.size a ≤ S32x128x4096.size a) ∧
  (∀ a, (k0_off191 v2346) a + S64x64.size a ≤ S4096x64.size a)
theorem k0_off182_inb : ∀ (v2346 : BitVec 32) (k0_hw29 : k0_chk29 v2346), ∀ a, (k0_off182 v2346) a + S1x64x1024.size a ≤ S32x128x4096.size a := fun v2346 k0_hw29 => k0_hw29.1
theorem k0_off182_wordsfp8e5m2 : ∀ (v2346 : BitVec 32) (k0_hw29 : k0_chk29 v2346), (Rect.unit (s := S32x128x4096) (k0_off182 v2346) S1x64x1024.size (k0_off182_inb v2346 k0_hw29)).WholeWords (EltTy.packing .fp8e5m2) := fun v2346 k0_hw29 => k0_hw29.2.1 (k0_off182_inb v2346 k0_hw29)
theorem k0_off184_inb : ∀ (v2346 : BitVec 32) (k0_hw29 : k0_chk29 v2346), ∀ a, (k0_off184 v2346) a + S1x64x1024.size a ≤ S32x128x4096.size a := fun v2346 k0_hw29 => k0_hw29.2.2.1
theorem k0_off184_wordsfp8e5m2 : ∀ (v2346 : BitVec 32) (k0_hw29 : k0_chk29 v2346), (Rect.unit (s := S32x128x4096) (k0_off184 v2346) S1x64x1024.size (k0_off184_inb v2346 k0_hw29)).WholeWords (EltTy.packing .fp8e5m2) := fun v2346 k0_hw29 => k0_hw29.2.2.2.1 (k0_off184_inb v2346 k0_hw29)
theorem k0_off186_inb : ∀ (v2346 : BitVec 32) (k0_hw29 : k0_chk29 v2346), ∀ a, (k0_off186 v2346) a + S1x64x1024.size a ≤ S32x128x4096.size a := fun v2346 k0_hw29 => k0_hw29.2.2.2.2.1
theorem k0_off186_wordsfp8e5m2 : ∀ (v2346 : BitVec 32) (k0_hw29 : k0_chk29 v2346), (Rect.unit (s := S32x128x4096) (k0_off186 v2346) S1x64x1024.size (k0_off186_inb v2346 k0_hw29)).WholeWords (EltTy.packing .fp8e5m2) := fun v2346 k0_hw29 => k0_hw29.2.2.2.2.2.1 (k0_off186_inb v2346 k0_hw29)
theorem k0_off188_inb : ∀ (v2346 : BitVec 32) (k0_hw29 : k0_chk29 v2346), ∀ a, (k0_off188 v2346) a + S1x64x1024.size a ≤ S32x128x4096.size a := fun v2346 k0_hw29 => k0_hw29.2.2.2.2.2.2.1
theorem k0_off188_wordsfp8e5m2 : ∀ (v2346 : BitVec 32) (k0_hw29 : k0_chk29 v2346), (Rect.unit (s := S32x128x4096) (k0_off188 v2346) S1x64x1024.size (k0_off188_inb v2346 k0_hw29)).WholeWords (EltTy.packing .fp8e5m2) := fun v2346 k0_hw29 => k0_hw29.2.2.2.2.2.2.2.1 (k0_off188_inb v2346 k0_hw29)
theorem k0_off190_inb : ∀ (v2346 : BitVec 32) (k0_hw29 : k0_chk29 v2346), ∀ a, (k0_off190 v2346) a + S1x64x4096.size a ≤ S32x128x4096.size a := fun v2346 k0_hw29 => k0_hw29.2.2.2.2.2.2.2.2.1
theorem k0_off191_inb : ∀ (v2346 : BitVec 32) (k0_hw29 : k0_chk29 v2346), ∀ a, (k0_off191 v2346) a + S64x64.size a ≤ S4096x64.size a := fun v2346 k0_hw29 => k0_hw29.2.2.2.2.2.2.2.2.2

def k0_off192 (v2348 : BitVec 32) : Fin 3 → Nat :=
  let v2505 : Index := Scalar.indexCast v2348
  let c64_2494 : Index := 64#32
  let c0_2495 : Index := 0#32
  ![v2505.toNat, 64, 0]
def k0_off193 (v2348 : BitVec 32) : Fin 2 → Nat :=
  let c128_i32_2497 : BitVec 32 := 128#32
  let v2509 : BitVec 32 := Scalar.muli v2348 c128_i32_2497
  let c64_i32_2498 : BitVec 32 := 64#32
  let v2510 : BitVec 32 := Scalar.addi v2509 c64_i32_2498
  let v2515 : Index := Scalar.indexCast v2510
  let c0_2499 : Index := 0#32
  ![v2515.toNat, 0]

def k0_chk30 (v2348 : BitVec 32) : Prop :=
  (∀ a, (k0_off183 v2348) a + S1x64x1024.size a ≤ S32x128x4096.size a) ∧
  (∀ (hinb : ∀ a, (k0_off183 v2348) a + S1x64x1024.size a ≤ S32x128x4096.size a), (Rect.unit (s := S32x128x4096) (k0_off183 v2348) S1x64x1024.size hinb).WholeWords (EltTy.packing .fp8e5m2)) ∧
  (∀ a, (k0_off185 v2348) a + S1x64x1024.size a ≤ S32x128x4096.size a) ∧
  (∀ (hinb : ∀ a, (k0_off185 v2348) a + S1x64x1024.size a ≤ S32x128x4096.size a), (Rect.unit (s := S32x128x4096) (k0_off185 v2348) S1x64x1024.size hinb).WholeWords (EltTy.packing .fp8e5m2)) ∧
  (∀ a, (k0_off187 v2348) a + S1x64x1024.size a ≤ S32x128x4096.size a) ∧
  (∀ (hinb : ∀ a, (k0_off187 v2348) a + S1x64x1024.size a ≤ S32x128x4096.size a), (Rect.unit (s := S32x128x4096) (k0_off187 v2348) S1x64x1024.size hinb).WholeWords (EltTy.packing .fp8e5m2)) ∧
  (∀ a, (k0_off189 v2348) a + S1x64x1024.size a ≤ S32x128x4096.size a) ∧
  (∀ (hinb : ∀ a, (k0_off189 v2348) a + S1x64x1024.size a ≤ S32x128x4096.size a), (Rect.unit (s := S32x128x4096) (k0_off189 v2348) S1x64x1024.size hinb).WholeWords (EltTy.packing .fp8e5m2)) ∧
  (∀ a, (k0_off192 v2348) a + S1x64x4096.size a ≤ S32x128x4096.size a) ∧
  (∀ a, (k0_off193 v2348) a + S64x64.size a ≤ S4096x64.size a)
theorem k0_off183_inb : ∀ (v2348 : BitVec 32) (k0_hw30 : k0_chk30 v2348), ∀ a, (k0_off183 v2348) a + S1x64x1024.size a ≤ S32x128x4096.size a := fun v2348 k0_hw30 => k0_hw30.1
theorem k0_off183_wordsfp8e5m2 : ∀ (v2348 : BitVec 32) (k0_hw30 : k0_chk30 v2348), (Rect.unit (s := S32x128x4096) (k0_off183 v2348) S1x64x1024.size (k0_off183_inb v2348 k0_hw30)).WholeWords (EltTy.packing .fp8e5m2) := fun v2348 k0_hw30 => k0_hw30.2.1 (k0_off183_inb v2348 k0_hw30)
theorem k0_off185_inb : ∀ (v2348 : BitVec 32) (k0_hw30 : k0_chk30 v2348), ∀ a, (k0_off185 v2348) a + S1x64x1024.size a ≤ S32x128x4096.size a := fun v2348 k0_hw30 => k0_hw30.2.2.1
theorem k0_off185_wordsfp8e5m2 : ∀ (v2348 : BitVec 32) (k0_hw30 : k0_chk30 v2348), (Rect.unit (s := S32x128x4096) (k0_off185 v2348) S1x64x1024.size (k0_off185_inb v2348 k0_hw30)).WholeWords (EltTy.packing .fp8e5m2) := fun v2348 k0_hw30 => k0_hw30.2.2.2.1 (k0_off185_inb v2348 k0_hw30)
theorem k0_off187_inb : ∀ (v2348 : BitVec 32) (k0_hw30 : k0_chk30 v2348), ∀ a, (k0_off187 v2348) a + S1x64x1024.size a ≤ S32x128x4096.size a := fun v2348 k0_hw30 => k0_hw30.2.2.2.2.1
theorem k0_off187_wordsfp8e5m2 : ∀ (v2348 : BitVec 32) (k0_hw30 : k0_chk30 v2348), (Rect.unit (s := S32x128x4096) (k0_off187 v2348) S1x64x1024.size (k0_off187_inb v2348 k0_hw30)).WholeWords (EltTy.packing .fp8e5m2) := fun v2348 k0_hw30 => k0_hw30.2.2.2.2.2.1 (k0_off187_inb v2348 k0_hw30)
theorem k0_off189_inb : ∀ (v2348 : BitVec 32) (k0_hw30 : k0_chk30 v2348), ∀ a, (k0_off189 v2348) a + S1x64x1024.size a ≤ S32x128x4096.size a := fun v2348 k0_hw30 => k0_hw30.2.2.2.2.2.2.1
theorem k0_off189_wordsfp8e5m2 : ∀ (v2348 : BitVec 32) (k0_hw30 : k0_chk30 v2348), (Rect.unit (s := S32x128x4096) (k0_off189 v2348) S1x64x1024.size (k0_off189_inb v2348 k0_hw30)).WholeWords (EltTy.packing .fp8e5m2) := fun v2348 k0_hw30 => k0_hw30.2.2.2.2.2.2.2.1 (k0_off189_inb v2348 k0_hw30)
theorem k0_off192_inb : ∀ (v2348 : BitVec 32) (k0_hw30 : k0_chk30 v2348), ∀ a, (k0_off192 v2348) a + S1x64x4096.size a ≤ S32x128x4096.size a := fun v2348 k0_hw30 => k0_hw30.2.2.2.2.2.2.2.2.1
theorem k0_off193_inb : ∀ (v2348 : BitVec 32) (k0_hw30 : k0_chk30 v2348), ∀ a, (k0_off193 v2348) a + S64x64.size a ≤ S4096x64.size a := fun v2348 k0_hw30 => k0_hw30.2.2.2.2.2.2.2.2.2

def k0_off194 (d0 : Dev nD) : Fin 2 → Nat :=
  let c15 : Index := 15#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2517 : Index := Scalar.indexCast v2
  ![15, v2517.toNat]
def k0_off195 (v2518 : BitVec 32) : Fin 3 → Nat :=
  let c0_i32_2507 : BitVec 32 := 0#32
  let c0_i32_2508 : BitVec 32 := 0#32
  ![v2518.toNat, 0, 0]

def k0_dev123 (v4 : BitVec 32) : Nat :=
  let c0_i32_2515 : BitVec 32 := 0#32
  let c1_i32_2514 : BitVec 32 := 1#32
  let v2529 : BitVec 32 := Scalar.muli v4 c1_i32_2514
  let v2530 : BitVec 32 := Scalar.addi c0_i32_2515 v2529
  v2530.toNat
def k0_off196 (v2520 : BitVec 32) : Fin 3 → Nat :=
  let c64_i32_2526 : BitVec 32 := 64#32
  let c0_i32_2527 : BitVec 32 := 0#32
  ![v2520.toNat, 64, 0]

def k0_dev124 (v6 : BitVec 32) : Nat :=
  let c0_i32_2535 : BitVec 32 := 0#32
  let c1_i32_2534 : BitVec 32 := 1#32
  let v2547 : BitVec 32 := Scalar.muli v6 c1_i32_2534
  let v2548 : BitVec 32 := Scalar.addi c0_i32_2535 v2547
  v2548.toNat
def k0_off197 (v2518 : BitVec 32) : Fin 3 → Nat :=
  let c0_i32_2546 : BitVec 32 := 0#32
  let c1024_i32_2547 : BitVec 32 := 1024#32
  ![v2518.toNat, 0, 1024]
def k0_dev125 (v4 : BitVec 32) : Nat :=
  let c0_i32_2555 : BitVec 32 := 0#32
  let c1_i32_2554 : BitVec 32 := 1#32
  let v2565 : BitVec 32 := Scalar.muli v4 c1_i32_2554
  let v2566 : BitVec 32 := Scalar.addi c0_i32_2555 v2565
  v2566.toNat
def k0_off198 (v2520 : BitVec 32) : Fin 3 → Nat :=
  let c64_i32_2566 : BitVec 32 := 64#32
  let c1024_i32_2567 : BitVec 32 := 1024#32
  ![v2520.toNat, 64, 1024]
def k0_dev126 (v6 : BitVec 32) : Nat :=
  let c0_i32_2575 : BitVec 32 := 0#32
  let c1_i32_2574 : BitVec 32 := 1#32
  let v2583 : BitVec 32 := Scalar.muli v6 c1_i32_2574
  let v2584 : BitVec 32 := Scalar.addi c0_i32_2575 v2583
  v2584.toNat
def k0_off199 (v2518 : BitVec 32) : Fin 3 → Nat :=
  let c0_i32_2586 : BitVec 32 := 0#32
  let c2048_i32_2587 : BitVec 32 := 2048#32
  ![v2518.toNat, 0, 2048]
def k0_dev127 (v4 : BitVec 32) : Nat :=
  let c0_i32_2595 : BitVec 32 := 0#32
  let c1_i32_2594 : BitVec 32 := 1#32
  let v2601 : BitVec 32 := Scalar.muli v4 c1_i32_2594
  let v2602 : BitVec 32 := Scalar.addi c0_i32_2595 v2601
  v2602.toNat
def k0_off200 (v2520 : BitVec 32) : Fin 3 → Nat :=
  let c64_i32_2606 : BitVec 32 := 64#32
  let c2048_i32_2607 : BitVec 32 := 2048#32
  ![v2520.toNat, 64, 2048]
def k0_dev128 (v6 : BitVec 32) : Nat :=
  let c0_i32_2615 : BitVec 32 := 0#32
  let c1_i32_2614 : BitVec 32 := 1#32
  let v2619 : BitVec 32 := Scalar.muli v6 c1_i32_2614
  let v2620 : BitVec 32 := Scalar.addi c0_i32_2615 v2619
  v2620.toNat
def k0_off201 (v2518 : BitVec 32) : Fin 3 → Nat :=
  let c0_i32_2626 : BitVec 32 := 0#32
  let c3072_i32_2627 : BitVec 32 := 3072#32
  ![v2518.toNat, 0, 3072]
def k0_dev129 (v4 : BitVec 32) : Nat :=
  let c0_i32_2635 : BitVec 32 := 0#32
  let c1_i32_2634 : BitVec 32 := 1#32
  let v2637 : BitVec 32 := Scalar.muli v4 c1_i32_2634
  let v2638 : BitVec 32 := Scalar.addi c0_i32_2635 v2637
  v2638.toNat
def k0_off202 (v2520 : BitVec 32) : Fin 3 → Nat :=
  let c64_i32_2646 : BitVec 32 := 64#32
  let c3072_i32_2647 : BitVec 32 := 3072#32
  ![v2520.toNat, 64, 3072]
def k0_dev130 (v6 : BitVec 32) : Nat :=
  let c0_i32_2655 : BitVec 32 := 0#32
  let c1_i32_2654 : BitVec 32 := 1#32
  let v2655 : BitVec 32 := Scalar.muli v6 c1_i32_2654
  let v2656 : BitVec 32 := Scalar.addi c0_i32_2655 v2655
  v2656.toNat
def k0_off203 (v2518 : BitVec 32) : Fin 3 → Nat :=
  let v2665 : Index := Scalar.indexCast v2518
  let c0_2660 : Index := 0#32
  let c0_2661 : Index := 0#32
  ![v2665.toNat, 0, 0]
def k0_off204 (v2518 : BitVec 32) : Fin 2 → Nat :=
  let c128_i32_2663 : BitVec 32 := 128#32
  let v2669 : BitVec 32 := Scalar.muli v2518 c128_i32_2663
  let c0_i32_2664 : BitVec 32 := 0#32
  let v2670 : BitVec 32 := Scalar.addi v2669 c0_i32_2664
  let v2675 : Index := Scalar.indexCast v2670
  let c0_2665 : Index := 0#32
  ![v2675.toNat, 0]

def k0_chk31 (v2518 : BitVec 32) : Prop :=
  (∀ a, (k0_off195 v2518) a + S1x64x1024.size a ≤ S32x128x4096.size a) ∧
  (∀ (hinb : ∀ a, (k0_off195 v2518) a + S1x64x1024.size a ≤ S32x128x4096.size a), (Rect.unit (s := S32x128x4096) (k0_off195 v2518) S1x64x1024.size hinb).WholeWords (EltTy.packing .fp8e5m2)) ∧
  (∀ a, (k0_off197 v2518) a + S1x64x1024.size a ≤ S32x128x4096.size a) ∧
  (∀ (hinb : ∀ a, (k0_off197 v2518) a + S1x64x1024.size a ≤ S32x128x4096.size a), (Rect.unit (s := S32x128x4096) (k0_off197 v2518) S1x64x1024.size hinb).WholeWords (EltTy.packing .fp8e5m2)) ∧
  (∀ a, (k0_off199 v2518) a + S1x64x1024.size a ≤ S32x128x4096.size a) ∧
  (∀ (hinb : ∀ a, (k0_off199 v2518) a + S1x64x1024.size a ≤ S32x128x4096.size a), (Rect.unit (s := S32x128x4096) (k0_off199 v2518) S1x64x1024.size hinb).WholeWords (EltTy.packing .fp8e5m2)) ∧
  (∀ a, (k0_off201 v2518) a + S1x64x1024.size a ≤ S32x128x4096.size a) ∧
  (∀ (hinb : ∀ a, (k0_off201 v2518) a + S1x64x1024.size a ≤ S32x128x4096.size a), (Rect.unit (s := S32x128x4096) (k0_off201 v2518) S1x64x1024.size hinb).WholeWords (EltTy.packing .fp8e5m2)) ∧
  (∀ a, (k0_off203 v2518) a + S1x64x4096.size a ≤ S32x128x4096.size a) ∧
  (∀ a, (k0_off204 v2518) a + S64x64.size a ≤ S4096x64.size a)
theorem k0_off195_inb : ∀ (v2518 : BitVec 32) (k0_hw31 : k0_chk31 v2518), ∀ a, (k0_off195 v2518) a + S1x64x1024.size a ≤ S32x128x4096.size a := fun v2518 k0_hw31 => k0_hw31.1
theorem k0_off195_wordsfp8e5m2 : ∀ (v2518 : BitVec 32) (k0_hw31 : k0_chk31 v2518), (Rect.unit (s := S32x128x4096) (k0_off195 v2518) S1x64x1024.size (k0_off195_inb v2518 k0_hw31)).WholeWords (EltTy.packing .fp8e5m2) := fun v2518 k0_hw31 => k0_hw31.2.1 (k0_off195_inb v2518 k0_hw31)
theorem k0_off197_inb : ∀ (v2518 : BitVec 32) (k0_hw31 : k0_chk31 v2518), ∀ a, (k0_off197 v2518) a + S1x64x1024.size a ≤ S32x128x4096.size a := fun v2518 k0_hw31 => k0_hw31.2.2.1
theorem k0_off197_wordsfp8e5m2 : ∀ (v2518 : BitVec 32) (k0_hw31 : k0_chk31 v2518), (Rect.unit (s := S32x128x4096) (k0_off197 v2518) S1x64x1024.size (k0_off197_inb v2518 k0_hw31)).WholeWords (EltTy.packing .fp8e5m2) := fun v2518 k0_hw31 => k0_hw31.2.2.2.1 (k0_off197_inb v2518 k0_hw31)
theorem k0_off199_inb : ∀ (v2518 : BitVec 32) (k0_hw31 : k0_chk31 v2518), ∀ a, (k0_off199 v2518) a + S1x64x1024.size a ≤ S32x128x4096.size a := fun v2518 k0_hw31 => k0_hw31.2.2.2.2.1
theorem k0_off199_wordsfp8e5m2 : ∀ (v2518 : BitVec 32) (k0_hw31 : k0_chk31 v2518), (Rect.unit (s := S32x128x4096) (k0_off199 v2518) S1x64x1024.size (k0_off199_inb v2518 k0_hw31)).WholeWords (EltTy.packing .fp8e5m2) := fun v2518 k0_hw31 => k0_hw31.2.2.2.2.2.1 (k0_off199_inb v2518 k0_hw31)
theorem k0_off201_inb : ∀ (v2518 : BitVec 32) (k0_hw31 : k0_chk31 v2518), ∀ a, (k0_off201 v2518) a + S1x64x1024.size a ≤ S32x128x4096.size a := fun v2518 k0_hw31 => k0_hw31.2.2.2.2.2.2.1
theorem k0_off201_wordsfp8e5m2 : ∀ (v2518 : BitVec 32) (k0_hw31 : k0_chk31 v2518), (Rect.unit (s := S32x128x4096) (k0_off201 v2518) S1x64x1024.size (k0_off201_inb v2518 k0_hw31)).WholeWords (EltTy.packing .fp8e5m2) := fun v2518 k0_hw31 => k0_hw31.2.2.2.2.2.2.2.1 (k0_off201_inb v2518 k0_hw31)
theorem k0_off203_inb : ∀ (v2518 : BitVec 32) (k0_hw31 : k0_chk31 v2518), ∀ a, (k0_off203 v2518) a + S1x64x4096.size a ≤ S32x128x4096.size a := fun v2518 k0_hw31 => k0_hw31.2.2.2.2.2.2.2.2.1
theorem k0_off204_inb : ∀ (v2518 : BitVec 32) (k0_hw31 : k0_chk31 v2518), ∀ a, (k0_off204 v2518) a + S64x64.size a ≤ S4096x64.size a := fun v2518 k0_hw31 => k0_hw31.2.2.2.2.2.2.2.2.2

def k0_off205 (v2520 : BitVec 32) : Fin 3 → Nat :=
  let v2677 : Index := Scalar.indexCast v2520
  let c64_2666 : Index := 64#32
  let c0_2667 : Index := 0#32
  ![v2677.toNat, 64, 0]
def k0_off206 (v2520 : BitVec 32) : Fin 2 → Nat :=
  let c128_i32_2669 : BitVec 32 := 128#32
  let v2681 : BitVec 32 := Scalar.muli v2520 c128_i32_2669
  let c64_i32_2670 : BitVec 32 := 64#32
  let v2682 : BitVec 32 := Scalar.addi v2681 c64_i32_2670
  let v2687 : Index := Scalar.indexCast v2682
  let c0_2671 : Index := 0#32
  ![v2687.toNat, 0]

def k0_chk32 (v2520 : BitVec 32) : Prop :=
  (∀ a, (k0_off196 v2520) a + S1x64x1024.size a ≤ S32x128x4096.size a) ∧
  (∀ (hinb : ∀ a, (k0_off196 v2520) a + S1x64x1024.size a ≤ S32x128x4096.size a), (Rect.unit (s := S32x128x4096) (k0_off196 v2520) S1x64x1024.size hinb).WholeWords (EltTy.packing .fp8e5m2)) ∧
  (∀ a, (k0_off198 v2520) a + S1x64x1024.size a ≤ S32x128x4096.size a) ∧
  (∀ (hinb : ∀ a, (k0_off198 v2520) a + S1x64x1024.size a ≤ S32x128x4096.size a), (Rect.unit (s := S32x128x4096) (k0_off198 v2520) S1x64x1024.size hinb).WholeWords (EltTy.packing .fp8e5m2)) ∧
  (∀ a, (k0_off200 v2520) a + S1x64x1024.size a ≤ S32x128x4096.size a) ∧
  (∀ (hinb : ∀ a, (k0_off200 v2520) a + S1x64x1024.size a ≤ S32x128x4096.size a), (Rect.unit (s := S32x128x4096) (k0_off200 v2520) S1x64x1024.size hinb).WholeWords (EltTy.packing .fp8e5m2)) ∧
  (∀ a, (k0_off202 v2520) a + S1x64x1024.size a ≤ S32x128x4096.size a) ∧
  (∀ (hinb : ∀ a, (k0_off202 v2520) a + S1x64x1024.size a ≤ S32x128x4096.size a), (Rect.unit (s := S32x128x4096) (k0_off202 v2520) S1x64x1024.size hinb).WholeWords (EltTy.packing .fp8e5m2)) ∧
  (∀ a, (k0_off205 v2520) a + S1x64x4096.size a ≤ S32x128x4096.size a) ∧
  (∀ a, (k0_off206 v2520) a + S64x64.size a ≤ S4096x64.size a)
theorem k0_off196_inb : ∀ (v2520 : BitVec 32) (k0_hw32 : k0_chk32 v2520), ∀ a, (k0_off196 v2520) a + S1x64x1024.size a ≤ S32x128x4096.size a := fun v2520 k0_hw32 => k0_hw32.1
theorem k0_off196_wordsfp8e5m2 : ∀ (v2520 : BitVec 32) (k0_hw32 : k0_chk32 v2520), (Rect.unit (s := S32x128x4096) (k0_off196 v2520) S1x64x1024.size (k0_off196_inb v2520 k0_hw32)).WholeWords (EltTy.packing .fp8e5m2) := fun v2520 k0_hw32 => k0_hw32.2.1 (k0_off196_inb v2520 k0_hw32)
theorem k0_off198_inb : ∀ (v2520 : BitVec 32) (k0_hw32 : k0_chk32 v2520), ∀ a, (k0_off198 v2520) a + S1x64x1024.size a ≤ S32x128x4096.size a := fun v2520 k0_hw32 => k0_hw32.2.2.1
theorem k0_off198_wordsfp8e5m2 : ∀ (v2520 : BitVec 32) (k0_hw32 : k0_chk32 v2520), (Rect.unit (s := S32x128x4096) (k0_off198 v2520) S1x64x1024.size (k0_off198_inb v2520 k0_hw32)).WholeWords (EltTy.packing .fp8e5m2) := fun v2520 k0_hw32 => k0_hw32.2.2.2.1 (k0_off198_inb v2520 k0_hw32)
theorem k0_off200_inb : ∀ (v2520 : BitVec 32) (k0_hw32 : k0_chk32 v2520), ∀ a, (k0_off200 v2520) a + S1x64x1024.size a ≤ S32x128x4096.size a := fun v2520 k0_hw32 => k0_hw32.2.2.2.2.1
theorem k0_off200_wordsfp8e5m2 : ∀ (v2520 : BitVec 32) (k0_hw32 : k0_chk32 v2520), (Rect.unit (s := S32x128x4096) (k0_off200 v2520) S1x64x1024.size (k0_off200_inb v2520 k0_hw32)).WholeWords (EltTy.packing .fp8e5m2) := fun v2520 k0_hw32 => k0_hw32.2.2.2.2.2.1 (k0_off200_inb v2520 k0_hw32)
theorem k0_off202_inb : ∀ (v2520 : BitVec 32) (k0_hw32 : k0_chk32 v2520), ∀ a, (k0_off202 v2520) a + S1x64x1024.size a ≤ S32x128x4096.size a := fun v2520 k0_hw32 => k0_hw32.2.2.2.2.2.2.1
theorem k0_off202_wordsfp8e5m2 : ∀ (v2520 : BitVec 32) (k0_hw32 : k0_chk32 v2520), (Rect.unit (s := S32x128x4096) (k0_off202 v2520) S1x64x1024.size (k0_off202_inb v2520 k0_hw32)).WholeWords (EltTy.packing .fp8e5m2) := fun v2520 k0_hw32 => k0_hw32.2.2.2.2.2.2.2.1 (k0_off202_inb v2520 k0_hw32)
theorem k0_off205_inb : ∀ (v2520 : BitVec 32) (k0_hw32 : k0_chk32 v2520), ∀ a, (k0_off205 v2520) a + S1x64x4096.size a ≤ S32x128x4096.size a := fun v2520 k0_hw32 => k0_hw32.2.2.2.2.2.2.2.2.1
theorem k0_off206_inb : ∀ (v2520 : BitVec 32) (k0_hw32 : k0_chk32 v2520), ∀ a, (k0_off206 v2520) a + S64x64.size a ≤ S4096x64.size a := fun v2520 k0_hw32 => k0_hw32.2.2.2.2.2.2.2.2.2

def k0_off207 (d0 : Dev nD) : Fin 2 → Nat :=
  let c16 : Index := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2689 : Index := Scalar.indexCast v2
  ![16, v2689.toNat]
def k0_off208 (v2690 : BitVec 32) : Fin 3 → Nat :=
  let c0_i32_2679 : BitVec 32 := 0#32
  let c0_i32_2680 : BitVec 32 := 0#32
  ![v2690.toNat, 0, 0]

def k0_dev131 (v4 : BitVec 32) : Nat :=
  let c0_i32_2687 : BitVec 32 := 0#32
  let c1_i32_2686 : BitVec 32 := 1#32
  let v2701 : BitVec 32 := Scalar.muli v4 c1_i32_2686
  let v2702 : BitVec 32 := Scalar.addi c0_i32_2687 v2701
  v2702.toNat
def k0_off209 (v2692 : BitVec 32) : Fin 3 → Nat :=
  let c64_i32_2698 : BitVec 32 := 64#32
  let c0_i32_2699 : BitVec 32 := 0#32
  ![v2692.toNat, 64, 0]

def k0_dev132 (v6 : BitVec 32) : Nat :=
  let c0_i32_2707 : BitVec 32 := 0#32
  let c1_i32_2706 : BitVec 32 := 1#32
  let v2719 : BitVec 32 := Scalar.muli v6 c1_i32_2706
  let v2720 : BitVec 32 := Scalar.addi c0_i32_2707 v2719
  v2720.toNat
def k0_off210 (v2690 : BitVec 32) : Fin 3 → Nat :=
  let c0_i32_2718 : BitVec 32 := 0#32
  let c1024_i32_2719 : BitVec 32 := 1024#32
  ![v2690.toNat, 0, 1024]
def k0_dev133 (v4 : BitVec 32) : Nat :=
  let c0_i32_2727 : BitVec 32 := 0#32
  let c1_i32_2726 : BitVec 32 := 1#32
  let v2737 : BitVec 32 := Scalar.muli v4 c1_i32_2726
  let v2738 : BitVec 32 := Scalar.addi c0_i32_2727 v2737
  v2738.toNat
def k0_off211 (v2692 : BitVec 32) : Fin 3 → Nat :=
  let c64_i32_2738 : BitVec 32 := 64#32
  let c1024_i32_2739 : BitVec 32 := 1024#32
  ![v2692.toNat, 64, 1024]
def k0_dev134 (v6 : BitVec 32) : Nat :=
  let c0_i32_2747 : BitVec 32 := 0#32
  let c1_i32_2746 : BitVec 32 := 1#32
  let v2755 : BitVec 32 := Scalar.muli v6 c1_i32_2746
  let v2756 : BitVec 32 := Scalar.addi c0_i32_2747 v2755
  v2756.toNat
def k0_off212 (v2690 : BitVec 32) : Fin 3 → Nat :=
  let c0_i32_2758 : BitVec 32 := 0#32
  let c2048_i32_2759 : BitVec 32 := 2048#32
  ![v2690.toNat, 0, 2048]
def k0_dev135 (v4 : BitVec 32) : Nat :=
  let c0_i32_2767 : BitVec 32 := 0#32
  let c1_i32_2766 : BitVec 32 := 1#32
  let v2773 : BitVec 32 := Scalar.muli v4 c1_i32_2766
  let v2774 : BitVec 32 := Scalar.addi c0_i32_2767 v2773
  v2774.toNat
def k0_off213 (v2692 : BitVec 32) : Fin 3 → Nat :=
  let c64_i32_2778 : BitVec 32 := 64#32
  let c2048_i32_2779 : BitVec 32 := 2048#32
  ![v2692.toNat, 64, 2048]
def k0_dev136 (v6 : BitVec 32) : Nat :=
  let c0_i32_2787 : BitVec 32 := 0#32
  let c1_i32_2786 : BitVec 32 := 1#32
  let v2791 : BitVec 32 := Scalar.muli v6 c1_i32_2786
  let v2792 : BitVec 32 := Scalar.addi c0_i32_2787 v2791
  v2792.toNat
def k0_off214 (v2690 : BitVec 32) : Fin 3 → Nat :=
  let c0_i32_2798 : BitVec 32 := 0#32
  let c3072_i32_2799 : BitVec 32 := 3072#32
  ![v2690.toNat, 0, 3072]
def k0_dev137 (v4 : BitVec 32) : Nat :=
  let c0_i32_2807 : BitVec 32 := 0#32
  let c1_i32_2806 : BitVec 32 := 1#32
  let v2809 : BitVec 32 := Scalar.muli v4 c1_i32_2806
  let v2810 : BitVec 32 := Scalar.addi c0_i32_2807 v2809
  v2810.toNat
def k0_off215 (v2692 : BitVec 32) : Fin 3 → Nat :=
  let c64_i32_2818 : BitVec 32 := 64#32
  let c3072_i32_2819 : BitVec 32 := 3072#32
  ![v2692.toNat, 64, 3072]
def k0_dev138 (v6 : BitVec 32) : Nat :=
  let c0_i32_2827 : BitVec 32 := 0#32
  let c1_i32_2826 : BitVec 32 := 1#32
  let v2827 : BitVec 32 := Scalar.muli v6 c1_i32_2826
  let v2828 : BitVec 32 := Scalar.addi c0_i32_2827 v2827
  v2828.toNat
def k0_off216 (v2690 : BitVec 32) : Fin 3 → Nat :=
  let v2837 : Index := Scalar.indexCast v2690
  let c0_2832 : Index := 0#32
  let c0_2833 : Index := 0#32
  ![v2837.toNat, 0, 0]
def k0_off217 (v2690 : BitVec 32) : Fin 2 → Nat :=
  let c128_i32_2835 : BitVec 32 := 128#32
  let v2841 : BitVec 32 := Scalar.muli v2690 c128_i32_2835
  let c0_i32_2836 : BitVec 32 := 0#32
  let v2842 : BitVec 32 := Scalar.addi v2841 c0_i32_2836
  let v2847 : Index := Scalar.indexCast v2842
  let c0_2837 : Index := 0#32
  ![v2847.toNat, 0]

def k0_chk33 (v2690 : BitVec 32) : Prop :=
  (∀ a, (k0_off208 v2690) a + S1x64x1024.size a ≤ S32x128x4096.size a) ∧
  (∀ (hinb : ∀ a, (k0_off208 v2690) a + S1x64x1024.size a ≤ S32x128x4096.size a), (Rect.unit (s := S32x128x4096) (k0_off208 v2690) S1x64x1024.size hinb).WholeWords (EltTy.packing .fp8e5m2)) ∧
  (∀ a, (k0_off210 v2690) a + S1x64x1024.size a ≤ S32x128x4096.size a) ∧
  (∀ (hinb : ∀ a, (k0_off210 v2690) a + S1x64x1024.size a ≤ S32x128x4096.size a), (Rect.unit (s := S32x128x4096) (k0_off210 v2690) S1x64x1024.size hinb).WholeWords (EltTy.packing .fp8e5m2)) ∧
  (∀ a, (k0_off212 v2690) a + S1x64x1024.size a ≤ S32x128x4096.size a) ∧
  (∀ (hinb : ∀ a, (k0_off212 v2690) a + S1x64x1024.size a ≤ S32x128x4096.size a), (Rect.unit (s := S32x128x4096) (k0_off212 v2690) S1x64x1024.size hinb).WholeWords (EltTy.packing .fp8e5m2)) ∧
  (∀ a, (k0_off214 v2690) a + S1x64x1024.size a ≤ S32x128x4096.size a) ∧
  (∀ (hinb : ∀ a, (k0_off214 v2690) a + S1x64x1024.size a ≤ S32x128x4096.size a), (Rect.unit (s := S32x128x4096) (k0_off214 v2690) S1x64x1024.size hinb).WholeWords (EltTy.packing .fp8e5m2)) ∧
  (∀ a, (k0_off216 v2690) a + S1x64x4096.size a ≤ S32x128x4096.size a) ∧
  (∀ a, (k0_off217 v2690) a + S64x64.size a ≤ S4096x64.size a)
theorem k0_off208_inb : ∀ (v2690 : BitVec 32) (k0_hw33 : k0_chk33 v2690), ∀ a, (k0_off208 v2690) a + S1x64x1024.size a ≤ S32x128x4096.size a := fun v2690 k0_hw33 => k0_hw33.1
theorem k0_off208_wordsfp8e5m2 : ∀ (v2690 : BitVec 32) (k0_hw33 : k0_chk33 v2690), (Rect.unit (s := S32x128x4096) (k0_off208 v2690) S1x64x1024.size (k0_off208_inb v2690 k0_hw33)).WholeWords (EltTy.packing .fp8e5m2) := fun v2690 k0_hw33 => k0_hw33.2.1 (k0_off208_inb v2690 k0_hw33)
theorem k0_off210_inb : ∀ (v2690 : BitVec 32) (k0_hw33 : k0_chk33 v2690), ∀ a, (k0_off210 v2690) a + S1x64x1024.size a ≤ S32x128x4096.size a := fun v2690 k0_hw33 => k0_hw33.2.2.1
theorem k0_off210_wordsfp8e5m2 : ∀ (v2690 : BitVec 32) (k0_hw33 : k0_chk33 v2690), (Rect.unit (s := S32x128x4096) (k0_off210 v2690) S1x64x1024.size (k0_off210_inb v2690 k0_hw33)).WholeWords (EltTy.packing .fp8e5m2) := fun v2690 k0_hw33 => k0_hw33.2.2.2.1 (k0_off210_inb v2690 k0_hw33)
theorem k0_off212_inb : ∀ (v2690 : BitVec 32) (k0_hw33 : k0_chk33 v2690), ∀ a, (k0_off212 v2690) a + S1x64x1024.size a ≤ S32x128x4096.size a := fun v2690 k0_hw33 => k0_hw33.2.2.2.2.1
theorem k0_off212_wordsfp8e5m2 : ∀ (v2690 : BitVec 32) (k0_hw33 : k0_chk33 v2690), (Rect.unit (s := S32x128x4096) (k0_off212 v2690) S1x64x1024.size (k0_off212_inb v2690 k0_hw33)).WholeWords (EltTy.packing .fp8e5m2) := fun v2690 k0_hw33 => k0_hw33.2.2.2.2.2.1 (k0_off212_inb v2690 k0_hw33)
theorem k0_off214_inb : ∀ (v2690 : BitVec 32) (k0_hw33 : k0_chk33 v2690), ∀ a, (k0_off214 v2690) a + S1x64x1024.size a ≤ S32x128x4096.size a := fun v2690 k0_hw33 => k0_hw33.2.2.2.2.2.2.1
theorem k0_off214_wordsfp8e5m2 : ∀ (v2690 : BitVec 32) (k0_hw33 : k0_chk33 v2690), (Rect.unit (s := S32x128x4096) (k0_off214 v2690) S1x64x1024.size (k0_off214_inb v2690 k0_hw33)).WholeWords (EltTy.packing .fp8e5m2) := fun v2690 k0_hw33 => k0_hw33.2.2.2.2.2.2.2.1 (k0_off214_inb v2690 k0_hw33)
theorem k0_off216_inb : ∀ (v2690 : BitVec 32) (k0_hw33 : k0_chk33 v2690), ∀ a, (k0_off216 v2690) a + S1x64x4096.size a ≤ S32x128x4096.size a := fun v2690 k0_hw33 => k0_hw33.2.2.2.2.2.2.2.2.1
theorem k0_off217_inb : ∀ (v2690 : BitVec 32) (k0_hw33 : k0_chk33 v2690), ∀ a, (k0_off217 v2690) a + S64x64.size a ≤ S4096x64.size a := fun v2690 k0_hw33 => k0_hw33.2.2.2.2.2.2.2.2.2

def k0_off218 (v2692 : BitVec 32) : Fin 3 → Nat :=
  let v2849 : Index := Scalar.indexCast v2692
  let c64_2838 : Index := 64#32
  let c0_2839 : Index := 0#32
  ![v2849.toNat, 64, 0]
def k0_off219 (v2692 : BitVec 32) : Fin 2 → Nat :=
  let c128_i32_2841 : BitVec 32 := 128#32
  let v2853 : BitVec 32 := Scalar.muli v2692 c128_i32_2841
  let c64_i32_2842 : BitVec 32 := 64#32
  let v2854 : BitVec 32 := Scalar.addi v2853 c64_i32_2842
  let v2859 : Index := Scalar.indexCast v2854
  let c0_2843 : Index := 0#32
  ![v2859.toNat, 0]

def k0_chk34 (v2692 : BitVec 32) : Prop :=
  (∀ a, (k0_off209 v2692) a + S1x64x1024.size a ≤ S32x128x4096.size a) ∧
  (∀ (hinb : ∀ a, (k0_off209 v2692) a + S1x64x1024.size a ≤ S32x128x4096.size a), (Rect.unit (s := S32x128x4096) (k0_off209 v2692) S1x64x1024.size hinb).WholeWords (EltTy.packing .fp8e5m2)) ∧
  (∀ a, (k0_off211 v2692) a + S1x64x1024.size a ≤ S32x128x4096.size a) ∧
  (∀ (hinb : ∀ a, (k0_off211 v2692) a + S1x64x1024.size a ≤ S32x128x4096.size a), (Rect.unit (s := S32x128x4096) (k0_off211 v2692) S1x64x1024.size hinb).WholeWords (EltTy.packing .fp8e5m2)) ∧
  (∀ a, (k0_off213 v2692) a + S1x64x1024.size a ≤ S32x128x4096.size a) ∧
  (∀ (hinb : ∀ a, (k0_off213 v2692) a + S1x64x1024.size a ≤ S32x128x4096.size a), (Rect.unit (s := S32x128x4096) (k0_off213 v2692) S1x64x1024.size hinb).WholeWords (EltTy.packing .fp8e5m2)) ∧
  (∀ a, (k0_off215 v2692) a + S1x64x1024.size a ≤ S32x128x4096.size a) ∧
  (∀ (hinb : ∀ a, (k0_off215 v2692) a + S1x64x1024.size a ≤ S32x128x4096.size a), (Rect.unit (s := S32x128x4096) (k0_off215 v2692) S1x64x1024.size hinb).WholeWords (EltTy.packing .fp8e5m2)) ∧
  (∀ a, (k0_off218 v2692) a + S1x64x4096.size a ≤ S32x128x4096.size a) ∧
  (∀ a, (k0_off219 v2692) a + S64x64.size a ≤ S4096x64.size a)
theorem k0_off209_inb : ∀ (v2692 : BitVec 32) (k0_hw34 : k0_chk34 v2692), ∀ a, (k0_off209 v2692) a + S1x64x1024.size a ≤ S32x128x4096.size a := fun v2692 k0_hw34 => k0_hw34.1
theorem k0_off209_wordsfp8e5m2 : ∀ (v2692 : BitVec 32) (k0_hw34 : k0_chk34 v2692), (Rect.unit (s := S32x128x4096) (k0_off209 v2692) S1x64x1024.size (k0_off209_inb v2692 k0_hw34)).WholeWords (EltTy.packing .fp8e5m2) := fun v2692 k0_hw34 => k0_hw34.2.1 (k0_off209_inb v2692 k0_hw34)
theorem k0_off211_inb : ∀ (v2692 : BitVec 32) (k0_hw34 : k0_chk34 v2692), ∀ a, (k0_off211 v2692) a + S1x64x1024.size a ≤ S32x128x4096.size a := fun v2692 k0_hw34 => k0_hw34.2.2.1
theorem k0_off211_wordsfp8e5m2 : ∀ (v2692 : BitVec 32) (k0_hw34 : k0_chk34 v2692), (Rect.unit (s := S32x128x4096) (k0_off211 v2692) S1x64x1024.size (k0_off211_inb v2692 k0_hw34)).WholeWords (EltTy.packing .fp8e5m2) := fun v2692 k0_hw34 => k0_hw34.2.2.2.1 (k0_off211_inb v2692 k0_hw34)
theorem k0_off213_inb : ∀ (v2692 : BitVec 32) (k0_hw34 : k0_chk34 v2692), ∀ a, (k0_off213 v2692) a + S1x64x1024.size a ≤ S32x128x4096.size a := fun v2692 k0_hw34 => k0_hw34.2.2.2.2.1
theorem k0_off213_wordsfp8e5m2 : ∀ (v2692 : BitVec 32) (k0_hw34 : k0_chk34 v2692), (Rect.unit (s := S32x128x4096) (k0_off213 v2692) S1x64x1024.size (k0_off213_inb v2692 k0_hw34)).WholeWords (EltTy.packing .fp8e5m2) := fun v2692 k0_hw34 => k0_hw34.2.2.2.2.2.1 (k0_off213_inb v2692 k0_hw34)
theorem k0_off215_inb : ∀ (v2692 : BitVec 32) (k0_hw34 : k0_chk34 v2692), ∀ a, (k0_off215 v2692) a + S1x64x1024.size a ≤ S32x128x4096.size a := fun v2692 k0_hw34 => k0_hw34.2.2.2.2.2.2.1
theorem k0_off215_wordsfp8e5m2 : ∀ (v2692 : BitVec 32) (k0_hw34 : k0_chk34 v2692), (Rect.unit (s := S32x128x4096) (k0_off215 v2692) S1x64x1024.size (k0_off215_inb v2692 k0_hw34)).WholeWords (EltTy.packing .fp8e5m2) := fun v2692 k0_hw34 => k0_hw34.2.2.2.2.2.2.2.1 (k0_off215_inb v2692 k0_hw34)
theorem k0_off218_inb : ∀ (v2692 : BitVec 32) (k0_hw34 : k0_chk34 v2692), ∀ a, (k0_off218 v2692) a + S1x64x4096.size a ≤ S32x128x4096.size a := fun v2692 k0_hw34 => k0_hw34.2.2.2.2.2.2.2.2.1
theorem k0_off219_inb : ∀ (v2692 : BitVec 32) (k0_hw34 : k0_chk34 v2692), ∀ a, (k0_off219 v2692) a + S64x64.size a ≤ S4096x64.size a := fun v2692 k0_hw34 => k0_hw34.2.2.2.2.2.2.2.2.2

def k0_off220 (d0 : Dev nD) : Fin 2 → Nat :=
  let c17 : Index := 17#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2861 : Index := Scalar.indexCast v2
  ![17, v2861.toNat]
def k0_off221 (v2862 : BitVec 32) : Fin 3 → Nat :=
  let c0_i32_2851 : BitVec 32 := 0#32
  let c0_i32_2852 : BitVec 32 := 0#32
  ![v2862.toNat, 0, 0]

def k0_dev139 (v4 : BitVec 32) : Nat :=
  let c0_i32_2859 : BitVec 32 := 0#32
  let c1_i32_2858 : BitVec 32 := 1#32
  let v2873 : BitVec 32 := Scalar.muli v4 c1_i32_2858
  let v2874 : BitVec 32 := Scalar.addi c0_i32_2859 v2873
  v2874.toNat
def k0_off222 (v2864 : BitVec 32) : Fin 3 → Nat :=
  let c64_i32_2870 : BitVec 32 := 64#32
  let c0_i32_2871 : BitVec 32 := 0#32
  ![v2864.toNat, 64, 0]

def k0_dev140 (v6 : BitVec 32) : Nat :=
  let c0_i32_2879 : BitVec 32 := 0#32
  let c1_i32_2878 : BitVec 32 := 1#32
  let v2891 : BitVec 32 := Scalar.muli v6 c1_i32_2878
  let v2892 : BitVec 32 := Scalar.addi c0_i32_2879 v2891
  v2892.toNat
def k0_off223 (v2862 : BitVec 32) : Fin 3 → Nat :=
  let c0_i32_2890 : BitVec 32 := 0#32
  let c1024_i32_2891 : BitVec 32 := 1024#32
  ![v2862.toNat, 0, 1024]
def k0_dev141 (v4 : BitVec 32) : Nat :=
  let c0_i32_2899 : BitVec 32 := 0#32
  let c1_i32_2898 : BitVec 32 := 1#32
  let v2909 : BitVec 32 := Scalar.muli v4 c1_i32_2898
  let v2910 : BitVec 32 := Scalar.addi c0_i32_2899 v2909
  v2910.toNat
def k0_off224 (v2864 : BitVec 32) : Fin 3 → Nat :=
  let c64_i32_2910 : BitVec 32 := 64#32
  let c1024_i32_2911 : BitVec 32 := 1024#32
  ![v2864.toNat, 64, 1024]
def k0_dev142 (v6 : BitVec 32) : Nat :=
  let c0_i32_2919 : BitVec 32 := 0#32
  let c1_i32_2918 : BitVec 32 := 1#32
  let v2927 : BitVec 32 := Scalar.muli v6 c1_i32_2918
  let v2928 : BitVec 32 := Scalar.addi c0_i32_2919 v2927
  v2928.toNat
def k0_off225 (v2862 : BitVec 32) : Fin 3 → Nat :=
  let c0_i32_2930 : BitVec 32 := 0#32
  let c2048_i32_2931 : BitVec 32 := 2048#32
  ![v2862.toNat, 0, 2048]
def k0_dev143 (v4 : BitVec 32) : Nat :=
  let c0_i32_2939 : BitVec 32 := 0#32
  let c1_i32_2938 : BitVec 32 := 1#32
  let v2945 : BitVec 32 := Scalar.muli v4 c1_i32_2938
  let v2946 : BitVec 32 := Scalar.addi c0_i32_2939 v2945
  v2946.toNat
def k0_off226 (v2864 : BitVec 32) : Fin 3 → Nat :=
  let c64_i32_2950 : BitVec 32 := 64#32
  let c2048_i32_2951 : BitVec 32 := 2048#32
  ![v2864.toNat, 64, 2048]
def k0_dev144 (v6 : BitVec 32) : Nat :=
  let c0_i32_2959 : BitVec 32 := 0#32
  let c1_i32_2958 : BitVec 32 := 1#32
  let v2963 : BitVec 32 := Scalar.muli v6 c1_i32_2958
  let v2964 : BitVec 32 := Scalar.addi c0_i32_2959 v2963
  v2964.toNat
def k0_off227 (v2862 : BitVec 32) : Fin 3 → Nat :=
  let c0_i32_2970 : BitVec 32 := 0#32
  let c3072_i32_2971 : BitVec 32 := 3072#32
  ![v2862.toNat, 0, 3072]
def k0_dev145 (v4 : BitVec 32) : Nat :=
  let c0_i32_2979 : BitVec 32 := 0#32
  let c1_i32_2978 : BitVec 32 := 1#32
  let v2981 : BitVec 32 := Scalar.muli v4 c1_i32_2978
  let v2982 : BitVec 32 := Scalar.addi c0_i32_2979 v2981
  v2982.toNat
def k0_off228 (v2864 : BitVec 32) : Fin 3 → Nat :=
  let c64_i32_2990 : BitVec 32 := 64#32
  let c3072_i32_2991 : BitVec 32 := 3072#32
  ![v2864.toNat, 64, 3072]
def k0_dev146 (v6 : BitVec 32) : Nat :=
  let c0_i32_2999 : BitVec 32 := 0#32
  let c1_i32_2998 : BitVec 32 := 1#32
  let v2999 : BitVec 32 := Scalar.muli v6 c1_i32_2998
  let v3000 : BitVec 32 := Scalar.addi c0_i32_2999 v2999
  v3000.toNat
def k0_off229 (v2862 : BitVec 32) : Fin 3 → Nat :=
  let v3009 : Index := Scalar.indexCast v2862
  let c0_3004 : Index := 0#32
  let c0_3005 : Index := 0#32
  ![v3009.toNat, 0, 0]
def k0_off230 (v2862 : BitVec 32) : Fin 2 → Nat :=
  let c128_i32_3007 : BitVec 32 := 128#32
  let v3013 : BitVec 32 := Scalar.muli v2862 c128_i32_3007
  let c0_i32_3008 : BitVec 32 := 0#32
  let v3014 : BitVec 32 := Scalar.addi v3013 c0_i32_3008
  let v3019 : Index := Scalar.indexCast v3014
  let c0_3009 : Index := 0#32
  ![v3019.toNat, 0]

def k0_chk35 (v2862 : BitVec 32) : Prop :=
  (∀ a, (k0_off221 v2862) a + S1x64x1024.size a ≤ S32x128x4096.size a) ∧
  (∀ (hinb : ∀ a, (k0_off221 v2862) a + S1x64x1024.size a ≤ S32x128x4096.size a), (Rect.unit (s := S32x128x4096) (k0_off221 v2862) S1x64x1024.size hinb).WholeWords (EltTy.packing .fp8e5m2)) ∧
  (∀ a, (k0_off223 v2862) a + S1x64x1024.size a ≤ S32x128x4096.size a) ∧
  (∀ (hinb : ∀ a, (k0_off223 v2862) a + S1x64x1024.size a ≤ S32x128x4096.size a), (Rect.unit (s := S32x128x4096) (k0_off223 v2862) S1x64x1024.size hinb).WholeWords (EltTy.packing .fp8e5m2)) ∧
  (∀ a, (k0_off225 v2862) a + S1x64x1024.size a ≤ S32x128x4096.size a) ∧
  (∀ (hinb : ∀ a, (k0_off225 v2862) a + S1x64x1024.size a ≤ S32x128x4096.size a), (Rect.unit (s := S32x128x4096) (k0_off225 v2862) S1x64x1024.size hinb).WholeWords (EltTy.packing .fp8e5m2)) ∧
  (∀ a, (k0_off227 v2862) a + S1x64x1024.size a ≤ S32x128x4096.size a) ∧
  (∀ (hinb : ∀ a, (k0_off227 v2862) a + S1x64x1024.size a ≤ S32x128x4096.size a), (Rect.unit (s := S32x128x4096) (k0_off227 v2862) S1x64x1024.size hinb).WholeWords (EltTy.packing .fp8e5m2)) ∧
  (∀ a, (k0_off229 v2862) a + S1x64x4096.size a ≤ S32x128x4096.size a) ∧
  (∀ a, (k0_off230 v2862) a + S64x64.size a ≤ S4096x64.size a)
theorem k0_off221_inb : ∀ (v2862 : BitVec 32) (k0_hw35 : k0_chk35 v2862), ∀ a, (k0_off221 v2862) a + S1x64x1024.size a ≤ S32x128x4096.size a := fun v2862 k0_hw35 => k0_hw35.1
theorem k0_off221_wordsfp8e5m2 : ∀ (v2862 : BitVec 32) (k0_hw35 : k0_chk35 v2862), (Rect.unit (s := S32x128x4096) (k0_off221 v2862) S1x64x1024.size (k0_off221_inb v2862 k0_hw35)).WholeWords (EltTy.packing .fp8e5m2) := fun v2862 k0_hw35 => k0_hw35.2.1 (k0_off221_inb v2862 k0_hw35)
theorem k0_off223_inb : ∀ (v2862 : BitVec 32) (k0_hw35 : k0_chk35 v2862), ∀ a, (k0_off223 v2862) a + S1x64x1024.size a ≤ S32x128x4096.size a := fun v2862 k0_hw35 => k0_hw35.2.2.1
theorem k0_off223_wordsfp8e5m2 : ∀ (v2862 : BitVec 32) (k0_hw35 : k0_chk35 v2862), (Rect.unit (s := S32x128x4096) (k0_off223 v2862) S1x64x1024.size (k0_off223_inb v2862 k0_hw35)).WholeWords (EltTy.packing .fp8e5m2) := fun v2862 k0_hw35 => k0_hw35.2.2.2.1 (k0_off223_inb v2862 k0_hw35)
theorem k0_off225_inb : ∀ (v2862 : BitVec 32) (k0_hw35 : k0_chk35 v2862), ∀ a, (k0_off225 v2862) a + S1x64x1024.size a ≤ S32x128x4096.size a := fun v2862 k0_hw35 => k0_hw35.2.2.2.2.1
theorem k0_off225_wordsfp8e5m2 : ∀ (v2862 : BitVec 32) (k0_hw35 : k0_chk35 v2862), (Rect.unit (s := S32x128x4096) (k0_off225 v2862) S1x64x1024.size (k0_off225_inb v2862 k0_hw35)).WholeWords (EltTy.packing .fp8e5m2) := fun v2862 k0_hw35 => k0_hw35.2.2.2.2.2.1 (k0_off225_inb v2862 k0_hw35)
theorem k0_off227_inb : ∀ (v2862 : BitVec 32) (k0_hw35 : k0_chk35 v2862), ∀ a, (k0_off227 v2862) a + S1x64x1024.size a ≤ S32x128x4096.size a := fun v2862 k0_hw35 => k0_hw35.2.2.2.2.2.2.1
theorem k0_off227_wordsfp8e5m2 : ∀ (v2862 : BitVec 32) (k0_hw35 : k0_chk35 v2862), (Rect.unit (s := S32x128x4096) (k0_off227 v2862) S1x64x1024.size (k0_off227_inb v2862 k0_hw35)).WholeWords (EltTy.packing .fp8e5m2) := fun v2862 k0_hw35 => k0_hw35.2.2.2.2.2.2.2.1 (k0_off227_inb v2862 k0_hw35)
theorem k0_off229_inb : ∀ (v2862 : BitVec 32) (k0_hw35 : k0_chk35 v2862), ∀ a, (k0_off229 v2862) a + S1x64x4096.size a ≤ S32x128x4096.size a := fun v2862 k0_hw35 => k0_hw35.2.2.2.2.2.2.2.2.1
theorem k0_off230_inb : ∀ (v2862 : BitVec 32) (k0_hw35 : k0_chk35 v2862), ∀ a, (k0_off230 v2862) a + S64x64.size a ≤ S4096x64.size a := fun v2862 k0_hw35 => k0_hw35.2.2.2.2.2.2.2.2.2

def k0_off231 (v2864 : BitVec 32) : Fin 3 → Nat :=
  let v3021 : Index := Scalar.indexCast v2864
  let c64_3010 : Index := 64#32
  let c0_3011 : Index := 0#32
  ![v3021.toNat, 64, 0]
def k0_off232 (v2864 : BitVec 32) : Fin 2 → Nat :=
  let c128_i32_3013 : BitVec 32 := 128#32
  let v3025 : BitVec 32 := Scalar.muli v2864 c128_i32_3013
  let c64_i32_3014 : BitVec 32 := 64#32
  let v3026 : BitVec 32 := Scalar.addi v3025 c64_i32_3014
  let v3031 : Index := Scalar.indexCast v3026
  let c0_3015 : Index := 0#32
  ![v3031.toNat, 0]

def k0_chk36 (v2864 : BitVec 32) : Prop :=
  (∀ a, (k0_off222 v2864) a + S1x64x1024.size a ≤ S32x128x4096.size a) ∧
  (∀ (hinb : ∀ a, (k0_off222 v2864) a + S1x64x1024.size a ≤ S32x128x4096.size a), (Rect.unit (s := S32x128x4096) (k0_off222 v2864) S1x64x1024.size hinb).WholeWords (EltTy.packing .fp8e5m2)) ∧
  (∀ a, (k0_off224 v2864) a + S1x64x1024.size a ≤ S32x128x4096.size a) ∧
  (∀ (hinb : ∀ a, (k0_off224 v2864) a + S1x64x1024.size a ≤ S32x128x4096.size a), (Rect.unit (s := S32x128x4096) (k0_off224 v2864) S1x64x1024.size hinb).WholeWords (EltTy.packing .fp8e5m2)) ∧
  (∀ a, (k0_off226 v2864) a + S1x64x1024.size a ≤ S32x128x4096.size a) ∧
  (∀ (hinb : ∀ a, (k0_off226 v2864) a + S1x64x1024.size a ≤ S32x128x4096.size a), (Rect.unit (s := S32x128x4096) (k0_off226 v2864) S1x64x1024.size hinb).WholeWords (EltTy.packing .fp8e5m2)) ∧
  (∀ a, (k0_off228 v2864) a + S1x64x1024.size a ≤ S32x128x4096.size a) ∧
  (∀ (hinb : ∀ a, (k0_off228 v2864) a + S1x64x1024.size a ≤ S32x128x4096.size a), (Rect.unit (s := S32x128x4096) (k0_off228 v2864) S1x64x1024.size hinb).WholeWords (EltTy.packing .fp8e5m2)) ∧
  (∀ a, (k0_off231 v2864) a + S1x64x4096.size a ≤ S32x128x4096.size a) ∧
  (∀ a, (k0_off232 v2864) a + S64x64.size a ≤ S4096x64.size a)
theorem k0_off222_inb : ∀ (v2864 : BitVec 32) (k0_hw36 : k0_chk36 v2864), ∀ a, (k0_off222 v2864) a + S1x64x1024.size a ≤ S32x128x4096.size a := fun v2864 k0_hw36 => k0_hw36.1
theorem k0_off222_wordsfp8e5m2 : ∀ (v2864 : BitVec 32) (k0_hw36 : k0_chk36 v2864), (Rect.unit (s := S32x128x4096) (k0_off222 v2864) S1x64x1024.size (k0_off222_inb v2864 k0_hw36)).WholeWords (EltTy.packing .fp8e5m2) := fun v2864 k0_hw36 => k0_hw36.2.1 (k0_off222_inb v2864 k0_hw36)
theorem k0_off224_inb : ∀ (v2864 : BitVec 32) (k0_hw36 : k0_chk36 v2864), ∀ a, (k0_off224 v2864) a + S1x64x1024.size a ≤ S32x128x4096.size a := fun v2864 k0_hw36 => k0_hw36.2.2.1
theorem k0_off224_wordsfp8e5m2 : ∀ (v2864 : BitVec 32) (k0_hw36 : k0_chk36 v2864), (Rect.unit (s := S32x128x4096) (k0_off224 v2864) S1x64x1024.size (k0_off224_inb v2864 k0_hw36)).WholeWords (EltTy.packing .fp8e5m2) := fun v2864 k0_hw36 => k0_hw36.2.2.2.1 (k0_off224_inb v2864 k0_hw36)
theorem k0_off226_inb : ∀ (v2864 : BitVec 32) (k0_hw36 : k0_chk36 v2864), ∀ a, (k0_off226 v2864) a + S1x64x1024.size a ≤ S32x128x4096.size a := fun v2864 k0_hw36 => k0_hw36.2.2.2.2.1
theorem k0_off226_wordsfp8e5m2 : ∀ (v2864 : BitVec 32) (k0_hw36 : k0_chk36 v2864), (Rect.unit (s := S32x128x4096) (k0_off226 v2864) S1x64x1024.size (k0_off226_inb v2864 k0_hw36)).WholeWords (EltTy.packing .fp8e5m2) := fun v2864 k0_hw36 => k0_hw36.2.2.2.2.2.1 (k0_off226_inb v2864 k0_hw36)
theorem k0_off228_inb : ∀ (v2864 : BitVec 32) (k0_hw36 : k0_chk36 v2864), ∀ a, (k0_off228 v2864) a + S1x64x1024.size a ≤ S32x128x4096.size a := fun v2864 k0_hw36 => k0_hw36.2.2.2.2.2.2.1
theorem k0_off228_wordsfp8e5m2 : ∀ (v2864 : BitVec 32) (k0_hw36 : k0_chk36 v2864), (Rect.unit (s := S32x128x4096) (k0_off228 v2864) S1x64x1024.size (k0_off228_inb v2864 k0_hw36)).WholeWords (EltTy.packing .fp8e5m2) := fun v2864 k0_hw36 => k0_hw36.2.2.2.2.2.2.2.1 (k0_off228_inb v2864 k0_hw36)
theorem k0_off231_inb : ∀ (v2864 : BitVec 32) (k0_hw36 : k0_chk36 v2864), ∀ a, (k0_off231 v2864) a + S1x64x4096.size a ≤ S32x128x4096.size a := fun v2864 k0_hw36 => k0_hw36.2.2.2.2.2.2.2.2.1
theorem k0_off232_inb : ∀ (v2864 : BitVec 32) (k0_hw36 : k0_chk36 v2864), ∀ a, (k0_off232 v2864) a + S64x64.size a ≤ S4096x64.size a := fun v2864 k0_hw36 => k0_hw36.2.2.2.2.2.2.2.2.2

def k0_off233 (d0 : Dev nD) : Fin 2 → Nat :=
  let c18 : Index := 18#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3033 : Index := Scalar.indexCast v2
  ![18, v3033.toNat]
def k0_off234 (v3034 : BitVec 32) : Fin 3 → Nat :=
  let c0_i32_3023 : BitVec 32 := 0#32
  let c0_i32_3024 : BitVec 32 := 0#32
  ![v3034.toNat, 0, 0]

def k0_dev147 (v4 : BitVec 32) : Nat :=
  let c0_i32_3031 : BitVec 32 := 0#32
  let c1_i32_3030 : BitVec 32 := 1#32
  let v3045 : BitVec 32 := Scalar.muli v4 c1_i32_3030
  let v3046 : BitVec 32 := Scalar.addi c0_i32_3031 v3045
  v3046.toNat
def k0_off235 (v3036 : BitVec 32) : Fin 3 → Nat :=
  let c64_i32_3042 : BitVec 32 := 64#32
  let c0_i32_3043 : BitVec 32 := 0#32
  ![v3036.toNat, 64, 0]

def k0_dev148 (v6 : BitVec 32) : Nat :=
  let c0_i32_3051 : BitVec 32 := 0#32
  let c1_i32_3050 : BitVec 32 := 1#32
  let v3063 : BitVec 32 := Scalar.muli v6 c1_i32_3050
  let v3064 : BitVec 32 := Scalar.addi c0_i32_3051 v3063
  v3064.toNat
def k0_off236 (v3034 : BitVec 32) : Fin 3 → Nat :=
  let c0_i32_3062 : BitVec 32 := 0#32
  let c1024_i32_3063 : BitVec 32 := 1024#32
  ![v3034.toNat, 0, 1024]
def k0_dev149 (v4 : BitVec 32) : Nat :=
  let c0_i32_3071 : BitVec 32 := 0#32
  let c1_i32_3070 : BitVec 32 := 1#32
  let v3081 : BitVec 32 := Scalar.muli v4 c1_i32_3070
  let v3082 : BitVec 32 := Scalar.addi c0_i32_3071 v3081
  v3082.toNat
def k0_off237 (v3036 : BitVec 32) : Fin 3 → Nat :=
  let c64_i32_3082 : BitVec 32 := 64#32
  let c1024_i32_3083 : BitVec 32 := 1024#32
  ![v3036.toNat, 64, 1024]
def k0_dev150 (v6 : BitVec 32) : Nat :=
  let c0_i32_3091 : BitVec 32 := 0#32
  let c1_i32_3090 : BitVec 32 := 1#32
  let v3099 : BitVec 32 := Scalar.muli v6 c1_i32_3090
  let v3100 : BitVec 32 := Scalar.addi c0_i32_3091 v3099
  v3100.toNat
def k0_off238 (v3034 : BitVec 32) : Fin 3 → Nat :=
  let c0_i32_3102 : BitVec 32 := 0#32
  let c2048_i32_3103 : BitVec 32 := 2048#32
  ![v3034.toNat, 0, 2048]
def k0_dev151 (v4 : BitVec 32) : Nat :=
  let c0_i32_3111 : BitVec 32 := 0#32
  let c1_i32_3110 : BitVec 32 := 1#32
  let v3117 : BitVec 32 := Scalar.muli v4 c1_i32_3110
  let v3118 : BitVec 32 := Scalar.addi c0_i32_3111 v3117
  v3118.toNat
def k0_off239 (v3036 : BitVec 32) : Fin 3 → Nat :=
  let c64_i32_3122 : BitVec 32 := 64#32
  let c2048_i32_3123 : BitVec 32 := 2048#32
  ![v3036.toNat, 64, 2048]
def k0_dev152 (v6 : BitVec 32) : Nat :=
  let c0_i32_3131 : BitVec 32 := 0#32
  let c1_i32_3130 : BitVec 32 := 1#32
  let v3135 : BitVec 32 := Scalar.muli v6 c1_i32_3130
  let v3136 : BitVec 32 := Scalar.addi c0_i32_3131 v3135
  v3136.toNat
def k0_off240 (v3034 : BitVec 32) : Fin 3 → Nat :=
  let c0_i32_3142 : BitVec 32 := 0#32
  let c3072_i32_3143 : BitVec 32 := 3072#32
  ![v3034.toNat, 0, 3072]
def k0_dev153 (v4 : BitVec 32) : Nat :=
  let c0_i32_3151 : BitVec 32 := 0#32
  let c1_i32_3150 : BitVec 32 := 1#32
  let v3153 : BitVec 32 := Scalar.muli v4 c1_i32_3150
  let v3154 : BitVec 32 := Scalar.addi c0_i32_3151 v3153
  v3154.toNat
def k0_off241 (v3036 : BitVec 32) : Fin 3 → Nat :=
  let c64_i32_3162 : BitVec 32 := 64#32
  let c3072_i32_3163 : BitVec 32 := 3072#32
  ![v3036.toNat, 64, 3072]
def k0_dev154 (v6 : BitVec 32) : Nat :=
  let c0_i32_3171 : BitVec 32 := 0#32
  let c1_i32_3170 : BitVec 32 := 1#32
  let v3171 : BitVec 32 := Scalar.muli v6 c1_i32_3170
  let v3172 : BitVec 32 := Scalar.addi c0_i32_3171 v3171
  v3172.toNat
def k0_off242 (v3034 : BitVec 32) : Fin 3 → Nat :=
  let v3181 : Index := Scalar.indexCast v3034
  let c0_3176 : Index := 0#32
  let c0_3177 : Index := 0#32
  ![v3181.toNat, 0, 0]
def k0_off243 (v3034 : BitVec 32) : Fin 2 → Nat :=
  let c128_i32_3179 : BitVec 32 := 128#32
  let v3185 : BitVec 32 := Scalar.muli v3034 c128_i32_3179
  let c0_i32_3180 : BitVec 32 := 0#32
  let v3186 : BitVec 32 := Scalar.addi v3185 c0_i32_3180
  let v3191 : Index := Scalar.indexCast v3186
  let c0_3181 : Index := 0#32
  ![v3191.toNat, 0]

def k0_chk37 (v3034 : BitVec 32) : Prop :=
  (∀ a, (k0_off234 v3034) a + S1x64x1024.size a ≤ S32x128x4096.size a) ∧
  (∀ (hinb : ∀ a, (k0_off234 v3034) a + S1x64x1024.size a ≤ S32x128x4096.size a), (Rect.unit (s := S32x128x4096) (k0_off234 v3034) S1x64x1024.size hinb).WholeWords (EltTy.packing .fp8e5m2)) ∧
  (∀ a, (k0_off236 v3034) a + S1x64x1024.size a ≤ S32x128x4096.size a) ∧
  (∀ (hinb : ∀ a, (k0_off236 v3034) a + S1x64x1024.size a ≤ S32x128x4096.size a), (Rect.unit (s := S32x128x4096) (k0_off236 v3034) S1x64x1024.size hinb).WholeWords (EltTy.packing .fp8e5m2)) ∧
  (∀ a, (k0_off238 v3034) a + S1x64x1024.size a ≤ S32x128x4096.size a) ∧
  (∀ (hinb : ∀ a, (k0_off238 v3034) a + S1x64x1024.size a ≤ S32x128x4096.size a), (Rect.unit (s := S32x128x4096) (k0_off238 v3034) S1x64x1024.size hinb).WholeWords (EltTy.packing .fp8e5m2)) ∧
  (∀ a, (k0_off240 v3034) a + S1x64x1024.size a ≤ S32x128x4096.size a) ∧
  (∀ (hinb : ∀ a, (k0_off240 v3034) a + S1x64x1024.size a ≤ S32x128x4096.size a), (Rect.unit (s := S32x128x4096) (k0_off240 v3034) S1x64x1024.size hinb).WholeWords (EltTy.packing .fp8e5m2)) ∧
  (∀ a, (k0_off242 v3034) a + S1x64x4096.size a ≤ S32x128x4096.size a) ∧
  (∀ a, (k0_off243 v3034) a + S64x64.size a ≤ S4096x64.size a)
theorem k0_off234_inb : ∀ (v3034 : BitVec 32) (k0_hw37 : k0_chk37 v3034), ∀ a, (k0_off234 v3034) a + S1x64x1024.size a ≤ S32x128x4096.size a := fun v3034 k0_hw37 => k0_hw37.1
theorem k0_off234_wordsfp8e5m2 : ∀ (v3034 : BitVec 32) (k0_hw37 : k0_chk37 v3034), (Rect.unit (s := S32x128x4096) (k0_off234 v3034) S1x64x1024.size (k0_off234_inb v3034 k0_hw37)).WholeWords (EltTy.packing .fp8e5m2) := fun v3034 k0_hw37 => k0_hw37.2.1 (k0_off234_inb v3034 k0_hw37)
theorem k0_off236_inb : ∀ (v3034 : BitVec 32) (k0_hw37 : k0_chk37 v3034), ∀ a, (k0_off236 v3034) a + S1x64x1024.size a ≤ S32x128x4096.size a := fun v3034 k0_hw37 => k0_hw37.2.2.1
theorem k0_off236_wordsfp8e5m2 : ∀ (v3034 : BitVec 32) (k0_hw37 : k0_chk37 v3034), (Rect.unit (s := S32x128x4096) (k0_off236 v3034) S1x64x1024.size (k0_off236_inb v3034 k0_hw37)).WholeWords (EltTy.packing .fp8e5m2) := fun v3034 k0_hw37 => k0_hw37.2.2.2.1 (k0_off236_inb v3034 k0_hw37)
theorem k0_off238_inb : ∀ (v3034 : BitVec 32) (k0_hw37 : k0_chk37 v3034), ∀ a, (k0_off238 v3034) a + S1x64x1024.size a ≤ S32x128x4096.size a := fun v3034 k0_hw37 => k0_hw37.2.2.2.2.1
theorem k0_off238_wordsfp8e5m2 : ∀ (v3034 : BitVec 32) (k0_hw37 : k0_chk37 v3034), (Rect.unit (s := S32x128x4096) (k0_off238 v3034) S1x64x1024.size (k0_off238_inb v3034 k0_hw37)).WholeWords (EltTy.packing .fp8e5m2) := fun v3034 k0_hw37 => k0_hw37.2.2.2.2.2.1 (k0_off238_inb v3034 k0_hw37)
theorem k0_off240_inb : ∀ (v3034 : BitVec 32) (k0_hw37 : k0_chk37 v3034), ∀ a, (k0_off240 v3034) a + S1x64x1024.size a ≤ S32x128x4096.size a := fun v3034 k0_hw37 => k0_hw37.2.2.2.2.2.2.1
theorem k0_off240_wordsfp8e5m2 : ∀ (v3034 : BitVec 32) (k0_hw37 : k0_chk37 v3034), (Rect.unit (s := S32x128x4096) (k0_off240 v3034) S1x64x1024.size (k0_off240_inb v3034 k0_hw37)).WholeWords (EltTy.packing .fp8e5m2) := fun v3034 k0_hw37 => k0_hw37.2.2.2.2.2.2.2.1 (k0_off240_inb v3034 k0_hw37)
theorem k0_off242_inb : ∀ (v3034 : BitVec 32) (k0_hw37 : k0_chk37 v3034), ∀ a, (k0_off242 v3034) a + S1x64x4096.size a ≤ S32x128x4096.size a := fun v3034 k0_hw37 => k0_hw37.2.2.2.2.2.2.2.2.1
theorem k0_off243_inb : ∀ (v3034 : BitVec 32) (k0_hw37 : k0_chk37 v3034), ∀ a, (k0_off243 v3034) a + S64x64.size a ≤ S4096x64.size a := fun v3034 k0_hw37 => k0_hw37.2.2.2.2.2.2.2.2.2

def k0_off244 (v3036 : BitVec 32) : Fin 3 → Nat :=
  let v3193 : Index := Scalar.indexCast v3036
  let c64_3182 : Index := 64#32
  let c0_3183 : Index := 0#32
  ![v3193.toNat, 64, 0]
def k0_off245 (v3036 : BitVec 32) : Fin 2 → Nat :=
  let c128_i32_3185 : BitVec 32 := 128#32
  let v3197 : BitVec 32 := Scalar.muli v3036 c128_i32_3185
  let c64_i32_3186 : BitVec 32 := 64#32
  let v3198 : BitVec 32 := Scalar.addi v3197 c64_i32_3186
  let v3203 : Index := Scalar.indexCast v3198
  let c0_3187 : Index := 0#32
  ![v3203.toNat, 0]

def k0_chk38 (v3036 : BitVec 32) : Prop :=
  (∀ a, (k0_off235 v3036) a + S1x64x1024.size a ≤ S32x128x4096.size a) ∧
  (∀ (hinb : ∀ a, (k0_off235 v3036) a + S1x64x1024.size a ≤ S32x128x4096.size a), (Rect.unit (s := S32x128x4096) (k0_off235 v3036) S1x64x1024.size hinb).WholeWords (EltTy.packing .fp8e5m2)) ∧
  (∀ a, (k0_off237 v3036) a + S1x64x1024.size a ≤ S32x128x4096.size a) ∧
  (∀ (hinb : ∀ a, (k0_off237 v3036) a + S1x64x1024.size a ≤ S32x128x4096.size a), (Rect.unit (s := S32x128x4096) (k0_off237 v3036) S1x64x1024.size hinb).WholeWords (EltTy.packing .fp8e5m2)) ∧
  (∀ a, (k0_off239 v3036) a + S1x64x1024.size a ≤ S32x128x4096.size a) ∧
  (∀ (hinb : ∀ a, (k0_off239 v3036) a + S1x64x1024.size a ≤ S32x128x4096.size a), (Rect.unit (s := S32x128x4096) (k0_off239 v3036) S1x64x1024.size hinb).WholeWords (EltTy.packing .fp8e5m2)) ∧
  (∀ a, (k0_off241 v3036) a + S1x64x1024.size a ≤ S32x128x4096.size a) ∧
  (∀ (hinb : ∀ a, (k0_off241 v3036) a + S1x64x1024.size a ≤ S32x128x4096.size a), (Rect.unit (s := S32x128x4096) (k0_off241 v3036) S1x64x1024.size hinb).WholeWords (EltTy.packing .fp8e5m2)) ∧
  (∀ a, (k0_off244 v3036) a + S1x64x4096.size a ≤ S32x128x4096.size a) ∧
  (∀ a, (k0_off245 v3036) a + S64x64.size a ≤ S4096x64.size a)
theorem k0_off235_inb : ∀ (v3036 : BitVec 32) (k0_hw38 : k0_chk38 v3036), ∀ a, (k0_off235 v3036) a + S1x64x1024.size a ≤ S32x128x4096.size a := fun v3036 k0_hw38 => k0_hw38.1
theorem k0_off235_wordsfp8e5m2 : ∀ (v3036 : BitVec 32) (k0_hw38 : k0_chk38 v3036), (Rect.unit (s := S32x128x4096) (k0_off235 v3036) S1x64x1024.size (k0_off235_inb v3036 k0_hw38)).WholeWords (EltTy.packing .fp8e5m2) := fun v3036 k0_hw38 => k0_hw38.2.1 (k0_off235_inb v3036 k0_hw38)
theorem k0_off237_inb : ∀ (v3036 : BitVec 32) (k0_hw38 : k0_chk38 v3036), ∀ a, (k0_off237 v3036) a + S1x64x1024.size a ≤ S32x128x4096.size a := fun v3036 k0_hw38 => k0_hw38.2.2.1
theorem k0_off237_wordsfp8e5m2 : ∀ (v3036 : BitVec 32) (k0_hw38 : k0_chk38 v3036), (Rect.unit (s := S32x128x4096) (k0_off237 v3036) S1x64x1024.size (k0_off237_inb v3036 k0_hw38)).WholeWords (EltTy.packing .fp8e5m2) := fun v3036 k0_hw38 => k0_hw38.2.2.2.1 (k0_off237_inb v3036 k0_hw38)
theorem k0_off239_inb : ∀ (v3036 : BitVec 32) (k0_hw38 : k0_chk38 v3036), ∀ a, (k0_off239 v3036) a + S1x64x1024.size a ≤ S32x128x4096.size a := fun v3036 k0_hw38 => k0_hw38.2.2.2.2.1
theorem k0_off239_wordsfp8e5m2 : ∀ (v3036 : BitVec 32) (k0_hw38 : k0_chk38 v3036), (Rect.unit (s := S32x128x4096) (k0_off239 v3036) S1x64x1024.size (k0_off239_inb v3036 k0_hw38)).WholeWords (EltTy.packing .fp8e5m2) := fun v3036 k0_hw38 => k0_hw38.2.2.2.2.2.1 (k0_off239_inb v3036 k0_hw38)
theorem k0_off241_inb : ∀ (v3036 : BitVec 32) (k0_hw38 : k0_chk38 v3036), ∀ a, (k0_off241 v3036) a + S1x64x1024.size a ≤ S32x128x4096.size a := fun v3036 k0_hw38 => k0_hw38.2.2.2.2.2.2.1
theorem k0_off241_wordsfp8e5m2 : ∀ (v3036 : BitVec 32) (k0_hw38 : k0_chk38 v3036), (Rect.unit (s := S32x128x4096) (k0_off241 v3036) S1x64x1024.size (k0_off241_inb v3036 k0_hw38)).WholeWords (EltTy.packing .fp8e5m2) := fun v3036 k0_hw38 => k0_hw38.2.2.2.2.2.2.2.1 (k0_off241_inb v3036 k0_hw38)
theorem k0_off244_inb : ∀ (v3036 : BitVec 32) (k0_hw38 : k0_chk38 v3036), ∀ a, (k0_off244 v3036) a + S1x64x4096.size a ≤ S32x128x4096.size a := fun v3036 k0_hw38 => k0_hw38.2.2.2.2.2.2.2.2.1
theorem k0_off245_inb : ∀ (v3036 : BitVec 32) (k0_hw38 : k0_chk38 v3036), ∀ a, (k0_off245 v3036) a + S64x64.size a ≤ S4096x64.size a := fun v3036 k0_hw38 => k0_hw38.2.2.2.2.2.2.2.2.2

def k0_off246 (d0 : Dev nD) : Fin 2 → Nat :=
  let c19 : Index := 19#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3205 : Index := Scalar.indexCast v2
  ![19, v3205.toNat]
def k0_off247 (v3206 : BitVec 32) : Fin 3 → Nat :=
  let c0_i32_3195 : BitVec 32 := 0#32
  let c0_i32_3196 : BitVec 32 := 0#32
  ![v3206.toNat, 0, 0]

def k0_dev155 (v4 : BitVec 32) : Nat :=
  let c0_i32_3203 : BitVec 32 := 0#32
  let c1_i32_3202 : BitVec 32 := 1#32
  let v3217 : BitVec 32 := Scalar.muli v4 c1_i32_3202
  let v3218 : BitVec 32 := Scalar.addi c0_i32_3203 v3217
  v3218.toNat
def k0_off248 (v3208 : BitVec 32) : Fin 3 → Nat :=
  let c64_i32_3214 : BitVec 32 := 64#32
  let c0_i32_3215 : BitVec 32 := 0#32
  ![v3208.toNat, 64, 0]

def k0_dev156 (v6 : BitVec 32) : Nat :=
  let c0_i32_3223 : BitVec 32 := 0#32
  let c1_i32_3222 : BitVec 32 := 1#32
  let v3235 : BitVec 32 := Scalar.muli v6 c1_i32_3222
  let v3236 : BitVec 32 := Scalar.addi c0_i32_3223 v3235
  v3236.toNat
def k0_off249 (v3206 : BitVec 32) : Fin 3 → Nat :=
  let c0_i32_3234 : BitVec 32 := 0#32
  let c1024_i32_3235 : BitVec 32 := 1024#32
  ![v3206.toNat, 0, 1024]
def k0_dev157 (v4 : BitVec 32) : Nat :=
  let c0_i32_3243 : BitVec 32 := 0#32
  let c1_i32_3242 : BitVec 32 := 1#32
  let v3253 : BitVec 32 := Scalar.muli v4 c1_i32_3242
  let v3254 : BitVec 32 := Scalar.addi c0_i32_3243 v3253
  v3254.toNat
def k0_off250 (v3208 : BitVec 32) : Fin 3 → Nat :=
  let c64_i32_3254 : BitVec 32 := 64#32
  let c1024_i32_3255 : BitVec 32 := 1024#32
  ![v3208.toNat, 64, 1024]
def k0_dev158 (v6 : BitVec 32) : Nat :=
  let c0_i32_3263 : BitVec 32 := 0#32
  let c1_i32_3262 : BitVec 32 := 1#32
  let v3271 : BitVec 32 := Scalar.muli v6 c1_i32_3262
  let v3272 : BitVec 32 := Scalar.addi c0_i32_3263 v3271
  v3272.toNat
def k0_off251 (v3206 : BitVec 32) : Fin 3 → Nat :=
  let c0_i32_3274 : BitVec 32 := 0#32
  let c2048_i32_3275 : BitVec 32 := 2048#32
  ![v3206.toNat, 0, 2048]
def k0_dev159 (v4 : BitVec 32) : Nat :=
  let c0_i32_3283 : BitVec 32 := 0#32
  let c1_i32_3282 : BitVec 32 := 1#32
  let v3289 : BitVec 32 := Scalar.muli v4 c1_i32_3282
  let v3290 : BitVec 32 := Scalar.addi c0_i32_3283 v3289
  v3290.toNat
def k0_off252 (v3208 : BitVec 32) : Fin 3 → Nat :=
  let c64_i32_3294 : BitVec 32 := 64#32
  let c2048_i32_3295 : BitVec 32 := 2048#32
  ![v3208.toNat, 64, 2048]
def k0_dev160 (v6 : BitVec 32) : Nat :=
  let c0_i32_3303 : BitVec 32 := 0#32
  let c1_i32_3302 : BitVec 32 := 1#32
  let v3307 : BitVec 32 := Scalar.muli v6 c1_i32_3302
  let v3308 : BitVec 32 := Scalar.addi c0_i32_3303 v3307
  v3308.toNat
def k0_off253 (v3206 : BitVec 32) : Fin 3 → Nat :=
  let c0_i32_3314 : BitVec 32 := 0#32
  let c3072_i32_3315 : BitVec 32 := 3072#32
  ![v3206.toNat, 0, 3072]
def k0_dev161 (v4 : BitVec 32) : Nat :=
  let c0_i32_3323 : BitVec 32 := 0#32
  let c1_i32_3322 : BitVec 32 := 1#32
  let v3325 : BitVec 32 := Scalar.muli v4 c1_i32_3322
  let v3326 : BitVec 32 := Scalar.addi c0_i32_3323 v3325
  v3326.toNat
def k0_off254 (v3208 : BitVec 32) : Fin 3 → Nat :=
  let c64_i32_3334 : BitVec 32 := 64#32
  let c3072_i32_3335 : BitVec 32 := 3072#32
  ![v3208.toNat, 64, 3072]
def k0_dev162 (v6 : BitVec 32) : Nat :=
  let c0_i32_3343 : BitVec 32 := 0#32
  let c1_i32_3342 : BitVec 32 := 1#32
  let v3343 : BitVec 32 := Scalar.muli v6 c1_i32_3342
  let v3344 : BitVec 32 := Scalar.addi c0_i32_3343 v3343
  v3344.toNat
def k0_off255 (v3206 : BitVec 32) : Fin 3 → Nat :=
  let v3353 : Index := Scalar.indexCast v3206
  let c0_3348 : Index := 0#32
  let c0_3349 : Index := 0#32
  ![v3353.toNat, 0, 0]
def k0_off256 (v3206 : BitVec 32) : Fin 2 → Nat :=
  let c128_i32_3351 : BitVec 32 := 128#32
  let v3357 : BitVec 32 := Scalar.muli v3206 c128_i32_3351
  let c0_i32_3352 : BitVec 32 := 0#32
  let v3358 : BitVec 32 := Scalar.addi v3357 c0_i32_3352
  let v3363 : Index := Scalar.indexCast v3358
  let c0_3353 : Index := 0#32
  ![v3363.toNat, 0]

def k0_chk39 (v3206 : BitVec 32) : Prop :=
  (∀ a, (k0_off247 v3206) a + S1x64x1024.size a ≤ S32x128x4096.size a) ∧
  (∀ (hinb : ∀ a, (k0_off247 v3206) a + S1x64x1024.size a ≤ S32x128x4096.size a), (Rect.unit (s := S32x128x4096) (k0_off247 v3206) S1x64x1024.size hinb).WholeWords (EltTy.packing .fp8e5m2)) ∧
  (∀ a, (k0_off249 v3206) a + S1x64x1024.size a ≤ S32x128x4096.size a) ∧
  (∀ (hinb : ∀ a, (k0_off249 v3206) a + S1x64x1024.size a ≤ S32x128x4096.size a), (Rect.unit (s := S32x128x4096) (k0_off249 v3206) S1x64x1024.size hinb).WholeWords (EltTy.packing .fp8e5m2)) ∧
  (∀ a, (k0_off251 v3206) a + S1x64x1024.size a ≤ S32x128x4096.size a) ∧
  (∀ (hinb : ∀ a, (k0_off251 v3206) a + S1x64x1024.size a ≤ S32x128x4096.size a), (Rect.unit (s := S32x128x4096) (k0_off251 v3206) S1x64x1024.size hinb).WholeWords (EltTy.packing .fp8e5m2)) ∧
  (∀ a, (k0_off253 v3206) a + S1x64x1024.size a ≤ S32x128x4096.size a) ∧
  (∀ (hinb : ∀ a, (k0_off253 v3206) a + S1x64x1024.size a ≤ S32x128x4096.size a), (Rect.unit (s := S32x128x4096) (k0_off253 v3206) S1x64x1024.size hinb).WholeWords (EltTy.packing .fp8e5m2)) ∧
  (∀ a, (k0_off255 v3206) a + S1x64x4096.size a ≤ S32x128x4096.size a) ∧
  (∀ a, (k0_off256 v3206) a + S64x64.size a ≤ S4096x64.size a)
theorem k0_off247_inb : ∀ (v3206 : BitVec 32) (k0_hw39 : k0_chk39 v3206), ∀ a, (k0_off247 v3206) a + S1x64x1024.size a ≤ S32x128x4096.size a := fun v3206 k0_hw39 => k0_hw39.1
theorem k0_off247_wordsfp8e5m2 : ∀ (v3206 : BitVec 32) (k0_hw39 : k0_chk39 v3206), (Rect.unit (s := S32x128x4096) (k0_off247 v3206) S1x64x1024.size (k0_off247_inb v3206 k0_hw39)).WholeWords (EltTy.packing .fp8e5m2) := fun v3206 k0_hw39 => k0_hw39.2.1 (k0_off247_inb v3206 k0_hw39)
theorem k0_off249_inb : ∀ (v3206 : BitVec 32) (k0_hw39 : k0_chk39 v3206), ∀ a, (k0_off249 v3206) a + S1x64x1024.size a ≤ S32x128x4096.size a := fun v3206 k0_hw39 => k0_hw39.2.2.1
theorem k0_off249_wordsfp8e5m2 : ∀ (v3206 : BitVec 32) (k0_hw39 : k0_chk39 v3206), (Rect.unit (s := S32x128x4096) (k0_off249 v3206) S1x64x1024.size (k0_off249_inb v3206 k0_hw39)).WholeWords (EltTy.packing .fp8e5m2) := fun v3206 k0_hw39 => k0_hw39.2.2.2.1 (k0_off249_inb v3206 k0_hw39)
theorem k0_off251_inb : ∀ (v3206 : BitVec 32) (k0_hw39 : k0_chk39 v3206), ∀ a, (k0_off251 v3206) a + S1x64x1024.size a ≤ S32x128x4096.size a := fun v3206 k0_hw39 => k0_hw39.2.2.2.2.1
theorem k0_off251_wordsfp8e5m2 : ∀ (v3206 : BitVec 32) (k0_hw39 : k0_chk39 v3206), (Rect.unit (s := S32x128x4096) (k0_off251 v3206) S1x64x1024.size (k0_off251_inb v3206 k0_hw39)).WholeWords (EltTy.packing .fp8e5m2) := fun v3206 k0_hw39 => k0_hw39.2.2.2.2.2.1 (k0_off251_inb v3206 k0_hw39)
theorem k0_off253_inb : ∀ (v3206 : BitVec 32) (k0_hw39 : k0_chk39 v3206), ∀ a, (k0_off253 v3206) a + S1x64x1024.size a ≤ S32x128x4096.size a := fun v3206 k0_hw39 => k0_hw39.2.2.2.2.2.2.1
theorem k0_off253_wordsfp8e5m2 : ∀ (v3206 : BitVec 32) (k0_hw39 : k0_chk39 v3206), (Rect.unit (s := S32x128x4096) (k0_off253 v3206) S1x64x1024.size (k0_off253_inb v3206 k0_hw39)).WholeWords (EltTy.packing .fp8e5m2) := fun v3206 k0_hw39 => k0_hw39.2.2.2.2.2.2.2.1 (k0_off253_inb v3206 k0_hw39)
theorem k0_off255_inb : ∀ (v3206 : BitVec 32) (k0_hw39 : k0_chk39 v3206), ∀ a, (k0_off255 v3206) a + S1x64x4096.size a ≤ S32x128x4096.size a := fun v3206 k0_hw39 => k0_hw39.2.2.2.2.2.2.2.2.1
theorem k0_off256_inb : ∀ (v3206 : BitVec 32) (k0_hw39 : k0_chk39 v3206), ∀ a, (k0_off256 v3206) a + S64x64.size a ≤ S4096x64.size a := fun v3206 k0_hw39 => k0_hw39.2.2.2.2.2.2.2.2.2

def k0_off257 (v3208 : BitVec 32) : Fin 3 → Nat :=
  let v3365 : Index := Scalar.indexCast v3208
  let c64_3354 : Index := 64#32
  let c0_3355 : Index := 0#32
  ![v3365.toNat, 64, 0]
def k0_off258 (v3208 : BitVec 32) : Fin 2 → Nat :=
  let c128_i32_3357 : BitVec 32 := 128#32
  let v3369 : BitVec 32 := Scalar.muli v3208 c128_i32_3357
  let c64_i32_3358 : BitVec 32 := 64#32
  let v3370 : BitVec 32 := Scalar.addi v3369 c64_i32_3358
  let v3375 : Index := Scalar.indexCast v3370
  let c0_3359 : Index := 0#32
  ![v3375.toNat, 0]

def k0_chk40 (v3208 : BitVec 32) : Prop :=
  (∀ a, (k0_off248 v3208) a + S1x64x1024.size a ≤ S32x128x4096.size a) ∧
  (∀ (hinb : ∀ a, (k0_off248 v3208) a + S1x64x1024.size a ≤ S32x128x4096.size a), (Rect.unit (s := S32x128x4096) (k0_off248 v3208) S1x64x1024.size hinb).WholeWords (EltTy.packing .fp8e5m2)) ∧
  (∀ a, (k0_off250 v3208) a + S1x64x1024.size a ≤ S32x128x4096.size a) ∧
  (∀ (hinb : ∀ a, (k0_off250 v3208) a + S1x64x1024.size a ≤ S32x128x4096.size a), (Rect.unit (s := S32x128x4096) (k0_off250 v3208) S1x64x1024.size hinb).WholeWords (EltTy.packing .fp8e5m2)) ∧
  (∀ a, (k0_off252 v3208) a + S1x64x1024.size a ≤ S32x128x4096.size a) ∧
  (∀ (hinb : ∀ a, (k0_off252 v3208) a + S1x64x1024.size a ≤ S32x128x4096.size a), (Rect.unit (s := S32x128x4096) (k0_off252 v3208) S1x64x1024.size hinb).WholeWords (EltTy.packing .fp8e5m2)) ∧
  (∀ a, (k0_off254 v3208) a + S1x64x1024.size a ≤ S32x128x4096.size a) ∧
  (∀ (hinb : ∀ a, (k0_off254 v3208) a + S1x64x1024.size a ≤ S32x128x4096.size a), (Rect.unit (s := S32x128x4096) (k0_off254 v3208) S1x64x1024.size hinb).WholeWords (EltTy.packing .fp8e5m2)) ∧
  (∀ a, (k0_off257 v3208) a + S1x64x4096.size a ≤ S32x128x4096.size a) ∧
  (∀ a, (k0_off258 v3208) a + S64x64.size a ≤ S4096x64.size a)
theorem k0_off248_inb : ∀ (v3208 : BitVec 32) (k0_hw40 : k0_chk40 v3208), ∀ a, (k0_off248 v3208) a + S1x64x1024.size a ≤ S32x128x4096.size a := fun v3208 k0_hw40 => k0_hw40.1
theorem k0_off248_wordsfp8e5m2 : ∀ (v3208 : BitVec 32) (k0_hw40 : k0_chk40 v3208), (Rect.unit (s := S32x128x4096) (k0_off248 v3208) S1x64x1024.size (k0_off248_inb v3208 k0_hw40)).WholeWords (EltTy.packing .fp8e5m2) := fun v3208 k0_hw40 => k0_hw40.2.1 (k0_off248_inb v3208 k0_hw40)
theorem k0_off250_inb : ∀ (v3208 : BitVec 32) (k0_hw40 : k0_chk40 v3208), ∀ a, (k0_off250 v3208) a + S1x64x1024.size a ≤ S32x128x4096.size a := fun v3208 k0_hw40 => k0_hw40.2.2.1
theorem k0_off250_wordsfp8e5m2 : ∀ (v3208 : BitVec 32) (k0_hw40 : k0_chk40 v3208), (Rect.unit (s := S32x128x4096) (k0_off250 v3208) S1x64x1024.size (k0_off250_inb v3208 k0_hw40)).WholeWords (EltTy.packing .fp8e5m2) := fun v3208 k0_hw40 => k0_hw40.2.2.2.1 (k0_off250_inb v3208 k0_hw40)
theorem k0_off252_inb : ∀ (v3208 : BitVec 32) (k0_hw40 : k0_chk40 v3208), ∀ a, (k0_off252 v3208) a + S1x64x1024.size a ≤ S32x128x4096.size a := fun v3208 k0_hw40 => k0_hw40.2.2.2.2.1
theorem k0_off252_wordsfp8e5m2 : ∀ (v3208 : BitVec 32) (k0_hw40 : k0_chk40 v3208), (Rect.unit (s := S32x128x4096) (k0_off252 v3208) S1x64x1024.size (k0_off252_inb v3208 k0_hw40)).WholeWords (EltTy.packing .fp8e5m2) := fun v3208 k0_hw40 => k0_hw40.2.2.2.2.2.1 (k0_off252_inb v3208 k0_hw40)
theorem k0_off254_inb : ∀ (v3208 : BitVec 32) (k0_hw40 : k0_chk40 v3208), ∀ a, (k0_off254 v3208) a + S1x64x1024.size a ≤ S32x128x4096.size a := fun v3208 k0_hw40 => k0_hw40.2.2.2.2.2.2.1
theorem k0_off254_wordsfp8e5m2 : ∀ (v3208 : BitVec 32) (k0_hw40 : k0_chk40 v3208), (Rect.unit (s := S32x128x4096) (k0_off254 v3208) S1x64x1024.size (k0_off254_inb v3208 k0_hw40)).WholeWords (EltTy.packing .fp8e5m2) := fun v3208 k0_hw40 => k0_hw40.2.2.2.2.2.2.2.1 (k0_off254_inb v3208 k0_hw40)
theorem k0_off257_inb : ∀ (v3208 : BitVec 32) (k0_hw40 : k0_chk40 v3208), ∀ a, (k0_off257 v3208) a + S1x64x4096.size a ≤ S32x128x4096.size a := fun v3208 k0_hw40 => k0_hw40.2.2.2.2.2.2.2.2.1
theorem k0_off258_inb : ∀ (v3208 : BitVec 32) (k0_hw40 : k0_chk40 v3208), ∀ a, (k0_off258 v3208) a + S64x64.size a ≤ S4096x64.size a := fun v3208 k0_hw40 => k0_hw40.2.2.2.2.2.2.2.2.2

def k0_off259 (d0 : Dev nD) : Fin 2 → Nat :=
  let c20 : Index := 20#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3377 : Index := Scalar.indexCast v2
  ![20, v3377.toNat]
def k0_off260 (v3378 : BitVec 32) : Fin 3 → Nat :=
  let c0_i32_3367 : BitVec 32 := 0#32
  let c0_i32_3368 : BitVec 32 := 0#32
  ![v3378.toNat, 0, 0]

def k0_dev163 (v4 : BitVec 32) : Nat :=
  let c0_i32_3375 : BitVec 32 := 0#32
  let c1_i32_3374 : BitVec 32 := 1#32
  let v3389 : BitVec 32 := Scalar.muli v4 c1_i32_3374
  let v3390 : BitVec 32 := Scalar.addi c0_i32_3375 v3389
  v3390.toNat
def k0_off261 (v3380 : BitVec 32) : Fin 3 → Nat :=
  let c64_i32_3386 : BitVec 32 := 64#32
  let c0_i32_3387 : BitVec 32 := 0#32
  ![v3380.toNat, 64, 0]

def k0_dev164 (v6 : BitVec 32) : Nat :=
  let c0_i32_3395 : BitVec 32 := 0#32
  let c1_i32_3394 : BitVec 32 := 1#32
  let v3407 : BitVec 32 := Scalar.muli v6 c1_i32_3394
  let v3408 : BitVec 32 := Scalar.addi c0_i32_3395 v3407
  v3408.toNat
def k0_off262 (v3378 : BitVec 32) : Fin 3 → Nat :=
  let c0_i32_3406 : BitVec 32 := 0#32
  let c1024_i32_3407 : BitVec 32 := 1024#32
  ![v3378.toNat, 0, 1024]
def k0_dev165 (v4 : BitVec 32) : Nat :=
  let c0_i32_3415 : BitVec 32 := 0#32
  let c1_i32_3414 : BitVec 32 := 1#32
  let v3425 : BitVec 32 := Scalar.muli v4 c1_i32_3414
  let v3426 : BitVec 32 := Scalar.addi c0_i32_3415 v3425
  v3426.toNat
def k0_off263 (v3380 : BitVec 32) : Fin 3 → Nat :=
  let c64_i32_3426 : BitVec 32 := 64#32
  let c1024_i32_3427 : BitVec 32 := 1024#32
  ![v3380.toNat, 64, 1024]
def k0_dev166 (v6 : BitVec 32) : Nat :=
  let c0_i32_3435 : BitVec 32 := 0#32
  let c1_i32_3434 : BitVec 32 := 1#32
  let v3443 : BitVec 32 := Scalar.muli v6 c1_i32_3434
  let v3444 : BitVec 32 := Scalar.addi c0_i32_3435 v3443
  v3444.toNat
def k0_off264 (v3378 : BitVec 32) : Fin 3 → Nat :=
  let c0_i32_3446 : BitVec 32 := 0#32
  let c2048_i32_3447 : BitVec 32 := 2048#32
  ![v3378.toNat, 0, 2048]
def k0_dev167 (v4 : BitVec 32) : Nat :=
  let c0_i32_3455 : BitVec 32 := 0#32
  let c1_i32_3454 : BitVec 32 := 1#32
  let v3461 : BitVec 32 := Scalar.muli v4 c1_i32_3454
  let v3462 : BitVec 32 := Scalar.addi c0_i32_3455 v3461
  v3462.toNat
def k0_off265 (v3380 : BitVec 32) : Fin 3 → Nat :=
  let c64_i32_3466 : BitVec 32 := 64#32
  let c2048_i32_3467 : BitVec 32 := 2048#32
  ![v3380.toNat, 64, 2048]
def k0_dev168 (v6 : BitVec 32) : Nat :=
  let c0_i32_3475 : BitVec 32 := 0#32
  let c1_i32_3474 : BitVec 32 := 1#32
  let v3479 : BitVec 32 := Scalar.muli v6 c1_i32_3474
  let v3480 : BitVec 32 := Scalar.addi c0_i32_3475 v3479
  v3480.toNat
def k0_off266 (v3378 : BitVec 32) : Fin 3 → Nat :=
  let c0_i32_3486 : BitVec 32 := 0#32
  let c3072_i32_3487 : BitVec 32 := 3072#32
  ![v3378.toNat, 0, 3072]
def k0_dev169 (v4 : BitVec 32) : Nat :=
  let c0_i32_3495 : BitVec 32 := 0#32
  let c1_i32_3494 : BitVec 32 := 1#32
  let v3497 : BitVec 32 := Scalar.muli v4 c1_i32_3494
  let v3498 : BitVec 32 := Scalar.addi c0_i32_3495 v3497
  v3498.toNat
def k0_off267 (v3380 : BitVec 32) : Fin 3 → Nat :=
  let c64_i32_3506 : BitVec 32 := 64#32
  let c3072_i32_3507 : BitVec 32 := 3072#32
  ![v3380.toNat, 64, 3072]
def k0_dev170 (v6 : BitVec 32) : Nat :=
  let c0_i32_3515 : BitVec 32 := 0#32
  let c1_i32_3514 : BitVec 32 := 1#32
  let v3515 : BitVec 32 := Scalar.muli v6 c1_i32_3514
  let v3516 : BitVec 32 := Scalar.addi c0_i32_3515 v3515
  v3516.toNat
def k0_off268 (v3378 : BitVec 32) : Fin 3 → Nat :=
  let v3525 : Index := Scalar.indexCast v3378
  let c0_3520 : Index := 0#32
  let c0_3521 : Index := 0#32
  ![v3525.toNat, 0, 0]
def k0_off269 (v3378 : BitVec 32) : Fin 2 → Nat :=
  let c128_i32_3523 : BitVec 32 := 128#32
  let v3529 : BitVec 32 := Scalar.muli v3378 c128_i32_3523
  let c0_i32_3524 : BitVec 32 := 0#32
  let v3530 : BitVec 32 := Scalar.addi v3529 c0_i32_3524
  let v3535 : Index := Scalar.indexCast v3530
  let c0_3525 : Index := 0#32
  ![v3535.toNat, 0]

def k0_chk41 (v3378 : BitVec 32) : Prop :=
  (∀ a, (k0_off260 v3378) a + S1x64x1024.size a ≤ S32x128x4096.size a) ∧
  (∀ (hinb : ∀ a, (k0_off260 v3378) a + S1x64x1024.size a ≤ S32x128x4096.size a), (Rect.unit (s := S32x128x4096) (k0_off260 v3378) S1x64x1024.size hinb).WholeWords (EltTy.packing .fp8e5m2)) ∧
  (∀ a, (k0_off262 v3378) a + S1x64x1024.size a ≤ S32x128x4096.size a) ∧
  (∀ (hinb : ∀ a, (k0_off262 v3378) a + S1x64x1024.size a ≤ S32x128x4096.size a), (Rect.unit (s := S32x128x4096) (k0_off262 v3378) S1x64x1024.size hinb).WholeWords (EltTy.packing .fp8e5m2)) ∧
  (∀ a, (k0_off264 v3378) a + S1x64x1024.size a ≤ S32x128x4096.size a) ∧
  (∀ (hinb : ∀ a, (k0_off264 v3378) a + S1x64x1024.size a ≤ S32x128x4096.size a), (Rect.unit (s := S32x128x4096) (k0_off264 v3378) S1x64x1024.size hinb).WholeWords (EltTy.packing .fp8e5m2)) ∧
  (∀ a, (k0_off266 v3378) a + S1x64x1024.size a ≤ S32x128x4096.size a) ∧
  (∀ (hinb : ∀ a, (k0_off266 v3378) a + S1x64x1024.size a ≤ S32x128x4096.size a), (Rect.unit (s := S32x128x4096) (k0_off266 v3378) S1x64x1024.size hinb).WholeWords (EltTy.packing .fp8e5m2)) ∧
  (∀ a, (k0_off268 v3378) a + S1x64x4096.size a ≤ S32x128x4096.size a) ∧
  (∀ a, (k0_off269 v3378) a + S64x64.size a ≤ S4096x64.size a)
theorem k0_off260_inb : ∀ (v3378 : BitVec 32) (k0_hw41 : k0_chk41 v3378), ∀ a, (k0_off260 v3378) a + S1x64x1024.size a ≤ S32x128x4096.size a := fun v3378 k0_hw41 => k0_hw41.1
theorem k0_off260_wordsfp8e5m2 : ∀ (v3378 : BitVec 32) (k0_hw41 : k0_chk41 v3378), (Rect.unit (s := S32x128x4096) (k0_off260 v3378) S1x64x1024.size (k0_off260_inb v3378 k0_hw41)).WholeWords (EltTy.packing .fp8e5m2) := fun v3378 k0_hw41 => k0_hw41.2.1 (k0_off260_inb v3378 k0_hw41)
theorem k0_off262_inb : ∀ (v3378 : BitVec 32) (k0_hw41 : k0_chk41 v3378), ∀ a, (k0_off262 v3378) a + S1x64x1024.size a ≤ S32x128x4096.size a := fun v3378 k0_hw41 => k0_hw41.2.2.1
theorem k0_off262_wordsfp8e5m2 : ∀ (v3378 : BitVec 32) (k0_hw41 : k0_chk41 v3378), (Rect.unit (s := S32x128x4096) (k0_off262 v3378) S1x64x1024.size (k0_off262_inb v3378 k0_hw41)).WholeWords (EltTy.packing .fp8e5m2) := fun v3378 k0_hw41 => k0_hw41.2.2.2.1 (k0_off262_inb v3378 k0_hw41)
theorem k0_off264_inb : ∀ (v3378 : BitVec 32) (k0_hw41 : k0_chk41 v3378), ∀ a, (k0_off264 v3378) a + S1x64x1024.size a ≤ S32x128x4096.size a := fun v3378 k0_hw41 => k0_hw41.2.2.2.2.1
theorem k0_off264_wordsfp8e5m2 : ∀ (v3378 : BitVec 32) (k0_hw41 : k0_chk41 v3378), (Rect.unit (s := S32x128x4096) (k0_off264 v3378) S1x64x1024.size (k0_off264_inb v3378 k0_hw41)).WholeWords (EltTy.packing .fp8e5m2) := fun v3378 k0_hw41 => k0_hw41.2.2.2.2.2.1 (k0_off264_inb v3378 k0_hw41)
theorem k0_off266_inb : ∀ (v3378 : BitVec 32) (k0_hw41 : k0_chk41 v3378), ∀ a, (k0_off266 v3378) a + S1x64x1024.size a ≤ S32x128x4096.size a := fun v3378 k0_hw41 => k0_hw41.2.2.2.2.2.2.1
theorem k0_off266_wordsfp8e5m2 : ∀ (v3378 : BitVec 32) (k0_hw41 : k0_chk41 v3378), (Rect.unit (s := S32x128x4096) (k0_off266 v3378) S1x64x1024.size (k0_off266_inb v3378 k0_hw41)).WholeWords (EltTy.packing .fp8e5m2) := fun v3378 k0_hw41 => k0_hw41.2.2.2.2.2.2.2.1 (k0_off266_inb v3378 k0_hw41)
theorem k0_off268_inb : ∀ (v3378 : BitVec 32) (k0_hw41 : k0_chk41 v3378), ∀ a, (k0_off268 v3378) a + S1x64x4096.size a ≤ S32x128x4096.size a := fun v3378 k0_hw41 => k0_hw41.2.2.2.2.2.2.2.2.1
theorem k0_off269_inb : ∀ (v3378 : BitVec 32) (k0_hw41 : k0_chk41 v3378), ∀ a, (k0_off269 v3378) a + S64x64.size a ≤ S4096x64.size a := fun v3378 k0_hw41 => k0_hw41.2.2.2.2.2.2.2.2.2

def k0_off270 (v3380 : BitVec 32) : Fin 3 → Nat :=
  let v3537 : Index := Scalar.indexCast v3380
  let c64_3526 : Index := 64#32
  let c0_3527 : Index := 0#32
  ![v3537.toNat, 64, 0]
def k0_off271 (v3380 : BitVec 32) : Fin 2 → Nat :=
  let c128_i32_3529 : BitVec 32 := 128#32
  let v3541 : BitVec 32 := Scalar.muli v3380 c128_i32_3529
  let c64_i32_3530 : BitVec 32 := 64#32
  let v3542 : BitVec 32 := Scalar.addi v3541 c64_i32_3530
  let v3547 : Index := Scalar.indexCast v3542
  let c0_3531 : Index := 0#32
  ![v3547.toNat, 0]

def k0_chk42 (v3380 : BitVec 32) : Prop :=
  (∀ a, (k0_off261 v3380) a + S1x64x1024.size a ≤ S32x128x4096.size a) ∧
  (∀ (hinb : ∀ a, (k0_off261 v3380) a + S1x64x1024.size a ≤ S32x128x4096.size a), (Rect.unit (s := S32x128x4096) (k0_off261 v3380) S1x64x1024.size hinb).WholeWords (EltTy.packing .fp8e5m2)) ∧
  (∀ a, (k0_off263 v3380) a + S1x64x1024.size a ≤ S32x128x4096.size a) ∧
  (∀ (hinb : ∀ a, (k0_off263 v3380) a + S1x64x1024.size a ≤ S32x128x4096.size a), (Rect.unit (s := S32x128x4096) (k0_off263 v3380) S1x64x1024.size hinb).WholeWords (EltTy.packing .fp8e5m2)) ∧
  (∀ a, (k0_off265 v3380) a + S1x64x1024.size a ≤ S32x128x4096.size a) ∧
  (∀ (hinb : ∀ a, (k0_off265 v3380) a + S1x64x1024.size a ≤ S32x128x4096.size a), (Rect.unit (s := S32x128x4096) (k0_off265 v3380) S1x64x1024.size hinb).WholeWords (EltTy.packing .fp8e5m2)) ∧
  (∀ a, (k0_off267 v3380) a + S1x64x1024.size a ≤ S32x128x4096.size a) ∧
  (∀ (hinb : ∀ a, (k0_off267 v3380) a + S1x64x1024.size a ≤ S32x128x4096.size a), (Rect.unit (s := S32x128x4096) (k0_off267 v3380) S1x64x1024.size hinb).WholeWords (EltTy.packing .fp8e5m2)) ∧
  (∀ a, (k0_off270 v3380) a + S1x64x4096.size a ≤ S32x128x4096.size a) ∧
  (∀ a, (k0_off271 v3380) a + S64x64.size a ≤ S4096x64.size a)
theorem k0_off261_inb : ∀ (v3380 : BitVec 32) (k0_hw42 : k0_chk42 v3380), ∀ a, (k0_off261 v3380) a + S1x64x1024.size a ≤ S32x128x4096.size a := fun v3380 k0_hw42 => k0_hw42.1
theorem k0_off261_wordsfp8e5m2 : ∀ (v3380 : BitVec 32) (k0_hw42 : k0_chk42 v3380), (Rect.unit (s := S32x128x4096) (k0_off261 v3380) S1x64x1024.size (k0_off261_inb v3380 k0_hw42)).WholeWords (EltTy.packing .fp8e5m2) := fun v3380 k0_hw42 => k0_hw42.2.1 (k0_off261_inb v3380 k0_hw42)
theorem k0_off263_inb : ∀ (v3380 : BitVec 32) (k0_hw42 : k0_chk42 v3380), ∀ a, (k0_off263 v3380) a + S1x64x1024.size a ≤ S32x128x4096.size a := fun v3380 k0_hw42 => k0_hw42.2.2.1
theorem k0_off263_wordsfp8e5m2 : ∀ (v3380 : BitVec 32) (k0_hw42 : k0_chk42 v3380), (Rect.unit (s := S32x128x4096) (k0_off263 v3380) S1x64x1024.size (k0_off263_inb v3380 k0_hw42)).WholeWords (EltTy.packing .fp8e5m2) := fun v3380 k0_hw42 => k0_hw42.2.2.2.1 (k0_off263_inb v3380 k0_hw42)
theorem k0_off265_inb : ∀ (v3380 : BitVec 32) (k0_hw42 : k0_chk42 v3380), ∀ a, (k0_off265 v3380) a + S1x64x1024.size a ≤ S32x128x4096.size a := fun v3380 k0_hw42 => k0_hw42.2.2.2.2.1
theorem k0_off265_wordsfp8e5m2 : ∀ (v3380 : BitVec 32) (k0_hw42 : k0_chk42 v3380), (Rect.unit (s := S32x128x4096) (k0_off265 v3380) S1x64x1024.size (k0_off265_inb v3380 k0_hw42)).WholeWords (EltTy.packing .fp8e5m2) := fun v3380 k0_hw42 => k0_hw42.2.2.2.2.2.1 (k0_off265_inb v3380 k0_hw42)
theorem k0_off267_inb : ∀ (v3380 : BitVec 32) (k0_hw42 : k0_chk42 v3380), ∀ a, (k0_off267 v3380) a + S1x64x1024.size a ≤ S32x128x4096.size a := fun v3380 k0_hw42 => k0_hw42.2.2.2.2.2.2.1
theorem k0_off267_wordsfp8e5m2 : ∀ (v3380 : BitVec 32) (k0_hw42 : k0_chk42 v3380), (Rect.unit (s := S32x128x4096) (k0_off267 v3380) S1x64x1024.size (k0_off267_inb v3380 k0_hw42)).WholeWords (EltTy.packing .fp8e5m2) := fun v3380 k0_hw42 => k0_hw42.2.2.2.2.2.2.2.1 (k0_off267_inb v3380 k0_hw42)
theorem k0_off270_inb : ∀ (v3380 : BitVec 32) (k0_hw42 : k0_chk42 v3380), ∀ a, (k0_off270 v3380) a + S1x64x4096.size a ≤ S32x128x4096.size a := fun v3380 k0_hw42 => k0_hw42.2.2.2.2.2.2.2.2.1
theorem k0_off271_inb : ∀ (v3380 : BitVec 32) (k0_hw42 : k0_chk42 v3380), ∀ a, (k0_off271 v3380) a + S64x64.size a ≤ S4096x64.size a := fun v3380 k0_hw42 => k0_hw42.2.2.2.2.2.2.2.2.2

def k0_off272 (d0 : Dev nD) : Fin 2 → Nat :=
  let c21 : Index := 21#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3549 : Index := Scalar.indexCast v2
  ![21, v3549.toNat]
def k0_off273 (v3550 : BitVec 32) : Fin 3 → Nat :=
  let c0_i32_3539 : BitVec 32 := 0#32
  let c0_i32_3540 : BitVec 32 := 0#32
  ![v3550.toNat, 0, 0]

def k0_dev171 (v4 : BitVec 32) : Nat :=
  let c0_i32_3547 : BitVec 32 := 0#32
  let c1_i32_3546 : BitVec 32 := 1#32
  let v3561 : BitVec 32 := Scalar.muli v4 c1_i32_3546
  let v3562 : BitVec 32 := Scalar.addi c0_i32_3547 v3561
  v3562.toNat
def k0_off274 (v3552 : BitVec 32) : Fin 3 → Nat :=
  let c64_i32_3558 : BitVec 32 := 64#32
  let c0_i32_3559 : BitVec 32 := 0#32
  ![v3552.toNat, 64, 0]

def k0_dev172 (v6 : BitVec 32) : Nat :=
  let c0_i32_3567 : BitVec 32 := 0#32
  let c1_i32_3566 : BitVec 32 := 1#32
  let v3579 : BitVec 32 := Scalar.muli v6 c1_i32_3566
  let v3580 : BitVec 32 := Scalar.addi c0_i32_3567 v3579
  v3580.toNat
def k0_off275 (v3550 : BitVec 32) : Fin 3 → Nat :=
  let c0_i32_3578 : BitVec 32 := 0#32
  let c1024_i32_3579 : BitVec 32 := 1024#32
  ![v3550.toNat, 0, 1024]
def k0_dev173 (v4 : BitVec 32) : Nat :=
  let c0_i32_3587 : BitVec 32 := 0#32
  let c1_i32_3586 : BitVec 32 := 1#32
  let v3597 : BitVec 32 := Scalar.muli v4 c1_i32_3586
  let v3598 : BitVec 32 := Scalar.addi c0_i32_3587 v3597
  v3598.toNat
def k0_off276 (v3552 : BitVec 32) : Fin 3 → Nat :=
  let c64_i32_3598 : BitVec 32 := 64#32
  let c1024_i32_3599 : BitVec 32 := 1024#32
  ![v3552.toNat, 64, 1024]
def k0_dev174 (v6 : BitVec 32) : Nat :=
  let c0_i32_3607 : BitVec 32 := 0#32
  let c1_i32_3606 : BitVec 32 := 1#32
  let v3615 : BitVec 32 := Scalar.muli v6 c1_i32_3606
  let v3616 : BitVec 32 := Scalar.addi c0_i32_3607 v3615
  v3616.toNat
def k0_off277 (v3550 : BitVec 32) : Fin 3 → Nat :=
  let c0_i32_3618 : BitVec 32 := 0#32
  let c2048_i32_3619 : BitVec 32 := 2048#32
  ![v3550.toNat, 0, 2048]
def k0_dev175 (v4 : BitVec 32) : Nat :=
  let c0_i32_3627 : BitVec 32 := 0#32
  let c1_i32_3626 : BitVec 32 := 1#32
  let v3633 : BitVec 32 := Scalar.muli v4 c1_i32_3626
  let v3634 : BitVec 32 := Scalar.addi c0_i32_3627 v3633
  v3634.toNat
def k0_off278 (v3552 : BitVec 32) : Fin 3 → Nat :=
  let c64_i32_3638 : BitVec 32 := 64#32
  let c2048_i32_3639 : BitVec 32 := 2048#32
  ![v3552.toNat, 64, 2048]
def k0_dev176 (v6 : BitVec 32) : Nat :=
  let c0_i32_3647 : BitVec 32 := 0#32
  let c1_i32_3646 : BitVec 32 := 1#32
  let v3651 : BitVec 32 := Scalar.muli v6 c1_i32_3646
  let v3652 : BitVec 32 := Scalar.addi c0_i32_3647 v3651
  v3652.toNat
def k0_off279 (v3550 : BitVec 32) : Fin 3 → Nat :=
  let c0_i32_3658 : BitVec 32 := 0#32
  let c3072_i32_3659 : BitVec 32 := 3072#32
  ![v3550.toNat, 0, 3072]
def k0_dev177 (v4 : BitVec 32) : Nat :=
  let c0_i32_3667 : BitVec 32 := 0#32
  let c1_i32_3666 : BitVec 32 := 1#32
  let v3669 : BitVec 32 := Scalar.muli v4 c1_i32_3666
  let v3670 : BitVec 32 := Scalar.addi c0_i32_3667 v3669
  v3670.toNat
def k0_off280 (v3552 : BitVec 32) : Fin 3 → Nat :=
  let c64_i32_3678 : BitVec 32 := 64#32
  let c3072_i32_3679 : BitVec 32 := 3072#32
  ![v3552.toNat, 64, 3072]
def k0_dev178 (v6 : BitVec 32) : Nat :=
  let c0_i32_3687 : BitVec 32 := 0#32
  let c1_i32_3686 : BitVec 32 := 1#32
  let v3687 : BitVec 32 := Scalar.muli v6 c1_i32_3686
  let v3688 : BitVec 32 := Scalar.addi c0_i32_3687 v3687
  v3688.toNat
def k0_off281 (v3550 : BitVec 32) : Fin 3 → Nat :=
  let v3697 : Index := Scalar.indexCast v3550
  let c0_3692 : Index := 0#32
  let c0_3693 : Index := 0#32
  ![v3697.toNat, 0, 0]
def k0_off282 (v3550 : BitVec 32) : Fin 2 → Nat :=
  let c128_i32_3695 : BitVec 32 := 128#32
  let v3701 : BitVec 32 := Scalar.muli v3550 c128_i32_3695
  let c0_i32_3696 : BitVec 32 := 0#32
  let v3702 : BitVec 32 := Scalar.addi v3701 c0_i32_3696
  let v3707 : Index := Scalar.indexCast v3702
  let c0_3697 : Index := 0#32
  ![v3707.toNat, 0]

def k0_chk43 (v3550 : BitVec 32) : Prop :=
  (∀ a, (k0_off273 v3550) a + S1x64x1024.size a ≤ S32x128x4096.size a) ∧
  (∀ (hinb : ∀ a, (k0_off273 v3550) a + S1x64x1024.size a ≤ S32x128x4096.size a), (Rect.unit (s := S32x128x4096) (k0_off273 v3550) S1x64x1024.size hinb).WholeWords (EltTy.packing .fp8e5m2)) ∧
  (∀ a, (k0_off275 v3550) a + S1x64x1024.size a ≤ S32x128x4096.size a) ∧
  (∀ (hinb : ∀ a, (k0_off275 v3550) a + S1x64x1024.size a ≤ S32x128x4096.size a), (Rect.unit (s := S32x128x4096) (k0_off275 v3550) S1x64x1024.size hinb).WholeWords (EltTy.packing .fp8e5m2)) ∧
  (∀ a, (k0_off277 v3550) a + S1x64x1024.size a ≤ S32x128x4096.size a) ∧
  (∀ (hinb : ∀ a, (k0_off277 v3550) a + S1x64x1024.size a ≤ S32x128x4096.size a), (Rect.unit (s := S32x128x4096) (k0_off277 v3550) S1x64x1024.size hinb).WholeWords (EltTy.packing .fp8e5m2)) ∧
  (∀ a, (k0_off279 v3550) a + S1x64x1024.size a ≤ S32x128x4096.size a) ∧
  (∀ (hinb : ∀ a, (k0_off279 v3550) a + S1x64x1024.size a ≤ S32x128x4096.size a), (Rect.unit (s := S32x128x4096) (k0_off279 v3550) S1x64x1024.size hinb).WholeWords (EltTy.packing .fp8e5m2)) ∧
  (∀ a, (k0_off281 v3550) a + S1x64x4096.size a ≤ S32x128x4096.size a) ∧
  (∀ a, (k0_off282 v3550) a + S64x64.size a ≤ S4096x64.size a)
theorem k0_off273_inb : ∀ (v3550 : BitVec 32) (k0_hw43 : k0_chk43 v3550), ∀ a, (k0_off273 v3550) a + S1x64x1024.size a ≤ S32x128x4096.size a := fun v3550 k0_hw43 => k0_hw43.1
theorem k0_off273_wordsfp8e5m2 : ∀ (v3550 : BitVec 32) (k0_hw43 : k0_chk43 v3550), (Rect.unit (s := S32x128x4096) (k0_off273 v3550) S1x64x1024.size (k0_off273_inb v3550 k0_hw43)).WholeWords (EltTy.packing .fp8e5m2) := fun v3550 k0_hw43 => k0_hw43.2.1 (k0_off273_inb v3550 k0_hw43)
theorem k0_off275_inb : ∀ (v3550 : BitVec 32) (k0_hw43 : k0_chk43 v3550), ∀ a, (k0_off275 v3550) a + S1x64x1024.size a ≤ S32x128x4096.size a := fun v3550 k0_hw43 => k0_hw43.2.2.1
theorem k0_off275_wordsfp8e5m2 : ∀ (v3550 : BitVec 32) (k0_hw43 : k0_chk43 v3550), (Rect.unit (s := S32x128x4096) (k0_off275 v3550) S1x64x1024.size (k0_off275_inb v3550 k0_hw43)).WholeWords (EltTy.packing .fp8e5m2) := fun v3550 k0_hw43 => k0_hw43.2.2.2.1 (k0_off275_inb v3550 k0_hw43)
theorem k0_off277_inb : ∀ (v3550 : BitVec 32) (k0_hw43 : k0_chk43 v3550), ∀ a, (k0_off277 v3550) a + S1x64x1024.size a ≤ S32x128x4096.size a := fun v3550 k0_hw43 => k0_hw43.2.2.2.2.1
theorem k0_off277_wordsfp8e5m2 : ∀ (v3550 : BitVec 32) (k0_hw43 : k0_chk43 v3550), (Rect.unit (s := S32x128x4096) (k0_off277 v3550) S1x64x1024.size (k0_off277_inb v3550 k0_hw43)).WholeWords (EltTy.packing .fp8e5m2) := fun v3550 k0_hw43 => k0_hw43.2.2.2.2.2.1 (k0_off277_inb v3550 k0_hw43)
theorem k0_off279_inb : ∀ (v3550 : BitVec 32) (k0_hw43 : k0_chk43 v3550), ∀ a, (k0_off279 v3550) a + S1x64x1024.size a ≤ S32x128x4096.size a := fun v3550 k0_hw43 => k0_hw43.2.2.2.2.2.2.1
theorem k0_off279_wordsfp8e5m2 : ∀ (v3550 : BitVec 32) (k0_hw43 : k0_chk43 v3550), (Rect.unit (s := S32x128x4096) (k0_off279 v3550) S1x64x1024.size (k0_off279_inb v3550 k0_hw43)).WholeWords (EltTy.packing .fp8e5m2) := fun v3550 k0_hw43 => k0_hw43.2.2.2.2.2.2.2.1 (k0_off279_inb v3550 k0_hw43)
theorem k0_off281_inb : ∀ (v3550 : BitVec 32) (k0_hw43 : k0_chk43 v3550), ∀ a, (k0_off281 v3550) a + S1x64x4096.size a ≤ S32x128x4096.size a := fun v3550 k0_hw43 => k0_hw43.2.2.2.2.2.2.2.2.1
theorem k0_off282_inb : ∀ (v3550 : BitVec 32) (k0_hw43 : k0_chk43 v3550), ∀ a, (k0_off282 v3550) a + S64x64.size a ≤ S4096x64.size a := fun v3550 k0_hw43 => k0_hw43.2.2.2.2.2.2.2.2.2

def k0_off283 (v3552 : BitVec 32) : Fin 3 → Nat :=
  let v3709 : Index := Scalar.indexCast v3552
  let c64_3698 : Index := 64#32
  let c0_3699 : Index := 0#32
  ![v3709.toNat, 64, 0]
def k0_off284 (v3552 : BitVec 32) : Fin 2 → Nat :=
  let c128_i32_3701 : BitVec 32 := 128#32
  let v3713 : BitVec 32 := Scalar.muli v3552 c128_i32_3701
  let c64_i32_3702 : BitVec 32 := 64#32
  let v3714 : BitVec 32 := Scalar.addi v3713 c64_i32_3702
  let v3719 : Index := Scalar.indexCast v3714
  let c0_3703 : Index := 0#32
  ![v3719.toNat, 0]

def k0_chk44 (v3552 : BitVec 32) : Prop :=
  (∀ a, (k0_off274 v3552) a + S1x64x1024.size a ≤ S32x128x4096.size a) ∧
  (∀ (hinb : ∀ a, (k0_off274 v3552) a + S1x64x1024.size a ≤ S32x128x4096.size a), (Rect.unit (s := S32x128x4096) (k0_off274 v3552) S1x64x1024.size hinb).WholeWords (EltTy.packing .fp8e5m2)) ∧
  (∀ a, (k0_off276 v3552) a + S1x64x1024.size a ≤ S32x128x4096.size a) ∧
  (∀ (hinb : ∀ a, (k0_off276 v3552) a + S1x64x1024.size a ≤ S32x128x4096.size a), (Rect.unit (s := S32x128x4096) (k0_off276 v3552) S1x64x1024.size hinb).WholeWords (EltTy.packing .fp8e5m2)) ∧
  (∀ a, (k0_off278 v3552) a + S1x64x1024.size a ≤ S32x128x4096.size a) ∧
  (∀ (hinb : ∀ a, (k0_off278 v3552) a + S1x64x1024.size a ≤ S32x128x4096.size a), (Rect.unit (s := S32x128x4096) (k0_off278 v3552) S1x64x1024.size hinb).WholeWords (EltTy.packing .fp8e5m2)) ∧
  (∀ a, (k0_off280 v3552) a + S1x64x1024.size a ≤ S32x128x4096.size a) ∧
  (∀ (hinb : ∀ a, (k0_off280 v3552) a + S1x64x1024.size a ≤ S32x128x4096.size a), (Rect.unit (s := S32x128x4096) (k0_off280 v3552) S1x64x1024.size hinb).WholeWords (EltTy.packing .fp8e5m2)) ∧
  (∀ a, (k0_off283 v3552) a + S1x64x4096.size a ≤ S32x128x4096.size a) ∧
  (∀ a, (k0_off284 v3552) a + S64x64.size a ≤ S4096x64.size a)
theorem k0_off274_inb : ∀ (v3552 : BitVec 32) (k0_hw44 : k0_chk44 v3552), ∀ a, (k0_off274 v3552) a + S1x64x1024.size a ≤ S32x128x4096.size a := fun v3552 k0_hw44 => k0_hw44.1
theorem k0_off274_wordsfp8e5m2 : ∀ (v3552 : BitVec 32) (k0_hw44 : k0_chk44 v3552), (Rect.unit (s := S32x128x4096) (k0_off274 v3552) S1x64x1024.size (k0_off274_inb v3552 k0_hw44)).WholeWords (EltTy.packing .fp8e5m2) := fun v3552 k0_hw44 => k0_hw44.2.1 (k0_off274_inb v3552 k0_hw44)
theorem k0_off276_inb : ∀ (v3552 : BitVec 32) (k0_hw44 : k0_chk44 v3552), ∀ a, (k0_off276 v3552) a + S1x64x1024.size a ≤ S32x128x4096.size a := fun v3552 k0_hw44 => k0_hw44.2.2.1
theorem k0_off276_wordsfp8e5m2 : ∀ (v3552 : BitVec 32) (k0_hw44 : k0_chk44 v3552), (Rect.unit (s := S32x128x4096) (k0_off276 v3552) S1x64x1024.size (k0_off276_inb v3552 k0_hw44)).WholeWords (EltTy.packing .fp8e5m2) := fun v3552 k0_hw44 => k0_hw44.2.2.2.1 (k0_off276_inb v3552 k0_hw44)
theorem k0_off278_inb : ∀ (v3552 : BitVec 32) (k0_hw44 : k0_chk44 v3552), ∀ a, (k0_off278 v3552) a + S1x64x1024.size a ≤ S32x128x4096.size a := fun v3552 k0_hw44 => k0_hw44.2.2.2.2.1
theorem k0_off278_wordsfp8e5m2 : ∀ (v3552 : BitVec 32) (k0_hw44 : k0_chk44 v3552), (Rect.unit (s := S32x128x4096) (k0_off278 v3552) S1x64x1024.size (k0_off278_inb v3552 k0_hw44)).WholeWords (EltTy.packing .fp8e5m2) := fun v3552 k0_hw44 => k0_hw44.2.2.2.2.2.1 (k0_off278_inb v3552 k0_hw44)
theorem k0_off280_inb : ∀ (v3552 : BitVec 32) (k0_hw44 : k0_chk44 v3552), ∀ a, (k0_off280 v3552) a + S1x64x1024.size a ≤ S32x128x4096.size a := fun v3552 k0_hw44 => k0_hw44.2.2.2.2.2.2.1
theorem k0_off280_wordsfp8e5m2 : ∀ (v3552 : BitVec 32) (k0_hw44 : k0_chk44 v3552), (Rect.unit (s := S32x128x4096) (k0_off280 v3552) S1x64x1024.size (k0_off280_inb v3552 k0_hw44)).WholeWords (EltTy.packing .fp8e5m2) := fun v3552 k0_hw44 => k0_hw44.2.2.2.2.2.2.2.1 (k0_off280_inb v3552 k0_hw44)
theorem k0_off283_inb : ∀ (v3552 : BitVec 32) (k0_hw44 : k0_chk44 v3552), ∀ a, (k0_off283 v3552) a + S1x64x4096.size a ≤ S32x128x4096.size a := fun v3552 k0_hw44 => k0_hw44.2.2.2.2.2.2.2.2.1
theorem k0_off284_inb : ∀ (v3552 : BitVec 32) (k0_hw44 : k0_chk44 v3552), ∀ a, (k0_off284 v3552) a + S64x64.size a ≤ S4096x64.size a := fun v3552 k0_hw44 => k0_hw44.2.2.2.2.2.2.2.2.2

def k0_off285 (d0 : Dev nD) : Fin 2 → Nat :=
  let c22 : Index := 22#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3721 : Index := Scalar.indexCast v2
  ![22, v3721.toNat]
def k0_off286 (v3722 : BitVec 32) : Fin 3 → Nat :=
  let c0_i32_3711 : BitVec 32 := 0#32
  let c0_i32_3712 : BitVec 32 := 0#32
  ![v3722.toNat, 0, 0]

def k0_dev179 (v4 : BitVec 32) : Nat :=
  let c0_i32_3719 : BitVec 32 := 0#32
  let c1_i32_3718 : BitVec 32 := 1#32
  let v3733 : BitVec 32 := Scalar.muli v4 c1_i32_3718
  let v3734 : BitVec 32 := Scalar.addi c0_i32_3719 v3733
  v3734.toNat
def k0_off287 (v3724 : BitVec 32) : Fin 3 → Nat :=
  let c64_i32_3730 : BitVec 32 := 64#32
  let c0_i32_3731 : BitVec 32 := 0#32
  ![v3724.toNat, 64, 0]

def k0_dev180 (v6 : BitVec 32) : Nat :=
  let c0_i32_3739 : BitVec 32 := 0#32
  let c1_i32_3738 : BitVec 32 := 1#32
  let v3751 : BitVec 32 := Scalar.muli v6 c1_i32_3738
  let v3752 : BitVec 32 := Scalar.addi c0_i32_3739 v3751
  v3752.toNat
def k0_off288 (v3722 : BitVec 32) : Fin 3 → Nat :=
  let c0_i32_3750 : BitVec 32 := 0#32
  let c1024_i32_3751 : BitVec 32 := 1024#32
  ![v3722.toNat, 0, 1024]
def k0_dev181 (v4 : BitVec 32) : Nat :=
  let c0_i32_3759 : BitVec 32 := 0#32
  let c1_i32_3758 : BitVec 32 := 1#32
  let v3769 : BitVec 32 := Scalar.muli v4 c1_i32_3758
  let v3770 : BitVec 32 := Scalar.addi c0_i32_3759 v3769
  v3770.toNat
def k0_off289 (v3724 : BitVec 32) : Fin 3 → Nat :=
  let c64_i32_3770 : BitVec 32 := 64#32
  let c1024_i32_3771 : BitVec 32 := 1024#32
  ![v3724.toNat, 64, 1024]
def k0_dev182 (v6 : BitVec 32) : Nat :=
  let c0_i32_3779 : BitVec 32 := 0#32
  let c1_i32_3778 : BitVec 32 := 1#32
  let v3787 : BitVec 32 := Scalar.muli v6 c1_i32_3778
  let v3788 : BitVec 32 := Scalar.addi c0_i32_3779 v3787
  v3788.toNat
def k0_off290 (v3722 : BitVec 32) : Fin 3 → Nat :=
  let c0_i32_3790 : BitVec 32 := 0#32
  let c2048_i32_3791 : BitVec 32 := 2048#32
  ![v3722.toNat, 0, 2048]
def k0_dev183 (v4 : BitVec 32) : Nat :=
  let c0_i32_3799 : BitVec 32 := 0#32
  let c1_i32_3798 : BitVec 32 := 1#32
  let v3805 : BitVec 32 := Scalar.muli v4 c1_i32_3798
  let v3806 : BitVec 32 := Scalar.addi c0_i32_3799 v3805
  v3806.toNat
def k0_off291 (v3724 : BitVec 32) : Fin 3 → Nat :=
  let c64_i32_3810 : BitVec 32 := 64#32
  let c2048_i32_3811 : BitVec 32 := 2048#32
  ![v3724.toNat, 64, 2048]
def k0_dev184 (v6 : BitVec 32) : Nat :=
  let c0_i32_3819 : BitVec 32 := 0#32
  let c1_i32_3818 : BitVec 32 := 1#32
  let v3823 : BitVec 32 := Scalar.muli v6 c1_i32_3818
  let v3824 : BitVec 32 := Scalar.addi c0_i32_3819 v3823
  v3824.toNat
def k0_off292 (v3722 : BitVec 32) : Fin 3 → Nat :=
  let c0_i32_3830 : BitVec 32 := 0#32
  let c3072_i32_3831 : BitVec 32 := 3072#32
  ![v3722.toNat, 0, 3072]
def k0_dev185 (v4 : BitVec 32) : Nat :=
  let c0_i32_3839 : BitVec 32 := 0#32
  let c1_i32_3838 : BitVec 32 := 1#32
  let v3841 : BitVec 32 := Scalar.muli v4 c1_i32_3838
  let v3842 : BitVec 32 := Scalar.addi c0_i32_3839 v3841
  v3842.toNat
def k0_off293 (v3724 : BitVec 32) : Fin 3 → Nat :=
  let c64_i32_3850 : BitVec 32 := 64#32
  let c3072_i32_3851 : BitVec 32 := 3072#32
  ![v3724.toNat, 64, 3072]
def k0_dev186 (v6 : BitVec 32) : Nat :=
  let c0_i32_3859 : BitVec 32 := 0#32
  let c1_i32_3858 : BitVec 32 := 1#32
  let v3859 : BitVec 32 := Scalar.muli v6 c1_i32_3858
  let v3860 : BitVec 32 := Scalar.addi c0_i32_3859 v3859
  v3860.toNat
def k0_off294 (v3722 : BitVec 32) : Fin 3 → Nat :=
  let v3869 : Index := Scalar.indexCast v3722
  let c0_3864 : Index := 0#32
  let c0_3865 : Index := 0#32
  ![v3869.toNat, 0, 0]
def k0_off295 (v3722 : BitVec 32) : Fin 2 → Nat :=
  let c128_i32_3867 : BitVec 32 := 128#32
  let v3873 : BitVec 32 := Scalar.muli v3722 c128_i32_3867
  let c0_i32_3868 : BitVec 32 := 0#32
  let v3874 : BitVec 32 := Scalar.addi v3873 c0_i32_3868
  let v3879 : Index := Scalar.indexCast v3874
  let c0_3869 : Index := 0#32
  ![v3879.toNat, 0]

def k0_chk45 (v3722 : BitVec 32) : Prop :=
  (∀ a, (k0_off286 v3722) a + S1x64x1024.size a ≤ S32x128x4096.size a) ∧
  (∀ (hinb : ∀ a, (k0_off286 v3722) a + S1x64x1024.size a ≤ S32x128x4096.size a), (Rect.unit (s := S32x128x4096) (k0_off286 v3722) S1x64x1024.size hinb).WholeWords (EltTy.packing .fp8e5m2)) ∧
  (∀ a, (k0_off288 v3722) a + S1x64x1024.size a ≤ S32x128x4096.size a) ∧
  (∀ (hinb : ∀ a, (k0_off288 v3722) a + S1x64x1024.size a ≤ S32x128x4096.size a), (Rect.unit (s := S32x128x4096) (k0_off288 v3722) S1x64x1024.size hinb).WholeWords (EltTy.packing .fp8e5m2)) ∧
  (∀ a, (k0_off290 v3722) a + S1x64x1024.size a ≤ S32x128x4096.size a) ∧
  (∀ (hinb : ∀ a, (k0_off290 v3722) a + S1x64x1024.size a ≤ S32x128x4096.size a), (Rect.unit (s := S32x128x4096) (k0_off290 v3722) S1x64x1024.size hinb).WholeWords (EltTy.packing .fp8e5m2)) ∧
  (∀ a, (k0_off292 v3722) a + S1x64x1024.size a ≤ S32x128x4096.size a) ∧
  (∀ (hinb : ∀ a, (k0_off292 v3722) a + S1x64x1024.size a ≤ S32x128x4096.size a), (Rect.unit (s := S32x128x4096) (k0_off292 v3722) S1x64x1024.size hinb).WholeWords (EltTy.packing .fp8e5m2)) ∧
  (∀ a, (k0_off294 v3722) a + S1x64x4096.size a ≤ S32x128x4096.size a) ∧
  (∀ a, (k0_off295 v3722) a + S64x64.size a ≤ S4096x64.size a)
theorem k0_off286_inb : ∀ (v3722 : BitVec 32) (k0_hw45 : k0_chk45 v3722), ∀ a, (k0_off286 v3722) a + S1x64x1024.size a ≤ S32x128x4096.size a := fun v3722 k0_hw45 => k0_hw45.1
theorem k0_off286_wordsfp8e5m2 : ∀ (v3722 : BitVec 32) (k0_hw45 : k0_chk45 v3722), (Rect.unit (s := S32x128x4096) (k0_off286 v3722) S1x64x1024.size (k0_off286_inb v3722 k0_hw45)).WholeWords (EltTy.packing .fp8e5m2) := fun v3722 k0_hw45 => k0_hw45.2.1 (k0_off286_inb v3722 k0_hw45)
theorem k0_off288_inb : ∀ (v3722 : BitVec 32) (k0_hw45 : k0_chk45 v3722), ∀ a, (k0_off288 v3722) a + S1x64x1024.size a ≤ S32x128x4096.size a := fun v3722 k0_hw45 => k0_hw45.2.2.1
theorem k0_off288_wordsfp8e5m2 : ∀ (v3722 : BitVec 32) (k0_hw45 : k0_chk45 v3722), (Rect.unit (s := S32x128x4096) (k0_off288 v3722) S1x64x1024.size (k0_off288_inb v3722 k0_hw45)).WholeWords (EltTy.packing .fp8e5m2) := fun v3722 k0_hw45 => k0_hw45.2.2.2.1 (k0_off288_inb v3722 k0_hw45)
theorem k0_off290_inb : ∀ (v3722 : BitVec 32) (k0_hw45 : k0_chk45 v3722), ∀ a, (k0_off290 v3722) a + S1x64x1024.size a ≤ S32x128x4096.size a := fun v3722 k0_hw45 => k0_hw45.2.2.2.2.1
theorem k0_off290_wordsfp8e5m2 : ∀ (v3722 : BitVec 32) (k0_hw45 : k0_chk45 v3722), (Rect.unit (s := S32x128x4096) (k0_off290 v3722) S1x64x1024.size (k0_off290_inb v3722 k0_hw45)).WholeWords (EltTy.packing .fp8e5m2) := fun v3722 k0_hw45 => k0_hw45.2.2.2.2.2.1 (k0_off290_inb v3722 k0_hw45)
theorem k0_off292_inb : ∀ (v3722 : BitVec 32) (k0_hw45 : k0_chk45 v3722), ∀ a, (k0_off292 v3722) a + S1x64x1024.size a ≤ S32x128x4096.size a := fun v3722 k0_hw45 => k0_hw45.2.2.2.2.2.2.1
theorem k0_off292_wordsfp8e5m2 : ∀ (v3722 : BitVec 32) (k0_hw45 : k0_chk45 v3722), (Rect.unit (s := S32x128x4096) (k0_off292 v3722) S1x64x1024.size (k0_off292_inb v3722 k0_hw45)).WholeWords (EltTy.packing .fp8e5m2) := fun v3722 k0_hw45 => k0_hw45.2.2.2.2.2.2.2.1 (k0_off292_inb v3722 k0_hw45)
theorem k0_off294_inb : ∀ (v3722 : BitVec 32) (k0_hw45 : k0_chk45 v3722), ∀ a, (k0_off294 v3722) a + S1x64x4096.size a ≤ S32x128x4096.size a := fun v3722 k0_hw45 => k0_hw45.2.2.2.2.2.2.2.2.1
theorem k0_off295_inb : ∀ (v3722 : BitVec 32) (k0_hw45 : k0_chk45 v3722), ∀ a, (k0_off295 v3722) a + S64x64.size a ≤ S4096x64.size a := fun v3722 k0_hw45 => k0_hw45.2.2.2.2.2.2.2.2.2

def k0_off296 (v3724 : BitVec 32) : Fin 3 → Nat :=
  let v3881 : Index := Scalar.indexCast v3724
  let c64_3870 : Index := 64#32
  let c0_3871 : Index := 0#32
  ![v3881.toNat, 64, 0]
def k0_off297 (v3724 : BitVec 32) : Fin 2 → Nat :=
  let c128_i32_3873 : BitVec 32 := 128#32
  let v3885 : BitVec 32 := Scalar.muli v3724 c128_i32_3873
  let c64_i32_3874 : BitVec 32 := 64#32
  let v3886 : BitVec 32 := Scalar.addi v3885 c64_i32_3874
  let v3891 : Index := Scalar.indexCast v3886
  let c0_3875 : Index := 0#32
  ![v3891.toNat, 0]

def k0_chk46 (v3724 : BitVec 32) : Prop :=
  (∀ a, (k0_off287 v3724) a + S1x64x1024.size a ≤ S32x128x4096.size a) ∧
  (∀ (hinb : ∀ a, (k0_off287 v3724) a + S1x64x1024.size a ≤ S32x128x4096.size a), (Rect.unit (s := S32x128x4096) (k0_off287 v3724) S1x64x1024.size hinb).WholeWords (EltTy.packing .fp8e5m2)) ∧
  (∀ a, (k0_off289 v3724) a + S1x64x1024.size a ≤ S32x128x4096.size a) ∧
  (∀ (hinb : ∀ a, (k0_off289 v3724) a + S1x64x1024.size a ≤ S32x128x4096.size a), (Rect.unit (s := S32x128x4096) (k0_off289 v3724) S1x64x1024.size hinb).WholeWords (EltTy.packing .fp8e5m2)) ∧
  (∀ a, (k0_off291 v3724) a + S1x64x1024.size a ≤ S32x128x4096.size a) ∧
  (∀ (hinb : ∀ a, (k0_off291 v3724) a + S1x64x1024.size a ≤ S32x128x4096.size a), (Rect.unit (s := S32x128x4096) (k0_off291 v3724) S1x64x1024.size hinb).WholeWords (EltTy.packing .fp8e5m2)) ∧
  (∀ a, (k0_off293 v3724) a + S1x64x1024.size a ≤ S32x128x4096.size a) ∧
  (∀ (hinb : ∀ a, (k0_off293 v3724) a + S1x64x1024.size a ≤ S32x128x4096.size a), (Rect.unit (s := S32x128x4096) (k0_off293 v3724) S1x64x1024.size hinb).WholeWords (EltTy.packing .fp8e5m2)) ∧
  (∀ a, (k0_off296 v3724) a + S1x64x4096.size a ≤ S32x128x4096.size a) ∧
  (∀ a, (k0_off297 v3724) a + S64x64.size a ≤ S4096x64.size a)
theorem k0_off287_inb : ∀ (v3724 : BitVec 32) (k0_hw46 : k0_chk46 v3724), ∀ a, (k0_off287 v3724) a + S1x64x1024.size a ≤ S32x128x4096.size a := fun v3724 k0_hw46 => k0_hw46.1
theorem k0_off287_wordsfp8e5m2 : ∀ (v3724 : BitVec 32) (k0_hw46 : k0_chk46 v3724), (Rect.unit (s := S32x128x4096) (k0_off287 v3724) S1x64x1024.size (k0_off287_inb v3724 k0_hw46)).WholeWords (EltTy.packing .fp8e5m2) := fun v3724 k0_hw46 => k0_hw46.2.1 (k0_off287_inb v3724 k0_hw46)
theorem k0_off289_inb : ∀ (v3724 : BitVec 32) (k0_hw46 : k0_chk46 v3724), ∀ a, (k0_off289 v3724) a + S1x64x1024.size a ≤ S32x128x4096.size a := fun v3724 k0_hw46 => k0_hw46.2.2.1
theorem k0_off289_wordsfp8e5m2 : ∀ (v3724 : BitVec 32) (k0_hw46 : k0_chk46 v3724), (Rect.unit (s := S32x128x4096) (k0_off289 v3724) S1x64x1024.size (k0_off289_inb v3724 k0_hw46)).WholeWords (EltTy.packing .fp8e5m2) := fun v3724 k0_hw46 => k0_hw46.2.2.2.1 (k0_off289_inb v3724 k0_hw46)
theorem k0_off291_inb : ∀ (v3724 : BitVec 32) (k0_hw46 : k0_chk46 v3724), ∀ a, (k0_off291 v3724) a + S1x64x1024.size a ≤ S32x128x4096.size a := fun v3724 k0_hw46 => k0_hw46.2.2.2.2.1
theorem k0_off291_wordsfp8e5m2 : ∀ (v3724 : BitVec 32) (k0_hw46 : k0_chk46 v3724), (Rect.unit (s := S32x128x4096) (k0_off291 v3724) S1x64x1024.size (k0_off291_inb v3724 k0_hw46)).WholeWords (EltTy.packing .fp8e5m2) := fun v3724 k0_hw46 => k0_hw46.2.2.2.2.2.1 (k0_off291_inb v3724 k0_hw46)
theorem k0_off293_inb : ∀ (v3724 : BitVec 32) (k0_hw46 : k0_chk46 v3724), ∀ a, (k0_off293 v3724) a + S1x64x1024.size a ≤ S32x128x4096.size a := fun v3724 k0_hw46 => k0_hw46.2.2.2.2.2.2.1
theorem k0_off293_wordsfp8e5m2 : ∀ (v3724 : BitVec 32) (k0_hw46 : k0_chk46 v3724), (Rect.unit (s := S32x128x4096) (k0_off293 v3724) S1x64x1024.size (k0_off293_inb v3724 k0_hw46)).WholeWords (EltTy.packing .fp8e5m2) := fun v3724 k0_hw46 => k0_hw46.2.2.2.2.2.2.2.1 (k0_off293_inb v3724 k0_hw46)
theorem k0_off296_inb : ∀ (v3724 : BitVec 32) (k0_hw46 : k0_chk46 v3724), ∀ a, (k0_off296 v3724) a + S1x64x4096.size a ≤ S32x128x4096.size a := fun v3724 k0_hw46 => k0_hw46.2.2.2.2.2.2.2.2.1
theorem k0_off297_inb : ∀ (v3724 : BitVec 32) (k0_hw46 : k0_chk46 v3724), ∀ a, (k0_off297 v3724) a + S64x64.size a ≤ S4096x64.size a := fun v3724 k0_hw46 => k0_hw46.2.2.2.2.2.2.2.2.2

def k0_off298 (d0 : Dev nD) : Fin 2 → Nat :=
  let c23 : Index := 23#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3893 : Index := Scalar.indexCast v2
  ![23, v3893.toNat]
def k0_off299 (v3894 : BitVec 32) : Fin 3 → Nat :=
  let c0_i32_3883 : BitVec 32 := 0#32
  let c0_i32_3884 : BitVec 32 := 0#32
  ![v3894.toNat, 0, 0]

def k0_dev187 (v4 : BitVec 32) : Nat :=
  let c0_i32_3891 : BitVec 32 := 0#32
  let c1_i32_3890 : BitVec 32 := 1#32
  let v3905 : BitVec 32 := Scalar.muli v4 c1_i32_3890
  let v3906 : BitVec 32 := Scalar.addi c0_i32_3891 v3905
  v3906.toNat
def k0_off300 (v3896 : BitVec 32) : Fin 3 → Nat :=
  let c64_i32_3902 : BitVec 32 := 64#32
  let c0_i32_3903 : BitVec 32 := 0#32
  ![v3896.toNat, 64, 0]

def k0_dev188 (v6 : BitVec 32) : Nat :=
  let c0_i32_3911 : BitVec 32 := 0#32
  let c1_i32_3910 : BitVec 32 := 1#32
  let v3923 : BitVec 32 := Scalar.muli v6 c1_i32_3910
  let v3924 : BitVec 32 := Scalar.addi c0_i32_3911 v3923
  v3924.toNat
def k0_off301 (v3894 : BitVec 32) : Fin 3 → Nat :=
  let c0_i32_3922 : BitVec 32 := 0#32
  let c1024_i32_3923 : BitVec 32 := 1024#32
  ![v3894.toNat, 0, 1024]
def k0_dev189 (v4 : BitVec 32) : Nat :=
  let c0_i32_3931 : BitVec 32 := 0#32
  let c1_i32_3930 : BitVec 32 := 1#32
  let v3941 : BitVec 32 := Scalar.muli v4 c1_i32_3930
  let v3942 : BitVec 32 := Scalar.addi c0_i32_3931 v3941
  v3942.toNat
def k0_off302 (v3896 : BitVec 32) : Fin 3 → Nat :=
  let c64_i32_3942 : BitVec 32 := 64#32
  let c1024_i32_3943 : BitVec 32 := 1024#32
  ![v3896.toNat, 64, 1024]
def k0_dev190 (v6 : BitVec 32) : Nat :=
  let c0_i32_3951 : BitVec 32 := 0#32
  let c1_i32_3950 : BitVec 32 := 1#32
  let v3959 : BitVec 32 := Scalar.muli v6 c1_i32_3950
  let v3960 : BitVec 32 := Scalar.addi c0_i32_3951 v3959
  v3960.toNat
def k0_off303 (v3894 : BitVec 32) : Fin 3 → Nat :=
  let c0_i32_3962 : BitVec 32 := 0#32
  let c2048_i32_3963 : BitVec 32 := 2048#32
  ![v3894.toNat, 0, 2048]
def k0_dev191 (v4 : BitVec 32) : Nat :=
  let c0_i32_3971 : BitVec 32 := 0#32
  let c1_i32_3970 : BitVec 32 := 1#32
  let v3977 : BitVec 32 := Scalar.muli v4 c1_i32_3970
  let v3978 : BitVec 32 := Scalar.addi c0_i32_3971 v3977
  v3978.toNat
def k0_off304 (v3896 : BitVec 32) : Fin 3 → Nat :=
  let c64_i32_3982 : BitVec 32 := 64#32
  let c2048_i32_3983 : BitVec 32 := 2048#32
  ![v3896.toNat, 64, 2048]
def k0_dev192 (v6 : BitVec 32) : Nat :=
  let c0_i32_3991 : BitVec 32 := 0#32
  let c1_i32_3990 : BitVec 32 := 1#32
  let v3995 : BitVec 32 := Scalar.muli v6 c1_i32_3990
  let v3996 : BitVec 32 := Scalar.addi c0_i32_3991 v3995
  v3996.toNat
def k0_off305 (v3894 : BitVec 32) : Fin 3 → Nat :=
  let c0_i32_4002 : BitVec 32 := 0#32
  let c3072_i32_4003 : BitVec 32 := 3072#32
  ![v3894.toNat, 0, 3072]
def k0_dev193 (v4 : BitVec 32) : Nat :=
  let c0_i32_4011 : BitVec 32 := 0#32
  let c1_i32_4010 : BitVec 32 := 1#32
  let v4013 : BitVec 32 := Scalar.muli v4 c1_i32_4010
  let v4014 : BitVec 32 := Scalar.addi c0_i32_4011 v4013
  v4014.toNat
def k0_off306 (v3896 : BitVec 32) : Fin 3 → Nat :=
  let c64_i32_4022 : BitVec 32 := 64#32
  let c3072_i32_4023 : BitVec 32 := 3072#32
  ![v3896.toNat, 64, 3072]
def k0_dev194 (v6 : BitVec 32) : Nat :=
  let c0_i32_4031 : BitVec 32 := 0#32
  let c1_i32_4030 : BitVec 32 := 1#32
  let v4031 : BitVec 32 := Scalar.muli v6 c1_i32_4030
  let v4032 : BitVec 32 := Scalar.addi c0_i32_4031 v4031
  v4032.toNat
def k0_off307 (v3894 : BitVec 32) : Fin 3 → Nat :=
  let v4041 : Index := Scalar.indexCast v3894
  let c0_4036 : Index := 0#32
  let c0_4037 : Index := 0#32
  ![v4041.toNat, 0, 0]
def k0_off308 (v3894 : BitVec 32) : Fin 2 → Nat :=
  let c128_i32_4039 : BitVec 32 := 128#32
  let v4045 : BitVec 32 := Scalar.muli v3894 c128_i32_4039
  let c0_i32_4040 : BitVec 32 := 0#32
  let v4046 : BitVec 32 := Scalar.addi v4045 c0_i32_4040
  let v4051 : Index := Scalar.indexCast v4046
  let c0_4041 : Index := 0#32
  ![v4051.toNat, 0]

def k0_chk47 (v3894 : BitVec 32) : Prop :=
  (∀ a, (k0_off299 v3894) a + S1x64x1024.size a ≤ S32x128x4096.size a) ∧
  (∀ (hinb : ∀ a, (k0_off299 v3894) a + S1x64x1024.size a ≤ S32x128x4096.size a), (Rect.unit (s := S32x128x4096) (k0_off299 v3894) S1x64x1024.size hinb).WholeWords (EltTy.packing .fp8e5m2)) ∧
  (∀ a, (k0_off301 v3894) a + S1x64x1024.size a ≤ S32x128x4096.size a) ∧
  (∀ (hinb : ∀ a, (k0_off301 v3894) a + S1x64x1024.size a ≤ S32x128x4096.size a), (Rect.unit (s := S32x128x4096) (k0_off301 v3894) S1x64x1024.size hinb).WholeWords (EltTy.packing .fp8e5m2)) ∧
  (∀ a, (k0_off303 v3894) a + S1x64x1024.size a ≤ S32x128x4096.size a) ∧
  (∀ (hinb : ∀ a, (k0_off303 v3894) a + S1x64x1024.size a ≤ S32x128x4096.size a), (Rect.unit (s := S32x128x4096) (k0_off303 v3894) S1x64x1024.size hinb).WholeWords (EltTy.packing .fp8e5m2)) ∧
  (∀ a, (k0_off305 v3894) a + S1x64x1024.size a ≤ S32x128x4096.size a) ∧
  (∀ (hinb : ∀ a, (k0_off305 v3894) a + S1x64x1024.size a ≤ S32x128x4096.size a), (Rect.unit (s := S32x128x4096) (k0_off305 v3894) S1x64x1024.size hinb).WholeWords (EltTy.packing .fp8e5m2)) ∧
  (∀ a, (k0_off307 v3894) a + S1x64x4096.size a ≤ S32x128x4096.size a) ∧
  (∀ a, (k0_off308 v3894) a + S64x64.size a ≤ S4096x64.size a)
theorem k0_off299_inb : ∀ (v3894 : BitVec 32) (k0_hw47 : k0_chk47 v3894), ∀ a, (k0_off299 v3894) a + S1x64x1024.size a ≤ S32x128x4096.size a := fun v3894 k0_hw47 => k0_hw47.1
theorem k0_off299_wordsfp8e5m2 : ∀ (v3894 : BitVec 32) (k0_hw47 : k0_chk47 v3894), (Rect.unit (s := S32x128x4096) (k0_off299 v3894) S1x64x1024.size (k0_off299_inb v3894 k0_hw47)).WholeWords (EltTy.packing .fp8e5m2) := fun v3894 k0_hw47 => k0_hw47.2.1 (k0_off299_inb v3894 k0_hw47)
theorem k0_off301_inb : ∀ (v3894 : BitVec 32) (k0_hw47 : k0_chk47 v3894), ∀ a, (k0_off301 v3894) a + S1x64x1024.size a ≤ S32x128x4096.size a := fun v3894 k0_hw47 => k0_hw47.2.2.1
theorem k0_off301_wordsfp8e5m2 : ∀ (v3894 : BitVec 32) (k0_hw47 : k0_chk47 v3894), (Rect.unit (s := S32x128x4096) (k0_off301 v3894) S1x64x1024.size (k0_off301_inb v3894 k0_hw47)).WholeWords (EltTy.packing .fp8e5m2) := fun v3894 k0_hw47 => k0_hw47.2.2.2.1 (k0_off301_inb v3894 k0_hw47)
theorem k0_off303_inb : ∀ (v3894 : BitVec 32) (k0_hw47 : k0_chk47 v3894), ∀ a, (k0_off303 v3894) a + S1x64x1024.size a ≤ S32x128x4096.size a := fun v3894 k0_hw47 => k0_hw47.2.2.2.2.1
theorem k0_off303_wordsfp8e5m2 : ∀ (v3894 : BitVec 32) (k0_hw47 : k0_chk47 v3894), (Rect.unit (s := S32x128x4096) (k0_off303 v3894) S1x64x1024.size (k0_off303_inb v3894 k0_hw47)).WholeWords (EltTy.packing .fp8e5m2) := fun v3894 k0_hw47 => k0_hw47.2.2.2.2.2.1 (k0_off303_inb v3894 k0_hw47)
theorem k0_off305_inb : ∀ (v3894 : BitVec 32) (k0_hw47 : k0_chk47 v3894), ∀ a, (k0_off305 v3894) a + S1x64x1024.size a ≤ S32x128x4096.size a := fun v3894 k0_hw47 => k0_hw47.2.2.2.2.2.2.1
theorem k0_off305_wordsfp8e5m2 : ∀ (v3894 : BitVec 32) (k0_hw47 : k0_chk47 v3894), (Rect.unit (s := S32x128x4096) (k0_off305 v3894) S1x64x1024.size (k0_off305_inb v3894 k0_hw47)).WholeWords (EltTy.packing .fp8e5m2) := fun v3894 k0_hw47 => k0_hw47.2.2.2.2.2.2.2.1 (k0_off305_inb v3894 k0_hw47)
theorem k0_off307_inb : ∀ (v3894 : BitVec 32) (k0_hw47 : k0_chk47 v3894), ∀ a, (k0_off307 v3894) a + S1x64x4096.size a ≤ S32x128x4096.size a := fun v3894 k0_hw47 => k0_hw47.2.2.2.2.2.2.2.2.1
theorem k0_off308_inb : ∀ (v3894 : BitVec 32) (k0_hw47 : k0_chk47 v3894), ∀ a, (k0_off308 v3894) a + S64x64.size a ≤ S4096x64.size a := fun v3894 k0_hw47 => k0_hw47.2.2.2.2.2.2.2.2.2

def k0_off309 (v3896 : BitVec 32) : Fin 3 → Nat :=
  let v4053 : Index := Scalar.indexCast v3896
  let c64_4042 : Index := 64#32
  let c0_4043 : Index := 0#32
  ![v4053.toNat, 64, 0]
def k0_off310 (v3896 : BitVec 32) : Fin 2 → Nat :=
  let c128_i32_4045 : BitVec 32 := 128#32
  let v4057 : BitVec 32 := Scalar.muli v3896 c128_i32_4045
  let c64_i32_4046 : BitVec 32 := 64#32
  let v4058 : BitVec 32 := Scalar.addi v4057 c64_i32_4046
  let v4063 : Index := Scalar.indexCast v4058
  let c0_4047 : Index := 0#32
  ![v4063.toNat, 0]

def k0_chk48 (v3896 : BitVec 32) : Prop :=
  (∀ a, (k0_off300 v3896) a + S1x64x1024.size a ≤ S32x128x4096.size a) ∧
  (∀ (hinb : ∀ a, (k0_off300 v3896) a + S1x64x1024.size a ≤ S32x128x4096.size a), (Rect.unit (s := S32x128x4096) (k0_off300 v3896) S1x64x1024.size hinb).WholeWords (EltTy.packing .fp8e5m2)) ∧
  (∀ a, (k0_off302 v3896) a + S1x64x1024.size a ≤ S32x128x4096.size a) ∧
  (∀ (hinb : ∀ a, (k0_off302 v3896) a + S1x64x1024.size a ≤ S32x128x4096.size a), (Rect.unit (s := S32x128x4096) (k0_off302 v3896) S1x64x1024.size hinb).WholeWords (EltTy.packing .fp8e5m2)) ∧
  (∀ a, (k0_off304 v3896) a + S1x64x1024.size a ≤ S32x128x4096.size a) ∧
  (∀ (hinb : ∀ a, (k0_off304 v3896) a + S1x64x1024.size a ≤ S32x128x4096.size a), (Rect.unit (s := S32x128x4096) (k0_off304 v3896) S1x64x1024.size hinb).WholeWords (EltTy.packing .fp8e5m2)) ∧
  (∀ a, (k0_off306 v3896) a + S1x64x1024.size a ≤ S32x128x4096.size a) ∧
  (∀ (hinb : ∀ a, (k0_off306 v3896) a + S1x64x1024.size a ≤ S32x128x4096.size a), (Rect.unit (s := S32x128x4096) (k0_off306 v3896) S1x64x1024.size hinb).WholeWords (EltTy.packing .fp8e5m2)) ∧
  (∀ a, (k0_off309 v3896) a + S1x64x4096.size a ≤ S32x128x4096.size a) ∧
  (∀ a, (k0_off310 v3896) a + S64x64.size a ≤ S4096x64.size a)
theorem k0_off300_inb : ∀ (v3896 : BitVec 32) (k0_hw48 : k0_chk48 v3896), ∀ a, (k0_off300 v3896) a + S1x64x1024.size a ≤ S32x128x4096.size a := fun v3896 k0_hw48 => k0_hw48.1
theorem k0_off300_wordsfp8e5m2 : ∀ (v3896 : BitVec 32) (k0_hw48 : k0_chk48 v3896), (Rect.unit (s := S32x128x4096) (k0_off300 v3896) S1x64x1024.size (k0_off300_inb v3896 k0_hw48)).WholeWords (EltTy.packing .fp8e5m2) := fun v3896 k0_hw48 => k0_hw48.2.1 (k0_off300_inb v3896 k0_hw48)
theorem k0_off302_inb : ∀ (v3896 : BitVec 32) (k0_hw48 : k0_chk48 v3896), ∀ a, (k0_off302 v3896) a + S1x64x1024.size a ≤ S32x128x4096.size a := fun v3896 k0_hw48 => k0_hw48.2.2.1
theorem k0_off302_wordsfp8e5m2 : ∀ (v3896 : BitVec 32) (k0_hw48 : k0_chk48 v3896), (Rect.unit (s := S32x128x4096) (k0_off302 v3896) S1x64x1024.size (k0_off302_inb v3896 k0_hw48)).WholeWords (EltTy.packing .fp8e5m2) := fun v3896 k0_hw48 => k0_hw48.2.2.2.1 (k0_off302_inb v3896 k0_hw48)
theorem k0_off304_inb : ∀ (v3896 : BitVec 32) (k0_hw48 : k0_chk48 v3896), ∀ a, (k0_off304 v3896) a + S1x64x1024.size a ≤ S32x128x4096.size a := fun v3896 k0_hw48 => k0_hw48.2.2.2.2.1
theorem k0_off304_wordsfp8e5m2 : ∀ (v3896 : BitVec 32) (k0_hw48 : k0_chk48 v3896), (Rect.unit (s := S32x128x4096) (k0_off304 v3896) S1x64x1024.size (k0_off304_inb v3896 k0_hw48)).WholeWords (EltTy.packing .fp8e5m2) := fun v3896 k0_hw48 => k0_hw48.2.2.2.2.2.1 (k0_off304_inb v3896 k0_hw48)
theorem k0_off306_inb : ∀ (v3896 : BitVec 32) (k0_hw48 : k0_chk48 v3896), ∀ a, (k0_off306 v3896) a + S1x64x1024.size a ≤ S32x128x4096.size a := fun v3896 k0_hw48 => k0_hw48.2.2.2.2.2.2.1
theorem k0_off306_wordsfp8e5m2 : ∀ (v3896 : BitVec 32) (k0_hw48 : k0_chk48 v3896), (Rect.unit (s := S32x128x4096) (k0_off306 v3896) S1x64x1024.size (k0_off306_inb v3896 k0_hw48)).WholeWords (EltTy.packing .fp8e5m2) := fun v3896 k0_hw48 => k0_hw48.2.2.2.2.2.2.2.1 (k0_off306_inb v3896 k0_hw48)
theorem k0_off309_inb : ∀ (v3896 : BitVec 32) (k0_hw48 : k0_chk48 v3896), ∀ a, (k0_off309 v3896) a + S1x64x4096.size a ≤ S32x128x4096.size a := fun v3896 k0_hw48 => k0_hw48.2.2.2.2.2.2.2.2.1
theorem k0_off310_inb : ∀ (v3896 : BitVec 32) (k0_hw48 : k0_chk48 v3896), ∀ a, (k0_off310 v3896) a + S64x64.size a ≤ S4096x64.size a := fun v3896 k0_hw48 => k0_hw48.2.2.2.2.2.2.2.2.2

def k0_off311 (d0 : Dev nD) : Fin 2 → Nat :=
  let c24 : Index := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v4065 : Index := Scalar.indexCast v2
  ![24, v4065.toNat]
def k0_off312 (v4066 : BitVec 32) : Fin 3 → Nat :=
  let c0_i32_4055 : BitVec 32 := 0#32
  let c0_i32_4056 : BitVec 32 := 0#32
  ![v4066.toNat, 0, 0]

def k0_dev195 (v4 : BitVec 32) : Nat :=
  let c0_i32_4063 : BitVec 32 := 0#32
  let c1_i32_4062 : BitVec 32 := 1#32
  let v4077 : BitVec 32 := Scalar.muli v4 c1_i32_4062
  let v4078 : BitVec 32 := Scalar.addi c0_i32_4063 v4077
  v4078.toNat
def k0_off313 (v4068 : BitVec 32) : Fin 3 → Nat :=
  let c64_i32_4074 : BitVec 32 := 64#32
  let c0_i32_4075 : BitVec 32 := 0#32
  ![v4068.toNat, 64, 0]

def k0_dev196 (v6 : BitVec 32) : Nat :=
  let c0_i32_4083 : BitVec 32 := 0#32
  let c1_i32_4082 : BitVec 32 := 1#32
  let v4095 : BitVec 32 := Scalar.muli v6 c1_i32_4082
  let v4096 : BitVec 32 := Scalar.addi c0_i32_4083 v4095
  v4096.toNat
def k0_off314 (v4066 : BitVec 32) : Fin 3 → Nat :=
  let c0_i32_4094 : BitVec 32 := 0#32
  let c1024_i32_4095 : BitVec 32 := 1024#32
  ![v4066.toNat, 0, 1024]
def k0_dev197 (v4 : BitVec 32) : Nat :=
  let c0_i32_4103 : BitVec 32 := 0#32
  let c1_i32_4102 : BitVec 32 := 1#32
  let v4113 : BitVec 32 := Scalar.muli v4 c1_i32_4102
  let v4114 : BitVec 32 := Scalar.addi c0_i32_4103 v4113
  v4114.toNat
def k0_off315 (v4068 : BitVec 32) : Fin 3 → Nat :=
  let c64_i32_4114 : BitVec 32 := 64#32
  let c1024_i32_4115 : BitVec 32 := 1024#32
  ![v4068.toNat, 64, 1024]
def k0_dev198 (v6 : BitVec 32) : Nat :=
  let c0_i32_4123 : BitVec 32 := 0#32
  let c1_i32_4122 : BitVec 32 := 1#32
  let v4131 : BitVec 32 := Scalar.muli v6 c1_i32_4122
  let v4132 : BitVec 32 := Scalar.addi c0_i32_4123 v4131
  v4132.toNat
def k0_off316 (v4066 : BitVec 32) : Fin 3 → Nat :=
  let c0_i32_4134 : BitVec 32 := 0#32
  let c2048_i32_4135 : BitVec 32 := 2048#32
  ![v4066.toNat, 0, 2048]
def k0_dev199 (v4 : BitVec 32) : Nat :=
  let c0_i32_4143 : BitVec 32 := 0#32
  let c1_i32_4142 : BitVec 32 := 1#32
  let v4149 : BitVec 32 := Scalar.muli v4 c1_i32_4142
  let v4150 : BitVec 32 := Scalar.addi c0_i32_4143 v4149
  v4150.toNat
def k0_off317 (v4068 : BitVec 32) : Fin 3 → Nat :=
  let c64_i32_4154 : BitVec 32 := 64#32
  let c2048_i32_4155 : BitVec 32 := 2048#32
  ![v4068.toNat, 64, 2048]
def k0_dev200 (v6 : BitVec 32) : Nat :=
  let c0_i32_4163 : BitVec 32 := 0#32
  let c1_i32_4162 : BitVec 32 := 1#32
  let v4167 : BitVec 32 := Scalar.muli v6 c1_i32_4162
  let v4168 : BitVec 32 := Scalar.addi c0_i32_4163 v4167
  v4168.toNat
def k0_off318 (v4066 : BitVec 32) : Fin 3 → Nat :=
  let c0_i32_4174 : BitVec 32 := 0#32
  let c3072_i32_4175 : BitVec 32 := 3072#32
  ![v4066.toNat, 0, 3072]
def k0_dev201 (v4 : BitVec 32) : Nat :=
  let c0_i32_4183 : BitVec 32 := 0#32
  let c1_i32_4182 : BitVec 32 := 1#32
  let v4185 : BitVec 32 := Scalar.muli v4 c1_i32_4182
  let v4186 : BitVec 32 := Scalar.addi c0_i32_4183 v4185
  v4186.toNat
def k0_off319 (v4068 : BitVec 32) : Fin 3 → Nat :=
  let c64_i32_4194 : BitVec 32 := 64#32
  let c3072_i32_4195 : BitVec 32 := 3072#32
  ![v4068.toNat, 64, 3072]
def k0_dev202 (v6 : BitVec 32) : Nat :=
  let c0_i32_4203 : BitVec 32 := 0#32
  let c1_i32_4202 : BitVec 32 := 1#32
  let v4203 : BitVec 32 := Scalar.muli v6 c1_i32_4202
  let v4204 : BitVec 32 := Scalar.addi c0_i32_4203 v4203
  v4204.toNat
def k0_off320 (v4066 : BitVec 32) : Fin 3 → Nat :=
  let v4213 : Index := Scalar.indexCast v4066
  let c0_4208 : Index := 0#32
  let c0_4209 : Index := 0#32
  ![v4213.toNat, 0, 0]
def k0_off321 (v4066 : BitVec 32) : Fin 2 → Nat :=
  let c128_i32_4211 : BitVec 32 := 128#32
  let v4217 : BitVec 32 := Scalar.muli v4066 c128_i32_4211
  let c0_i32_4212 : BitVec 32 := 0#32
  let v4218 : BitVec 32 := Scalar.addi v4217 c0_i32_4212
  let v4223 : Index := Scalar.indexCast v4218
  let c0_4213 : Index := 0#32
  ![v4223.toNat, 0]

def k0_chk49 (v4066 : BitVec 32) : Prop :=
  (∀ a, (k0_off312 v4066) a + S1x64x1024.size a ≤ S32x128x4096.size a) ∧
  (∀ (hinb : ∀ a, (k0_off312 v4066) a + S1x64x1024.size a ≤ S32x128x4096.size a), (Rect.unit (s := S32x128x4096) (k0_off312 v4066) S1x64x1024.size hinb).WholeWords (EltTy.packing .fp8e5m2)) ∧
  (∀ a, (k0_off314 v4066) a + S1x64x1024.size a ≤ S32x128x4096.size a) ∧
  (∀ (hinb : ∀ a, (k0_off314 v4066) a + S1x64x1024.size a ≤ S32x128x4096.size a), (Rect.unit (s := S32x128x4096) (k0_off314 v4066) S1x64x1024.size hinb).WholeWords (EltTy.packing .fp8e5m2)) ∧
  (∀ a, (k0_off316 v4066) a + S1x64x1024.size a ≤ S32x128x4096.size a) ∧
  (∀ (hinb : ∀ a, (k0_off316 v4066) a + S1x64x1024.size a ≤ S32x128x4096.size a), (Rect.unit (s := S32x128x4096) (k0_off316 v4066) S1x64x1024.size hinb).WholeWords (EltTy.packing .fp8e5m2)) ∧
  (∀ a, (k0_off318 v4066) a + S1x64x1024.size a ≤ S32x128x4096.size a) ∧
  (∀ (hinb : ∀ a, (k0_off318 v4066) a + S1x64x1024.size a ≤ S32x128x4096.size a), (Rect.unit (s := S32x128x4096) (k0_off318 v4066) S1x64x1024.size hinb).WholeWords (EltTy.packing .fp8e5m2)) ∧
  (∀ a, (k0_off320 v4066) a + S1x64x4096.size a ≤ S32x128x4096.size a) ∧
  (∀ a, (k0_off321 v4066) a + S64x64.size a ≤ S4096x64.size a)
theorem k0_off312_inb : ∀ (v4066 : BitVec 32) (k0_hw49 : k0_chk49 v4066), ∀ a, (k0_off312 v4066) a + S1x64x1024.size a ≤ S32x128x4096.size a := fun v4066 k0_hw49 => k0_hw49.1
theorem k0_off312_wordsfp8e5m2 : ∀ (v4066 : BitVec 32) (k0_hw49 : k0_chk49 v4066), (Rect.unit (s := S32x128x4096) (k0_off312 v4066) S1x64x1024.size (k0_off312_inb v4066 k0_hw49)).WholeWords (EltTy.packing .fp8e5m2) := fun v4066 k0_hw49 => k0_hw49.2.1 (k0_off312_inb v4066 k0_hw49)
theorem k0_off314_inb : ∀ (v4066 : BitVec 32) (k0_hw49 : k0_chk49 v4066), ∀ a, (k0_off314 v4066) a + S1x64x1024.size a ≤ S32x128x4096.size a := fun v4066 k0_hw49 => k0_hw49.2.2.1
theorem k0_off314_wordsfp8e5m2 : ∀ (v4066 : BitVec 32) (k0_hw49 : k0_chk49 v4066), (Rect.unit (s := S32x128x4096) (k0_off314 v4066) S1x64x1024.size (k0_off314_inb v4066 k0_hw49)).WholeWords (EltTy.packing .fp8e5m2) := fun v4066 k0_hw49 => k0_hw49.2.2.2.1 (k0_off314_inb v4066 k0_hw49)
theorem k0_off316_inb : ∀ (v4066 : BitVec 32) (k0_hw49 : k0_chk49 v4066), ∀ a, (k0_off316 v4066) a + S1x64x1024.size a ≤ S32x128x4096.size a := fun v4066 k0_hw49 => k0_hw49.2.2.2.2.1
theorem k0_off316_wordsfp8e5m2 : ∀ (v4066 : BitVec 32) (k0_hw49 : k0_chk49 v4066), (Rect.unit (s := S32x128x4096) (k0_off316 v4066) S1x64x1024.size (k0_off316_inb v4066 k0_hw49)).WholeWords (EltTy.packing .fp8e5m2) := fun v4066 k0_hw49 => k0_hw49.2.2.2.2.2.1 (k0_off316_inb v4066 k0_hw49)
theorem k0_off318_inb : ∀ (v4066 : BitVec 32) (k0_hw49 : k0_chk49 v4066), ∀ a, (k0_off318 v4066) a + S1x64x1024.size a ≤ S32x128x4096.size a := fun v4066 k0_hw49 => k0_hw49.2.2.2.2.2.2.1
theorem k0_off318_wordsfp8e5m2 : ∀ (v4066 : BitVec 32) (k0_hw49 : k0_chk49 v4066), (Rect.unit (s := S32x128x4096) (k0_off318 v4066) S1x64x1024.size (k0_off318_inb v4066 k0_hw49)).WholeWords (EltTy.packing .fp8e5m2) := fun v4066 k0_hw49 => k0_hw49.2.2.2.2.2.2.2.1 (k0_off318_inb v4066 k0_hw49)
theorem k0_off320_inb : ∀ (v4066 : BitVec 32) (k0_hw49 : k0_chk49 v4066), ∀ a, (k0_off320 v4066) a + S1x64x4096.size a ≤ S32x128x4096.size a := fun v4066 k0_hw49 => k0_hw49.2.2.2.2.2.2.2.2.1
theorem k0_off321_inb : ∀ (v4066 : BitVec 32) (k0_hw49 : k0_chk49 v4066), ∀ a, (k0_off321 v4066) a + S64x64.size a ≤ S4096x64.size a := fun v4066 k0_hw49 => k0_hw49.2.2.2.2.2.2.2.2.2

def k0_off322 (v4068 : BitVec 32) : Fin 3 → Nat :=
  let v4225 : Index := Scalar.indexCast v4068
  let c64_4214 : Index := 64#32
  let c0_4215 : Index := 0#32
  ![v4225.toNat, 64, 0]
def k0_off323 (v4068 : BitVec 32) : Fin 2 → Nat :=
  let c128_i32_4217 : BitVec 32 := 128#32
  let v4229 : BitVec 32 := Scalar.muli v4068 c128_i32_4217
  let c64_i32_4218 : BitVec 32 := 64#32
  let v4230 : BitVec 32 := Scalar.addi v4229 c64_i32_4218
  let v4235 : Index := Scalar.indexCast v4230
  let c0_4219 : Index := 0#32
  ![v4235.toNat, 0]

def k0_chk50 (v4068 : BitVec 32) : Prop :=
  (∀ a, (k0_off313 v4068) a + S1x64x1024.size a ≤ S32x128x4096.size a) ∧
  (∀ (hinb : ∀ a, (k0_off313 v4068) a + S1x64x1024.size a ≤ S32x128x4096.size a), (Rect.unit (s := S32x128x4096) (k0_off313 v4068) S1x64x1024.size hinb).WholeWords (EltTy.packing .fp8e5m2)) ∧
  (∀ a, (k0_off315 v4068) a + S1x64x1024.size a ≤ S32x128x4096.size a) ∧
  (∀ (hinb : ∀ a, (k0_off315 v4068) a + S1x64x1024.size a ≤ S32x128x4096.size a), (Rect.unit (s := S32x128x4096) (k0_off315 v4068) S1x64x1024.size hinb).WholeWords (EltTy.packing .fp8e5m2)) ∧
  (∀ a, (k0_off317 v4068) a + S1x64x1024.size a ≤ S32x128x4096.size a) ∧
  (∀ (hinb : ∀ a, (k0_off317 v4068) a + S1x64x1024.size a ≤ S32x128x4096.size a), (Rect.unit (s := S32x128x4096) (k0_off317 v4068) S1x64x1024.size hinb).WholeWords (EltTy.packing .fp8e5m2)) ∧
  (∀ a, (k0_off319 v4068) a + S1x64x1024.size a ≤ S32x128x4096.size a) ∧
  (∀ (hinb : ∀ a, (k0_off319 v4068) a + S1x64x1024.size a ≤ S32x128x4096.size a), (Rect.unit (s := S32x128x4096) (k0_off319 v4068) S1x64x1024.size hinb).WholeWords (EltTy.packing .fp8e5m2)) ∧
  (∀ a, (k0_off322 v4068) a + S1x64x4096.size a ≤ S32x128x4096.size a) ∧
  (∀ a, (k0_off323 v4068) a + S64x64.size a ≤ S4096x64.size a)
theorem k0_off313_inb : ∀ (v4068 : BitVec 32) (k0_hw50 : k0_chk50 v4068), ∀ a, (k0_off313 v4068) a + S1x64x1024.size a ≤ S32x128x4096.size a := fun v4068 k0_hw50 => k0_hw50.1
theorem k0_off313_wordsfp8e5m2 : ∀ (v4068 : BitVec 32) (k0_hw50 : k0_chk50 v4068), (Rect.unit (s := S32x128x4096) (k0_off313 v4068) S1x64x1024.size (k0_off313_inb v4068 k0_hw50)).WholeWords (EltTy.packing .fp8e5m2) := fun v4068 k0_hw50 => k0_hw50.2.1 (k0_off313_inb v4068 k0_hw50)
theorem k0_off315_inb : ∀ (v4068 : BitVec 32) (k0_hw50 : k0_chk50 v4068), ∀ a, (k0_off315 v4068) a + S1x64x1024.size a ≤ S32x128x4096.size a := fun v4068 k0_hw50 => k0_hw50.2.2.1
theorem k0_off315_wordsfp8e5m2 : ∀ (v4068 : BitVec 32) (k0_hw50 : k0_chk50 v4068), (Rect.unit (s := S32x128x4096) (k0_off315 v4068) S1x64x1024.size (k0_off315_inb v4068 k0_hw50)).WholeWords (EltTy.packing .fp8e5m2) := fun v4068 k0_hw50 => k0_hw50.2.2.2.1 (k0_off315_inb v4068 k0_hw50)
theorem k0_off317_inb : ∀ (v4068 : BitVec 32) (k0_hw50 : k0_chk50 v4068), ∀ a, (k0_off317 v4068) a + S1x64x1024.size a ≤ S32x128x4096.size a := fun v4068 k0_hw50 => k0_hw50.2.2.2.2.1
theorem k0_off317_wordsfp8e5m2 : ∀ (v4068 : BitVec 32) (k0_hw50 : k0_chk50 v4068), (Rect.unit (s := S32x128x4096) (k0_off317 v4068) S1x64x1024.size (k0_off317_inb v4068 k0_hw50)).WholeWords (EltTy.packing .fp8e5m2) := fun v4068 k0_hw50 => k0_hw50.2.2.2.2.2.1 (k0_off317_inb v4068 k0_hw50)
theorem k0_off319_inb : ∀ (v4068 : BitVec 32) (k0_hw50 : k0_chk50 v4068), ∀ a, (k0_off319 v4068) a + S1x64x1024.size a ≤ S32x128x4096.size a := fun v4068 k0_hw50 => k0_hw50.2.2.2.2.2.2.1
theorem k0_off319_wordsfp8e5m2 : ∀ (v4068 : BitVec 32) (k0_hw50 : k0_chk50 v4068), (Rect.unit (s := S32x128x4096) (k0_off319 v4068) S1x64x1024.size (k0_off319_inb v4068 k0_hw50)).WholeWords (EltTy.packing .fp8e5m2) := fun v4068 k0_hw50 => k0_hw50.2.2.2.2.2.2.2.1 (k0_off319_inb v4068 k0_hw50)
theorem k0_off322_inb : ∀ (v4068 : BitVec 32) (k0_hw50 : k0_chk50 v4068), ∀ a, (k0_off322 v4068) a + S1x64x4096.size a ≤ S32x128x4096.size a := fun v4068 k0_hw50 => k0_hw50.2.2.2.2.2.2.2.2.1
theorem k0_off323_inb : ∀ (v4068 : BitVec 32) (k0_hw50 : k0_chk50 v4068), ∀ a, (k0_off323 v4068) a + S64x64.size a ≤ S4096x64.size a := fun v4068 k0_hw50 => k0_hw50.2.2.2.2.2.2.2.2.2

def k0_off324 (d0 : Dev nD) : Fin 2 → Nat :=
  let c25 : Index := 25#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v4237 : Index := Scalar.indexCast v2
  ![25, v4237.toNat]
def k0_off325 (v4238 : BitVec 32) : Fin 3 → Nat :=
  let c0_i32_4227 : BitVec 32 := 0#32
  let c0_i32_4228 : BitVec 32 := 0#32
  ![v4238.toNat, 0, 0]

def k0_dev203 (v4 : BitVec 32) : Nat :=
  let c0_i32_4235 : BitVec 32 := 0#32
  let c1_i32_4234 : BitVec 32 := 1#32
  let v4249 : BitVec 32 := Scalar.muli v4 c1_i32_4234
  let v4250 : BitVec 32 := Scalar.addi c0_i32_4235 v4249
  v4250.toNat
def k0_off326 (v4240 : BitVec 32) : Fin 3 → Nat :=
  let c64_i32_4246 : BitVec 32 := 64#32
  let c0_i32_4247 : BitVec 32 := 0#32
  ![v4240.toNat, 64, 0]

def k0_dev204 (v6 : BitVec 32) : Nat :=
  let c0_i32_4255 : BitVec 32 := 0#32
  let c1_i32_4254 : BitVec 32 := 1#32
  let v4267 : BitVec 32 := Scalar.muli v6 c1_i32_4254
  let v4268 : BitVec 32 := Scalar.addi c0_i32_4255 v4267
  v4268.toNat
def k0_off327 (v4238 : BitVec 32) : Fin 3 → Nat :=
  let c0_i32_4266 : BitVec 32 := 0#32
  let c1024_i32_4267 : BitVec 32 := 1024#32
  ![v4238.toNat, 0, 1024]
def k0_dev205 (v4 : BitVec 32) : Nat :=
  let c0_i32_4275 : BitVec 32 := 0#32
  let c1_i32_4274 : BitVec 32 := 1#32
  let v4285 : BitVec 32 := Scalar.muli v4 c1_i32_4274
  let v4286 : BitVec 32 := Scalar.addi c0_i32_4275 v4285
  v4286.toNat
def k0_off328 (v4240 : BitVec 32) : Fin 3 → Nat :=
  let c64_i32_4286 : BitVec 32 := 64#32
  let c1024_i32_4287 : BitVec 32 := 1024#32
  ![v4240.toNat, 64, 1024]
def k0_dev206 (v6 : BitVec 32) : Nat :=
  let c0_i32_4295 : BitVec 32 := 0#32
  let c1_i32_4294 : BitVec 32 := 1#32
  let v4303 : BitVec 32 := Scalar.muli v6 c1_i32_4294
  let v4304 : BitVec 32 := Scalar.addi c0_i32_4295 v4303
  v4304.toNat
def k0_off329 (v4238 : BitVec 32) : Fin 3 → Nat :=
  let c0_i32_4306 : BitVec 32 := 0#32
  let c2048_i32_4307 : BitVec 32 := 2048#32
  ![v4238.toNat, 0, 2048]
def k0_dev207 (v4 : BitVec 32) : Nat :=
  let c0_i32_4315 : BitVec 32 := 0#32
  let c1_i32_4314 : BitVec 32 := 1#32
  let v4321 : BitVec 32 := Scalar.muli v4 c1_i32_4314
  let v4322 : BitVec 32 := Scalar.addi c0_i32_4315 v4321
  v4322.toNat
def k0_off330 (v4240 : BitVec 32) : Fin 3 → Nat :=
  let c64_i32_4326 : BitVec 32 := 64#32
  let c2048_i32_4327 : BitVec 32 := 2048#32
  ![v4240.toNat, 64, 2048]
def k0_dev208 (v6 : BitVec 32) : Nat :=
  let c0_i32_4335 : BitVec 32 := 0#32
  let c1_i32_4334 : BitVec 32 := 1#32
  let v4339 : BitVec 32 := Scalar.muli v6 c1_i32_4334
  let v4340 : BitVec 32 := Scalar.addi c0_i32_4335 v4339
  v4340.toNat
def k0_off331 (v4238 : BitVec 32) : Fin 3 → Nat :=
  let c0_i32_4346 : BitVec 32 := 0#32
  let c3072_i32_4347 : BitVec 32 := 3072#32
  ![v4238.toNat, 0, 3072]
def k0_dev209 (v4 : BitVec 32) : Nat :=
  let c0_i32_4355 : BitVec 32 := 0#32
  let c1_i32_4354 : BitVec 32 := 1#32
  let v4357 : BitVec 32 := Scalar.muli v4 c1_i32_4354
  let v4358 : BitVec 32 := Scalar.addi c0_i32_4355 v4357
  v4358.toNat
def k0_off332 (v4240 : BitVec 32) : Fin 3 → Nat :=
  let c64_i32_4366 : BitVec 32 := 64#32
  let c3072_i32_4367 : BitVec 32 := 3072#32
  ![v4240.toNat, 64, 3072]
def k0_dev210 (v6 : BitVec 32) : Nat :=
  let c0_i32_4375 : BitVec 32 := 0#32
  let c1_i32_4374 : BitVec 32 := 1#32
  let v4375 : BitVec 32 := Scalar.muli v6 c1_i32_4374
  let v4376 : BitVec 32 := Scalar.addi c0_i32_4375 v4375
  v4376.toNat
def k0_off333 (v4238 : BitVec 32) : Fin 3 → Nat :=
  let v4385 : Index := Scalar.indexCast v4238
  let c0_4380 : Index := 0#32
  let c0_4381 : Index := 0#32
  ![v4385.toNat, 0, 0]
def k0_off334 (v4238 : BitVec 32) : Fin 2 → Nat :=
  let c128_i32_4383 : BitVec 32 := 128#32
  let v4389 : BitVec 32 := Scalar.muli v4238 c128_i32_4383
  let c0_i32_4384 : BitVec 32 := 0#32
  let v4390 : BitVec 32 := Scalar.addi v4389 c0_i32_4384
  let v4395 : Index := Scalar.indexCast v4390
  let c0_4385 : Index := 0#32
  ![v4395.toNat, 0]

def k0_chk51 (v4238 : BitVec 32) : Prop :=
  (∀ a, (k0_off325 v4238) a + S1x64x1024.size a ≤ S32x128x4096.size a) ∧
  (∀ (hinb : ∀ a, (k0_off325 v4238) a + S1x64x1024.size a ≤ S32x128x4096.size a), (Rect.unit (s := S32x128x4096) (k0_off325 v4238) S1x64x1024.size hinb).WholeWords (EltTy.packing .fp8e5m2)) ∧
  (∀ a, (k0_off327 v4238) a + S1x64x1024.size a ≤ S32x128x4096.size a) ∧
  (∀ (hinb : ∀ a, (k0_off327 v4238) a + S1x64x1024.size a ≤ S32x128x4096.size a), (Rect.unit (s := S32x128x4096) (k0_off327 v4238) S1x64x1024.size hinb).WholeWords (EltTy.packing .fp8e5m2)) ∧
  (∀ a, (k0_off329 v4238) a + S1x64x1024.size a ≤ S32x128x4096.size a) ∧
  (∀ (hinb : ∀ a, (k0_off329 v4238) a + S1x64x1024.size a ≤ S32x128x4096.size a), (Rect.unit (s := S32x128x4096) (k0_off329 v4238) S1x64x1024.size hinb).WholeWords (EltTy.packing .fp8e5m2)) ∧
  (∀ a, (k0_off331 v4238) a + S1x64x1024.size a ≤ S32x128x4096.size a) ∧
  (∀ (hinb : ∀ a, (k0_off331 v4238) a + S1x64x1024.size a ≤ S32x128x4096.size a), (Rect.unit (s := S32x128x4096) (k0_off331 v4238) S1x64x1024.size hinb).WholeWords (EltTy.packing .fp8e5m2)) ∧
  (∀ a, (k0_off333 v4238) a + S1x64x4096.size a ≤ S32x128x4096.size a) ∧
  (∀ a, (k0_off334 v4238) a + S64x64.size a ≤ S4096x64.size a)
theorem k0_off325_inb : ∀ (v4238 : BitVec 32) (k0_hw51 : k0_chk51 v4238), ∀ a, (k0_off325 v4238) a + S1x64x1024.size a ≤ S32x128x4096.size a := fun v4238 k0_hw51 => k0_hw51.1
theorem k0_off325_wordsfp8e5m2 : ∀ (v4238 : BitVec 32) (k0_hw51 : k0_chk51 v4238), (Rect.unit (s := S32x128x4096) (k0_off325 v4238) S1x64x1024.size (k0_off325_inb v4238 k0_hw51)).WholeWords (EltTy.packing .fp8e5m2) := fun v4238 k0_hw51 => k0_hw51.2.1 (k0_off325_inb v4238 k0_hw51)
theorem k0_off327_inb : ∀ (v4238 : BitVec 32) (k0_hw51 : k0_chk51 v4238), ∀ a, (k0_off327 v4238) a + S1x64x1024.size a ≤ S32x128x4096.size a := fun v4238 k0_hw51 => k0_hw51.2.2.1
theorem k0_off327_wordsfp8e5m2 : ∀ (v4238 : BitVec 32) (k0_hw51 : k0_chk51 v4238), (Rect.unit (s := S32x128x4096) (k0_off327 v4238) S1x64x1024.size (k0_off327_inb v4238 k0_hw51)).WholeWords (EltTy.packing .fp8e5m2) := fun v4238 k0_hw51 => k0_hw51.2.2.2.1 (k0_off327_inb v4238 k0_hw51)
theorem k0_off329_inb : ∀ (v4238 : BitVec 32) (k0_hw51 : k0_chk51 v4238), ∀ a, (k0_off329 v4238) a + S1x64x1024.size a ≤ S32x128x4096.size a := fun v4238 k0_hw51 => k0_hw51.2.2.2.2.1
theorem k0_off329_wordsfp8e5m2 : ∀ (v4238 : BitVec 32) (k0_hw51 : k0_chk51 v4238), (Rect.unit (s := S32x128x4096) (k0_off329 v4238) S1x64x1024.size (k0_off329_inb v4238 k0_hw51)).WholeWords (EltTy.packing .fp8e5m2) := fun v4238 k0_hw51 => k0_hw51.2.2.2.2.2.1 (k0_off329_inb v4238 k0_hw51)
theorem k0_off331_inb : ∀ (v4238 : BitVec 32) (k0_hw51 : k0_chk51 v4238), ∀ a, (k0_off331 v4238) a + S1x64x1024.size a ≤ S32x128x4096.size a := fun v4238 k0_hw51 => k0_hw51.2.2.2.2.2.2.1
theorem k0_off331_wordsfp8e5m2 : ∀ (v4238 : BitVec 32) (k0_hw51 : k0_chk51 v4238), (Rect.unit (s := S32x128x4096) (k0_off331 v4238) S1x64x1024.size (k0_off331_inb v4238 k0_hw51)).WholeWords (EltTy.packing .fp8e5m2) := fun v4238 k0_hw51 => k0_hw51.2.2.2.2.2.2.2.1 (k0_off331_inb v4238 k0_hw51)
theorem k0_off333_inb : ∀ (v4238 : BitVec 32) (k0_hw51 : k0_chk51 v4238), ∀ a, (k0_off333 v4238) a + S1x64x4096.size a ≤ S32x128x4096.size a := fun v4238 k0_hw51 => k0_hw51.2.2.2.2.2.2.2.2.1
theorem k0_off334_inb : ∀ (v4238 : BitVec 32) (k0_hw51 : k0_chk51 v4238), ∀ a, (k0_off334 v4238) a + S64x64.size a ≤ S4096x64.size a := fun v4238 k0_hw51 => k0_hw51.2.2.2.2.2.2.2.2.2

def k0_off335 (v4240 : BitVec 32) : Fin 3 → Nat :=
  let v4397 : Index := Scalar.indexCast v4240
  let c64_4386 : Index := 64#32
  let c0_4387 : Index := 0#32
  ![v4397.toNat, 64, 0]
def k0_off336 (v4240 : BitVec 32) : Fin 2 → Nat :=
  let c128_i32_4389 : BitVec 32 := 128#32
  let v4401 : BitVec 32 := Scalar.muli v4240 c128_i32_4389
  let c64_i32_4390 : BitVec 32 := 64#32
  let v4402 : BitVec 32 := Scalar.addi v4401 c64_i32_4390
  let v4407 : Index := Scalar.indexCast v4402
  let c0_4391 : Index := 0#32
  ![v4407.toNat, 0]

def k0_chk52 (v4240 : BitVec 32) : Prop :=
  (∀ a, (k0_off326 v4240) a + S1x64x1024.size a ≤ S32x128x4096.size a) ∧
  (∀ (hinb : ∀ a, (k0_off326 v4240) a + S1x64x1024.size a ≤ S32x128x4096.size a), (Rect.unit (s := S32x128x4096) (k0_off326 v4240) S1x64x1024.size hinb).WholeWords (EltTy.packing .fp8e5m2)) ∧
  (∀ a, (k0_off328 v4240) a + S1x64x1024.size a ≤ S32x128x4096.size a) ∧
  (∀ (hinb : ∀ a, (k0_off328 v4240) a + S1x64x1024.size a ≤ S32x128x4096.size a), (Rect.unit (s := S32x128x4096) (k0_off328 v4240) S1x64x1024.size hinb).WholeWords (EltTy.packing .fp8e5m2)) ∧
  (∀ a, (k0_off330 v4240) a + S1x64x1024.size a ≤ S32x128x4096.size a) ∧
  (∀ (hinb : ∀ a, (k0_off330 v4240) a + S1x64x1024.size a ≤ S32x128x4096.size a), (Rect.unit (s := S32x128x4096) (k0_off330 v4240) S1x64x1024.size hinb).WholeWords (EltTy.packing .fp8e5m2)) ∧
  (∀ a, (k0_off332 v4240) a + S1x64x1024.size a ≤ S32x128x4096.size a) ∧
  (∀ (hinb : ∀ a, (k0_off332 v4240) a + S1x64x1024.size a ≤ S32x128x4096.size a), (Rect.unit (s := S32x128x4096) (k0_off332 v4240) S1x64x1024.size hinb).WholeWords (EltTy.packing .fp8e5m2)) ∧
  (∀ a, (k0_off335 v4240) a + S1x64x4096.size a ≤ S32x128x4096.size a) ∧
  (∀ a, (k0_off336 v4240) a + S64x64.size a ≤ S4096x64.size a)
theorem k0_off326_inb : ∀ (v4240 : BitVec 32) (k0_hw52 : k0_chk52 v4240), ∀ a, (k0_off326 v4240) a + S1x64x1024.size a ≤ S32x128x4096.size a := fun v4240 k0_hw52 => k0_hw52.1
theorem k0_off326_wordsfp8e5m2 : ∀ (v4240 : BitVec 32) (k0_hw52 : k0_chk52 v4240), (Rect.unit (s := S32x128x4096) (k0_off326 v4240) S1x64x1024.size (k0_off326_inb v4240 k0_hw52)).WholeWords (EltTy.packing .fp8e5m2) := fun v4240 k0_hw52 => k0_hw52.2.1 (k0_off326_inb v4240 k0_hw52)
theorem k0_off328_inb : ∀ (v4240 : BitVec 32) (k0_hw52 : k0_chk52 v4240), ∀ a, (k0_off328 v4240) a + S1x64x1024.size a ≤ S32x128x4096.size a := fun v4240 k0_hw52 => k0_hw52.2.2.1
theorem k0_off328_wordsfp8e5m2 : ∀ (v4240 : BitVec 32) (k0_hw52 : k0_chk52 v4240), (Rect.unit (s := S32x128x4096) (k0_off328 v4240) S1x64x1024.size (k0_off328_inb v4240 k0_hw52)).WholeWords (EltTy.packing .fp8e5m2) := fun v4240 k0_hw52 => k0_hw52.2.2.2.1 (k0_off328_inb v4240 k0_hw52)
theorem k0_off330_inb : ∀ (v4240 : BitVec 32) (k0_hw52 : k0_chk52 v4240), ∀ a, (k0_off330 v4240) a + S1x64x1024.size a ≤ S32x128x4096.size a := fun v4240 k0_hw52 => k0_hw52.2.2.2.2.1
theorem k0_off330_wordsfp8e5m2 : ∀ (v4240 : BitVec 32) (k0_hw52 : k0_chk52 v4240), (Rect.unit (s := S32x128x4096) (k0_off330 v4240) S1x64x1024.size (k0_off330_inb v4240 k0_hw52)).WholeWords (EltTy.packing .fp8e5m2) := fun v4240 k0_hw52 => k0_hw52.2.2.2.2.2.1 (k0_off330_inb v4240 k0_hw52)
theorem k0_off332_inb : ∀ (v4240 : BitVec 32) (k0_hw52 : k0_chk52 v4240), ∀ a, (k0_off332 v4240) a + S1x64x1024.size a ≤ S32x128x4096.size a := fun v4240 k0_hw52 => k0_hw52.2.2.2.2.2.2.1
theorem k0_off332_wordsfp8e5m2 : ∀ (v4240 : BitVec 32) (k0_hw52 : k0_chk52 v4240), (Rect.unit (s := S32x128x4096) (k0_off332 v4240) S1x64x1024.size (k0_off332_inb v4240 k0_hw52)).WholeWords (EltTy.packing .fp8e5m2) := fun v4240 k0_hw52 => k0_hw52.2.2.2.2.2.2.2.1 (k0_off332_inb v4240 k0_hw52)
theorem k0_off335_inb : ∀ (v4240 : BitVec 32) (k0_hw52 : k0_chk52 v4240), ∀ a, (k0_off335 v4240) a + S1x64x4096.size a ≤ S32x128x4096.size a := fun v4240 k0_hw52 => k0_hw52.2.2.2.2.2.2.2.2.1
theorem k0_off336_inb : ∀ (v4240 : BitVec 32) (k0_hw52 : k0_chk52 v4240), ∀ a, (k0_off336 v4240) a + S64x64.size a ≤ S4096x64.size a := fun v4240 k0_hw52 => k0_hw52.2.2.2.2.2.2.2.2.2

def k0_off337 (d0 : Dev nD) : Fin 2 → Nat :=
  let c26 : Index := 26#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v4409 : Index := Scalar.indexCast v2
  ![26, v4409.toNat]
def k0_off338 (v4410 : BitVec 32) : Fin 3 → Nat :=
  let c0_i32_4399 : BitVec 32 := 0#32
  let c0_i32_4400 : BitVec 32 := 0#32
  ![v4410.toNat, 0, 0]

def k0_dev211 (v4 : BitVec 32) : Nat :=
  let c0_i32_4407 : BitVec 32 := 0#32
  let c1_i32_4406 : BitVec 32 := 1#32
  let v4421 : BitVec 32 := Scalar.muli v4 c1_i32_4406
  let v4422 : BitVec 32 := Scalar.addi c0_i32_4407 v4421
  v4422.toNat
def k0_off339 (v4412 : BitVec 32) : Fin 3 → Nat :=
  let c64_i32_4418 : BitVec 32 := 64#32
  let c0_i32_4419 : BitVec 32 := 0#32
  ![v4412.toNat, 64, 0]

def k0_dev212 (v6 : BitVec 32) : Nat :=
  let c0_i32_4427 : BitVec 32 := 0#32
  let c1_i32_4426 : BitVec 32 := 1#32
  let v4439 : BitVec 32 := Scalar.muli v6 c1_i32_4426
  let v4440 : BitVec 32 := Scalar.addi c0_i32_4427 v4439
  v4440.toNat
def k0_off340 (v4410 : BitVec 32) : Fin 3 → Nat :=
  let c0_i32_4438 : BitVec 32 := 0#32
  let c1024_i32_4439 : BitVec 32 := 1024#32
  ![v4410.toNat, 0, 1024]
def k0_dev213 (v4 : BitVec 32) : Nat :=
  let c0_i32_4447 : BitVec 32 := 0#32
  let c1_i32_4446 : BitVec 32 := 1#32
  let v4457 : BitVec 32 := Scalar.muli v4 c1_i32_4446
  let v4458 : BitVec 32 := Scalar.addi c0_i32_4447 v4457
  v4458.toNat
def k0_off341 (v4412 : BitVec 32) : Fin 3 → Nat :=
  let c64_i32_4458 : BitVec 32 := 64#32
  let c1024_i32_4459 : BitVec 32 := 1024#32
  ![v4412.toNat, 64, 1024]
def k0_dev214 (v6 : BitVec 32) : Nat :=
  let c0_i32_4467 : BitVec 32 := 0#32
  let c1_i32_4466 : BitVec 32 := 1#32
  let v4475 : BitVec 32 := Scalar.muli v6 c1_i32_4466
  let v4476 : BitVec 32 := Scalar.addi c0_i32_4467 v4475
  v4476.toNat
def k0_off342 (v4410 : BitVec 32) : Fin 3 → Nat :=
  let c0_i32_4478 : BitVec 32 := 0#32
  let c2048_i32_4479 : BitVec 32 := 2048#32
  ![v4410.toNat, 0, 2048]
def k0_dev215 (v4 : BitVec 32) : Nat :=
  let c0_i32_4487 : BitVec 32 := 0#32
  let c1_i32_4486 : BitVec 32 := 1#32
  let v4493 : BitVec 32 := Scalar.muli v4 c1_i32_4486
  let v4494 : BitVec 32 := Scalar.addi c0_i32_4487 v4493
  v4494.toNat
def k0_off343 (v4412 : BitVec 32) : Fin 3 → Nat :=
  let c64_i32_4498 : BitVec 32 := 64#32
  let c2048_i32_4499 : BitVec 32 := 2048#32
  ![v4412.toNat, 64, 2048]
def k0_dev216 (v6 : BitVec 32) : Nat :=
  let c0_i32_4507 : BitVec 32 := 0#32
  let c1_i32_4506 : BitVec 32 := 1#32
  let v4511 : BitVec 32 := Scalar.muli v6 c1_i32_4506
  let v4512 : BitVec 32 := Scalar.addi c0_i32_4507 v4511
  v4512.toNat
def k0_off344 (v4410 : BitVec 32) : Fin 3 → Nat :=
  let c0_i32_4518 : BitVec 32 := 0#32
  let c3072_i32_4519 : BitVec 32 := 3072#32
  ![v4410.toNat, 0, 3072]
def k0_dev217 (v4 : BitVec 32) : Nat :=
  let c0_i32_4527 : BitVec 32 := 0#32
  let c1_i32_4526 : BitVec 32 := 1#32
  let v4529 : BitVec 32 := Scalar.muli v4 c1_i32_4526
  let v4530 : BitVec 32 := Scalar.addi c0_i32_4527 v4529
  v4530.toNat
def k0_off345 (v4412 : BitVec 32) : Fin 3 → Nat :=
  let c64_i32_4538 : BitVec 32 := 64#32
  let c3072_i32_4539 : BitVec 32 := 3072#32
  ![v4412.toNat, 64, 3072]
def k0_dev218 (v6 : BitVec 32) : Nat :=
  let c0_i32_4547 : BitVec 32 := 0#32
  let c1_i32_4546 : BitVec 32 := 1#32
  let v4547 : BitVec 32 := Scalar.muli v6 c1_i32_4546
  let v4548 : BitVec 32 := Scalar.addi c0_i32_4547 v4547
  v4548.toNat
def k0_off346 (v4410 : BitVec 32) : Fin 3 → Nat :=
  let v4557 : Index := Scalar.indexCast v4410
  let c0_4552 : Index := 0#32
  let c0_4553 : Index := 0#32
  ![v4557.toNat, 0, 0]
def k0_off347 (v4410 : BitVec 32) : Fin 2 → Nat :=
  let c128_i32_4555 : BitVec 32 := 128#32
  let v4561 : BitVec 32 := Scalar.muli v4410 c128_i32_4555
  let c0_i32_4556 : BitVec 32 := 0#32
  let v4562 : BitVec 32 := Scalar.addi v4561 c0_i32_4556
  let v4567 : Index := Scalar.indexCast v4562
  let c0_4557 : Index := 0#32
  ![v4567.toNat, 0]

def k0_chk53 (v4410 : BitVec 32) : Prop :=
  (∀ a, (k0_off338 v4410) a + S1x64x1024.size a ≤ S32x128x4096.size a) ∧
  (∀ (hinb : ∀ a, (k0_off338 v4410) a + S1x64x1024.size a ≤ S32x128x4096.size a), (Rect.unit (s := S32x128x4096) (k0_off338 v4410) S1x64x1024.size hinb).WholeWords (EltTy.packing .fp8e5m2)) ∧
  (∀ a, (k0_off340 v4410) a + S1x64x1024.size a ≤ S32x128x4096.size a) ∧
  (∀ (hinb : ∀ a, (k0_off340 v4410) a + S1x64x1024.size a ≤ S32x128x4096.size a), (Rect.unit (s := S32x128x4096) (k0_off340 v4410) S1x64x1024.size hinb).WholeWords (EltTy.packing .fp8e5m2)) ∧
  (∀ a, (k0_off342 v4410) a + S1x64x1024.size a ≤ S32x128x4096.size a) ∧
  (∀ (hinb : ∀ a, (k0_off342 v4410) a + S1x64x1024.size a ≤ S32x128x4096.size a), (Rect.unit (s := S32x128x4096) (k0_off342 v4410) S1x64x1024.size hinb).WholeWords (EltTy.packing .fp8e5m2)) ∧
  (∀ a, (k0_off344 v4410) a + S1x64x1024.size a ≤ S32x128x4096.size a) ∧
  (∀ (hinb : ∀ a, (k0_off344 v4410) a + S1x64x1024.size a ≤ S32x128x4096.size a), (Rect.unit (s := S32x128x4096) (k0_off344 v4410) S1x64x1024.size hinb).WholeWords (EltTy.packing .fp8e5m2)) ∧
  (∀ a, (k0_off346 v4410) a + S1x64x4096.size a ≤ S32x128x4096.size a) ∧
  (∀ a, (k0_off347 v4410) a + S64x64.size a ≤ S4096x64.size a)
theorem k0_off338_inb : ∀ (v4410 : BitVec 32) (k0_hw53 : k0_chk53 v4410), ∀ a, (k0_off338 v4410) a + S1x64x1024.size a ≤ S32x128x4096.size a := fun v4410 k0_hw53 => k0_hw53.1
theorem k0_off338_wordsfp8e5m2 : ∀ (v4410 : BitVec 32) (k0_hw53 : k0_chk53 v4410), (Rect.unit (s := S32x128x4096) (k0_off338 v4410) S1x64x1024.size (k0_off338_inb v4410 k0_hw53)).WholeWords (EltTy.packing .fp8e5m2) := fun v4410 k0_hw53 => k0_hw53.2.1 (k0_off338_inb v4410 k0_hw53)
theorem k0_off340_inb : ∀ (v4410 : BitVec 32) (k0_hw53 : k0_chk53 v4410), ∀ a, (k0_off340 v4410) a + S1x64x1024.size a ≤ S32x128x4096.size a := fun v4410 k0_hw53 => k0_hw53.2.2.1
theorem k0_off340_wordsfp8e5m2 : ∀ (v4410 : BitVec 32) (k0_hw53 : k0_chk53 v4410), (Rect.unit (s := S32x128x4096) (k0_off340 v4410) S1x64x1024.size (k0_off340_inb v4410 k0_hw53)).WholeWords (EltTy.packing .fp8e5m2) := fun v4410 k0_hw53 => k0_hw53.2.2.2.1 (k0_off340_inb v4410 k0_hw53)
theorem k0_off342_inb : ∀ (v4410 : BitVec 32) (k0_hw53 : k0_chk53 v4410), ∀ a, (k0_off342 v4410) a + S1x64x1024.size a ≤ S32x128x4096.size a := fun v4410 k0_hw53 => k0_hw53.2.2.2.2.1
theorem k0_off342_wordsfp8e5m2 : ∀ (v4410 : BitVec 32) (k0_hw53 : k0_chk53 v4410), (Rect.unit (s := S32x128x4096) (k0_off342 v4410) S1x64x1024.size (k0_off342_inb v4410 k0_hw53)).WholeWords (EltTy.packing .fp8e5m2) := fun v4410 k0_hw53 => k0_hw53.2.2.2.2.2.1 (k0_off342_inb v4410 k0_hw53)
theorem k0_off344_inb : ∀ (v4410 : BitVec 32) (k0_hw53 : k0_chk53 v4410), ∀ a, (k0_off344 v4410) a + S1x64x1024.size a ≤ S32x128x4096.size a := fun v4410 k0_hw53 => k0_hw53.2.2.2.2.2.2.1
theorem k0_off344_wordsfp8e5m2 : ∀ (v4410 : BitVec 32) (k0_hw53 : k0_chk53 v4410), (Rect.unit (s := S32x128x4096) (k0_off344 v4410) S1x64x1024.size (k0_off344_inb v4410 k0_hw53)).WholeWords (EltTy.packing .fp8e5m2) := fun v4410 k0_hw53 => k0_hw53.2.2.2.2.2.2.2.1 (k0_off344_inb v4410 k0_hw53)
theorem k0_off346_inb : ∀ (v4410 : BitVec 32) (k0_hw53 : k0_chk53 v4410), ∀ a, (k0_off346 v4410) a + S1x64x4096.size a ≤ S32x128x4096.size a := fun v4410 k0_hw53 => k0_hw53.2.2.2.2.2.2.2.2.1
theorem k0_off347_inb : ∀ (v4410 : BitVec 32) (k0_hw53 : k0_chk53 v4410), ∀ a, (k0_off347 v4410) a + S64x64.size a ≤ S4096x64.size a := fun v4410 k0_hw53 => k0_hw53.2.2.2.2.2.2.2.2.2

def k0_off348 (v4412 : BitVec 32) : Fin 3 → Nat :=
  let v4569 : Index := Scalar.indexCast v4412
  let c64_4558 : Index := 64#32
  let c0_4559 : Index := 0#32
  ![v4569.toNat, 64, 0]
def k0_off349 (v4412 : BitVec 32) : Fin 2 → Nat :=
  let c128_i32_4561 : BitVec 32 := 128#32
  let v4573 : BitVec 32 := Scalar.muli v4412 c128_i32_4561
  let c64_i32_4562 : BitVec 32 := 64#32
  let v4574 : BitVec 32 := Scalar.addi v4573 c64_i32_4562
  let v4579 : Index := Scalar.indexCast v4574
  let c0_4563 : Index := 0#32
  ![v4579.toNat, 0]

def k0_chk54 (v4412 : BitVec 32) : Prop :=
  (∀ a, (k0_off339 v4412) a + S1x64x1024.size a ≤ S32x128x4096.size a) ∧
  (∀ (hinb : ∀ a, (k0_off339 v4412) a + S1x64x1024.size a ≤ S32x128x4096.size a), (Rect.unit (s := S32x128x4096) (k0_off339 v4412) S1x64x1024.size hinb).WholeWords (EltTy.packing .fp8e5m2)) ∧
  (∀ a, (k0_off341 v4412) a + S1x64x1024.size a ≤ S32x128x4096.size a) ∧
  (∀ (hinb : ∀ a, (k0_off341 v4412) a + S1x64x1024.size a ≤ S32x128x4096.size a), (Rect.unit (s := S32x128x4096) (k0_off341 v4412) S1x64x1024.size hinb).WholeWords (EltTy.packing .fp8e5m2)) ∧
  (∀ a, (k0_off343 v4412) a + S1x64x1024.size a ≤ S32x128x4096.size a) ∧
  (∀ (hinb : ∀ a, (k0_off343 v4412) a + S1x64x1024.size a ≤ S32x128x4096.size a), (Rect.unit (s := S32x128x4096) (k0_off343 v4412) S1x64x1024.size hinb).WholeWords (EltTy.packing .fp8e5m2)) ∧
  (∀ a, (k0_off345 v4412) a + S1x64x1024.size a ≤ S32x128x4096.size a) ∧
  (∀ (hinb : ∀ a, (k0_off345 v4412) a + S1x64x1024.size a ≤ S32x128x4096.size a), (Rect.unit (s := S32x128x4096) (k0_off345 v4412) S1x64x1024.size hinb).WholeWords (EltTy.packing .fp8e5m2)) ∧
  (∀ a, (k0_off348 v4412) a + S1x64x4096.size a ≤ S32x128x4096.size a) ∧
  (∀ a, (k0_off349 v4412) a + S64x64.size a ≤ S4096x64.size a)
theorem k0_off339_inb : ∀ (v4412 : BitVec 32) (k0_hw54 : k0_chk54 v4412), ∀ a, (k0_off339 v4412) a + S1x64x1024.size a ≤ S32x128x4096.size a := fun v4412 k0_hw54 => k0_hw54.1
theorem k0_off339_wordsfp8e5m2 : ∀ (v4412 : BitVec 32) (k0_hw54 : k0_chk54 v4412), (Rect.unit (s := S32x128x4096) (k0_off339 v4412) S1x64x1024.size (k0_off339_inb v4412 k0_hw54)).WholeWords (EltTy.packing .fp8e5m2) := fun v4412 k0_hw54 => k0_hw54.2.1 (k0_off339_inb v4412 k0_hw54)
theorem k0_off341_inb : ∀ (v4412 : BitVec 32) (k0_hw54 : k0_chk54 v4412), ∀ a, (k0_off341 v4412) a + S1x64x1024.size a ≤ S32x128x4096.size a := fun v4412 k0_hw54 => k0_hw54.2.2.1
theorem k0_off341_wordsfp8e5m2 : ∀ (v4412 : BitVec 32) (k0_hw54 : k0_chk54 v4412), (Rect.unit (s := S32x128x4096) (k0_off341 v4412) S1x64x1024.size (k0_off341_inb v4412 k0_hw54)).WholeWords (EltTy.packing .fp8e5m2) := fun v4412 k0_hw54 => k0_hw54.2.2.2.1 (k0_off341_inb v4412 k0_hw54)
theorem k0_off343_inb : ∀ (v4412 : BitVec 32) (k0_hw54 : k0_chk54 v4412), ∀ a, (k0_off343 v4412) a + S1x64x1024.size a ≤ S32x128x4096.size a := fun v4412 k0_hw54 => k0_hw54.2.2.2.2.1
theorem k0_off343_wordsfp8e5m2 : ∀ (v4412 : BitVec 32) (k0_hw54 : k0_chk54 v4412), (Rect.unit (s := S32x128x4096) (k0_off343 v4412) S1x64x1024.size (k0_off343_inb v4412 k0_hw54)).WholeWords (EltTy.packing .fp8e5m2) := fun v4412 k0_hw54 => k0_hw54.2.2.2.2.2.1 (k0_off343_inb v4412 k0_hw54)
theorem k0_off345_inb : ∀ (v4412 : BitVec 32) (k0_hw54 : k0_chk54 v4412), ∀ a, (k0_off345 v4412) a + S1x64x1024.size a ≤ S32x128x4096.size a := fun v4412 k0_hw54 => k0_hw54.2.2.2.2.2.2.1
theorem k0_off345_wordsfp8e5m2 : ∀ (v4412 : BitVec 32) (k0_hw54 : k0_chk54 v4412), (Rect.unit (s := S32x128x4096) (k0_off345 v4412) S1x64x1024.size (k0_off345_inb v4412 k0_hw54)).WholeWords (EltTy.packing .fp8e5m2) := fun v4412 k0_hw54 => k0_hw54.2.2.2.2.2.2.2.1 (k0_off345_inb v4412 k0_hw54)
theorem k0_off348_inb : ∀ (v4412 : BitVec 32) (k0_hw54 : k0_chk54 v4412), ∀ a, (k0_off348 v4412) a + S1x64x4096.size a ≤ S32x128x4096.size a := fun v4412 k0_hw54 => k0_hw54.2.2.2.2.2.2.2.2.1
theorem k0_off349_inb : ∀ (v4412 : BitVec 32) (k0_hw54 : k0_chk54 v4412), ∀ a, (k0_off349 v4412) a + S64x64.size a ≤ S4096x64.size a := fun v4412 k0_hw54 => k0_hw54.2.2.2.2.2.2.2.2.2

def k0_off350 (d0 : Dev nD) : Fin 2 → Nat :=
  let c27 : Index := 27#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v4581 : Index := Scalar.indexCast v2
  ![27, v4581.toNat]
def k0_off351 (v4582 : BitVec 32) : Fin 3 → Nat :=
  let c0_i32_4571 : BitVec 32 := 0#32
  let c0_i32_4572 : BitVec 32 := 0#32
  ![v4582.toNat, 0, 0]

def k0_dev219 (v4 : BitVec 32) : Nat :=
  let c0_i32_4579 : BitVec 32 := 0#32
  let c1_i32_4578 : BitVec 32 := 1#32
  let v4593 : BitVec 32 := Scalar.muli v4 c1_i32_4578
  let v4594 : BitVec 32 := Scalar.addi c0_i32_4579 v4593
  v4594.toNat
def k0_off352 (v4584 : BitVec 32) : Fin 3 → Nat :=
  let c64_i32_4590 : BitVec 32 := 64#32
  let c0_i32_4591 : BitVec 32 := 0#32
  ![v4584.toNat, 64, 0]

def k0_dev220 (v6 : BitVec 32) : Nat :=
  let c0_i32_4599 : BitVec 32 := 0#32
  let c1_i32_4598 : BitVec 32 := 1#32
  let v4611 : BitVec 32 := Scalar.muli v6 c1_i32_4598
  let v4612 : BitVec 32 := Scalar.addi c0_i32_4599 v4611
  v4612.toNat
def k0_off353 (v4582 : BitVec 32) : Fin 3 → Nat :=
  let c0_i32_4610 : BitVec 32 := 0#32
  let c1024_i32_4611 : BitVec 32 := 1024#32
  ![v4582.toNat, 0, 1024]
def k0_dev221 (v4 : BitVec 32) : Nat :=
  let c0_i32_4619 : BitVec 32 := 0#32
  let c1_i32_4618 : BitVec 32 := 1#32
  let v4629 : BitVec 32 := Scalar.muli v4 c1_i32_4618
  let v4630 : BitVec 32 := Scalar.addi c0_i32_4619 v4629
  v4630.toNat
def k0_off354 (v4584 : BitVec 32) : Fin 3 → Nat :=
  let c64_i32_4630 : BitVec 32 := 64#32
  let c1024_i32_4631 : BitVec 32 := 1024#32
  ![v4584.toNat, 64, 1024]
def k0_dev222 (v6 : BitVec 32) : Nat :=
  let c0_i32_4639 : BitVec 32 := 0#32
  let c1_i32_4638 : BitVec 32 := 1#32
  let v4647 : BitVec 32 := Scalar.muli v6 c1_i32_4638
  let v4648 : BitVec 32 := Scalar.addi c0_i32_4639 v4647
  v4648.toNat
def k0_off355 (v4582 : BitVec 32) : Fin 3 → Nat :=
  let c0_i32_4650 : BitVec 32 := 0#32
  let c2048_i32_4651 : BitVec 32 := 2048#32
  ![v4582.toNat, 0, 2048]
def k0_dev223 (v4 : BitVec 32) : Nat :=
  let c0_i32_4659 : BitVec 32 := 0#32
  let c1_i32_4658 : BitVec 32 := 1#32
  let v4665 : BitVec 32 := Scalar.muli v4 c1_i32_4658
  let v4666 : BitVec 32 := Scalar.addi c0_i32_4659 v4665
  v4666.toNat
def k0_off356 (v4584 : BitVec 32) : Fin 3 → Nat :=
  let c64_i32_4670 : BitVec 32 := 64#32
  let c2048_i32_4671 : BitVec 32 := 2048#32
  ![v4584.toNat, 64, 2048]
def k0_dev224 (v6 : BitVec 32) : Nat :=
  let c0_i32_4679 : BitVec 32 := 0#32
  let c1_i32_4678 : BitVec 32 := 1#32
  let v4683 : BitVec 32 := Scalar.muli v6 c1_i32_4678
  let v4684 : BitVec 32 := Scalar.addi c0_i32_4679 v4683
  v4684.toNat
def k0_off357 (v4582 : BitVec 32) : Fin 3 → Nat :=
  let c0_i32_4690 : BitVec 32 := 0#32
  let c3072_i32_4691 : BitVec 32 := 3072#32
  ![v4582.toNat, 0, 3072]
def k0_dev225 (v4 : BitVec 32) : Nat :=
  let c0_i32_4699 : BitVec 32 := 0#32
  let c1_i32_4698 : BitVec 32 := 1#32
  let v4701 : BitVec 32 := Scalar.muli v4 c1_i32_4698
  let v4702 : BitVec 32 := Scalar.addi c0_i32_4699 v4701
  v4702.toNat
def k0_off358 (v4584 : BitVec 32) : Fin 3 → Nat :=
  let c64_i32_4710 : BitVec 32 := 64#32
  let c3072_i32_4711 : BitVec 32 := 3072#32
  ![v4584.toNat, 64, 3072]
def k0_dev226 (v6 : BitVec 32) : Nat :=
  let c0_i32_4719 : BitVec 32 := 0#32
  let c1_i32_4718 : BitVec 32 := 1#32
  let v4719 : BitVec 32 := Scalar.muli v6 c1_i32_4718
  let v4720 : BitVec 32 := Scalar.addi c0_i32_4719 v4719
  v4720.toNat
def k0_off359 (v4582 : BitVec 32) : Fin 3 → Nat :=
  let v4729 : Index := Scalar.indexCast v4582
  let c0_4724 : Index := 0#32
  let c0_4725 : Index := 0#32
  ![v4729.toNat, 0, 0]
def k0_off360 (v4582 : BitVec 32) : Fin 2 → Nat :=
  let c128_i32_4727 : BitVec 32 := 128#32
  let v4733 : BitVec 32 := Scalar.muli v4582 c128_i32_4727
  let c0_i32_4728 : BitVec 32 := 0#32
  let v4734 : BitVec 32 := Scalar.addi v4733 c0_i32_4728
  let v4739 : Index := Scalar.indexCast v4734
  let c0_4729 : Index := 0#32
  ![v4739.toNat, 0]

def k0_chk55 (v4582 : BitVec 32) : Prop :=
  (∀ a, (k0_off351 v4582) a + S1x64x1024.size a ≤ S32x128x4096.size a) ∧
  (∀ (hinb : ∀ a, (k0_off351 v4582) a + S1x64x1024.size a ≤ S32x128x4096.size a), (Rect.unit (s := S32x128x4096) (k0_off351 v4582) S1x64x1024.size hinb).WholeWords (EltTy.packing .fp8e5m2)) ∧
  (∀ a, (k0_off353 v4582) a + S1x64x1024.size a ≤ S32x128x4096.size a) ∧
  (∀ (hinb : ∀ a, (k0_off353 v4582) a + S1x64x1024.size a ≤ S32x128x4096.size a), (Rect.unit (s := S32x128x4096) (k0_off353 v4582) S1x64x1024.size hinb).WholeWords (EltTy.packing .fp8e5m2)) ∧
  (∀ a, (k0_off355 v4582) a + S1x64x1024.size a ≤ S32x128x4096.size a) ∧
  (∀ (hinb : ∀ a, (k0_off355 v4582) a + S1x64x1024.size a ≤ S32x128x4096.size a), (Rect.unit (s := S32x128x4096) (k0_off355 v4582) S1x64x1024.size hinb).WholeWords (EltTy.packing .fp8e5m2)) ∧
  (∀ a, (k0_off357 v4582) a + S1x64x1024.size a ≤ S32x128x4096.size a) ∧
  (∀ (hinb : ∀ a, (k0_off357 v4582) a + S1x64x1024.size a ≤ S32x128x4096.size a), (Rect.unit (s := S32x128x4096) (k0_off357 v4582) S1x64x1024.size hinb).WholeWords (EltTy.packing .fp8e5m2)) ∧
  (∀ a, (k0_off359 v4582) a + S1x64x4096.size a ≤ S32x128x4096.size a) ∧
  (∀ a, (k0_off360 v4582) a + S64x64.size a ≤ S4096x64.size a)
theorem k0_off351_inb : ∀ (v4582 : BitVec 32) (k0_hw55 : k0_chk55 v4582), ∀ a, (k0_off351 v4582) a + S1x64x1024.size a ≤ S32x128x4096.size a := fun v4582 k0_hw55 => k0_hw55.1
theorem k0_off351_wordsfp8e5m2 : ∀ (v4582 : BitVec 32) (k0_hw55 : k0_chk55 v4582), (Rect.unit (s := S32x128x4096) (k0_off351 v4582) S1x64x1024.size (k0_off351_inb v4582 k0_hw55)).WholeWords (EltTy.packing .fp8e5m2) := fun v4582 k0_hw55 => k0_hw55.2.1 (k0_off351_inb v4582 k0_hw55)
theorem k0_off353_inb : ∀ (v4582 : BitVec 32) (k0_hw55 : k0_chk55 v4582), ∀ a, (k0_off353 v4582) a + S1x64x1024.size a ≤ S32x128x4096.size a := fun v4582 k0_hw55 => k0_hw55.2.2.1
theorem k0_off353_wordsfp8e5m2 : ∀ (v4582 : BitVec 32) (k0_hw55 : k0_chk55 v4582), (Rect.unit (s := S32x128x4096) (k0_off353 v4582) S1x64x1024.size (k0_off353_inb v4582 k0_hw55)).WholeWords (EltTy.packing .fp8e5m2) := fun v4582 k0_hw55 => k0_hw55.2.2.2.1 (k0_off353_inb v4582 k0_hw55)
theorem k0_off355_inb : ∀ (v4582 : BitVec 32) (k0_hw55 : k0_chk55 v4582), ∀ a, (k0_off355 v4582) a + S1x64x1024.size a ≤ S32x128x4096.size a := fun v4582 k0_hw55 => k0_hw55.2.2.2.2.1
theorem k0_off355_wordsfp8e5m2 : ∀ (v4582 : BitVec 32) (k0_hw55 : k0_chk55 v4582), (Rect.unit (s := S32x128x4096) (k0_off355 v4582) S1x64x1024.size (k0_off355_inb v4582 k0_hw55)).WholeWords (EltTy.packing .fp8e5m2) := fun v4582 k0_hw55 => k0_hw55.2.2.2.2.2.1 (k0_off355_inb v4582 k0_hw55)
theorem k0_off357_inb : ∀ (v4582 : BitVec 32) (k0_hw55 : k0_chk55 v4582), ∀ a, (k0_off357 v4582) a + S1x64x1024.size a ≤ S32x128x4096.size a := fun v4582 k0_hw55 => k0_hw55.2.2.2.2.2.2.1
theorem k0_off357_wordsfp8e5m2 : ∀ (v4582 : BitVec 32) (k0_hw55 : k0_chk55 v4582), (Rect.unit (s := S32x128x4096) (k0_off357 v4582) S1x64x1024.size (k0_off357_inb v4582 k0_hw55)).WholeWords (EltTy.packing .fp8e5m2) := fun v4582 k0_hw55 => k0_hw55.2.2.2.2.2.2.2.1 (k0_off357_inb v4582 k0_hw55)
theorem k0_off359_inb : ∀ (v4582 : BitVec 32) (k0_hw55 : k0_chk55 v4582), ∀ a, (k0_off359 v4582) a + S1x64x4096.size a ≤ S32x128x4096.size a := fun v4582 k0_hw55 => k0_hw55.2.2.2.2.2.2.2.2.1
theorem k0_off360_inb : ∀ (v4582 : BitVec 32) (k0_hw55 : k0_chk55 v4582), ∀ a, (k0_off360 v4582) a + S64x64.size a ≤ S4096x64.size a := fun v4582 k0_hw55 => k0_hw55.2.2.2.2.2.2.2.2.2

def k0_off361 (v4584 : BitVec 32) : Fin 3 → Nat :=
  let v4741 : Index := Scalar.indexCast v4584
  let c64_4730 : Index := 64#32
  let c0_4731 : Index := 0#32
  ![v4741.toNat, 64, 0]
def k0_off362 (v4584 : BitVec 32) : Fin 2 → Nat :=
  let c128_i32_4733 : BitVec 32 := 128#32
  let v4745 : BitVec 32 := Scalar.muli v4584 c128_i32_4733
  let c64_i32_4734 : BitVec 32 := 64#32
  let v4746 : BitVec 32 := Scalar.addi v4745 c64_i32_4734
  let v4751 : Index := Scalar.indexCast v4746
  let c0_4735 : Index := 0#32
  ![v4751.toNat, 0]

def k0_chk56 (v4584 : BitVec 32) : Prop :=
  (∀ a, (k0_off352 v4584) a + S1x64x1024.size a ≤ S32x128x4096.size a) ∧
  (∀ (hinb : ∀ a, (k0_off352 v4584) a + S1x64x1024.size a ≤ S32x128x4096.size a), (Rect.unit (s := S32x128x4096) (k0_off352 v4584) S1x64x1024.size hinb).WholeWords (EltTy.packing .fp8e5m2)) ∧
  (∀ a, (k0_off354 v4584) a + S1x64x1024.size a ≤ S32x128x4096.size a) ∧
  (∀ (hinb : ∀ a, (k0_off354 v4584) a + S1x64x1024.size a ≤ S32x128x4096.size a), (Rect.unit (s := S32x128x4096) (k0_off354 v4584) S1x64x1024.size hinb).WholeWords (EltTy.packing .fp8e5m2)) ∧
  (∀ a, (k0_off356 v4584) a + S1x64x1024.size a ≤ S32x128x4096.size a) ∧
  (∀ (hinb : ∀ a, (k0_off356 v4584) a + S1x64x1024.size a ≤ S32x128x4096.size a), (Rect.unit (s := S32x128x4096) (k0_off356 v4584) S1x64x1024.size hinb).WholeWords (EltTy.packing .fp8e5m2)) ∧
  (∀ a, (k0_off358 v4584) a + S1x64x1024.size a ≤ S32x128x4096.size a) ∧
  (∀ (hinb : ∀ a, (k0_off358 v4584) a + S1x64x1024.size a ≤ S32x128x4096.size a), (Rect.unit (s := S32x128x4096) (k0_off358 v4584) S1x64x1024.size hinb).WholeWords (EltTy.packing .fp8e5m2)) ∧
  (∀ a, (k0_off361 v4584) a + S1x64x4096.size a ≤ S32x128x4096.size a) ∧
  (∀ a, (k0_off362 v4584) a + S64x64.size a ≤ S4096x64.size a)
theorem k0_off352_inb : ∀ (v4584 : BitVec 32) (k0_hw56 : k0_chk56 v4584), ∀ a, (k0_off352 v4584) a + S1x64x1024.size a ≤ S32x128x4096.size a := fun v4584 k0_hw56 => k0_hw56.1
theorem k0_off352_wordsfp8e5m2 : ∀ (v4584 : BitVec 32) (k0_hw56 : k0_chk56 v4584), (Rect.unit (s := S32x128x4096) (k0_off352 v4584) S1x64x1024.size (k0_off352_inb v4584 k0_hw56)).WholeWords (EltTy.packing .fp8e5m2) := fun v4584 k0_hw56 => k0_hw56.2.1 (k0_off352_inb v4584 k0_hw56)
theorem k0_off354_inb : ∀ (v4584 : BitVec 32) (k0_hw56 : k0_chk56 v4584), ∀ a, (k0_off354 v4584) a + S1x64x1024.size a ≤ S32x128x4096.size a := fun v4584 k0_hw56 => k0_hw56.2.2.1
theorem k0_off354_wordsfp8e5m2 : ∀ (v4584 : BitVec 32) (k0_hw56 : k0_chk56 v4584), (Rect.unit (s := S32x128x4096) (k0_off354 v4584) S1x64x1024.size (k0_off354_inb v4584 k0_hw56)).WholeWords (EltTy.packing .fp8e5m2) := fun v4584 k0_hw56 => k0_hw56.2.2.2.1 (k0_off354_inb v4584 k0_hw56)
theorem k0_off356_inb : ∀ (v4584 : BitVec 32) (k0_hw56 : k0_chk56 v4584), ∀ a, (k0_off356 v4584) a + S1x64x1024.size a ≤ S32x128x4096.size a := fun v4584 k0_hw56 => k0_hw56.2.2.2.2.1
theorem k0_off356_wordsfp8e5m2 : ∀ (v4584 : BitVec 32) (k0_hw56 : k0_chk56 v4584), (Rect.unit (s := S32x128x4096) (k0_off356 v4584) S1x64x1024.size (k0_off356_inb v4584 k0_hw56)).WholeWords (EltTy.packing .fp8e5m2) := fun v4584 k0_hw56 => k0_hw56.2.2.2.2.2.1 (k0_off356_inb v4584 k0_hw56)
theorem k0_off358_inb : ∀ (v4584 : BitVec 32) (k0_hw56 : k0_chk56 v4584), ∀ a, (k0_off358 v4584) a + S1x64x1024.size a ≤ S32x128x4096.size a := fun v4584 k0_hw56 => k0_hw56.2.2.2.2.2.2.1
theorem k0_off358_wordsfp8e5m2 : ∀ (v4584 : BitVec 32) (k0_hw56 : k0_chk56 v4584), (Rect.unit (s := S32x128x4096) (k0_off358 v4584) S1x64x1024.size (k0_off358_inb v4584 k0_hw56)).WholeWords (EltTy.packing .fp8e5m2) := fun v4584 k0_hw56 => k0_hw56.2.2.2.2.2.2.2.1 (k0_off358_inb v4584 k0_hw56)
theorem k0_off361_inb : ∀ (v4584 : BitVec 32) (k0_hw56 : k0_chk56 v4584), ∀ a, (k0_off361 v4584) a + S1x64x4096.size a ≤ S32x128x4096.size a := fun v4584 k0_hw56 => k0_hw56.2.2.2.2.2.2.2.2.1
theorem k0_off362_inb : ∀ (v4584 : BitVec 32) (k0_hw56 : k0_chk56 v4584), ∀ a, (k0_off362 v4584) a + S64x64.size a ≤ S4096x64.size a := fun v4584 k0_hw56 => k0_hw56.2.2.2.2.2.2.2.2.2

def k0_off363 (d0 : Dev nD) : Fin 2 → Nat :=
  let c28 : Index := 28#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v4753 : Index := Scalar.indexCast v2
  ![28, v4753.toNat]
def k0_off364 (v4754 : BitVec 32) : Fin 3 → Nat :=
  let c0_i32_4743 : BitVec 32 := 0#32
  let c0_i32_4744 : BitVec 32 := 0#32
  ![v4754.toNat, 0, 0]

def k0_dev227 (v4 : BitVec 32) : Nat :=
  let c0_i32_4751 : BitVec 32 := 0#32
  let c1_i32_4750 : BitVec 32 := 1#32
  let v4765 : BitVec 32 := Scalar.muli v4 c1_i32_4750
  let v4766 : BitVec 32 := Scalar.addi c0_i32_4751 v4765
  v4766.toNat
def k0_off365 (v4756 : BitVec 32) : Fin 3 → Nat :=
  let c64_i32_4762 : BitVec 32 := 64#32
  let c0_i32_4763 : BitVec 32 := 0#32
  ![v4756.toNat, 64, 0]

def k0_dev228 (v6 : BitVec 32) : Nat :=
  let c0_i32_4771 : BitVec 32 := 0#32
  let c1_i32_4770 : BitVec 32 := 1#32
  let v4783 : BitVec 32 := Scalar.muli v6 c1_i32_4770
  let v4784 : BitVec 32 := Scalar.addi c0_i32_4771 v4783
  v4784.toNat
def k0_off366 (v4754 : BitVec 32) : Fin 3 → Nat :=
  let c0_i32_4782 : BitVec 32 := 0#32
  let c1024_i32_4783 : BitVec 32 := 1024#32
  ![v4754.toNat, 0, 1024]
def k0_dev229 (v4 : BitVec 32) : Nat :=
  let c0_i32_4791 : BitVec 32 := 0#32
  let c1_i32_4790 : BitVec 32 := 1#32
  let v4801 : BitVec 32 := Scalar.muli v4 c1_i32_4790
  let v4802 : BitVec 32 := Scalar.addi c0_i32_4791 v4801
  v4802.toNat
def k0_off367 (v4756 : BitVec 32) : Fin 3 → Nat :=
  let c64_i32_4802 : BitVec 32 := 64#32
  let c1024_i32_4803 : BitVec 32 := 1024#32
  ![v4756.toNat, 64, 1024]
def k0_dev230 (v6 : BitVec 32) : Nat :=
  let c0_i32_4811 : BitVec 32 := 0#32
  let c1_i32_4810 : BitVec 32 := 1#32
  let v4819 : BitVec 32 := Scalar.muli v6 c1_i32_4810
  let v4820 : BitVec 32 := Scalar.addi c0_i32_4811 v4819
  v4820.toNat
def k0_off368 (v4754 : BitVec 32) : Fin 3 → Nat :=
  let c0_i32_4822 : BitVec 32 := 0#32
  let c2048_i32_4823 : BitVec 32 := 2048#32
  ![v4754.toNat, 0, 2048]
def k0_dev231 (v4 : BitVec 32) : Nat :=
  let c0_i32_4831 : BitVec 32 := 0#32
  let c1_i32_4830 : BitVec 32 := 1#32
  let v4837 : BitVec 32 := Scalar.muli v4 c1_i32_4830
  let v4838 : BitVec 32 := Scalar.addi c0_i32_4831 v4837
  v4838.toNat
def k0_off369 (v4756 : BitVec 32) : Fin 3 → Nat :=
  let c64_i32_4842 : BitVec 32 := 64#32
  let c2048_i32_4843 : BitVec 32 := 2048#32
  ![v4756.toNat, 64, 2048]
def k0_dev232 (v6 : BitVec 32) : Nat :=
  let c0_i32_4851 : BitVec 32 := 0#32
  let c1_i32_4850 : BitVec 32 := 1#32
  let v4855 : BitVec 32 := Scalar.muli v6 c1_i32_4850
  let v4856 : BitVec 32 := Scalar.addi c0_i32_4851 v4855
  v4856.toNat
def k0_off370 (v4754 : BitVec 32) : Fin 3 → Nat :=
  let c0_i32_4862 : BitVec 32 := 0#32
  let c3072_i32_4863 : BitVec 32 := 3072#32
  ![v4754.toNat, 0, 3072]
def k0_dev233 (v4 : BitVec 32) : Nat :=
  let c0_i32_4871 : BitVec 32 := 0#32
  let c1_i32_4870 : BitVec 32 := 1#32
  let v4873 : BitVec 32 := Scalar.muli v4 c1_i32_4870
  let v4874 : BitVec 32 := Scalar.addi c0_i32_4871 v4873
  v4874.toNat
def k0_off371 (v4756 : BitVec 32) : Fin 3 → Nat :=
  let c64_i32_4882 : BitVec 32 := 64#32
  let c3072_i32_4883 : BitVec 32 := 3072#32
  ![v4756.toNat, 64, 3072]
def k0_dev234 (v6 : BitVec 32) : Nat :=
  let c0_i32_4891 : BitVec 32 := 0#32
  let c1_i32_4890 : BitVec 32 := 1#32
  let v4891 : BitVec 32 := Scalar.muli v6 c1_i32_4890
  let v4892 : BitVec 32 := Scalar.addi c0_i32_4891 v4891
  v4892.toNat
def k0_off372 (v4754 : BitVec 32) : Fin 3 → Nat :=
  let v4901 : Index := Scalar.indexCast v4754
  let c0_4896 : Index := 0#32
  let c0_4897 : Index := 0#32
  ![v4901.toNat, 0, 0]
def k0_off373 (v4754 : BitVec 32) : Fin 2 → Nat :=
  let c128_i32_4899 : BitVec 32 := 128#32
  let v4905 : BitVec 32 := Scalar.muli v4754 c128_i32_4899
  let c0_i32_4900 : BitVec 32 := 0#32
  let v4906 : BitVec 32 := Scalar.addi v4905 c0_i32_4900
  let v4911 : Index := Scalar.indexCast v4906
  let c0_4901 : Index := 0#32
  ![v4911.toNat, 0]

def k0_chk57 (v4754 : BitVec 32) : Prop :=
  (∀ a, (k0_off364 v4754) a + S1x64x1024.size a ≤ S32x128x4096.size a) ∧
  (∀ (hinb : ∀ a, (k0_off364 v4754) a + S1x64x1024.size a ≤ S32x128x4096.size a), (Rect.unit (s := S32x128x4096) (k0_off364 v4754) S1x64x1024.size hinb).WholeWords (EltTy.packing .fp8e5m2)) ∧
  (∀ a, (k0_off366 v4754) a + S1x64x1024.size a ≤ S32x128x4096.size a) ∧
  (∀ (hinb : ∀ a, (k0_off366 v4754) a + S1x64x1024.size a ≤ S32x128x4096.size a), (Rect.unit (s := S32x128x4096) (k0_off366 v4754) S1x64x1024.size hinb).WholeWords (EltTy.packing .fp8e5m2)) ∧
  (∀ a, (k0_off368 v4754) a + S1x64x1024.size a ≤ S32x128x4096.size a) ∧
  (∀ (hinb : ∀ a, (k0_off368 v4754) a + S1x64x1024.size a ≤ S32x128x4096.size a), (Rect.unit (s := S32x128x4096) (k0_off368 v4754) S1x64x1024.size hinb).WholeWords (EltTy.packing .fp8e5m2)) ∧
  (∀ a, (k0_off370 v4754) a + S1x64x1024.size a ≤ S32x128x4096.size a) ∧
  (∀ (hinb : ∀ a, (k0_off370 v4754) a + S1x64x1024.size a ≤ S32x128x4096.size a), (Rect.unit (s := S32x128x4096) (k0_off370 v4754) S1x64x1024.size hinb).WholeWords (EltTy.packing .fp8e5m2)) ∧
  (∀ a, (k0_off372 v4754) a + S1x64x4096.size a ≤ S32x128x4096.size a) ∧
  (∀ a, (k0_off373 v4754) a + S64x64.size a ≤ S4096x64.size a)
theorem k0_off364_inb : ∀ (v4754 : BitVec 32) (k0_hw57 : k0_chk57 v4754), ∀ a, (k0_off364 v4754) a + S1x64x1024.size a ≤ S32x128x4096.size a := fun v4754 k0_hw57 => k0_hw57.1
theorem k0_off364_wordsfp8e5m2 : ∀ (v4754 : BitVec 32) (k0_hw57 : k0_chk57 v4754), (Rect.unit (s := S32x128x4096) (k0_off364 v4754) S1x64x1024.size (k0_off364_inb v4754 k0_hw57)).WholeWords (EltTy.packing .fp8e5m2) := fun v4754 k0_hw57 => k0_hw57.2.1 (k0_off364_inb v4754 k0_hw57)
theorem k0_off366_inb : ∀ (v4754 : BitVec 32) (k0_hw57 : k0_chk57 v4754), ∀ a, (k0_off366 v4754) a + S1x64x1024.size a ≤ S32x128x4096.size a := fun v4754 k0_hw57 => k0_hw57.2.2.1
theorem k0_off366_wordsfp8e5m2 : ∀ (v4754 : BitVec 32) (k0_hw57 : k0_chk57 v4754), (Rect.unit (s := S32x128x4096) (k0_off366 v4754) S1x64x1024.size (k0_off366_inb v4754 k0_hw57)).WholeWords (EltTy.packing .fp8e5m2) := fun v4754 k0_hw57 => k0_hw57.2.2.2.1 (k0_off366_inb v4754 k0_hw57)
theorem k0_off368_inb : ∀ (v4754 : BitVec 32) (k0_hw57 : k0_chk57 v4754), ∀ a, (k0_off368 v4754) a + S1x64x1024.size a ≤ S32x128x4096.size a := fun v4754 k0_hw57 => k0_hw57.2.2.2.2.1
theorem k0_off368_wordsfp8e5m2 : ∀ (v4754 : BitVec 32) (k0_hw57 : k0_chk57 v4754), (Rect.unit (s := S32x128x4096) (k0_off368 v4754) S1x64x1024.size (k0_off368_inb v4754 k0_hw57)).WholeWords (EltTy.packing .fp8e5m2) := fun v4754 k0_hw57 => k0_hw57.2.2.2.2.2.1 (k0_off368_inb v4754 k0_hw57)
theorem k0_off370_inb : ∀ (v4754 : BitVec 32) (k0_hw57 : k0_chk57 v4754), ∀ a, (k0_off370 v4754) a + S1x64x1024.size a ≤ S32x128x4096.size a := fun v4754 k0_hw57 => k0_hw57.2.2.2.2.2.2.1
theorem k0_off370_wordsfp8e5m2 : ∀ (v4754 : BitVec 32) (k0_hw57 : k0_chk57 v4754), (Rect.unit (s := S32x128x4096) (k0_off370 v4754) S1x64x1024.size (k0_off370_inb v4754 k0_hw57)).WholeWords (EltTy.packing .fp8e5m2) := fun v4754 k0_hw57 => k0_hw57.2.2.2.2.2.2.2.1 (k0_off370_inb v4754 k0_hw57)
theorem k0_off372_inb : ∀ (v4754 : BitVec 32) (k0_hw57 : k0_chk57 v4754), ∀ a, (k0_off372 v4754) a + S1x64x4096.size a ≤ S32x128x4096.size a := fun v4754 k0_hw57 => k0_hw57.2.2.2.2.2.2.2.2.1
theorem k0_off373_inb : ∀ (v4754 : BitVec 32) (k0_hw57 : k0_chk57 v4754), ∀ a, (k0_off373 v4754) a + S64x64.size a ≤ S4096x64.size a := fun v4754 k0_hw57 => k0_hw57.2.2.2.2.2.2.2.2.2

def k0_off374 (v4756 : BitVec 32) : Fin 3 → Nat :=
  let v4913 : Index := Scalar.indexCast v4756
  let c64_4902 : Index := 64#32
  let c0_4903 : Index := 0#32
  ![v4913.toNat, 64, 0]
def k0_off375 (v4756 : BitVec 32) : Fin 2 → Nat :=
  let c128_i32_4905 : BitVec 32 := 128#32
  let v4917 : BitVec 32 := Scalar.muli v4756 c128_i32_4905
  let c64_i32_4906 : BitVec 32 := 64#32
  let v4918 : BitVec 32 := Scalar.addi v4917 c64_i32_4906
  let v4923 : Index := Scalar.indexCast v4918
  let c0_4907 : Index := 0#32
  ![v4923.toNat, 0]

def k0_chk58 (v4756 : BitVec 32) : Prop :=
  (∀ a, (k0_off365 v4756) a + S1x64x1024.size a ≤ S32x128x4096.size a) ∧
  (∀ (hinb : ∀ a, (k0_off365 v4756) a + S1x64x1024.size a ≤ S32x128x4096.size a), (Rect.unit (s := S32x128x4096) (k0_off365 v4756) S1x64x1024.size hinb).WholeWords (EltTy.packing .fp8e5m2)) ∧
  (∀ a, (k0_off367 v4756) a + S1x64x1024.size a ≤ S32x128x4096.size a) ∧
  (∀ (hinb : ∀ a, (k0_off367 v4756) a + S1x64x1024.size a ≤ S32x128x4096.size a), (Rect.unit (s := S32x128x4096) (k0_off367 v4756) S1x64x1024.size hinb).WholeWords (EltTy.packing .fp8e5m2)) ∧
  (∀ a, (k0_off369 v4756) a + S1x64x1024.size a ≤ S32x128x4096.size a) ∧
  (∀ (hinb : ∀ a, (k0_off369 v4756) a + S1x64x1024.size a ≤ S32x128x4096.size a), (Rect.unit (s := S32x128x4096) (k0_off369 v4756) S1x64x1024.size hinb).WholeWords (EltTy.packing .fp8e5m2)) ∧
  (∀ a, (k0_off371 v4756) a + S1x64x1024.size a ≤ S32x128x4096.size a) ∧
  (∀ (hinb : ∀ a, (k0_off371 v4756) a + S1x64x1024.size a ≤ S32x128x4096.size a), (Rect.unit (s := S32x128x4096) (k0_off371 v4756) S1x64x1024.size hinb).WholeWords (EltTy.packing .fp8e5m2)) ∧
  (∀ a, (k0_off374 v4756) a + S1x64x4096.size a ≤ S32x128x4096.size a) ∧
  (∀ a, (k0_off375 v4756) a + S64x64.size a ≤ S4096x64.size a)
theorem k0_off365_inb : ∀ (v4756 : BitVec 32) (k0_hw58 : k0_chk58 v4756), ∀ a, (k0_off365 v4756) a + S1x64x1024.size a ≤ S32x128x4096.size a := fun v4756 k0_hw58 => k0_hw58.1
theorem k0_off365_wordsfp8e5m2 : ∀ (v4756 : BitVec 32) (k0_hw58 : k0_chk58 v4756), (Rect.unit (s := S32x128x4096) (k0_off365 v4756) S1x64x1024.size (k0_off365_inb v4756 k0_hw58)).WholeWords (EltTy.packing .fp8e5m2) := fun v4756 k0_hw58 => k0_hw58.2.1 (k0_off365_inb v4756 k0_hw58)
theorem k0_off367_inb : ∀ (v4756 : BitVec 32) (k0_hw58 : k0_chk58 v4756), ∀ a, (k0_off367 v4756) a + S1x64x1024.size a ≤ S32x128x4096.size a := fun v4756 k0_hw58 => k0_hw58.2.2.1
theorem k0_off367_wordsfp8e5m2 : ∀ (v4756 : BitVec 32) (k0_hw58 : k0_chk58 v4756), (Rect.unit (s := S32x128x4096) (k0_off367 v4756) S1x64x1024.size (k0_off367_inb v4756 k0_hw58)).WholeWords (EltTy.packing .fp8e5m2) := fun v4756 k0_hw58 => k0_hw58.2.2.2.1 (k0_off367_inb v4756 k0_hw58)
theorem k0_off369_inb : ∀ (v4756 : BitVec 32) (k0_hw58 : k0_chk58 v4756), ∀ a, (k0_off369 v4756) a + S1x64x1024.size a ≤ S32x128x4096.size a := fun v4756 k0_hw58 => k0_hw58.2.2.2.2.1
theorem k0_off369_wordsfp8e5m2 : ∀ (v4756 : BitVec 32) (k0_hw58 : k0_chk58 v4756), (Rect.unit (s := S32x128x4096) (k0_off369 v4756) S1x64x1024.size (k0_off369_inb v4756 k0_hw58)).WholeWords (EltTy.packing .fp8e5m2) := fun v4756 k0_hw58 => k0_hw58.2.2.2.2.2.1 (k0_off369_inb v4756 k0_hw58)
theorem k0_off371_inb : ∀ (v4756 : BitVec 32) (k0_hw58 : k0_chk58 v4756), ∀ a, (k0_off371 v4756) a + S1x64x1024.size a ≤ S32x128x4096.size a := fun v4756 k0_hw58 => k0_hw58.2.2.2.2.2.2.1
theorem k0_off371_wordsfp8e5m2 : ∀ (v4756 : BitVec 32) (k0_hw58 : k0_chk58 v4756), (Rect.unit (s := S32x128x4096) (k0_off371 v4756) S1x64x1024.size (k0_off371_inb v4756 k0_hw58)).WholeWords (EltTy.packing .fp8e5m2) := fun v4756 k0_hw58 => k0_hw58.2.2.2.2.2.2.2.1 (k0_off371_inb v4756 k0_hw58)
theorem k0_off374_inb : ∀ (v4756 : BitVec 32) (k0_hw58 : k0_chk58 v4756), ∀ a, (k0_off374 v4756) a + S1x64x4096.size a ≤ S32x128x4096.size a := fun v4756 k0_hw58 => k0_hw58.2.2.2.2.2.2.2.2.1
theorem k0_off375_inb : ∀ (v4756 : BitVec 32) (k0_hw58 : k0_chk58 v4756), ∀ a, (k0_off375 v4756) a + S64x64.size a ≤ S4096x64.size a := fun v4756 k0_hw58 => k0_hw58.2.2.2.2.2.2.2.2.2

def k0_off376 (d0 : Dev nD) : Fin 2 → Nat :=
  let c29 : Index := 29#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v4925 : Index := Scalar.indexCast v2
  ![29, v4925.toNat]
def k0_off377 (v4926 : BitVec 32) : Fin 3 → Nat :=
  let c0_i32_4915 : BitVec 32 := 0#32
  let c0_i32_4916 : BitVec 32 := 0#32
  ![v4926.toNat, 0, 0]

def k0_dev235 (v4 : BitVec 32) : Nat :=
  let c0_i32_4923 : BitVec 32 := 0#32
  let c1_i32_4922 : BitVec 32 := 1#32
  let v4937 : BitVec 32 := Scalar.muli v4 c1_i32_4922
  let v4938 : BitVec 32 := Scalar.addi c0_i32_4923 v4937
  v4938.toNat
def k0_off378 (v4928 : BitVec 32) : Fin 3 → Nat :=
  let c64_i32_4934 : BitVec 32 := 64#32
  let c0_i32_4935 : BitVec 32 := 0#32
  ![v4928.toNat, 64, 0]

def k0_dev236 (v6 : BitVec 32) : Nat :=
  let c0_i32_4943 : BitVec 32 := 0#32
  let c1_i32_4942 : BitVec 32 := 1#32
  let v4955 : BitVec 32 := Scalar.muli v6 c1_i32_4942
  let v4956 : BitVec 32 := Scalar.addi c0_i32_4943 v4955
  v4956.toNat
def k0_off379 (v4926 : BitVec 32) : Fin 3 → Nat :=
  let c0_i32_4954 : BitVec 32 := 0#32
  let c1024_i32_4955 : BitVec 32 := 1024#32
  ![v4926.toNat, 0, 1024]
def k0_dev237 (v4 : BitVec 32) : Nat :=
  let c0_i32_4963 : BitVec 32 := 0#32
  let c1_i32_4962 : BitVec 32 := 1#32
  let v4973 : BitVec 32 := Scalar.muli v4 c1_i32_4962
  let v4974 : BitVec 32 := Scalar.addi c0_i32_4963 v4973
  v4974.toNat
def k0_off380 (v4928 : BitVec 32) : Fin 3 → Nat :=
  let c64_i32_4974 : BitVec 32 := 64#32
  let c1024_i32_4975 : BitVec 32 := 1024#32
  ![v4928.toNat, 64, 1024]
def k0_dev238 (v6 : BitVec 32) : Nat :=
  let c0_i32_4983 : BitVec 32 := 0#32
  let c1_i32_4982 : BitVec 32 := 1#32
  let v4991 : BitVec 32 := Scalar.muli v6 c1_i32_4982
  let v4992 : BitVec 32 := Scalar.addi c0_i32_4983 v4991
  v4992.toNat
def k0_off381 (v4926 : BitVec 32) : Fin 3 → Nat :=
  let c0_i32_4994 : BitVec 32 := 0#32
  let c2048_i32_4995 : BitVec 32 := 2048#32
  ![v4926.toNat, 0, 2048]
def k0_dev239 (v4 : BitVec 32) : Nat :=
  let c0_i32_5003 : BitVec 32 := 0#32
  let c1_i32_5002 : BitVec 32 := 1#32
  let v5009 : BitVec 32 := Scalar.muli v4 c1_i32_5002
  let v5010 : BitVec 32 := Scalar.addi c0_i32_5003 v5009
  v5010.toNat
def k0_off382 (v4928 : BitVec 32) : Fin 3 → Nat :=
  let c64_i32_5014 : BitVec 32 := 64#32
  let c2048_i32_5015 : BitVec 32 := 2048#32
  ![v4928.toNat, 64, 2048]
def k0_dev240 (v6 : BitVec 32) : Nat :=
  let c0_i32_5023 : BitVec 32 := 0#32
  let c1_i32_5022 : BitVec 32 := 1#32
  let v5027 : BitVec 32 := Scalar.muli v6 c1_i32_5022
  let v5028 : BitVec 32 := Scalar.addi c0_i32_5023 v5027
  v5028.toNat
def k0_off383 (v4926 : BitVec 32) : Fin 3 → Nat :=
  let c0_i32_5034 : BitVec 32 := 0#32
  let c3072_i32_5035 : BitVec 32 := 3072#32
  ![v4926.toNat, 0, 3072]
def k0_dev241 (v4 : BitVec 32) : Nat :=
  let c0_i32_5043 : BitVec 32 := 0#32
  let c1_i32_5042 : BitVec 32 := 1#32
  let v5045 : BitVec 32 := Scalar.muli v4 c1_i32_5042
  let v5046 : BitVec 32 := Scalar.addi c0_i32_5043 v5045
  v5046.toNat
def k0_off384 (v4928 : BitVec 32) : Fin 3 → Nat :=
  let c64_i32_5054 : BitVec 32 := 64#32
  let c3072_i32_5055 : BitVec 32 := 3072#32
  ![v4928.toNat, 64, 3072]
def k0_dev242 (v6 : BitVec 32) : Nat :=
  let c0_i32_5063 : BitVec 32 := 0#32
  let c1_i32_5062 : BitVec 32 := 1#32
  let v5063 : BitVec 32 := Scalar.muli v6 c1_i32_5062
  let v5064 : BitVec 32 := Scalar.addi c0_i32_5063 v5063
  v5064.toNat
def k0_off385 (v4926 : BitVec 32) : Fin 3 → Nat :=
  let v5073 : Index := Scalar.indexCast v4926
  let c0_5068 : Index := 0#32
  let c0_5069 : Index := 0#32
  ![v5073.toNat, 0, 0]
def k0_off386 (v4926 : BitVec 32) : Fin 2 → Nat :=
  let c128_i32_5071 : BitVec 32 := 128#32
  let v5077 : BitVec 32 := Scalar.muli v4926 c128_i32_5071
  let c0_i32_5072 : BitVec 32 := 0#32
  let v5078 : BitVec 32 := Scalar.addi v5077 c0_i32_5072
  let v5083 : Index := Scalar.indexCast v5078
  let c0_5073 : Index := 0#32
  ![v5083.toNat, 0]

def k0_chk59 (v4926 : BitVec 32) : Prop :=
  (∀ a, (k0_off377 v4926) a + S1x64x1024.size a ≤ S32x128x4096.size a) ∧
  (∀ (hinb : ∀ a, (k0_off377 v4926) a + S1x64x1024.size a ≤ S32x128x4096.size a), (Rect.unit (s := S32x128x4096) (k0_off377 v4926) S1x64x1024.size hinb).WholeWords (EltTy.packing .fp8e5m2)) ∧
  (∀ a, (k0_off379 v4926) a + S1x64x1024.size a ≤ S32x128x4096.size a) ∧
  (∀ (hinb : ∀ a, (k0_off379 v4926) a + S1x64x1024.size a ≤ S32x128x4096.size a), (Rect.unit (s := S32x128x4096) (k0_off379 v4926) S1x64x1024.size hinb).WholeWords (EltTy.packing .fp8e5m2)) ∧
  (∀ a, (k0_off381 v4926) a + S1x64x1024.size a ≤ S32x128x4096.size a) ∧
  (∀ (hinb : ∀ a, (k0_off381 v4926) a + S1x64x1024.size a ≤ S32x128x4096.size a), (Rect.unit (s := S32x128x4096) (k0_off381 v4926) S1x64x1024.size hinb).WholeWords (EltTy.packing .fp8e5m2)) ∧
  (∀ a, (k0_off383 v4926) a + S1x64x1024.size a ≤ S32x128x4096.size a) ∧
  (∀ (hinb : ∀ a, (k0_off383 v4926) a + S1x64x1024.size a ≤ S32x128x4096.size a), (Rect.unit (s := S32x128x4096) (k0_off383 v4926) S1x64x1024.size hinb).WholeWords (EltTy.packing .fp8e5m2)) ∧
  (∀ a, (k0_off385 v4926) a + S1x64x4096.size a ≤ S32x128x4096.size a) ∧
  (∀ a, (k0_off386 v4926) a + S64x64.size a ≤ S4096x64.size a)
theorem k0_off377_inb : ∀ (v4926 : BitVec 32) (k0_hw59 : k0_chk59 v4926), ∀ a, (k0_off377 v4926) a + S1x64x1024.size a ≤ S32x128x4096.size a := fun v4926 k0_hw59 => k0_hw59.1
theorem k0_off377_wordsfp8e5m2 : ∀ (v4926 : BitVec 32) (k0_hw59 : k0_chk59 v4926), (Rect.unit (s := S32x128x4096) (k0_off377 v4926) S1x64x1024.size (k0_off377_inb v4926 k0_hw59)).WholeWords (EltTy.packing .fp8e5m2) := fun v4926 k0_hw59 => k0_hw59.2.1 (k0_off377_inb v4926 k0_hw59)
theorem k0_off379_inb : ∀ (v4926 : BitVec 32) (k0_hw59 : k0_chk59 v4926), ∀ a, (k0_off379 v4926) a + S1x64x1024.size a ≤ S32x128x4096.size a := fun v4926 k0_hw59 => k0_hw59.2.2.1
theorem k0_off379_wordsfp8e5m2 : ∀ (v4926 : BitVec 32) (k0_hw59 : k0_chk59 v4926), (Rect.unit (s := S32x128x4096) (k0_off379 v4926) S1x64x1024.size (k0_off379_inb v4926 k0_hw59)).WholeWords (EltTy.packing .fp8e5m2) := fun v4926 k0_hw59 => k0_hw59.2.2.2.1 (k0_off379_inb v4926 k0_hw59)
theorem k0_off381_inb : ∀ (v4926 : BitVec 32) (k0_hw59 : k0_chk59 v4926), ∀ a, (k0_off381 v4926) a + S1x64x1024.size a ≤ S32x128x4096.size a := fun v4926 k0_hw59 => k0_hw59.2.2.2.2.1
theorem k0_off381_wordsfp8e5m2 : ∀ (v4926 : BitVec 32) (k0_hw59 : k0_chk59 v4926), (Rect.unit (s := S32x128x4096) (k0_off381 v4926) S1x64x1024.size (k0_off381_inb v4926 k0_hw59)).WholeWords (EltTy.packing .fp8e5m2) := fun v4926 k0_hw59 => k0_hw59.2.2.2.2.2.1 (k0_off381_inb v4926 k0_hw59)
theorem k0_off383_inb : ∀ (v4926 : BitVec 32) (k0_hw59 : k0_chk59 v4926), ∀ a, (k0_off383 v4926) a + S1x64x1024.size a ≤ S32x128x4096.size a := fun v4926 k0_hw59 => k0_hw59.2.2.2.2.2.2.1
theorem k0_off383_wordsfp8e5m2 : ∀ (v4926 : BitVec 32) (k0_hw59 : k0_chk59 v4926), (Rect.unit (s := S32x128x4096) (k0_off383 v4926) S1x64x1024.size (k0_off383_inb v4926 k0_hw59)).WholeWords (EltTy.packing .fp8e5m2) := fun v4926 k0_hw59 => k0_hw59.2.2.2.2.2.2.2.1 (k0_off383_inb v4926 k0_hw59)
theorem k0_off385_inb : ∀ (v4926 : BitVec 32) (k0_hw59 : k0_chk59 v4926), ∀ a, (k0_off385 v4926) a + S1x64x4096.size a ≤ S32x128x4096.size a := fun v4926 k0_hw59 => k0_hw59.2.2.2.2.2.2.2.2.1
theorem k0_off386_inb : ∀ (v4926 : BitVec 32) (k0_hw59 : k0_chk59 v4926), ∀ a, (k0_off386 v4926) a + S64x64.size a ≤ S4096x64.size a := fun v4926 k0_hw59 => k0_hw59.2.2.2.2.2.2.2.2.2

def k0_off387 (v4928 : BitVec 32) : Fin 3 → Nat :=
  let v5085 : Index := Scalar.indexCast v4928
  let c64_5074 : Index := 64#32
  let c0_5075 : Index := 0#32
  ![v5085.toNat, 64, 0]
def k0_off388 (v4928 : BitVec 32) : Fin 2 → Nat :=
  let c128_i32_5077 : BitVec 32 := 128#32
  let v5089 : BitVec 32 := Scalar.muli v4928 c128_i32_5077
  let c64_i32_5078 : BitVec 32 := 64#32
  let v5090 : BitVec 32 := Scalar.addi v5089 c64_i32_5078
  let v5095 : Index := Scalar.indexCast v5090
  let c0_5079 : Index := 0#32
  ![v5095.toNat, 0]

def k0_chk60 (v4928 : BitVec 32) : Prop :=
  (∀ a, (k0_off378 v4928) a + S1x64x1024.size a ≤ S32x128x4096.size a) ∧
  (∀ (hinb : ∀ a, (k0_off378 v4928) a + S1x64x1024.size a ≤ S32x128x4096.size a), (Rect.unit (s := S32x128x4096) (k0_off378 v4928) S1x64x1024.size hinb).WholeWords (EltTy.packing .fp8e5m2)) ∧
  (∀ a, (k0_off380 v4928) a + S1x64x1024.size a ≤ S32x128x4096.size a) ∧
  (∀ (hinb : ∀ a, (k0_off380 v4928) a + S1x64x1024.size a ≤ S32x128x4096.size a), (Rect.unit (s := S32x128x4096) (k0_off380 v4928) S1x64x1024.size hinb).WholeWords (EltTy.packing .fp8e5m2)) ∧
  (∀ a, (k0_off382 v4928) a + S1x64x1024.size a ≤ S32x128x4096.size a) ∧
  (∀ (hinb : ∀ a, (k0_off382 v4928) a + S1x64x1024.size a ≤ S32x128x4096.size a), (Rect.unit (s := S32x128x4096) (k0_off382 v4928) S1x64x1024.size hinb).WholeWords (EltTy.packing .fp8e5m2)) ∧
  (∀ a, (k0_off384 v4928) a + S1x64x1024.size a ≤ S32x128x4096.size a) ∧
  (∀ (hinb : ∀ a, (k0_off384 v4928) a + S1x64x1024.size a ≤ S32x128x4096.size a), (Rect.unit (s := S32x128x4096) (k0_off384 v4928) S1x64x1024.size hinb).WholeWords (EltTy.packing .fp8e5m2)) ∧
  (∀ a, (k0_off387 v4928) a + S1x64x4096.size a ≤ S32x128x4096.size a) ∧
  (∀ a, (k0_off388 v4928) a + S64x64.size a ≤ S4096x64.size a)
theorem k0_off378_inb : ∀ (v4928 : BitVec 32) (k0_hw60 : k0_chk60 v4928), ∀ a, (k0_off378 v4928) a + S1x64x1024.size a ≤ S32x128x4096.size a := fun v4928 k0_hw60 => k0_hw60.1
theorem k0_off378_wordsfp8e5m2 : ∀ (v4928 : BitVec 32) (k0_hw60 : k0_chk60 v4928), (Rect.unit (s := S32x128x4096) (k0_off378 v4928) S1x64x1024.size (k0_off378_inb v4928 k0_hw60)).WholeWords (EltTy.packing .fp8e5m2) := fun v4928 k0_hw60 => k0_hw60.2.1 (k0_off378_inb v4928 k0_hw60)
theorem k0_off380_inb : ∀ (v4928 : BitVec 32) (k0_hw60 : k0_chk60 v4928), ∀ a, (k0_off380 v4928) a + S1x64x1024.size a ≤ S32x128x4096.size a := fun v4928 k0_hw60 => k0_hw60.2.2.1
theorem k0_off380_wordsfp8e5m2 : ∀ (v4928 : BitVec 32) (k0_hw60 : k0_chk60 v4928), (Rect.unit (s := S32x128x4096) (k0_off380 v4928) S1x64x1024.size (k0_off380_inb v4928 k0_hw60)).WholeWords (EltTy.packing .fp8e5m2) := fun v4928 k0_hw60 => k0_hw60.2.2.2.1 (k0_off380_inb v4928 k0_hw60)
theorem k0_off382_inb : ∀ (v4928 : BitVec 32) (k0_hw60 : k0_chk60 v4928), ∀ a, (k0_off382 v4928) a + S1x64x1024.size a ≤ S32x128x4096.size a := fun v4928 k0_hw60 => k0_hw60.2.2.2.2.1
theorem k0_off382_wordsfp8e5m2 : ∀ (v4928 : BitVec 32) (k0_hw60 : k0_chk60 v4928), (Rect.unit (s := S32x128x4096) (k0_off382 v4928) S1x64x1024.size (k0_off382_inb v4928 k0_hw60)).WholeWords (EltTy.packing .fp8e5m2) := fun v4928 k0_hw60 => k0_hw60.2.2.2.2.2.1 (k0_off382_inb v4928 k0_hw60)
theorem k0_off384_inb : ∀ (v4928 : BitVec 32) (k0_hw60 : k0_chk60 v4928), ∀ a, (k0_off384 v4928) a + S1x64x1024.size a ≤ S32x128x4096.size a := fun v4928 k0_hw60 => k0_hw60.2.2.2.2.2.2.1
theorem k0_off384_wordsfp8e5m2 : ∀ (v4928 : BitVec 32) (k0_hw60 : k0_chk60 v4928), (Rect.unit (s := S32x128x4096) (k0_off384 v4928) S1x64x1024.size (k0_off384_inb v4928 k0_hw60)).WholeWords (EltTy.packing .fp8e5m2) := fun v4928 k0_hw60 => k0_hw60.2.2.2.2.2.2.2.1 (k0_off384_inb v4928 k0_hw60)
theorem k0_off387_inb : ∀ (v4928 : BitVec 32) (k0_hw60 : k0_chk60 v4928), ∀ a, (k0_off387 v4928) a + S1x64x4096.size a ≤ S32x128x4096.size a := fun v4928 k0_hw60 => k0_hw60.2.2.2.2.2.2.2.2.1
theorem k0_off388_inb : ∀ (v4928 : BitVec 32) (k0_hw60 : k0_chk60 v4928), ∀ a, (k0_off388 v4928) a + S64x64.size a ≤ S4096x64.size a := fun v4928 k0_hw60 => k0_hw60.2.2.2.2.2.2.2.2.2

def k0_off389 (d0 : Dev nD) : Fin 2 → Nat :=
  let c30 : Index := 30#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5097 : Index := Scalar.indexCast v2
  ![30, v5097.toNat]
def k0_off390 (v5098 : BitVec 32) : Fin 3 → Nat :=
  let c0_i32_5087 : BitVec 32 := 0#32
  let c0_i32_5088 : BitVec 32 := 0#32
  ![v5098.toNat, 0, 0]

def k0_dev243 (v4 : BitVec 32) : Nat :=
  let c0_i32_5095 : BitVec 32 := 0#32
  let c1_i32_5094 : BitVec 32 := 1#32
  let v5109 : BitVec 32 := Scalar.muli v4 c1_i32_5094
  let v5110 : BitVec 32 := Scalar.addi c0_i32_5095 v5109
  v5110.toNat
def k0_off391 (v5100 : BitVec 32) : Fin 3 → Nat :=
  let c64_i32_5106 : BitVec 32 := 64#32
  let c0_i32_5107 : BitVec 32 := 0#32
  ![v5100.toNat, 64, 0]

def k0_dev244 (v6 : BitVec 32) : Nat :=
  let c0_i32_5115 : BitVec 32 := 0#32
  let c1_i32_5114 : BitVec 32 := 1#32
  let v5127 : BitVec 32 := Scalar.muli v6 c1_i32_5114
  let v5128 : BitVec 32 := Scalar.addi c0_i32_5115 v5127
  v5128.toNat
def k0_off392 (v5098 : BitVec 32) : Fin 3 → Nat :=
  let c0_i32_5126 : BitVec 32 := 0#32
  let c1024_i32_5127 : BitVec 32 := 1024#32
  ![v5098.toNat, 0, 1024]
def k0_dev245 (v4 : BitVec 32) : Nat :=
  let c0_i32_5135 : BitVec 32 := 0#32
  let c1_i32_5134 : BitVec 32 := 1#32
  let v5145 : BitVec 32 := Scalar.muli v4 c1_i32_5134
  let v5146 : BitVec 32 := Scalar.addi c0_i32_5135 v5145
  v5146.toNat
def k0_off393 (v5100 : BitVec 32) : Fin 3 → Nat :=
  let c64_i32_5146 : BitVec 32 := 64#32
  let c1024_i32_5147 : BitVec 32 := 1024#32
  ![v5100.toNat, 64, 1024]
def k0_dev246 (v6 : BitVec 32) : Nat :=
  let c0_i32_5155 : BitVec 32 := 0#32
  let c1_i32_5154 : BitVec 32 := 1#32
  let v5163 : BitVec 32 := Scalar.muli v6 c1_i32_5154
  let v5164 : BitVec 32 := Scalar.addi c0_i32_5155 v5163
  v5164.toNat
def k0_off394 (v5098 : BitVec 32) : Fin 3 → Nat :=
  let c0_i32_5166 : BitVec 32 := 0#32
  let c2048_i32_5167 : BitVec 32 := 2048#32
  ![v5098.toNat, 0, 2048]
def k0_dev247 (v4 : BitVec 32) : Nat :=
  let c0_i32_5175 : BitVec 32 := 0#32
  let c1_i32_5174 : BitVec 32 := 1#32
  let v5181 : BitVec 32 := Scalar.muli v4 c1_i32_5174
  let v5182 : BitVec 32 := Scalar.addi c0_i32_5175 v5181
  v5182.toNat
def k0_off395 (v5100 : BitVec 32) : Fin 3 → Nat :=
  let c64_i32_5186 : BitVec 32 := 64#32
  let c2048_i32_5187 : BitVec 32 := 2048#32
  ![v5100.toNat, 64, 2048]
def k0_dev248 (v6 : BitVec 32) : Nat :=
  let c0_i32_5195 : BitVec 32 := 0#32
  let c1_i32_5194 : BitVec 32 := 1#32
  let v5199 : BitVec 32 := Scalar.muli v6 c1_i32_5194
  let v5200 : BitVec 32 := Scalar.addi c0_i32_5195 v5199
  v5200.toNat
def k0_off396 (v5098 : BitVec 32) : Fin 3 → Nat :=
  let c0_i32_5206 : BitVec 32 := 0#32
  let c3072_i32_5207 : BitVec 32 := 3072#32
  ![v5098.toNat, 0, 3072]
def k0_dev249 (v4 : BitVec 32) : Nat :=
  let c0_i32_5215 : BitVec 32 := 0#32
  let c1_i32_5214 : BitVec 32 := 1#32
  let v5217 : BitVec 32 := Scalar.muli v4 c1_i32_5214
  let v5218 : BitVec 32 := Scalar.addi c0_i32_5215 v5217
  v5218.toNat

def k0_chk2_0 (v4 : BitVec 32) : Prop :=
  ((k0_dev2 v4) < nD) ∧
  ((k0_dev3 v4) < nD) ∧
  ((k0_dev5 v4) < nD) ∧
  ((k0_dev7 v4) < nD) ∧
  ((k0_dev9 v4) < nD) ∧
  ((k0_dev11 v4) < nD) ∧
  ((k0_dev13 v4) < nD) ∧
  ((k0_dev15 v4) < nD) ∧
  ((k0_dev17 v4) < nD) ∧
  ((k0_dev19 v4) < nD) ∧
  ((k0_dev21 v4) < nD) ∧
  ((k0_dev23 v4) < nD) ∧
  ((k0_dev25 v4) < nD) ∧
  ((k0_dev27 v4) < nD) ∧
  ((k0_dev29 v4) < nD) ∧
  ((k0_dev31 v4) < nD) ∧
  ((k0_dev33 v4) < nD) ∧
  ((k0_dev35 v4) < nD) ∧
  ((k0_dev37 v4) < nD) ∧
  ((k0_dev39 v4) < nD) ∧
  ((k0_dev41 v4) < nD) ∧
  ((k0_dev43 v4) < nD) ∧
  ((k0_dev45 v4) < nD) ∧
  ((k0_dev47 v4) < nD) ∧
  ((k0_dev49 v4) < nD) ∧
  ((k0_dev51 v4) < nD) ∧
  ((k0_dev53 v4) < nD) ∧
  ((k0_dev55 v4) < nD) ∧
  ((k0_dev57 v4) < nD) ∧
  ((k0_dev59 v4) < nD) ∧
  ((k0_dev61 v4) < nD) ∧
  ((k0_dev63 v4) < nD)
def k0_chk2_1 (v4 : BitVec 32) : Prop :=
  ((k0_dev65 v4) < nD) ∧
  ((k0_dev67 v4) < nD) ∧
  ((k0_dev69 v4) < nD) ∧
  ((k0_dev71 v4) < nD) ∧
  ((k0_dev73 v4) < nD) ∧
  ((k0_dev75 v4) < nD) ∧
  ((k0_dev77 v4) < nD) ∧
  ((k0_dev79 v4) < nD) ∧
  ((k0_dev81 v4) < nD) ∧
  ((k0_dev83 v4) < nD) ∧
  ((k0_dev85 v4) < nD) ∧
  ((k0_dev87 v4) < nD) ∧
  ((k0_dev89 v4) < nD) ∧
  ((k0_dev91 v4) < nD) ∧
  ((k0_dev93 v4) < nD) ∧
  ((k0_dev95 v4) < nD) ∧
  ((k0_dev97 v4) < nD) ∧
  ((k0_dev99 v4) < nD) ∧
  ((k0_dev101 v4) < nD) ∧
  ((k0_dev103 v4) < nD) ∧
  ((k0_dev105 v4) < nD) ∧
  ((k0_dev107 v4) < nD) ∧
  ((k0_dev109 v4) < nD) ∧
  ((k0_dev111 v4) < nD) ∧
  ((k0_dev113 v4) < nD) ∧
  ((k0_dev115 v4) < nD) ∧
  ((k0_dev117 v4) < nD) ∧
  ((k0_dev119 v4) < nD) ∧
  ((k0_dev121 v4) < nD) ∧
  ((k0_dev123 v4) < nD) ∧
  ((k0_dev125 v4) < nD) ∧
  ((k0_dev127 v4) < nD)
def k0_chk2_2 (v4 : BitVec 32) : Prop :=
  ((k0_dev129 v4) < nD) ∧
  ((k0_dev131 v4) < nD) ∧
  ((k0_dev133 v4) < nD) ∧
  ((k0_dev135 v4) < nD) ∧
  ((k0_dev137 v4) < nD) ∧
  ((k0_dev139 v4) < nD) ∧
  ((k0_dev141 v4) < nD) ∧
  ((k0_dev143 v4) < nD) ∧
  ((k0_dev145 v4) < nD) ∧
  ((k0_dev147 v4) < nD) ∧
  ((k0_dev149 v4) < nD) ∧
  ((k0_dev151 v4) < nD) ∧
  ((k0_dev153 v4) < nD) ∧
  ((k0_dev155 v4) < nD) ∧
  ((k0_dev157 v4) < nD) ∧
  ((k0_dev159 v4) < nD) ∧
  ((k0_dev161 v4) < nD) ∧
  ((k0_dev163 v4) < nD) ∧
  ((k0_dev165 v4) < nD) ∧
  ((k0_dev167 v4) < nD) ∧
  ((k0_dev169 v4) < nD) ∧
  ((k0_dev171 v4) < nD) ∧
  ((k0_dev173 v4) < nD) ∧
  ((k0_dev175 v4) < nD) ∧
  ((k0_dev177 v4) < nD) ∧
  ((k0_dev179 v4) < nD) ∧
  ((k0_dev181 v4) < nD) ∧
  ((k0_dev183 v4) < nD) ∧
  ((k0_dev185 v4) < nD) ∧
  ((k0_dev187 v4) < nD) ∧
  ((k0_dev189 v4) < nD) ∧
  ((k0_dev191 v4) < nD)
def k0_chk2_3 (v4 : BitVec 32) : Prop :=
  ((k0_dev193 v4) < nD) ∧
  ((k0_dev195 v4) < nD) ∧
  ((k0_dev197 v4) < nD) ∧
  ((k0_dev199 v4) < nD) ∧
  ((k0_dev201 v4) < nD) ∧
  ((k0_dev203 v4) < nD) ∧
  ((k0_dev205 v4) < nD) ∧
  ((k0_dev207 v4) < nD) ∧
  ((k0_dev209 v4) < nD) ∧
  ((k0_dev211 v4) < nD) ∧
  ((k0_dev213 v4) < nD) ∧
  ((k0_dev215 v4) < nD) ∧
  ((k0_dev217 v4) < nD) ∧
  ((k0_dev219 v4) < nD) ∧
  ((k0_dev221 v4) < nD) ∧
  ((k0_dev223 v4) < nD) ∧
  ((k0_dev225 v4) < nD) ∧
  ((k0_dev227 v4) < nD) ∧
  ((k0_dev229 v4) < nD) ∧
  ((k0_dev231 v4) < nD) ∧
  ((k0_dev233 v4) < nD) ∧
  ((k0_dev235 v4) < nD) ∧
  ((k0_dev237 v4) < nD) ∧
  ((k0_dev239 v4) < nD) ∧
  ((k0_dev241 v4) < nD) ∧
  ((k0_dev243 v4) < nD) ∧
  ((k0_dev245 v4) < nD) ∧
  ((k0_dev247 v4) < nD) ∧
  ((k0_dev249 v4) < nD)
def k0_chk2 (v4 : BitVec 32) : Prop :=
  k0_chk2_0 v4 ∧
  k0_chk2_1 v4 ∧
  k0_chk2_2 v4 ∧
  k0_chk2_3 v4
theorem k0_dev2_lt : ∀ (v4 : BitVec 32) (k0_hw2 : k0_chk2 v4), (k0_dev2 v4) < nD := fun v4 k0_hw2 => k0_hw2.1.1
theorem k0_dev3_lt : ∀ (v4 : BitVec 32) (k0_hw2 : k0_chk2 v4), (k0_dev3 v4) < nD := fun v4 k0_hw2 => k0_hw2.1.2.1
theorem k0_dev5_lt : ∀ (v4 : BitVec 32) (k0_hw2 : k0_chk2 v4), (k0_dev5 v4) < nD := fun v4 k0_hw2 => k0_hw2.1.2.2.1
theorem k0_dev7_lt : ∀ (v4 : BitVec 32) (k0_hw2 : k0_chk2 v4), (k0_dev7 v4) < nD := fun v4 k0_hw2 => k0_hw2.1.2.2.2.1
theorem k0_dev9_lt : ∀ (v4 : BitVec 32) (k0_hw2 : k0_chk2 v4), (k0_dev9 v4) < nD := fun v4 k0_hw2 => k0_hw2.1.2.2.2.2.1
theorem k0_dev11_lt : ∀ (v4 : BitVec 32) (k0_hw2 : k0_chk2 v4), (k0_dev11 v4) < nD := fun v4 k0_hw2 => k0_hw2.1.2.2.2.2.2.1
theorem k0_dev13_lt : ∀ (v4 : BitVec 32) (k0_hw2 : k0_chk2 v4), (k0_dev13 v4) < nD := fun v4 k0_hw2 => k0_hw2.1.2.2.2.2.2.2.1
theorem k0_dev15_lt : ∀ (v4 : BitVec 32) (k0_hw2 : k0_chk2 v4), (k0_dev15 v4) < nD := fun v4 k0_hw2 => k0_hw2.1.2.2.2.2.2.2.2.1
theorem k0_dev17_lt : ∀ (v4 : BitVec 32) (k0_hw2 : k0_chk2 v4), (k0_dev17 v4) < nD := fun v4 k0_hw2 => k0_hw2.1.2.2.2.2.2.2.2.2.1
theorem k0_dev19_lt : ∀ (v4 : BitVec 32) (k0_hw2 : k0_chk2 v4), (k0_dev19 v4) < nD := fun v4 k0_hw2 => k0_hw2.1.2.2.2.2.2.2.2.2.2.1
theorem k0_dev21_lt : ∀ (v4 : BitVec 32) (k0_hw2 : k0_chk2 v4), (k0_dev21 v4) < nD := fun v4 k0_hw2 => k0_hw2.1.2.2.2.2.2.2.2.2.2.2.1
theorem k0_dev23_lt : ∀ (v4 : BitVec 32) (k0_hw2 : k0_chk2 v4), (k0_dev23 v4) < nD := fun v4 k0_hw2 => k0_hw2.1.2.2.2.2.2.2.2.2.2.2.2.1
theorem k0_dev25_lt : ∀ (v4 : BitVec 32) (k0_hw2 : k0_chk2 v4), (k0_dev25 v4) < nD := fun v4 k0_hw2 => k0_hw2.1.2.2.2.2.2.2.2.2.2.2.2.2.1
theorem k0_dev27_lt : ∀ (v4 : BitVec 32) (k0_hw2 : k0_chk2 v4), (k0_dev27 v4) < nD := fun v4 k0_hw2 => k0_hw2.1.2.2.2.2.2.2.2.2.2.2.2.2.2.1
theorem k0_dev29_lt : ∀ (v4 : BitVec 32) (k0_hw2 : k0_chk2 v4), (k0_dev29 v4) < nD := fun v4 k0_hw2 => k0_hw2.1.2.2.2.2.2.2.2.2.2.2.2.2.2.2.1
theorem k0_dev31_lt : ∀ (v4 : BitVec 32) (k0_hw2 : k0_chk2 v4), (k0_dev31 v4) < nD := fun v4 k0_hw2 => k0_hw2.1.2.2.2.2.2.2.2.2.2.2.2.2.2.2.2.1
theorem k0_dev33_lt : ∀ (v4 : BitVec 32) (k0_hw2 : k0_chk2 v4), (k0_dev33 v4) < nD := fun v4 k0_hw2 => k0_hw2.1.2.2.2.2.2.2.2.2.2.2.2.2.2.2.2.2.1
theorem k0_dev35_lt : ∀ (v4 : BitVec 32) (k0_hw2 : k0_chk2 v4), (k0_dev35 v4) < nD := fun v4 k0_hw2 => k0_hw2.1.2.2.2.2.2.2.2.2.2.2.2.2.2.2.2.2.2.1
theorem k0_dev37_lt : ∀ (v4 : BitVec 32) (k0_hw2 : k0_chk2 v4), (k0_dev37 v4) < nD := fun v4 k0_hw2 => k0_hw2.1.2.2.2.2.2.2.2.2.2.2.2.2.2.2.2.2.2.2.1
theorem k0_dev39_lt : ∀ (v4 : BitVec 32) (k0_hw2 : k0_chk2 v4), (k0_dev39 v4) < nD := fun v4 k0_hw2 => k0_hw2.1.2.2.2.2.2.2.2.2.2.2.2.2.2.2.2.2.2.2.2.1
theorem k0_dev41_lt : ∀ (v4 : BitVec 32) (k0_hw2 : k0_chk2 v4), (k0_dev41 v4) < nD := fun v4 k0_hw2 => k0_hw2.1.2.2.2.2.2.2.2.2.2.2.2.2.2.2.2.2.2.2.2.2.1
theorem k0_dev43_lt : ∀ (v4 : BitVec 32) (k0_hw2 : k0_chk2 v4), (k0_dev43 v4) < nD := fun v4 k0_hw2 => k0_hw2.1.2.2.2.2.2.2.2.2.2.2.2.2.2.2.2.2.2.2.2.2.2.1
theorem k0_dev45_lt : ∀ (v4 : BitVec 32) (k0_hw2 : k0_chk2 v4), (k0_dev45 v4) < nD := fun v4 k0_hw2 => k0_hw2.1.2.2.2.2.2.2.2.2.2.2.2.2.2.2.2.2.2.2.2.2.2.2.1
theorem k0_dev47_lt : ∀ (v4 : BitVec 32) (k0_hw2 : k0_chk2 v4), (k0_dev47 v4) < nD := fun v4 k0_hw2 => k0_hw2.1.2.2.2.2.2.2.2.2.2.2.2.2.2.2.2.2.2.2.2.2.2.2.2.1
theorem k0_dev49_lt : ∀ (v4 : BitVec 32) (k0_hw2 : k0_chk2 v4), (k0_dev49 v4) < nD := fun v4 k0_hw2 => k0_hw2.1.2.2.2.2.2.2.2.2.2.2.2.2.2.2.2.2.2.2.2.2.2.2.2.2.1
theorem k0_dev51_lt : ∀ (v4 : BitVec 32) (k0_hw2 : k0_chk2 v4), (k0_dev51 v4) < nD := fun v4 k0_hw2 => k0_hw2.1.2.2.2.2.2.2.2.2.2.2.2.2.2.2.2.2.2.2.2.2.2.2.2.2.2.1
theorem k0_dev53_lt : ∀ (v4 : BitVec 32) (k0_hw2 : k0_chk2 v4), (k0_dev53 v4) < nD := fun v4 k0_hw2 => k0_hw2.1.2.2.2.2.2.2.2.2.2.2.2.2.2.2.2.2.2.2.2.2.2.2.2.2.2.2.1
theorem k0_dev55_lt : ∀ (v4 : BitVec 32) (k0_hw2 : k0_chk2 v4), (k0_dev55 v4) < nD := fun v4 k0_hw2 => k0_hw2.1.2.2.2.2.2.2.2.2.2.2.2.2.2.2.2.2.2.2.2.2.2.2.2.2.2.2.2.1
theorem k0_dev57_lt : ∀ (v4 : BitVec 32) (k0_hw2 : k0_chk2 v4), (k0_dev57 v4) < nD := fun v4 k0_hw2 => k0_hw2.1.2.2.2.2.2.2.2.2.2.2.2.2.2.2.2.2.2.2.2.2.2.2.2.2.2.2.2.2.1
theorem k0_dev59_lt : ∀ (v4 : BitVec 32) (k0_hw2 : k0_chk2 v4), (k0_dev59 v4) < nD := fun v4 k0_hw2 => k0_hw2.1.2.2.2.2.2.2.2.2.2.2.2.2.2.2.2.2.2.2.2.2.2.2.2.2.2.2.2.2.2.1
theorem k0_dev61_lt : ∀ (v4 : BitVec 32) (k0_hw2 : k0_chk2 v4), (k0_dev61 v4) < nD := fun v4 k0_hw2 => k0_hw2.1.2.2.2.2.2.2.2.2.2.2.2.2.2.2.2.2.2.2.2.2.2.2.2.2.2.2.2.2.2.2.1
theorem k0_dev63_lt : ∀ (v4 : BitVec 32) (k0_hw2 : k0_chk2 v4), (k0_dev63 v4) < nD := fun v4 k0_hw2 => k0_hw2.1.2.2.2.2.2.2.2.2.2.2.2.2.2.2.2.2.2.2.2.2.2.2.2.2.2.2.2.2.2.2.2
theorem k0_dev65_lt : ∀ (v4 : BitVec 32) (k0_hw2 : k0_chk2 v4), (k0_dev65 v4) < nD := fun v4 k0_hw2 => k0_hw2.2.1.1
theorem k0_dev67_lt : ∀ (v4 : BitVec 32) (k0_hw2 : k0_chk2 v4), (k0_dev67 v4) < nD := fun v4 k0_hw2 => k0_hw2.2.1.2.1
theorem k0_dev69_lt : ∀ (v4 : BitVec 32) (k0_hw2 : k0_chk2 v4), (k0_dev69 v4) < nD := fun v4 k0_hw2 => k0_hw2.2.1.2.2.1
theorem k0_dev71_lt : ∀ (v4 : BitVec 32) (k0_hw2 : k0_chk2 v4), (k0_dev71 v4) < nD := fun v4 k0_hw2 => k0_hw2.2.1.2.2.2.1
theorem k0_dev73_lt : ∀ (v4 : BitVec 32) (k0_hw2 : k0_chk2 v4), (k0_dev73 v4) < nD := fun v4 k0_hw2 => k0_hw2.2.1.2.2.2.2.1
theorem k0_dev75_lt : ∀ (v4 : BitVec 32) (k0_hw2 : k0_chk2 v4), (k0_dev75 v4) < nD := fun v4 k0_hw2 => k0_hw2.2.1.2.2.2.2.2.1
theorem k0_dev77_lt : ∀ (v4 : BitVec 32) (k0_hw2 : k0_chk2 v4), (k0_dev77 v4) < nD := fun v4 k0_hw2 => k0_hw2.2.1.2.2.2.2.2.2.1
theorem k0_dev79_lt : ∀ (v4 : BitVec 32) (k0_hw2 : k0_chk2 v4), (k0_dev79 v4) < nD := fun v4 k0_hw2 => k0_hw2.2.1.2.2.2.2.2.2.2.1
theorem k0_dev81_lt : ∀ (v4 : BitVec 32) (k0_hw2 : k0_chk2 v4), (k0_dev81 v4) < nD := fun v4 k0_hw2 => k0_hw2.2.1.2.2.2.2.2.2.2.2.1
theorem k0_dev83_lt : ∀ (v4 : BitVec 32) (k0_hw2 : k0_chk2 v4), (k0_dev83 v4) < nD := fun v4 k0_hw2 => k0_hw2.2.1.2.2.2.2.2.2.2.2.2.1
theorem k0_dev85_lt : ∀ (v4 : BitVec 32) (k0_hw2 : k0_chk2 v4), (k0_dev85 v4) < nD := fun v4 k0_hw2 => k0_hw2.2.1.2.2.2.2.2.2.2.2.2.2.1
theorem k0_dev87_lt : ∀ (v4 : BitVec 32) (k0_hw2 : k0_chk2 v4), (k0_dev87 v4) < nD := fun v4 k0_hw2 => k0_hw2.2.1.2.2.2.2.2.2.2.2.2.2.2.1
theorem k0_dev89_lt : ∀ (v4 : BitVec 32) (k0_hw2 : k0_chk2 v4), (k0_dev89 v4) < nD := fun v4 k0_hw2 => k0_hw2.2.1.2.2.2.2.2.2.2.2.2.2.2.2.1
theorem k0_dev91_lt : ∀ (v4 : BitVec 32) (k0_hw2 : k0_chk2 v4), (k0_dev91 v4) < nD := fun v4 k0_hw2 => k0_hw2.2.1.2.2.2.2.2.2.2.2.2.2.2.2.2.1
theorem k0_dev93_lt : ∀ (v4 : BitVec 32) (k0_hw2 : k0_chk2 v4), (k0_dev93 v4) < nD := fun v4 k0_hw2 => k0_hw2.2.1.2.2.2.2.2.2.2.2.2.2.2.2.2.2.1
theorem k0_dev95_lt : ∀ (v4 : BitVec 32) (k0_hw2 : k0_chk2 v4), (k0_dev95 v4) < nD := fun v4 k0_hw2 => k0_hw2.2.1.2.2.2.2.2.2.2.2.2.2.2.2.2.2.2.1
theorem k0_dev97_lt : ∀ (v4 : BitVec 32) (k0_hw2 : k0_chk2 v4), (k0_dev97 v4) < nD := fun v4 k0_hw2 => k0_hw2.2.1.2.2.2.2.2.2.2.2.2.2.2.2.2.2.2.2.1
theorem k0_dev99_lt : ∀ (v4 : BitVec 32) (k0_hw2 : k0_chk2 v4), (k0_dev99 v4) < nD := fun v4 k0_hw2 => k0_hw2.2.1.2.2.2.2.2.2.2.2.2.2.2.2.2.2.2.2.2.1
theorem k0_dev101_lt : ∀ (v4 : BitVec 32) (k0_hw2 : k0_chk2 v4), (k0_dev101 v4) < nD := fun v4 k0_hw2 => k0_hw2.2.1.2.2.2.2.2.2.2.2.2.2.2.2.2.2.2.2.2.2.1
theorem k0_dev103_lt : ∀ (v4 : BitVec 32) (k0_hw2 : k0_chk2 v4), (k0_dev103 v4) < nD := fun v4 k0_hw2 => k0_hw2.2.1.2.2.2.2.2.2.2.2.2.2.2.2.2.2.2.2.2.2.2.1
theorem k0_dev105_lt : ∀ (v4 : BitVec 32) (k0_hw2 : k0_chk2 v4), (k0_dev105 v4) < nD := fun v4 k0_hw2 => k0_hw2.2.1.2.2.2.2.2.2.2.2.2.2.2.2.2.2.2.2.2.2.2.2.1
theorem k0_dev107_lt : ∀ (v4 : BitVec 32) (k0_hw2 : k0_chk2 v4), (k0_dev107 v4) < nD := fun v4 k0_hw2 => k0_hw2.2.1.2.2.2.2.2.2.2.2.2.2.2.2.2.2.2.2.2.2.2.2.2.1
theorem k0_dev109_lt : ∀ (v4 : BitVec 32) (k0_hw2 : k0_chk2 v4), (k0_dev109 v4) < nD := fun v4 k0_hw2 => k0_hw2.2.1.2.2.2.2.2.2.2.2.2.2.2.2.2.2.2.2.2.2.2.2.2.2.1
theorem k0_dev111_lt : ∀ (v4 : BitVec 32) (k0_hw2 : k0_chk2 v4), (k0_dev111 v4) < nD := fun v4 k0_hw2 => k0_hw2.2.1.2.2.2.2.2.2.2.2.2.2.2.2.2.2.2.2.2.2.2.2.2.2.2.1
theorem k0_dev113_lt : ∀ (v4 : BitVec 32) (k0_hw2 : k0_chk2 v4), (k0_dev113 v4) < nD := fun v4 k0_hw2 => k0_hw2.2.1.2.2.2.2.2.2.2.2.2.2.2.2.2.2.2.2.2.2.2.2.2.2.2.2.1
theorem k0_dev115_lt : ∀ (v4 : BitVec 32) (k0_hw2 : k0_chk2 v4), (k0_dev115 v4) < nD := fun v4 k0_hw2 => k0_hw2.2.1.2.2.2.2.2.2.2.2.2.2.2.2.2.2.2.2.2.2.2.2.2.2.2.2.2.1
theorem k0_dev117_lt : ∀ (v4 : BitVec 32) (k0_hw2 : k0_chk2 v4), (k0_dev117 v4) < nD := fun v4 k0_hw2 => k0_hw2.2.1.2.2.2.2.2.2.2.2.2.2.2.2.2.2.2.2.2.2.2.2.2.2.2.2.2.2.1
theorem k0_dev119_lt : ∀ (v4 : BitVec 32) (k0_hw2 : k0_chk2 v4), (k0_dev119 v4) < nD := fun v4 k0_hw2 => k0_hw2.2.1.2.2.2.2.2.2.2.2.2.2.2.2.2.2.2.2.2.2.2.2.2.2.2.2.2.2.2.1
theorem k0_dev121_lt : ∀ (v4 : BitVec 32) (k0_hw2 : k0_chk2 v4), (k0_dev121 v4) < nD := fun v4 k0_hw2 => k0_hw2.2.1.2.2.2.2.2.2.2.2.2.2.2.2.2.2.2.2.2.2.2.2.2.2.2.2.2.2.2.2.1
theorem k0_dev123_lt : ∀ (v4 : BitVec 32) (k0_hw2 : k0_chk2 v4), (k0_dev123 v4) < nD := fun v4 k0_hw2 => k0_hw2.2.1.2.2.2.2.2.2.2.2.2.2.2.2.2.2.2.2.2.2.2.2.2.2.2.2.2.2.2.2.2.1
theorem k0_dev125_lt : ∀ (v4 : BitVec 32) (k0_hw2 : k0_chk2 v4), (k0_dev125 v4) < nD := fun v4 k0_hw2 => k0_hw2.2.1.2.2.2.2.2.2.2.2.2.2.2.2.2.2.2.2.2.2.2.2.2.2.2.2.2.2.2.2.2.2.1
theorem k0_dev127_lt : ∀ (v4 : BitVec 32) (k0_hw2 : k0_chk2 v4), (k0_dev127 v4) < nD := fun v4 k0_hw2 => k0_hw2.2.1.2.2.2.2.2.2.2.2.2.2.2.2.2.2.2.2.2.2.2.2.2.2.2.2.2.2.2.2.2.2.2
theorem k0_dev129_lt : ∀ (v4 : BitVec 32) (k0_hw2 : k0_chk2 v4), (k0_dev129 v4) < nD := fun v4 k0_hw2 => k0_hw2.2.2.1.1
theorem k0_dev131_lt : ∀ (v4 : BitVec 32) (k0_hw2 : k0_chk2 v4), (k0_dev131 v4) < nD := fun v4 k0_hw2 => k0_hw2.2.2.1.2.1
theorem k0_dev133_lt : ∀ (v4 : BitVec 32) (k0_hw2 : k0_chk2 v4), (k0_dev133 v4) < nD := fun v4 k0_hw2 => k0_hw2.2.2.1.2.2.1
theorem k0_dev135_lt : ∀ (v4 : BitVec 32) (k0_hw2 : k0_chk2 v4), (k0_dev135 v4) < nD := fun v4 k0_hw2 => k0_hw2.2.2.1.2.2.2.1
theorem k0_dev137_lt : ∀ (v4 : BitVec 32) (k0_hw2 : k0_chk2 v4), (k0_dev137 v4) < nD := fun v4 k0_hw2 => k0_hw2.2.2.1.2.2.2.2.1
theorem k0_dev139_lt : ∀ (v4 : BitVec 32) (k0_hw2 : k0_chk2 v4), (k0_dev139 v4) < nD := fun v4 k0_hw2 => k0_hw2.2.2.1.2.2.2.2.2.1
theorem k0_dev141_lt : ∀ (v4 : BitVec 32) (k0_hw2 : k0_chk2 v4), (k0_dev141 v4) < nD := fun v4 k0_hw2 => k0_hw2.2.2.1.2.2.2.2.2.2.1
theorem k0_dev143_lt : ∀ (v4 : BitVec 32) (k0_hw2 : k0_chk2 v4), (k0_dev143 v4) < nD := fun v4 k0_hw2 => k0_hw2.2.2.1.2.2.2.2.2.2.2.1
theorem k0_dev145_lt : ∀ (v4 : BitVec 32) (k0_hw2 : k0_chk2 v4), (k0_dev145 v4) < nD := fun v4 k0_hw2 => k0_hw2.2.2.1.2.2.2.2.2.2.2.2.1
theorem k0_dev147_lt : ∀ (v4 : BitVec 32) (k0_hw2 : k0_chk2 v4), (k0_dev147 v4) < nD := fun v4 k0_hw2 => k0_hw2.2.2.1.2.2.2.2.2.2.2.2.2.1
theorem k0_dev149_lt : ∀ (v4 : BitVec 32) (k0_hw2 : k0_chk2 v4), (k0_dev149 v4) < nD := fun v4 k0_hw2 => k0_hw2.2.2.1.2.2.2.2.2.2.2.2.2.2.1
theorem k0_dev151_lt : ∀ (v4 : BitVec 32) (k0_hw2 : k0_chk2 v4), (k0_dev151 v4) < nD := fun v4 k0_hw2 => k0_hw2.2.2.1.2.2.2.2.2.2.2.2.2.2.2.1
theorem k0_dev153_lt : ∀ (v4 : BitVec 32) (k0_hw2 : k0_chk2 v4), (k0_dev153 v4) < nD := fun v4 k0_hw2 => k0_hw2.2.2.1.2.2.2.2.2.2.2.2.2.2.2.2.1
theorem k0_dev155_lt : ∀ (v4 : BitVec 32) (k0_hw2 : k0_chk2 v4), (k0_dev155 v4) < nD := fun v4 k0_hw2 => k0_hw2.2.2.1.2.2.2.2.2.2.2.2.2.2.2.2.2.1
theorem k0_dev157_lt : ∀ (v4 : BitVec 32) (k0_hw2 : k0_chk2 v4), (k0_dev157 v4) < nD := fun v4 k0_hw2 => k0_hw2.2.2.1.2.2.2.2.2.2.2.2.2.2.2.2.2.2.1
theorem k0_dev159_lt : ∀ (v4 : BitVec 32) (k0_hw2 : k0_chk2 v4), (k0_dev159 v4) < nD := fun v4 k0_hw2 => k0_hw2.2.2.1.2.2.2.2.2.2.2.2.2.2.2.2.2.2.2.1
theorem k0_dev161_lt : ∀ (v4 : BitVec 32) (k0_hw2 : k0_chk2 v4), (k0_dev161 v4) < nD := fun v4 k0_hw2 => k0_hw2.2.2.1.2.2.2.2.2.2.2.2.2.2.2.2.2.2.2.2.1
theorem k0_dev163_lt : ∀ (v4 : BitVec 32) (k0_hw2 : k0_chk2 v4), (k0_dev163 v4) < nD := fun v4 k0_hw2 => k0_hw2.2.2.1.2.2.2.2.2.2.2.2.2.2.2.2.2.2.2.2.2.1
theorem k0_dev165_lt : ∀ (v4 : BitVec 32) (k0_hw2 : k0_chk2 v4), (k0_dev165 v4) < nD := fun v4 k0_hw2 => k0_hw2.2.2.1.2.2.2.2.2.2.2.2.2.2.2.2.2.2.2.2.2.2.1
theorem k0_dev167_lt : ∀ (v4 : BitVec 32) (k0_hw2 : k0_chk2 v4), (k0_dev167 v4) < nD := fun v4 k0_hw2 => k0_hw2.2.2.1.2.2.2.2.2.2.2.2.2.2.2.2.2.2.2.2.2.2.2.1
theorem k0_dev169_lt : ∀ (v4 : BitVec 32) (k0_hw2 : k0_chk2 v4), (k0_dev169 v4) < nD := fun v4 k0_hw2 => k0_hw2.2.2.1.2.2.2.2.2.2.2.2.2.2.2.2.2.2.2.2.2.2.2.2.1
theorem k0_dev171_lt : ∀ (v4 : BitVec 32) (k0_hw2 : k0_chk2 v4), (k0_dev171 v4) < nD := fun v4 k0_hw2 => k0_hw2.2.2.1.2.2.2.2.2.2.2.2.2.2.2.2.2.2.2.2.2.2.2.2.2.1
theorem k0_dev173_lt : ∀ (v4 : BitVec 32) (k0_hw2 : k0_chk2 v4), (k0_dev173 v4) < nD := fun v4 k0_hw2 => k0_hw2.2.2.1.2.2.2.2.2.2.2.2.2.2.2.2.2.2.2.2.2.2.2.2.2.2.1
theorem k0_dev175_lt : ∀ (v4 : BitVec 32) (k0_hw2 : k0_chk2 v4), (k0_dev175 v4) < nD := fun v4 k0_hw2 => k0_hw2.2.2.1.2.2.2.2.2.2.2.2.2.2.2.2.2.2.2.2.2.2.2.2.2.2.2.1
theorem k0_dev177_lt : ∀ (v4 : BitVec 32) (k0_hw2 : k0_chk2 v4), (k0_dev177 v4) < nD := fun v4 k0_hw2 => k0_hw2.2.2.1.2.2.2.2.2.2.2.2.2.2.2.2.2.2.2.2.2.2.2.2.2.2.2.2.1
theorem k0_dev179_lt : ∀ (v4 : BitVec 32) (k0_hw2 : k0_chk2 v4), (k0_dev179 v4) < nD := fun v4 k0_hw2 => k0_hw2.2.2.1.2.2.2.2.2.2.2.2.2.2.2.2.2.2.2.2.2.2.2.2.2.2.2.2.2.1
theorem k0_dev181_lt : ∀ (v4 : BitVec 32) (k0_hw2 : k0_chk2 v4), (k0_dev181 v4) < nD := fun v4 k0_hw2 => k0_hw2.2.2.1.2.2.2.2.2.2.2.2.2.2.2.2.2.2.2.2.2.2.2.2.2.2.2.2.2.2.1
theorem k0_dev183_lt : ∀ (v4 : BitVec 32) (k0_hw2 : k0_chk2 v4), (k0_dev183 v4) < nD := fun v4 k0_hw2 => k0_hw2.2.2.1.2.2.2.2.2.2.2.2.2.2.2.2.2.2.2.2.2.2.2.2.2.2.2.2.2.2.2.1
theorem k0_dev185_lt : ∀ (v4 : BitVec 32) (k0_hw2 : k0_chk2 v4), (k0_dev185 v4) < nD := fun v4 k0_hw2 => k0_hw2.2.2.1.2.2.2.2.2.2.2.2.2.2.2.2.2.2.2.2.2.2.2.2.2.2.2.2.2.2.2.2.1
theorem k0_dev187_lt : ∀ (v4 : BitVec 32) (k0_hw2 : k0_chk2 v4), (k0_dev187 v4) < nD := fun v4 k0_hw2 => k0_hw2.2.2.1.2.2.2.2.2.2.2.2.2.2.2.2.2.2.2.2.2.2.2.2.2.2.2.2.2.2.2.2.2.1
theorem k0_dev189_lt : ∀ (v4 : BitVec 32) (k0_hw2 : k0_chk2 v4), (k0_dev189 v4) < nD := fun v4 k0_hw2 => k0_hw2.2.2.1.2.2.2.2.2.2.2.2.2.2.2.2.2.2.2.2.2.2.2.2.2.2.2.2.2.2.2.2.2.2.1
theorem k0_dev191_lt : ∀ (v4 : BitVec 32) (k0_hw2 : k0_chk2 v4), (k0_dev191 v4) < nD := fun v4 k0_hw2 => k0_hw2.2.2.1.2.2.2.2.2.2.2.2.2.2.2.2.2.2.2.2.2.2.2.2.2.2.2.2.2.2.2.2.2.2.2
theorem k0_dev193_lt : ∀ (v4 : BitVec 32) (k0_hw2 : k0_chk2 v4), (k0_dev193 v4) < nD := fun v4 k0_hw2 => k0_hw2.2.2.2.1
theorem k0_dev195_lt : ∀ (v4 : BitVec 32) (k0_hw2 : k0_chk2 v4), (k0_dev195 v4) < nD := fun v4 k0_hw2 => k0_hw2.2.2.2.2.1
theorem k0_dev197_lt : ∀ (v4 : BitVec 32) (k0_hw2 : k0_chk2 v4), (k0_dev197 v4) < nD := fun v4 k0_hw2 => k0_hw2.2.2.2.2.2.1
theorem k0_dev199_lt : ∀ (v4 : BitVec 32) (k0_hw2 : k0_chk2 v4), (k0_dev199 v4) < nD := fun v4 k0_hw2 => k0_hw2.2.2.2.2.2.2.1
theorem k0_dev201_lt : ∀ (v4 : BitVec 32) (k0_hw2 : k0_chk2 v4), (k0_dev201 v4) < nD := fun v4 k0_hw2 => k0_hw2.2.2.2.2.2.2.2.1
theorem k0_dev203_lt : ∀ (v4 : BitVec 32) (k0_hw2 : k0_chk2 v4), (k0_dev203 v4) < nD := fun v4 k0_hw2 => k0_hw2.2.2.2.2.2.2.2.2.1
theorem k0_dev205_lt : ∀ (v4 : BitVec 32) (k0_hw2 : k0_chk2 v4), (k0_dev205 v4) < nD := fun v4 k0_hw2 => k0_hw2.2.2.2.2.2.2.2.2.2.1
theorem k0_dev207_lt : ∀ (v4 : BitVec 32) (k0_hw2 : k0_chk2 v4), (k0_dev207 v4) < nD := fun v4 k0_hw2 => k0_hw2.2.2.2.2.2.2.2.2.2.2.1
theorem k0_dev209_lt : ∀ (v4 : BitVec 32) (k0_hw2 : k0_chk2 v4), (k0_dev209 v4) < nD := fun v4 k0_hw2 => k0_hw2.2.2.2.2.2.2.2.2.2.2.2.1
theorem k0_dev211_lt : ∀ (v4 : BitVec 32) (k0_hw2 : k0_chk2 v4), (k0_dev211 v4) < nD := fun v4 k0_hw2 => k0_hw2.2.2.2.2.2.2.2.2.2.2.2.2.1
theorem k0_dev213_lt : ∀ (v4 : BitVec 32) (k0_hw2 : k0_chk2 v4), (k0_dev213 v4) < nD := fun v4 k0_hw2 => k0_hw2.2.2.2.2.2.2.2.2.2.2.2.2.2.1
theorem k0_dev215_lt : ∀ (v4 : BitVec 32) (k0_hw2 : k0_chk2 v4), (k0_dev215 v4) < nD := fun v4 k0_hw2 => k0_hw2.2.2.2.2.2.2.2.2.2.2.2.2.2.2.1
theorem k0_dev217_lt : ∀ (v4 : BitVec 32) (k0_hw2 : k0_chk2 v4), (k0_dev217 v4) < nD := fun v4 k0_hw2 => k0_hw2.2.2.2.2.2.2.2.2.2.2.2.2.2.2.2.1
theorem k0_dev219_lt : ∀ (v4 : BitVec 32) (k0_hw2 : k0_chk2 v4), (k0_dev219 v4) < nD := fun v4 k0_hw2 => k0_hw2.2.2.2.2.2.2.2.2.2.2.2.2.2.2.2.2.1
theorem k0_dev221_lt : ∀ (v4 : BitVec 32) (k0_hw2 : k0_chk2 v4), (k0_dev221 v4) < nD := fun v4 k0_hw2 => k0_hw2.2.2.2.2.2.2.2.2.2.2.2.2.2.2.2.2.2.1
theorem k0_dev223_lt : ∀ (v4 : BitVec 32) (k0_hw2 : k0_chk2 v4), (k0_dev223 v4) < nD := fun v4 k0_hw2 => k0_hw2.2.2.2.2.2.2.2.2.2.2.2.2.2.2.2.2.2.2.1
theorem k0_dev225_lt : ∀ (v4 : BitVec 32) (k0_hw2 : k0_chk2 v4), (k0_dev225 v4) < nD := fun v4 k0_hw2 => k0_hw2.2.2.2.2.2.2.2.2.2.2.2.2.2.2.2.2.2.2.2.1
theorem k0_dev227_lt : ∀ (v4 : BitVec 32) (k0_hw2 : k0_chk2 v4), (k0_dev227 v4) < nD := fun v4 k0_hw2 => k0_hw2.2.2.2.2.2.2.2.2.2.2.2.2.2.2.2.2.2.2.2.2.1
theorem k0_dev229_lt : ∀ (v4 : BitVec 32) (k0_hw2 : k0_chk2 v4), (k0_dev229 v4) < nD := fun v4 k0_hw2 => k0_hw2.2.2.2.2.2.2.2.2.2.2.2.2.2.2.2.2.2.2.2.2.2.1
theorem k0_dev231_lt : ∀ (v4 : BitVec 32) (k0_hw2 : k0_chk2 v4), (k0_dev231 v4) < nD := fun v4 k0_hw2 => k0_hw2.2.2.2.2.2.2.2.2.2.2.2.2.2.2.2.2.2.2.2.2.2.2.1
theorem k0_dev233_lt : ∀ (v4 : BitVec 32) (k0_hw2 : k0_chk2 v4), (k0_dev233 v4) < nD := fun v4 k0_hw2 => k0_hw2.2.2.2.2.2.2.2.2.2.2.2.2.2.2.2.2.2.2.2.2.2.2.2.1
theorem k0_dev235_lt : ∀ (v4 : BitVec 32) (k0_hw2 : k0_chk2 v4), (k0_dev235 v4) < nD := fun v4 k0_hw2 => k0_hw2.2.2.2.2.2.2.2.2.2.2.2.2.2.2.2.2.2.2.2.2.2.2.2.2.1
theorem k0_dev237_lt : ∀ (v4 : BitVec 32) (k0_hw2 : k0_chk2 v4), (k0_dev237 v4) < nD := fun v4 k0_hw2 => k0_hw2.2.2.2.2.2.2.2.2.2.2.2.2.2.2.2.2.2.2.2.2.2.2.2.2.2.1
theorem k0_dev239_lt : ∀ (v4 : BitVec 32) (k0_hw2 : k0_chk2 v4), (k0_dev239 v4) < nD := fun v4 k0_hw2 => k0_hw2.2.2.2.2.2.2.2.2.2.2.2.2.2.2.2.2.2.2.2.2.2.2.2.2.2.2.1
theorem k0_dev241_lt : ∀ (v4 : BitVec 32) (k0_hw2 : k0_chk2 v4), (k0_dev241 v4) < nD := fun v4 k0_hw2 => k0_hw2.2.2.2.2.2.2.2.2.2.2.2.2.2.2.2.2.2.2.2.2.2.2.2.2.2.2.2.1
theorem k0_dev243_lt : ∀ (v4 : BitVec 32) (k0_hw2 : k0_chk2 v4), (k0_dev243 v4) < nD := fun v4 k0_hw2 => k0_hw2.2.2.2.2.2.2.2.2.2.2.2.2.2.2.2.2.2.2.2.2.2.2.2.2.2.2.2.2.1
theorem k0_dev245_lt : ∀ (v4 : BitVec 32) (k0_hw2 : k0_chk2 v4), (k0_dev245 v4) < nD := fun v4 k0_hw2 => k0_hw2.2.2.2.2.2.2.2.2.2.2.2.2.2.2.2.2.2.2.2.2.2.2.2.2.2.2.2.2.2.1
theorem k0_dev247_lt : ∀ (v4 : BitVec 32) (k0_hw2 : k0_chk2 v4), (k0_dev247 v4) < nD := fun v4 k0_hw2 => k0_hw2.2.2.2.2.2.2.2.2.2.2.2.2.2.2.2.2.2.2.2.2.2.2.2.2.2.2.2.2.2.2.1
theorem k0_dev249_lt : ∀ (v4 : BitVec 32) (k0_hw2 : k0_chk2 v4), (k0_dev249 v4) < nD := fun v4 k0_hw2 => k0_hw2.2.2.2.2.2.2.2.2.2.2.2.2.2.2.2.2.2.2.2.2.2.2.2.2.2.2.2.2.2.2.2

def k0_off397 (v5100 : BitVec 32) : Fin 3 → Nat :=
  let c64_i32_5226 : BitVec 32 := 64#32
  let c3072_i32_5227 : BitVec 32 := 3072#32
  ![v5100.toNat, 64, 3072]
def k0_dev250 (v6 : BitVec 32) : Nat :=
  let c0_i32_5235 : BitVec 32 := 0#32
  let c1_i32_5234 : BitVec 32 := 1#32
  let v5235 : BitVec 32 := Scalar.muli v6 c1_i32_5234
  let v5236 : BitVec 32 := Scalar.addi c0_i32_5235 v5235
  v5236.toNat

def k0_chk1_0 (v6 : BitVec 32) : Prop :=
  ((k0_dev1 v6) < nD) ∧
  ((k0_dev4 v6) < nD) ∧
  ((k0_dev6 v6) < nD) ∧
  ((k0_dev8 v6) < nD) ∧
  ((k0_dev10 v6) < nD) ∧
  ((k0_dev12 v6) < nD) ∧
  ((k0_dev14 v6) < nD) ∧
  ((k0_dev16 v6) < nD) ∧
  ((k0_dev18 v6) < nD) ∧
  ((k0_dev20 v6) < nD) ∧
  ((k0_dev22 v6) < nD) ∧
  ((k0_dev24 v6) < nD) ∧
  ((k0_dev26 v6) < nD) ∧
  ((k0_dev28 v6) < nD) ∧
  ((k0_dev30 v6) < nD) ∧
  ((k0_dev32 v6) < nD) ∧
  ((k0_dev34 v6) < nD) ∧
  ((k0_dev36 v6) < nD) ∧
  ((k0_dev38 v6) < nD) ∧
  ((k0_dev40 v6) < nD) ∧
  ((k0_dev42 v6) < nD) ∧
  ((k0_dev44 v6) < nD) ∧
  ((k0_dev46 v6) < nD) ∧
  ((k0_dev48 v6) < nD) ∧
  ((k0_dev50 v6) < nD) ∧
  ((k0_dev52 v6) < nD) ∧
  ((k0_dev54 v6) < nD) ∧
  ((k0_dev56 v6) < nD) ∧
  ((k0_dev58 v6) < nD) ∧
  ((k0_dev60 v6) < nD) ∧
  ((k0_dev62 v6) < nD) ∧
  ((k0_dev64 v6) < nD)
def k0_chk1_1 (v6 : BitVec 32) : Prop :=
  ((k0_dev66 v6) < nD) ∧
  ((k0_dev68 v6) < nD) ∧
  ((k0_dev70 v6) < nD) ∧
  ((k0_dev72 v6) < nD) ∧
  ((k0_dev74 v6) < nD) ∧
  ((k0_dev76 v6) < nD) ∧
  ((k0_dev78 v6) < nD) ∧
  ((k0_dev80 v6) < nD) ∧
  ((k0_dev82 v6) < nD) ∧
  ((k0_dev84 v6) < nD) ∧
  ((k0_dev86 v6) < nD) ∧
  ((k0_dev88 v6) < nD) ∧
  ((k0_dev90 v6) < nD) ∧
  ((k0_dev92 v6) < nD) ∧
  ((k0_dev94 v6) < nD) ∧
  ((k0_dev96 v6) < nD) ∧
  ((k0_dev98 v6) < nD) ∧
  ((k0_dev100 v6) < nD) ∧
  ((k0_dev102 v6) < nD) ∧
  ((k0_dev104 v6) < nD) ∧
  ((k0_dev106 v6) < nD) ∧
  ((k0_dev108 v6) < nD) ∧
  ((k0_dev110 v6) < nD) ∧
  ((k0_dev112 v6) < nD) ∧
  ((k0_dev114 v6) < nD) ∧
  ((k0_dev116 v6) < nD) ∧
  ((k0_dev118 v6) < nD) ∧
  ((k0_dev120 v6) < nD) ∧
  ((k0_dev122 v6) < nD) ∧
  ((k0_dev124 v6) < nD) ∧
  ((k0_dev126 v6) < nD) ∧
  ((k0_dev128 v6) < nD)
def k0_chk1_2 (v6 : BitVec 32) : Prop :=
  ((k0_dev130 v6) < nD) ∧
  ((k0_dev132 v6) < nD) ∧
  ((k0_dev134 v6) < nD) ∧
  ((k0_dev136 v6) < nD) ∧
  ((k0_dev138 v6) < nD) ∧
  ((k0_dev140 v6) < nD) ∧
  ((k0_dev142 v6) < nD) ∧
  ((k0_dev144 v6) < nD) ∧
  ((k0_dev146 v6) < nD) ∧
  ((k0_dev148 v6) < nD) ∧
  ((k0_dev150 v6) < nD) ∧
  ((k0_dev152 v6) < nD) ∧
  ((k0_dev154 v6) < nD) ∧
  ((k0_dev156 v6) < nD) ∧
  ((k0_dev158 v6) < nD) ∧
  ((k0_dev160 v6) < nD) ∧
  ((k0_dev162 v6) < nD) ∧
  ((k0_dev164 v6) < nD) ∧
  ((k0_dev166 v6) < nD) ∧
  ((k0_dev168 v6) < nD) ∧
  ((k0_dev170 v6) < nD) ∧
  ((k0_dev172 v6) < nD) ∧
  ((k0_dev174 v6) < nD) ∧
  ((k0_dev176 v6) < nD) ∧
  ((k0_dev178 v6) < nD) ∧
  ((k0_dev180 v6) < nD) ∧
  ((k0_dev182 v6) < nD) ∧
  ((k0_dev184 v6) < nD) ∧
  ((k0_dev186 v6) < nD) ∧
  ((k0_dev188 v6) < nD) ∧
  ((k0_dev190 v6) < nD) ∧
  ((k0_dev192 v6) < nD)
def k0_chk1_3 (v6 : BitVec 32) : Prop :=
  ((k0_dev194 v6) < nD) ∧
  ((k0_dev196 v6) < nD) ∧
  ((k0_dev198 v6) < nD) ∧
  ((k0_dev200 v6) < nD) ∧
  ((k0_dev202 v6) < nD) ∧
  ((k0_dev204 v6) < nD) ∧
  ((k0_dev206 v6) < nD) ∧
  ((k0_dev208 v6) < nD) ∧
  ((k0_dev210 v6) < nD) ∧
  ((k0_dev212 v6) < nD) ∧
  ((k0_dev214 v6) < nD) ∧
  ((k0_dev216 v6) < nD) ∧
  ((k0_dev218 v6) < nD) ∧
  ((k0_dev220 v6) < nD) ∧
  ((k0_dev222 v6) < nD) ∧
  ((k0_dev224 v6) < nD) ∧
  ((k0_dev226 v6) < nD) ∧
  ((k0_dev228 v6) < nD) ∧
  ((k0_dev230 v6) < nD) ∧
  ((k0_dev232 v6) < nD) ∧
  ((k0_dev234 v6) < nD) ∧
  ((k0_dev236 v6) < nD) ∧
  ((k0_dev238 v6) < nD) ∧
  ((k0_dev240 v6) < nD) ∧
  ((k0_dev242 v6) < nD) ∧
  ((k0_dev244 v6) < nD) ∧
  ((k0_dev246 v6) < nD) ∧
  ((k0_dev248 v6) < nD) ∧
  ((k0_dev250 v6) < nD)
def k0_chk1 (v6 : BitVec 32) : Prop :=
  k0_chk1_0 v6 ∧
  k0_chk1_1 v6 ∧
  k0_chk1_2 v6 ∧
  k0_chk1_3 v6
theorem k0_dev1_lt : ∀ (v6 : BitVec 32) (k0_hw1 : k0_chk1 v6), (k0_dev1 v6) < nD := fun v6 k0_hw1 => k0_hw1.1.1
theorem k0_dev4_lt : ∀ (v6 : BitVec 32) (k0_hw1 : k0_chk1 v6), (k0_dev4 v6) < nD := fun v6 k0_hw1 => k0_hw1.1.2.1
theorem k0_dev6_lt : ∀ (v6 : BitVec 32) (k0_hw1 : k0_chk1 v6), (k0_dev6 v6) < nD := fun v6 k0_hw1 => k0_hw1.1.2.2.1
theorem k0_dev8_lt : ∀ (v6 : BitVec 32) (k0_hw1 : k0_chk1 v6), (k0_dev8 v6) < nD := fun v6 k0_hw1 => k0_hw1.1.2.2.2.1
theorem k0_dev10_lt : ∀ (v6 : BitVec 32) (k0_hw1 : k0_chk1 v6), (k0_dev10 v6) < nD := fun v6 k0_hw1 => k0_hw1.1.2.2.2.2.1
theorem k0_dev12_lt : ∀ (v6 : BitVec 32) (k0_hw1 : k0_chk1 v6), (k0_dev12 v6) < nD := fun v6 k0_hw1 => k0_hw1.1.2.2.2.2.2.1
theorem k0_dev14_lt : ∀ (v6 : BitVec 32) (k0_hw1 : k0_chk1 v6), (k0_dev14 v6) < nD := fun v6 k0_hw1 => k0_hw1.1.2.2.2.2.2.2.1
theorem k0_dev16_lt : ∀ (v6 : BitVec 32) (k0_hw1 : k0_chk1 v6), (k0_dev16 v6) < nD := fun v6 k0_hw1 => k0_hw1.1.2.2.2.2.2.2.2.1
theorem k0_dev18_lt : ∀ (v6 : BitVec 32) (k0_hw1 : k0_chk1 v6), (k0_dev18 v6) < nD := fun v6 k0_hw1 => k0_hw1.1.2.2.2.2.2.2.2.2.1
theorem k0_dev20_lt : ∀ (v6 : BitVec 32) (k0_hw1 : k0_chk1 v6), (k0_dev20 v6) < nD := fun v6 k0_hw1 => k0_hw1.1.2.2.2.2.2.2.2.2.2.1
theorem k0_dev22_lt : ∀ (v6 : BitVec 32) (k0_hw1 : k0_chk1 v6), (k0_dev22 v6) < nD := fun v6 k0_hw1 => k0_hw1.1.2.2.2.2.2.2.2.2.2.2.1
theorem k0_dev24_lt : ∀ (v6 : BitVec 32) (k0_hw1 : k0_chk1 v6), (k0_dev24 v6) < nD := fun v6 k0_hw1 => k0_hw1.1.2.2.2.2.2.2.2.2.2.2.2.1
theorem k0_dev26_lt : ∀ (v6 : BitVec 32) (k0_hw1 : k0_chk1 v6), (k0_dev26 v6) < nD := fun v6 k0_hw1 => k0_hw1.1.2.2.2.2.2.2.2.2.2.2.2.2.1
theorem k0_dev28_lt : ∀ (v6 : BitVec 32) (k0_hw1 : k0_chk1 v6), (k0_dev28 v6) < nD := fun v6 k0_hw1 => k0_hw1.1.2.2.2.2.2.2.2.2.2.2.2.2.2.1
theorem k0_dev30_lt : ∀ (v6 : BitVec 32) (k0_hw1 : k0_chk1 v6), (k0_dev30 v6) < nD := fun v6 k0_hw1 => k0_hw1.1.2.2.2.2.2.2.2.2.2.2.2.2.2.2.1
theorem k0_dev32_lt : ∀ (v6 : BitVec 32) (k0_hw1 : k0_chk1 v6), (k0_dev32 v6) < nD := fun v6 k0_hw1 => k0_hw1.1.2.2.2.2.2.2.2.2.2.2.2.2.2.2.2.1
theorem k0_dev34_lt : ∀ (v6 : BitVec 32) (k0_hw1 : k0_chk1 v6), (k0_dev34 v6) < nD := fun v6 k0_hw1 => k0_hw1.1.2.2.2.2.2.2.2.2.2.2.2.2.2.2.2.2.1
theorem k0_dev36_lt : ∀ (v6 : BitVec 32) (k0_hw1 : k0_chk1 v6), (k0_dev36 v6) < nD := fun v6 k0_hw1 => k0_hw1.1.2.2.2.2.2.2.2.2.2.2.2.2.2.2.2.2.2.1
theorem k0_dev38_lt : ∀ (v6 : BitVec 32) (k0_hw1 : k0_chk1 v6), (k0_dev38 v6) < nD := fun v6 k0_hw1 => k0_hw1.1.2.2.2.2.2.2.2.2.2.2.2.2.2.2.2.2.2.2.1
theorem k0_dev40_lt : ∀ (v6 : BitVec 32) (k0_hw1 : k0_chk1 v6), (k0_dev40 v6) < nD := fun v6 k0_hw1 => k0_hw1.1.2.2.2.2.2.2.2.2.2.2.2.2.2.2.2.2.2.2.2.1
theorem k0_dev42_lt : ∀ (v6 : BitVec 32) (k0_hw1 : k0_chk1 v6), (k0_dev42 v6) < nD := fun v6 k0_hw1 => k0_hw1.1.2.2.2.2.2.2.2.2.2.2.2.2.2.2.2.2.2.2.2.2.1
theorem k0_dev44_lt : ∀ (v6 : BitVec 32) (k0_hw1 : k0_chk1 v6), (k0_dev44 v6) < nD := fun v6 k0_hw1 => k0_hw1.1.2.2.2.2.2.2.2.2.2.2.2.2.2.2.2.2.2.2.2.2.2.1
theorem k0_dev46_lt : ∀ (v6 : BitVec 32) (k0_hw1 : k0_chk1 v6), (k0_dev46 v6) < nD := fun v6 k0_hw1 => k0_hw1.1.2.2.2.2.2.2.2.2.2.2.2.2.2.2.2.2.2.2.2.2.2.2.1
theorem k0_dev48_lt : ∀ (v6 : BitVec 32) (k0_hw1 : k0_chk1 v6), (k0_dev48 v6) < nD := fun v6 k0_hw1 => k0_hw1.1.2.2.2.2.2.2.2.2.2.2.2.2.2.2.2.2.2.2.2.2.2.2.2.1
theorem k0_dev50_lt : ∀ (v6 : BitVec 32) (k0_hw1 : k0_chk1 v6), (k0_dev50 v6) < nD := fun v6 k0_hw1 => k0_hw1.1.2.2.2.2.2.2.2.2.2.2.2.2.2.2.2.2.2.2.2.2.2.2.2.2.1
theorem k0_dev52_lt : ∀ (v6 : BitVec 32) (k0_hw1 : k0_chk1 v6), (k0_dev52 v6) < nD := fun v6 k0_hw1 => k0_hw1.1.2.2.2.2.2.2.2.2.2.2.2.2.2.2.2.2.2.2.2.2.2.2.2.2.2.1
theorem k0_dev54_lt : ∀ (v6 : BitVec 32) (k0_hw1 : k0_chk1 v6), (k0_dev54 v6) < nD := fun v6 k0_hw1 => k0_hw1.1.2.2.2.2.2.2.2.2.2.2.2.2.2.2.2.2.2.2.2.2.2.2.2.2.2.2.1
theorem k0_dev56_lt : ∀ (v6 : BitVec 32) (k0_hw1 : k0_chk1 v6), (k0_dev56 v6) < nD := fun v6 k0_hw1 => k0_hw1.1.2.2.2.2.2.2.2.2.2.2.2.2.2.2.2.2.2.2.2.2.2.2.2.2.2.2.2.1
theorem k0_dev58_lt : ∀ (v6 : BitVec 32) (k0_hw1 : k0_chk1 v6), (k0_dev58 v6) < nD := fun v6 k0_hw1 => k0_hw1.1.2.2.2.2.2.2.2.2.2.2.2.2.2.2.2.2.2.2.2.2.2.2.2.2.2.2.2.2.1
theorem k0_dev60_lt : ∀ (v6 : BitVec 32) (k0_hw1 : k0_chk1 v6), (k0_dev60 v6) < nD := fun v6 k0_hw1 => k0_hw1.1.2.2.2.2.2.2.2.2.2.2.2.2.2.2.2.2.2.2.2.2.2.2.2.2.2.2.2.2.2.1
theorem k0_dev62_lt : ∀ (v6 : BitVec 32) (k0_hw1 : k0_chk1 v6), (k0_dev62 v6) < nD := fun v6 k0_hw1 => k0_hw1.1.2.2.2.2.2.2.2.2.2.2.2.2.2.2.2.2.2.2.2.2.2.2.2.2.2.2.2.2.2.2.1
theorem k0_dev64_lt : ∀ (v6 : BitVec 32) (k0_hw1 : k0_chk1 v6), (k0_dev64 v6) < nD := fun v6 k0_hw1 => k0_hw1.1.2.2.2.2.2.2.2.2.2.2.2.2.2.2.2.2.2.2.2.2.2.2.2.2.2.2.2.2.2.2.2
theorem k0_dev66_lt : ∀ (v6 : BitVec 32) (k0_hw1 : k0_chk1 v6), (k0_dev66 v6) < nD := fun v6 k0_hw1 => k0_hw1.2.1.1
theorem k0_dev68_lt : ∀ (v6 : BitVec 32) (k0_hw1 : k0_chk1 v6), (k0_dev68 v6) < nD := fun v6 k0_hw1 => k0_hw1.2.1.2.1
theorem k0_dev70_lt : ∀ (v6 : BitVec 32) (k0_hw1 : k0_chk1 v6), (k0_dev70 v6) < nD := fun v6 k0_hw1 => k0_hw1.2.1.2.2.1
theorem k0_dev72_lt : ∀ (v6 : BitVec 32) (k0_hw1 : k0_chk1 v6), (k0_dev72 v6) < nD := fun v6 k0_hw1 => k0_hw1.2.1.2.2.2.1
theorem k0_dev74_lt : ∀ (v6 : BitVec 32) (k0_hw1 : k0_chk1 v6), (k0_dev74 v6) < nD := fun v6 k0_hw1 => k0_hw1.2.1.2.2.2.2.1
theorem k0_dev76_lt : ∀ (v6 : BitVec 32) (k0_hw1 : k0_chk1 v6), (k0_dev76 v6) < nD := fun v6 k0_hw1 => k0_hw1.2.1.2.2.2.2.2.1
theorem k0_dev78_lt : ∀ (v6 : BitVec 32) (k0_hw1 : k0_chk1 v6), (k0_dev78 v6) < nD := fun v6 k0_hw1 => k0_hw1.2.1.2.2.2.2.2.2.1
theorem k0_dev80_lt : ∀ (v6 : BitVec 32) (k0_hw1 : k0_chk1 v6), (k0_dev80 v6) < nD := fun v6 k0_hw1 => k0_hw1.2.1.2.2.2.2.2.2.2.1
theorem k0_dev82_lt : ∀ (v6 : BitVec 32) (k0_hw1 : k0_chk1 v6), (k0_dev82 v6) < nD := fun v6 k0_hw1 => k0_hw1.2.1.2.2.2.2.2.2.2.2.1
theorem k0_dev84_lt : ∀ (v6 : BitVec 32) (k0_hw1 : k0_chk1 v6), (k0_dev84 v6) < nD := fun v6 k0_hw1 => k0_hw1.2.1.2.2.2.2.2.2.2.2.2.1
theorem k0_dev86_lt : ∀ (v6 : BitVec 32) (k0_hw1 : k0_chk1 v6), (k0_dev86 v6) < nD := fun v6 k0_hw1 => k0_hw1.2.1.2.2.2.2.2.2.2.2.2.2.1
theorem k0_dev88_lt : ∀ (v6 : BitVec 32) (k0_hw1 : k0_chk1 v6), (k0_dev88 v6) < nD := fun v6 k0_hw1 => k0_hw1.2.1.2.2.2.2.2.2.2.2.2.2.2.1
theorem k0_dev90_lt : ∀ (v6 : BitVec 32) (k0_hw1 : k0_chk1 v6), (k0_dev90 v6) < nD := fun v6 k0_hw1 => k0_hw1.2.1.2.2.2.2.2.2.2.2.2.2.2.2.1
theorem k0_dev92_lt : ∀ (v6 : BitVec 32) (k0_hw1 : k0_chk1 v6), (k0_dev92 v6) < nD := fun v6 k0_hw1 => k0_hw1.2.1.2.2.2.2.2.2.2.2.2.2.2.2.2.1
theorem k0_dev94_lt : ∀ (v6 : BitVec 32) (k0_hw1 : k0_chk1 v6), (k0_dev94 v6) < nD := fun v6 k0_hw1 => k0_hw1.2.1.2.2.2.2.2.2.2.2.2.2.2.2.2.2.1
theorem k0_dev96_lt : ∀ (v6 : BitVec 32) (k0_hw1 : k0_chk1 v6), (k0_dev96 v6) < nD := fun v6 k0_hw1 => k0_hw1.2.1.2.2.2.2.2.2.2.2.2.2.2.2.2.2.2.1
theorem k0_dev98_lt : ∀ (v6 : BitVec 32) (k0_hw1 : k0_chk1 v6), (k0_dev98 v6) < nD := fun v6 k0_hw1 => k0_hw1.2.1.2.2.2.2.2.2.2.2.2.2.2.2.2.2.2.2.1
theorem k0_dev100_lt : ∀ (v6 : BitVec 32) (k0_hw1 : k0_chk1 v6), (k0_dev100 v6) < nD := fun v6 k0_hw1 => k0_hw1.2.1.2.2.2.2.2.2.2.2.2.2.2.2.2.2.2.2.2.1
theorem k0_dev102_lt : ∀ (v6 : BitVec 32) (k0_hw1 : k0_chk1 v6), (k0_dev102 v6) < nD := fun v6 k0_hw1 => k0_hw1.2.1.2.2.2.2.2.2.2.2.2.2.2.2.2.2.2.2.2.2.1
theorem k0_dev104_lt : ∀ (v6 : BitVec 32) (k0_hw1 : k0_chk1 v6), (k0_dev104 v6) < nD := fun v6 k0_hw1 => k0_hw1.2.1.2.2.2.2.2.2.2.2.2.2.2.2.2.2.2.2.2.2.2.1
theorem k0_dev106_lt : ∀ (v6 : BitVec 32) (k0_hw1 : k0_chk1 v6), (k0_dev106 v6) < nD := fun v6 k0_hw1 => k0_hw1.2.1.2.2.2.2.2.2.2.2.2.2.2.2.2.2.2.2.2.2.2.2.1
theorem k0_dev108_lt : ∀ (v6 : BitVec 32) (k0_hw1 : k0_chk1 v6), (k0_dev108 v6) < nD := fun v6 k0_hw1 => k0_hw1.2.1.2.2.2.2.2.2.2.2.2.2.2.2.2.2.2.2.2.2.2.2.2.1
theorem k0_dev110_lt : ∀ (v6 : BitVec 32) (k0_hw1 : k0_chk1 v6), (k0_dev110 v6) < nD := fun v6 k0_hw1 => k0_hw1.2.1.2.2.2.2.2.2.2.2.2.2.2.2.2.2.2.2.2.2.2.2.2.2.1
theorem k0_dev112_lt : ∀ (v6 : BitVec 32) (k0_hw1 : k0_chk1 v6), (k0_dev112 v6) < nD := fun v6 k0_hw1 => k0_hw1.2.1.2.2.2.2.2.2.2.2.2.2.2.2.2.2.2.2.2.2.2.2.2.2.2.1
theorem k0_dev114_lt : ∀ (v6 : BitVec 32) (k0_hw1 : k0_chk1 v6), (k0_dev114 v6) < nD := fun v6 k0_hw1 => k0_hw1.2.1.2.2.2.2.2.2.2.2.2.2.2.2.2.2.2.2.2.2.2.2.2.2.2.2.1
theorem k0_dev116_lt : ∀ (v6 : BitVec 32) (k0_hw1 : k0_chk1 v6), (k0_dev116 v6) < nD := fun v6 k0_hw1 => k0_hw1.2.1.2.2.2.2.2.2.2.2.2.2.2.2.2.2.2.2.2.2.2.2.2.2.2.2.2.1
theorem k0_dev118_lt : ∀ (v6 : BitVec 32) (k0_hw1 : k0_chk1 v6), (k0_dev118 v6) < nD := fun v6 k0_hw1 => k0_hw1.2.1.2.2.2.2.2.2.2.2.2.2.2.2.2.2.2.2.2.2.2.2.2.2.2.2.2.2.1
theorem k0_dev120_lt : ∀ (v6 : BitVec 32) (k0_hw1 : k0_chk1 v6), (k0_dev120 v6) < nD := fun v6 k0_hw1 => k0_hw1.2.1.2.2.2.2.2.2.2.2.2.2.2.2.2.2.2.2.2.2.2.2.2.2.2.2.2.2.2.1
theorem k0_dev122_lt : ∀ (v6 : BitVec 32) (k0_hw1 : k0_chk1 v6), (k0_dev122 v6) < nD := fun v6 k0_hw1 => k0_hw1.2.1.2.2.2.2.2.2.2.2.2.2.2.2.2.2.2.2.2.2.2.2.2.2.2.2.2.2.2.2.1
theorem k0_dev124_lt : ∀ (v6 : BitVec 32) (k0_hw1 : k0_chk1 v6), (k0_dev124 v6) < nD := fun v6 k0_hw1 => k0_hw1.2.1.2.2.2.2.2.2.2.2.2.2.2.2.2.2.2.2.2.2.2.2.2.2.2.2.2.2.2.2.2.1
theorem k0_dev126_lt : ∀ (v6 : BitVec 32) (k0_hw1 : k0_chk1 v6), (k0_dev126 v6) < nD := fun v6 k0_hw1 => k0_hw1.2.1.2.2.2.2.2.2.2.2.2.2.2.2.2.2.2.2.2.2.2.2.2.2.2.2.2.2.2.2.2.2.1
theorem k0_dev128_lt : ∀ (v6 : BitVec 32) (k0_hw1 : k0_chk1 v6), (k0_dev128 v6) < nD := fun v6 k0_hw1 => k0_hw1.2.1.2.2.2.2.2.2.2.2.2.2.2.2.2.2.2.2.2.2.2.2.2.2.2.2.2.2.2.2.2.2.2
theorem k0_dev130_lt : ∀ (v6 : BitVec 32) (k0_hw1 : k0_chk1 v6), (k0_dev130 v6) < nD := fun v6 k0_hw1 => k0_hw1.2.2.1.1
theorem k0_dev132_lt : ∀ (v6 : BitVec 32) (k0_hw1 : k0_chk1 v6), (k0_dev132 v6) < nD := fun v6 k0_hw1 => k0_hw1.2.2.1.2.1
theorem k0_dev134_lt : ∀ (v6 : BitVec 32) (k0_hw1 : k0_chk1 v6), (k0_dev134 v6) < nD := fun v6 k0_hw1 => k0_hw1.2.2.1.2.2.1
theorem k0_dev136_lt : ∀ (v6 : BitVec 32) (k0_hw1 : k0_chk1 v6), (k0_dev136 v6) < nD := fun v6 k0_hw1 => k0_hw1.2.2.1.2.2.2.1
theorem k0_dev138_lt : ∀ (v6 : BitVec 32) (k0_hw1 : k0_chk1 v6), (k0_dev138 v6) < nD := fun v6 k0_hw1 => k0_hw1.2.2.1.2.2.2.2.1
theorem k0_dev140_lt : ∀ (v6 : BitVec 32) (k0_hw1 : k0_chk1 v6), (k0_dev140 v6) < nD := fun v6 k0_hw1 => k0_hw1.2.2.1.2.2.2.2.2.1
theorem k0_dev142_lt : ∀ (v6 : BitVec 32) (k0_hw1 : k0_chk1 v6), (k0_dev142 v6) < nD := fun v6 k0_hw1 => k0_hw1.2.2.1.2.2.2.2.2.2.1
theorem k0_dev144_lt : ∀ (v6 : BitVec 32) (k0_hw1 : k0_chk1 v6), (k0_dev144 v6) < nD := fun v6 k0_hw1 => k0_hw1.2.2.1.2.2.2.2.2.2.2.1
theorem k0_dev146_lt : ∀ (v6 : BitVec 32) (k0_hw1 : k0_chk1 v6), (k0_dev146 v6) < nD := fun v6 k0_hw1 => k0_hw1.2.2.1.2.2.2.2.2.2.2.2.1
theorem k0_dev148_lt : ∀ (v6 : BitVec 32) (k0_hw1 : k0_chk1 v6), (k0_dev148 v6) < nD := fun v6 k0_hw1 => k0_hw1.2.2.1.2.2.2.2.2.2.2.2.2.1
theorem k0_dev150_lt : ∀ (v6 : BitVec 32) (k0_hw1 : k0_chk1 v6), (k0_dev150 v6) < nD := fun v6 k0_hw1 => k0_hw1.2.2.1.2.2.2.2.2.2.2.2.2.2.1
theorem k0_dev152_lt : ∀ (v6 : BitVec 32) (k0_hw1 : k0_chk1 v6), (k0_dev152 v6) < nD := fun v6 k0_hw1 => k0_hw1.2.2.1.2.2.2.2.2.2.2.2.2.2.2.1
theorem k0_dev154_lt : ∀ (v6 : BitVec 32) (k0_hw1 : k0_chk1 v6), (k0_dev154 v6) < nD := fun v6 k0_hw1 => k0_hw1.2.2.1.2.2.2.2.2.2.2.2.2.2.2.2.1
theorem k0_dev156_lt : ∀ (v6 : BitVec 32) (k0_hw1 : k0_chk1 v6), (k0_dev156 v6) < nD := fun v6 k0_hw1 => k0_hw1.2.2.1.2.2.2.2.2.2.2.2.2.2.2.2.2.1
theorem k0_dev158_lt : ∀ (v6 : BitVec 32) (k0_hw1 : k0_chk1 v6), (k0_dev158 v6) < nD := fun v6 k0_hw1 => k0_hw1.2.2.1.2.2.2.2.2.2.2.2.2.2.2.2.2.2.1
theorem k0_dev160_lt : ∀ (v6 : BitVec 32) (k0_hw1 : k0_chk1 v6), (k0_dev160 v6) < nD := fun v6 k0_hw1 => k0_hw1.2.2.1.2.2.2.2.2.2.2.2.2.2.2.2.2.2.2.1
theorem k0_dev162_lt : ∀ (v6 : BitVec 32) (k0_hw1 : k0_chk1 v6), (k0_dev162 v6) < nD := fun v6 k0_hw1 => k0_hw1.2.2.1.2.2.2.2.2.2.2.2.2.2.2.2.2.2.2.2.1
theorem k0_dev164_lt : ∀ (v6 : BitVec 32) (k0_hw1 : k0_chk1 v6), (k0_dev164 v6) < nD := fun v6 k0_hw1 => k0_hw1.2.2.1.2.2.2.2.2.2.2.2.2.2.2.2.2.2.2.2.2.1
theorem k0_dev166_lt : ∀ (v6 : BitVec 32) (k0_hw1 : k0_chk1 v6), (k0_dev166 v6) < nD := fun v6 k0_hw1 => k0_hw1.2.2.1.2.2.2.2.2.2.2.2.2.2.2.2.2.2.2.2.2.2.1
theorem k0_dev168_lt : ∀ (v6 : BitVec 32) (k0_hw1 : k0_chk1 v6), (k0_dev168 v6) < nD := fun v6 k0_hw1 => k0_hw1.2.2.1.2.2.2.2.2.2.2.2.2.2.2.2.2.2.2.2.2.2.2.1
theorem k0_dev170_lt : ∀ (v6 : BitVec 32) (k0_hw1 : k0_chk1 v6), (k0_dev170 v6) < nD := fun v6 k0_hw1 => k0_hw1.2.2.1.2.2.2.2.2.2.2.2.2.2.2.2.2.2.2.2.2.2.2.2.1
theorem k0_dev172_lt : ∀ (v6 : BitVec 32) (k0_hw1 : k0_chk1 v6), (k0_dev172 v6) < nD := fun v6 k0_hw1 => k0_hw1.2.2.1.2.2.2.2.2.2.2.2.2.2.2.2.2.2.2.2.2.2.2.2.2.1
theorem k0_dev174_lt : ∀ (v6 : BitVec 32) (k0_hw1 : k0_chk1 v6), (k0_dev174 v6) < nD := fun v6 k0_hw1 => k0_hw1.2.2.1.2.2.2.2.2.2.2.2.2.2.2.2.2.2.2.2.2.2.2.2.2.2.1
theorem k0_dev176_lt : ∀ (v6 : BitVec 32) (k0_hw1 : k0_chk1 v6), (k0_dev176 v6) < nD := fun v6 k0_hw1 => k0_hw1.2.2.1.2.2.2.2.2.2.2.2.2.2.2.2.2.2.2.2.2.2.2.2.2.2.2.1
theorem k0_dev178_lt : ∀ (v6 : BitVec 32) (k0_hw1 : k0_chk1 v6), (k0_dev178 v6) < nD := fun v6 k0_hw1 => k0_hw1.2.2.1.2.2.2.2.2.2.2.2.2.2.2.2.2.2.2.2.2.2.2.2.2.2.2.2.1
theorem k0_dev180_lt : ∀ (v6 : BitVec 32) (k0_hw1 : k0_chk1 v6), (k0_dev180 v6) < nD := fun v6 k0_hw1 => k0_hw1.2.2.1.2.2.2.2.2.2.2.2.2.2.2.2.2.2.2.2.2.2.2.2.2.2.2.2.2.1
theorem k0_dev182_lt : ∀ (v6 : BitVec 32) (k0_hw1 : k0_chk1 v6), (k0_dev182 v6) < nD := fun v6 k0_hw1 => k0_hw1.2.2.1.2.2.2.2.2.2.2.2.2.2.2.2.2.2.2.2.2.2.2.2.2.2.2.2.2.2.1
theorem k0_dev184_lt : ∀ (v6 : BitVec 32) (k0_hw1 : k0_chk1 v6), (k0_dev184 v6) < nD := fun v6 k0_hw1 => k0_hw1.2.2.1.2.2.2.2.2.2.2.2.2.2.2.2.2.2.2.2.2.2.2.2.2.2.2.2.2.2.2.1
theorem k0_dev186_lt : ∀ (v6 : BitVec 32) (k0_hw1 : k0_chk1 v6), (k0_dev186 v6) < nD := fun v6 k0_hw1 => k0_hw1.2.2.1.2.2.2.2.2.2.2.2.2.2.2.2.2.2.2.2.2.2.2.2.2.2.2.2.2.2.2.2.1
theorem k0_dev188_lt : ∀ (v6 : BitVec 32) (k0_hw1 : k0_chk1 v6), (k0_dev188 v6) < nD := fun v6 k0_hw1 => k0_hw1.2.2.1.2.2.2.2.2.2.2.2.2.2.2.2.2.2.2.2.2.2.2.2.2.2.2.2.2.2.2.2.2.1
theorem k0_dev190_lt : ∀ (v6 : BitVec 32) (k0_hw1 : k0_chk1 v6), (k0_dev190 v6) < nD := fun v6 k0_hw1 => k0_hw1.2.2.1.2.2.2.2.2.2.2.2.2.2.2.2.2.2.2.2.2.2.2.2.2.2.2.2.2.2.2.2.2.2.1
theorem k0_dev192_lt : ∀ (v6 : BitVec 32) (k0_hw1 : k0_chk1 v6), (k0_dev192 v6) < nD := fun v6 k0_hw1 => k0_hw1.2.2.1.2.2.2.2.2.2.2.2.2.2.2.2.2.2.2.2.2.2.2.2.2.2.2.2.2.2.2.2.2.2.2
theorem k0_dev194_lt : ∀ (v6 : BitVec 32) (k0_hw1 : k0_chk1 v6), (k0_dev194 v6) < nD := fun v6 k0_hw1 => k0_hw1.2.2.2.1
theorem k0_dev196_lt : ∀ (v6 : BitVec 32) (k0_hw1 : k0_chk1 v6), (k0_dev196 v6) < nD := fun v6 k0_hw1 => k0_hw1.2.2.2.2.1
theorem k0_dev198_lt : ∀ (v6 : BitVec 32) (k0_hw1 : k0_chk1 v6), (k0_dev198 v6) < nD := fun v6 k0_hw1 => k0_hw1.2.2.2.2.2.1
theorem k0_dev200_lt : ∀ (v6 : BitVec 32) (k0_hw1 : k0_chk1 v6), (k0_dev200 v6) < nD := fun v6 k0_hw1 => k0_hw1.2.2.2.2.2.2.1
theorem k0_dev202_lt : ∀ (v6 : BitVec 32) (k0_hw1 : k0_chk1 v6), (k0_dev202 v6) < nD := fun v6 k0_hw1 => k0_hw1.2.2.2.2.2.2.2.1
theorem k0_dev204_lt : ∀ (v6 : BitVec 32) (k0_hw1 : k0_chk1 v6), (k0_dev204 v6) < nD := fun v6 k0_hw1 => k0_hw1.2.2.2.2.2.2.2.2.1
theorem k0_dev206_lt : ∀ (v6 : BitVec 32) (k0_hw1 : k0_chk1 v6), (k0_dev206 v6) < nD := fun v6 k0_hw1 => k0_hw1.2.2.2.2.2.2.2.2.2.1
theorem k0_dev208_lt : ∀ (v6 : BitVec 32) (k0_hw1 : k0_chk1 v6), (k0_dev208 v6) < nD := fun v6 k0_hw1 => k0_hw1.2.2.2.2.2.2.2.2.2.2.1
theorem k0_dev210_lt : ∀ (v6 : BitVec 32) (k0_hw1 : k0_chk1 v6), (k0_dev210 v6) < nD := fun v6 k0_hw1 => k0_hw1.2.2.2.2.2.2.2.2.2.2.2.1
theorem k0_dev212_lt : ∀ (v6 : BitVec 32) (k0_hw1 : k0_chk1 v6), (k0_dev212 v6) < nD := fun v6 k0_hw1 => k0_hw1.2.2.2.2.2.2.2.2.2.2.2.2.1
theorem k0_dev214_lt : ∀ (v6 : BitVec 32) (k0_hw1 : k0_chk1 v6), (k0_dev214 v6) < nD := fun v6 k0_hw1 => k0_hw1.2.2.2.2.2.2.2.2.2.2.2.2.2.1
theorem k0_dev216_lt : ∀ (v6 : BitVec 32) (k0_hw1 : k0_chk1 v6), (k0_dev216 v6) < nD := fun v6 k0_hw1 => k0_hw1.2.2.2.2.2.2.2.2.2.2.2.2.2.2.1
theorem k0_dev218_lt : ∀ (v6 : BitVec 32) (k0_hw1 : k0_chk1 v6), (k0_dev218 v6) < nD := fun v6 k0_hw1 => k0_hw1.2.2.2.2.2.2.2.2.2.2.2.2.2.2.2.1
theorem k0_dev220_lt : ∀ (v6 : BitVec 32) (k0_hw1 : k0_chk1 v6), (k0_dev220 v6) < nD := fun v6 k0_hw1 => k0_hw1.2.2.2.2.2.2.2.2.2.2.2.2.2.2.2.2.1
theorem k0_dev222_lt : ∀ (v6 : BitVec 32) (k0_hw1 : k0_chk1 v6), (k0_dev222 v6) < nD := fun v6 k0_hw1 => k0_hw1.2.2.2.2.2.2.2.2.2.2.2.2.2.2.2.2.2.1
theorem k0_dev224_lt : ∀ (v6 : BitVec 32) (k0_hw1 : k0_chk1 v6), (k0_dev224 v6) < nD := fun v6 k0_hw1 => k0_hw1.2.2.2.2.2.2.2.2.2.2.2.2.2.2.2.2.2.2.1
theorem k0_dev226_lt : ∀ (v6 : BitVec 32) (k0_hw1 : k0_chk1 v6), (k0_dev226 v6) < nD := fun v6 k0_hw1 => k0_hw1.2.2.2.2.2.2.2.2.2.2.2.2.2.2.2.2.2.2.2.1
theorem k0_dev228_lt : ∀ (v6 : BitVec 32) (k0_hw1 : k0_chk1 v6), (k0_dev228 v6) < nD := fun v6 k0_hw1 => k0_hw1.2.2.2.2.2.2.2.2.2.2.2.2.2.2.2.2.2.2.2.2.1
theorem k0_dev230_lt : ∀ (v6 : BitVec 32) (k0_hw1 : k0_chk1 v6), (k0_dev230 v6) < nD := fun v6 k0_hw1 => k0_hw1.2.2.2.2.2.2.2.2.2.2.2.2.2.2.2.2.2.2.2.2.2.1
theorem k0_dev232_lt : ∀ (v6 : BitVec 32) (k0_hw1 : k0_chk1 v6), (k0_dev232 v6) < nD := fun v6 k0_hw1 => k0_hw1.2.2.2.2.2.2.2.2.2.2.2.2.2.2.2.2.2.2.2.2.2.2.1
theorem k0_dev234_lt : ∀ (v6 : BitVec 32) (k0_hw1 : k0_chk1 v6), (k0_dev234 v6) < nD := fun v6 k0_hw1 => k0_hw1.2.2.2.2.2.2.2.2.2.2.2.2.2.2.2.2.2.2.2.2.2.2.2.1
theorem k0_dev236_lt : ∀ (v6 : BitVec 32) (k0_hw1 : k0_chk1 v6), (k0_dev236 v6) < nD := fun v6 k0_hw1 => k0_hw1.2.2.2.2.2.2.2.2.2.2.2.2.2.2.2.2.2.2.2.2.2.2.2.2.1
theorem k0_dev238_lt : ∀ (v6 : BitVec 32) (k0_hw1 : k0_chk1 v6), (k0_dev238 v6) < nD := fun v6 k0_hw1 => k0_hw1.2.2.2.2.2.2.2.2.2.2.2.2.2.2.2.2.2.2.2.2.2.2.2.2.2.1
theorem k0_dev240_lt : ∀ (v6 : BitVec 32) (k0_hw1 : k0_chk1 v6), (k0_dev240 v6) < nD := fun v6 k0_hw1 => k0_hw1.2.2.2.2.2.2.2.2.2.2.2.2.2.2.2.2.2.2.2.2.2.2.2.2.2.2.1
theorem k0_dev242_lt : ∀ (v6 : BitVec 32) (k0_hw1 : k0_chk1 v6), (k0_dev242 v6) < nD := fun v6 k0_hw1 => k0_hw1.2.2.2.2.2.2.2.2.2.2.2.2.2.2.2.2.2.2.2.2.2.2.2.2.2.2.2.1
theorem k0_dev244_lt : ∀ (v6 : BitVec 32) (k0_hw1 : k0_chk1 v6), (k0_dev244 v6) < nD := fun v6 k0_hw1 => k0_hw1.2.2.2.2.2.2.2.2.2.2.2.2.2.2.2.2.2.2.2.2.2.2.2.2.2.2.2.2.1
theorem k0_dev246_lt : ∀ (v6 : BitVec 32) (k0_hw1 : k0_chk1 v6), (k0_dev246 v6) < nD := fun v6 k0_hw1 => k0_hw1.2.2.2.2.2.2.2.2.2.2.2.2.2.2.2.2.2.2.2.2.2.2.2.2.2.2.2.2.2.1
theorem k0_dev248_lt : ∀ (v6 : BitVec 32) (k0_hw1 : k0_chk1 v6), (k0_dev248 v6) < nD := fun v6 k0_hw1 => k0_hw1.2.2.2.2.2.2.2.2.2.2.2.2.2.2.2.2.2.2.2.2.2.2.2.2.2.2.2.2.2.2.1
theorem k0_dev250_lt : ∀ (v6 : BitVec 32) (k0_hw1 : k0_chk1 v6), (k0_dev250 v6) < nD := fun v6 k0_hw1 => k0_hw1.2.2.2.2.2.2.2.2.2.2.2.2.2.2.2.2.2.2.2.2.2.2.2.2.2.2.2.2.2.2.2

def k0_off398 (v5098 : BitVec 32) : Fin 3 → Nat :=
  let v5245 : Index := Scalar.indexCast v5098
  let c0_5240 : Index := 0#32
  let c0_5241 : Index := 0#32
  ![v5245.toNat, 0, 0]
def k0_off399 (v5098 : BitVec 32) : Fin 2 → Nat :=
  let c128_i32_5243 : BitVec 32 := 128#32
  let v5249 : BitVec 32 := Scalar.muli v5098 c128_i32_5243
  let c0_i32_5244 : BitVec 32 := 0#32
  let v5250 : BitVec 32 := Scalar.addi v5249 c0_i32_5244
  let v5255 : Index := Scalar.indexCast v5250
  let c0_5245 : Index := 0#32
  ![v5255.toNat, 0]

def k0_chk61 (v5098 : BitVec 32) : Prop :=
  (∀ a, (k0_off390 v5098) a + S1x64x1024.size a ≤ S32x128x4096.size a) ∧
  (∀ (hinb : ∀ a, (k0_off390 v5098) a + S1x64x1024.size a ≤ S32x128x4096.size a), (Rect.unit (s := S32x128x4096) (k0_off390 v5098) S1x64x1024.size hinb).WholeWords (EltTy.packing .fp8e5m2)) ∧
  (∀ a, (k0_off392 v5098) a + S1x64x1024.size a ≤ S32x128x4096.size a) ∧
  (∀ (hinb : ∀ a, (k0_off392 v5098) a + S1x64x1024.size a ≤ S32x128x4096.size a), (Rect.unit (s := S32x128x4096) (k0_off392 v5098) S1x64x1024.size hinb).WholeWords (EltTy.packing .fp8e5m2)) ∧
  (∀ a, (k0_off394 v5098) a + S1x64x1024.size a ≤ S32x128x4096.size a) ∧
  (∀ (hinb : ∀ a, (k0_off394 v5098) a + S1x64x1024.size a ≤ S32x128x4096.size a), (Rect.unit (s := S32x128x4096) (k0_off394 v5098) S1x64x1024.size hinb).WholeWords (EltTy.packing .fp8e5m2)) ∧
  (∀ a, (k0_off396 v5098) a + S1x64x1024.size a ≤ S32x128x4096.size a) ∧
  (∀ (hinb : ∀ a, (k0_off396 v5098) a + S1x64x1024.size a ≤ S32x128x4096.size a), (Rect.unit (s := S32x128x4096) (k0_off396 v5098) S1x64x1024.size hinb).WholeWords (EltTy.packing .fp8e5m2)) ∧
  (∀ a, (k0_off398 v5098) a + S1x64x4096.size a ≤ S32x128x4096.size a) ∧
  (∀ a, (k0_off399 v5098) a + S64x64.size a ≤ S4096x64.size a)
theorem k0_off390_inb : ∀ (v5098 : BitVec 32) (k0_hw61 : k0_chk61 v5098), ∀ a, (k0_off390 v5098) a + S1x64x1024.size a ≤ S32x128x4096.size a := fun v5098 k0_hw61 => k0_hw61.1
theorem k0_off390_wordsfp8e5m2 : ∀ (v5098 : BitVec 32) (k0_hw61 : k0_chk61 v5098), (Rect.unit (s := S32x128x4096) (k0_off390 v5098) S1x64x1024.size (k0_off390_inb v5098 k0_hw61)).WholeWords (EltTy.packing .fp8e5m2) := fun v5098 k0_hw61 => k0_hw61.2.1 (k0_off390_inb v5098 k0_hw61)
theorem k0_off392_inb : ∀ (v5098 : BitVec 32) (k0_hw61 : k0_chk61 v5098), ∀ a, (k0_off392 v5098) a + S1x64x1024.size a ≤ S32x128x4096.size a := fun v5098 k0_hw61 => k0_hw61.2.2.1
theorem k0_off392_wordsfp8e5m2 : ∀ (v5098 : BitVec 32) (k0_hw61 : k0_chk61 v5098), (Rect.unit (s := S32x128x4096) (k0_off392 v5098) S1x64x1024.size (k0_off392_inb v5098 k0_hw61)).WholeWords (EltTy.packing .fp8e5m2) := fun v5098 k0_hw61 => k0_hw61.2.2.2.1 (k0_off392_inb v5098 k0_hw61)
theorem k0_off394_inb : ∀ (v5098 : BitVec 32) (k0_hw61 : k0_chk61 v5098), ∀ a, (k0_off394 v5098) a + S1x64x1024.size a ≤ S32x128x4096.size a := fun v5098 k0_hw61 => k0_hw61.2.2.2.2.1
theorem k0_off394_wordsfp8e5m2 : ∀ (v5098 : BitVec 32) (k0_hw61 : k0_chk61 v5098), (Rect.unit (s := S32x128x4096) (k0_off394 v5098) S1x64x1024.size (k0_off394_inb v5098 k0_hw61)).WholeWords (EltTy.packing .fp8e5m2) := fun v5098 k0_hw61 => k0_hw61.2.2.2.2.2.1 (k0_off394_inb v5098 k0_hw61)
theorem k0_off396_inb : ∀ (v5098 : BitVec 32) (k0_hw61 : k0_chk61 v5098), ∀ a, (k0_off396 v5098) a + S1x64x1024.size a ≤ S32x128x4096.size a := fun v5098 k0_hw61 => k0_hw61.2.2.2.2.2.2.1
theorem k0_off396_wordsfp8e5m2 : ∀ (v5098 : BitVec 32) (k0_hw61 : k0_chk61 v5098), (Rect.unit (s := S32x128x4096) (k0_off396 v5098) S1x64x1024.size (k0_off396_inb v5098 k0_hw61)).WholeWords (EltTy.packing .fp8e5m2) := fun v5098 k0_hw61 => k0_hw61.2.2.2.2.2.2.2.1 (k0_off396_inb v5098 k0_hw61)
theorem k0_off398_inb : ∀ (v5098 : BitVec 32) (k0_hw61 : k0_chk61 v5098), ∀ a, (k0_off398 v5098) a + S1x64x4096.size a ≤ S32x128x4096.size a := fun v5098 k0_hw61 => k0_hw61.2.2.2.2.2.2.2.2.1
theorem k0_off399_inb : ∀ (v5098 : BitVec 32) (k0_hw61 : k0_chk61 v5098), ∀ a, (k0_off399 v5098) a + S64x64.size a ≤ S4096x64.size a := fun v5098 k0_hw61 => k0_hw61.2.2.2.2.2.2.2.2.2

def k0_off400 (v5100 : BitVec 32) : Fin 3 → Nat :=
  let v5257 : Index := Scalar.indexCast v5100
  let c64_5246 : Index := 64#32
  let c0_5247 : Index := 0#32
  ![v5257.toNat, 64, 0]
def k0_off401 (v5100 : BitVec 32) : Fin 2 → Nat :=
  let c128_i32_5249 : BitVec 32 := 128#32
  let v5261 : BitVec 32 := Scalar.muli v5100 c128_i32_5249
  let c64_i32_5250 : BitVec 32 := 64#32
  let v5262 : BitVec 32 := Scalar.addi v5261 c64_i32_5250
  let v5267 : Index := Scalar.indexCast v5262
  let c0_5251 : Index := 0#32
  ![v5267.toNat, 0]

def k0_chk62 (v5100 : BitVec 32) : Prop :=
  (∀ a, (k0_off391 v5100) a + S1x64x1024.size a ≤ S32x128x4096.size a) ∧
  (∀ (hinb : ∀ a, (k0_off391 v5100) a + S1x64x1024.size a ≤ S32x128x4096.size a), (Rect.unit (s := S32x128x4096) (k0_off391 v5100) S1x64x1024.size hinb).WholeWords (EltTy.packing .fp8e5m2)) ∧
  (∀ a, (k0_off393 v5100) a + S1x64x1024.size a ≤ S32x128x4096.size a) ∧
  (∀ (hinb : ∀ a, (k0_off393 v5100) a + S1x64x1024.size a ≤ S32x128x4096.size a), (Rect.unit (s := S32x128x4096) (k0_off393 v5100) S1x64x1024.size hinb).WholeWords (EltTy.packing .fp8e5m2)) ∧
  (∀ a, (k0_off395 v5100) a + S1x64x1024.size a ≤ S32x128x4096.size a) ∧
  (∀ (hinb : ∀ a, (k0_off395 v5100) a + S1x64x1024.size a ≤ S32x128x4096.size a), (Rect.unit (s := S32x128x4096) (k0_off395 v5100) S1x64x1024.size hinb).WholeWords (EltTy.packing .fp8e5m2)) ∧
  (∀ a, (k0_off397 v5100) a + S1x64x1024.size a ≤ S32x128x4096.size a) ∧
  (∀ (hinb : ∀ a, (k0_off397 v5100) a + S1x64x1024.size a ≤ S32x128x4096.size a), (Rect.unit (s := S32x128x4096) (k0_off397 v5100) S1x64x1024.size hinb).WholeWords (EltTy.packing .fp8e5m2)) ∧
  (∀ a, (k0_off400 v5100) a + S1x64x4096.size a ≤ S32x128x4096.size a) ∧
  (∀ a, (k0_off401 v5100) a + S64x64.size a ≤ S4096x64.size a)
theorem k0_off391_inb : ∀ (v5100 : BitVec 32) (k0_hw62 : k0_chk62 v5100), ∀ a, (k0_off391 v5100) a + S1x64x1024.size a ≤ S32x128x4096.size a := fun v5100 k0_hw62 => k0_hw62.1
theorem k0_off391_wordsfp8e5m2 : ∀ (v5100 : BitVec 32) (k0_hw62 : k0_chk62 v5100), (Rect.unit (s := S32x128x4096) (k0_off391 v5100) S1x64x1024.size (k0_off391_inb v5100 k0_hw62)).WholeWords (EltTy.packing .fp8e5m2) := fun v5100 k0_hw62 => k0_hw62.2.1 (k0_off391_inb v5100 k0_hw62)
theorem k0_off393_inb : ∀ (v5100 : BitVec 32) (k0_hw62 : k0_chk62 v5100), ∀ a, (k0_off393 v5100) a + S1x64x1024.size a ≤ S32x128x4096.size a := fun v5100 k0_hw62 => k0_hw62.2.2.1
theorem k0_off393_wordsfp8e5m2 : ∀ (v5100 : BitVec 32) (k0_hw62 : k0_chk62 v5100), (Rect.unit (s := S32x128x4096) (k0_off393 v5100) S1x64x1024.size (k0_off393_inb v5100 k0_hw62)).WholeWords (EltTy.packing .fp8e5m2) := fun v5100 k0_hw62 => k0_hw62.2.2.2.1 (k0_off393_inb v5100 k0_hw62)
theorem k0_off395_inb : ∀ (v5100 : BitVec 32) (k0_hw62 : k0_chk62 v5100), ∀ a, (k0_off395 v5100) a + S1x64x1024.size a ≤ S32x128x4096.size a := fun v5100 k0_hw62 => k0_hw62.2.2.2.2.1
theorem k0_off395_wordsfp8e5m2 : ∀ (v5100 : BitVec 32) (k0_hw62 : k0_chk62 v5100), (Rect.unit (s := S32x128x4096) (k0_off395 v5100) S1x64x1024.size (k0_off395_inb v5100 k0_hw62)).WholeWords (EltTy.packing .fp8e5m2) := fun v5100 k0_hw62 => k0_hw62.2.2.2.2.2.1 (k0_off395_inb v5100 k0_hw62)
theorem k0_off397_inb : ∀ (v5100 : BitVec 32) (k0_hw62 : k0_chk62 v5100), ∀ a, (k0_off397 v5100) a + S1x64x1024.size a ≤ S32x128x4096.size a := fun v5100 k0_hw62 => k0_hw62.2.2.2.2.2.2.1
theorem k0_off397_wordsfp8e5m2 : ∀ (v5100 : BitVec 32) (k0_hw62 : k0_chk62 v5100), (Rect.unit (s := S32x128x4096) (k0_off397 v5100) S1x64x1024.size (k0_off397_inb v5100 k0_hw62)).WholeWords (EltTy.packing .fp8e5m2) := fun v5100 k0_hw62 => k0_hw62.2.2.2.2.2.2.2.1 (k0_off397_inb v5100 k0_hw62)
theorem k0_off400_inb : ∀ (v5100 : BitVec 32) (k0_hw62 : k0_chk62 v5100), ∀ a, (k0_off400 v5100) a + S1x64x4096.size a ≤ S32x128x4096.size a := fun v5100 k0_hw62 => k0_hw62.2.2.2.2.2.2.2.2.1
theorem k0_off401_inb : ∀ (v5100 : BitVec 32) (k0_hw62 : k0_chk62 v5100), ∀ a, (k0_off401 v5100) a + S64x64.size a ≤ S4096x64.size a := fun v5100 k0_hw62 => k0_hw62.2.2.2.2.2.2.2.2.2

def k0_off402 (d0 : Dev nD) : Fin 2 → Nat :=
  let c31 : Index := 31#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5269 : Index := Scalar.indexCast v2
  ![31, v5269.toNat]
def k0_off403 (v5270 : BitVec 32) : Fin 3 → Nat :=
  let c0_i32_5259 : BitVec 32 := 0#32
  let c0_i32_5260 : BitVec 32 := 0#32
  ![v5270.toNat, 0, 0]

def k0_off404 (v5272 : BitVec 32) : Fin 3 → Nat :=
  let c64_i32_5269 : BitVec 32 := 64#32
  let c0_i32_5270 : BitVec 32 := 0#32
  ![v5272.toNat, 64, 0]

def k0_off405 (v5270 : BitVec 32) : Fin 3 → Nat :=
  let c0_i32_5279 : BitVec 32 := 0#32
  let c1024_i32_5280 : BitVec 32 := 1024#32
  ![v5270.toNat, 0, 1024]
def k0_off406 (v5272 : BitVec 32) : Fin 3 → Nat :=
  let c64_i32_5289 : BitVec 32 := 64#32
  let c1024_i32_5290 : BitVec 32 := 1024#32
  ![v5272.toNat, 64, 1024]
def k0_off407 (v5270 : BitVec 32) : Fin 3 → Nat :=
  let c0_i32_5299 : BitVec 32 := 0#32
  let c2048_i32_5300 : BitVec 32 := 2048#32
  ![v5270.toNat, 0, 2048]
def k0_off408 (v5272 : BitVec 32) : Fin 3 → Nat :=
  let c64_i32_5309 : BitVec 32 := 64#32
  let c2048_i32_5310 : BitVec 32 := 2048#32
  ![v5272.toNat, 64, 2048]
def k0_off409 (v5270 : BitVec 32) : Fin 3 → Nat :=
  let c0_i32_5319 : BitVec 32 := 0#32
  let c3072_i32_5320 : BitVec 32 := 3072#32
  ![v5270.toNat, 0, 3072]
def k0_off410 (v5272 : BitVec 32) : Fin 3 → Nat :=
  let c64_i32_5329 : BitVec 32 := 64#32
  let c3072_i32_5330 : BitVec 32 := 3072#32
  ![v5272.toNat, 64, 3072]
def k0_off411 (v5270 : BitVec 32) : Fin 3 → Nat :=
  let v5337 : Index := Scalar.indexCast v5270
  let c0_5333 : Index := 0#32
  let c0_5334 : Index := 0#32
  ![v5337.toNat, 0, 0]
def k0_off412 (v5270 : BitVec 32) : Fin 2 → Nat :=
  let c128_i32_5336 : BitVec 32 := 128#32
  let v5341 : BitVec 32 := Scalar.muli v5270 c128_i32_5336
  let c0_i32_5337 : BitVec 32 := 0#32
  let v5342 : BitVec 32 := Scalar.addi v5341 c0_i32_5337
  let v5347 : Index := Scalar.indexCast v5342
  let c0_5338 : Index := 0#32
  ![v5347.toNat, 0]

def k0_chk63 (v5270 : BitVec 32) : Prop :=
  (∀ a, (k0_off403 v5270) a + S1x64x1024.size a ≤ S32x128x4096.size a) ∧
  (∀ (hinb : ∀ a, (k0_off403 v5270) a + S1x64x1024.size a ≤ S32x128x4096.size a), (Rect.unit (s := S32x128x4096) (k0_off403 v5270) S1x64x1024.size hinb).WholeWords (EltTy.packing .fp8e5m2)) ∧
  (∀ a, (k0_off405 v5270) a + S1x64x1024.size a ≤ S32x128x4096.size a) ∧
  (∀ (hinb : ∀ a, (k0_off405 v5270) a + S1x64x1024.size a ≤ S32x128x4096.size a), (Rect.unit (s := S32x128x4096) (k0_off405 v5270) S1x64x1024.size hinb).WholeWords (EltTy.packing .fp8e5m2)) ∧
  (∀ a, (k0_off407 v5270) a + S1x64x1024.size a ≤ S32x128x4096.size a) ∧
  (∀ (hinb : ∀ a, (k0_off407 v5270) a + S1x64x1024.size a ≤ S32x128x4096.size a), (Rect.unit (s := S32x128x4096) (k0_off407 v5270) S1x64x1024.size hinb).WholeWords (EltTy.packing .fp8e5m2)) ∧
  (∀ a, (k0_off409 v5270) a + S1x64x1024.size a ≤ S32x128x4096.size a) ∧
  (∀ (hinb : ∀ a, (k0_off409 v5270) a + S1x64x1024.size a ≤ S32x128x4096.size a), (Rect.unit (s := S32x128x4096) (k0_off409 v5270) S1x64x1024.size hinb).WholeWords (EltTy.packing .fp8e5m2)) ∧
  (∀ a, (k0_off411 v5270) a + S1x64x4096.size a ≤ S32x128x4096.size a) ∧
  (∀ a, (k0_off412 v5270) a + S64x64.size a ≤ S4096x64.size a)
theorem k0_off403_inb : ∀ (v5270 : BitVec 32) (k0_hw63 : k0_chk63 v5270), ∀ a, (k0_off403 v5270) a + S1x64x1024.size a ≤ S32x128x4096.size a := fun v5270 k0_hw63 => k0_hw63.1
theorem k0_off403_wordsfp8e5m2 : ∀ (v5270 : BitVec 32) (k0_hw63 : k0_chk63 v5270), (Rect.unit (s := S32x128x4096) (k0_off403 v5270) S1x64x1024.size (k0_off403_inb v5270 k0_hw63)).WholeWords (EltTy.packing .fp8e5m2) := fun v5270 k0_hw63 => k0_hw63.2.1 (k0_off403_inb v5270 k0_hw63)
theorem k0_off405_inb : ∀ (v5270 : BitVec 32) (k0_hw63 : k0_chk63 v5270), ∀ a, (k0_off405 v5270) a + S1x64x1024.size a ≤ S32x128x4096.size a := fun v5270 k0_hw63 => k0_hw63.2.2.1
theorem k0_off405_wordsfp8e5m2 : ∀ (v5270 : BitVec 32) (k0_hw63 : k0_chk63 v5270), (Rect.unit (s := S32x128x4096) (k0_off405 v5270) S1x64x1024.size (k0_off405_inb v5270 k0_hw63)).WholeWords (EltTy.packing .fp8e5m2) := fun v5270 k0_hw63 => k0_hw63.2.2.2.1 (k0_off405_inb v5270 k0_hw63)
theorem k0_off407_inb : ∀ (v5270 : BitVec 32) (k0_hw63 : k0_chk63 v5270), ∀ a, (k0_off407 v5270) a + S1x64x1024.size a ≤ S32x128x4096.size a := fun v5270 k0_hw63 => k0_hw63.2.2.2.2.1
theorem k0_off407_wordsfp8e5m2 : ∀ (v5270 : BitVec 32) (k0_hw63 : k0_chk63 v5270), (Rect.unit (s := S32x128x4096) (k0_off407 v5270) S1x64x1024.size (k0_off407_inb v5270 k0_hw63)).WholeWords (EltTy.packing .fp8e5m2) := fun v5270 k0_hw63 => k0_hw63.2.2.2.2.2.1 (k0_off407_inb v5270 k0_hw63)
theorem k0_off409_inb : ∀ (v5270 : BitVec 32) (k0_hw63 : k0_chk63 v5270), ∀ a, (k0_off409 v5270) a + S1x64x1024.size a ≤ S32x128x4096.size a := fun v5270 k0_hw63 => k0_hw63.2.2.2.2.2.2.1
theorem k0_off409_wordsfp8e5m2 : ∀ (v5270 : BitVec 32) (k0_hw63 : k0_chk63 v5270), (Rect.unit (s := S32x128x4096) (k0_off409 v5270) S1x64x1024.size (k0_off409_inb v5270 k0_hw63)).WholeWords (EltTy.packing .fp8e5m2) := fun v5270 k0_hw63 => k0_hw63.2.2.2.2.2.2.2.1 (k0_off409_inb v5270 k0_hw63)
theorem k0_off411_inb : ∀ (v5270 : BitVec 32) (k0_hw63 : k0_chk63 v5270), ∀ a, (k0_off411 v5270) a + S1x64x4096.size a ≤ S32x128x4096.size a := fun v5270 k0_hw63 => k0_hw63.2.2.2.2.2.2.2.2.1
theorem k0_off412_inb : ∀ (v5270 : BitVec 32) (k0_hw63 : k0_chk63 v5270), ∀ a, (k0_off412 v5270) a + S64x64.size a ≤ S4096x64.size a := fun v5270 k0_hw63 => k0_hw63.2.2.2.2.2.2.2.2.2

def k0_off413 (v5272 : BitVec 32) : Fin 3 → Nat :=
  let v5349 : Index := Scalar.indexCast v5272
  let c64_5339 : Index := 64#32
  let c0_5340 : Index := 0#32
  ![v5349.toNat, 64, 0]
def k0_off414 (v5272 : BitVec 32) : Fin 2 → Nat :=
  let c128_i32_5342 : BitVec 32 := 128#32
  let v5353 : BitVec 32 := Scalar.muli v5272 c128_i32_5342
  let c64_i32_5343 : BitVec 32 := 64#32
  let v5354 : BitVec 32 := Scalar.addi v5353 c64_i32_5343
  let v5359 : Index := Scalar.indexCast v5354
  let c0_5344 : Index := 0#32
  ![v5359.toNat, 0]

def k0_chk64 (v5272 : BitVec 32) : Prop :=
  (∀ a, (k0_off404 v5272) a + S1x64x1024.size a ≤ S32x128x4096.size a) ∧
  (∀ (hinb : ∀ a, (k0_off404 v5272) a + S1x64x1024.size a ≤ S32x128x4096.size a), (Rect.unit (s := S32x128x4096) (k0_off404 v5272) S1x64x1024.size hinb).WholeWords (EltTy.packing .fp8e5m2)) ∧
  (∀ a, (k0_off406 v5272) a + S1x64x1024.size a ≤ S32x128x4096.size a) ∧
  (∀ (hinb : ∀ a, (k0_off406 v5272) a + S1x64x1024.size a ≤ S32x128x4096.size a), (Rect.unit (s := S32x128x4096) (k0_off406 v5272) S1x64x1024.size hinb).WholeWords (EltTy.packing .fp8e5m2)) ∧
  (∀ a, (k0_off408 v5272) a + S1x64x1024.size a ≤ S32x128x4096.size a) ∧
  (∀ (hinb : ∀ a, (k0_off408 v5272) a + S1x64x1024.size a ≤ S32x128x4096.size a), (Rect.unit (s := S32x128x4096) (k0_off408 v5272) S1x64x1024.size hinb).WholeWords (EltTy.packing .fp8e5m2)) ∧
  (∀ a, (k0_off410 v5272) a + S1x64x1024.size a ≤ S32x128x4096.size a) ∧
  (∀ (hinb : ∀ a, (k0_off410 v5272) a + S1x64x1024.size a ≤ S32x128x4096.size a), (Rect.unit (s := S32x128x4096) (k0_off410 v5272) S1x64x1024.size hinb).WholeWords (EltTy.packing .fp8e5m2)) ∧
  (∀ a, (k0_off413 v5272) a + S1x64x4096.size a ≤ S32x128x4096.size a) ∧
  (∀ a, (k0_off414 v5272) a + S64x64.size a ≤ S4096x64.size a)
theorem k0_off404_inb : ∀ (v5272 : BitVec 32) (k0_hw64 : k0_chk64 v5272), ∀ a, (k0_off404 v5272) a + S1x64x1024.size a ≤ S32x128x4096.size a := fun v5272 k0_hw64 => k0_hw64.1
theorem k0_off404_wordsfp8e5m2 : ∀ (v5272 : BitVec 32) (k0_hw64 : k0_chk64 v5272), (Rect.unit (s := S32x128x4096) (k0_off404 v5272) S1x64x1024.size (k0_off404_inb v5272 k0_hw64)).WholeWords (EltTy.packing .fp8e5m2) := fun v5272 k0_hw64 => k0_hw64.2.1 (k0_off404_inb v5272 k0_hw64)
theorem k0_off406_inb : ∀ (v5272 : BitVec 32) (k0_hw64 : k0_chk64 v5272), ∀ a, (k0_off406 v5272) a + S1x64x1024.size a ≤ S32x128x4096.size a := fun v5272 k0_hw64 => k0_hw64.2.2.1
theorem k0_off406_wordsfp8e5m2 : ∀ (v5272 : BitVec 32) (k0_hw64 : k0_chk64 v5272), (Rect.unit (s := S32x128x4096) (k0_off406 v5272) S1x64x1024.size (k0_off406_inb v5272 k0_hw64)).WholeWords (EltTy.packing .fp8e5m2) := fun v5272 k0_hw64 => k0_hw64.2.2.2.1 (k0_off406_inb v5272 k0_hw64)
theorem k0_off408_inb : ∀ (v5272 : BitVec 32) (k0_hw64 : k0_chk64 v5272), ∀ a, (k0_off408 v5272) a + S1x64x1024.size a ≤ S32x128x4096.size a := fun v5272 k0_hw64 => k0_hw64.2.2.2.2.1
theorem k0_off408_wordsfp8e5m2 : ∀ (v5272 : BitVec 32) (k0_hw64 : k0_chk64 v5272), (Rect.unit (s := S32x128x4096) (k0_off408 v5272) S1x64x1024.size (k0_off408_inb v5272 k0_hw64)).WholeWords (EltTy.packing .fp8e5m2) := fun v5272 k0_hw64 => k0_hw64.2.2.2.2.2.1 (k0_off408_inb v5272 k0_hw64)
theorem k0_off410_inb : ∀ (v5272 : BitVec 32) (k0_hw64 : k0_chk64 v5272), ∀ a, (k0_off410 v5272) a + S1x64x1024.size a ≤ S32x128x4096.size a := fun v5272 k0_hw64 => k0_hw64.2.2.2.2.2.2.1
theorem k0_off410_wordsfp8e5m2 : ∀ (v5272 : BitVec 32) (k0_hw64 : k0_chk64 v5272), (Rect.unit (s := S32x128x4096) (k0_off410 v5272) S1x64x1024.size (k0_off410_inb v5272 k0_hw64)).WholeWords (EltTy.packing .fp8e5m2) := fun v5272 k0_hw64 => k0_hw64.2.2.2.2.2.2.2.1 (k0_off410_inb v5272 k0_hw64)
theorem k0_off413_inb : ∀ (v5272 : BitVec 32) (k0_hw64 : k0_chk64 v5272), ∀ a, (k0_off413 v5272) a + S1x64x4096.size a ≤ S32x128x4096.size a := fun v5272 k0_hw64 => k0_hw64.2.2.2.2.2.2.2.2.1
theorem k0_off414_inb : ∀ (v5272 : BitVec 32) (k0_hw64 : k0_chk64 v5272), ∀ a, (k0_off414 v5272) a + S64x64.size a ≤ S4096x64.size a := fun v5272 k0_hw64 => k0_hw64.2.2.2.2.2.2.2.2.2

def k0_off415 (d0 : Dev nD) : Fin 2 → Nat :=
  let c0_5345 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5361 : Index := Scalar.indexCast v2
  ![0, v5361.toNat]
def k0_off416 (v5362 : BitVec 32) : Fin 3 → Nat :=
  let c0_i32_5352 : BitVec 32 := 0#32
  let c0_i32_5353 : BitVec 32 := 0#32
  ![v5362.toNat, 0, 0]

def k0_off417 (v5364 : BitVec 32) : Fin 3 → Nat :=
  let c64_i32_5361 : BitVec 32 := 64#32
  let c0_i32_5362 : BitVec 32 := 0#32
  ![v5364.toNat, 64, 0]

def k0_off418 (v5362 : BitVec 32) : Fin 3 → Nat :=
  let c0_i32_5370 : BitVec 32 := 0#32
  let c1024_i32_5371 : BitVec 32 := 1024#32
  ![v5362.toNat, 0, 1024]
def k0_off419 (v5364 : BitVec 32) : Fin 3 → Nat :=
  let c64_i32_5379 : BitVec 32 := 64#32
  let c1024_i32_5380 : BitVec 32 := 1024#32
  ![v5364.toNat, 64, 1024]
def k0_off420 (v5362 : BitVec 32) : Fin 3 → Nat :=
  let c0_i32_5388 : BitVec 32 := 0#32
  let c2048_i32_5389 : BitVec 32 := 2048#32
  ![v5362.toNat, 0, 2048]
def k0_off421 (v5364 : BitVec 32) : Fin 3 → Nat :=
  let c64_i32_5397 : BitVec 32 := 64#32
  let c2048_i32_5398 : BitVec 32 := 2048#32
  ![v5364.toNat, 64, 2048]
def k0_off422 (v5362 : BitVec 32) : Fin 3 → Nat :=
  let c0_i32_5406 : BitVec 32 := 0#32
  let c3072_i32_5407 : BitVec 32 := 3072#32
  ![v5362.toNat, 0, 3072]

def k0_chk65 (v5362 : BitVec 32) : Prop :=
  (∀ a, (k0_off416 v5362) a + S1x64x1024.size a ≤ S32x128x4096.size a) ∧
  (∀ (hinb : ∀ a, (k0_off416 v5362) a + S1x64x1024.size a ≤ S32x128x4096.size a), (Rect.unit (s := S32x128x4096) (k0_off416 v5362) S1x64x1024.size hinb).WholeWords (EltTy.packing .fp8e5m2)) ∧
  (∀ a, (k0_off418 v5362) a + S1x64x1024.size a ≤ S32x128x4096.size a) ∧
  (∀ (hinb : ∀ a, (k0_off418 v5362) a + S1x64x1024.size a ≤ S32x128x4096.size a), (Rect.unit (s := S32x128x4096) (k0_off418 v5362) S1x64x1024.size hinb).WholeWords (EltTy.packing .fp8e5m2)) ∧
  (∀ a, (k0_off420 v5362) a + S1x64x1024.size a ≤ S32x128x4096.size a) ∧
  (∀ (hinb : ∀ a, (k0_off420 v5362) a + S1x64x1024.size a ≤ S32x128x4096.size a), (Rect.unit (s := S32x128x4096) (k0_off420 v5362) S1x64x1024.size hinb).WholeWords (EltTy.packing .fp8e5m2)) ∧
  (∀ a, (k0_off422 v5362) a + S1x64x1024.size a ≤ S32x128x4096.size a) ∧
  (∀ (hinb : ∀ a, (k0_off422 v5362) a + S1x64x1024.size a ≤ S32x128x4096.size a), (Rect.unit (s := S32x128x4096) (k0_off422 v5362) S1x64x1024.size hinb).WholeWords (EltTy.packing .fp8e5m2))
theorem k0_off416_inb : ∀ (v5362 : BitVec 32) (k0_hw65 : k0_chk65 v5362), ∀ a, (k0_off416 v5362) a + S1x64x1024.size a ≤ S32x128x4096.size a := fun v5362 k0_hw65 => k0_hw65.1
theorem k0_off416_wordsfp8e5m2 : ∀ (v5362 : BitVec 32) (k0_hw65 : k0_chk65 v5362), (Rect.unit (s := S32x128x4096) (k0_off416 v5362) S1x64x1024.size (k0_off416_inb v5362 k0_hw65)).WholeWords (EltTy.packing .fp8e5m2) := fun v5362 k0_hw65 => k0_hw65.2.1 (k0_off416_inb v5362 k0_hw65)
theorem k0_off418_inb : ∀ (v5362 : BitVec 32) (k0_hw65 : k0_chk65 v5362), ∀ a, (k0_off418 v5362) a + S1x64x1024.size a ≤ S32x128x4096.size a := fun v5362 k0_hw65 => k0_hw65.2.2.1
theorem k0_off418_wordsfp8e5m2 : ∀ (v5362 : BitVec 32) (k0_hw65 : k0_chk65 v5362), (Rect.unit (s := S32x128x4096) (k0_off418 v5362) S1x64x1024.size (k0_off418_inb v5362 k0_hw65)).WholeWords (EltTy.packing .fp8e5m2) := fun v5362 k0_hw65 => k0_hw65.2.2.2.1 (k0_off418_inb v5362 k0_hw65)
theorem k0_off420_inb : ∀ (v5362 : BitVec 32) (k0_hw65 : k0_chk65 v5362), ∀ a, (k0_off420 v5362) a + S1x64x1024.size a ≤ S32x128x4096.size a := fun v5362 k0_hw65 => k0_hw65.2.2.2.2.1
theorem k0_off420_wordsfp8e5m2 : ∀ (v5362 : BitVec 32) (k0_hw65 : k0_chk65 v5362), (Rect.unit (s := S32x128x4096) (k0_off420 v5362) S1x64x1024.size (k0_off420_inb v5362 k0_hw65)).WholeWords (EltTy.packing .fp8e5m2) := fun v5362 k0_hw65 => k0_hw65.2.2.2.2.2.1 (k0_off420_inb v5362 k0_hw65)
theorem k0_off422_inb : ∀ (v5362 : BitVec 32) (k0_hw65 : k0_chk65 v5362), ∀ a, (k0_off422 v5362) a + S1x64x1024.size a ≤ S32x128x4096.size a := fun v5362 k0_hw65 => k0_hw65.2.2.2.2.2.2.1
theorem k0_off422_wordsfp8e5m2 : ∀ (v5362 : BitVec 32) (k0_hw65 : k0_chk65 v5362), (Rect.unit (s := S32x128x4096) (k0_off422 v5362) S1x64x1024.size (k0_off422_inb v5362 k0_hw65)).WholeWords (EltTy.packing .fp8e5m2) := fun v5362 k0_hw65 => k0_hw65.2.2.2.2.2.2.2 (k0_off422_inb v5362 k0_hw65)

def k0_off423 (v5364 : BitVec 32) : Fin 3 → Nat :=
  let c64_i32_5415 : BitVec 32 := 64#32
  let c3072_i32_5416 : BitVec 32 := 3072#32
  ![v5364.toNat, 64, 3072]

def k0_chk66 (v5364 : BitVec 32) : Prop :=
  (∀ a, (k0_off417 v5364) a + S1x64x1024.size a ≤ S32x128x4096.size a) ∧
  (∀ (hinb : ∀ a, (k0_off417 v5364) a + S1x64x1024.size a ≤ S32x128x4096.size a), (Rect.unit (s := S32x128x4096) (k0_off417 v5364) S1x64x1024.size hinb).WholeWords (EltTy.packing .fp8e5m2)) ∧
  (∀ a, (k0_off419 v5364) a + S1x64x1024.size a ≤ S32x128x4096.size a) ∧
  (∀ (hinb : ∀ a, (k0_off419 v5364) a + S1x64x1024.size a ≤ S32x128x4096.size a), (Rect.unit (s := S32x128x4096) (k0_off419 v5364) S1x64x1024.size hinb).WholeWords (EltTy.packing .fp8e5m2)) ∧
  (∀ a, (k0_off421 v5364) a + S1x64x1024.size a ≤ S32x128x4096.size a) ∧
  (∀ (hinb : ∀ a, (k0_off421 v5364) a + S1x64x1024.size a ≤ S32x128x4096.size a), (Rect.unit (s := S32x128x4096) (k0_off421 v5364) S1x64x1024.size hinb).WholeWords (EltTy.packing .fp8e5m2)) ∧
  (∀ a, (k0_off423 v5364) a + S1x64x1024.size a ≤ S32x128x4096.size a) ∧
  (∀ (hinb : ∀ a, (k0_off423 v5364) a + S1x64x1024.size a ≤ S32x128x4096.size a), (Rect.unit (s := S32x128x4096) (k0_off423 v5364) S1x64x1024.size hinb).WholeWords (EltTy.packing .fp8e5m2))
theorem k0_off417_inb : ∀ (v5364 : BitVec 32) (k0_hw66 : k0_chk66 v5364), ∀ a, (k0_off417 v5364) a + S1x64x1024.size a ≤ S32x128x4096.size a := fun v5364 k0_hw66 => k0_hw66.1
theorem k0_off417_wordsfp8e5m2 : ∀ (v5364 : BitVec 32) (k0_hw66 : k0_chk66 v5364), (Rect.unit (s := S32x128x4096) (k0_off417 v5364) S1x64x1024.size (k0_off417_inb v5364 k0_hw66)).WholeWords (EltTy.packing .fp8e5m2) := fun v5364 k0_hw66 => k0_hw66.2.1 (k0_off417_inb v5364 k0_hw66)
theorem k0_off419_inb : ∀ (v5364 : BitVec 32) (k0_hw66 : k0_chk66 v5364), ∀ a, (k0_off419 v5364) a + S1x64x1024.size a ≤ S32x128x4096.size a := fun v5364 k0_hw66 => k0_hw66.2.2.1
theorem k0_off419_wordsfp8e5m2 : ∀ (v5364 : BitVec 32) (k0_hw66 : k0_chk66 v5364), (Rect.unit (s := S32x128x4096) (k0_off419 v5364) S1x64x1024.size (k0_off419_inb v5364 k0_hw66)).WholeWords (EltTy.packing .fp8e5m2) := fun v5364 k0_hw66 => k0_hw66.2.2.2.1 (k0_off419_inb v5364 k0_hw66)
theorem k0_off421_inb : ∀ (v5364 : BitVec 32) (k0_hw66 : k0_chk66 v5364), ∀ a, (k0_off421 v5364) a + S1x64x1024.size a ≤ S32x128x4096.size a := fun v5364 k0_hw66 => k0_hw66.2.2.2.2.1
theorem k0_off421_wordsfp8e5m2 : ∀ (v5364 : BitVec 32) (k0_hw66 : k0_chk66 v5364), (Rect.unit (s := S32x128x4096) (k0_off421 v5364) S1x64x1024.size (k0_off421_inb v5364 k0_hw66)).WholeWords (EltTy.packing .fp8e5m2) := fun v5364 k0_hw66 => k0_hw66.2.2.2.2.2.1 (k0_off421_inb v5364 k0_hw66)
theorem k0_off423_inb : ∀ (v5364 : BitVec 32) (k0_hw66 : k0_chk66 v5364), ∀ a, (k0_off423 v5364) a + S1x64x1024.size a ≤ S32x128x4096.size a := fun v5364 k0_hw66 => k0_hw66.2.2.2.2.2.2.1
theorem k0_off423_wordsfp8e5m2 : ∀ (v5364 : BitVec 32) (k0_hw66 : k0_chk66 v5364), (Rect.unit (s := S32x128x4096) (k0_off423 v5364) S1x64x1024.size (k0_off423_inb v5364 k0_hw66)).WholeWords (EltTy.packing .fp8e5m2) := fun v5364 k0_hw66 => k0_hw66.2.2.2.2.2.2.2 (k0_off423_inb v5364 k0_hw66)

def k0_off424 (d0 : Dev nD) : Fin 2 → Nat :=
  let c1_5419 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5413 : Index := Scalar.indexCast v2
  ![1, v5413.toNat]
def k0_off425 (v5414 : BitVec 32) : Fin 3 → Nat :=
  let c0_i32_5426 : BitVec 32 := 0#32
  let c0_i32_5427 : BitVec 32 := 0#32
  ![v5414.toNat, 0, 0]

def k0_off426 (v5416 : BitVec 32) : Fin 3 → Nat :=
  let c64_i32_5435 : BitVec 32 := 64#32
  let c0_i32_5436 : BitVec 32 := 0#32
  ![v5416.toNat, 64, 0]

def k0_off427 (v5414 : BitVec 32) : Fin 3 → Nat :=
  let c0_i32_5444 : BitVec 32 := 0#32
  let c1024_i32_5445 : BitVec 32 := 1024#32
  ![v5414.toNat, 0, 1024]
def k0_off428 (v5416 : BitVec 32) : Fin 3 → Nat :=
  let c64_i32_5453 : BitVec 32 := 64#32
  let c1024_i32_5454 : BitVec 32 := 1024#32
  ![v5416.toNat, 64, 1024]
def k0_off429 (v5414 : BitVec 32) : Fin 3 → Nat :=
  let c0_i32_5462 : BitVec 32 := 0#32
  let c2048_i32_5463 : BitVec 32 := 2048#32
  ![v5414.toNat, 0, 2048]
def k0_off430 (v5416 : BitVec 32) : Fin 3 → Nat :=
  let c64_i32_5471 : BitVec 32 := 64#32
  let c2048_i32_5472 : BitVec 32 := 2048#32
  ![v5416.toNat, 64, 2048]
def k0_off431 (v5414 : BitVec 32) : Fin 3 → Nat :=
  let c0_i32_5480 : BitVec 32 := 0#32
  let c3072_i32_5481 : BitVec 32 := 3072#32
  ![v5414.toNat, 0, 3072]

def k0_chk67 (v5414 : BitVec 32) : Prop :=
  (∀ a, (k0_off425 v5414) a + S1x64x1024.size a ≤ S32x128x4096.size a) ∧
  (∀ (hinb : ∀ a, (k0_off425 v5414) a + S1x64x1024.size a ≤ S32x128x4096.size a), (Rect.unit (s := S32x128x4096) (k0_off425 v5414) S1x64x1024.size hinb).WholeWords (EltTy.packing .fp8e5m2)) ∧
  (∀ a, (k0_off427 v5414) a + S1x64x1024.size a ≤ S32x128x4096.size a) ∧
  (∀ (hinb : ∀ a, (k0_off427 v5414) a + S1x64x1024.size a ≤ S32x128x4096.size a), (Rect.unit (s := S32x128x4096) (k0_off427 v5414) S1x64x1024.size hinb).WholeWords (EltTy.packing .fp8e5m2)) ∧
  (∀ a, (k0_off429 v5414) a + S1x64x1024.size a ≤ S32x128x4096.size a) ∧
  (∀ (hinb : ∀ a, (k0_off429 v5414) a + S1x64x1024.size a ≤ S32x128x4096.size a), (Rect.unit (s := S32x128x4096) (k0_off429 v5414) S1x64x1024.size hinb).WholeWords (EltTy.packing .fp8e5m2)) ∧
  (∀ a, (k0_off431 v5414) a + S1x64x1024.size a ≤ S32x128x4096.size a) ∧
  (∀ (hinb : ∀ a, (k0_off431 v5414) a + S1x64x1024.size a ≤ S32x128x4096.size a), (Rect.unit (s := S32x128x4096) (k0_off431 v5414) S1x64x1024.size hinb).WholeWords (EltTy.packing .fp8e5m2))
theorem k0_off425_inb : ∀ (v5414 : BitVec 32) (k0_hw67 : k0_chk67 v5414), ∀ a, (k0_off425 v5414) a + S1x64x1024.size a ≤ S32x128x4096.size a := fun v5414 k0_hw67 => k0_hw67.1
theorem k0_off425_wordsfp8e5m2 : ∀ (v5414 : BitVec 32) (k0_hw67 : k0_chk67 v5414), (Rect.unit (s := S32x128x4096) (k0_off425 v5414) S1x64x1024.size (k0_off425_inb v5414 k0_hw67)).WholeWords (EltTy.packing .fp8e5m2) := fun v5414 k0_hw67 => k0_hw67.2.1 (k0_off425_inb v5414 k0_hw67)
theorem k0_off427_inb : ∀ (v5414 : BitVec 32) (k0_hw67 : k0_chk67 v5414), ∀ a, (k0_off427 v5414) a + S1x64x1024.size a ≤ S32x128x4096.size a := fun v5414 k0_hw67 => k0_hw67.2.2.1
theorem k0_off427_wordsfp8e5m2 : ∀ (v5414 : BitVec 32) (k0_hw67 : k0_chk67 v5414), (Rect.unit (s := S32x128x4096) (k0_off427 v5414) S1x64x1024.size (k0_off427_inb v5414 k0_hw67)).WholeWords (EltTy.packing .fp8e5m2) := fun v5414 k0_hw67 => k0_hw67.2.2.2.1 (k0_off427_inb v5414 k0_hw67)
theorem k0_off429_inb : ∀ (v5414 : BitVec 32) (k0_hw67 : k0_chk67 v5414), ∀ a, (k0_off429 v5414) a + S1x64x1024.size a ≤ S32x128x4096.size a := fun v5414 k0_hw67 => k0_hw67.2.2.2.2.1
theorem k0_off429_wordsfp8e5m2 : ∀ (v5414 : BitVec 32) (k0_hw67 : k0_chk67 v5414), (Rect.unit (s := S32x128x4096) (k0_off429 v5414) S1x64x1024.size (k0_off429_inb v5414 k0_hw67)).WholeWords (EltTy.packing .fp8e5m2) := fun v5414 k0_hw67 => k0_hw67.2.2.2.2.2.1 (k0_off429_inb v5414 k0_hw67)
theorem k0_off431_inb : ∀ (v5414 : BitVec 32) (k0_hw67 : k0_chk67 v5414), ∀ a, (k0_off431 v5414) a + S1x64x1024.size a ≤ S32x128x4096.size a := fun v5414 k0_hw67 => k0_hw67.2.2.2.2.2.2.1
theorem k0_off431_wordsfp8e5m2 : ∀ (v5414 : BitVec 32) (k0_hw67 : k0_chk67 v5414), (Rect.unit (s := S32x128x4096) (k0_off431 v5414) S1x64x1024.size (k0_off431_inb v5414 k0_hw67)).WholeWords (EltTy.packing .fp8e5m2) := fun v5414 k0_hw67 => k0_hw67.2.2.2.2.2.2.2 (k0_off431_inb v5414 k0_hw67)

def k0_off432 (v5416 : BitVec 32) : Fin 3 → Nat :=
  let c64_i32_5489 : BitVec 32 := 64#32
  let c3072_i32_5490 : BitVec 32 := 3072#32
  ![v5416.toNat, 64, 3072]

def k0_chk68 (v5416 : BitVec 32) : Prop :=
  (∀ a, (k0_off426 v5416) a + S1x64x1024.size a ≤ S32x128x4096.size a) ∧
  (∀ (hinb : ∀ a, (k0_off426 v5416) a + S1x64x1024.size a ≤ S32x128x4096.size a), (Rect.unit (s := S32x128x4096) (k0_off426 v5416) S1x64x1024.size hinb).WholeWords (EltTy.packing .fp8e5m2)) ∧
  (∀ a, (k0_off428 v5416) a + S1x64x1024.size a ≤ S32x128x4096.size a) ∧
  (∀ (hinb : ∀ a, (k0_off428 v5416) a + S1x64x1024.size a ≤ S32x128x4096.size a), (Rect.unit (s := S32x128x4096) (k0_off428 v5416) S1x64x1024.size hinb).WholeWords (EltTy.packing .fp8e5m2)) ∧
  (∀ a, (k0_off430 v5416) a + S1x64x1024.size a ≤ S32x128x4096.size a) ∧
  (∀ (hinb : ∀ a, (k0_off430 v5416) a + S1x64x1024.size a ≤ S32x128x4096.size a), (Rect.unit (s := S32x128x4096) (k0_off430 v5416) S1x64x1024.size hinb).WholeWords (EltTy.packing .fp8e5m2)) ∧
  (∀ a, (k0_off432 v5416) a + S1x64x1024.size a ≤ S32x128x4096.size a) ∧
  (∀ (hinb : ∀ a, (k0_off432 v5416) a + S1x64x1024.size a ≤ S32x128x4096.size a), (Rect.unit (s := S32x128x4096) (k0_off432 v5416) S1x64x1024.size hinb).WholeWords (EltTy.packing .fp8e5m2))
theorem k0_off426_inb : ∀ (v5416 : BitVec 32) (k0_hw68 : k0_chk68 v5416), ∀ a, (k0_off426 v5416) a + S1x64x1024.size a ≤ S32x128x4096.size a := fun v5416 k0_hw68 => k0_hw68.1
theorem k0_off426_wordsfp8e5m2 : ∀ (v5416 : BitVec 32) (k0_hw68 : k0_chk68 v5416), (Rect.unit (s := S32x128x4096) (k0_off426 v5416) S1x64x1024.size (k0_off426_inb v5416 k0_hw68)).WholeWords (EltTy.packing .fp8e5m2) := fun v5416 k0_hw68 => k0_hw68.2.1 (k0_off426_inb v5416 k0_hw68)
theorem k0_off428_inb : ∀ (v5416 : BitVec 32) (k0_hw68 : k0_chk68 v5416), ∀ a, (k0_off428 v5416) a + S1x64x1024.size a ≤ S32x128x4096.size a := fun v5416 k0_hw68 => k0_hw68.2.2.1
theorem k0_off428_wordsfp8e5m2 : ∀ (v5416 : BitVec 32) (k0_hw68 : k0_chk68 v5416), (Rect.unit (s := S32x128x4096) (k0_off428 v5416) S1x64x1024.size (k0_off428_inb v5416 k0_hw68)).WholeWords (EltTy.packing .fp8e5m2) := fun v5416 k0_hw68 => k0_hw68.2.2.2.1 (k0_off428_inb v5416 k0_hw68)
theorem k0_off430_inb : ∀ (v5416 : BitVec 32) (k0_hw68 : k0_chk68 v5416), ∀ a, (k0_off430 v5416) a + S1x64x1024.size a ≤ S32x128x4096.size a := fun v5416 k0_hw68 => k0_hw68.2.2.2.2.1
theorem k0_off430_wordsfp8e5m2 : ∀ (v5416 : BitVec 32) (k0_hw68 : k0_chk68 v5416), (Rect.unit (s := S32x128x4096) (k0_off430 v5416) S1x64x1024.size (k0_off430_inb v5416 k0_hw68)).WholeWords (EltTy.packing .fp8e5m2) := fun v5416 k0_hw68 => k0_hw68.2.2.2.2.2.1 (k0_off430_inb v5416 k0_hw68)
theorem k0_off432_inb : ∀ (v5416 : BitVec 32) (k0_hw68 : k0_chk68 v5416), ∀ a, (k0_off432 v5416) a + S1x64x1024.size a ≤ S32x128x4096.size a := fun v5416 k0_hw68 => k0_hw68.2.2.2.2.2.2.1
theorem k0_off432_wordsfp8e5m2 : ∀ (v5416 : BitVec 32) (k0_hw68 : k0_chk68 v5416), (Rect.unit (s := S32x128x4096) (k0_off432 v5416) S1x64x1024.size (k0_off432_inb v5416 k0_hw68)).WholeWords (EltTy.packing .fp8e5m2) := fun v5416 k0_hw68 => k0_hw68.2.2.2.2.2.2.2 (k0_off432_inb v5416 k0_hw68)

def k0_off433 (d0 : Dev nD) : Fin 2 → Nat :=
  let c2_5493 : Index := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5465 : Index := Scalar.indexCast v2
  ![2, v5465.toNat]
def k0_off434 (v5466 : BitVec 32) : Fin 3 → Nat :=
  let c0_i32_5500 : BitVec 32 := 0#32
  let c0_i32_5501 : BitVec 32 := 0#32
  ![v5466.toNat, 0, 0]

def k0_off435 (v5468 : BitVec 32) : Fin 3 → Nat :=
  let c64_i32_5509 : BitVec 32 := 64#32
  let c0_i32_5510 : BitVec 32 := 0#32
  ![v5468.toNat, 64, 0]

def k0_off436 (v5466 : BitVec 32) : Fin 3 → Nat :=
  let c0_i32_5518 : BitVec 32 := 0#32
  let c1024_i32_5519 : BitVec 32 := 1024#32
  ![v5466.toNat, 0, 1024]
def k0_off437 (v5468 : BitVec 32) : Fin 3 → Nat :=
  let c64_i32_5527 : BitVec 32 := 64#32
  let c1024_i32_5528 : BitVec 32 := 1024#32
  ![v5468.toNat, 64, 1024]
def k0_off438 (v5466 : BitVec 32) : Fin 3 → Nat :=
  let c0_i32_5536 : BitVec 32 := 0#32
  let c2048_i32_5537 : BitVec 32 := 2048#32
  ![v5466.toNat, 0, 2048]
def k0_off439 (v5468 : BitVec 32) : Fin 3 → Nat :=
  let c64_i32_5545 : BitVec 32 := 64#32
  let c2048_i32_5546 : BitVec 32 := 2048#32
  ![v5468.toNat, 64, 2048]
def k0_off440 (v5466 : BitVec 32) : Fin 3 → Nat :=
  let c0_i32_5554 : BitVec 32 := 0#32
  let c3072_i32_5555 : BitVec 32 := 3072#32
  ![v5466.toNat, 0, 3072]

def k0_chk69 (v5466 : BitVec 32) : Prop :=
  (∀ a, (k0_off434 v5466) a + S1x64x1024.size a ≤ S32x128x4096.size a) ∧
  (∀ (hinb : ∀ a, (k0_off434 v5466) a + S1x64x1024.size a ≤ S32x128x4096.size a), (Rect.unit (s := S32x128x4096) (k0_off434 v5466) S1x64x1024.size hinb).WholeWords (EltTy.packing .fp8e5m2)) ∧
  (∀ a, (k0_off436 v5466) a + S1x64x1024.size a ≤ S32x128x4096.size a) ∧
  (∀ (hinb : ∀ a, (k0_off436 v5466) a + S1x64x1024.size a ≤ S32x128x4096.size a), (Rect.unit (s := S32x128x4096) (k0_off436 v5466) S1x64x1024.size hinb).WholeWords (EltTy.packing .fp8e5m2)) ∧
  (∀ a, (k0_off438 v5466) a + S1x64x1024.size a ≤ S32x128x4096.size a) ∧
  (∀ (hinb : ∀ a, (k0_off438 v5466) a + S1x64x1024.size a ≤ S32x128x4096.size a), (Rect.unit (s := S32x128x4096) (k0_off438 v5466) S1x64x1024.size hinb).WholeWords (EltTy.packing .fp8e5m2)) ∧
  (∀ a, (k0_off440 v5466) a + S1x64x1024.size a ≤ S32x128x4096.size a) ∧
  (∀ (hinb : ∀ a, (k0_off440 v5466) a + S1x64x1024.size a ≤ S32x128x4096.size a), (Rect.unit (s := S32x128x4096) (k0_off440 v5466) S1x64x1024.size hinb).WholeWords (EltTy.packing .fp8e5m2))
theorem k0_off434_inb : ∀ (v5466 : BitVec 32) (k0_hw69 : k0_chk69 v5466), ∀ a, (k0_off434 v5466) a + S1x64x1024.size a ≤ S32x128x4096.size a := fun v5466 k0_hw69 => k0_hw69.1
theorem k0_off434_wordsfp8e5m2 : ∀ (v5466 : BitVec 32) (k0_hw69 : k0_chk69 v5466), (Rect.unit (s := S32x128x4096) (k0_off434 v5466) S1x64x1024.size (k0_off434_inb v5466 k0_hw69)).WholeWords (EltTy.packing .fp8e5m2) := fun v5466 k0_hw69 => k0_hw69.2.1 (k0_off434_inb v5466 k0_hw69)
theorem k0_off436_inb : ∀ (v5466 : BitVec 32) (k0_hw69 : k0_chk69 v5466), ∀ a, (k0_off436 v5466) a + S1x64x1024.size a ≤ S32x128x4096.size a := fun v5466 k0_hw69 => k0_hw69.2.2.1
theorem k0_off436_wordsfp8e5m2 : ∀ (v5466 : BitVec 32) (k0_hw69 : k0_chk69 v5466), (Rect.unit (s := S32x128x4096) (k0_off436 v5466) S1x64x1024.size (k0_off436_inb v5466 k0_hw69)).WholeWords (EltTy.packing .fp8e5m2) := fun v5466 k0_hw69 => k0_hw69.2.2.2.1 (k0_off436_inb v5466 k0_hw69)
theorem k0_off438_inb : ∀ (v5466 : BitVec 32) (k0_hw69 : k0_chk69 v5466), ∀ a, (k0_off438 v5466) a + S1x64x1024.size a ≤ S32x128x4096.size a := fun v5466 k0_hw69 => k0_hw69.2.2.2.2.1
theorem k0_off438_wordsfp8e5m2 : ∀ (v5466 : BitVec 32) (k0_hw69 : k0_chk69 v5466), (Rect.unit (s := S32x128x4096) (k0_off438 v5466) S1x64x1024.size (k0_off438_inb v5466 k0_hw69)).WholeWords (EltTy.packing .fp8e5m2) := fun v5466 k0_hw69 => k0_hw69.2.2.2.2.2.1 (k0_off438_inb v5466 k0_hw69)
theorem k0_off440_inb : ∀ (v5466 : BitVec 32) (k0_hw69 : k0_chk69 v5466), ∀ a, (k0_off440 v5466) a + S1x64x1024.size a ≤ S32x128x4096.size a := fun v5466 k0_hw69 => k0_hw69.2.2.2.2.2.2.1
theorem k0_off440_wordsfp8e5m2 : ∀ (v5466 : BitVec 32) (k0_hw69 : k0_chk69 v5466), (Rect.unit (s := S32x128x4096) (k0_off440 v5466) S1x64x1024.size (k0_off440_inb v5466 k0_hw69)).WholeWords (EltTy.packing .fp8e5m2) := fun v5466 k0_hw69 => k0_hw69.2.2.2.2.2.2.2 (k0_off440_inb v5466 k0_hw69)

def k0_off441 (v5468 : BitVec 32) : Fin 3 → Nat :=
  let c64_i32_5563 : BitVec 32 := 64#32
  let c3072_i32_5564 : BitVec 32 := 3072#32
  ![v5468.toNat, 64, 3072]

def k0_chk70 (v5468 : BitVec 32) : Prop :=
  (∀ a, (k0_off435 v5468) a + S1x64x1024.size a ≤ S32x128x4096.size a) ∧
  (∀ (hinb : ∀ a, (k0_off435 v5468) a + S1x64x1024.size a ≤ S32x128x4096.size a), (Rect.unit (s := S32x128x4096) (k0_off435 v5468) S1x64x1024.size hinb).WholeWords (EltTy.packing .fp8e5m2)) ∧
  (∀ a, (k0_off437 v5468) a + S1x64x1024.size a ≤ S32x128x4096.size a) ∧
  (∀ (hinb : ∀ a, (k0_off437 v5468) a + S1x64x1024.size a ≤ S32x128x4096.size a), (Rect.unit (s := S32x128x4096) (k0_off437 v5468) S1x64x1024.size hinb).WholeWords (EltTy.packing .fp8e5m2)) ∧
  (∀ a, (k0_off439 v5468) a + S1x64x1024.size a ≤ S32x128x4096.size a) ∧
  (∀ (hinb : ∀ a, (k0_off439 v5468) a + S1x64x1024.size a ≤ S32x128x4096.size a), (Rect.unit (s := S32x128x4096) (k0_off439 v5468) S1x64x1024.size hinb).WholeWords (EltTy.packing .fp8e5m2)) ∧
  (∀ a, (k0_off441 v5468) a + S1x64x1024.size a ≤ S32x128x4096.size a) ∧
  (∀ (hinb : ∀ a, (k0_off441 v5468) a + S1x64x1024.size a ≤ S32x128x4096.size a), (Rect.unit (s := S32x128x4096) (k0_off441 v5468) S1x64x1024.size hinb).WholeWords (EltTy.packing .fp8e5m2))
theorem k0_off435_inb : ∀ (v5468 : BitVec 32) (k0_hw70 : k0_chk70 v5468), ∀ a, (k0_off435 v5468) a + S1x64x1024.size a ≤ S32x128x4096.size a := fun v5468 k0_hw70 => k0_hw70.1
theorem k0_off435_wordsfp8e5m2 : ∀ (v5468 : BitVec 32) (k0_hw70 : k0_chk70 v5468), (Rect.unit (s := S32x128x4096) (k0_off435 v5468) S1x64x1024.size (k0_off435_inb v5468 k0_hw70)).WholeWords (EltTy.packing .fp8e5m2) := fun v5468 k0_hw70 => k0_hw70.2.1 (k0_off435_inb v5468 k0_hw70)
theorem k0_off437_inb : ∀ (v5468 : BitVec 32) (k0_hw70 : k0_chk70 v5468), ∀ a, (k0_off437 v5468) a + S1x64x1024.size a ≤ S32x128x4096.size a := fun v5468 k0_hw70 => k0_hw70.2.2.1
theorem k0_off437_wordsfp8e5m2 : ∀ (v5468 : BitVec 32) (k0_hw70 : k0_chk70 v5468), (Rect.unit (s := S32x128x4096) (k0_off437 v5468) S1x64x1024.size (k0_off437_inb v5468 k0_hw70)).WholeWords (EltTy.packing .fp8e5m2) := fun v5468 k0_hw70 => k0_hw70.2.2.2.1 (k0_off437_inb v5468 k0_hw70)
theorem k0_off439_inb : ∀ (v5468 : BitVec 32) (k0_hw70 : k0_chk70 v5468), ∀ a, (k0_off439 v5468) a + S1x64x1024.size a ≤ S32x128x4096.size a := fun v5468 k0_hw70 => k0_hw70.2.2.2.2.1
theorem k0_off439_wordsfp8e5m2 : ∀ (v5468 : BitVec 32) (k0_hw70 : k0_chk70 v5468), (Rect.unit (s := S32x128x4096) (k0_off439 v5468) S1x64x1024.size (k0_off439_inb v5468 k0_hw70)).WholeWords (EltTy.packing .fp8e5m2) := fun v5468 k0_hw70 => k0_hw70.2.2.2.2.2.1 (k0_off439_inb v5468 k0_hw70)
theorem k0_off441_inb : ∀ (v5468 : BitVec 32) (k0_hw70 : k0_chk70 v5468), ∀ a, (k0_off441 v5468) a + S1x64x1024.size a ≤ S32x128x4096.size a := fun v5468 k0_hw70 => k0_hw70.2.2.2.2.2.2.1
theorem k0_off441_wordsfp8e5m2 : ∀ (v5468 : BitVec 32) (k0_hw70 : k0_chk70 v5468), (Rect.unit (s := S32x128x4096) (k0_off441 v5468) S1x64x1024.size (k0_off441_inb v5468 k0_hw70)).WholeWords (EltTy.packing .fp8e5m2) := fun v5468 k0_hw70 => k0_hw70.2.2.2.2.2.2.2 (k0_off441_inb v5468 k0_hw70)

def k0_off442 (d0 : Dev nD) : Fin 2 → Nat :=
  let c3_5567 : Index := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5517 : Index := Scalar.indexCast v2
  ![3, v5517.toNat]
def k0_off443 (v5518 : BitVec 32) : Fin 3 → Nat :=
  let c0_i32_5574 : BitVec 32 := 0#32
  let c0_i32_5575 : BitVec 32 := 0#32
  ![v5518.toNat, 0, 0]

def k0_off444 (v5520 : BitVec 32) : Fin 3 → Nat :=
  let c64_i32_5583 : BitVec 32 := 64#32
  let c0_i32_5584 : BitVec 32 := 0#32
  ![v5520.toNat, 64, 0]

def k0_off445 (v5518 : BitVec 32) : Fin 3 → Nat :=
  let c0_i32_5592 : BitVec 32 := 0#32
  let c1024_i32_5593 : BitVec 32 := 1024#32
  ![v5518.toNat, 0, 1024]
def k0_off446 (v5520 : BitVec 32) : Fin 3 → Nat :=
  let c64_i32_5601 : BitVec 32 := 64#32
  let c1024_i32_5602 : BitVec 32 := 1024#32
  ![v5520.toNat, 64, 1024]
def k0_off447 (v5518 : BitVec 32) : Fin 3 → Nat :=
  let c0_i32_5610 : BitVec 32 := 0#32
  let c2048_i32_5611 : BitVec 32 := 2048#32
  ![v5518.toNat, 0, 2048]
def k0_off448 (v5520 : BitVec 32) : Fin 3 → Nat :=
  let c64_i32_5619 : BitVec 32 := 64#32
  let c2048_i32_5620 : BitVec 32 := 2048#32
  ![v5520.toNat, 64, 2048]
def k0_off449 (v5518 : BitVec 32) : Fin 3 → Nat :=
  let c0_i32_5628 : BitVec 32 := 0#32
  let c3072_i32_5629 : BitVec 32 := 3072#32
  ![v5518.toNat, 0, 3072]

def k0_chk71 (v5518 : BitVec 32) : Prop :=
  (∀ a, (k0_off443 v5518) a + S1x64x1024.size a ≤ S32x128x4096.size a) ∧
  (∀ (hinb : ∀ a, (k0_off443 v5518) a + S1x64x1024.size a ≤ S32x128x4096.size a), (Rect.unit (s := S32x128x4096) (k0_off443 v5518) S1x64x1024.size hinb).WholeWords (EltTy.packing .fp8e5m2)) ∧
  (∀ a, (k0_off445 v5518) a + S1x64x1024.size a ≤ S32x128x4096.size a) ∧
  (∀ (hinb : ∀ a, (k0_off445 v5518) a + S1x64x1024.size a ≤ S32x128x4096.size a), (Rect.unit (s := S32x128x4096) (k0_off445 v5518) S1x64x1024.size hinb).WholeWords (EltTy.packing .fp8e5m2)) ∧
  (∀ a, (k0_off447 v5518) a + S1x64x1024.size a ≤ S32x128x4096.size a) ∧
  (∀ (hinb : ∀ a, (k0_off447 v5518) a + S1x64x1024.size a ≤ S32x128x4096.size a), (Rect.unit (s := S32x128x4096) (k0_off447 v5518) S1x64x1024.size hinb).WholeWords (EltTy.packing .fp8e5m2)) ∧
  (∀ a, (k0_off449 v5518) a + S1x64x1024.size a ≤ S32x128x4096.size a) ∧
  (∀ (hinb : ∀ a, (k0_off449 v5518) a + S1x64x1024.size a ≤ S32x128x4096.size a), (Rect.unit (s := S32x128x4096) (k0_off449 v5518) S1x64x1024.size hinb).WholeWords (EltTy.packing .fp8e5m2))
theorem k0_off443_inb : ∀ (v5518 : BitVec 32) (k0_hw71 : k0_chk71 v5518), ∀ a, (k0_off443 v5518) a + S1x64x1024.size a ≤ S32x128x4096.size a := fun v5518 k0_hw71 => k0_hw71.1
theorem k0_off443_wordsfp8e5m2 : ∀ (v5518 : BitVec 32) (k0_hw71 : k0_chk71 v5518), (Rect.unit (s := S32x128x4096) (k0_off443 v5518) S1x64x1024.size (k0_off443_inb v5518 k0_hw71)).WholeWords (EltTy.packing .fp8e5m2) := fun v5518 k0_hw71 => k0_hw71.2.1 (k0_off443_inb v5518 k0_hw71)
theorem k0_off445_inb : ∀ (v5518 : BitVec 32) (k0_hw71 : k0_chk71 v5518), ∀ a, (k0_off445 v5518) a + S1x64x1024.size a ≤ S32x128x4096.size a := fun v5518 k0_hw71 => k0_hw71.2.2.1
theorem k0_off445_wordsfp8e5m2 : ∀ (v5518 : BitVec 32) (k0_hw71 : k0_chk71 v5518), (Rect.unit (s := S32x128x4096) (k0_off445 v5518) S1x64x1024.size (k0_off445_inb v5518 k0_hw71)).WholeWords (EltTy.packing .fp8e5m2) := fun v5518 k0_hw71 => k0_hw71.2.2.2.1 (k0_off445_inb v5518 k0_hw71)
theorem k0_off447_inb : ∀ (v5518 : BitVec 32) (k0_hw71 : k0_chk71 v5518), ∀ a, (k0_off447 v5518) a + S1x64x1024.size a ≤ S32x128x4096.size a := fun v5518 k0_hw71 => k0_hw71.2.2.2.2.1
theorem k0_off447_wordsfp8e5m2 : ∀ (v5518 : BitVec 32) (k0_hw71 : k0_chk71 v5518), (Rect.unit (s := S32x128x4096) (k0_off447 v5518) S1x64x1024.size (k0_off447_inb v5518 k0_hw71)).WholeWords (EltTy.packing .fp8e5m2) := fun v5518 k0_hw71 => k0_hw71.2.2.2.2.2.1 (k0_off447_inb v5518 k0_hw71)
theorem k0_off449_inb : ∀ (v5518 : BitVec 32) (k0_hw71 : k0_chk71 v5518), ∀ a, (k0_off449 v5518) a + S1x64x1024.size a ≤ S32x128x4096.size a := fun v5518 k0_hw71 => k0_hw71.2.2.2.2.2.2.1
theorem k0_off449_wordsfp8e5m2 : ∀ (v5518 : BitVec 32) (k0_hw71 : k0_chk71 v5518), (Rect.unit (s := S32x128x4096) (k0_off449 v5518) S1x64x1024.size (k0_off449_inb v5518 k0_hw71)).WholeWords (EltTy.packing .fp8e5m2) := fun v5518 k0_hw71 => k0_hw71.2.2.2.2.2.2.2 (k0_off449_inb v5518 k0_hw71)

def k0_off450 (v5520 : BitVec 32) : Fin 3 → Nat :=
  let c64_i32_5637 : BitVec 32 := 64#32
  let c3072_i32_5638 : BitVec 32 := 3072#32
  ![v5520.toNat, 64, 3072]

def k0_chk72 (v5520 : BitVec 32) : Prop :=
  (∀ a, (k0_off444 v5520) a + S1x64x1024.size a ≤ S32x128x4096.size a) ∧
  (∀ (hinb : ∀ a, (k0_off444 v5520) a + S1x64x1024.size a ≤ S32x128x4096.size a), (Rect.unit (s := S32x128x4096) (k0_off444 v5520) S1x64x1024.size hinb).WholeWords (EltTy.packing .fp8e5m2)) ∧
  (∀ a, (k0_off446 v5520) a + S1x64x1024.size a ≤ S32x128x4096.size a) ∧
  (∀ (hinb : ∀ a, (k0_off446 v5520) a + S1x64x1024.size a ≤ S32x128x4096.size a), (Rect.unit (s := S32x128x4096) (k0_off446 v5520) S1x64x1024.size hinb).WholeWords (EltTy.packing .fp8e5m2)) ∧
  (∀ a, (k0_off448 v5520) a + S1x64x1024.size a ≤ S32x128x4096.size a) ∧
  (∀ (hinb : ∀ a, (k0_off448 v5520) a + S1x64x1024.size a ≤ S32x128x4096.size a), (Rect.unit (s := S32x128x4096) (k0_off448 v5520) S1x64x1024.size hinb).WholeWords (EltTy.packing .fp8e5m2)) ∧
  (∀ a, (k0_off450 v5520) a + S1x64x1024.size a ≤ S32x128x4096.size a) ∧
  (∀ (hinb : ∀ a, (k0_off450 v5520) a + S1x64x1024.size a ≤ S32x128x4096.size a), (Rect.unit (s := S32x128x4096) (k0_off450 v5520) S1x64x1024.size hinb).WholeWords (EltTy.packing .fp8e5m2))
theorem k0_off444_inb : ∀ (v5520 : BitVec 32) (k0_hw72 : k0_chk72 v5520), ∀ a, (k0_off444 v5520) a + S1x64x1024.size a ≤ S32x128x4096.size a := fun v5520 k0_hw72 => k0_hw72.1
theorem k0_off444_wordsfp8e5m2 : ∀ (v5520 : BitVec 32) (k0_hw72 : k0_chk72 v5520), (Rect.unit (s := S32x128x4096) (k0_off444 v5520) S1x64x1024.size (k0_off444_inb v5520 k0_hw72)).WholeWords (EltTy.packing .fp8e5m2) := fun v5520 k0_hw72 => k0_hw72.2.1 (k0_off444_inb v5520 k0_hw72)
theorem k0_off446_inb : ∀ (v5520 : BitVec 32) (k0_hw72 : k0_chk72 v5520), ∀ a, (k0_off446 v5520) a + S1x64x1024.size a ≤ S32x128x4096.size a := fun v5520 k0_hw72 => k0_hw72.2.2.1
theorem k0_off446_wordsfp8e5m2 : ∀ (v5520 : BitVec 32) (k0_hw72 : k0_chk72 v5520), (Rect.unit (s := S32x128x4096) (k0_off446 v5520) S1x64x1024.size (k0_off446_inb v5520 k0_hw72)).WholeWords (EltTy.packing .fp8e5m2) := fun v5520 k0_hw72 => k0_hw72.2.2.2.1 (k0_off446_inb v5520 k0_hw72)
theorem k0_off448_inb : ∀ (v5520 : BitVec 32) (k0_hw72 : k0_chk72 v5520), ∀ a, (k0_off448 v5520) a + S1x64x1024.size a ≤ S32x128x4096.size a := fun v5520 k0_hw72 => k0_hw72.2.2.2.2.1
theorem k0_off448_wordsfp8e5m2 : ∀ (v5520 : BitVec 32) (k0_hw72 : k0_chk72 v5520), (Rect.unit (s := S32x128x4096) (k0_off448 v5520) S1x64x1024.size (k0_off448_inb v5520 k0_hw72)).WholeWords (EltTy.packing .fp8e5m2) := fun v5520 k0_hw72 => k0_hw72.2.2.2.2.2.1 (k0_off448_inb v5520 k0_hw72)
theorem k0_off450_inb : ∀ (v5520 : BitVec 32) (k0_hw72 : k0_chk72 v5520), ∀ a, (k0_off450 v5520) a + S1x64x1024.size a ≤ S32x128x4096.size a := fun v5520 k0_hw72 => k0_hw72.2.2.2.2.2.2.1
theorem k0_off450_wordsfp8e5m2 : ∀ (v5520 : BitVec 32) (k0_hw72 : k0_chk72 v5520), (Rect.unit (s := S32x128x4096) (k0_off450 v5520) S1x64x1024.size (k0_off450_inb v5520 k0_hw72)).WholeWords (EltTy.packing .fp8e5m2) := fun v5520 k0_hw72 => k0_hw72.2.2.2.2.2.2.2 (k0_off450_inb v5520 k0_hw72)

def k0_off451 (d0 : Dev nD) : Fin 2 → Nat :=
  let c4_5641 : Index := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5569 : Index := Scalar.indexCast v2
  ![4, v5569.toNat]
def k0_off452 (v5570 : BitVec 32) : Fin 3 → Nat :=
  let c0_i32_5648 : BitVec 32 := 0#32
  let c0_i32_5649 : BitVec 32 := 0#32
  ![v5570.toNat, 0, 0]

def k0_off453 (v5572 : BitVec 32) : Fin 3 → Nat :=
  let c64_i32_5657 : BitVec 32 := 64#32
  let c0_i32_5658 : BitVec 32 := 0#32
  ![v5572.toNat, 64, 0]

def k0_off454 (v5570 : BitVec 32) : Fin 3 → Nat :=
  let c0_i32_5666 : BitVec 32 := 0#32
  let c1024_i32_5667 : BitVec 32 := 1024#32
  ![v5570.toNat, 0, 1024]
def k0_off455 (v5572 : BitVec 32) : Fin 3 → Nat :=
  let c64_i32_5675 : BitVec 32 := 64#32
  let c1024_i32_5676 : BitVec 32 := 1024#32
  ![v5572.toNat, 64, 1024]
def k0_off456 (v5570 : BitVec 32) : Fin 3 → Nat :=
  let c0_i32_5684 : BitVec 32 := 0#32
  let c2048_i32_5685 : BitVec 32 := 2048#32
  ![v5570.toNat, 0, 2048]
def k0_off457 (v5572 : BitVec 32) : Fin 3 → Nat :=
  let c64_i32_5693 : BitVec 32 := 64#32
  let c2048_i32_5694 : BitVec 32 := 2048#32
  ![v5572.toNat, 64, 2048]
def k0_off458 (v5570 : BitVec 32) : Fin 3 → Nat :=
  let c0_i32_5702 : BitVec 32 := 0#32
  let c3072_i32_5703 : BitVec 32 := 3072#32
  ![v5570.toNat, 0, 3072]

def k0_chk73 (v5570 : BitVec 32) : Prop :=
  (∀ a, (k0_off452 v5570) a + S1x64x1024.size a ≤ S32x128x4096.size a) ∧
  (∀ (hinb : ∀ a, (k0_off452 v5570) a + S1x64x1024.size a ≤ S32x128x4096.size a), (Rect.unit (s := S32x128x4096) (k0_off452 v5570) S1x64x1024.size hinb).WholeWords (EltTy.packing .fp8e5m2)) ∧
  (∀ a, (k0_off454 v5570) a + S1x64x1024.size a ≤ S32x128x4096.size a) ∧
  (∀ (hinb : ∀ a, (k0_off454 v5570) a + S1x64x1024.size a ≤ S32x128x4096.size a), (Rect.unit (s := S32x128x4096) (k0_off454 v5570) S1x64x1024.size hinb).WholeWords (EltTy.packing .fp8e5m2)) ∧
  (∀ a, (k0_off456 v5570) a + S1x64x1024.size a ≤ S32x128x4096.size a) ∧
  (∀ (hinb : ∀ a, (k0_off456 v5570) a + S1x64x1024.size a ≤ S32x128x4096.size a), (Rect.unit (s := S32x128x4096) (k0_off456 v5570) S1x64x1024.size hinb).WholeWords (EltTy.packing .fp8e5m2)) ∧
  (∀ a, (k0_off458 v5570) a + S1x64x1024.size a ≤ S32x128x4096.size a) ∧
  (∀ (hinb : ∀ a, (k0_off458 v5570) a + S1x64x1024.size a ≤ S32x128x4096.size a), (Rect.unit (s := S32x128x4096) (k0_off458 v5570) S1x64x1024.size hinb).WholeWords (EltTy.packing .fp8e5m2))
theorem k0_off452_inb : ∀ (v5570 : BitVec 32) (k0_hw73 : k0_chk73 v5570), ∀ a, (k0_off452 v5570) a + S1x64x1024.size a ≤ S32x128x4096.size a := fun v5570 k0_hw73 => k0_hw73.1
theorem k0_off452_wordsfp8e5m2 : ∀ (v5570 : BitVec 32) (k0_hw73 : k0_chk73 v5570), (Rect.unit (s := S32x128x4096) (k0_off452 v5570) S1x64x1024.size (k0_off452_inb v5570 k0_hw73)).WholeWords (EltTy.packing .fp8e5m2) := fun v5570 k0_hw73 => k0_hw73.2.1 (k0_off452_inb v5570 k0_hw73)
theorem k0_off454_inb : ∀ (v5570 : BitVec 32) (k0_hw73 : k0_chk73 v5570), ∀ a, (k0_off454 v5570) a + S1x64x1024.size a ≤ S32x128x4096.size a := fun v5570 k0_hw73 => k0_hw73.2.2.1
theorem k0_off454_wordsfp8e5m2 : ∀ (v5570 : BitVec 32) (k0_hw73 : k0_chk73 v5570), (Rect.unit (s := S32x128x4096) (k0_off454 v5570) S1x64x1024.size (k0_off454_inb v5570 k0_hw73)).WholeWords (EltTy.packing .fp8e5m2) := fun v5570 k0_hw73 => k0_hw73.2.2.2.1 (k0_off454_inb v5570 k0_hw73)
theorem k0_off456_inb : ∀ (v5570 : BitVec 32) (k0_hw73 : k0_chk73 v5570), ∀ a, (k0_off456 v5570) a + S1x64x1024.size a ≤ S32x128x4096.size a := fun v5570 k0_hw73 => k0_hw73.2.2.2.2.1
theorem k0_off456_wordsfp8e5m2 : ∀ (v5570 : BitVec 32) (k0_hw73 : k0_chk73 v5570), (Rect.unit (s := S32x128x4096) (k0_off456 v5570) S1x64x1024.size (k0_off456_inb v5570 k0_hw73)).WholeWords (EltTy.packing .fp8e5m2) := fun v5570 k0_hw73 => k0_hw73.2.2.2.2.2.1 (k0_off456_inb v5570 k0_hw73)
theorem k0_off458_inb : ∀ (v5570 : BitVec 32) (k0_hw73 : k0_chk73 v5570), ∀ a, (k0_off458 v5570) a + S1x64x1024.size a ≤ S32x128x4096.size a := fun v5570 k0_hw73 => k0_hw73.2.2.2.2.2.2.1
theorem k0_off458_wordsfp8e5m2 : ∀ (v5570 : BitVec 32) (k0_hw73 : k0_chk73 v5570), (Rect.unit (s := S32x128x4096) (k0_off458 v5570) S1x64x1024.size (k0_off458_inb v5570 k0_hw73)).WholeWords (EltTy.packing .fp8e5m2) := fun v5570 k0_hw73 => k0_hw73.2.2.2.2.2.2.2 (k0_off458_inb v5570 k0_hw73)

def k0_off459 (v5572 : BitVec 32) : Fin 3 → Nat :=
  let c64_i32_5711 : BitVec 32 := 64#32
  let c3072_i32_5712 : BitVec 32 := 3072#32
  ![v5572.toNat, 64, 3072]

def k0_chk74 (v5572 : BitVec 32) : Prop :=
  (∀ a, (k0_off453 v5572) a + S1x64x1024.size a ≤ S32x128x4096.size a) ∧
  (∀ (hinb : ∀ a, (k0_off453 v5572) a + S1x64x1024.size a ≤ S32x128x4096.size a), (Rect.unit (s := S32x128x4096) (k0_off453 v5572) S1x64x1024.size hinb).WholeWords (EltTy.packing .fp8e5m2)) ∧
  (∀ a, (k0_off455 v5572) a + S1x64x1024.size a ≤ S32x128x4096.size a) ∧
  (∀ (hinb : ∀ a, (k0_off455 v5572) a + S1x64x1024.size a ≤ S32x128x4096.size a), (Rect.unit (s := S32x128x4096) (k0_off455 v5572) S1x64x1024.size hinb).WholeWords (EltTy.packing .fp8e5m2)) ∧
  (∀ a, (k0_off457 v5572) a + S1x64x1024.size a ≤ S32x128x4096.size a) ∧
  (∀ (hinb : ∀ a, (k0_off457 v5572) a + S1x64x1024.size a ≤ S32x128x4096.size a), (Rect.unit (s := S32x128x4096) (k0_off457 v5572) S1x64x1024.size hinb).WholeWords (EltTy.packing .fp8e5m2)) ∧
  (∀ a, (k0_off459 v5572) a + S1x64x1024.size a ≤ S32x128x4096.size a) ∧
  (∀ (hinb : ∀ a, (k0_off459 v5572) a + S1x64x1024.size a ≤ S32x128x4096.size a), (Rect.unit (s := S32x128x4096) (k0_off459 v5572) S1x64x1024.size hinb).WholeWords (EltTy.packing .fp8e5m2))
theorem k0_off453_inb : ∀ (v5572 : BitVec 32) (k0_hw74 : k0_chk74 v5572), ∀ a, (k0_off453 v5572) a + S1x64x1024.size a ≤ S32x128x4096.size a := fun v5572 k0_hw74 => k0_hw74.1
theorem k0_off453_wordsfp8e5m2 : ∀ (v5572 : BitVec 32) (k0_hw74 : k0_chk74 v5572), (Rect.unit (s := S32x128x4096) (k0_off453 v5572) S1x64x1024.size (k0_off453_inb v5572 k0_hw74)).WholeWords (EltTy.packing .fp8e5m2) := fun v5572 k0_hw74 => k0_hw74.2.1 (k0_off453_inb v5572 k0_hw74)
theorem k0_off455_inb : ∀ (v5572 : BitVec 32) (k0_hw74 : k0_chk74 v5572), ∀ a, (k0_off455 v5572) a + S1x64x1024.size a ≤ S32x128x4096.size a := fun v5572 k0_hw74 => k0_hw74.2.2.1
theorem k0_off455_wordsfp8e5m2 : ∀ (v5572 : BitVec 32) (k0_hw74 : k0_chk74 v5572), (Rect.unit (s := S32x128x4096) (k0_off455 v5572) S1x64x1024.size (k0_off455_inb v5572 k0_hw74)).WholeWords (EltTy.packing .fp8e5m2) := fun v5572 k0_hw74 => k0_hw74.2.2.2.1 (k0_off455_inb v5572 k0_hw74)
theorem k0_off457_inb : ∀ (v5572 : BitVec 32) (k0_hw74 : k0_chk74 v5572), ∀ a, (k0_off457 v5572) a + S1x64x1024.size a ≤ S32x128x4096.size a := fun v5572 k0_hw74 => k0_hw74.2.2.2.2.1
theorem k0_off457_wordsfp8e5m2 : ∀ (v5572 : BitVec 32) (k0_hw74 : k0_chk74 v5572), (Rect.unit (s := S32x128x4096) (k0_off457 v5572) S1x64x1024.size (k0_off457_inb v5572 k0_hw74)).WholeWords (EltTy.packing .fp8e5m2) := fun v5572 k0_hw74 => k0_hw74.2.2.2.2.2.1 (k0_off457_inb v5572 k0_hw74)
theorem k0_off459_inb : ∀ (v5572 : BitVec 32) (k0_hw74 : k0_chk74 v5572), ∀ a, (k0_off459 v5572) a + S1x64x1024.size a ≤ S32x128x4096.size a := fun v5572 k0_hw74 => k0_hw74.2.2.2.2.2.2.1
theorem k0_off459_wordsfp8e5m2 : ∀ (v5572 : BitVec 32) (k0_hw74 : k0_chk74 v5572), (Rect.unit (s := S32x128x4096) (k0_off459 v5572) S1x64x1024.size (k0_off459_inb v5572 k0_hw74)).WholeWords (EltTy.packing .fp8e5m2) := fun v5572 k0_hw74 => k0_hw74.2.2.2.2.2.2.2 (k0_off459_inb v5572 k0_hw74)

def k0_off460 (d0 : Dev nD) : Fin 2 → Nat :=
  let c5_5715 : Index := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5621 : Index := Scalar.indexCast v2
  ![5, v5621.toNat]
def k0_off461 (v5622 : BitVec 32) : Fin 3 → Nat :=
  let c0_i32_5722 : BitVec 32 := 0#32
  let c0_i32_5723 : BitVec 32 := 0#32
  ![v5622.toNat, 0, 0]

def k0_off462 (v5624 : BitVec 32) : Fin 3 → Nat :=
  let c64_i32_5731 : BitVec 32 := 64#32
  let c0_i32_5732 : BitVec 32 := 0#32
  ![v5624.toNat, 64, 0]

def k0_off463 (v5622 : BitVec 32) : Fin 3 → Nat :=
  let c0_i32_5740 : BitVec 32 := 0#32
  let c1024_i32_5741 : BitVec 32 := 1024#32
  ![v5622.toNat, 0, 1024]
def k0_off464 (v5624 : BitVec 32) : Fin 3 → Nat :=
  let c64_i32_5749 : BitVec 32 := 64#32
  let c1024_i32_5750 : BitVec 32 := 1024#32
  ![v5624.toNat, 64, 1024]
def k0_off465 (v5622 : BitVec 32) : Fin 3 → Nat :=
  let c0_i32_5758 : BitVec 32 := 0#32
  let c2048_i32_5759 : BitVec 32 := 2048#32
  ![v5622.toNat, 0, 2048]
def k0_off466 (v5624 : BitVec 32) : Fin 3 → Nat :=
  let c64_i32_5767 : BitVec 32 := 64#32
  let c2048_i32_5768 : BitVec 32 := 2048#32
  ![v5624.toNat, 64, 2048]
def k0_off467 (v5622 : BitVec 32) : Fin 3 → Nat :=
  let c0_i32_5776 : BitVec 32 := 0#32
  let c3072_i32_5777 : BitVec 32 := 3072#32
  ![v5622.toNat, 0, 3072]

def k0_chk75 (v5622 : BitVec 32) : Prop :=
  (∀ a, (k0_off461 v5622) a + S1x64x1024.size a ≤ S32x128x4096.size a) ∧
  (∀ (hinb : ∀ a, (k0_off461 v5622) a + S1x64x1024.size a ≤ S32x128x4096.size a), (Rect.unit (s := S32x128x4096) (k0_off461 v5622) S1x64x1024.size hinb).WholeWords (EltTy.packing .fp8e5m2)) ∧
  (∀ a, (k0_off463 v5622) a + S1x64x1024.size a ≤ S32x128x4096.size a) ∧
  (∀ (hinb : ∀ a, (k0_off463 v5622) a + S1x64x1024.size a ≤ S32x128x4096.size a), (Rect.unit (s := S32x128x4096) (k0_off463 v5622) S1x64x1024.size hinb).WholeWords (EltTy.packing .fp8e5m2)) ∧
  (∀ a, (k0_off465 v5622) a + S1x64x1024.size a ≤ S32x128x4096.size a) ∧
  (∀ (hinb : ∀ a, (k0_off465 v5622) a + S1x64x1024.size a ≤ S32x128x4096.size a), (Rect.unit (s := S32x128x4096) (k0_off465 v5622) S1x64x1024.size hinb).WholeWords (EltTy.packing .fp8e5m2)) ∧
  (∀ a, (k0_off467 v5622) a + S1x64x1024.size a ≤ S32x128x4096.size a) ∧
  (∀ (hinb : ∀ a, (k0_off467 v5622) a + S1x64x1024.size a ≤ S32x128x4096.size a), (Rect.unit (s := S32x128x4096) (k0_off467 v5622) S1x64x1024.size hinb).WholeWords (EltTy.packing .fp8e5m2))
theorem k0_off461_inb : ∀ (v5622 : BitVec 32) (k0_hw75 : k0_chk75 v5622), ∀ a, (k0_off461 v5622) a + S1x64x1024.size a ≤ S32x128x4096.size a := fun v5622 k0_hw75 => k0_hw75.1
theorem k0_off461_wordsfp8e5m2 : ∀ (v5622 : BitVec 32) (k0_hw75 : k0_chk75 v5622), (Rect.unit (s := S32x128x4096) (k0_off461 v5622) S1x64x1024.size (k0_off461_inb v5622 k0_hw75)).WholeWords (EltTy.packing .fp8e5m2) := fun v5622 k0_hw75 => k0_hw75.2.1 (k0_off461_inb v5622 k0_hw75)
theorem k0_off463_inb : ∀ (v5622 : BitVec 32) (k0_hw75 : k0_chk75 v5622), ∀ a, (k0_off463 v5622) a + S1x64x1024.size a ≤ S32x128x4096.size a := fun v5622 k0_hw75 => k0_hw75.2.2.1
theorem k0_off463_wordsfp8e5m2 : ∀ (v5622 : BitVec 32) (k0_hw75 : k0_chk75 v5622), (Rect.unit (s := S32x128x4096) (k0_off463 v5622) S1x64x1024.size (k0_off463_inb v5622 k0_hw75)).WholeWords (EltTy.packing .fp8e5m2) := fun v5622 k0_hw75 => k0_hw75.2.2.2.1 (k0_off463_inb v5622 k0_hw75)
theorem k0_off465_inb : ∀ (v5622 : BitVec 32) (k0_hw75 : k0_chk75 v5622), ∀ a, (k0_off465 v5622) a + S1x64x1024.size a ≤ S32x128x4096.size a := fun v5622 k0_hw75 => k0_hw75.2.2.2.2.1
theorem k0_off465_wordsfp8e5m2 : ∀ (v5622 : BitVec 32) (k0_hw75 : k0_chk75 v5622), (Rect.unit (s := S32x128x4096) (k0_off465 v5622) S1x64x1024.size (k0_off465_inb v5622 k0_hw75)).WholeWords (EltTy.packing .fp8e5m2) := fun v5622 k0_hw75 => k0_hw75.2.2.2.2.2.1 (k0_off465_inb v5622 k0_hw75)
theorem k0_off467_inb : ∀ (v5622 : BitVec 32) (k0_hw75 : k0_chk75 v5622), ∀ a, (k0_off467 v5622) a + S1x64x1024.size a ≤ S32x128x4096.size a := fun v5622 k0_hw75 => k0_hw75.2.2.2.2.2.2.1
theorem k0_off467_wordsfp8e5m2 : ∀ (v5622 : BitVec 32) (k0_hw75 : k0_chk75 v5622), (Rect.unit (s := S32x128x4096) (k0_off467 v5622) S1x64x1024.size (k0_off467_inb v5622 k0_hw75)).WholeWords (EltTy.packing .fp8e5m2) := fun v5622 k0_hw75 => k0_hw75.2.2.2.2.2.2.2 (k0_off467_inb v5622 k0_hw75)

def k0_off468 (v5624 : BitVec 32) : Fin 3 → Nat :=
  let c64_i32_5785 : BitVec 32 := 64#32
  let c3072_i32_5786 : BitVec 32 := 3072#32
  ![v5624.toNat, 64, 3072]

def k0_chk76 (v5624 : BitVec 32) : Prop :=
  (∀ a, (k0_off462 v5624) a + S1x64x1024.size a ≤ S32x128x4096.size a) ∧
  (∀ (hinb : ∀ a, (k0_off462 v5624) a + S1x64x1024.size a ≤ S32x128x4096.size a), (Rect.unit (s := S32x128x4096) (k0_off462 v5624) S1x64x1024.size hinb).WholeWords (EltTy.packing .fp8e5m2)) ∧
  (∀ a, (k0_off464 v5624) a + S1x64x1024.size a ≤ S32x128x4096.size a) ∧
  (∀ (hinb : ∀ a, (k0_off464 v5624) a + S1x64x1024.size a ≤ S32x128x4096.size a), (Rect.unit (s := S32x128x4096) (k0_off464 v5624) S1x64x1024.size hinb).WholeWords (EltTy.packing .fp8e5m2)) ∧
  (∀ a, (k0_off466 v5624) a + S1x64x1024.size a ≤ S32x128x4096.size a) ∧
  (∀ (hinb : ∀ a, (k0_off466 v5624) a + S1x64x1024.size a ≤ S32x128x4096.size a), (Rect.unit (s := S32x128x4096) (k0_off466 v5624) S1x64x1024.size hinb).WholeWords (EltTy.packing .fp8e5m2)) ∧
  (∀ a, (k0_off468 v5624) a + S1x64x1024.size a ≤ S32x128x4096.size a) ∧
  (∀ (hinb : ∀ a, (k0_off468 v5624) a + S1x64x1024.size a ≤ S32x128x4096.size a), (Rect.unit (s := S32x128x4096) (k0_off468 v5624) S1x64x1024.size hinb).WholeWords (EltTy.packing .fp8e5m2))
theorem k0_off462_inb : ∀ (v5624 : BitVec 32) (k0_hw76 : k0_chk76 v5624), ∀ a, (k0_off462 v5624) a + S1x64x1024.size a ≤ S32x128x4096.size a := fun v5624 k0_hw76 => k0_hw76.1
theorem k0_off462_wordsfp8e5m2 : ∀ (v5624 : BitVec 32) (k0_hw76 : k0_chk76 v5624), (Rect.unit (s := S32x128x4096) (k0_off462 v5624) S1x64x1024.size (k0_off462_inb v5624 k0_hw76)).WholeWords (EltTy.packing .fp8e5m2) := fun v5624 k0_hw76 => k0_hw76.2.1 (k0_off462_inb v5624 k0_hw76)
theorem k0_off464_inb : ∀ (v5624 : BitVec 32) (k0_hw76 : k0_chk76 v5624), ∀ a, (k0_off464 v5624) a + S1x64x1024.size a ≤ S32x128x4096.size a := fun v5624 k0_hw76 => k0_hw76.2.2.1
theorem k0_off464_wordsfp8e5m2 : ∀ (v5624 : BitVec 32) (k0_hw76 : k0_chk76 v5624), (Rect.unit (s := S32x128x4096) (k0_off464 v5624) S1x64x1024.size (k0_off464_inb v5624 k0_hw76)).WholeWords (EltTy.packing .fp8e5m2) := fun v5624 k0_hw76 => k0_hw76.2.2.2.1 (k0_off464_inb v5624 k0_hw76)
theorem k0_off466_inb : ∀ (v5624 : BitVec 32) (k0_hw76 : k0_chk76 v5624), ∀ a, (k0_off466 v5624) a + S1x64x1024.size a ≤ S32x128x4096.size a := fun v5624 k0_hw76 => k0_hw76.2.2.2.2.1
theorem k0_off466_wordsfp8e5m2 : ∀ (v5624 : BitVec 32) (k0_hw76 : k0_chk76 v5624), (Rect.unit (s := S32x128x4096) (k0_off466 v5624) S1x64x1024.size (k0_off466_inb v5624 k0_hw76)).WholeWords (EltTy.packing .fp8e5m2) := fun v5624 k0_hw76 => k0_hw76.2.2.2.2.2.1 (k0_off466_inb v5624 k0_hw76)
theorem k0_off468_inb : ∀ (v5624 : BitVec 32) (k0_hw76 : k0_chk76 v5624), ∀ a, (k0_off468 v5624) a + S1x64x1024.size a ≤ S32x128x4096.size a := fun v5624 k0_hw76 => k0_hw76.2.2.2.2.2.2.1
theorem k0_off468_wordsfp8e5m2 : ∀ (v5624 : BitVec 32) (k0_hw76 : k0_chk76 v5624), (Rect.unit (s := S32x128x4096) (k0_off468 v5624) S1x64x1024.size (k0_off468_inb v5624 k0_hw76)).WholeWords (EltTy.packing .fp8e5m2) := fun v5624 k0_hw76 => k0_hw76.2.2.2.2.2.2.2 (k0_off468_inb v5624 k0_hw76)

def k0_off469 (d0 : Dev nD) : Fin 2 → Nat :=
  let c6_5789 : Index := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5673 : Index := Scalar.indexCast v2
  ![6, v5673.toNat]
def k0_off470 (v5674 : BitVec 32) : Fin 3 → Nat :=
  let c0_i32_5796 : BitVec 32 := 0#32
  let c0_i32_5797 : BitVec 32 := 0#32
  ![v5674.toNat, 0, 0]

def k0_off471 (v5676 : BitVec 32) : Fin 3 → Nat :=
  let c64_i32_5805 : BitVec 32 := 64#32
  let c0_i32_5806 : BitVec 32 := 0#32
  ![v5676.toNat, 64, 0]

def k0_off472 (v5674 : BitVec 32) : Fin 3 → Nat :=
  let c0_i32_5814 : BitVec 32 := 0#32
  let c1024_i32_5815 : BitVec 32 := 1024#32
  ![v5674.toNat, 0, 1024]
def k0_off473 (v5676 : BitVec 32) : Fin 3 → Nat :=
  let c64_i32_5823 : BitVec 32 := 64#32
  let c1024_i32_5824 : BitVec 32 := 1024#32
  ![v5676.toNat, 64, 1024]
def k0_off474 (v5674 : BitVec 32) : Fin 3 → Nat :=
  let c0_i32_5832 : BitVec 32 := 0#32
  let c2048_i32_5833 : BitVec 32 := 2048#32
  ![v5674.toNat, 0, 2048]
def k0_off475 (v5676 : BitVec 32) : Fin 3 → Nat :=
  let c64_i32_5841 : BitVec 32 := 64#32
  let c2048_i32_5842 : BitVec 32 := 2048#32
  ![v5676.toNat, 64, 2048]
def k0_off476 (v5674 : BitVec 32) : Fin 3 → Nat :=
  let c0_i32_5850 : BitVec 32 := 0#32
  let c3072_i32_5851 : BitVec 32 := 3072#32
  ![v5674.toNat, 0, 3072]

def k0_chk77 (v5674 : BitVec 32) : Prop :=
  (∀ a, (k0_off470 v5674) a + S1x64x1024.size a ≤ S32x128x4096.size a) ∧
  (∀ (hinb : ∀ a, (k0_off470 v5674) a + S1x64x1024.size a ≤ S32x128x4096.size a), (Rect.unit (s := S32x128x4096) (k0_off470 v5674) S1x64x1024.size hinb).WholeWords (EltTy.packing .fp8e5m2)) ∧
  (∀ a, (k0_off472 v5674) a + S1x64x1024.size a ≤ S32x128x4096.size a) ∧
  (∀ (hinb : ∀ a, (k0_off472 v5674) a + S1x64x1024.size a ≤ S32x128x4096.size a), (Rect.unit (s := S32x128x4096) (k0_off472 v5674) S1x64x1024.size hinb).WholeWords (EltTy.packing .fp8e5m2)) ∧
  (∀ a, (k0_off474 v5674) a + S1x64x1024.size a ≤ S32x128x4096.size a) ∧
  (∀ (hinb : ∀ a, (k0_off474 v5674) a + S1x64x1024.size a ≤ S32x128x4096.size a), (Rect.unit (s := S32x128x4096) (k0_off474 v5674) S1x64x1024.size hinb).WholeWords (EltTy.packing .fp8e5m2)) ∧
  (∀ a, (k0_off476 v5674) a + S1x64x1024.size a ≤ S32x128x4096.size a) ∧
  (∀ (hinb : ∀ a, (k0_off476 v5674) a + S1x64x1024.size a ≤ S32x128x4096.size a), (Rect.unit (s := S32x128x4096) (k0_off476 v5674) S1x64x1024.size hinb).WholeWords (EltTy.packing .fp8e5m2))
theorem k0_off470_inb : ∀ (v5674 : BitVec 32) (k0_hw77 : k0_chk77 v5674), ∀ a, (k0_off470 v5674) a + S1x64x1024.size a ≤ S32x128x4096.size a := fun v5674 k0_hw77 => k0_hw77.1
theorem k0_off470_wordsfp8e5m2 : ∀ (v5674 : BitVec 32) (k0_hw77 : k0_chk77 v5674), (Rect.unit (s := S32x128x4096) (k0_off470 v5674) S1x64x1024.size (k0_off470_inb v5674 k0_hw77)).WholeWords (EltTy.packing .fp8e5m2) := fun v5674 k0_hw77 => k0_hw77.2.1 (k0_off470_inb v5674 k0_hw77)
theorem k0_off472_inb : ∀ (v5674 : BitVec 32) (k0_hw77 : k0_chk77 v5674), ∀ a, (k0_off472 v5674) a + S1x64x1024.size a ≤ S32x128x4096.size a := fun v5674 k0_hw77 => k0_hw77.2.2.1
theorem k0_off472_wordsfp8e5m2 : ∀ (v5674 : BitVec 32) (k0_hw77 : k0_chk77 v5674), (Rect.unit (s := S32x128x4096) (k0_off472 v5674) S1x64x1024.size (k0_off472_inb v5674 k0_hw77)).WholeWords (EltTy.packing .fp8e5m2) := fun v5674 k0_hw77 => k0_hw77.2.2.2.1 (k0_off472_inb v5674 k0_hw77)
theorem k0_off474_inb : ∀ (v5674 : BitVec 32) (k0_hw77 : k0_chk77 v5674), ∀ a, (k0_off474 v5674) a + S1x64x1024.size a ≤ S32x128x4096.size a := fun v5674 k0_hw77 => k0_hw77.2.2.2.2.1
theorem k0_off474_wordsfp8e5m2 : ∀ (v5674 : BitVec 32) (k0_hw77 : k0_chk77 v5674), (Rect.unit (s := S32x128x4096) (k0_off474 v5674) S1x64x1024.size (k0_off474_inb v5674 k0_hw77)).WholeWords (EltTy.packing .fp8e5m2) := fun v5674 k0_hw77 => k0_hw77.2.2.2.2.2.1 (k0_off474_inb v5674 k0_hw77)
theorem k0_off476_inb : ∀ (v5674 : BitVec 32) (k0_hw77 : k0_chk77 v5674), ∀ a, (k0_off476 v5674) a + S1x64x1024.size a ≤ S32x128x4096.size a := fun v5674 k0_hw77 => k0_hw77.2.2.2.2.2.2.1
theorem k0_off476_wordsfp8e5m2 : ∀ (v5674 : BitVec 32) (k0_hw77 : k0_chk77 v5674), (Rect.unit (s := S32x128x4096) (k0_off476 v5674) S1x64x1024.size (k0_off476_inb v5674 k0_hw77)).WholeWords (EltTy.packing .fp8e5m2) := fun v5674 k0_hw77 => k0_hw77.2.2.2.2.2.2.2 (k0_off476_inb v5674 k0_hw77)

def k0_off477 (v5676 : BitVec 32) : Fin 3 → Nat :=
  let c64_i32_5859 : BitVec 32 := 64#32
  let c3072_i32_5860 : BitVec 32 := 3072#32
  ![v5676.toNat, 64, 3072]

def k0_chk78 (v5676 : BitVec 32) : Prop :=
  (∀ a, (k0_off471 v5676) a + S1x64x1024.size a ≤ S32x128x4096.size a) ∧
  (∀ (hinb : ∀ a, (k0_off471 v5676) a + S1x64x1024.size a ≤ S32x128x4096.size a), (Rect.unit (s := S32x128x4096) (k0_off471 v5676) S1x64x1024.size hinb).WholeWords (EltTy.packing .fp8e5m2)) ∧
  (∀ a, (k0_off473 v5676) a + S1x64x1024.size a ≤ S32x128x4096.size a) ∧
  (∀ (hinb : ∀ a, (k0_off473 v5676) a + S1x64x1024.size a ≤ S32x128x4096.size a), (Rect.unit (s := S32x128x4096) (k0_off473 v5676) S1x64x1024.size hinb).WholeWords (EltTy.packing .fp8e5m2)) ∧
  (∀ a, (k0_off475 v5676) a + S1x64x1024.size a ≤ S32x128x4096.size a) ∧
  (∀ (hinb : ∀ a, (k0_off475 v5676) a + S1x64x1024.size a ≤ S32x128x4096.size a), (Rect.unit (s := S32x128x4096) (k0_off475 v5676) S1x64x1024.size hinb).WholeWords (EltTy.packing .fp8e5m2)) ∧
  (∀ a, (k0_off477 v5676) a + S1x64x1024.size a ≤ S32x128x4096.size a) ∧
  (∀ (hinb : ∀ a, (k0_off477 v5676) a + S1x64x1024.size a ≤ S32x128x4096.size a), (Rect.unit (s := S32x128x4096) (k0_off477 v5676) S1x64x1024.size hinb).WholeWords (EltTy.packing .fp8e5m2))
theorem k0_off471_inb : ∀ (v5676 : BitVec 32) (k0_hw78 : k0_chk78 v5676), ∀ a, (k0_off471 v5676) a + S1x64x1024.size a ≤ S32x128x4096.size a := fun v5676 k0_hw78 => k0_hw78.1
theorem k0_off471_wordsfp8e5m2 : ∀ (v5676 : BitVec 32) (k0_hw78 : k0_chk78 v5676), (Rect.unit (s := S32x128x4096) (k0_off471 v5676) S1x64x1024.size (k0_off471_inb v5676 k0_hw78)).WholeWords (EltTy.packing .fp8e5m2) := fun v5676 k0_hw78 => k0_hw78.2.1 (k0_off471_inb v5676 k0_hw78)
theorem k0_off473_inb : ∀ (v5676 : BitVec 32) (k0_hw78 : k0_chk78 v5676), ∀ a, (k0_off473 v5676) a + S1x64x1024.size a ≤ S32x128x4096.size a := fun v5676 k0_hw78 => k0_hw78.2.2.1
theorem k0_off473_wordsfp8e5m2 : ∀ (v5676 : BitVec 32) (k0_hw78 : k0_chk78 v5676), (Rect.unit (s := S32x128x4096) (k0_off473 v5676) S1x64x1024.size (k0_off473_inb v5676 k0_hw78)).WholeWords (EltTy.packing .fp8e5m2) := fun v5676 k0_hw78 => k0_hw78.2.2.2.1 (k0_off473_inb v5676 k0_hw78)
theorem k0_off475_inb : ∀ (v5676 : BitVec 32) (k0_hw78 : k0_chk78 v5676), ∀ a, (k0_off475 v5676) a + S1x64x1024.size a ≤ S32x128x4096.size a := fun v5676 k0_hw78 => k0_hw78.2.2.2.2.1
theorem k0_off475_wordsfp8e5m2 : ∀ (v5676 : BitVec 32) (k0_hw78 : k0_chk78 v5676), (Rect.unit (s := S32x128x4096) (k0_off475 v5676) S1x64x1024.size (k0_off475_inb v5676 k0_hw78)).WholeWords (EltTy.packing .fp8e5m2) := fun v5676 k0_hw78 => k0_hw78.2.2.2.2.2.1 (k0_off475_inb v5676 k0_hw78)
theorem k0_off477_inb : ∀ (v5676 : BitVec 32) (k0_hw78 : k0_chk78 v5676), ∀ a, (k0_off477 v5676) a + S1x64x1024.size a ≤ S32x128x4096.size a := fun v5676 k0_hw78 => k0_hw78.2.2.2.2.2.2.1
theorem k0_off477_wordsfp8e5m2 : ∀ (v5676 : BitVec 32) (k0_hw78 : k0_chk78 v5676), (Rect.unit (s := S32x128x4096) (k0_off477 v5676) S1x64x1024.size (k0_off477_inb v5676 k0_hw78)).WholeWords (EltTy.packing .fp8e5m2) := fun v5676 k0_hw78 => k0_hw78.2.2.2.2.2.2.2 (k0_off477_inb v5676 k0_hw78)

def k0_off478 (d0 : Dev nD) : Fin 2 → Nat :=
  let c7_5863 : Index := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5725 : Index := Scalar.indexCast v2
  ![7, v5725.toNat]
def k0_off479 (v5726 : BitVec 32) : Fin 3 → Nat :=
  let c0_i32_5870 : BitVec 32 := 0#32
  let c0_i32_5871 : BitVec 32 := 0#32
  ![v5726.toNat, 0, 0]

def k0_off480 (v5728 : BitVec 32) : Fin 3 → Nat :=
  let c64_i32_5879 : BitVec 32 := 64#32
  let c0_i32_5880 : BitVec 32 := 0#32
  ![v5728.toNat, 64, 0]

def k0_off481 (v5726 : BitVec 32) : Fin 3 → Nat :=
  let c0_i32_5888 : BitVec 32 := 0#32
  let c1024_i32_5889 : BitVec 32 := 1024#32
  ![v5726.toNat, 0, 1024]
def k0_off482 (v5728 : BitVec 32) : Fin 3 → Nat :=
  let c64_i32_5897 : BitVec 32 := 64#32
  let c1024_i32_5898 : BitVec 32 := 1024#32
  ![v5728.toNat, 64, 1024]
def k0_off483 (v5726 : BitVec 32) : Fin 3 → Nat :=
  let c0_i32_5906 : BitVec 32 := 0#32
  let c2048_i32_5907 : BitVec 32 := 2048#32
  ![v5726.toNat, 0, 2048]
def k0_off484 (v5728 : BitVec 32) : Fin 3 → Nat :=
  let c64_i32_5915 : BitVec 32 := 64#32
  let c2048_i32_5916 : BitVec 32 := 2048#32
  ![v5728.toNat, 64, 2048]
def k0_off485 (v5726 : BitVec 32) : Fin 3 → Nat :=
  let c0_i32_5924 : BitVec 32 := 0#32
  let c3072_i32_5925 : BitVec 32 := 3072#32
  ![v5726.toNat, 0, 3072]

def k0_chk79 (v5726 : BitVec 32) : Prop :=
  (∀ a, (k0_off479 v5726) a + S1x64x1024.size a ≤ S32x128x4096.size a) ∧
  (∀ (hinb : ∀ a, (k0_off479 v5726) a + S1x64x1024.size a ≤ S32x128x4096.size a), (Rect.unit (s := S32x128x4096) (k0_off479 v5726) S1x64x1024.size hinb).WholeWords (EltTy.packing .fp8e5m2)) ∧
  (∀ a, (k0_off481 v5726) a + S1x64x1024.size a ≤ S32x128x4096.size a) ∧
  (∀ (hinb : ∀ a, (k0_off481 v5726) a + S1x64x1024.size a ≤ S32x128x4096.size a), (Rect.unit (s := S32x128x4096) (k0_off481 v5726) S1x64x1024.size hinb).WholeWords (EltTy.packing .fp8e5m2)) ∧
  (∀ a, (k0_off483 v5726) a + S1x64x1024.size a ≤ S32x128x4096.size a) ∧
  (∀ (hinb : ∀ a, (k0_off483 v5726) a + S1x64x1024.size a ≤ S32x128x4096.size a), (Rect.unit (s := S32x128x4096) (k0_off483 v5726) S1x64x1024.size hinb).WholeWords (EltTy.packing .fp8e5m2)) ∧
  (∀ a, (k0_off485 v5726) a + S1x64x1024.size a ≤ S32x128x4096.size a) ∧
  (∀ (hinb : ∀ a, (k0_off485 v5726) a + S1x64x1024.size a ≤ S32x128x4096.size a), (Rect.unit (s := S32x128x4096) (k0_off485 v5726) S1x64x1024.size hinb).WholeWords (EltTy.packing .fp8e5m2))
theorem k0_off479_inb : ∀ (v5726 : BitVec 32) (k0_hw79 : k0_chk79 v5726), ∀ a, (k0_off479 v5726) a + S1x64x1024.size a ≤ S32x128x4096.size a := fun v5726 k0_hw79 => k0_hw79.1
theorem k0_off479_wordsfp8e5m2 : ∀ (v5726 : BitVec 32) (k0_hw79 : k0_chk79 v5726), (Rect.unit (s := S32x128x4096) (k0_off479 v5726) S1x64x1024.size (k0_off479_inb v5726 k0_hw79)).WholeWords (EltTy.packing .fp8e5m2) := fun v5726 k0_hw79 => k0_hw79.2.1 (k0_off479_inb v5726 k0_hw79)
theorem k0_off481_inb : ∀ (v5726 : BitVec 32) (k0_hw79 : k0_chk79 v5726), ∀ a, (k0_off481 v5726) a + S1x64x1024.size a ≤ S32x128x4096.size a := fun v5726 k0_hw79 => k0_hw79.2.2.1
theorem k0_off481_wordsfp8e5m2 : ∀ (v5726 : BitVec 32) (k0_hw79 : k0_chk79 v5726), (Rect.unit (s := S32x128x4096) (k0_off481 v5726) S1x64x1024.size (k0_off481_inb v5726 k0_hw79)).WholeWords (EltTy.packing .fp8e5m2) := fun v5726 k0_hw79 => k0_hw79.2.2.2.1 (k0_off481_inb v5726 k0_hw79)
theorem k0_off483_inb : ∀ (v5726 : BitVec 32) (k0_hw79 : k0_chk79 v5726), ∀ a, (k0_off483 v5726) a + S1x64x1024.size a ≤ S32x128x4096.size a := fun v5726 k0_hw79 => k0_hw79.2.2.2.2.1
theorem k0_off483_wordsfp8e5m2 : ∀ (v5726 : BitVec 32) (k0_hw79 : k0_chk79 v5726), (Rect.unit (s := S32x128x4096) (k0_off483 v5726) S1x64x1024.size (k0_off483_inb v5726 k0_hw79)).WholeWords (EltTy.packing .fp8e5m2) := fun v5726 k0_hw79 => k0_hw79.2.2.2.2.2.1 (k0_off483_inb v5726 k0_hw79)
theorem k0_off485_inb : ∀ (v5726 : BitVec 32) (k0_hw79 : k0_chk79 v5726), ∀ a, (k0_off485 v5726) a + S1x64x1024.size a ≤ S32x128x4096.size a := fun v5726 k0_hw79 => k0_hw79.2.2.2.2.2.2.1
theorem k0_off485_wordsfp8e5m2 : ∀ (v5726 : BitVec 32) (k0_hw79 : k0_chk79 v5726), (Rect.unit (s := S32x128x4096) (k0_off485 v5726) S1x64x1024.size (k0_off485_inb v5726 k0_hw79)).WholeWords (EltTy.packing .fp8e5m2) := fun v5726 k0_hw79 => k0_hw79.2.2.2.2.2.2.2 (k0_off485_inb v5726 k0_hw79)

def k0_off486 (v5728 : BitVec 32) : Fin 3 → Nat :=
  let c64_i32_5933 : BitVec 32 := 64#32
  let c3072_i32_5934 : BitVec 32 := 3072#32
  ![v5728.toNat, 64, 3072]

def k0_chk80 (v5728 : BitVec 32) : Prop :=
  (∀ a, (k0_off480 v5728) a + S1x64x1024.size a ≤ S32x128x4096.size a) ∧
  (∀ (hinb : ∀ a, (k0_off480 v5728) a + S1x64x1024.size a ≤ S32x128x4096.size a), (Rect.unit (s := S32x128x4096) (k0_off480 v5728) S1x64x1024.size hinb).WholeWords (EltTy.packing .fp8e5m2)) ∧
  (∀ a, (k0_off482 v5728) a + S1x64x1024.size a ≤ S32x128x4096.size a) ∧
  (∀ (hinb : ∀ a, (k0_off482 v5728) a + S1x64x1024.size a ≤ S32x128x4096.size a), (Rect.unit (s := S32x128x4096) (k0_off482 v5728) S1x64x1024.size hinb).WholeWords (EltTy.packing .fp8e5m2)) ∧
  (∀ a, (k0_off484 v5728) a + S1x64x1024.size a ≤ S32x128x4096.size a) ∧
  (∀ (hinb : ∀ a, (k0_off484 v5728) a + S1x64x1024.size a ≤ S32x128x4096.size a), (Rect.unit (s := S32x128x4096) (k0_off484 v5728) S1x64x1024.size hinb).WholeWords (EltTy.packing .fp8e5m2)) ∧
  (∀ a, (k0_off486 v5728) a + S1x64x1024.size a ≤ S32x128x4096.size a) ∧
  (∀ (hinb : ∀ a, (k0_off486 v5728) a + S1x64x1024.size a ≤ S32x128x4096.size a), (Rect.unit (s := S32x128x4096) (k0_off486 v5728) S1x64x1024.size hinb).WholeWords (EltTy.packing .fp8e5m2))
theorem k0_off480_inb : ∀ (v5728 : BitVec 32) (k0_hw80 : k0_chk80 v5728), ∀ a, (k0_off480 v5728) a + S1x64x1024.size a ≤ S32x128x4096.size a := fun v5728 k0_hw80 => k0_hw80.1
theorem k0_off480_wordsfp8e5m2 : ∀ (v5728 : BitVec 32) (k0_hw80 : k0_chk80 v5728), (Rect.unit (s := S32x128x4096) (k0_off480 v5728) S1x64x1024.size (k0_off480_inb v5728 k0_hw80)).WholeWords (EltTy.packing .fp8e5m2) := fun v5728 k0_hw80 => k0_hw80.2.1 (k0_off480_inb v5728 k0_hw80)
theorem k0_off482_inb : ∀ (v5728 : BitVec 32) (k0_hw80 : k0_chk80 v5728), ∀ a, (k0_off482 v5728) a + S1x64x1024.size a ≤ S32x128x4096.size a := fun v5728 k0_hw80 => k0_hw80.2.2.1
theorem k0_off482_wordsfp8e5m2 : ∀ (v5728 : BitVec 32) (k0_hw80 : k0_chk80 v5728), (Rect.unit (s := S32x128x4096) (k0_off482 v5728) S1x64x1024.size (k0_off482_inb v5728 k0_hw80)).WholeWords (EltTy.packing .fp8e5m2) := fun v5728 k0_hw80 => k0_hw80.2.2.2.1 (k0_off482_inb v5728 k0_hw80)
theorem k0_off484_inb : ∀ (v5728 : BitVec 32) (k0_hw80 : k0_chk80 v5728), ∀ a, (k0_off484 v5728) a + S1x64x1024.size a ≤ S32x128x4096.size a := fun v5728 k0_hw80 => k0_hw80.2.2.2.2.1
theorem k0_off484_wordsfp8e5m2 : ∀ (v5728 : BitVec 32) (k0_hw80 : k0_chk80 v5728), (Rect.unit (s := S32x128x4096) (k0_off484 v5728) S1x64x1024.size (k0_off484_inb v5728 k0_hw80)).WholeWords (EltTy.packing .fp8e5m2) := fun v5728 k0_hw80 => k0_hw80.2.2.2.2.2.1 (k0_off484_inb v5728 k0_hw80)
theorem k0_off486_inb : ∀ (v5728 : BitVec 32) (k0_hw80 : k0_chk80 v5728), ∀ a, (k0_off486 v5728) a + S1x64x1024.size a ≤ S32x128x4096.size a := fun v5728 k0_hw80 => k0_hw80.2.2.2.2.2.2.1
theorem k0_off486_wordsfp8e5m2 : ∀ (v5728 : BitVec 32) (k0_hw80 : k0_chk80 v5728), (Rect.unit (s := S32x128x4096) (k0_off486 v5728) S1x64x1024.size (k0_off486_inb v5728 k0_hw80)).WholeWords (EltTy.packing .fp8e5m2) := fun v5728 k0_hw80 => k0_hw80.2.2.2.2.2.2.2 (k0_off486_inb v5728 k0_hw80)

def k0_off487 (d0 : Dev nD) : Fin 2 → Nat :=
  let c8_5937 : Index := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5777 : Index := Scalar.indexCast v2
  ![8, v5777.toNat]
def k0_off488 (v5778 : BitVec 32) : Fin 3 → Nat :=
  let c0_i32_5944 : BitVec 32 := 0#32
  let c0_i32_5945 : BitVec 32 := 0#32
  ![v5778.toNat, 0, 0]

def k0_off489 (v5780 : BitVec 32) : Fin 3 → Nat :=
  let c64_i32_5953 : BitVec 32 := 64#32
  let c0_i32_5954 : BitVec 32 := 0#32
  ![v5780.toNat, 64, 0]

def k0_off490 (v5778 : BitVec 32) : Fin 3 → Nat :=
  let c0_i32_5962 : BitVec 32 := 0#32
  let c1024_i32_5963 : BitVec 32 := 1024#32
  ![v5778.toNat, 0, 1024]
def k0_off491 (v5780 : BitVec 32) : Fin 3 → Nat :=
  let c64_i32_5971 : BitVec 32 := 64#32
  let c1024_i32_5972 : BitVec 32 := 1024#32
  ![v5780.toNat, 64, 1024]
def k0_off492 (v5778 : BitVec 32) : Fin 3 → Nat :=
  let c0_i32_5980 : BitVec 32 := 0#32
  let c2048_i32_5981 : BitVec 32 := 2048#32
  ![v5778.toNat, 0, 2048]
def k0_off493 (v5780 : BitVec 32) : Fin 3 → Nat :=
  let c64_i32_5989 : BitVec 32 := 64#32
  let c2048_i32_5990 : BitVec 32 := 2048#32
  ![v5780.toNat, 64, 2048]
def k0_off494 (v5778 : BitVec 32) : Fin 3 → Nat :=
  let c0_i32_5998 : BitVec 32 := 0#32
  let c3072_i32_5999 : BitVec 32 := 3072#32
  ![v5778.toNat, 0, 3072]

def k0_chk81 (v5778 : BitVec 32) : Prop :=
  (∀ a, (k0_off488 v5778) a + S1x64x1024.size a ≤ S32x128x4096.size a) ∧
  (∀ (hinb : ∀ a, (k0_off488 v5778) a + S1x64x1024.size a ≤ S32x128x4096.size a), (Rect.unit (s := S32x128x4096) (k0_off488 v5778) S1x64x1024.size hinb).WholeWords (EltTy.packing .fp8e5m2)) ∧
  (∀ a, (k0_off490 v5778) a + S1x64x1024.size a ≤ S32x128x4096.size a) ∧
  (∀ (hinb : ∀ a, (k0_off490 v5778) a + S1x64x1024.size a ≤ S32x128x4096.size a), (Rect.unit (s := S32x128x4096) (k0_off490 v5778) S1x64x1024.size hinb).WholeWords (EltTy.packing .fp8e5m2)) ∧
  (∀ a, (k0_off492 v5778) a + S1x64x1024.size a ≤ S32x128x4096.size a) ∧
  (∀ (hinb : ∀ a, (k0_off492 v5778) a + S1x64x1024.size a ≤ S32x128x4096.size a), (Rect.unit (s := S32x128x4096) (k0_off492 v5778) S1x64x1024.size hinb).WholeWords (EltTy.packing .fp8e5m2)) ∧
  (∀ a, (k0_off494 v5778) a + S1x64x1024.size a ≤ S32x128x4096.size a) ∧
  (∀ (hinb : ∀ a, (k0_off494 v5778) a + S1x64x1024.size a ≤ S32x128x4096.size a), (Rect.unit (s := S32x128x4096) (k0_off494 v5778) S1x64x1024.size hinb).WholeWords (EltTy.packing .fp8e5m2))
theorem k0_off488_inb : ∀ (v5778 : BitVec 32) (k0_hw81 : k0_chk81 v5778), ∀ a, (k0_off488 v5778) a + S1x64x1024.size a ≤ S32x128x4096.size a := fun v5778 k0_hw81 => k0_hw81.1
theorem k0_off488_wordsfp8e5m2 : ∀ (v5778 : BitVec 32) (k0_hw81 : k0_chk81 v5778), (Rect.unit (s := S32x128x4096) (k0_off488 v5778) S1x64x1024.size (k0_off488_inb v5778 k0_hw81)).WholeWords (EltTy.packing .fp8e5m2) := fun v5778 k0_hw81 => k0_hw81.2.1 (k0_off488_inb v5778 k0_hw81)
theorem k0_off490_inb : ∀ (v5778 : BitVec 32) (k0_hw81 : k0_chk81 v5778), ∀ a, (k0_off490 v5778) a + S1x64x1024.size a ≤ S32x128x4096.size a := fun v5778 k0_hw81 => k0_hw81.2.2.1
theorem k0_off490_wordsfp8e5m2 : ∀ (v5778 : BitVec 32) (k0_hw81 : k0_chk81 v5778), (Rect.unit (s := S32x128x4096) (k0_off490 v5778) S1x64x1024.size (k0_off490_inb v5778 k0_hw81)).WholeWords (EltTy.packing .fp8e5m2) := fun v5778 k0_hw81 => k0_hw81.2.2.2.1 (k0_off490_inb v5778 k0_hw81)
theorem k0_off492_inb : ∀ (v5778 : BitVec 32) (k0_hw81 : k0_chk81 v5778), ∀ a, (k0_off492 v5778) a + S1x64x1024.size a ≤ S32x128x4096.size a := fun v5778 k0_hw81 => k0_hw81.2.2.2.2.1
theorem k0_off492_wordsfp8e5m2 : ∀ (v5778 : BitVec 32) (k0_hw81 : k0_chk81 v5778), (Rect.unit (s := S32x128x4096) (k0_off492 v5778) S1x64x1024.size (k0_off492_inb v5778 k0_hw81)).WholeWords (EltTy.packing .fp8e5m2) := fun v5778 k0_hw81 => k0_hw81.2.2.2.2.2.1 (k0_off492_inb v5778 k0_hw81)
theorem k0_off494_inb : ∀ (v5778 : BitVec 32) (k0_hw81 : k0_chk81 v5778), ∀ a, (k0_off494 v5778) a + S1x64x1024.size a ≤ S32x128x4096.size a := fun v5778 k0_hw81 => k0_hw81.2.2.2.2.2.2.1
theorem k0_off494_wordsfp8e5m2 : ∀ (v5778 : BitVec 32) (k0_hw81 : k0_chk81 v5778), (Rect.unit (s := S32x128x4096) (k0_off494 v5778) S1x64x1024.size (k0_off494_inb v5778 k0_hw81)).WholeWords (EltTy.packing .fp8e5m2) := fun v5778 k0_hw81 => k0_hw81.2.2.2.2.2.2.2 (k0_off494_inb v5778 k0_hw81)

def k0_off495 (v5780 : BitVec 32) : Fin 3 → Nat :=
  let c64_i32_6007 : BitVec 32 := 64#32
  let c3072_i32_6008 : BitVec 32 := 3072#32
  ![v5780.toNat, 64, 3072]

def k0_chk82 (v5780 : BitVec 32) : Prop :=
  (∀ a, (k0_off489 v5780) a + S1x64x1024.size a ≤ S32x128x4096.size a) ∧
  (∀ (hinb : ∀ a, (k0_off489 v5780) a + S1x64x1024.size a ≤ S32x128x4096.size a), (Rect.unit (s := S32x128x4096) (k0_off489 v5780) S1x64x1024.size hinb).WholeWords (EltTy.packing .fp8e5m2)) ∧
  (∀ a, (k0_off491 v5780) a + S1x64x1024.size a ≤ S32x128x4096.size a) ∧
  (∀ (hinb : ∀ a, (k0_off491 v5780) a + S1x64x1024.size a ≤ S32x128x4096.size a), (Rect.unit (s := S32x128x4096) (k0_off491 v5780) S1x64x1024.size hinb).WholeWords (EltTy.packing .fp8e5m2)) ∧
  (∀ a, (k0_off493 v5780) a + S1x64x1024.size a ≤ S32x128x4096.size a) ∧
  (∀ (hinb : ∀ a, (k0_off493 v5780) a + S1x64x1024.size a ≤ S32x128x4096.size a), (Rect.unit (s := S32x128x4096) (k0_off493 v5780) S1x64x1024.size hinb).WholeWords (EltTy.packing .fp8e5m2)) ∧
  (∀ a, (k0_off495 v5780) a + S1x64x1024.size a ≤ S32x128x4096.size a) ∧
  (∀ (hinb : ∀ a, (k0_off495 v5780) a + S1x64x1024.size a ≤ S32x128x4096.size a), (Rect.unit (s := S32x128x4096) (k0_off495 v5780) S1x64x1024.size hinb).WholeWords (EltTy.packing .fp8e5m2))
theorem k0_off489_inb : ∀ (v5780 : BitVec 32) (k0_hw82 : k0_chk82 v5780), ∀ a, (k0_off489 v5780) a + S1x64x1024.size a ≤ S32x128x4096.size a := fun v5780 k0_hw82 => k0_hw82.1
theorem k0_off489_wordsfp8e5m2 : ∀ (v5780 : BitVec 32) (k0_hw82 : k0_chk82 v5780), (Rect.unit (s := S32x128x4096) (k0_off489 v5780) S1x64x1024.size (k0_off489_inb v5780 k0_hw82)).WholeWords (EltTy.packing .fp8e5m2) := fun v5780 k0_hw82 => k0_hw82.2.1 (k0_off489_inb v5780 k0_hw82)
theorem k0_off491_inb : ∀ (v5780 : BitVec 32) (k0_hw82 : k0_chk82 v5780), ∀ a, (k0_off491 v5780) a + S1x64x1024.size a ≤ S32x128x4096.size a := fun v5780 k0_hw82 => k0_hw82.2.2.1
theorem k0_off491_wordsfp8e5m2 : ∀ (v5780 : BitVec 32) (k0_hw82 : k0_chk82 v5780), (Rect.unit (s := S32x128x4096) (k0_off491 v5780) S1x64x1024.size (k0_off491_inb v5780 k0_hw82)).WholeWords (EltTy.packing .fp8e5m2) := fun v5780 k0_hw82 => k0_hw82.2.2.2.1 (k0_off491_inb v5780 k0_hw82)
theorem k0_off493_inb : ∀ (v5780 : BitVec 32) (k0_hw82 : k0_chk82 v5780), ∀ a, (k0_off493 v5780) a + S1x64x1024.size a ≤ S32x128x4096.size a := fun v5780 k0_hw82 => k0_hw82.2.2.2.2.1
theorem k0_off493_wordsfp8e5m2 : ∀ (v5780 : BitVec 32) (k0_hw82 : k0_chk82 v5780), (Rect.unit (s := S32x128x4096) (k0_off493 v5780) S1x64x1024.size (k0_off493_inb v5780 k0_hw82)).WholeWords (EltTy.packing .fp8e5m2) := fun v5780 k0_hw82 => k0_hw82.2.2.2.2.2.1 (k0_off493_inb v5780 k0_hw82)
theorem k0_off495_inb : ∀ (v5780 : BitVec 32) (k0_hw82 : k0_chk82 v5780), ∀ a, (k0_off495 v5780) a + S1x64x1024.size a ≤ S32x128x4096.size a := fun v5780 k0_hw82 => k0_hw82.2.2.2.2.2.2.1
theorem k0_off495_wordsfp8e5m2 : ∀ (v5780 : BitVec 32) (k0_hw82 : k0_chk82 v5780), (Rect.unit (s := S32x128x4096) (k0_off495 v5780) S1x64x1024.size (k0_off495_inb v5780 k0_hw82)).WholeWords (EltTy.packing .fp8e5m2) := fun v5780 k0_hw82 => k0_hw82.2.2.2.2.2.2.2 (k0_off495_inb v5780 k0_hw82)

def k0_off496 (d0 : Dev nD) : Fin 2 → Nat :=
  let c9_6011 : Index := 9#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5829 : Index := Scalar.indexCast v2
  ![9, v5829.toNat]
def k0_off497 (v5830 : BitVec 32) : Fin 3 → Nat :=
  let c0_i32_6018 : BitVec 32 := 0#32
  let c0_i32_6019 : BitVec 32 := 0#32
  ![v5830.toNat, 0, 0]

def k0_off498 (v5832 : BitVec 32) : Fin 3 → Nat :=
  let c64_i32_6027 : BitVec 32 := 64#32
  let c0_i32_6028 : BitVec 32 := 0#32
  ![v5832.toNat, 64, 0]

def k0_off499 (v5830 : BitVec 32) : Fin 3 → Nat :=
  let c0_i32_6036 : BitVec 32 := 0#32
  let c1024_i32_6037 : BitVec 32 := 1024#32
  ![v5830.toNat, 0, 1024]
def k0_off500 (v5832 : BitVec 32) : Fin 3 → Nat :=
  let c64_i32_6045 : BitVec 32 := 64#32
  let c1024_i32_6046 : BitVec 32 := 1024#32
  ![v5832.toNat, 64, 1024]
def k0_off501 (v5830 : BitVec 32) : Fin 3 → Nat :=
  let c0_i32_6054 : BitVec 32 := 0#32
  let c2048_i32_6055 : BitVec 32 := 2048#32
  ![v5830.toNat, 0, 2048]
def k0_off502 (v5832 : BitVec 32) : Fin 3 → Nat :=
  let c64_i32_6063 : BitVec 32 := 64#32
  let c2048_i32_6064 : BitVec 32 := 2048#32
  ![v5832.toNat, 64, 2048]
def k0_off503 (v5830 : BitVec 32) : Fin 3 → Nat :=
  let c0_i32_6072 : BitVec 32 := 0#32
  let c3072_i32_6073 : BitVec 32 := 3072#32
  ![v5830.toNat, 0, 3072]

def k0_chk83 (v5830 : BitVec 32) : Prop :=
  (∀ a, (k0_off497 v5830) a + S1x64x1024.size a ≤ S32x128x4096.size a) ∧
  (∀ (hinb : ∀ a, (k0_off497 v5830) a + S1x64x1024.size a ≤ S32x128x4096.size a), (Rect.unit (s := S32x128x4096) (k0_off497 v5830) S1x64x1024.size hinb).WholeWords (EltTy.packing .fp8e5m2)) ∧
  (∀ a, (k0_off499 v5830) a + S1x64x1024.size a ≤ S32x128x4096.size a) ∧
  (∀ (hinb : ∀ a, (k0_off499 v5830) a + S1x64x1024.size a ≤ S32x128x4096.size a), (Rect.unit (s := S32x128x4096) (k0_off499 v5830) S1x64x1024.size hinb).WholeWords (EltTy.packing .fp8e5m2)) ∧
  (∀ a, (k0_off501 v5830) a + S1x64x1024.size a ≤ S32x128x4096.size a) ∧
  (∀ (hinb : ∀ a, (k0_off501 v5830) a + S1x64x1024.size a ≤ S32x128x4096.size a), (Rect.unit (s := S32x128x4096) (k0_off501 v5830) S1x64x1024.size hinb).WholeWords (EltTy.packing .fp8e5m2)) ∧
  (∀ a, (k0_off503 v5830) a + S1x64x1024.size a ≤ S32x128x4096.size a) ∧
  (∀ (hinb : ∀ a, (k0_off503 v5830) a + S1x64x1024.size a ≤ S32x128x4096.size a), (Rect.unit (s := S32x128x4096) (k0_off503 v5830) S1x64x1024.size hinb).WholeWords (EltTy.packing .fp8e5m2))
theorem k0_off497_inb : ∀ (v5830 : BitVec 32) (k0_hw83 : k0_chk83 v5830), ∀ a, (k0_off497 v5830) a + S1x64x1024.size a ≤ S32x128x4096.size a := fun v5830 k0_hw83 => k0_hw83.1
theorem k0_off497_wordsfp8e5m2 : ∀ (v5830 : BitVec 32) (k0_hw83 : k0_chk83 v5830), (Rect.unit (s := S32x128x4096) (k0_off497 v5830) S1x64x1024.size (k0_off497_inb v5830 k0_hw83)).WholeWords (EltTy.packing .fp8e5m2) := fun v5830 k0_hw83 => k0_hw83.2.1 (k0_off497_inb v5830 k0_hw83)
theorem k0_off499_inb : ∀ (v5830 : BitVec 32) (k0_hw83 : k0_chk83 v5830), ∀ a, (k0_off499 v5830) a + S1x64x1024.size a ≤ S32x128x4096.size a := fun v5830 k0_hw83 => k0_hw83.2.2.1
theorem k0_off499_wordsfp8e5m2 : ∀ (v5830 : BitVec 32) (k0_hw83 : k0_chk83 v5830), (Rect.unit (s := S32x128x4096) (k0_off499 v5830) S1x64x1024.size (k0_off499_inb v5830 k0_hw83)).WholeWords (EltTy.packing .fp8e5m2) := fun v5830 k0_hw83 => k0_hw83.2.2.2.1 (k0_off499_inb v5830 k0_hw83)
theorem k0_off501_inb : ∀ (v5830 : BitVec 32) (k0_hw83 : k0_chk83 v5830), ∀ a, (k0_off501 v5830) a + S1x64x1024.size a ≤ S32x128x4096.size a := fun v5830 k0_hw83 => k0_hw83.2.2.2.2.1
theorem k0_off501_wordsfp8e5m2 : ∀ (v5830 : BitVec 32) (k0_hw83 : k0_chk83 v5830), (Rect.unit (s := S32x128x4096) (k0_off501 v5830) S1x64x1024.size (k0_off501_inb v5830 k0_hw83)).WholeWords (EltTy.packing .fp8e5m2) := fun v5830 k0_hw83 => k0_hw83.2.2.2.2.2.1 (k0_off501_inb v5830 k0_hw83)
theorem k0_off503_inb : ∀ (v5830 : BitVec 32) (k0_hw83 : k0_chk83 v5830), ∀ a, (k0_off503 v5830) a + S1x64x1024.size a ≤ S32x128x4096.size a := fun v5830 k0_hw83 => k0_hw83.2.2.2.2.2.2.1
theorem k0_off503_wordsfp8e5m2 : ∀ (v5830 : BitVec 32) (k0_hw83 : k0_chk83 v5830), (Rect.unit (s := S32x128x4096) (k0_off503 v5830) S1x64x1024.size (k0_off503_inb v5830 k0_hw83)).WholeWords (EltTy.packing .fp8e5m2) := fun v5830 k0_hw83 => k0_hw83.2.2.2.2.2.2.2 (k0_off503_inb v5830 k0_hw83)

def k0_off504 (v5832 : BitVec 32) : Fin 3 → Nat :=
  let c64_i32_6081 : BitVec 32 := 64#32
  let c3072_i32_6082 : BitVec 32 := 3072#32
  ![v5832.toNat, 64, 3072]

def k0_chk84 (v5832 : BitVec 32) : Prop :=
  (∀ a, (k0_off498 v5832) a + S1x64x1024.size a ≤ S32x128x4096.size a) ∧
  (∀ (hinb : ∀ a, (k0_off498 v5832) a + S1x64x1024.size a ≤ S32x128x4096.size a), (Rect.unit (s := S32x128x4096) (k0_off498 v5832) S1x64x1024.size hinb).WholeWords (EltTy.packing .fp8e5m2)) ∧
  (∀ a, (k0_off500 v5832) a + S1x64x1024.size a ≤ S32x128x4096.size a) ∧
  (∀ (hinb : ∀ a, (k0_off500 v5832) a + S1x64x1024.size a ≤ S32x128x4096.size a), (Rect.unit (s := S32x128x4096) (k0_off500 v5832) S1x64x1024.size hinb).WholeWords (EltTy.packing .fp8e5m2)) ∧
  (∀ a, (k0_off502 v5832) a + S1x64x1024.size a ≤ S32x128x4096.size a) ∧
  (∀ (hinb : ∀ a, (k0_off502 v5832) a + S1x64x1024.size a ≤ S32x128x4096.size a), (Rect.unit (s := S32x128x4096) (k0_off502 v5832) S1x64x1024.size hinb).WholeWords (EltTy.packing .fp8e5m2)) ∧
  (∀ a, (k0_off504 v5832) a + S1x64x1024.size a ≤ S32x128x4096.size a) ∧
  (∀ (hinb : ∀ a, (k0_off504 v5832) a + S1x64x1024.size a ≤ S32x128x4096.size a), (Rect.unit (s := S32x128x4096) (k0_off504 v5832) S1x64x1024.size hinb).WholeWords (EltTy.packing .fp8e5m2))
theorem k0_off498_inb : ∀ (v5832 : BitVec 32) (k0_hw84 : k0_chk84 v5832), ∀ a, (k0_off498 v5832) a + S1x64x1024.size a ≤ S32x128x4096.size a := fun v5832 k0_hw84 => k0_hw84.1
theorem k0_off498_wordsfp8e5m2 : ∀ (v5832 : BitVec 32) (k0_hw84 : k0_chk84 v5832), (Rect.unit (s := S32x128x4096) (k0_off498 v5832) S1x64x1024.size (k0_off498_inb v5832 k0_hw84)).WholeWords (EltTy.packing .fp8e5m2) := fun v5832 k0_hw84 => k0_hw84.2.1 (k0_off498_inb v5832 k0_hw84)
theorem k0_off500_inb : ∀ (v5832 : BitVec 32) (k0_hw84 : k0_chk84 v5832), ∀ a, (k0_off500 v5832) a + S1x64x1024.size a ≤ S32x128x4096.size a := fun v5832 k0_hw84 => k0_hw84.2.2.1
theorem k0_off500_wordsfp8e5m2 : ∀ (v5832 : BitVec 32) (k0_hw84 : k0_chk84 v5832), (Rect.unit (s := S32x128x4096) (k0_off500 v5832) S1x64x1024.size (k0_off500_inb v5832 k0_hw84)).WholeWords (EltTy.packing .fp8e5m2) := fun v5832 k0_hw84 => k0_hw84.2.2.2.1 (k0_off500_inb v5832 k0_hw84)
theorem k0_off502_inb : ∀ (v5832 : BitVec 32) (k0_hw84 : k0_chk84 v5832), ∀ a, (k0_off502 v5832) a + S1x64x1024.size a ≤ S32x128x4096.size a := fun v5832 k0_hw84 => k0_hw84.2.2.2.2.1
theorem k0_off502_wordsfp8e5m2 : ∀ (v5832 : BitVec 32) (k0_hw84 : k0_chk84 v5832), (Rect.unit (s := S32x128x4096) (k0_off502 v5832) S1x64x1024.size (k0_off502_inb v5832 k0_hw84)).WholeWords (EltTy.packing .fp8e5m2) := fun v5832 k0_hw84 => k0_hw84.2.2.2.2.2.1 (k0_off502_inb v5832 k0_hw84)
theorem k0_off504_inb : ∀ (v5832 : BitVec 32) (k0_hw84 : k0_chk84 v5832), ∀ a, (k0_off504 v5832) a + S1x64x1024.size a ≤ S32x128x4096.size a := fun v5832 k0_hw84 => k0_hw84.2.2.2.2.2.2.1
theorem k0_off504_wordsfp8e5m2 : ∀ (v5832 : BitVec 32) (k0_hw84 : k0_chk84 v5832), (Rect.unit (s := S32x128x4096) (k0_off504 v5832) S1x64x1024.size (k0_off504_inb v5832 k0_hw84)).WholeWords (EltTy.packing .fp8e5m2) := fun v5832 k0_hw84 => k0_hw84.2.2.2.2.2.2.2 (k0_off504_inb v5832 k0_hw84)

def k0_off505 (d0 : Dev nD) : Fin 2 → Nat :=
  let c10_6085 : Index := 10#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5881 : Index := Scalar.indexCast v2
  ![10, v5881.toNat]
def k0_off506 (v5882 : BitVec 32) : Fin 3 → Nat :=
  let c0_i32_6092 : BitVec 32 := 0#32
  let c0_i32_6093 : BitVec 32 := 0#32
  ![v5882.toNat, 0, 0]

def k0_off507 (v5884 : BitVec 32) : Fin 3 → Nat :=
  let c64_i32_6101 : BitVec 32 := 64#32
  let c0_i32_6102 : BitVec 32 := 0#32
  ![v5884.toNat, 64, 0]

def k0_off508 (v5882 : BitVec 32) : Fin 3 → Nat :=
  let c0_i32_6110 : BitVec 32 := 0#32
  let c1024_i32_6111 : BitVec 32 := 1024#32
  ![v5882.toNat, 0, 1024]
def k0_off509 (v5884 : BitVec 32) : Fin 3 → Nat :=
  let c64_i32_6119 : BitVec 32 := 64#32
  let c1024_i32_6120 : BitVec 32 := 1024#32
  ![v5884.toNat, 64, 1024]
def k0_off510 (v5882 : BitVec 32) : Fin 3 → Nat :=
  let c0_i32_6128 : BitVec 32 := 0#32
  let c2048_i32_6129 : BitVec 32 := 2048#32
  ![v5882.toNat, 0, 2048]
def k0_off511 (v5884 : BitVec 32) : Fin 3 → Nat :=
  let c64_i32_6137 : BitVec 32 := 64#32
  let c2048_i32_6138 : BitVec 32 := 2048#32
  ![v5884.toNat, 64, 2048]
def k0_off512 (v5882 : BitVec 32) : Fin 3 → Nat :=
  let c0_i32_6146 : BitVec 32 := 0#32
  let c3072_i32_6147 : BitVec 32 := 3072#32
  ![v5882.toNat, 0, 3072]

def k0_chk85 (v5882 : BitVec 32) : Prop :=
  (∀ a, (k0_off506 v5882) a + S1x64x1024.size a ≤ S32x128x4096.size a) ∧
  (∀ (hinb : ∀ a, (k0_off506 v5882) a + S1x64x1024.size a ≤ S32x128x4096.size a), (Rect.unit (s := S32x128x4096) (k0_off506 v5882) S1x64x1024.size hinb).WholeWords (EltTy.packing .fp8e5m2)) ∧
  (∀ a, (k0_off508 v5882) a + S1x64x1024.size a ≤ S32x128x4096.size a) ∧
  (∀ (hinb : ∀ a, (k0_off508 v5882) a + S1x64x1024.size a ≤ S32x128x4096.size a), (Rect.unit (s := S32x128x4096) (k0_off508 v5882) S1x64x1024.size hinb).WholeWords (EltTy.packing .fp8e5m2)) ∧
  (∀ a, (k0_off510 v5882) a + S1x64x1024.size a ≤ S32x128x4096.size a) ∧
  (∀ (hinb : ∀ a, (k0_off510 v5882) a + S1x64x1024.size a ≤ S32x128x4096.size a), (Rect.unit (s := S32x128x4096) (k0_off510 v5882) S1x64x1024.size hinb).WholeWords (EltTy.packing .fp8e5m2)) ∧
  (∀ a, (k0_off512 v5882) a + S1x64x1024.size a ≤ S32x128x4096.size a) ∧
  (∀ (hinb : ∀ a, (k0_off512 v5882) a + S1x64x1024.size a ≤ S32x128x4096.size a), (Rect.unit (s := S32x128x4096) (k0_off512 v5882) S1x64x1024.size hinb).WholeWords (EltTy.packing .fp8e5m2))
theorem k0_off506_inb : ∀ (v5882 : BitVec 32) (k0_hw85 : k0_chk85 v5882), ∀ a, (k0_off506 v5882) a + S1x64x1024.size a ≤ S32x128x4096.size a := fun v5882 k0_hw85 => k0_hw85.1
theorem k0_off506_wordsfp8e5m2 : ∀ (v5882 : BitVec 32) (k0_hw85 : k0_chk85 v5882), (Rect.unit (s := S32x128x4096) (k0_off506 v5882) S1x64x1024.size (k0_off506_inb v5882 k0_hw85)).WholeWords (EltTy.packing .fp8e5m2) := fun v5882 k0_hw85 => k0_hw85.2.1 (k0_off506_inb v5882 k0_hw85)
theorem k0_off508_inb : ∀ (v5882 : BitVec 32) (k0_hw85 : k0_chk85 v5882), ∀ a, (k0_off508 v5882) a + S1x64x1024.size a ≤ S32x128x4096.size a := fun v5882 k0_hw85 => k0_hw85.2.2.1
theorem k0_off508_wordsfp8e5m2 : ∀ (v5882 : BitVec 32) (k0_hw85 : k0_chk85 v5882), (Rect.unit (s := S32x128x4096) (k0_off508 v5882) S1x64x1024.size (k0_off508_inb v5882 k0_hw85)).WholeWords (EltTy.packing .fp8e5m2) := fun v5882 k0_hw85 => k0_hw85.2.2.2.1 (k0_off508_inb v5882 k0_hw85)
theorem k0_off510_inb : ∀ (v5882 : BitVec 32) (k0_hw85 : k0_chk85 v5882), ∀ a, (k0_off510 v5882) a + S1x64x1024.size a ≤ S32x128x4096.size a := fun v5882 k0_hw85 => k0_hw85.2.2.2.2.1
theorem k0_off510_wordsfp8e5m2 : ∀ (v5882 : BitVec 32) (k0_hw85 : k0_chk85 v5882), (Rect.unit (s := S32x128x4096) (k0_off510 v5882) S1x64x1024.size (k0_off510_inb v5882 k0_hw85)).WholeWords (EltTy.packing .fp8e5m2) := fun v5882 k0_hw85 => k0_hw85.2.2.2.2.2.1 (k0_off510_inb v5882 k0_hw85)
theorem k0_off512_inb : ∀ (v5882 : BitVec 32) (k0_hw85 : k0_chk85 v5882), ∀ a, (k0_off512 v5882) a + S1x64x1024.size a ≤ S32x128x4096.size a := fun v5882 k0_hw85 => k0_hw85.2.2.2.2.2.2.1
theorem k0_off512_wordsfp8e5m2 : ∀ (v5882 : BitVec 32) (k0_hw85 : k0_chk85 v5882), (Rect.unit (s := S32x128x4096) (k0_off512 v5882) S1x64x1024.size (k0_off512_inb v5882 k0_hw85)).WholeWords (EltTy.packing .fp8e5m2) := fun v5882 k0_hw85 => k0_hw85.2.2.2.2.2.2.2 (k0_off512_inb v5882 k0_hw85)

def k0_off513 (v5884 : BitVec 32) : Fin 3 → Nat :=
  let c64_i32_6155 : BitVec 32 := 64#32
  let c3072_i32_6156 : BitVec 32 := 3072#32
  ![v5884.toNat, 64, 3072]

def k0_chk86 (v5884 : BitVec 32) : Prop :=
  (∀ a, (k0_off507 v5884) a + S1x64x1024.size a ≤ S32x128x4096.size a) ∧
  (∀ (hinb : ∀ a, (k0_off507 v5884) a + S1x64x1024.size a ≤ S32x128x4096.size a), (Rect.unit (s := S32x128x4096) (k0_off507 v5884) S1x64x1024.size hinb).WholeWords (EltTy.packing .fp8e5m2)) ∧
  (∀ a, (k0_off509 v5884) a + S1x64x1024.size a ≤ S32x128x4096.size a) ∧
  (∀ (hinb : ∀ a, (k0_off509 v5884) a + S1x64x1024.size a ≤ S32x128x4096.size a), (Rect.unit (s := S32x128x4096) (k0_off509 v5884) S1x64x1024.size hinb).WholeWords (EltTy.packing .fp8e5m2)) ∧
  (∀ a, (k0_off511 v5884) a + S1x64x1024.size a ≤ S32x128x4096.size a) ∧
  (∀ (hinb : ∀ a, (k0_off511 v5884) a + S1x64x1024.size a ≤ S32x128x4096.size a), (Rect.unit (s := S32x128x4096) (k0_off511 v5884) S1x64x1024.size hinb).WholeWords (EltTy.packing .fp8e5m2)) ∧
  (∀ a, (k0_off513 v5884) a + S1x64x1024.size a ≤ S32x128x4096.size a) ∧
  (∀ (hinb : ∀ a, (k0_off513 v5884) a + S1x64x1024.size a ≤ S32x128x4096.size a), (Rect.unit (s := S32x128x4096) (k0_off513 v5884) S1x64x1024.size hinb).WholeWords (EltTy.packing .fp8e5m2))
theorem k0_off507_inb : ∀ (v5884 : BitVec 32) (k0_hw86 : k0_chk86 v5884), ∀ a, (k0_off507 v5884) a + S1x64x1024.size a ≤ S32x128x4096.size a := fun v5884 k0_hw86 => k0_hw86.1
theorem k0_off507_wordsfp8e5m2 : ∀ (v5884 : BitVec 32) (k0_hw86 : k0_chk86 v5884), (Rect.unit (s := S32x128x4096) (k0_off507 v5884) S1x64x1024.size (k0_off507_inb v5884 k0_hw86)).WholeWords (EltTy.packing .fp8e5m2) := fun v5884 k0_hw86 => k0_hw86.2.1 (k0_off507_inb v5884 k0_hw86)
theorem k0_off509_inb : ∀ (v5884 : BitVec 32) (k0_hw86 : k0_chk86 v5884), ∀ a, (k0_off509 v5884) a + S1x64x1024.size a ≤ S32x128x4096.size a := fun v5884 k0_hw86 => k0_hw86.2.2.1
theorem k0_off509_wordsfp8e5m2 : ∀ (v5884 : BitVec 32) (k0_hw86 : k0_chk86 v5884), (Rect.unit (s := S32x128x4096) (k0_off509 v5884) S1x64x1024.size (k0_off509_inb v5884 k0_hw86)).WholeWords (EltTy.packing .fp8e5m2) := fun v5884 k0_hw86 => k0_hw86.2.2.2.1 (k0_off509_inb v5884 k0_hw86)
theorem k0_off511_inb : ∀ (v5884 : BitVec 32) (k0_hw86 : k0_chk86 v5884), ∀ a, (k0_off511 v5884) a + S1x64x1024.size a ≤ S32x128x4096.size a := fun v5884 k0_hw86 => k0_hw86.2.2.2.2.1
theorem k0_off511_wordsfp8e5m2 : ∀ (v5884 : BitVec 32) (k0_hw86 : k0_chk86 v5884), (Rect.unit (s := S32x128x4096) (k0_off511 v5884) S1x64x1024.size (k0_off511_inb v5884 k0_hw86)).WholeWords (EltTy.packing .fp8e5m2) := fun v5884 k0_hw86 => k0_hw86.2.2.2.2.2.1 (k0_off511_inb v5884 k0_hw86)
theorem k0_off513_inb : ∀ (v5884 : BitVec 32) (k0_hw86 : k0_chk86 v5884), ∀ a, (k0_off513 v5884) a + S1x64x1024.size a ≤ S32x128x4096.size a := fun v5884 k0_hw86 => k0_hw86.2.2.2.2.2.2.1
theorem k0_off513_wordsfp8e5m2 : ∀ (v5884 : BitVec 32) (k0_hw86 : k0_chk86 v5884), (Rect.unit (s := S32x128x4096) (k0_off513 v5884) S1x64x1024.size (k0_off513_inb v5884 k0_hw86)).WholeWords (EltTy.packing .fp8e5m2) := fun v5884 k0_hw86 => k0_hw86.2.2.2.2.2.2.2 (k0_off513_inb v5884 k0_hw86)

def k0_off514 (d0 : Dev nD) : Fin 2 → Nat :=
  let c11_6159 : Index := 11#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5933 : Index := Scalar.indexCast v2
  ![11, v5933.toNat]
def k0_off515 (v5934 : BitVec 32) : Fin 3 → Nat :=
  let c0_i32_6166 : BitVec 32 := 0#32
  let c0_i32_6167 : BitVec 32 := 0#32
  ![v5934.toNat, 0, 0]

def k0_off516 (v5936 : BitVec 32) : Fin 3 → Nat :=
  let c64_i32_6175 : BitVec 32 := 64#32
  let c0_i32_6176 : BitVec 32 := 0#32
  ![v5936.toNat, 64, 0]

def k0_off517 (v5934 : BitVec 32) : Fin 3 → Nat :=
  let c0_i32_6184 : BitVec 32 := 0#32
  let c1024_i32_6185 : BitVec 32 := 1024#32
  ![v5934.toNat, 0, 1024]
def k0_off518 (v5936 : BitVec 32) : Fin 3 → Nat :=
  let c64_i32_6193 : BitVec 32 := 64#32
  let c1024_i32_6194 : BitVec 32 := 1024#32
  ![v5936.toNat, 64, 1024]
def k0_off519 (v5934 : BitVec 32) : Fin 3 → Nat :=
  let c0_i32_6202 : BitVec 32 := 0#32
  let c2048_i32_6203 : BitVec 32 := 2048#32
  ![v5934.toNat, 0, 2048]
def k0_off520 (v5936 : BitVec 32) : Fin 3 → Nat :=
  let c64_i32_6211 : BitVec 32 := 64#32
  let c2048_i32_6212 : BitVec 32 := 2048#32
  ![v5936.toNat, 64, 2048]
def k0_off521 (v5934 : BitVec 32) : Fin 3 → Nat :=
  let c0_i32_6220 : BitVec 32 := 0#32
  let c3072_i32_6221 : BitVec 32 := 3072#32
  ![v5934.toNat, 0, 3072]

def k0_chk87 (v5934 : BitVec 32) : Prop :=
  (∀ a, (k0_off515 v5934) a + S1x64x1024.size a ≤ S32x128x4096.size a) ∧
  (∀ (hinb : ∀ a, (k0_off515 v5934) a + S1x64x1024.size a ≤ S32x128x4096.size a), (Rect.unit (s := S32x128x4096) (k0_off515 v5934) S1x64x1024.size hinb).WholeWords (EltTy.packing .fp8e5m2)) ∧
  (∀ a, (k0_off517 v5934) a + S1x64x1024.size a ≤ S32x128x4096.size a) ∧
  (∀ (hinb : ∀ a, (k0_off517 v5934) a + S1x64x1024.size a ≤ S32x128x4096.size a), (Rect.unit (s := S32x128x4096) (k0_off517 v5934) S1x64x1024.size hinb).WholeWords (EltTy.packing .fp8e5m2)) ∧
  (∀ a, (k0_off519 v5934) a + S1x64x1024.size a ≤ S32x128x4096.size a) ∧
  (∀ (hinb : ∀ a, (k0_off519 v5934) a + S1x64x1024.size a ≤ S32x128x4096.size a), (Rect.unit (s := S32x128x4096) (k0_off519 v5934) S1x64x1024.size hinb).WholeWords (EltTy.packing .fp8e5m2)) ∧
  (∀ a, (k0_off521 v5934) a + S1x64x1024.size a ≤ S32x128x4096.size a) ∧
  (∀ (hinb : ∀ a, (k0_off521 v5934) a + S1x64x1024.size a ≤ S32x128x4096.size a), (Rect.unit (s := S32x128x4096) (k0_off521 v5934) S1x64x1024.size hinb).WholeWords (EltTy.packing .fp8e5m2))
theorem k0_off515_inb : ∀ (v5934 : BitVec 32) (k0_hw87 : k0_chk87 v5934), ∀ a, (k0_off515 v5934) a + S1x64x1024.size a ≤ S32x128x4096.size a := fun v5934 k0_hw87 => k0_hw87.1
theorem k0_off515_wordsfp8e5m2 : ∀ (v5934 : BitVec 32) (k0_hw87 : k0_chk87 v5934), (Rect.unit (s := S32x128x4096) (k0_off515 v5934) S1x64x1024.size (k0_off515_inb v5934 k0_hw87)).WholeWords (EltTy.packing .fp8e5m2) := fun v5934 k0_hw87 => k0_hw87.2.1 (k0_off515_inb v5934 k0_hw87)
theorem k0_off517_inb : ∀ (v5934 : BitVec 32) (k0_hw87 : k0_chk87 v5934), ∀ a, (k0_off517 v5934) a + S1x64x1024.size a ≤ S32x128x4096.size a := fun v5934 k0_hw87 => k0_hw87.2.2.1
theorem k0_off517_wordsfp8e5m2 : ∀ (v5934 : BitVec 32) (k0_hw87 : k0_chk87 v5934), (Rect.unit (s := S32x128x4096) (k0_off517 v5934) S1x64x1024.size (k0_off517_inb v5934 k0_hw87)).WholeWords (EltTy.packing .fp8e5m2) := fun v5934 k0_hw87 => k0_hw87.2.2.2.1 (k0_off517_inb v5934 k0_hw87)
theorem k0_off519_inb : ∀ (v5934 : BitVec 32) (k0_hw87 : k0_chk87 v5934), ∀ a, (k0_off519 v5934) a + S1x64x1024.size a ≤ S32x128x4096.size a := fun v5934 k0_hw87 => k0_hw87.2.2.2.2.1
theorem k0_off519_wordsfp8e5m2 : ∀ (v5934 : BitVec 32) (k0_hw87 : k0_chk87 v5934), (Rect.unit (s := S32x128x4096) (k0_off519 v5934) S1x64x1024.size (k0_off519_inb v5934 k0_hw87)).WholeWords (EltTy.packing .fp8e5m2) := fun v5934 k0_hw87 => k0_hw87.2.2.2.2.2.1 (k0_off519_inb v5934 k0_hw87)
theorem k0_off521_inb : ∀ (v5934 : BitVec 32) (k0_hw87 : k0_chk87 v5934), ∀ a, (k0_off521 v5934) a + S1x64x1024.size a ≤ S32x128x4096.size a := fun v5934 k0_hw87 => k0_hw87.2.2.2.2.2.2.1
theorem k0_off521_wordsfp8e5m2 : ∀ (v5934 : BitVec 32) (k0_hw87 : k0_chk87 v5934), (Rect.unit (s := S32x128x4096) (k0_off521 v5934) S1x64x1024.size (k0_off521_inb v5934 k0_hw87)).WholeWords (EltTy.packing .fp8e5m2) := fun v5934 k0_hw87 => k0_hw87.2.2.2.2.2.2.2 (k0_off521_inb v5934 k0_hw87)

def k0_off522 (v5936 : BitVec 32) : Fin 3 → Nat :=
  let c64_i32_6229 : BitVec 32 := 64#32
  let c3072_i32_6230 : BitVec 32 := 3072#32
  ![v5936.toNat, 64, 3072]

def k0_chk88 (v5936 : BitVec 32) : Prop :=
  (∀ a, (k0_off516 v5936) a + S1x64x1024.size a ≤ S32x128x4096.size a) ∧
  (∀ (hinb : ∀ a, (k0_off516 v5936) a + S1x64x1024.size a ≤ S32x128x4096.size a), (Rect.unit (s := S32x128x4096) (k0_off516 v5936) S1x64x1024.size hinb).WholeWords (EltTy.packing .fp8e5m2)) ∧
  (∀ a, (k0_off518 v5936) a + S1x64x1024.size a ≤ S32x128x4096.size a) ∧
  (∀ (hinb : ∀ a, (k0_off518 v5936) a + S1x64x1024.size a ≤ S32x128x4096.size a), (Rect.unit (s := S32x128x4096) (k0_off518 v5936) S1x64x1024.size hinb).WholeWords (EltTy.packing .fp8e5m2)) ∧
  (∀ a, (k0_off520 v5936) a + S1x64x1024.size a ≤ S32x128x4096.size a) ∧
  (∀ (hinb : ∀ a, (k0_off520 v5936) a + S1x64x1024.size a ≤ S32x128x4096.size a), (Rect.unit (s := S32x128x4096) (k0_off520 v5936) S1x64x1024.size hinb).WholeWords (EltTy.packing .fp8e5m2)) ∧
  (∀ a, (k0_off522 v5936) a + S1x64x1024.size a ≤ S32x128x4096.size a) ∧
  (∀ (hinb : ∀ a, (k0_off522 v5936) a + S1x64x1024.size a ≤ S32x128x4096.size a), (Rect.unit (s := S32x128x4096) (k0_off522 v5936) S1x64x1024.size hinb).WholeWords (EltTy.packing .fp8e5m2))
theorem k0_off516_inb : ∀ (v5936 : BitVec 32) (k0_hw88 : k0_chk88 v5936), ∀ a, (k0_off516 v5936) a + S1x64x1024.size a ≤ S32x128x4096.size a := fun v5936 k0_hw88 => k0_hw88.1
theorem k0_off516_wordsfp8e5m2 : ∀ (v5936 : BitVec 32) (k0_hw88 : k0_chk88 v5936), (Rect.unit (s := S32x128x4096) (k0_off516 v5936) S1x64x1024.size (k0_off516_inb v5936 k0_hw88)).WholeWords (EltTy.packing .fp8e5m2) := fun v5936 k0_hw88 => k0_hw88.2.1 (k0_off516_inb v5936 k0_hw88)
theorem k0_off518_inb : ∀ (v5936 : BitVec 32) (k0_hw88 : k0_chk88 v5936), ∀ a, (k0_off518 v5936) a + S1x64x1024.size a ≤ S32x128x4096.size a := fun v5936 k0_hw88 => k0_hw88.2.2.1
theorem k0_off518_wordsfp8e5m2 : ∀ (v5936 : BitVec 32) (k0_hw88 : k0_chk88 v5936), (Rect.unit (s := S32x128x4096) (k0_off518 v5936) S1x64x1024.size (k0_off518_inb v5936 k0_hw88)).WholeWords (EltTy.packing .fp8e5m2) := fun v5936 k0_hw88 => k0_hw88.2.2.2.1 (k0_off518_inb v5936 k0_hw88)
theorem k0_off520_inb : ∀ (v5936 : BitVec 32) (k0_hw88 : k0_chk88 v5936), ∀ a, (k0_off520 v5936) a + S1x64x1024.size a ≤ S32x128x4096.size a := fun v5936 k0_hw88 => k0_hw88.2.2.2.2.1
theorem k0_off520_wordsfp8e5m2 : ∀ (v5936 : BitVec 32) (k0_hw88 : k0_chk88 v5936), (Rect.unit (s := S32x128x4096) (k0_off520 v5936) S1x64x1024.size (k0_off520_inb v5936 k0_hw88)).WholeWords (EltTy.packing .fp8e5m2) := fun v5936 k0_hw88 => k0_hw88.2.2.2.2.2.1 (k0_off520_inb v5936 k0_hw88)
theorem k0_off522_inb : ∀ (v5936 : BitVec 32) (k0_hw88 : k0_chk88 v5936), ∀ a, (k0_off522 v5936) a + S1x64x1024.size a ≤ S32x128x4096.size a := fun v5936 k0_hw88 => k0_hw88.2.2.2.2.2.2.1
theorem k0_off522_wordsfp8e5m2 : ∀ (v5936 : BitVec 32) (k0_hw88 : k0_chk88 v5936), (Rect.unit (s := S32x128x4096) (k0_off522 v5936) S1x64x1024.size (k0_off522_inb v5936 k0_hw88)).WholeWords (EltTy.packing .fp8e5m2) := fun v5936 k0_hw88 => k0_hw88.2.2.2.2.2.2.2 (k0_off522_inb v5936 k0_hw88)

def k0_off523 (d0 : Dev nD) : Fin 2 → Nat :=
  let c12_6233 : Index := 12#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5985 : Index := Scalar.indexCast v2
  ![12, v5985.toNat]
def k0_off524 (v5986 : BitVec 32) : Fin 3 → Nat :=
  let c0_i32_6240 : BitVec 32 := 0#32
  let c0_i32_6241 : BitVec 32 := 0#32
  ![v5986.toNat, 0, 0]

def k0_off525 (v5988 : BitVec 32) : Fin 3 → Nat :=
  let c64_i32_6249 : BitVec 32 := 64#32
  let c0_i32_6250 : BitVec 32 := 0#32
  ![v5988.toNat, 64, 0]

def k0_off526 (v5986 : BitVec 32) : Fin 3 → Nat :=
  let c0_i32_6258 : BitVec 32 := 0#32
  let c1024_i32_6259 : BitVec 32 := 1024#32
  ![v5986.toNat, 0, 1024]
def k0_off527 (v5988 : BitVec 32) : Fin 3 → Nat :=
  let c64_i32_6267 : BitVec 32 := 64#32
  let c1024_i32_6268 : BitVec 32 := 1024#32
  ![v5988.toNat, 64, 1024]
def k0_off528 (v5986 : BitVec 32) : Fin 3 → Nat :=
  let c0_i32_6276 : BitVec 32 := 0#32
  let c2048_i32_6277 : BitVec 32 := 2048#32
  ![v5986.toNat, 0, 2048]
def k0_off529 (v5988 : BitVec 32) : Fin 3 → Nat :=
  let c64_i32_6285 : BitVec 32 := 64#32
  let c2048_i32_6286 : BitVec 32 := 2048#32
  ![v5988.toNat, 64, 2048]
def k0_off530 (v5986 : BitVec 32) : Fin 3 → Nat :=
  let c0_i32_6294 : BitVec 32 := 0#32
  let c3072_i32_6295 : BitVec 32 := 3072#32
  ![v5986.toNat, 0, 3072]

def k0_chk89 (v5986 : BitVec 32) : Prop :=
  (∀ a, (k0_off524 v5986) a + S1x64x1024.size a ≤ S32x128x4096.size a) ∧
  (∀ (hinb : ∀ a, (k0_off524 v5986) a + S1x64x1024.size a ≤ S32x128x4096.size a), (Rect.unit (s := S32x128x4096) (k0_off524 v5986) S1x64x1024.size hinb).WholeWords (EltTy.packing .fp8e5m2)) ∧
  (∀ a, (k0_off526 v5986) a + S1x64x1024.size a ≤ S32x128x4096.size a) ∧
  (∀ (hinb : ∀ a, (k0_off526 v5986) a + S1x64x1024.size a ≤ S32x128x4096.size a), (Rect.unit (s := S32x128x4096) (k0_off526 v5986) S1x64x1024.size hinb).WholeWords (EltTy.packing .fp8e5m2)) ∧
  (∀ a, (k0_off528 v5986) a + S1x64x1024.size a ≤ S32x128x4096.size a) ∧
  (∀ (hinb : ∀ a, (k0_off528 v5986) a + S1x64x1024.size a ≤ S32x128x4096.size a), (Rect.unit (s := S32x128x4096) (k0_off528 v5986) S1x64x1024.size hinb).WholeWords (EltTy.packing .fp8e5m2)) ∧
  (∀ a, (k0_off530 v5986) a + S1x64x1024.size a ≤ S32x128x4096.size a) ∧
  (∀ (hinb : ∀ a, (k0_off530 v5986) a + S1x64x1024.size a ≤ S32x128x4096.size a), (Rect.unit (s := S32x128x4096) (k0_off530 v5986) S1x64x1024.size hinb).WholeWords (EltTy.packing .fp8e5m2))
theorem k0_off524_inb : ∀ (v5986 : BitVec 32) (k0_hw89 : k0_chk89 v5986), ∀ a, (k0_off524 v5986) a + S1x64x1024.size a ≤ S32x128x4096.size a := fun v5986 k0_hw89 => k0_hw89.1
theorem k0_off524_wordsfp8e5m2 : ∀ (v5986 : BitVec 32) (k0_hw89 : k0_chk89 v5986), (Rect.unit (s := S32x128x4096) (k0_off524 v5986) S1x64x1024.size (k0_off524_inb v5986 k0_hw89)).WholeWords (EltTy.packing .fp8e5m2) := fun v5986 k0_hw89 => k0_hw89.2.1 (k0_off524_inb v5986 k0_hw89)
theorem k0_off526_inb : ∀ (v5986 : BitVec 32) (k0_hw89 : k0_chk89 v5986), ∀ a, (k0_off526 v5986) a + S1x64x1024.size a ≤ S32x128x4096.size a := fun v5986 k0_hw89 => k0_hw89.2.2.1
theorem k0_off526_wordsfp8e5m2 : ∀ (v5986 : BitVec 32) (k0_hw89 : k0_chk89 v5986), (Rect.unit (s := S32x128x4096) (k0_off526 v5986) S1x64x1024.size (k0_off526_inb v5986 k0_hw89)).WholeWords (EltTy.packing .fp8e5m2) := fun v5986 k0_hw89 => k0_hw89.2.2.2.1 (k0_off526_inb v5986 k0_hw89)
theorem k0_off528_inb : ∀ (v5986 : BitVec 32) (k0_hw89 : k0_chk89 v5986), ∀ a, (k0_off528 v5986) a + S1x64x1024.size a ≤ S32x128x4096.size a := fun v5986 k0_hw89 => k0_hw89.2.2.2.2.1
theorem k0_off528_wordsfp8e5m2 : ∀ (v5986 : BitVec 32) (k0_hw89 : k0_chk89 v5986), (Rect.unit (s := S32x128x4096) (k0_off528 v5986) S1x64x1024.size (k0_off528_inb v5986 k0_hw89)).WholeWords (EltTy.packing .fp8e5m2) := fun v5986 k0_hw89 => k0_hw89.2.2.2.2.2.1 (k0_off528_inb v5986 k0_hw89)
theorem k0_off530_inb : ∀ (v5986 : BitVec 32) (k0_hw89 : k0_chk89 v5986), ∀ a, (k0_off530 v5986) a + S1x64x1024.size a ≤ S32x128x4096.size a := fun v5986 k0_hw89 => k0_hw89.2.2.2.2.2.2.1
theorem k0_off530_wordsfp8e5m2 : ∀ (v5986 : BitVec 32) (k0_hw89 : k0_chk89 v5986), (Rect.unit (s := S32x128x4096) (k0_off530 v5986) S1x64x1024.size (k0_off530_inb v5986 k0_hw89)).WholeWords (EltTy.packing .fp8e5m2) := fun v5986 k0_hw89 => k0_hw89.2.2.2.2.2.2.2 (k0_off530_inb v5986 k0_hw89)

def k0_off531 (v5988 : BitVec 32) : Fin 3 → Nat :=
  let c64_i32_6303 : BitVec 32 := 64#32
  let c3072_i32_6304 : BitVec 32 := 3072#32
  ![v5988.toNat, 64, 3072]

def k0_chk90 (v5988 : BitVec 32) : Prop :=
  (∀ a, (k0_off525 v5988) a + S1x64x1024.size a ≤ S32x128x4096.size a) ∧
  (∀ (hinb : ∀ a, (k0_off525 v5988) a + S1x64x1024.size a ≤ S32x128x4096.size a), (Rect.unit (s := S32x128x4096) (k0_off525 v5988) S1x64x1024.size hinb).WholeWords (EltTy.packing .fp8e5m2)) ∧
  (∀ a, (k0_off527 v5988) a + S1x64x1024.size a ≤ S32x128x4096.size a) ∧
  (∀ (hinb : ∀ a, (k0_off527 v5988) a + S1x64x1024.size a ≤ S32x128x4096.size a), (Rect.unit (s := S32x128x4096) (k0_off527 v5988) S1x64x1024.size hinb).WholeWords (EltTy.packing .fp8e5m2)) ∧
  (∀ a, (k0_off529 v5988) a + S1x64x1024.size a ≤ S32x128x4096.size a) ∧
  (∀ (hinb : ∀ a, (k0_off529 v5988) a + S1x64x1024.size a ≤ S32x128x4096.size a), (Rect.unit (s := S32x128x4096) (k0_off529 v5988) S1x64x1024.size hinb).WholeWords (EltTy.packing .fp8e5m2)) ∧
  (∀ a, (k0_off531 v5988) a + S1x64x1024.size a ≤ S32x128x4096.size a) ∧
  (∀ (hinb : ∀ a, (k0_off531 v5988) a + S1x64x1024.size a ≤ S32x128x4096.size a), (Rect.unit (s := S32x128x4096) (k0_off531 v5988) S1x64x1024.size hinb).WholeWords (EltTy.packing .fp8e5m2))
theorem k0_off525_inb : ∀ (v5988 : BitVec 32) (k0_hw90 : k0_chk90 v5988), ∀ a, (k0_off525 v5988) a + S1x64x1024.size a ≤ S32x128x4096.size a := fun v5988 k0_hw90 => k0_hw90.1
theorem k0_off525_wordsfp8e5m2 : ∀ (v5988 : BitVec 32) (k0_hw90 : k0_chk90 v5988), (Rect.unit (s := S32x128x4096) (k0_off525 v5988) S1x64x1024.size (k0_off525_inb v5988 k0_hw90)).WholeWords (EltTy.packing .fp8e5m2) := fun v5988 k0_hw90 => k0_hw90.2.1 (k0_off525_inb v5988 k0_hw90)
theorem k0_off527_inb : ∀ (v5988 : BitVec 32) (k0_hw90 : k0_chk90 v5988), ∀ a, (k0_off527 v5988) a + S1x64x1024.size a ≤ S32x128x4096.size a := fun v5988 k0_hw90 => k0_hw90.2.2.1
theorem k0_off527_wordsfp8e5m2 : ∀ (v5988 : BitVec 32) (k0_hw90 : k0_chk90 v5988), (Rect.unit (s := S32x128x4096) (k0_off527 v5988) S1x64x1024.size (k0_off527_inb v5988 k0_hw90)).WholeWords (EltTy.packing .fp8e5m2) := fun v5988 k0_hw90 => k0_hw90.2.2.2.1 (k0_off527_inb v5988 k0_hw90)
theorem k0_off529_inb : ∀ (v5988 : BitVec 32) (k0_hw90 : k0_chk90 v5988), ∀ a, (k0_off529 v5988) a + S1x64x1024.size a ≤ S32x128x4096.size a := fun v5988 k0_hw90 => k0_hw90.2.2.2.2.1
theorem k0_off529_wordsfp8e5m2 : ∀ (v5988 : BitVec 32) (k0_hw90 : k0_chk90 v5988), (Rect.unit (s := S32x128x4096) (k0_off529 v5988) S1x64x1024.size (k0_off529_inb v5988 k0_hw90)).WholeWords (EltTy.packing .fp8e5m2) := fun v5988 k0_hw90 => k0_hw90.2.2.2.2.2.1 (k0_off529_inb v5988 k0_hw90)
theorem k0_off531_inb : ∀ (v5988 : BitVec 32) (k0_hw90 : k0_chk90 v5988), ∀ a, (k0_off531 v5988) a + S1x64x1024.size a ≤ S32x128x4096.size a := fun v5988 k0_hw90 => k0_hw90.2.2.2.2.2.2.1
theorem k0_off531_wordsfp8e5m2 : ∀ (v5988 : BitVec 32) (k0_hw90 : k0_chk90 v5988), (Rect.unit (s := S32x128x4096) (k0_off531 v5988) S1x64x1024.size (k0_off531_inb v5988 k0_hw90)).WholeWords (EltTy.packing .fp8e5m2) := fun v5988 k0_hw90 => k0_hw90.2.2.2.2.2.2.2 (k0_off531_inb v5988 k0_hw90)

def k0_off532 (d0 : Dev nD) : Fin 2 → Nat :=
  let c13_6307 : Index := 13#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v6037 : Index := Scalar.indexCast v2
  ![13, v6037.toNat]
def k0_off533 (v6038 : BitVec 32) : Fin 3 → Nat :=
  let c0_i32_6314 : BitVec 32 := 0#32
  let c0_i32_6315 : BitVec 32 := 0#32
  ![v6038.toNat, 0, 0]

def k0_off534 (v6040 : BitVec 32) : Fin 3 → Nat :=
  let c64_i32_6323 : BitVec 32 := 64#32
  let c0_i32_6324 : BitVec 32 := 0#32
  ![v6040.toNat, 64, 0]

def k0_off535 (v6038 : BitVec 32) : Fin 3 → Nat :=
  let c0_i32_6332 : BitVec 32 := 0#32
  let c1024_i32_6333 : BitVec 32 := 1024#32
  ![v6038.toNat, 0, 1024]
def k0_off536 (v6040 : BitVec 32) : Fin 3 → Nat :=
  let c64_i32_6341 : BitVec 32 := 64#32
  let c1024_i32_6342 : BitVec 32 := 1024#32
  ![v6040.toNat, 64, 1024]
def k0_off537 (v6038 : BitVec 32) : Fin 3 → Nat :=
  let c0_i32_6350 : BitVec 32 := 0#32
  let c2048_i32_6351 : BitVec 32 := 2048#32
  ![v6038.toNat, 0, 2048]
def k0_off538 (v6040 : BitVec 32) : Fin 3 → Nat :=
  let c64_i32_6359 : BitVec 32 := 64#32
  let c2048_i32_6360 : BitVec 32 := 2048#32
  ![v6040.toNat, 64, 2048]
def k0_off539 (v6038 : BitVec 32) : Fin 3 → Nat :=
  let c0_i32_6368 : BitVec 32 := 0#32
  let c3072_i32_6369 : BitVec 32 := 3072#32
  ![v6038.toNat, 0, 3072]

def k0_chk91 (v6038 : BitVec 32) : Prop :=
  (∀ a, (k0_off533 v6038) a + S1x64x1024.size a ≤ S32x128x4096.size a) ∧
  (∀ (hinb : ∀ a, (k0_off533 v6038) a + S1x64x1024.size a ≤ S32x128x4096.size a), (Rect.unit (s := S32x128x4096) (k0_off533 v6038) S1x64x1024.size hinb).WholeWords (EltTy.packing .fp8e5m2)) ∧
  (∀ a, (k0_off535 v6038) a + S1x64x1024.size a ≤ S32x128x4096.size a) ∧
  (∀ (hinb : ∀ a, (k0_off535 v6038) a + S1x64x1024.size a ≤ S32x128x4096.size a), (Rect.unit (s := S32x128x4096) (k0_off535 v6038) S1x64x1024.size hinb).WholeWords (EltTy.packing .fp8e5m2)) ∧
  (∀ a, (k0_off537 v6038) a + S1x64x1024.size a ≤ S32x128x4096.size a) ∧
  (∀ (hinb : ∀ a, (k0_off537 v6038) a + S1x64x1024.size a ≤ S32x128x4096.size a), (Rect.unit (s := S32x128x4096) (k0_off537 v6038) S1x64x1024.size hinb).WholeWords (EltTy.packing .fp8e5m2)) ∧
  (∀ a, (k0_off539 v6038) a + S1x64x1024.size a ≤ S32x128x4096.size a) ∧
  (∀ (hinb : ∀ a, (k0_off539 v6038) a + S1x64x1024.size a ≤ S32x128x4096.size a), (Rect.unit (s := S32x128x4096) (k0_off539 v6038) S1x64x1024.size hinb).WholeWords (EltTy.packing .fp8e5m2))
theorem k0_off533_inb : ∀ (v6038 : BitVec 32) (k0_hw91 : k0_chk91 v6038), ∀ a, (k0_off533 v6038) a + S1x64x1024.size a ≤ S32x128x4096.size a := fun v6038 k0_hw91 => k0_hw91.1
theorem k0_off533_wordsfp8e5m2 : ∀ (v6038 : BitVec 32) (k0_hw91 : k0_chk91 v6038), (Rect.unit (s := S32x128x4096) (k0_off533 v6038) S1x64x1024.size (k0_off533_inb v6038 k0_hw91)).WholeWords (EltTy.packing .fp8e5m2) := fun v6038 k0_hw91 => k0_hw91.2.1 (k0_off533_inb v6038 k0_hw91)
theorem k0_off535_inb : ∀ (v6038 : BitVec 32) (k0_hw91 : k0_chk91 v6038), ∀ a, (k0_off535 v6038) a + S1x64x1024.size a ≤ S32x128x4096.size a := fun v6038 k0_hw91 => k0_hw91.2.2.1
theorem k0_off535_wordsfp8e5m2 : ∀ (v6038 : BitVec 32) (k0_hw91 : k0_chk91 v6038), (Rect.unit (s := S32x128x4096) (k0_off535 v6038) S1x64x1024.size (k0_off535_inb v6038 k0_hw91)).WholeWords (EltTy.packing .fp8e5m2) := fun v6038 k0_hw91 => k0_hw91.2.2.2.1 (k0_off535_inb v6038 k0_hw91)
theorem k0_off537_inb : ∀ (v6038 : BitVec 32) (k0_hw91 : k0_chk91 v6038), ∀ a, (k0_off537 v6038) a + S1x64x1024.size a ≤ S32x128x4096.size a := fun v6038 k0_hw91 => k0_hw91.2.2.2.2.1
theorem k0_off537_wordsfp8e5m2 : ∀ (v6038 : BitVec 32) (k0_hw91 : k0_chk91 v6038), (Rect.unit (s := S32x128x4096) (k0_off537 v6038) S1x64x1024.size (k0_off537_inb v6038 k0_hw91)).WholeWords (EltTy.packing .fp8e5m2) := fun v6038 k0_hw91 => k0_hw91.2.2.2.2.2.1 (k0_off537_inb v6038 k0_hw91)
theorem k0_off539_inb : ∀ (v6038 : BitVec 32) (k0_hw91 : k0_chk91 v6038), ∀ a, (k0_off539 v6038) a + S1x64x1024.size a ≤ S32x128x4096.size a := fun v6038 k0_hw91 => k0_hw91.2.2.2.2.2.2.1
theorem k0_off539_wordsfp8e5m2 : ∀ (v6038 : BitVec 32) (k0_hw91 : k0_chk91 v6038), (Rect.unit (s := S32x128x4096) (k0_off539 v6038) S1x64x1024.size (k0_off539_inb v6038 k0_hw91)).WholeWords (EltTy.packing .fp8e5m2) := fun v6038 k0_hw91 => k0_hw91.2.2.2.2.2.2.2 (k0_off539_inb v6038 k0_hw91)

def k0_off540 (v6040 : BitVec 32) : Fin 3 → Nat :=
  let c64_i32_6377 : BitVec 32 := 64#32
  let c3072_i32_6378 : BitVec 32 := 3072#32
  ![v6040.toNat, 64, 3072]

def k0_chk92 (v6040 : BitVec 32) : Prop :=
  (∀ a, (k0_off534 v6040) a + S1x64x1024.size a ≤ S32x128x4096.size a) ∧
  (∀ (hinb : ∀ a, (k0_off534 v6040) a + S1x64x1024.size a ≤ S32x128x4096.size a), (Rect.unit (s := S32x128x4096) (k0_off534 v6040) S1x64x1024.size hinb).WholeWords (EltTy.packing .fp8e5m2)) ∧
  (∀ a, (k0_off536 v6040) a + S1x64x1024.size a ≤ S32x128x4096.size a) ∧
  (∀ (hinb : ∀ a, (k0_off536 v6040) a + S1x64x1024.size a ≤ S32x128x4096.size a), (Rect.unit (s := S32x128x4096) (k0_off536 v6040) S1x64x1024.size hinb).WholeWords (EltTy.packing .fp8e5m2)) ∧
  (∀ a, (k0_off538 v6040) a + S1x64x1024.size a ≤ S32x128x4096.size a) ∧
  (∀ (hinb : ∀ a, (k0_off538 v6040) a + S1x64x1024.size a ≤ S32x128x4096.size a), (Rect.unit (s := S32x128x4096) (k0_off538 v6040) S1x64x1024.size hinb).WholeWords (EltTy.packing .fp8e5m2)) ∧
  (∀ a, (k0_off540 v6040) a + S1x64x1024.size a ≤ S32x128x4096.size a) ∧
  (∀ (hinb : ∀ a, (k0_off540 v6040) a + S1x64x1024.size a ≤ S32x128x4096.size a), (Rect.unit (s := S32x128x4096) (k0_off540 v6040) S1x64x1024.size hinb).WholeWords (EltTy.packing .fp8e5m2))
theorem k0_off534_inb : ∀ (v6040 : BitVec 32) (k0_hw92 : k0_chk92 v6040), ∀ a, (k0_off534 v6040) a + S1x64x1024.size a ≤ S32x128x4096.size a := fun v6040 k0_hw92 => k0_hw92.1
theorem k0_off534_wordsfp8e5m2 : ∀ (v6040 : BitVec 32) (k0_hw92 : k0_chk92 v6040), (Rect.unit (s := S32x128x4096) (k0_off534 v6040) S1x64x1024.size (k0_off534_inb v6040 k0_hw92)).WholeWords (EltTy.packing .fp8e5m2) := fun v6040 k0_hw92 => k0_hw92.2.1 (k0_off534_inb v6040 k0_hw92)
theorem k0_off536_inb : ∀ (v6040 : BitVec 32) (k0_hw92 : k0_chk92 v6040), ∀ a, (k0_off536 v6040) a + S1x64x1024.size a ≤ S32x128x4096.size a := fun v6040 k0_hw92 => k0_hw92.2.2.1
theorem k0_off536_wordsfp8e5m2 : ∀ (v6040 : BitVec 32) (k0_hw92 : k0_chk92 v6040), (Rect.unit (s := S32x128x4096) (k0_off536 v6040) S1x64x1024.size (k0_off536_inb v6040 k0_hw92)).WholeWords (EltTy.packing .fp8e5m2) := fun v6040 k0_hw92 => k0_hw92.2.2.2.1 (k0_off536_inb v6040 k0_hw92)
theorem k0_off538_inb : ∀ (v6040 : BitVec 32) (k0_hw92 : k0_chk92 v6040), ∀ a, (k0_off538 v6040) a + S1x64x1024.size a ≤ S32x128x4096.size a := fun v6040 k0_hw92 => k0_hw92.2.2.2.2.1
theorem k0_off538_wordsfp8e5m2 : ∀ (v6040 : BitVec 32) (k0_hw92 : k0_chk92 v6040), (Rect.unit (s := S32x128x4096) (k0_off538 v6040) S1x64x1024.size (k0_off538_inb v6040 k0_hw92)).WholeWords (EltTy.packing .fp8e5m2) := fun v6040 k0_hw92 => k0_hw92.2.2.2.2.2.1 (k0_off538_inb v6040 k0_hw92)
theorem k0_off540_inb : ∀ (v6040 : BitVec 32) (k0_hw92 : k0_chk92 v6040), ∀ a, (k0_off540 v6040) a + S1x64x1024.size a ≤ S32x128x4096.size a := fun v6040 k0_hw92 => k0_hw92.2.2.2.2.2.2.1
theorem k0_off540_wordsfp8e5m2 : ∀ (v6040 : BitVec 32) (k0_hw92 : k0_chk92 v6040), (Rect.unit (s := S32x128x4096) (k0_off540 v6040) S1x64x1024.size (k0_off540_inb v6040 k0_hw92)).WholeWords (EltTy.packing .fp8e5m2) := fun v6040 k0_hw92 => k0_hw92.2.2.2.2.2.2.2 (k0_off540_inb v6040 k0_hw92)

def k0_off541 (d0 : Dev nD) : Fin 2 → Nat :=
  let c14_6381 : Index := 14#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v6089 : Index := Scalar.indexCast v2
  ![14, v6089.toNat]
def k0_off542 (v6090 : BitVec 32) : Fin 3 → Nat :=
  let c0_i32_6388 : BitVec 32 := 0#32
  let c0_i32_6389 : BitVec 32 := 0#32
  ![v6090.toNat, 0, 0]

def k0_off543 (v6092 : BitVec 32) : Fin 3 → Nat :=
  let c64_i32_6397 : BitVec 32 := 64#32
  let c0_i32_6398 : BitVec 32 := 0#32
  ![v6092.toNat, 64, 0]

def k0_off544 (v6090 : BitVec 32) : Fin 3 → Nat :=
  let c0_i32_6406 : BitVec 32 := 0#32
  let c1024_i32_6407 : BitVec 32 := 1024#32
  ![v6090.toNat, 0, 1024]
def k0_off545 (v6092 : BitVec 32) : Fin 3 → Nat :=
  let c64_i32_6415 : BitVec 32 := 64#32
  let c1024_i32_6416 : BitVec 32 := 1024#32
  ![v6092.toNat, 64, 1024]
def k0_off546 (v6090 : BitVec 32) : Fin 3 → Nat :=
  let c0_i32_6424 : BitVec 32 := 0#32
  let c2048_i32_6425 : BitVec 32 := 2048#32
  ![v6090.toNat, 0, 2048]
def k0_off547 (v6092 : BitVec 32) : Fin 3 → Nat :=
  let c64_i32_6433 : BitVec 32 := 64#32
  let c2048_i32_6434 : BitVec 32 := 2048#32
  ![v6092.toNat, 64, 2048]
def k0_off548 (v6090 : BitVec 32) : Fin 3 → Nat :=
  let c0_i32_6442 : BitVec 32 := 0#32
  let c3072_i32_6443 : BitVec 32 := 3072#32
  ![v6090.toNat, 0, 3072]

def k0_chk93 (v6090 : BitVec 32) : Prop :=
  (∀ a, (k0_off542 v6090) a + S1x64x1024.size a ≤ S32x128x4096.size a) ∧
  (∀ (hinb : ∀ a, (k0_off542 v6090) a + S1x64x1024.size a ≤ S32x128x4096.size a), (Rect.unit (s := S32x128x4096) (k0_off542 v6090) S1x64x1024.size hinb).WholeWords (EltTy.packing .fp8e5m2)) ∧
  (∀ a, (k0_off544 v6090) a + S1x64x1024.size a ≤ S32x128x4096.size a) ∧
  (∀ (hinb : ∀ a, (k0_off544 v6090) a + S1x64x1024.size a ≤ S32x128x4096.size a), (Rect.unit (s := S32x128x4096) (k0_off544 v6090) S1x64x1024.size hinb).WholeWords (EltTy.packing .fp8e5m2)) ∧
  (∀ a, (k0_off546 v6090) a + S1x64x1024.size a ≤ S32x128x4096.size a) ∧
  (∀ (hinb : ∀ a, (k0_off546 v6090) a + S1x64x1024.size a ≤ S32x128x4096.size a), (Rect.unit (s := S32x128x4096) (k0_off546 v6090) S1x64x1024.size hinb).WholeWords (EltTy.packing .fp8e5m2)) ∧
  (∀ a, (k0_off548 v6090) a + S1x64x1024.size a ≤ S32x128x4096.size a) ∧
  (∀ (hinb : ∀ a, (k0_off548 v6090) a + S1x64x1024.size a ≤ S32x128x4096.size a), (Rect.unit (s := S32x128x4096) (k0_off548 v6090) S1x64x1024.size hinb).WholeWords (EltTy.packing .fp8e5m2))
theorem k0_off542_inb : ∀ (v6090 : BitVec 32) (k0_hw93 : k0_chk93 v6090), ∀ a, (k0_off542 v6090) a + S1x64x1024.size a ≤ S32x128x4096.size a := fun v6090 k0_hw93 => k0_hw93.1
theorem k0_off542_wordsfp8e5m2 : ∀ (v6090 : BitVec 32) (k0_hw93 : k0_chk93 v6090), (Rect.unit (s := S32x128x4096) (k0_off542 v6090) S1x64x1024.size (k0_off542_inb v6090 k0_hw93)).WholeWords (EltTy.packing .fp8e5m2) := fun v6090 k0_hw93 => k0_hw93.2.1 (k0_off542_inb v6090 k0_hw93)
theorem k0_off544_inb : ∀ (v6090 : BitVec 32) (k0_hw93 : k0_chk93 v6090), ∀ a, (k0_off544 v6090) a + S1x64x1024.size a ≤ S32x128x4096.size a := fun v6090 k0_hw93 => k0_hw93.2.2.1
theorem k0_off544_wordsfp8e5m2 : ∀ (v6090 : BitVec 32) (k0_hw93 : k0_chk93 v6090), (Rect.unit (s := S32x128x4096) (k0_off544 v6090) S1x64x1024.size (k0_off544_inb v6090 k0_hw93)).WholeWords (EltTy.packing .fp8e5m2) := fun v6090 k0_hw93 => k0_hw93.2.2.2.1 (k0_off544_inb v6090 k0_hw93)
theorem k0_off546_inb : ∀ (v6090 : BitVec 32) (k0_hw93 : k0_chk93 v6090), ∀ a, (k0_off546 v6090) a + S1x64x1024.size a ≤ S32x128x4096.size a := fun v6090 k0_hw93 => k0_hw93.2.2.2.2.1
theorem k0_off546_wordsfp8e5m2 : ∀ (v6090 : BitVec 32) (k0_hw93 : k0_chk93 v6090), (Rect.unit (s := S32x128x4096) (k0_off546 v6090) S1x64x1024.size (k0_off546_inb v6090 k0_hw93)).WholeWords (EltTy.packing .fp8e5m2) := fun v6090 k0_hw93 => k0_hw93.2.2.2.2.2.1 (k0_off546_inb v6090 k0_hw93)
theorem k0_off548_inb : ∀ (v6090 : BitVec 32) (k0_hw93 : k0_chk93 v6090), ∀ a, (k0_off548 v6090) a + S1x64x1024.size a ≤ S32x128x4096.size a := fun v6090 k0_hw93 => k0_hw93.2.2.2.2.2.2.1
theorem k0_off548_wordsfp8e5m2 : ∀ (v6090 : BitVec 32) (k0_hw93 : k0_chk93 v6090), (Rect.unit (s := S32x128x4096) (k0_off548 v6090) S1x64x1024.size (k0_off548_inb v6090 k0_hw93)).WholeWords (EltTy.packing .fp8e5m2) := fun v6090 k0_hw93 => k0_hw93.2.2.2.2.2.2.2 (k0_off548_inb v6090 k0_hw93)

def k0_off549 (v6092 : BitVec 32) : Fin 3 → Nat :=
  let c64_i32_6451 : BitVec 32 := 64#32
  let c3072_i32_6452 : BitVec 32 := 3072#32
  ![v6092.toNat, 64, 3072]

def k0_chk94 (v6092 : BitVec 32) : Prop :=
  (∀ a, (k0_off543 v6092) a + S1x64x1024.size a ≤ S32x128x4096.size a) ∧
  (∀ (hinb : ∀ a, (k0_off543 v6092) a + S1x64x1024.size a ≤ S32x128x4096.size a), (Rect.unit (s := S32x128x4096) (k0_off543 v6092) S1x64x1024.size hinb).WholeWords (EltTy.packing .fp8e5m2)) ∧
  (∀ a, (k0_off545 v6092) a + S1x64x1024.size a ≤ S32x128x4096.size a) ∧
  (∀ (hinb : ∀ a, (k0_off545 v6092) a + S1x64x1024.size a ≤ S32x128x4096.size a), (Rect.unit (s := S32x128x4096) (k0_off545 v6092) S1x64x1024.size hinb).WholeWords (EltTy.packing .fp8e5m2)) ∧
  (∀ a, (k0_off547 v6092) a + S1x64x1024.size a ≤ S32x128x4096.size a) ∧
  (∀ (hinb : ∀ a, (k0_off547 v6092) a + S1x64x1024.size a ≤ S32x128x4096.size a), (Rect.unit (s := S32x128x4096) (k0_off547 v6092) S1x64x1024.size hinb).WholeWords (EltTy.packing .fp8e5m2)) ∧
  (∀ a, (k0_off549 v6092) a + S1x64x1024.size a ≤ S32x128x4096.size a) ∧
  (∀ (hinb : ∀ a, (k0_off549 v6092) a + S1x64x1024.size a ≤ S32x128x4096.size a), (Rect.unit (s := S32x128x4096) (k0_off549 v6092) S1x64x1024.size hinb).WholeWords (EltTy.packing .fp8e5m2))
theorem k0_off543_inb : ∀ (v6092 : BitVec 32) (k0_hw94 : k0_chk94 v6092), ∀ a, (k0_off543 v6092) a + S1x64x1024.size a ≤ S32x128x4096.size a := fun v6092 k0_hw94 => k0_hw94.1
theorem k0_off543_wordsfp8e5m2 : ∀ (v6092 : BitVec 32) (k0_hw94 : k0_chk94 v6092), (Rect.unit (s := S32x128x4096) (k0_off543 v6092) S1x64x1024.size (k0_off543_inb v6092 k0_hw94)).WholeWords (EltTy.packing .fp8e5m2) := fun v6092 k0_hw94 => k0_hw94.2.1 (k0_off543_inb v6092 k0_hw94)
theorem k0_off545_inb : ∀ (v6092 : BitVec 32) (k0_hw94 : k0_chk94 v6092), ∀ a, (k0_off545 v6092) a + S1x64x1024.size a ≤ S32x128x4096.size a := fun v6092 k0_hw94 => k0_hw94.2.2.1
theorem k0_off545_wordsfp8e5m2 : ∀ (v6092 : BitVec 32) (k0_hw94 : k0_chk94 v6092), (Rect.unit (s := S32x128x4096) (k0_off545 v6092) S1x64x1024.size (k0_off545_inb v6092 k0_hw94)).WholeWords (EltTy.packing .fp8e5m2) := fun v6092 k0_hw94 => k0_hw94.2.2.2.1 (k0_off545_inb v6092 k0_hw94)
theorem k0_off547_inb : ∀ (v6092 : BitVec 32) (k0_hw94 : k0_chk94 v6092), ∀ a, (k0_off547 v6092) a + S1x64x1024.size a ≤ S32x128x4096.size a := fun v6092 k0_hw94 => k0_hw94.2.2.2.2.1
theorem k0_off547_wordsfp8e5m2 : ∀ (v6092 : BitVec 32) (k0_hw94 : k0_chk94 v6092), (Rect.unit (s := S32x128x4096) (k0_off547 v6092) S1x64x1024.size (k0_off547_inb v6092 k0_hw94)).WholeWords (EltTy.packing .fp8e5m2) := fun v6092 k0_hw94 => k0_hw94.2.2.2.2.2.1 (k0_off547_inb v6092 k0_hw94)
theorem k0_off549_inb : ∀ (v6092 : BitVec 32) (k0_hw94 : k0_chk94 v6092), ∀ a, (k0_off549 v6092) a + S1x64x1024.size a ≤ S32x128x4096.size a := fun v6092 k0_hw94 => k0_hw94.2.2.2.2.2.2.1
theorem k0_off549_wordsfp8e5m2 : ∀ (v6092 : BitVec 32) (k0_hw94 : k0_chk94 v6092), (Rect.unit (s := S32x128x4096) (k0_off549 v6092) S1x64x1024.size (k0_off549_inb v6092 k0_hw94)).WholeWords (EltTy.packing .fp8e5m2) := fun v6092 k0_hw94 => k0_hw94.2.2.2.2.2.2.2 (k0_off549_inb v6092 k0_hw94)

def k0_off550 (d0 : Dev nD) : Fin 2 → Nat :=
  let c15_6455 : Index := 15#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v6141 : Index := Scalar.indexCast v2
  ![15, v6141.toNat]
def k0_off551 (v6142 : BitVec 32) : Fin 3 → Nat :=
  let c0_i32_6462 : BitVec 32 := 0#32
  let c0_i32_6463 : BitVec 32 := 0#32
  ![v6142.toNat, 0, 0]

def k0_off552 (v6144 : BitVec 32) : Fin 3 → Nat :=
  let c64_i32_6471 : BitVec 32 := 64#32
  let c0_i32_6472 : BitVec 32 := 0#32
  ![v6144.toNat, 64, 0]

def k0_off553 (v6142 : BitVec 32) : Fin 3 → Nat :=
  let c0_i32_6480 : BitVec 32 := 0#32
  let c1024_i32_6481 : BitVec 32 := 1024#32
  ![v6142.toNat, 0, 1024]
def k0_off554 (v6144 : BitVec 32) : Fin 3 → Nat :=
  let c64_i32_6489 : BitVec 32 := 64#32
  let c1024_i32_6490 : BitVec 32 := 1024#32
  ![v6144.toNat, 64, 1024]
def k0_off555 (v6142 : BitVec 32) : Fin 3 → Nat :=
  let c0_i32_6498 : BitVec 32 := 0#32
  let c2048_i32_6499 : BitVec 32 := 2048#32
  ![v6142.toNat, 0, 2048]
def k0_off556 (v6144 : BitVec 32) : Fin 3 → Nat :=
  let c64_i32_6507 : BitVec 32 := 64#32
  let c2048_i32_6508 : BitVec 32 := 2048#32
  ![v6144.toNat, 64, 2048]
def k0_off557 (v6142 : BitVec 32) : Fin 3 → Nat :=
  let c0_i32_6516 : BitVec 32 := 0#32
  let c3072_i32_6517 : BitVec 32 := 3072#32
  ![v6142.toNat, 0, 3072]

def k0_chk95 (v6142 : BitVec 32) : Prop :=
  (∀ a, (k0_off551 v6142) a + S1x64x1024.size a ≤ S32x128x4096.size a) ∧
  (∀ (hinb : ∀ a, (k0_off551 v6142) a + S1x64x1024.size a ≤ S32x128x4096.size a), (Rect.unit (s := S32x128x4096) (k0_off551 v6142) S1x64x1024.size hinb).WholeWords (EltTy.packing .fp8e5m2)) ∧
  (∀ a, (k0_off553 v6142) a + S1x64x1024.size a ≤ S32x128x4096.size a) ∧
  (∀ (hinb : ∀ a, (k0_off553 v6142) a + S1x64x1024.size a ≤ S32x128x4096.size a), (Rect.unit (s := S32x128x4096) (k0_off553 v6142) S1x64x1024.size hinb).WholeWords (EltTy.packing .fp8e5m2)) ∧
  (∀ a, (k0_off555 v6142) a + S1x64x1024.size a ≤ S32x128x4096.size a) ∧
  (∀ (hinb : ∀ a, (k0_off555 v6142) a + S1x64x1024.size a ≤ S32x128x4096.size a), (Rect.unit (s := S32x128x4096) (k0_off555 v6142) S1x64x1024.size hinb).WholeWords (EltTy.packing .fp8e5m2)) ∧
  (∀ a, (k0_off557 v6142) a + S1x64x1024.size a ≤ S32x128x4096.size a) ∧
  (∀ (hinb : ∀ a, (k0_off557 v6142) a + S1x64x1024.size a ≤ S32x128x4096.size a), (Rect.unit (s := S32x128x4096) (k0_off557 v6142) S1x64x1024.size hinb).WholeWords (EltTy.packing .fp8e5m2))
theorem k0_off551_inb : ∀ (v6142 : BitVec 32) (k0_hw95 : k0_chk95 v6142), ∀ a, (k0_off551 v6142) a + S1x64x1024.size a ≤ S32x128x4096.size a := fun v6142 k0_hw95 => k0_hw95.1
theorem k0_off551_wordsfp8e5m2 : ∀ (v6142 : BitVec 32) (k0_hw95 : k0_chk95 v6142), (Rect.unit (s := S32x128x4096) (k0_off551 v6142) S1x64x1024.size (k0_off551_inb v6142 k0_hw95)).WholeWords (EltTy.packing .fp8e5m2) := fun v6142 k0_hw95 => k0_hw95.2.1 (k0_off551_inb v6142 k0_hw95)
theorem k0_off553_inb : ∀ (v6142 : BitVec 32) (k0_hw95 : k0_chk95 v6142), ∀ a, (k0_off553 v6142) a + S1x64x1024.size a ≤ S32x128x4096.size a := fun v6142 k0_hw95 => k0_hw95.2.2.1
theorem k0_off553_wordsfp8e5m2 : ∀ (v6142 : BitVec 32) (k0_hw95 : k0_chk95 v6142), (Rect.unit (s := S32x128x4096) (k0_off553 v6142) S1x64x1024.size (k0_off553_inb v6142 k0_hw95)).WholeWords (EltTy.packing .fp8e5m2) := fun v6142 k0_hw95 => k0_hw95.2.2.2.1 (k0_off553_inb v6142 k0_hw95)
theorem k0_off555_inb : ∀ (v6142 : BitVec 32) (k0_hw95 : k0_chk95 v6142), ∀ a, (k0_off555 v6142) a + S1x64x1024.size a ≤ S32x128x4096.size a := fun v6142 k0_hw95 => k0_hw95.2.2.2.2.1
theorem k0_off555_wordsfp8e5m2 : ∀ (v6142 : BitVec 32) (k0_hw95 : k0_chk95 v6142), (Rect.unit (s := S32x128x4096) (k0_off555 v6142) S1x64x1024.size (k0_off555_inb v6142 k0_hw95)).WholeWords (EltTy.packing .fp8e5m2) := fun v6142 k0_hw95 => k0_hw95.2.2.2.2.2.1 (k0_off555_inb v6142 k0_hw95)
theorem k0_off557_inb : ∀ (v6142 : BitVec 32) (k0_hw95 : k0_chk95 v6142), ∀ a, (k0_off557 v6142) a + S1x64x1024.size a ≤ S32x128x4096.size a := fun v6142 k0_hw95 => k0_hw95.2.2.2.2.2.2.1
theorem k0_off557_wordsfp8e5m2 : ∀ (v6142 : BitVec 32) (k0_hw95 : k0_chk95 v6142), (Rect.unit (s := S32x128x4096) (k0_off557 v6142) S1x64x1024.size (k0_off557_inb v6142 k0_hw95)).WholeWords (EltTy.packing .fp8e5m2) := fun v6142 k0_hw95 => k0_hw95.2.2.2.2.2.2.2 (k0_off557_inb v6142 k0_hw95)

def k0_off558 (v6144 : BitVec 32) : Fin 3 → Nat :=
  let c64_i32_6525 : BitVec 32 := 64#32
  let c3072_i32_6526 : BitVec 32 := 3072#32
  ![v6144.toNat, 64, 3072]

def k0_chk96 (v6144 : BitVec 32) : Prop :=
  (∀ a, (k0_off552 v6144) a + S1x64x1024.size a ≤ S32x128x4096.size a) ∧
  (∀ (hinb : ∀ a, (k0_off552 v6144) a + S1x64x1024.size a ≤ S32x128x4096.size a), (Rect.unit (s := S32x128x4096) (k0_off552 v6144) S1x64x1024.size hinb).WholeWords (EltTy.packing .fp8e5m2)) ∧
  (∀ a, (k0_off554 v6144) a + S1x64x1024.size a ≤ S32x128x4096.size a) ∧
  (∀ (hinb : ∀ a, (k0_off554 v6144) a + S1x64x1024.size a ≤ S32x128x4096.size a), (Rect.unit (s := S32x128x4096) (k0_off554 v6144) S1x64x1024.size hinb).WholeWords (EltTy.packing .fp8e5m2)) ∧
  (∀ a, (k0_off556 v6144) a + S1x64x1024.size a ≤ S32x128x4096.size a) ∧
  (∀ (hinb : ∀ a, (k0_off556 v6144) a + S1x64x1024.size a ≤ S32x128x4096.size a), (Rect.unit (s := S32x128x4096) (k0_off556 v6144) S1x64x1024.size hinb).WholeWords (EltTy.packing .fp8e5m2)) ∧
  (∀ a, (k0_off558 v6144) a + S1x64x1024.size a ≤ S32x128x4096.size a) ∧
  (∀ (hinb : ∀ a, (k0_off558 v6144) a + S1x64x1024.size a ≤ S32x128x4096.size a), (Rect.unit (s := S32x128x4096) (k0_off558 v6144) S1x64x1024.size hinb).WholeWords (EltTy.packing .fp8e5m2))
theorem k0_off552_inb : ∀ (v6144 : BitVec 32) (k0_hw96 : k0_chk96 v6144), ∀ a, (k0_off552 v6144) a + S1x64x1024.size a ≤ S32x128x4096.size a := fun v6144 k0_hw96 => k0_hw96.1
theorem k0_off552_wordsfp8e5m2 : ∀ (v6144 : BitVec 32) (k0_hw96 : k0_chk96 v6144), (Rect.unit (s := S32x128x4096) (k0_off552 v6144) S1x64x1024.size (k0_off552_inb v6144 k0_hw96)).WholeWords (EltTy.packing .fp8e5m2) := fun v6144 k0_hw96 => k0_hw96.2.1 (k0_off552_inb v6144 k0_hw96)
theorem k0_off554_inb : ∀ (v6144 : BitVec 32) (k0_hw96 : k0_chk96 v6144), ∀ a, (k0_off554 v6144) a + S1x64x1024.size a ≤ S32x128x4096.size a := fun v6144 k0_hw96 => k0_hw96.2.2.1
theorem k0_off554_wordsfp8e5m2 : ∀ (v6144 : BitVec 32) (k0_hw96 : k0_chk96 v6144), (Rect.unit (s := S32x128x4096) (k0_off554 v6144) S1x64x1024.size (k0_off554_inb v6144 k0_hw96)).WholeWords (EltTy.packing .fp8e5m2) := fun v6144 k0_hw96 => k0_hw96.2.2.2.1 (k0_off554_inb v6144 k0_hw96)
theorem k0_off556_inb : ∀ (v6144 : BitVec 32) (k0_hw96 : k0_chk96 v6144), ∀ a, (k0_off556 v6144) a + S1x64x1024.size a ≤ S32x128x4096.size a := fun v6144 k0_hw96 => k0_hw96.2.2.2.2.1
theorem k0_off556_wordsfp8e5m2 : ∀ (v6144 : BitVec 32) (k0_hw96 : k0_chk96 v6144), (Rect.unit (s := S32x128x4096) (k0_off556 v6144) S1x64x1024.size (k0_off556_inb v6144 k0_hw96)).WholeWords (EltTy.packing .fp8e5m2) := fun v6144 k0_hw96 => k0_hw96.2.2.2.2.2.1 (k0_off556_inb v6144 k0_hw96)
theorem k0_off558_inb : ∀ (v6144 : BitVec 32) (k0_hw96 : k0_chk96 v6144), ∀ a, (k0_off558 v6144) a + S1x64x1024.size a ≤ S32x128x4096.size a := fun v6144 k0_hw96 => k0_hw96.2.2.2.2.2.2.1
theorem k0_off558_wordsfp8e5m2 : ∀ (v6144 : BitVec 32) (k0_hw96 : k0_chk96 v6144), (Rect.unit (s := S32x128x4096) (k0_off558 v6144) S1x64x1024.size (k0_off558_inb v6144 k0_hw96)).WholeWords (EltTy.packing .fp8e5m2) := fun v6144 k0_hw96 => k0_hw96.2.2.2.2.2.2.2 (k0_off558_inb v6144 k0_hw96)

def k0_off559 (d0 : Dev nD) : Fin 2 → Nat :=
  let c16_6529 : Index := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v6193 : Index := Scalar.indexCast v2
  ![16, v6193.toNat]
def k0_off560 (v6194 : BitVec 32) : Fin 3 → Nat :=
  let c0_i32_6536 : BitVec 32 := 0#32
  let c0_i32_6537 : BitVec 32 := 0#32
  ![v6194.toNat, 0, 0]

def k0_off561 (v6196 : BitVec 32) : Fin 3 → Nat :=
  let c64_i32_6545 : BitVec 32 := 64#32
  let c0_i32_6546 : BitVec 32 := 0#32
  ![v6196.toNat, 64, 0]

def k0_off562 (v6194 : BitVec 32) : Fin 3 → Nat :=
  let c0_i32_6554 : BitVec 32 := 0#32
  let c1024_i32_6555 : BitVec 32 := 1024#32
  ![v6194.toNat, 0, 1024]
def k0_off563 (v6196 : BitVec 32) : Fin 3 → Nat :=
  let c64_i32_6563 : BitVec 32 := 64#32
  let c1024_i32_6564 : BitVec 32 := 1024#32
  ![v6196.toNat, 64, 1024]
def k0_off564 (v6194 : BitVec 32) : Fin 3 → Nat :=
  let c0_i32_6572 : BitVec 32 := 0#32
  let c2048_i32_6573 : BitVec 32 := 2048#32
  ![v6194.toNat, 0, 2048]
def k0_off565 (v6196 : BitVec 32) : Fin 3 → Nat :=
  let c64_i32_6581 : BitVec 32 := 64#32
  let c2048_i32_6582 : BitVec 32 := 2048#32
  ![v6196.toNat, 64, 2048]
def k0_off566 (v6194 : BitVec 32) : Fin 3 → Nat :=
  let c0_i32_6590 : BitVec 32 := 0#32
  let c3072_i32_6591 : BitVec 32 := 3072#32
  ![v6194.toNat, 0, 3072]

def k0_chk97 (v6194 : BitVec 32) : Prop :=
  (∀ a, (k0_off560 v6194) a + S1x64x1024.size a ≤ S32x128x4096.size a) ∧
  (∀ (hinb : ∀ a, (k0_off560 v6194) a + S1x64x1024.size a ≤ S32x128x4096.size a), (Rect.unit (s := S32x128x4096) (k0_off560 v6194) S1x64x1024.size hinb).WholeWords (EltTy.packing .fp8e5m2)) ∧
  (∀ a, (k0_off562 v6194) a + S1x64x1024.size a ≤ S32x128x4096.size a) ∧
  (∀ (hinb : ∀ a, (k0_off562 v6194) a + S1x64x1024.size a ≤ S32x128x4096.size a), (Rect.unit (s := S32x128x4096) (k0_off562 v6194) S1x64x1024.size hinb).WholeWords (EltTy.packing .fp8e5m2)) ∧
  (∀ a, (k0_off564 v6194) a + S1x64x1024.size a ≤ S32x128x4096.size a) ∧
  (∀ (hinb : ∀ a, (k0_off564 v6194) a + S1x64x1024.size a ≤ S32x128x4096.size a), (Rect.unit (s := S32x128x4096) (k0_off564 v6194) S1x64x1024.size hinb).WholeWords (EltTy.packing .fp8e5m2)) ∧
  (∀ a, (k0_off566 v6194) a + S1x64x1024.size a ≤ S32x128x4096.size a) ∧
  (∀ (hinb : ∀ a, (k0_off566 v6194) a + S1x64x1024.size a ≤ S32x128x4096.size a), (Rect.unit (s := S32x128x4096) (k0_off566 v6194) S1x64x1024.size hinb).WholeWords (EltTy.packing .fp8e5m2))
theorem k0_off560_inb : ∀ (v6194 : BitVec 32) (k0_hw97 : k0_chk97 v6194), ∀ a, (k0_off560 v6194) a + S1x64x1024.size a ≤ S32x128x4096.size a := fun v6194 k0_hw97 => k0_hw97.1
theorem k0_off560_wordsfp8e5m2 : ∀ (v6194 : BitVec 32) (k0_hw97 : k0_chk97 v6194), (Rect.unit (s := S32x128x4096) (k0_off560 v6194) S1x64x1024.size (k0_off560_inb v6194 k0_hw97)).WholeWords (EltTy.packing .fp8e5m2) := fun v6194 k0_hw97 => k0_hw97.2.1 (k0_off560_inb v6194 k0_hw97)
theorem k0_off562_inb : ∀ (v6194 : BitVec 32) (k0_hw97 : k0_chk97 v6194), ∀ a, (k0_off562 v6194) a + S1x64x1024.size a ≤ S32x128x4096.size a := fun v6194 k0_hw97 => k0_hw97.2.2.1
theorem k0_off562_wordsfp8e5m2 : ∀ (v6194 : BitVec 32) (k0_hw97 : k0_chk97 v6194), (Rect.unit (s := S32x128x4096) (k0_off562 v6194) S1x64x1024.size (k0_off562_inb v6194 k0_hw97)).WholeWords (EltTy.packing .fp8e5m2) := fun v6194 k0_hw97 => k0_hw97.2.2.2.1 (k0_off562_inb v6194 k0_hw97)
theorem k0_off564_inb : ∀ (v6194 : BitVec 32) (k0_hw97 : k0_chk97 v6194), ∀ a, (k0_off564 v6194) a + S1x64x1024.size a ≤ S32x128x4096.size a := fun v6194 k0_hw97 => k0_hw97.2.2.2.2.1
theorem k0_off564_wordsfp8e5m2 : ∀ (v6194 : BitVec 32) (k0_hw97 : k0_chk97 v6194), (Rect.unit (s := S32x128x4096) (k0_off564 v6194) S1x64x1024.size (k0_off564_inb v6194 k0_hw97)).WholeWords (EltTy.packing .fp8e5m2) := fun v6194 k0_hw97 => k0_hw97.2.2.2.2.2.1 (k0_off564_inb v6194 k0_hw97)
theorem k0_off566_inb : ∀ (v6194 : BitVec 32) (k0_hw97 : k0_chk97 v6194), ∀ a, (k0_off566 v6194) a + S1x64x1024.size a ≤ S32x128x4096.size a := fun v6194 k0_hw97 => k0_hw97.2.2.2.2.2.2.1
theorem k0_off566_wordsfp8e5m2 : ∀ (v6194 : BitVec 32) (k0_hw97 : k0_chk97 v6194), (Rect.unit (s := S32x128x4096) (k0_off566 v6194) S1x64x1024.size (k0_off566_inb v6194 k0_hw97)).WholeWords (EltTy.packing .fp8e5m2) := fun v6194 k0_hw97 => k0_hw97.2.2.2.2.2.2.2 (k0_off566_inb v6194 k0_hw97)

def k0_off567 (v6196 : BitVec 32) : Fin 3 → Nat :=
  let c64_i32_6599 : BitVec 32 := 64#32
  let c3072_i32_6600 : BitVec 32 := 3072#32
  ![v6196.toNat, 64, 3072]

def k0_chk98 (v6196 : BitVec 32) : Prop :=
  (∀ a, (k0_off561 v6196) a + S1x64x1024.size a ≤ S32x128x4096.size a) ∧
  (∀ (hinb : ∀ a, (k0_off561 v6196) a + S1x64x1024.size a ≤ S32x128x4096.size a), (Rect.unit (s := S32x128x4096) (k0_off561 v6196) S1x64x1024.size hinb).WholeWords (EltTy.packing .fp8e5m2)) ∧
  (∀ a, (k0_off563 v6196) a + S1x64x1024.size a ≤ S32x128x4096.size a) ∧
  (∀ (hinb : ∀ a, (k0_off563 v6196) a + S1x64x1024.size a ≤ S32x128x4096.size a), (Rect.unit (s := S32x128x4096) (k0_off563 v6196) S1x64x1024.size hinb).WholeWords (EltTy.packing .fp8e5m2)) ∧
  (∀ a, (k0_off565 v6196) a + S1x64x1024.size a ≤ S32x128x4096.size a) ∧
  (∀ (hinb : ∀ a, (k0_off565 v6196) a + S1x64x1024.size a ≤ S32x128x4096.size a), (Rect.unit (s := S32x128x4096) (k0_off565 v6196) S1x64x1024.size hinb).WholeWords (EltTy.packing .fp8e5m2)) ∧
  (∀ a, (k0_off567 v6196) a + S1x64x1024.size a ≤ S32x128x4096.size a) ∧
  (∀ (hinb : ∀ a, (k0_off567 v6196) a + S1x64x1024.size a ≤ S32x128x4096.size a), (Rect.unit (s := S32x128x4096) (k0_off567 v6196) S1x64x1024.size hinb).WholeWords (EltTy.packing .fp8e5m2))
theorem k0_off561_inb : ∀ (v6196 : BitVec 32) (k0_hw98 : k0_chk98 v6196), ∀ a, (k0_off561 v6196) a + S1x64x1024.size a ≤ S32x128x4096.size a := fun v6196 k0_hw98 => k0_hw98.1
theorem k0_off561_wordsfp8e5m2 : ∀ (v6196 : BitVec 32) (k0_hw98 : k0_chk98 v6196), (Rect.unit (s := S32x128x4096) (k0_off561 v6196) S1x64x1024.size (k0_off561_inb v6196 k0_hw98)).WholeWords (EltTy.packing .fp8e5m2) := fun v6196 k0_hw98 => k0_hw98.2.1 (k0_off561_inb v6196 k0_hw98)
theorem k0_off563_inb : ∀ (v6196 : BitVec 32) (k0_hw98 : k0_chk98 v6196), ∀ a, (k0_off563 v6196) a + S1x64x1024.size a ≤ S32x128x4096.size a := fun v6196 k0_hw98 => k0_hw98.2.2.1
theorem k0_off563_wordsfp8e5m2 : ∀ (v6196 : BitVec 32) (k0_hw98 : k0_chk98 v6196), (Rect.unit (s := S32x128x4096) (k0_off563 v6196) S1x64x1024.size (k0_off563_inb v6196 k0_hw98)).WholeWords (EltTy.packing .fp8e5m2) := fun v6196 k0_hw98 => k0_hw98.2.2.2.1 (k0_off563_inb v6196 k0_hw98)
theorem k0_off565_inb : ∀ (v6196 : BitVec 32) (k0_hw98 : k0_chk98 v6196), ∀ a, (k0_off565 v6196) a + S1x64x1024.size a ≤ S32x128x4096.size a := fun v6196 k0_hw98 => k0_hw98.2.2.2.2.1
theorem k0_off565_wordsfp8e5m2 : ∀ (v6196 : BitVec 32) (k0_hw98 : k0_chk98 v6196), (Rect.unit (s := S32x128x4096) (k0_off565 v6196) S1x64x1024.size (k0_off565_inb v6196 k0_hw98)).WholeWords (EltTy.packing .fp8e5m2) := fun v6196 k0_hw98 => k0_hw98.2.2.2.2.2.1 (k0_off565_inb v6196 k0_hw98)
theorem k0_off567_inb : ∀ (v6196 : BitVec 32) (k0_hw98 : k0_chk98 v6196), ∀ a, (k0_off567 v6196) a + S1x64x1024.size a ≤ S32x128x4096.size a := fun v6196 k0_hw98 => k0_hw98.2.2.2.2.2.2.1
theorem k0_off567_wordsfp8e5m2 : ∀ (v6196 : BitVec 32) (k0_hw98 : k0_chk98 v6196), (Rect.unit (s := S32x128x4096) (k0_off567 v6196) S1x64x1024.size (k0_off567_inb v6196 k0_hw98)).WholeWords (EltTy.packing .fp8e5m2) := fun v6196 k0_hw98 => k0_hw98.2.2.2.2.2.2.2 (k0_off567_inb v6196 k0_hw98)

def k0_off568 (d0 : Dev nD) : Fin 2 → Nat :=
  let c17_6603 : Index := 17#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v6245 : Index := Scalar.indexCast v2
  ![17, v6245.toNat]
def k0_off569 (v6246 : BitVec 32) : Fin 3 → Nat :=
  let c0_i32_6610 : BitVec 32 := 0#32
  let c0_i32_6611 : BitVec 32 := 0#32
  ![v6246.toNat, 0, 0]

def k0_off570 (v6248 : BitVec 32) : Fin 3 → Nat :=
  let c64_i32_6619 : BitVec 32 := 64#32
  let c0_i32_6620 : BitVec 32 := 0#32
  ![v6248.toNat, 64, 0]

def k0_off571 (v6246 : BitVec 32) : Fin 3 → Nat :=
  let c0_i32_6628 : BitVec 32 := 0#32
  let c1024_i32_6629 : BitVec 32 := 1024#32
  ![v6246.toNat, 0, 1024]
def k0_off572 (v6248 : BitVec 32) : Fin 3 → Nat :=
  let c64_i32_6637 : BitVec 32 := 64#32
  let c1024_i32_6638 : BitVec 32 := 1024#32
  ![v6248.toNat, 64, 1024]
def k0_off573 (v6246 : BitVec 32) : Fin 3 → Nat :=
  let c0_i32_6646 : BitVec 32 := 0#32
  let c2048_i32_6647 : BitVec 32 := 2048#32
  ![v6246.toNat, 0, 2048]
def k0_off574 (v6248 : BitVec 32) : Fin 3 → Nat :=
  let c64_i32_6655 : BitVec 32 := 64#32
  let c2048_i32_6656 : BitVec 32 := 2048#32
  ![v6248.toNat, 64, 2048]
def k0_off575 (v6246 : BitVec 32) : Fin 3 → Nat :=
  let c0_i32_6664 : BitVec 32 := 0#32
  let c3072_i32_6665 : BitVec 32 := 3072#32
  ![v6246.toNat, 0, 3072]

def k0_chk99 (v6246 : BitVec 32) : Prop :=
  (∀ a, (k0_off569 v6246) a + S1x64x1024.size a ≤ S32x128x4096.size a) ∧
  (∀ (hinb : ∀ a, (k0_off569 v6246) a + S1x64x1024.size a ≤ S32x128x4096.size a), (Rect.unit (s := S32x128x4096) (k0_off569 v6246) S1x64x1024.size hinb).WholeWords (EltTy.packing .fp8e5m2)) ∧
  (∀ a, (k0_off571 v6246) a + S1x64x1024.size a ≤ S32x128x4096.size a) ∧
  (∀ (hinb : ∀ a, (k0_off571 v6246) a + S1x64x1024.size a ≤ S32x128x4096.size a), (Rect.unit (s := S32x128x4096) (k0_off571 v6246) S1x64x1024.size hinb).WholeWords (EltTy.packing .fp8e5m2)) ∧
  (∀ a, (k0_off573 v6246) a + S1x64x1024.size a ≤ S32x128x4096.size a) ∧
  (∀ (hinb : ∀ a, (k0_off573 v6246) a + S1x64x1024.size a ≤ S32x128x4096.size a), (Rect.unit (s := S32x128x4096) (k0_off573 v6246) S1x64x1024.size hinb).WholeWords (EltTy.packing .fp8e5m2)) ∧
  (∀ a, (k0_off575 v6246) a + S1x64x1024.size a ≤ S32x128x4096.size a) ∧
  (∀ (hinb : ∀ a, (k0_off575 v6246) a + S1x64x1024.size a ≤ S32x128x4096.size a), (Rect.unit (s := S32x128x4096) (k0_off575 v6246) S1x64x1024.size hinb).WholeWords (EltTy.packing .fp8e5m2))
theorem k0_off569_inb : ∀ (v6246 : BitVec 32) (k0_hw99 : k0_chk99 v6246), ∀ a, (k0_off569 v6246) a + S1x64x1024.size a ≤ S32x128x4096.size a := fun v6246 k0_hw99 => k0_hw99.1
theorem k0_off569_wordsfp8e5m2 : ∀ (v6246 : BitVec 32) (k0_hw99 : k0_chk99 v6246), (Rect.unit (s := S32x128x4096) (k0_off569 v6246) S1x64x1024.size (k0_off569_inb v6246 k0_hw99)).WholeWords (EltTy.packing .fp8e5m2) := fun v6246 k0_hw99 => k0_hw99.2.1 (k0_off569_inb v6246 k0_hw99)
theorem k0_off571_inb : ∀ (v6246 : BitVec 32) (k0_hw99 : k0_chk99 v6246), ∀ a, (k0_off571 v6246) a + S1x64x1024.size a ≤ S32x128x4096.size a := fun v6246 k0_hw99 => k0_hw99.2.2.1
theorem k0_off571_wordsfp8e5m2 : ∀ (v6246 : BitVec 32) (k0_hw99 : k0_chk99 v6246), (Rect.unit (s := S32x128x4096) (k0_off571 v6246) S1x64x1024.size (k0_off571_inb v6246 k0_hw99)).WholeWords (EltTy.packing .fp8e5m2) := fun v6246 k0_hw99 => k0_hw99.2.2.2.1 (k0_off571_inb v6246 k0_hw99)
theorem k0_off573_inb : ∀ (v6246 : BitVec 32) (k0_hw99 : k0_chk99 v6246), ∀ a, (k0_off573 v6246) a + S1x64x1024.size a ≤ S32x128x4096.size a := fun v6246 k0_hw99 => k0_hw99.2.2.2.2.1
theorem k0_off573_wordsfp8e5m2 : ∀ (v6246 : BitVec 32) (k0_hw99 : k0_chk99 v6246), (Rect.unit (s := S32x128x4096) (k0_off573 v6246) S1x64x1024.size (k0_off573_inb v6246 k0_hw99)).WholeWords (EltTy.packing .fp8e5m2) := fun v6246 k0_hw99 => k0_hw99.2.2.2.2.2.1 (k0_off573_inb v6246 k0_hw99)
theorem k0_off575_inb : ∀ (v6246 : BitVec 32) (k0_hw99 : k0_chk99 v6246), ∀ a, (k0_off575 v6246) a + S1x64x1024.size a ≤ S32x128x4096.size a := fun v6246 k0_hw99 => k0_hw99.2.2.2.2.2.2.1
theorem k0_off575_wordsfp8e5m2 : ∀ (v6246 : BitVec 32) (k0_hw99 : k0_chk99 v6246), (Rect.unit (s := S32x128x4096) (k0_off575 v6246) S1x64x1024.size (k0_off575_inb v6246 k0_hw99)).WholeWords (EltTy.packing .fp8e5m2) := fun v6246 k0_hw99 => k0_hw99.2.2.2.2.2.2.2 (k0_off575_inb v6246 k0_hw99)

def k0_off576 (v6248 : BitVec 32) : Fin 3 → Nat :=
  let c64_i32_6673 : BitVec 32 := 64#32
  let c3072_i32_6674 : BitVec 32 := 3072#32
  ![v6248.toNat, 64, 3072]

def k0_chk100 (v6248 : BitVec 32) : Prop :=
  (∀ a, (k0_off570 v6248) a + S1x64x1024.size a ≤ S32x128x4096.size a) ∧
  (∀ (hinb : ∀ a, (k0_off570 v6248) a + S1x64x1024.size a ≤ S32x128x4096.size a), (Rect.unit (s := S32x128x4096) (k0_off570 v6248) S1x64x1024.size hinb).WholeWords (EltTy.packing .fp8e5m2)) ∧
  (∀ a, (k0_off572 v6248) a + S1x64x1024.size a ≤ S32x128x4096.size a) ∧
  (∀ (hinb : ∀ a, (k0_off572 v6248) a + S1x64x1024.size a ≤ S32x128x4096.size a), (Rect.unit (s := S32x128x4096) (k0_off572 v6248) S1x64x1024.size hinb).WholeWords (EltTy.packing .fp8e5m2)) ∧
  (∀ a, (k0_off574 v6248) a + S1x64x1024.size a ≤ S32x128x4096.size a) ∧
  (∀ (hinb : ∀ a, (k0_off574 v6248) a + S1x64x1024.size a ≤ S32x128x4096.size a), (Rect.unit (s := S32x128x4096) (k0_off574 v6248) S1x64x1024.size hinb).WholeWords (EltTy.packing .fp8e5m2)) ∧
  (∀ a, (k0_off576 v6248) a + S1x64x1024.size a ≤ S32x128x4096.size a) ∧
  (∀ (hinb : ∀ a, (k0_off576 v6248) a + S1x64x1024.size a ≤ S32x128x4096.size a), (Rect.unit (s := S32x128x4096) (k0_off576 v6248) S1x64x1024.size hinb).WholeWords (EltTy.packing .fp8e5m2))
theorem k0_off570_inb : ∀ (v6248 : BitVec 32) (k0_hw100 : k0_chk100 v6248), ∀ a, (k0_off570 v6248) a + S1x64x1024.size a ≤ S32x128x4096.size a := fun v6248 k0_hw100 => k0_hw100.1
theorem k0_off570_wordsfp8e5m2 : ∀ (v6248 : BitVec 32) (k0_hw100 : k0_chk100 v6248), (Rect.unit (s := S32x128x4096) (k0_off570 v6248) S1x64x1024.size (k0_off570_inb v6248 k0_hw100)).WholeWords (EltTy.packing .fp8e5m2) := fun v6248 k0_hw100 => k0_hw100.2.1 (k0_off570_inb v6248 k0_hw100)
theorem k0_off572_inb : ∀ (v6248 : BitVec 32) (k0_hw100 : k0_chk100 v6248), ∀ a, (k0_off572 v6248) a + S1x64x1024.size a ≤ S32x128x4096.size a := fun v6248 k0_hw100 => k0_hw100.2.2.1
theorem k0_off572_wordsfp8e5m2 : ∀ (v6248 : BitVec 32) (k0_hw100 : k0_chk100 v6248), (Rect.unit (s := S32x128x4096) (k0_off572 v6248) S1x64x1024.size (k0_off572_inb v6248 k0_hw100)).WholeWords (EltTy.packing .fp8e5m2) := fun v6248 k0_hw100 => k0_hw100.2.2.2.1 (k0_off572_inb v6248 k0_hw100)
theorem k0_off574_inb : ∀ (v6248 : BitVec 32) (k0_hw100 : k0_chk100 v6248), ∀ a, (k0_off574 v6248) a + S1x64x1024.size a ≤ S32x128x4096.size a := fun v6248 k0_hw100 => k0_hw100.2.2.2.2.1
theorem k0_off574_wordsfp8e5m2 : ∀ (v6248 : BitVec 32) (k0_hw100 : k0_chk100 v6248), (Rect.unit (s := S32x128x4096) (k0_off574 v6248) S1x64x1024.size (k0_off574_inb v6248 k0_hw100)).WholeWords (EltTy.packing .fp8e5m2) := fun v6248 k0_hw100 => k0_hw100.2.2.2.2.2.1 (k0_off574_inb v6248 k0_hw100)
theorem k0_off576_inb : ∀ (v6248 : BitVec 32) (k0_hw100 : k0_chk100 v6248), ∀ a, (k0_off576 v6248) a + S1x64x1024.size a ≤ S32x128x4096.size a := fun v6248 k0_hw100 => k0_hw100.2.2.2.2.2.2.1
theorem k0_off576_wordsfp8e5m2 : ∀ (v6248 : BitVec 32) (k0_hw100 : k0_chk100 v6248), (Rect.unit (s := S32x128x4096) (k0_off576 v6248) S1x64x1024.size (k0_off576_inb v6248 k0_hw100)).WholeWords (EltTy.packing .fp8e5m2) := fun v6248 k0_hw100 => k0_hw100.2.2.2.2.2.2.2 (k0_off576_inb v6248 k0_hw100)

def k0_off577 (d0 : Dev nD) : Fin 2 → Nat :=
  let c18_6677 : Index := 18#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v6297 : Index := Scalar.indexCast v2
  ![18, v6297.toNat]
def k0_off578 (v6298 : BitVec 32) : Fin 3 → Nat :=
  let c0_i32_6684 : BitVec 32 := 0#32
  let c0_i32_6685 : BitVec 32 := 0#32
  ![v6298.toNat, 0, 0]

def k0_off579 (v6300 : BitVec 32) : Fin 3 → Nat :=
  let c64_i32_6693 : BitVec 32 := 64#32
  let c0_i32_6694 : BitVec 32 := 0#32
  ![v6300.toNat, 64, 0]

def k0_off580 (v6298 : BitVec 32) : Fin 3 → Nat :=
  let c0_i32_6702 : BitVec 32 := 0#32
  let c1024_i32_6703 : BitVec 32 := 1024#32
  ![v6298.toNat, 0, 1024]
def k0_off581 (v6300 : BitVec 32) : Fin 3 → Nat :=
  let c64_i32_6711 : BitVec 32 := 64#32
  let c1024_i32_6712 : BitVec 32 := 1024#32
  ![v6300.toNat, 64, 1024]
def k0_off582 (v6298 : BitVec 32) : Fin 3 → Nat :=
  let c0_i32_6720 : BitVec 32 := 0#32
  let c2048_i32_6721 : BitVec 32 := 2048#32
  ![v6298.toNat, 0, 2048]
def k0_off583 (v6300 : BitVec 32) : Fin 3 → Nat :=
  let c64_i32_6729 : BitVec 32 := 64#32
  let c2048_i32_6730 : BitVec 32 := 2048#32
  ![v6300.toNat, 64, 2048]
def k0_off584 (v6298 : BitVec 32) : Fin 3 → Nat :=
  let c0_i32_6738 : BitVec 32 := 0#32
  let c3072_i32_6739 : BitVec 32 := 3072#32
  ![v6298.toNat, 0, 3072]

def k0_chk101 (v6298 : BitVec 32) : Prop :=
  (∀ a, (k0_off578 v6298) a + S1x64x1024.size a ≤ S32x128x4096.size a) ∧
  (∀ (hinb : ∀ a, (k0_off578 v6298) a + S1x64x1024.size a ≤ S32x128x4096.size a), (Rect.unit (s := S32x128x4096) (k0_off578 v6298) S1x64x1024.size hinb).WholeWords (EltTy.packing .fp8e5m2)) ∧
  (∀ a, (k0_off580 v6298) a + S1x64x1024.size a ≤ S32x128x4096.size a) ∧
  (∀ (hinb : ∀ a, (k0_off580 v6298) a + S1x64x1024.size a ≤ S32x128x4096.size a), (Rect.unit (s := S32x128x4096) (k0_off580 v6298) S1x64x1024.size hinb).WholeWords (EltTy.packing .fp8e5m2)) ∧
  (∀ a, (k0_off582 v6298) a + S1x64x1024.size a ≤ S32x128x4096.size a) ∧
  (∀ (hinb : ∀ a, (k0_off582 v6298) a + S1x64x1024.size a ≤ S32x128x4096.size a), (Rect.unit (s := S32x128x4096) (k0_off582 v6298) S1x64x1024.size hinb).WholeWords (EltTy.packing .fp8e5m2)) ∧
  (∀ a, (k0_off584 v6298) a + S1x64x1024.size a ≤ S32x128x4096.size a) ∧
  (∀ (hinb : ∀ a, (k0_off584 v6298) a + S1x64x1024.size a ≤ S32x128x4096.size a), (Rect.unit (s := S32x128x4096) (k0_off584 v6298) S1x64x1024.size hinb).WholeWords (EltTy.packing .fp8e5m2))
theorem k0_off578_inb : ∀ (v6298 : BitVec 32) (k0_hw101 : k0_chk101 v6298), ∀ a, (k0_off578 v6298) a + S1x64x1024.size a ≤ S32x128x4096.size a := fun v6298 k0_hw101 => k0_hw101.1
theorem k0_off578_wordsfp8e5m2 : ∀ (v6298 : BitVec 32) (k0_hw101 : k0_chk101 v6298), (Rect.unit (s := S32x128x4096) (k0_off578 v6298) S1x64x1024.size (k0_off578_inb v6298 k0_hw101)).WholeWords (EltTy.packing .fp8e5m2) := fun v6298 k0_hw101 => k0_hw101.2.1 (k0_off578_inb v6298 k0_hw101)
theorem k0_off580_inb : ∀ (v6298 : BitVec 32) (k0_hw101 : k0_chk101 v6298), ∀ a, (k0_off580 v6298) a + S1x64x1024.size a ≤ S32x128x4096.size a := fun v6298 k0_hw101 => k0_hw101.2.2.1
theorem k0_off580_wordsfp8e5m2 : ∀ (v6298 : BitVec 32) (k0_hw101 : k0_chk101 v6298), (Rect.unit (s := S32x128x4096) (k0_off580 v6298) S1x64x1024.size (k0_off580_inb v6298 k0_hw101)).WholeWords (EltTy.packing .fp8e5m2) := fun v6298 k0_hw101 => k0_hw101.2.2.2.1 (k0_off580_inb v6298 k0_hw101)
theorem k0_off582_inb : ∀ (v6298 : BitVec 32) (k0_hw101 : k0_chk101 v6298), ∀ a, (k0_off582 v6298) a + S1x64x1024.size a ≤ S32x128x4096.size a := fun v6298 k0_hw101 => k0_hw101.2.2.2.2.1
theorem k0_off582_wordsfp8e5m2 : ∀ (v6298 : BitVec 32) (k0_hw101 : k0_chk101 v6298), (Rect.unit (s := S32x128x4096) (k0_off582 v6298) S1x64x1024.size (k0_off582_inb v6298 k0_hw101)).WholeWords (EltTy.packing .fp8e5m2) := fun v6298 k0_hw101 => k0_hw101.2.2.2.2.2.1 (k0_off582_inb v6298 k0_hw101)
theorem k0_off584_inb : ∀ (v6298 : BitVec 32) (k0_hw101 : k0_chk101 v6298), ∀ a, (k0_off584 v6298) a + S1x64x1024.size a ≤ S32x128x4096.size a := fun v6298 k0_hw101 => k0_hw101.2.2.2.2.2.2.1
theorem k0_off584_wordsfp8e5m2 : ∀ (v6298 : BitVec 32) (k0_hw101 : k0_chk101 v6298), (Rect.unit (s := S32x128x4096) (k0_off584 v6298) S1x64x1024.size (k0_off584_inb v6298 k0_hw101)).WholeWords (EltTy.packing .fp8e5m2) := fun v6298 k0_hw101 => k0_hw101.2.2.2.2.2.2.2 (k0_off584_inb v6298 k0_hw101)

def k0_off585 (v6300 : BitVec 32) : Fin 3 → Nat :=
  let c64_i32_6747 : BitVec 32 := 64#32
  let c3072_i32_6748 : BitVec 32 := 3072#32
  ![v6300.toNat, 64, 3072]

def k0_chk102 (v6300 : BitVec 32) : Prop :=
  (∀ a, (k0_off579 v6300) a + S1x64x1024.size a ≤ S32x128x4096.size a) ∧
  (∀ (hinb : ∀ a, (k0_off579 v6300) a + S1x64x1024.size a ≤ S32x128x4096.size a), (Rect.unit (s := S32x128x4096) (k0_off579 v6300) S1x64x1024.size hinb).WholeWords (EltTy.packing .fp8e5m2)) ∧
  (∀ a, (k0_off581 v6300) a + S1x64x1024.size a ≤ S32x128x4096.size a) ∧
  (∀ (hinb : ∀ a, (k0_off581 v6300) a + S1x64x1024.size a ≤ S32x128x4096.size a), (Rect.unit (s := S32x128x4096) (k0_off581 v6300) S1x64x1024.size hinb).WholeWords (EltTy.packing .fp8e5m2)) ∧
  (∀ a, (k0_off583 v6300) a + S1x64x1024.size a ≤ S32x128x4096.size a) ∧
  (∀ (hinb : ∀ a, (k0_off583 v6300) a + S1x64x1024.size a ≤ S32x128x4096.size a), (Rect.unit (s := S32x128x4096) (k0_off583 v6300) S1x64x1024.size hinb).WholeWords (EltTy.packing .fp8e5m2)) ∧
  (∀ a, (k0_off585 v6300) a + S1x64x1024.size a ≤ S32x128x4096.size a) ∧
  (∀ (hinb : ∀ a, (k0_off585 v6300) a + S1x64x1024.size a ≤ S32x128x4096.size a), (Rect.unit (s := S32x128x4096) (k0_off585 v6300) S1x64x1024.size hinb).WholeWords (EltTy.packing .fp8e5m2))
theorem k0_off579_inb : ∀ (v6300 : BitVec 32) (k0_hw102 : k0_chk102 v6300), ∀ a, (k0_off579 v6300) a + S1x64x1024.size a ≤ S32x128x4096.size a := fun v6300 k0_hw102 => k0_hw102.1
theorem k0_off579_wordsfp8e5m2 : ∀ (v6300 : BitVec 32) (k0_hw102 : k0_chk102 v6300), (Rect.unit (s := S32x128x4096) (k0_off579 v6300) S1x64x1024.size (k0_off579_inb v6300 k0_hw102)).WholeWords (EltTy.packing .fp8e5m2) := fun v6300 k0_hw102 => k0_hw102.2.1 (k0_off579_inb v6300 k0_hw102)
theorem k0_off581_inb : ∀ (v6300 : BitVec 32) (k0_hw102 : k0_chk102 v6300), ∀ a, (k0_off581 v6300) a + S1x64x1024.size a ≤ S32x128x4096.size a := fun v6300 k0_hw102 => k0_hw102.2.2.1
theorem k0_off581_wordsfp8e5m2 : ∀ (v6300 : BitVec 32) (k0_hw102 : k0_chk102 v6300), (Rect.unit (s := S32x128x4096) (k0_off581 v6300) S1x64x1024.size (k0_off581_inb v6300 k0_hw102)).WholeWords (EltTy.packing .fp8e5m2) := fun v6300 k0_hw102 => k0_hw102.2.2.2.1 (k0_off581_inb v6300 k0_hw102)
theorem k0_off583_inb : ∀ (v6300 : BitVec 32) (k0_hw102 : k0_chk102 v6300), ∀ a, (k0_off583 v6300) a + S1x64x1024.size a ≤ S32x128x4096.size a := fun v6300 k0_hw102 => k0_hw102.2.2.2.2.1
theorem k0_off583_wordsfp8e5m2 : ∀ (v6300 : BitVec 32) (k0_hw102 : k0_chk102 v6300), (Rect.unit (s := S32x128x4096) (k0_off583 v6300) S1x64x1024.size (k0_off583_inb v6300 k0_hw102)).WholeWords (EltTy.packing .fp8e5m2) := fun v6300 k0_hw102 => k0_hw102.2.2.2.2.2.1 (k0_off583_inb v6300 k0_hw102)
theorem k0_off585_inb : ∀ (v6300 : BitVec 32) (k0_hw102 : k0_chk102 v6300), ∀ a, (k0_off585 v6300) a + S1x64x1024.size a ≤ S32x128x4096.size a := fun v6300 k0_hw102 => k0_hw102.2.2.2.2.2.2.1
theorem k0_off585_wordsfp8e5m2 : ∀ (v6300 : BitVec 32) (k0_hw102 : k0_chk102 v6300), (Rect.unit (s := S32x128x4096) (k0_off585 v6300) S1x64x1024.size (k0_off585_inb v6300 k0_hw102)).WholeWords (EltTy.packing .fp8e5m2) := fun v6300 k0_hw102 => k0_hw102.2.2.2.2.2.2.2 (k0_off585_inb v6300 k0_hw102)

def k0_off586 (d0 : Dev nD) : Fin 2 → Nat :=
  let c19_6751 : Index := 19#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v6349 : Index := Scalar.indexCast v2
  ![19, v6349.toNat]
def k0_off587 (v6350 : BitVec 32) : Fin 3 → Nat :=
  let c0_i32_6758 : BitVec 32 := 0#32
  let c0_i32_6759 : BitVec 32 := 0#32
  ![v6350.toNat, 0, 0]

def k0_off588 (v6352 : BitVec 32) : Fin 3 → Nat :=
  let c64_i32_6767 : BitVec 32 := 64#32
  let c0_i32_6768 : BitVec 32 := 0#32
  ![v6352.toNat, 64, 0]

def k0_off589 (v6350 : BitVec 32) : Fin 3 → Nat :=
  let c0_i32_6776 : BitVec 32 := 0#32
  let c1024_i32_6777 : BitVec 32 := 1024#32
  ![v6350.toNat, 0, 1024]
def k0_off590 (v6352 : BitVec 32) : Fin 3 → Nat :=
  let c64_i32_6785 : BitVec 32 := 64#32
  let c1024_i32_6786 : BitVec 32 := 1024#32
  ![v6352.toNat, 64, 1024]
def k0_off591 (v6350 : BitVec 32) : Fin 3 → Nat :=
  let c0_i32_6794 : BitVec 32 := 0#32
  let c2048_i32_6795 : BitVec 32 := 2048#32
  ![v6350.toNat, 0, 2048]
def k0_off592 (v6352 : BitVec 32) : Fin 3 → Nat :=
  let c64_i32_6803 : BitVec 32 := 64#32
  let c2048_i32_6804 : BitVec 32 := 2048#32
  ![v6352.toNat, 64, 2048]
def k0_off593 (v6350 : BitVec 32) : Fin 3 → Nat :=
  let c0_i32_6812 : BitVec 32 := 0#32
  let c3072_i32_6813 : BitVec 32 := 3072#32
  ![v6350.toNat, 0, 3072]

def k0_chk103 (v6350 : BitVec 32) : Prop :=
  (∀ a, (k0_off587 v6350) a + S1x64x1024.size a ≤ S32x128x4096.size a) ∧
  (∀ (hinb : ∀ a, (k0_off587 v6350) a + S1x64x1024.size a ≤ S32x128x4096.size a), (Rect.unit (s := S32x128x4096) (k0_off587 v6350) S1x64x1024.size hinb).WholeWords (EltTy.packing .fp8e5m2)) ∧
  (∀ a, (k0_off589 v6350) a + S1x64x1024.size a ≤ S32x128x4096.size a) ∧
  (∀ (hinb : ∀ a, (k0_off589 v6350) a + S1x64x1024.size a ≤ S32x128x4096.size a), (Rect.unit (s := S32x128x4096) (k0_off589 v6350) S1x64x1024.size hinb).WholeWords (EltTy.packing .fp8e5m2)) ∧
  (∀ a, (k0_off591 v6350) a + S1x64x1024.size a ≤ S32x128x4096.size a) ∧
  (∀ (hinb : ∀ a, (k0_off591 v6350) a + S1x64x1024.size a ≤ S32x128x4096.size a), (Rect.unit (s := S32x128x4096) (k0_off591 v6350) S1x64x1024.size hinb).WholeWords (EltTy.packing .fp8e5m2)) ∧
  (∀ a, (k0_off593 v6350) a + S1x64x1024.size a ≤ S32x128x4096.size a) ∧
  (∀ (hinb : ∀ a, (k0_off593 v6350) a + S1x64x1024.size a ≤ S32x128x4096.size a), (Rect.unit (s := S32x128x4096) (k0_off593 v6350) S1x64x1024.size hinb).WholeWords (EltTy.packing .fp8e5m2))
theorem k0_off587_inb : ∀ (v6350 : BitVec 32) (k0_hw103 : k0_chk103 v6350), ∀ a, (k0_off587 v6350) a + S1x64x1024.size a ≤ S32x128x4096.size a := fun v6350 k0_hw103 => k0_hw103.1
theorem k0_off587_wordsfp8e5m2 : ∀ (v6350 : BitVec 32) (k0_hw103 : k0_chk103 v6350), (Rect.unit (s := S32x128x4096) (k0_off587 v6350) S1x64x1024.size (k0_off587_inb v6350 k0_hw103)).WholeWords (EltTy.packing .fp8e5m2) := fun v6350 k0_hw103 => k0_hw103.2.1 (k0_off587_inb v6350 k0_hw103)
theorem k0_off589_inb : ∀ (v6350 : BitVec 32) (k0_hw103 : k0_chk103 v6350), ∀ a, (k0_off589 v6350) a + S1x64x1024.size a ≤ S32x128x4096.size a := fun v6350 k0_hw103 => k0_hw103.2.2.1
theorem k0_off589_wordsfp8e5m2 : ∀ (v6350 : BitVec 32) (k0_hw103 : k0_chk103 v6350), (Rect.unit (s := S32x128x4096) (k0_off589 v6350) S1x64x1024.size (k0_off589_inb v6350 k0_hw103)).WholeWords (EltTy.packing .fp8e5m2) := fun v6350 k0_hw103 => k0_hw103.2.2.2.1 (k0_off589_inb v6350 k0_hw103)
theorem k0_off591_inb : ∀ (v6350 : BitVec 32) (k0_hw103 : k0_chk103 v6350), ∀ a, (k0_off591 v6350) a + S1x64x1024.size a ≤ S32x128x4096.size a := fun v6350 k0_hw103 => k0_hw103.2.2.2.2.1
theorem k0_off591_wordsfp8e5m2 : ∀ (v6350 : BitVec 32) (k0_hw103 : k0_chk103 v6350), (Rect.unit (s := S32x128x4096) (k0_off591 v6350) S1x64x1024.size (k0_off591_inb v6350 k0_hw103)).WholeWords (EltTy.packing .fp8e5m2) := fun v6350 k0_hw103 => k0_hw103.2.2.2.2.2.1 (k0_off591_inb v6350 k0_hw103)
theorem k0_off593_inb : ∀ (v6350 : BitVec 32) (k0_hw103 : k0_chk103 v6350), ∀ a, (k0_off593 v6350) a + S1x64x1024.size a ≤ S32x128x4096.size a := fun v6350 k0_hw103 => k0_hw103.2.2.2.2.2.2.1
theorem k0_off593_wordsfp8e5m2 : ∀ (v6350 : BitVec 32) (k0_hw103 : k0_chk103 v6350), (Rect.unit (s := S32x128x4096) (k0_off593 v6350) S1x64x1024.size (k0_off593_inb v6350 k0_hw103)).WholeWords (EltTy.packing .fp8e5m2) := fun v6350 k0_hw103 => k0_hw103.2.2.2.2.2.2.2 (k0_off593_inb v6350 k0_hw103)

def k0_off594 (v6352 : BitVec 32) : Fin 3 → Nat :=
  let c64_i32_6821 : BitVec 32 := 64#32
  let c3072_i32_6822 : BitVec 32 := 3072#32
  ![v6352.toNat, 64, 3072]

def k0_chk104 (v6352 : BitVec 32) : Prop :=
  (∀ a, (k0_off588 v6352) a + S1x64x1024.size a ≤ S32x128x4096.size a) ∧
  (∀ (hinb : ∀ a, (k0_off588 v6352) a + S1x64x1024.size a ≤ S32x128x4096.size a), (Rect.unit (s := S32x128x4096) (k0_off588 v6352) S1x64x1024.size hinb).WholeWords (EltTy.packing .fp8e5m2)) ∧
  (∀ a, (k0_off590 v6352) a + S1x64x1024.size a ≤ S32x128x4096.size a) ∧
  (∀ (hinb : ∀ a, (k0_off590 v6352) a + S1x64x1024.size a ≤ S32x128x4096.size a), (Rect.unit (s := S32x128x4096) (k0_off590 v6352) S1x64x1024.size hinb).WholeWords (EltTy.packing .fp8e5m2)) ∧
  (∀ a, (k0_off592 v6352) a + S1x64x1024.size a ≤ S32x128x4096.size a) ∧
  (∀ (hinb : ∀ a, (k0_off592 v6352) a + S1x64x1024.size a ≤ S32x128x4096.size a), (Rect.unit (s := S32x128x4096) (k0_off592 v6352) S1x64x1024.size hinb).WholeWords (EltTy.packing .fp8e5m2)) ∧
  (∀ a, (k0_off594 v6352) a + S1x64x1024.size a ≤ S32x128x4096.size a) ∧
  (∀ (hinb : ∀ a, (k0_off594 v6352) a + S1x64x1024.size a ≤ S32x128x4096.size a), (Rect.unit (s := S32x128x4096) (k0_off594 v6352) S1x64x1024.size hinb).WholeWords (EltTy.packing .fp8e5m2))
theorem k0_off588_inb : ∀ (v6352 : BitVec 32) (k0_hw104 : k0_chk104 v6352), ∀ a, (k0_off588 v6352) a + S1x64x1024.size a ≤ S32x128x4096.size a := fun v6352 k0_hw104 => k0_hw104.1
theorem k0_off588_wordsfp8e5m2 : ∀ (v6352 : BitVec 32) (k0_hw104 : k0_chk104 v6352), (Rect.unit (s := S32x128x4096) (k0_off588 v6352) S1x64x1024.size (k0_off588_inb v6352 k0_hw104)).WholeWords (EltTy.packing .fp8e5m2) := fun v6352 k0_hw104 => k0_hw104.2.1 (k0_off588_inb v6352 k0_hw104)
theorem k0_off590_inb : ∀ (v6352 : BitVec 32) (k0_hw104 : k0_chk104 v6352), ∀ a, (k0_off590 v6352) a + S1x64x1024.size a ≤ S32x128x4096.size a := fun v6352 k0_hw104 => k0_hw104.2.2.1
theorem k0_off590_wordsfp8e5m2 : ∀ (v6352 : BitVec 32) (k0_hw104 : k0_chk104 v6352), (Rect.unit (s := S32x128x4096) (k0_off590 v6352) S1x64x1024.size (k0_off590_inb v6352 k0_hw104)).WholeWords (EltTy.packing .fp8e5m2) := fun v6352 k0_hw104 => k0_hw104.2.2.2.1 (k0_off590_inb v6352 k0_hw104)
theorem k0_off592_inb : ∀ (v6352 : BitVec 32) (k0_hw104 : k0_chk104 v6352), ∀ a, (k0_off592 v6352) a + S1x64x1024.size a ≤ S32x128x4096.size a := fun v6352 k0_hw104 => k0_hw104.2.2.2.2.1
theorem k0_off592_wordsfp8e5m2 : ∀ (v6352 : BitVec 32) (k0_hw104 : k0_chk104 v6352), (Rect.unit (s := S32x128x4096) (k0_off592 v6352) S1x64x1024.size (k0_off592_inb v6352 k0_hw104)).WholeWords (EltTy.packing .fp8e5m2) := fun v6352 k0_hw104 => k0_hw104.2.2.2.2.2.1 (k0_off592_inb v6352 k0_hw104)
theorem k0_off594_inb : ∀ (v6352 : BitVec 32) (k0_hw104 : k0_chk104 v6352), ∀ a, (k0_off594 v6352) a + S1x64x1024.size a ≤ S32x128x4096.size a := fun v6352 k0_hw104 => k0_hw104.2.2.2.2.2.2.1
theorem k0_off594_wordsfp8e5m2 : ∀ (v6352 : BitVec 32) (k0_hw104 : k0_chk104 v6352), (Rect.unit (s := S32x128x4096) (k0_off594 v6352) S1x64x1024.size (k0_off594_inb v6352 k0_hw104)).WholeWords (EltTy.packing .fp8e5m2) := fun v6352 k0_hw104 => k0_hw104.2.2.2.2.2.2.2 (k0_off594_inb v6352 k0_hw104)

def k0_off595 (d0 : Dev nD) : Fin 2 → Nat :=
  let c20_6825 : Index := 20#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v6401 : Index := Scalar.indexCast v2
  ![20, v6401.toNat]
def k0_off596 (v6402 : BitVec 32) : Fin 3 → Nat :=
  let c0_i32_6832 : BitVec 32 := 0#32
  let c0_i32_6833 : BitVec 32 := 0#32
  ![v6402.toNat, 0, 0]

def k0_off597 (v6404 : BitVec 32) : Fin 3 → Nat :=
  let c64_i32_6841 : BitVec 32 := 64#32
  let c0_i32_6842 : BitVec 32 := 0#32
  ![v6404.toNat, 64, 0]

def k0_off598 (v6402 : BitVec 32) : Fin 3 → Nat :=
  let c0_i32_6850 : BitVec 32 := 0#32
  let c1024_i32_6851 : BitVec 32 := 1024#32
  ![v6402.toNat, 0, 1024]
def k0_off599 (v6404 : BitVec 32) : Fin 3 → Nat :=
  let c64_i32_6859 : BitVec 32 := 64#32
  let c1024_i32_6860 : BitVec 32 := 1024#32
  ![v6404.toNat, 64, 1024]
def k0_off600 (v6402 : BitVec 32) : Fin 3 → Nat :=
  let c0_i32_6868 : BitVec 32 := 0#32
  let c2048_i32_6869 : BitVec 32 := 2048#32
  ![v6402.toNat, 0, 2048]
def k0_off601 (v6404 : BitVec 32) : Fin 3 → Nat :=
  let c64_i32_6877 : BitVec 32 := 64#32
  let c2048_i32_6878 : BitVec 32 := 2048#32
  ![v6404.toNat, 64, 2048]
def k0_off602 (v6402 : BitVec 32) : Fin 3 → Nat :=
  let c0_i32_6886 : BitVec 32 := 0#32
  let c3072_i32_6887 : BitVec 32 := 3072#32
  ![v6402.toNat, 0, 3072]

def k0_chk105 (v6402 : BitVec 32) : Prop :=
  (∀ a, (k0_off596 v6402) a + S1x64x1024.size a ≤ S32x128x4096.size a) ∧
  (∀ (hinb : ∀ a, (k0_off596 v6402) a + S1x64x1024.size a ≤ S32x128x4096.size a), (Rect.unit (s := S32x128x4096) (k0_off596 v6402) S1x64x1024.size hinb).WholeWords (EltTy.packing .fp8e5m2)) ∧
  (∀ a, (k0_off598 v6402) a + S1x64x1024.size a ≤ S32x128x4096.size a) ∧
  (∀ (hinb : ∀ a, (k0_off598 v6402) a + S1x64x1024.size a ≤ S32x128x4096.size a), (Rect.unit (s := S32x128x4096) (k0_off598 v6402) S1x64x1024.size hinb).WholeWords (EltTy.packing .fp8e5m2)) ∧
  (∀ a, (k0_off600 v6402) a + S1x64x1024.size a ≤ S32x128x4096.size a) ∧
  (∀ (hinb : ∀ a, (k0_off600 v6402) a + S1x64x1024.size a ≤ S32x128x4096.size a), (Rect.unit (s := S32x128x4096) (k0_off600 v6402) S1x64x1024.size hinb).WholeWords (EltTy.packing .fp8e5m2)) ∧
  (∀ a, (k0_off602 v6402) a + S1x64x1024.size a ≤ S32x128x4096.size a) ∧
  (∀ (hinb : ∀ a, (k0_off602 v6402) a + S1x64x1024.size a ≤ S32x128x4096.size a), (Rect.unit (s := S32x128x4096) (k0_off602 v6402) S1x64x1024.size hinb).WholeWords (EltTy.packing .fp8e5m2))
theorem k0_off596_inb : ∀ (v6402 : BitVec 32) (k0_hw105 : k0_chk105 v6402), ∀ a, (k0_off596 v6402) a + S1x64x1024.size a ≤ S32x128x4096.size a := fun v6402 k0_hw105 => k0_hw105.1
theorem k0_off596_wordsfp8e5m2 : ∀ (v6402 : BitVec 32) (k0_hw105 : k0_chk105 v6402), (Rect.unit (s := S32x128x4096) (k0_off596 v6402) S1x64x1024.size (k0_off596_inb v6402 k0_hw105)).WholeWords (EltTy.packing .fp8e5m2) := fun v6402 k0_hw105 => k0_hw105.2.1 (k0_off596_inb v6402 k0_hw105)
theorem k0_off598_inb : ∀ (v6402 : BitVec 32) (k0_hw105 : k0_chk105 v6402), ∀ a, (k0_off598 v6402) a + S1x64x1024.size a ≤ S32x128x4096.size a := fun v6402 k0_hw105 => k0_hw105.2.2.1
theorem k0_off598_wordsfp8e5m2 : ∀ (v6402 : BitVec 32) (k0_hw105 : k0_chk105 v6402), (Rect.unit (s := S32x128x4096) (k0_off598 v6402) S1x64x1024.size (k0_off598_inb v6402 k0_hw105)).WholeWords (EltTy.packing .fp8e5m2) := fun v6402 k0_hw105 => k0_hw105.2.2.2.1 (k0_off598_inb v6402 k0_hw105)
theorem k0_off600_inb : ∀ (v6402 : BitVec 32) (k0_hw105 : k0_chk105 v6402), ∀ a, (k0_off600 v6402) a + S1x64x1024.size a ≤ S32x128x4096.size a := fun v6402 k0_hw105 => k0_hw105.2.2.2.2.1
theorem k0_off600_wordsfp8e5m2 : ∀ (v6402 : BitVec 32) (k0_hw105 : k0_chk105 v6402), (Rect.unit (s := S32x128x4096) (k0_off600 v6402) S1x64x1024.size (k0_off600_inb v6402 k0_hw105)).WholeWords (EltTy.packing .fp8e5m2) := fun v6402 k0_hw105 => k0_hw105.2.2.2.2.2.1 (k0_off600_inb v6402 k0_hw105)
theorem k0_off602_inb : ∀ (v6402 : BitVec 32) (k0_hw105 : k0_chk105 v6402), ∀ a, (k0_off602 v6402) a + S1x64x1024.size a ≤ S32x128x4096.size a := fun v6402 k0_hw105 => k0_hw105.2.2.2.2.2.2.1
theorem k0_off602_wordsfp8e5m2 : ∀ (v6402 : BitVec 32) (k0_hw105 : k0_chk105 v6402), (Rect.unit (s := S32x128x4096) (k0_off602 v6402) S1x64x1024.size (k0_off602_inb v6402 k0_hw105)).WholeWords (EltTy.packing .fp8e5m2) := fun v6402 k0_hw105 => k0_hw105.2.2.2.2.2.2.2 (k0_off602_inb v6402 k0_hw105)

def k0_off603 (v6404 : BitVec 32) : Fin 3 → Nat :=
  let c64_i32_6895 : BitVec 32 := 64#32
  let c3072_i32_6896 : BitVec 32 := 3072#32
  ![v6404.toNat, 64, 3072]

def k0_chk106 (v6404 : BitVec 32) : Prop :=
  (∀ a, (k0_off597 v6404) a + S1x64x1024.size a ≤ S32x128x4096.size a) ∧
  (∀ (hinb : ∀ a, (k0_off597 v6404) a + S1x64x1024.size a ≤ S32x128x4096.size a), (Rect.unit (s := S32x128x4096) (k0_off597 v6404) S1x64x1024.size hinb).WholeWords (EltTy.packing .fp8e5m2)) ∧
  (∀ a, (k0_off599 v6404) a + S1x64x1024.size a ≤ S32x128x4096.size a) ∧
  (∀ (hinb : ∀ a, (k0_off599 v6404) a + S1x64x1024.size a ≤ S32x128x4096.size a), (Rect.unit (s := S32x128x4096) (k0_off599 v6404) S1x64x1024.size hinb).WholeWords (EltTy.packing .fp8e5m2)) ∧
  (∀ a, (k0_off601 v6404) a + S1x64x1024.size a ≤ S32x128x4096.size a) ∧
  (∀ (hinb : ∀ a, (k0_off601 v6404) a + S1x64x1024.size a ≤ S32x128x4096.size a), (Rect.unit (s := S32x128x4096) (k0_off601 v6404) S1x64x1024.size hinb).WholeWords (EltTy.packing .fp8e5m2)) ∧
  (∀ a, (k0_off603 v6404) a + S1x64x1024.size a ≤ S32x128x4096.size a) ∧
  (∀ (hinb : ∀ a, (k0_off603 v6404) a + S1x64x1024.size a ≤ S32x128x4096.size a), (Rect.unit (s := S32x128x4096) (k0_off603 v6404) S1x64x1024.size hinb).WholeWords (EltTy.packing .fp8e5m2))
theorem k0_off597_inb : ∀ (v6404 : BitVec 32) (k0_hw106 : k0_chk106 v6404), ∀ a, (k0_off597 v6404) a + S1x64x1024.size a ≤ S32x128x4096.size a := fun v6404 k0_hw106 => k0_hw106.1
theorem k0_off597_wordsfp8e5m2 : ∀ (v6404 : BitVec 32) (k0_hw106 : k0_chk106 v6404), (Rect.unit (s := S32x128x4096) (k0_off597 v6404) S1x64x1024.size (k0_off597_inb v6404 k0_hw106)).WholeWords (EltTy.packing .fp8e5m2) := fun v6404 k0_hw106 => k0_hw106.2.1 (k0_off597_inb v6404 k0_hw106)
theorem k0_off599_inb : ∀ (v6404 : BitVec 32) (k0_hw106 : k0_chk106 v6404), ∀ a, (k0_off599 v6404) a + S1x64x1024.size a ≤ S32x128x4096.size a := fun v6404 k0_hw106 => k0_hw106.2.2.1
theorem k0_off599_wordsfp8e5m2 : ∀ (v6404 : BitVec 32) (k0_hw106 : k0_chk106 v6404), (Rect.unit (s := S32x128x4096) (k0_off599 v6404) S1x64x1024.size (k0_off599_inb v6404 k0_hw106)).WholeWords (EltTy.packing .fp8e5m2) := fun v6404 k0_hw106 => k0_hw106.2.2.2.1 (k0_off599_inb v6404 k0_hw106)
theorem k0_off601_inb : ∀ (v6404 : BitVec 32) (k0_hw106 : k0_chk106 v6404), ∀ a, (k0_off601 v6404) a + S1x64x1024.size a ≤ S32x128x4096.size a := fun v6404 k0_hw106 => k0_hw106.2.2.2.2.1
theorem k0_off601_wordsfp8e5m2 : ∀ (v6404 : BitVec 32) (k0_hw106 : k0_chk106 v6404), (Rect.unit (s := S32x128x4096) (k0_off601 v6404) S1x64x1024.size (k0_off601_inb v6404 k0_hw106)).WholeWords (EltTy.packing .fp8e5m2) := fun v6404 k0_hw106 => k0_hw106.2.2.2.2.2.1 (k0_off601_inb v6404 k0_hw106)
theorem k0_off603_inb : ∀ (v6404 : BitVec 32) (k0_hw106 : k0_chk106 v6404), ∀ a, (k0_off603 v6404) a + S1x64x1024.size a ≤ S32x128x4096.size a := fun v6404 k0_hw106 => k0_hw106.2.2.2.2.2.2.1
theorem k0_off603_wordsfp8e5m2 : ∀ (v6404 : BitVec 32) (k0_hw106 : k0_chk106 v6404), (Rect.unit (s := S32x128x4096) (k0_off603 v6404) S1x64x1024.size (k0_off603_inb v6404 k0_hw106)).WholeWords (EltTy.packing .fp8e5m2) := fun v6404 k0_hw106 => k0_hw106.2.2.2.2.2.2.2 (k0_off603_inb v6404 k0_hw106)

def k0_off604 (d0 : Dev nD) : Fin 2 → Nat :=
  let c21_6899 : Index := 21#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v6453 : Index := Scalar.indexCast v2
  ![21, v6453.toNat]
def k0_off605 (v6454 : BitVec 32) : Fin 3 → Nat :=
  let c0_i32_6906 : BitVec 32 := 0#32
  let c0_i32_6907 : BitVec 32 := 0#32
  ![v6454.toNat, 0, 0]

def k0_off606 (v6456 : BitVec 32) : Fin 3 → Nat :=
  let c64_i32_6915 : BitVec 32 := 64#32
  let c0_i32_6916 : BitVec 32 := 0#32
  ![v6456.toNat, 64, 0]

def k0_off607 (v6454 : BitVec 32) : Fin 3 → Nat :=
  let c0_i32_6924 : BitVec 32 := 0#32
  let c1024_i32_6925 : BitVec 32 := 1024#32
  ![v6454.toNat, 0, 1024]
def k0_off608 (v6456 : BitVec 32) : Fin 3 → Nat :=
  let c64_i32_6933 : BitVec 32 := 64#32
  let c1024_i32_6934 : BitVec 32 := 1024#32
  ![v6456.toNat, 64, 1024]
def k0_off609 (v6454 : BitVec 32) : Fin 3 → Nat :=
  let c0_i32_6942 : BitVec 32 := 0#32
  let c2048_i32_6943 : BitVec 32 := 2048#32
  ![v6454.toNat, 0, 2048]
def k0_off610 (v6456 : BitVec 32) : Fin 3 → Nat :=
  let c64_i32_6951 : BitVec 32 := 64#32
  let c2048_i32_6952 : BitVec 32 := 2048#32
  ![v6456.toNat, 64, 2048]
def k0_off611 (v6454 : BitVec 32) : Fin 3 → Nat :=
  let c0_i32_6960 : BitVec 32 := 0#32
  let c3072_i32_6961 : BitVec 32 := 3072#32
  ![v6454.toNat, 0, 3072]

def k0_chk107 (v6454 : BitVec 32) : Prop :=
  (∀ a, (k0_off605 v6454) a + S1x64x1024.size a ≤ S32x128x4096.size a) ∧
  (∀ (hinb : ∀ a, (k0_off605 v6454) a + S1x64x1024.size a ≤ S32x128x4096.size a), (Rect.unit (s := S32x128x4096) (k0_off605 v6454) S1x64x1024.size hinb).WholeWords (EltTy.packing .fp8e5m2)) ∧
  (∀ a, (k0_off607 v6454) a + S1x64x1024.size a ≤ S32x128x4096.size a) ∧
  (∀ (hinb : ∀ a, (k0_off607 v6454) a + S1x64x1024.size a ≤ S32x128x4096.size a), (Rect.unit (s := S32x128x4096) (k0_off607 v6454) S1x64x1024.size hinb).WholeWords (EltTy.packing .fp8e5m2)) ∧
  (∀ a, (k0_off609 v6454) a + S1x64x1024.size a ≤ S32x128x4096.size a) ∧
  (∀ (hinb : ∀ a, (k0_off609 v6454) a + S1x64x1024.size a ≤ S32x128x4096.size a), (Rect.unit (s := S32x128x4096) (k0_off609 v6454) S1x64x1024.size hinb).WholeWords (EltTy.packing .fp8e5m2)) ∧
  (∀ a, (k0_off611 v6454) a + S1x64x1024.size a ≤ S32x128x4096.size a) ∧
  (∀ (hinb : ∀ a, (k0_off611 v6454) a + S1x64x1024.size a ≤ S32x128x4096.size a), (Rect.unit (s := S32x128x4096) (k0_off611 v6454) S1x64x1024.size hinb).WholeWords (EltTy.packing .fp8e5m2))
theorem k0_off605_inb : ∀ (v6454 : BitVec 32) (k0_hw107 : k0_chk107 v6454), ∀ a, (k0_off605 v6454) a + S1x64x1024.size a ≤ S32x128x4096.size a := fun v6454 k0_hw107 => k0_hw107.1
theorem k0_off605_wordsfp8e5m2 : ∀ (v6454 : BitVec 32) (k0_hw107 : k0_chk107 v6454), (Rect.unit (s := S32x128x4096) (k0_off605 v6454) S1x64x1024.size (k0_off605_inb v6454 k0_hw107)).WholeWords (EltTy.packing .fp8e5m2) := fun v6454 k0_hw107 => k0_hw107.2.1 (k0_off605_inb v6454 k0_hw107)
theorem k0_off607_inb : ∀ (v6454 : BitVec 32) (k0_hw107 : k0_chk107 v6454), ∀ a, (k0_off607 v6454) a + S1x64x1024.size a ≤ S32x128x4096.size a := fun v6454 k0_hw107 => k0_hw107.2.2.1
theorem k0_off607_wordsfp8e5m2 : ∀ (v6454 : BitVec 32) (k0_hw107 : k0_chk107 v6454), (Rect.unit (s := S32x128x4096) (k0_off607 v6454) S1x64x1024.size (k0_off607_inb v6454 k0_hw107)).WholeWords (EltTy.packing .fp8e5m2) := fun v6454 k0_hw107 => k0_hw107.2.2.2.1 (k0_off607_inb v6454 k0_hw107)
theorem k0_off609_inb : ∀ (v6454 : BitVec 32) (k0_hw107 : k0_chk107 v6454), ∀ a, (k0_off609 v6454) a + S1x64x1024.size a ≤ S32x128x4096.size a := fun v6454 k0_hw107 => k0_hw107.2.2.2.2.1
theorem k0_off609_wordsfp8e5m2 : ∀ (v6454 : BitVec 32) (k0_hw107 : k0_chk107 v6454), (Rect.unit (s := S32x128x4096) (k0_off609 v6454) S1x64x1024.size (k0_off609_inb v6454 k0_hw107)).WholeWords (EltTy.packing .fp8e5m2) := fun v6454 k0_hw107 => k0_hw107.2.2.2.2.2.1 (k0_off609_inb v6454 k0_hw107)
theorem k0_off611_inb : ∀ (v6454 : BitVec 32) (k0_hw107 : k0_chk107 v6454), ∀ a, (k0_off611 v6454) a + S1x64x1024.size a ≤ S32x128x4096.size a := fun v6454 k0_hw107 => k0_hw107.2.2.2.2.2.2.1
theorem k0_off611_wordsfp8e5m2 : ∀ (v6454 : BitVec 32) (k0_hw107 : k0_chk107 v6454), (Rect.unit (s := S32x128x4096) (k0_off611 v6454) S1x64x1024.size (k0_off611_inb v6454 k0_hw107)).WholeWords (EltTy.packing .fp8e5m2) := fun v6454 k0_hw107 => k0_hw107.2.2.2.2.2.2.2 (k0_off611_inb v6454 k0_hw107)

def k0_off612 (v6456 : BitVec 32) : Fin 3 → Nat :=
  let c64_i32_6969 : BitVec 32 := 64#32
  let c3072_i32_6970 : BitVec 32 := 3072#32
  ![v6456.toNat, 64, 3072]

def k0_chk108 (v6456 : BitVec 32) : Prop :=
  (∀ a, (k0_off606 v6456) a + S1x64x1024.size a ≤ S32x128x4096.size a) ∧
  (∀ (hinb : ∀ a, (k0_off606 v6456) a + S1x64x1024.size a ≤ S32x128x4096.size a), (Rect.unit (s := S32x128x4096) (k0_off606 v6456) S1x64x1024.size hinb).WholeWords (EltTy.packing .fp8e5m2)) ∧
  (∀ a, (k0_off608 v6456) a + S1x64x1024.size a ≤ S32x128x4096.size a) ∧
  (∀ (hinb : ∀ a, (k0_off608 v6456) a + S1x64x1024.size a ≤ S32x128x4096.size a), (Rect.unit (s := S32x128x4096) (k0_off608 v6456) S1x64x1024.size hinb).WholeWords (EltTy.packing .fp8e5m2)) ∧
  (∀ a, (k0_off610 v6456) a + S1x64x1024.size a ≤ S32x128x4096.size a) ∧
  (∀ (hinb : ∀ a, (k0_off610 v6456) a + S1x64x1024.size a ≤ S32x128x4096.size a), (Rect.unit (s := S32x128x4096) (k0_off610 v6456) S1x64x1024.size hinb).WholeWords (EltTy.packing .fp8e5m2)) ∧
  (∀ a, (k0_off612 v6456) a + S1x64x1024.size a ≤ S32x128x4096.size a) ∧
  (∀ (hinb : ∀ a, (k0_off612 v6456) a + S1x64x1024.size a ≤ S32x128x4096.size a), (Rect.unit (s := S32x128x4096) (k0_off612 v6456) S1x64x1024.size hinb).WholeWords (EltTy.packing .fp8e5m2))
theorem k0_off606_inb : ∀ (v6456 : BitVec 32) (k0_hw108 : k0_chk108 v6456), ∀ a, (k0_off606 v6456) a + S1x64x1024.size a ≤ S32x128x4096.size a := fun v6456 k0_hw108 => k0_hw108.1
theorem k0_off606_wordsfp8e5m2 : ∀ (v6456 : BitVec 32) (k0_hw108 : k0_chk108 v6456), (Rect.unit (s := S32x128x4096) (k0_off606 v6456) S1x64x1024.size (k0_off606_inb v6456 k0_hw108)).WholeWords (EltTy.packing .fp8e5m2) := fun v6456 k0_hw108 => k0_hw108.2.1 (k0_off606_inb v6456 k0_hw108)
theorem k0_off608_inb : ∀ (v6456 : BitVec 32) (k0_hw108 : k0_chk108 v6456), ∀ a, (k0_off608 v6456) a + S1x64x1024.size a ≤ S32x128x4096.size a := fun v6456 k0_hw108 => k0_hw108.2.2.1
theorem k0_off608_wordsfp8e5m2 : ∀ (v6456 : BitVec 32) (k0_hw108 : k0_chk108 v6456), (Rect.unit (s := S32x128x4096) (k0_off608 v6456) S1x64x1024.size (k0_off608_inb v6456 k0_hw108)).WholeWords (EltTy.packing .fp8e5m2) := fun v6456 k0_hw108 => k0_hw108.2.2.2.1 (k0_off608_inb v6456 k0_hw108)
theorem k0_off610_inb : ∀ (v6456 : BitVec 32) (k0_hw108 : k0_chk108 v6456), ∀ a, (k0_off610 v6456) a + S1x64x1024.size a ≤ S32x128x4096.size a := fun v6456 k0_hw108 => k0_hw108.2.2.2.2.1
theorem k0_off610_wordsfp8e5m2 : ∀ (v6456 : BitVec 32) (k0_hw108 : k0_chk108 v6456), (Rect.unit (s := S32x128x4096) (k0_off610 v6456) S1x64x1024.size (k0_off610_inb v6456 k0_hw108)).WholeWords (EltTy.packing .fp8e5m2) := fun v6456 k0_hw108 => k0_hw108.2.2.2.2.2.1 (k0_off610_inb v6456 k0_hw108)
theorem k0_off612_inb : ∀ (v6456 : BitVec 32) (k0_hw108 : k0_chk108 v6456), ∀ a, (k0_off612 v6456) a + S1x64x1024.size a ≤ S32x128x4096.size a := fun v6456 k0_hw108 => k0_hw108.2.2.2.2.2.2.1
theorem k0_off612_wordsfp8e5m2 : ∀ (v6456 : BitVec 32) (k0_hw108 : k0_chk108 v6456), (Rect.unit (s := S32x128x4096) (k0_off612 v6456) S1x64x1024.size (k0_off612_inb v6456 k0_hw108)).WholeWords (EltTy.packing .fp8e5m2) := fun v6456 k0_hw108 => k0_hw108.2.2.2.2.2.2.2 (k0_off612_inb v6456 k0_hw108)

def k0_off613 (d0 : Dev nD) : Fin 2 → Nat :=
  let c22_6973 : Index := 22#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v6505 : Index := Scalar.indexCast v2
  ![22, v6505.toNat]
def k0_off614 (v6506 : BitVec 32) : Fin 3 → Nat :=
  let c0_i32_6980 : BitVec 32 := 0#32
  let c0_i32_6981 : BitVec 32 := 0#32
  ![v6506.toNat, 0, 0]

def k0_off615 (v6508 : BitVec 32) : Fin 3 → Nat :=
  let c64_i32_6989 : BitVec 32 := 64#32
  let c0_i32_6990 : BitVec 32 := 0#32
  ![v6508.toNat, 64, 0]

def k0_off616 (v6506 : BitVec 32) : Fin 3 → Nat :=
  let c0_i32_6998 : BitVec 32 := 0#32
  let c1024_i32_6999 : BitVec 32 := 1024#32
  ![v6506.toNat, 0, 1024]
def k0_off617 (v6508 : BitVec 32) : Fin 3 → Nat :=
  let c64_i32_7007 : BitVec 32 := 64#32
  let c1024_i32_7008 : BitVec 32 := 1024#32
  ![v6508.toNat, 64, 1024]
def k0_off618 (v6506 : BitVec 32) : Fin 3 → Nat :=
  let c0_i32_7016 : BitVec 32 := 0#32
  let c2048_i32_7017 : BitVec 32 := 2048#32
  ![v6506.toNat, 0, 2048]
def k0_off619 (v6508 : BitVec 32) : Fin 3 → Nat :=
  let c64_i32_7025 : BitVec 32 := 64#32
  let c2048_i32_7026 : BitVec 32 := 2048#32
  ![v6508.toNat, 64, 2048]
def k0_off620 (v6506 : BitVec 32) : Fin 3 → Nat :=
  let c0_i32_7034 : BitVec 32 := 0#32
  let c3072_i32_7035 : BitVec 32 := 3072#32
  ![v6506.toNat, 0, 3072]

def k0_chk109 (v6506 : BitVec 32) : Prop :=
  (∀ a, (k0_off614 v6506) a + S1x64x1024.size a ≤ S32x128x4096.size a) ∧
  (∀ (hinb : ∀ a, (k0_off614 v6506) a + S1x64x1024.size a ≤ S32x128x4096.size a), (Rect.unit (s := S32x128x4096) (k0_off614 v6506) S1x64x1024.size hinb).WholeWords (EltTy.packing .fp8e5m2)) ∧
  (∀ a, (k0_off616 v6506) a + S1x64x1024.size a ≤ S32x128x4096.size a) ∧
  (∀ (hinb : ∀ a, (k0_off616 v6506) a + S1x64x1024.size a ≤ S32x128x4096.size a), (Rect.unit (s := S32x128x4096) (k0_off616 v6506) S1x64x1024.size hinb).WholeWords (EltTy.packing .fp8e5m2)) ∧
  (∀ a, (k0_off618 v6506) a + S1x64x1024.size a ≤ S32x128x4096.size a) ∧
  (∀ (hinb : ∀ a, (k0_off618 v6506) a + S1x64x1024.size a ≤ S32x128x4096.size a), (Rect.unit (s := S32x128x4096) (k0_off618 v6506) S1x64x1024.size hinb).WholeWords (EltTy.packing .fp8e5m2)) ∧
  (∀ a, (k0_off620 v6506) a + S1x64x1024.size a ≤ S32x128x4096.size a) ∧
  (∀ (hinb : ∀ a, (k0_off620 v6506) a + S1x64x1024.size a ≤ S32x128x4096.size a), (Rect.unit (s := S32x128x4096) (k0_off620 v6506) S1x64x1024.size hinb).WholeWords (EltTy.packing .fp8e5m2))
theorem k0_off614_inb : ∀ (v6506 : BitVec 32) (k0_hw109 : k0_chk109 v6506), ∀ a, (k0_off614 v6506) a + S1x64x1024.size a ≤ S32x128x4096.size a := fun v6506 k0_hw109 => k0_hw109.1
theorem k0_off614_wordsfp8e5m2 : ∀ (v6506 : BitVec 32) (k0_hw109 : k0_chk109 v6506), (Rect.unit (s := S32x128x4096) (k0_off614 v6506) S1x64x1024.size (k0_off614_inb v6506 k0_hw109)).WholeWords (EltTy.packing .fp8e5m2) := fun v6506 k0_hw109 => k0_hw109.2.1 (k0_off614_inb v6506 k0_hw109)
theorem k0_off616_inb : ∀ (v6506 : BitVec 32) (k0_hw109 : k0_chk109 v6506), ∀ a, (k0_off616 v6506) a + S1x64x1024.size a ≤ S32x128x4096.size a := fun v6506 k0_hw109 => k0_hw109.2.2.1
theorem k0_off616_wordsfp8e5m2 : ∀ (v6506 : BitVec 32) (k0_hw109 : k0_chk109 v6506), (Rect.unit (s := S32x128x4096) (k0_off616 v6506) S1x64x1024.size (k0_off616_inb v6506 k0_hw109)).WholeWords (EltTy.packing .fp8e5m2) := fun v6506 k0_hw109 => k0_hw109.2.2.2.1 (k0_off616_inb v6506 k0_hw109)
theorem k0_off618_inb : ∀ (v6506 : BitVec 32) (k0_hw109 : k0_chk109 v6506), ∀ a, (k0_off618 v6506) a + S1x64x1024.size a ≤ S32x128x4096.size a := fun v6506 k0_hw109 => k0_hw109.2.2.2.2.1
theorem k0_off618_wordsfp8e5m2 : ∀ (v6506 : BitVec 32) (k0_hw109 : k0_chk109 v6506), (Rect.unit (s := S32x128x4096) (k0_off618 v6506) S1x64x1024.size (k0_off618_inb v6506 k0_hw109)).WholeWords (EltTy.packing .fp8e5m2) := fun v6506 k0_hw109 => k0_hw109.2.2.2.2.2.1 (k0_off618_inb v6506 k0_hw109)
theorem k0_off620_inb : ∀ (v6506 : BitVec 32) (k0_hw109 : k0_chk109 v6506), ∀ a, (k0_off620 v6506) a + S1x64x1024.size a ≤ S32x128x4096.size a := fun v6506 k0_hw109 => k0_hw109.2.2.2.2.2.2.1
theorem k0_off620_wordsfp8e5m2 : ∀ (v6506 : BitVec 32) (k0_hw109 : k0_chk109 v6506), (Rect.unit (s := S32x128x4096) (k0_off620 v6506) S1x64x1024.size (k0_off620_inb v6506 k0_hw109)).WholeWords (EltTy.packing .fp8e5m2) := fun v6506 k0_hw109 => k0_hw109.2.2.2.2.2.2.2 (k0_off620_inb v6506 k0_hw109)

def k0_off621 (v6508 : BitVec 32) : Fin 3 → Nat :=
  let c64_i32_7043 : BitVec 32 := 64#32
  let c3072_i32_7044 : BitVec 32 := 3072#32
  ![v6508.toNat, 64, 3072]

def k0_chk110 (v6508 : BitVec 32) : Prop :=
  (∀ a, (k0_off615 v6508) a + S1x64x1024.size a ≤ S32x128x4096.size a) ∧
  (∀ (hinb : ∀ a, (k0_off615 v6508) a + S1x64x1024.size a ≤ S32x128x4096.size a), (Rect.unit (s := S32x128x4096) (k0_off615 v6508) S1x64x1024.size hinb).WholeWords (EltTy.packing .fp8e5m2)) ∧
  (∀ a, (k0_off617 v6508) a + S1x64x1024.size a ≤ S32x128x4096.size a) ∧
  (∀ (hinb : ∀ a, (k0_off617 v6508) a + S1x64x1024.size a ≤ S32x128x4096.size a), (Rect.unit (s := S32x128x4096) (k0_off617 v6508) S1x64x1024.size hinb).WholeWords (EltTy.packing .fp8e5m2)) ∧
  (∀ a, (k0_off619 v6508) a + S1x64x1024.size a ≤ S32x128x4096.size a) ∧
  (∀ (hinb : ∀ a, (k0_off619 v6508) a + S1x64x1024.size a ≤ S32x128x4096.size a), (Rect.unit (s := S32x128x4096) (k0_off619 v6508) S1x64x1024.size hinb).WholeWords (EltTy.packing .fp8e5m2)) ∧
  (∀ a, (k0_off621 v6508) a + S1x64x1024.size a ≤ S32x128x4096.size a) ∧
  (∀ (hinb : ∀ a, (k0_off621 v6508) a + S1x64x1024.size a ≤ S32x128x4096.size a), (Rect.unit (s := S32x128x4096) (k0_off621 v6508) S1x64x1024.size hinb).WholeWords (EltTy.packing .fp8e5m2))
theorem k0_off615_inb : ∀ (v6508 : BitVec 32) (k0_hw110 : k0_chk110 v6508), ∀ a, (k0_off615 v6508) a + S1x64x1024.size a ≤ S32x128x4096.size a := fun v6508 k0_hw110 => k0_hw110.1
theorem k0_off615_wordsfp8e5m2 : ∀ (v6508 : BitVec 32) (k0_hw110 : k0_chk110 v6508), (Rect.unit (s := S32x128x4096) (k0_off615 v6508) S1x64x1024.size (k0_off615_inb v6508 k0_hw110)).WholeWords (EltTy.packing .fp8e5m2) := fun v6508 k0_hw110 => k0_hw110.2.1 (k0_off615_inb v6508 k0_hw110)
theorem k0_off617_inb : ∀ (v6508 : BitVec 32) (k0_hw110 : k0_chk110 v6508), ∀ a, (k0_off617 v6508) a + S1x64x1024.size a ≤ S32x128x4096.size a := fun v6508 k0_hw110 => k0_hw110.2.2.1
theorem k0_off617_wordsfp8e5m2 : ∀ (v6508 : BitVec 32) (k0_hw110 : k0_chk110 v6508), (Rect.unit (s := S32x128x4096) (k0_off617 v6508) S1x64x1024.size (k0_off617_inb v6508 k0_hw110)).WholeWords (EltTy.packing .fp8e5m2) := fun v6508 k0_hw110 => k0_hw110.2.2.2.1 (k0_off617_inb v6508 k0_hw110)
theorem k0_off619_inb : ∀ (v6508 : BitVec 32) (k0_hw110 : k0_chk110 v6508), ∀ a, (k0_off619 v6508) a + S1x64x1024.size a ≤ S32x128x4096.size a := fun v6508 k0_hw110 => k0_hw110.2.2.2.2.1
theorem k0_off619_wordsfp8e5m2 : ∀ (v6508 : BitVec 32) (k0_hw110 : k0_chk110 v6508), (Rect.unit (s := S32x128x4096) (k0_off619 v6508) S1x64x1024.size (k0_off619_inb v6508 k0_hw110)).WholeWords (EltTy.packing .fp8e5m2) := fun v6508 k0_hw110 => k0_hw110.2.2.2.2.2.1 (k0_off619_inb v6508 k0_hw110)
theorem k0_off621_inb : ∀ (v6508 : BitVec 32) (k0_hw110 : k0_chk110 v6508), ∀ a, (k0_off621 v6508) a + S1x64x1024.size a ≤ S32x128x4096.size a := fun v6508 k0_hw110 => k0_hw110.2.2.2.2.2.2.1
theorem k0_off621_wordsfp8e5m2 : ∀ (v6508 : BitVec 32) (k0_hw110 : k0_chk110 v6508), (Rect.unit (s := S32x128x4096) (k0_off621 v6508) S1x64x1024.size (k0_off621_inb v6508 k0_hw110)).WholeWords (EltTy.packing .fp8e5m2) := fun v6508 k0_hw110 => k0_hw110.2.2.2.2.2.2.2 (k0_off621_inb v6508 k0_hw110)

def k0_off622 (d0 : Dev nD) : Fin 2 → Nat :=
  let c23_7047 : Index := 23#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v6557 : Index := Scalar.indexCast v2
  ![23, v6557.toNat]
def k0_off623 (v6558 : BitVec 32) : Fin 3 → Nat :=
  let c0_i32_7054 : BitVec 32 := 0#32
  let c0_i32_7055 : BitVec 32 := 0#32
  ![v6558.toNat, 0, 0]

def k0_off624 (v6560 : BitVec 32) : Fin 3 → Nat :=
  let c64_i32_7063 : BitVec 32 := 64#32
  let c0_i32_7064 : BitVec 32 := 0#32
  ![v6560.toNat, 64, 0]

def k0_off625 (v6558 : BitVec 32) : Fin 3 → Nat :=
  let c0_i32_7072 : BitVec 32 := 0#32
  let c1024_i32_7073 : BitVec 32 := 1024#32
  ![v6558.toNat, 0, 1024]
def k0_off626 (v6560 : BitVec 32) : Fin 3 → Nat :=
  let c64_i32_7081 : BitVec 32 := 64#32
  let c1024_i32_7082 : BitVec 32 := 1024#32
  ![v6560.toNat, 64, 1024]
def k0_off627 (v6558 : BitVec 32) : Fin 3 → Nat :=
  let c0_i32_7090 : BitVec 32 := 0#32
  let c2048_i32_7091 : BitVec 32 := 2048#32
  ![v6558.toNat, 0, 2048]
def k0_off628 (v6560 : BitVec 32) : Fin 3 → Nat :=
  let c64_i32_7099 : BitVec 32 := 64#32
  let c2048_i32_7100 : BitVec 32 := 2048#32
  ![v6560.toNat, 64, 2048]
def k0_off629 (v6558 : BitVec 32) : Fin 3 → Nat :=
  let c0_i32_7108 : BitVec 32 := 0#32
  let c3072_i32_7109 : BitVec 32 := 3072#32
  ![v6558.toNat, 0, 3072]

def k0_chk111 (v6558 : BitVec 32) : Prop :=
  (∀ a, (k0_off623 v6558) a + S1x64x1024.size a ≤ S32x128x4096.size a) ∧
  (∀ (hinb : ∀ a, (k0_off623 v6558) a + S1x64x1024.size a ≤ S32x128x4096.size a), (Rect.unit (s := S32x128x4096) (k0_off623 v6558) S1x64x1024.size hinb).WholeWords (EltTy.packing .fp8e5m2)) ∧
  (∀ a, (k0_off625 v6558) a + S1x64x1024.size a ≤ S32x128x4096.size a) ∧
  (∀ (hinb : ∀ a, (k0_off625 v6558) a + S1x64x1024.size a ≤ S32x128x4096.size a), (Rect.unit (s := S32x128x4096) (k0_off625 v6558) S1x64x1024.size hinb).WholeWords (EltTy.packing .fp8e5m2)) ∧
  (∀ a, (k0_off627 v6558) a + S1x64x1024.size a ≤ S32x128x4096.size a) ∧
  (∀ (hinb : ∀ a, (k0_off627 v6558) a + S1x64x1024.size a ≤ S32x128x4096.size a), (Rect.unit (s := S32x128x4096) (k0_off627 v6558) S1x64x1024.size hinb).WholeWords (EltTy.packing .fp8e5m2)) ∧
  (∀ a, (k0_off629 v6558) a + S1x64x1024.size a ≤ S32x128x4096.size a) ∧
  (∀ (hinb : ∀ a, (k0_off629 v6558) a + S1x64x1024.size a ≤ S32x128x4096.size a), (Rect.unit (s := S32x128x4096) (k0_off629 v6558) S1x64x1024.size hinb).WholeWords (EltTy.packing .fp8e5m2))
theorem k0_off623_inb : ∀ (v6558 : BitVec 32) (k0_hw111 : k0_chk111 v6558), ∀ a, (k0_off623 v6558) a + S1x64x1024.size a ≤ S32x128x4096.size a := fun v6558 k0_hw111 => k0_hw111.1
theorem k0_off623_wordsfp8e5m2 : ∀ (v6558 : BitVec 32) (k0_hw111 : k0_chk111 v6558), (Rect.unit (s := S32x128x4096) (k0_off623 v6558) S1x64x1024.size (k0_off623_inb v6558 k0_hw111)).WholeWords (EltTy.packing .fp8e5m2) := fun v6558 k0_hw111 => k0_hw111.2.1 (k0_off623_inb v6558 k0_hw111)
theorem k0_off625_inb : ∀ (v6558 : BitVec 32) (k0_hw111 : k0_chk111 v6558), ∀ a, (k0_off625 v6558) a + S1x64x1024.size a ≤ S32x128x4096.size a := fun v6558 k0_hw111 => k0_hw111.2.2.1
theorem k0_off625_wordsfp8e5m2 : ∀ (v6558 : BitVec 32) (k0_hw111 : k0_chk111 v6558), (Rect.unit (s := S32x128x4096) (k0_off625 v6558) S1x64x1024.size (k0_off625_inb v6558 k0_hw111)).WholeWords (EltTy.packing .fp8e5m2) := fun v6558 k0_hw111 => k0_hw111.2.2.2.1 (k0_off625_inb v6558 k0_hw111)
theorem k0_off627_inb : ∀ (v6558 : BitVec 32) (k0_hw111 : k0_chk111 v6558), ∀ a, (k0_off627 v6558) a + S1x64x1024.size a ≤ S32x128x4096.size a := fun v6558 k0_hw111 => k0_hw111.2.2.2.2.1
theorem k0_off627_wordsfp8e5m2 : ∀ (v6558 : BitVec 32) (k0_hw111 : k0_chk111 v6558), (Rect.unit (s := S32x128x4096) (k0_off627 v6558) S1x64x1024.size (k0_off627_inb v6558 k0_hw111)).WholeWords (EltTy.packing .fp8e5m2) := fun v6558 k0_hw111 => k0_hw111.2.2.2.2.2.1 (k0_off627_inb v6558 k0_hw111)
theorem k0_off629_inb : ∀ (v6558 : BitVec 32) (k0_hw111 : k0_chk111 v6558), ∀ a, (k0_off629 v6558) a + S1x64x1024.size a ≤ S32x128x4096.size a := fun v6558 k0_hw111 => k0_hw111.2.2.2.2.2.2.1
theorem k0_off629_wordsfp8e5m2 : ∀ (v6558 : BitVec 32) (k0_hw111 : k0_chk111 v6558), (Rect.unit (s := S32x128x4096) (k0_off629 v6558) S1x64x1024.size (k0_off629_inb v6558 k0_hw111)).WholeWords (EltTy.packing .fp8e5m2) := fun v6558 k0_hw111 => k0_hw111.2.2.2.2.2.2.2 (k0_off629_inb v6558 k0_hw111)

def k0_off630 (v6560 : BitVec 32) : Fin 3 → Nat :=
  let c64_i32_7117 : BitVec 32 := 64#32
  let c3072_i32_7118 : BitVec 32 := 3072#32
  ![v6560.toNat, 64, 3072]

def k0_chk112 (v6560 : BitVec 32) : Prop :=
  (∀ a, (k0_off624 v6560) a + S1x64x1024.size a ≤ S32x128x4096.size a) ∧
  (∀ (hinb : ∀ a, (k0_off624 v6560) a + S1x64x1024.size a ≤ S32x128x4096.size a), (Rect.unit (s := S32x128x4096) (k0_off624 v6560) S1x64x1024.size hinb).WholeWords (EltTy.packing .fp8e5m2)) ∧
  (∀ a, (k0_off626 v6560) a + S1x64x1024.size a ≤ S32x128x4096.size a) ∧
  (∀ (hinb : ∀ a, (k0_off626 v6560) a + S1x64x1024.size a ≤ S32x128x4096.size a), (Rect.unit (s := S32x128x4096) (k0_off626 v6560) S1x64x1024.size hinb).WholeWords (EltTy.packing .fp8e5m2)) ∧
  (∀ a, (k0_off628 v6560) a + S1x64x1024.size a ≤ S32x128x4096.size a) ∧
  (∀ (hinb : ∀ a, (k0_off628 v6560) a + S1x64x1024.size a ≤ S32x128x4096.size a), (Rect.unit (s := S32x128x4096) (k0_off628 v6560) S1x64x1024.size hinb).WholeWords (EltTy.packing .fp8e5m2)) ∧
  (∀ a, (k0_off630 v6560) a + S1x64x1024.size a ≤ S32x128x4096.size a) ∧
  (∀ (hinb : ∀ a, (k0_off630 v6560) a + S1x64x1024.size a ≤ S32x128x4096.size a), (Rect.unit (s := S32x128x4096) (k0_off630 v6560) S1x64x1024.size hinb).WholeWords (EltTy.packing .fp8e5m2))
theorem k0_off624_inb : ∀ (v6560 : BitVec 32) (k0_hw112 : k0_chk112 v6560), ∀ a, (k0_off624 v6560) a + S1x64x1024.size a ≤ S32x128x4096.size a := fun v6560 k0_hw112 => k0_hw112.1
theorem k0_off624_wordsfp8e5m2 : ∀ (v6560 : BitVec 32) (k0_hw112 : k0_chk112 v6560), (Rect.unit (s := S32x128x4096) (k0_off624 v6560) S1x64x1024.size (k0_off624_inb v6560 k0_hw112)).WholeWords (EltTy.packing .fp8e5m2) := fun v6560 k0_hw112 => k0_hw112.2.1 (k0_off624_inb v6560 k0_hw112)
theorem k0_off626_inb : ∀ (v6560 : BitVec 32) (k0_hw112 : k0_chk112 v6560), ∀ a, (k0_off626 v6560) a + S1x64x1024.size a ≤ S32x128x4096.size a := fun v6560 k0_hw112 => k0_hw112.2.2.1
theorem k0_off626_wordsfp8e5m2 : ∀ (v6560 : BitVec 32) (k0_hw112 : k0_chk112 v6560), (Rect.unit (s := S32x128x4096) (k0_off626 v6560) S1x64x1024.size (k0_off626_inb v6560 k0_hw112)).WholeWords (EltTy.packing .fp8e5m2) := fun v6560 k0_hw112 => k0_hw112.2.2.2.1 (k0_off626_inb v6560 k0_hw112)
theorem k0_off628_inb : ∀ (v6560 : BitVec 32) (k0_hw112 : k0_chk112 v6560), ∀ a, (k0_off628 v6560) a + S1x64x1024.size a ≤ S32x128x4096.size a := fun v6560 k0_hw112 => k0_hw112.2.2.2.2.1
theorem k0_off628_wordsfp8e5m2 : ∀ (v6560 : BitVec 32) (k0_hw112 : k0_chk112 v6560), (Rect.unit (s := S32x128x4096) (k0_off628 v6560) S1x64x1024.size (k0_off628_inb v6560 k0_hw112)).WholeWords (EltTy.packing .fp8e5m2) := fun v6560 k0_hw112 => k0_hw112.2.2.2.2.2.1 (k0_off628_inb v6560 k0_hw112)
theorem k0_off630_inb : ∀ (v6560 : BitVec 32) (k0_hw112 : k0_chk112 v6560), ∀ a, (k0_off630 v6560) a + S1x64x1024.size a ≤ S32x128x4096.size a := fun v6560 k0_hw112 => k0_hw112.2.2.2.2.2.2.1
theorem k0_off630_wordsfp8e5m2 : ∀ (v6560 : BitVec 32) (k0_hw112 : k0_chk112 v6560), (Rect.unit (s := S32x128x4096) (k0_off630 v6560) S1x64x1024.size (k0_off630_inb v6560 k0_hw112)).WholeWords (EltTy.packing .fp8e5m2) := fun v6560 k0_hw112 => k0_hw112.2.2.2.2.2.2.2 (k0_off630_inb v6560 k0_hw112)

def k0_off631 (d0 : Dev nD) : Fin 2 → Nat :=
  let c24_7121 : Index := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v6609 : Index := Scalar.indexCast v2
  ![24, v6609.toNat]
def k0_off632 (v6610 : BitVec 32) : Fin 3 → Nat :=
  let c0_i32_7128 : BitVec 32 := 0#32
  let c0_i32_7129 : BitVec 32 := 0#32
  ![v6610.toNat, 0, 0]

def k0_off633 (v6612 : BitVec 32) : Fin 3 → Nat :=
  let c64_i32_7137 : BitVec 32 := 64#32
  let c0_i32_7138 : BitVec 32 := 0#32
  ![v6612.toNat, 64, 0]

def k0_off634 (v6610 : BitVec 32) : Fin 3 → Nat :=
  let c0_i32_7146 : BitVec 32 := 0#32
  let c1024_i32_7147 : BitVec 32 := 1024#32
  ![v6610.toNat, 0, 1024]
def k0_off635 (v6612 : BitVec 32) : Fin 3 → Nat :=
  let c64_i32_7155 : BitVec 32 := 64#32
  let c1024_i32_7156 : BitVec 32 := 1024#32
  ![v6612.toNat, 64, 1024]
def k0_off636 (v6610 : BitVec 32) : Fin 3 → Nat :=
  let c0_i32_7164 : BitVec 32 := 0#32
  let c2048_i32_7165 : BitVec 32 := 2048#32
  ![v6610.toNat, 0, 2048]
def k0_off637 (v6612 : BitVec 32) : Fin 3 → Nat :=
  let c64_i32_7173 : BitVec 32 := 64#32
  let c2048_i32_7174 : BitVec 32 := 2048#32
  ![v6612.toNat, 64, 2048]
def k0_off638 (v6610 : BitVec 32) : Fin 3 → Nat :=
  let c0_i32_7182 : BitVec 32 := 0#32
  let c3072_i32_7183 : BitVec 32 := 3072#32
  ![v6610.toNat, 0, 3072]

def k0_chk113 (v6610 : BitVec 32) : Prop :=
  (∀ a, (k0_off632 v6610) a + S1x64x1024.size a ≤ S32x128x4096.size a) ∧
  (∀ (hinb : ∀ a, (k0_off632 v6610) a + S1x64x1024.size a ≤ S32x128x4096.size a), (Rect.unit (s := S32x128x4096) (k0_off632 v6610) S1x64x1024.size hinb).WholeWords (EltTy.packing .fp8e5m2)) ∧
  (∀ a, (k0_off634 v6610) a + S1x64x1024.size a ≤ S32x128x4096.size a) ∧
  (∀ (hinb : ∀ a, (k0_off634 v6610) a + S1x64x1024.size a ≤ S32x128x4096.size a), (Rect.unit (s := S32x128x4096) (k0_off634 v6610) S1x64x1024.size hinb).WholeWords (EltTy.packing .fp8e5m2)) ∧
  (∀ a, (k0_off636 v6610) a + S1x64x1024.size a ≤ S32x128x4096.size a) ∧
  (∀ (hinb : ∀ a, (k0_off636 v6610) a + S1x64x1024.size a ≤ S32x128x4096.size a), (Rect.unit (s := S32x128x4096) (k0_off636 v6610) S1x64x1024.size hinb).WholeWords (EltTy.packing .fp8e5m2)) ∧
  (∀ a, (k0_off638 v6610) a + S1x64x1024.size a ≤ S32x128x4096.size a) ∧
  (∀ (hinb : ∀ a, (k0_off638 v6610) a + S1x64x1024.size a ≤ S32x128x4096.size a), (Rect.unit (s := S32x128x4096) (k0_off638 v6610) S1x64x1024.size hinb).WholeWords (EltTy.packing .fp8e5m2))
theorem k0_off632_inb : ∀ (v6610 : BitVec 32) (k0_hw113 : k0_chk113 v6610), ∀ a, (k0_off632 v6610) a + S1x64x1024.size a ≤ S32x128x4096.size a := fun v6610 k0_hw113 => k0_hw113.1
theorem k0_off632_wordsfp8e5m2 : ∀ (v6610 : BitVec 32) (k0_hw113 : k0_chk113 v6610), (Rect.unit (s := S32x128x4096) (k0_off632 v6610) S1x64x1024.size (k0_off632_inb v6610 k0_hw113)).WholeWords (EltTy.packing .fp8e5m2) := fun v6610 k0_hw113 => k0_hw113.2.1 (k0_off632_inb v6610 k0_hw113)
theorem k0_off634_inb : ∀ (v6610 : BitVec 32) (k0_hw113 : k0_chk113 v6610), ∀ a, (k0_off634 v6610) a + S1x64x1024.size a ≤ S32x128x4096.size a := fun v6610 k0_hw113 => k0_hw113.2.2.1
theorem k0_off634_wordsfp8e5m2 : ∀ (v6610 : BitVec 32) (k0_hw113 : k0_chk113 v6610), (Rect.unit (s := S32x128x4096) (k0_off634 v6610) S1x64x1024.size (k0_off634_inb v6610 k0_hw113)).WholeWords (EltTy.packing .fp8e5m2) := fun v6610 k0_hw113 => k0_hw113.2.2.2.1 (k0_off634_inb v6610 k0_hw113)
theorem k0_off636_inb : ∀ (v6610 : BitVec 32) (k0_hw113 : k0_chk113 v6610), ∀ a, (k0_off636 v6610) a + S1x64x1024.size a ≤ S32x128x4096.size a := fun v6610 k0_hw113 => k0_hw113.2.2.2.2.1
theorem k0_off636_wordsfp8e5m2 : ∀ (v6610 : BitVec 32) (k0_hw113 : k0_chk113 v6610), (Rect.unit (s := S32x128x4096) (k0_off636 v6610) S1x64x1024.size (k0_off636_inb v6610 k0_hw113)).WholeWords (EltTy.packing .fp8e5m2) := fun v6610 k0_hw113 => k0_hw113.2.2.2.2.2.1 (k0_off636_inb v6610 k0_hw113)
theorem k0_off638_inb : ∀ (v6610 : BitVec 32) (k0_hw113 : k0_chk113 v6610), ∀ a, (k0_off638 v6610) a + S1x64x1024.size a ≤ S32x128x4096.size a := fun v6610 k0_hw113 => k0_hw113.2.2.2.2.2.2.1
theorem k0_off638_wordsfp8e5m2 : ∀ (v6610 : BitVec 32) (k0_hw113 : k0_chk113 v6610), (Rect.unit (s := S32x128x4096) (k0_off638 v6610) S1x64x1024.size (k0_off638_inb v6610 k0_hw113)).WholeWords (EltTy.packing .fp8e5m2) := fun v6610 k0_hw113 => k0_hw113.2.2.2.2.2.2.2 (k0_off638_inb v6610 k0_hw113)

def k0_off639 (v6612 : BitVec 32) : Fin 3 → Nat :=
  let c64_i32_7191 : BitVec 32 := 64#32
  let c3072_i32_7192 : BitVec 32 := 3072#32
  ![v6612.toNat, 64, 3072]

def k0_chk114 (v6612 : BitVec 32) : Prop :=
  (∀ a, (k0_off633 v6612) a + S1x64x1024.size a ≤ S32x128x4096.size a) ∧
  (∀ (hinb : ∀ a, (k0_off633 v6612) a + S1x64x1024.size a ≤ S32x128x4096.size a), (Rect.unit (s := S32x128x4096) (k0_off633 v6612) S1x64x1024.size hinb).WholeWords (EltTy.packing .fp8e5m2)) ∧
  (∀ a, (k0_off635 v6612) a + S1x64x1024.size a ≤ S32x128x4096.size a) ∧
  (∀ (hinb : ∀ a, (k0_off635 v6612) a + S1x64x1024.size a ≤ S32x128x4096.size a), (Rect.unit (s := S32x128x4096) (k0_off635 v6612) S1x64x1024.size hinb).WholeWords (EltTy.packing .fp8e5m2)) ∧
  (∀ a, (k0_off637 v6612) a + S1x64x1024.size a ≤ S32x128x4096.size a) ∧
  (∀ (hinb : ∀ a, (k0_off637 v6612) a + S1x64x1024.size a ≤ S32x128x4096.size a), (Rect.unit (s := S32x128x4096) (k0_off637 v6612) S1x64x1024.size hinb).WholeWords (EltTy.packing .fp8e5m2)) ∧
  (∀ a, (k0_off639 v6612) a + S1x64x1024.size a ≤ S32x128x4096.size a) ∧
  (∀ (hinb : ∀ a, (k0_off639 v6612) a + S1x64x1024.size a ≤ S32x128x4096.size a), (Rect.unit (s := S32x128x4096) (k0_off639 v6612) S1x64x1024.size hinb).WholeWords (EltTy.packing .fp8e5m2))
theorem k0_off633_inb : ∀ (v6612 : BitVec 32) (k0_hw114 : k0_chk114 v6612), ∀ a, (k0_off633 v6612) a + S1x64x1024.size a ≤ S32x128x4096.size a := fun v6612 k0_hw114 => k0_hw114.1
theorem k0_off633_wordsfp8e5m2 : ∀ (v6612 : BitVec 32) (k0_hw114 : k0_chk114 v6612), (Rect.unit (s := S32x128x4096) (k0_off633 v6612) S1x64x1024.size (k0_off633_inb v6612 k0_hw114)).WholeWords (EltTy.packing .fp8e5m2) := fun v6612 k0_hw114 => k0_hw114.2.1 (k0_off633_inb v6612 k0_hw114)
theorem k0_off635_inb : ∀ (v6612 : BitVec 32) (k0_hw114 : k0_chk114 v6612), ∀ a, (k0_off635 v6612) a + S1x64x1024.size a ≤ S32x128x4096.size a := fun v6612 k0_hw114 => k0_hw114.2.2.1
theorem k0_off635_wordsfp8e5m2 : ∀ (v6612 : BitVec 32) (k0_hw114 : k0_chk114 v6612), (Rect.unit (s := S32x128x4096) (k0_off635 v6612) S1x64x1024.size (k0_off635_inb v6612 k0_hw114)).WholeWords (EltTy.packing .fp8e5m2) := fun v6612 k0_hw114 => k0_hw114.2.2.2.1 (k0_off635_inb v6612 k0_hw114)
theorem k0_off637_inb : ∀ (v6612 : BitVec 32) (k0_hw114 : k0_chk114 v6612), ∀ a, (k0_off637 v6612) a + S1x64x1024.size a ≤ S32x128x4096.size a := fun v6612 k0_hw114 => k0_hw114.2.2.2.2.1
theorem k0_off637_wordsfp8e5m2 : ∀ (v6612 : BitVec 32) (k0_hw114 : k0_chk114 v6612), (Rect.unit (s := S32x128x4096) (k0_off637 v6612) S1x64x1024.size (k0_off637_inb v6612 k0_hw114)).WholeWords (EltTy.packing .fp8e5m2) := fun v6612 k0_hw114 => k0_hw114.2.2.2.2.2.1 (k0_off637_inb v6612 k0_hw114)
theorem k0_off639_inb : ∀ (v6612 : BitVec 32) (k0_hw114 : k0_chk114 v6612), ∀ a, (k0_off639 v6612) a + S1x64x1024.size a ≤ S32x128x4096.size a := fun v6612 k0_hw114 => k0_hw114.2.2.2.2.2.2.1
theorem k0_off639_wordsfp8e5m2 : ∀ (v6612 : BitVec 32) (k0_hw114 : k0_chk114 v6612), (Rect.unit (s := S32x128x4096) (k0_off639 v6612) S1x64x1024.size (k0_off639_inb v6612 k0_hw114)).WholeWords (EltTy.packing .fp8e5m2) := fun v6612 k0_hw114 => k0_hw114.2.2.2.2.2.2.2 (k0_off639_inb v6612 k0_hw114)

def k0_off640 (d0 : Dev nD) : Fin 2 → Nat :=
  let c25_7195 : Index := 25#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v6661 : Index := Scalar.indexCast v2
  ![25, v6661.toNat]
def k0_off641 (v6662 : BitVec 32) : Fin 3 → Nat :=
  let c0_i32_7202 : BitVec 32 := 0#32
  let c0_i32_7203 : BitVec 32 := 0#32
  ![v6662.toNat, 0, 0]

def k0_off642 (v6664 : BitVec 32) : Fin 3 → Nat :=
  let c64_i32_7211 : BitVec 32 := 64#32
  let c0_i32_7212 : BitVec 32 := 0#32
  ![v6664.toNat, 64, 0]

def k0_off643 (v6662 : BitVec 32) : Fin 3 → Nat :=
  let c0_i32_7220 : BitVec 32 := 0#32
  let c1024_i32_7221 : BitVec 32 := 1024#32
  ![v6662.toNat, 0, 1024]
def k0_off644 (v6664 : BitVec 32) : Fin 3 → Nat :=
  let c64_i32_7229 : BitVec 32 := 64#32
  let c1024_i32_7230 : BitVec 32 := 1024#32
  ![v6664.toNat, 64, 1024]
def k0_off645 (v6662 : BitVec 32) : Fin 3 → Nat :=
  let c0_i32_7238 : BitVec 32 := 0#32
  let c2048_i32_7239 : BitVec 32 := 2048#32
  ![v6662.toNat, 0, 2048]
def k0_off646 (v6664 : BitVec 32) : Fin 3 → Nat :=
  let c64_i32_7247 : BitVec 32 := 64#32
  let c2048_i32_7248 : BitVec 32 := 2048#32
  ![v6664.toNat, 64, 2048]
def k0_off647 (v6662 : BitVec 32) : Fin 3 → Nat :=
  let c0_i32_7256 : BitVec 32 := 0#32
  let c3072_i32_7257 : BitVec 32 := 3072#32
  ![v6662.toNat, 0, 3072]

def k0_chk115 (v6662 : BitVec 32) : Prop :=
  (∀ a, (k0_off641 v6662) a + S1x64x1024.size a ≤ S32x128x4096.size a) ∧
  (∀ (hinb : ∀ a, (k0_off641 v6662) a + S1x64x1024.size a ≤ S32x128x4096.size a), (Rect.unit (s := S32x128x4096) (k0_off641 v6662) S1x64x1024.size hinb).WholeWords (EltTy.packing .fp8e5m2)) ∧
  (∀ a, (k0_off643 v6662) a + S1x64x1024.size a ≤ S32x128x4096.size a) ∧
  (∀ (hinb : ∀ a, (k0_off643 v6662) a + S1x64x1024.size a ≤ S32x128x4096.size a), (Rect.unit (s := S32x128x4096) (k0_off643 v6662) S1x64x1024.size hinb).WholeWords (EltTy.packing .fp8e5m2)) ∧
  (∀ a, (k0_off645 v6662) a + S1x64x1024.size a ≤ S32x128x4096.size a) ∧
  (∀ (hinb : ∀ a, (k0_off645 v6662) a + S1x64x1024.size a ≤ S32x128x4096.size a), (Rect.unit (s := S32x128x4096) (k0_off645 v6662) S1x64x1024.size hinb).WholeWords (EltTy.packing .fp8e5m2)) ∧
  (∀ a, (k0_off647 v6662) a + S1x64x1024.size a ≤ S32x128x4096.size a) ∧
  (∀ (hinb : ∀ a, (k0_off647 v6662) a + S1x64x1024.size a ≤ S32x128x4096.size a), (Rect.unit (s := S32x128x4096) (k0_off647 v6662) S1x64x1024.size hinb).WholeWords (EltTy.packing .fp8e5m2))
theorem k0_off641_inb : ∀ (v6662 : BitVec 32) (k0_hw115 : k0_chk115 v6662), ∀ a, (k0_off641 v6662) a + S1x64x1024.size a ≤ S32x128x4096.size a := fun v6662 k0_hw115 => k0_hw115.1
theorem k0_off641_wordsfp8e5m2 : ∀ (v6662 : BitVec 32) (k0_hw115 : k0_chk115 v6662), (Rect.unit (s := S32x128x4096) (k0_off641 v6662) S1x64x1024.size (k0_off641_inb v6662 k0_hw115)).WholeWords (EltTy.packing .fp8e5m2) := fun v6662 k0_hw115 => k0_hw115.2.1 (k0_off641_inb v6662 k0_hw115)
theorem k0_off643_inb : ∀ (v6662 : BitVec 32) (k0_hw115 : k0_chk115 v6662), ∀ a, (k0_off643 v6662) a + S1x64x1024.size a ≤ S32x128x4096.size a := fun v6662 k0_hw115 => k0_hw115.2.2.1
theorem k0_off643_wordsfp8e5m2 : ∀ (v6662 : BitVec 32) (k0_hw115 : k0_chk115 v6662), (Rect.unit (s := S32x128x4096) (k0_off643 v6662) S1x64x1024.size (k0_off643_inb v6662 k0_hw115)).WholeWords (EltTy.packing .fp8e5m2) := fun v6662 k0_hw115 => k0_hw115.2.2.2.1 (k0_off643_inb v6662 k0_hw115)
theorem k0_off645_inb : ∀ (v6662 : BitVec 32) (k0_hw115 : k0_chk115 v6662), ∀ a, (k0_off645 v6662) a + S1x64x1024.size a ≤ S32x128x4096.size a := fun v6662 k0_hw115 => k0_hw115.2.2.2.2.1
theorem k0_off645_wordsfp8e5m2 : ∀ (v6662 : BitVec 32) (k0_hw115 : k0_chk115 v6662), (Rect.unit (s := S32x128x4096) (k0_off645 v6662) S1x64x1024.size (k0_off645_inb v6662 k0_hw115)).WholeWords (EltTy.packing .fp8e5m2) := fun v6662 k0_hw115 => k0_hw115.2.2.2.2.2.1 (k0_off645_inb v6662 k0_hw115)
theorem k0_off647_inb : ∀ (v6662 : BitVec 32) (k0_hw115 : k0_chk115 v6662), ∀ a, (k0_off647 v6662) a + S1x64x1024.size a ≤ S32x128x4096.size a := fun v6662 k0_hw115 => k0_hw115.2.2.2.2.2.2.1
theorem k0_off647_wordsfp8e5m2 : ∀ (v6662 : BitVec 32) (k0_hw115 : k0_chk115 v6662), (Rect.unit (s := S32x128x4096) (k0_off647 v6662) S1x64x1024.size (k0_off647_inb v6662 k0_hw115)).WholeWords (EltTy.packing .fp8e5m2) := fun v6662 k0_hw115 => k0_hw115.2.2.2.2.2.2.2 (k0_off647_inb v6662 k0_hw115)

def k0_off648 (v6664 : BitVec 32) : Fin 3 → Nat :=
  let c64_i32_7265 : BitVec 32 := 64#32
  let c3072_i32_7266 : BitVec 32 := 3072#32
  ![v6664.toNat, 64, 3072]

def k0_chk116 (v6664 : BitVec 32) : Prop :=
  (∀ a, (k0_off642 v6664) a + S1x64x1024.size a ≤ S32x128x4096.size a) ∧
  (∀ (hinb : ∀ a, (k0_off642 v6664) a + S1x64x1024.size a ≤ S32x128x4096.size a), (Rect.unit (s := S32x128x4096) (k0_off642 v6664) S1x64x1024.size hinb).WholeWords (EltTy.packing .fp8e5m2)) ∧
  (∀ a, (k0_off644 v6664) a + S1x64x1024.size a ≤ S32x128x4096.size a) ∧
  (∀ (hinb : ∀ a, (k0_off644 v6664) a + S1x64x1024.size a ≤ S32x128x4096.size a), (Rect.unit (s := S32x128x4096) (k0_off644 v6664) S1x64x1024.size hinb).WholeWords (EltTy.packing .fp8e5m2)) ∧
  (∀ a, (k0_off646 v6664) a + S1x64x1024.size a ≤ S32x128x4096.size a) ∧
  (∀ (hinb : ∀ a, (k0_off646 v6664) a + S1x64x1024.size a ≤ S32x128x4096.size a), (Rect.unit (s := S32x128x4096) (k0_off646 v6664) S1x64x1024.size hinb).WholeWords (EltTy.packing .fp8e5m2)) ∧
  (∀ a, (k0_off648 v6664) a + S1x64x1024.size a ≤ S32x128x4096.size a) ∧
  (∀ (hinb : ∀ a, (k0_off648 v6664) a + S1x64x1024.size a ≤ S32x128x4096.size a), (Rect.unit (s := S32x128x4096) (k0_off648 v6664) S1x64x1024.size hinb).WholeWords (EltTy.packing .fp8e5m2))
theorem k0_off642_inb : ∀ (v6664 : BitVec 32) (k0_hw116 : k0_chk116 v6664), ∀ a, (k0_off642 v6664) a + S1x64x1024.size a ≤ S32x128x4096.size a := fun v6664 k0_hw116 => k0_hw116.1
theorem k0_off642_wordsfp8e5m2 : ∀ (v6664 : BitVec 32) (k0_hw116 : k0_chk116 v6664), (Rect.unit (s := S32x128x4096) (k0_off642 v6664) S1x64x1024.size (k0_off642_inb v6664 k0_hw116)).WholeWords (EltTy.packing .fp8e5m2) := fun v6664 k0_hw116 => k0_hw116.2.1 (k0_off642_inb v6664 k0_hw116)
theorem k0_off644_inb : ∀ (v6664 : BitVec 32) (k0_hw116 : k0_chk116 v6664), ∀ a, (k0_off644 v6664) a + S1x64x1024.size a ≤ S32x128x4096.size a := fun v6664 k0_hw116 => k0_hw116.2.2.1
theorem k0_off644_wordsfp8e5m2 : ∀ (v6664 : BitVec 32) (k0_hw116 : k0_chk116 v6664), (Rect.unit (s := S32x128x4096) (k0_off644 v6664) S1x64x1024.size (k0_off644_inb v6664 k0_hw116)).WholeWords (EltTy.packing .fp8e5m2) := fun v6664 k0_hw116 => k0_hw116.2.2.2.1 (k0_off644_inb v6664 k0_hw116)
theorem k0_off646_inb : ∀ (v6664 : BitVec 32) (k0_hw116 : k0_chk116 v6664), ∀ a, (k0_off646 v6664) a + S1x64x1024.size a ≤ S32x128x4096.size a := fun v6664 k0_hw116 => k0_hw116.2.2.2.2.1
theorem k0_off646_wordsfp8e5m2 : ∀ (v6664 : BitVec 32) (k0_hw116 : k0_chk116 v6664), (Rect.unit (s := S32x128x4096) (k0_off646 v6664) S1x64x1024.size (k0_off646_inb v6664 k0_hw116)).WholeWords (EltTy.packing .fp8e5m2) := fun v6664 k0_hw116 => k0_hw116.2.2.2.2.2.1 (k0_off646_inb v6664 k0_hw116)
theorem k0_off648_inb : ∀ (v6664 : BitVec 32) (k0_hw116 : k0_chk116 v6664), ∀ a, (k0_off648 v6664) a + S1x64x1024.size a ≤ S32x128x4096.size a := fun v6664 k0_hw116 => k0_hw116.2.2.2.2.2.2.1
theorem k0_off648_wordsfp8e5m2 : ∀ (v6664 : BitVec 32) (k0_hw116 : k0_chk116 v6664), (Rect.unit (s := S32x128x4096) (k0_off648 v6664) S1x64x1024.size (k0_off648_inb v6664 k0_hw116)).WholeWords (EltTy.packing .fp8e5m2) := fun v6664 k0_hw116 => k0_hw116.2.2.2.2.2.2.2 (k0_off648_inb v6664 k0_hw116)

def k0_off649 (d0 : Dev nD) : Fin 2 → Nat :=
  let c26_7269 : Index := 26#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v6713 : Index := Scalar.indexCast v2
  ![26, v6713.toNat]
def k0_off650 (v6714 : BitVec 32) : Fin 3 → Nat :=
  let c0_i32_7276 : BitVec 32 := 0#32
  let c0_i32_7277 : BitVec 32 := 0#32
  ![v6714.toNat, 0, 0]

def k0_off651 (v6716 : BitVec 32) : Fin 3 → Nat :=
  let c64_i32_7285 : BitVec 32 := 64#32
  let c0_i32_7286 : BitVec 32 := 0#32
  ![v6716.toNat, 64, 0]

def k0_off652 (v6714 : BitVec 32) : Fin 3 → Nat :=
  let c0_i32_7294 : BitVec 32 := 0#32
  let c1024_i32_7295 : BitVec 32 := 1024#32
  ![v6714.toNat, 0, 1024]
def k0_off653 (v6716 : BitVec 32) : Fin 3 → Nat :=
  let c64_i32_7303 : BitVec 32 := 64#32
  let c1024_i32_7304 : BitVec 32 := 1024#32
  ![v6716.toNat, 64, 1024]
def k0_off654 (v6714 : BitVec 32) : Fin 3 → Nat :=
  let c0_i32_7312 : BitVec 32 := 0#32
  let c2048_i32_7313 : BitVec 32 := 2048#32
  ![v6714.toNat, 0, 2048]
def k0_off655 (v6716 : BitVec 32) : Fin 3 → Nat :=
  let c64_i32_7321 : BitVec 32 := 64#32
  let c2048_i32_7322 : BitVec 32 := 2048#32
  ![v6716.toNat, 64, 2048]
def k0_off656 (v6714 : BitVec 32) : Fin 3 → Nat :=
  let c0_i32_7330 : BitVec 32 := 0#32
  let c3072_i32_7331 : BitVec 32 := 3072#32
  ![v6714.toNat, 0, 3072]

def k0_chk117 (v6714 : BitVec 32) : Prop :=
  (∀ a, (k0_off650 v6714) a + S1x64x1024.size a ≤ S32x128x4096.size a) ∧
  (∀ (hinb : ∀ a, (k0_off650 v6714) a + S1x64x1024.size a ≤ S32x128x4096.size a), (Rect.unit (s := S32x128x4096) (k0_off650 v6714) S1x64x1024.size hinb).WholeWords (EltTy.packing .fp8e5m2)) ∧
  (∀ a, (k0_off652 v6714) a + S1x64x1024.size a ≤ S32x128x4096.size a) ∧
  (∀ (hinb : ∀ a, (k0_off652 v6714) a + S1x64x1024.size a ≤ S32x128x4096.size a), (Rect.unit (s := S32x128x4096) (k0_off652 v6714) S1x64x1024.size hinb).WholeWords (EltTy.packing .fp8e5m2)) ∧
  (∀ a, (k0_off654 v6714) a + S1x64x1024.size a ≤ S32x128x4096.size a) ∧
  (∀ (hinb : ∀ a, (k0_off654 v6714) a + S1x64x1024.size a ≤ S32x128x4096.size a), (Rect.unit (s := S32x128x4096) (k0_off654 v6714) S1x64x1024.size hinb).WholeWords (EltTy.packing .fp8e5m2)) ∧
  (∀ a, (k0_off656 v6714) a + S1x64x1024.size a ≤ S32x128x4096.size a) ∧
  (∀ (hinb : ∀ a, (k0_off656 v6714) a + S1x64x1024.size a ≤ S32x128x4096.size a), (Rect.unit (s := S32x128x4096) (k0_off656 v6714) S1x64x1024.size hinb).WholeWords (EltTy.packing .fp8e5m2))
theorem k0_off650_inb : ∀ (v6714 : BitVec 32) (k0_hw117 : k0_chk117 v6714), ∀ a, (k0_off650 v6714) a + S1x64x1024.size a ≤ S32x128x4096.size a := fun v6714 k0_hw117 => k0_hw117.1
theorem k0_off650_wordsfp8e5m2 : ∀ (v6714 : BitVec 32) (k0_hw117 : k0_chk117 v6714), (Rect.unit (s := S32x128x4096) (k0_off650 v6714) S1x64x1024.size (k0_off650_inb v6714 k0_hw117)).WholeWords (EltTy.packing .fp8e5m2) := fun v6714 k0_hw117 => k0_hw117.2.1 (k0_off650_inb v6714 k0_hw117)
theorem k0_off652_inb : ∀ (v6714 : BitVec 32) (k0_hw117 : k0_chk117 v6714), ∀ a, (k0_off652 v6714) a + S1x64x1024.size a ≤ S32x128x4096.size a := fun v6714 k0_hw117 => k0_hw117.2.2.1
theorem k0_off652_wordsfp8e5m2 : ∀ (v6714 : BitVec 32) (k0_hw117 : k0_chk117 v6714), (Rect.unit (s := S32x128x4096) (k0_off652 v6714) S1x64x1024.size (k0_off652_inb v6714 k0_hw117)).WholeWords (EltTy.packing .fp8e5m2) := fun v6714 k0_hw117 => k0_hw117.2.2.2.1 (k0_off652_inb v6714 k0_hw117)
theorem k0_off654_inb : ∀ (v6714 : BitVec 32) (k0_hw117 : k0_chk117 v6714), ∀ a, (k0_off654 v6714) a + S1x64x1024.size a ≤ S32x128x4096.size a := fun v6714 k0_hw117 => k0_hw117.2.2.2.2.1
theorem k0_off654_wordsfp8e5m2 : ∀ (v6714 : BitVec 32) (k0_hw117 : k0_chk117 v6714), (Rect.unit (s := S32x128x4096) (k0_off654 v6714) S1x64x1024.size (k0_off654_inb v6714 k0_hw117)).WholeWords (EltTy.packing .fp8e5m2) := fun v6714 k0_hw117 => k0_hw117.2.2.2.2.2.1 (k0_off654_inb v6714 k0_hw117)
theorem k0_off656_inb : ∀ (v6714 : BitVec 32) (k0_hw117 : k0_chk117 v6714), ∀ a, (k0_off656 v6714) a + S1x64x1024.size a ≤ S32x128x4096.size a := fun v6714 k0_hw117 => k0_hw117.2.2.2.2.2.2.1
theorem k0_off656_wordsfp8e5m2 : ∀ (v6714 : BitVec 32) (k0_hw117 : k0_chk117 v6714), (Rect.unit (s := S32x128x4096) (k0_off656 v6714) S1x64x1024.size (k0_off656_inb v6714 k0_hw117)).WholeWords (EltTy.packing .fp8e5m2) := fun v6714 k0_hw117 => k0_hw117.2.2.2.2.2.2.2 (k0_off656_inb v6714 k0_hw117)

def k0_off657 (v6716 : BitVec 32) : Fin 3 → Nat :=
  let c64_i32_7339 : BitVec 32 := 64#32
  let c3072_i32_7340 : BitVec 32 := 3072#32
  ![v6716.toNat, 64, 3072]

def k0_chk118 (v6716 : BitVec 32) : Prop :=
  (∀ a, (k0_off651 v6716) a + S1x64x1024.size a ≤ S32x128x4096.size a) ∧
  (∀ (hinb : ∀ a, (k0_off651 v6716) a + S1x64x1024.size a ≤ S32x128x4096.size a), (Rect.unit (s := S32x128x4096) (k0_off651 v6716) S1x64x1024.size hinb).WholeWords (EltTy.packing .fp8e5m2)) ∧
  (∀ a, (k0_off653 v6716) a + S1x64x1024.size a ≤ S32x128x4096.size a) ∧
  (∀ (hinb : ∀ a, (k0_off653 v6716) a + S1x64x1024.size a ≤ S32x128x4096.size a), (Rect.unit (s := S32x128x4096) (k0_off653 v6716) S1x64x1024.size hinb).WholeWords (EltTy.packing .fp8e5m2)) ∧
  (∀ a, (k0_off655 v6716) a + S1x64x1024.size a ≤ S32x128x4096.size a) ∧
  (∀ (hinb : ∀ a, (k0_off655 v6716) a + S1x64x1024.size a ≤ S32x128x4096.size a), (Rect.unit (s := S32x128x4096) (k0_off655 v6716) S1x64x1024.size hinb).WholeWords (EltTy.packing .fp8e5m2)) ∧
  (∀ a, (k0_off657 v6716) a + S1x64x1024.size a ≤ S32x128x4096.size a) ∧
  (∀ (hinb : ∀ a, (k0_off657 v6716) a + S1x64x1024.size a ≤ S32x128x4096.size a), (Rect.unit (s := S32x128x4096) (k0_off657 v6716) S1x64x1024.size hinb).WholeWords (EltTy.packing .fp8e5m2))
theorem k0_off651_inb : ∀ (v6716 : BitVec 32) (k0_hw118 : k0_chk118 v6716), ∀ a, (k0_off651 v6716) a + S1x64x1024.size a ≤ S32x128x4096.size a := fun v6716 k0_hw118 => k0_hw118.1
theorem k0_off651_wordsfp8e5m2 : ∀ (v6716 : BitVec 32) (k0_hw118 : k0_chk118 v6716), (Rect.unit (s := S32x128x4096) (k0_off651 v6716) S1x64x1024.size (k0_off651_inb v6716 k0_hw118)).WholeWords (EltTy.packing .fp8e5m2) := fun v6716 k0_hw118 => k0_hw118.2.1 (k0_off651_inb v6716 k0_hw118)
theorem k0_off653_inb : ∀ (v6716 : BitVec 32) (k0_hw118 : k0_chk118 v6716), ∀ a, (k0_off653 v6716) a + S1x64x1024.size a ≤ S32x128x4096.size a := fun v6716 k0_hw118 => k0_hw118.2.2.1
theorem k0_off653_wordsfp8e5m2 : ∀ (v6716 : BitVec 32) (k0_hw118 : k0_chk118 v6716), (Rect.unit (s := S32x128x4096) (k0_off653 v6716) S1x64x1024.size (k0_off653_inb v6716 k0_hw118)).WholeWords (EltTy.packing .fp8e5m2) := fun v6716 k0_hw118 => k0_hw118.2.2.2.1 (k0_off653_inb v6716 k0_hw118)
theorem k0_off655_inb : ∀ (v6716 : BitVec 32) (k0_hw118 : k0_chk118 v6716), ∀ a, (k0_off655 v6716) a + S1x64x1024.size a ≤ S32x128x4096.size a := fun v6716 k0_hw118 => k0_hw118.2.2.2.2.1
theorem k0_off655_wordsfp8e5m2 : ∀ (v6716 : BitVec 32) (k0_hw118 : k0_chk118 v6716), (Rect.unit (s := S32x128x4096) (k0_off655 v6716) S1x64x1024.size (k0_off655_inb v6716 k0_hw118)).WholeWords (EltTy.packing .fp8e5m2) := fun v6716 k0_hw118 => k0_hw118.2.2.2.2.2.1 (k0_off655_inb v6716 k0_hw118)
theorem k0_off657_inb : ∀ (v6716 : BitVec 32) (k0_hw118 : k0_chk118 v6716), ∀ a, (k0_off657 v6716) a + S1x64x1024.size a ≤ S32x128x4096.size a := fun v6716 k0_hw118 => k0_hw118.2.2.2.2.2.2.1
theorem k0_off657_wordsfp8e5m2 : ∀ (v6716 : BitVec 32) (k0_hw118 : k0_chk118 v6716), (Rect.unit (s := S32x128x4096) (k0_off657 v6716) S1x64x1024.size (k0_off657_inb v6716 k0_hw118)).WholeWords (EltTy.packing .fp8e5m2) := fun v6716 k0_hw118 => k0_hw118.2.2.2.2.2.2.2 (k0_off657_inb v6716 k0_hw118)

def k0_off658 (d0 : Dev nD) : Fin 2 → Nat :=
  let c27_7343 : Index := 27#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v6765 : Index := Scalar.indexCast v2
  ![27, v6765.toNat]
def k0_off659 (v6766 : BitVec 32) : Fin 3 → Nat :=
  let c0_i32_7350 : BitVec 32 := 0#32
  let c0_i32_7351 : BitVec 32 := 0#32
  ![v6766.toNat, 0, 0]

def k0_off660 (v6768 : BitVec 32) : Fin 3 → Nat :=
  let c64_i32_7359 : BitVec 32 := 64#32
  let c0_i32_7360 : BitVec 32 := 0#32
  ![v6768.toNat, 64, 0]

def k0_off661 (v6766 : BitVec 32) : Fin 3 → Nat :=
  let c0_i32_7368 : BitVec 32 := 0#32
  let c1024_i32_7369 : BitVec 32 := 1024#32
  ![v6766.toNat, 0, 1024]
def k0_off662 (v6768 : BitVec 32) : Fin 3 → Nat :=
  let c64_i32_7377 : BitVec 32 := 64#32
  let c1024_i32_7378 : BitVec 32 := 1024#32
  ![v6768.toNat, 64, 1024]
def k0_off663 (v6766 : BitVec 32) : Fin 3 → Nat :=
  let c0_i32_7386 : BitVec 32 := 0#32
  let c2048_i32_7387 : BitVec 32 := 2048#32
  ![v6766.toNat, 0, 2048]
def k0_off664 (v6768 : BitVec 32) : Fin 3 → Nat :=
  let c64_i32_7395 : BitVec 32 := 64#32
  let c2048_i32_7396 : BitVec 32 := 2048#32
  ![v6768.toNat, 64, 2048]
def k0_off665 (v6766 : BitVec 32) : Fin 3 → Nat :=
  let c0_i32_7404 : BitVec 32 := 0#32
  let c3072_i32_7405 : BitVec 32 := 3072#32
  ![v6766.toNat, 0, 3072]

def k0_chk119 (v6766 : BitVec 32) : Prop :=
  (∀ a, (k0_off659 v6766) a + S1x64x1024.size a ≤ S32x128x4096.size a) ∧
  (∀ (hinb : ∀ a, (k0_off659 v6766) a + S1x64x1024.size a ≤ S32x128x4096.size a), (Rect.unit (s := S32x128x4096) (k0_off659 v6766) S1x64x1024.size hinb).WholeWords (EltTy.packing .fp8e5m2)) ∧
  (∀ a, (k0_off661 v6766) a + S1x64x1024.size a ≤ S32x128x4096.size a) ∧
  (∀ (hinb : ∀ a, (k0_off661 v6766) a + S1x64x1024.size a ≤ S32x128x4096.size a), (Rect.unit (s := S32x128x4096) (k0_off661 v6766) S1x64x1024.size hinb).WholeWords (EltTy.packing .fp8e5m2)) ∧
  (∀ a, (k0_off663 v6766) a + S1x64x1024.size a ≤ S32x128x4096.size a) ∧
  (∀ (hinb : ∀ a, (k0_off663 v6766) a + S1x64x1024.size a ≤ S32x128x4096.size a), (Rect.unit (s := S32x128x4096) (k0_off663 v6766) S1x64x1024.size hinb).WholeWords (EltTy.packing .fp8e5m2)) ∧
  (∀ a, (k0_off665 v6766) a + S1x64x1024.size a ≤ S32x128x4096.size a) ∧
  (∀ (hinb : ∀ a, (k0_off665 v6766) a + S1x64x1024.size a ≤ S32x128x4096.size a), (Rect.unit (s := S32x128x4096) (k0_off665 v6766) S1x64x1024.size hinb).WholeWords (EltTy.packing .fp8e5m2))
theorem k0_off659_inb : ∀ (v6766 : BitVec 32) (k0_hw119 : k0_chk119 v6766), ∀ a, (k0_off659 v6766) a + S1x64x1024.size a ≤ S32x128x4096.size a := fun v6766 k0_hw119 => k0_hw119.1
theorem k0_off659_wordsfp8e5m2 : ∀ (v6766 : BitVec 32) (k0_hw119 : k0_chk119 v6766), (Rect.unit (s := S32x128x4096) (k0_off659 v6766) S1x64x1024.size (k0_off659_inb v6766 k0_hw119)).WholeWords (EltTy.packing .fp8e5m2) := fun v6766 k0_hw119 => k0_hw119.2.1 (k0_off659_inb v6766 k0_hw119)
theorem k0_off661_inb : ∀ (v6766 : BitVec 32) (k0_hw119 : k0_chk119 v6766), ∀ a, (k0_off661 v6766) a + S1x64x1024.size a ≤ S32x128x4096.size a := fun v6766 k0_hw119 => k0_hw119.2.2.1
theorem k0_off661_wordsfp8e5m2 : ∀ (v6766 : BitVec 32) (k0_hw119 : k0_chk119 v6766), (Rect.unit (s := S32x128x4096) (k0_off661 v6766) S1x64x1024.size (k0_off661_inb v6766 k0_hw119)).WholeWords (EltTy.packing .fp8e5m2) := fun v6766 k0_hw119 => k0_hw119.2.2.2.1 (k0_off661_inb v6766 k0_hw119)
theorem k0_off663_inb : ∀ (v6766 : BitVec 32) (k0_hw119 : k0_chk119 v6766), ∀ a, (k0_off663 v6766) a + S1x64x1024.size a ≤ S32x128x4096.size a := fun v6766 k0_hw119 => k0_hw119.2.2.2.2.1
theorem k0_off663_wordsfp8e5m2 : ∀ (v6766 : BitVec 32) (k0_hw119 : k0_chk119 v6766), (Rect.unit (s := S32x128x4096) (k0_off663 v6766) S1x64x1024.size (k0_off663_inb v6766 k0_hw119)).WholeWords (EltTy.packing .fp8e5m2) := fun v6766 k0_hw119 => k0_hw119.2.2.2.2.2.1 (k0_off663_inb v6766 k0_hw119)
theorem k0_off665_inb : ∀ (v6766 : BitVec 32) (k0_hw119 : k0_chk119 v6766), ∀ a, (k0_off665 v6766) a + S1x64x1024.size a ≤ S32x128x4096.size a := fun v6766 k0_hw119 => k0_hw119.2.2.2.2.2.2.1
theorem k0_off665_wordsfp8e5m2 : ∀ (v6766 : BitVec 32) (k0_hw119 : k0_chk119 v6766), (Rect.unit (s := S32x128x4096) (k0_off665 v6766) S1x64x1024.size (k0_off665_inb v6766 k0_hw119)).WholeWords (EltTy.packing .fp8e5m2) := fun v6766 k0_hw119 => k0_hw119.2.2.2.2.2.2.2 (k0_off665_inb v6766 k0_hw119)

def k0_off666 (v6768 : BitVec 32) : Fin 3 → Nat :=
  let c64_i32_7413 : BitVec 32 := 64#32
  let c3072_i32_7414 : BitVec 32 := 3072#32
  ![v6768.toNat, 64, 3072]

def k0_chk120 (v6768 : BitVec 32) : Prop :=
  (∀ a, (k0_off660 v6768) a + S1x64x1024.size a ≤ S32x128x4096.size a) ∧
  (∀ (hinb : ∀ a, (k0_off660 v6768) a + S1x64x1024.size a ≤ S32x128x4096.size a), (Rect.unit (s := S32x128x4096) (k0_off660 v6768) S1x64x1024.size hinb).WholeWords (EltTy.packing .fp8e5m2)) ∧
  (∀ a, (k0_off662 v6768) a + S1x64x1024.size a ≤ S32x128x4096.size a) ∧
  (∀ (hinb : ∀ a, (k0_off662 v6768) a + S1x64x1024.size a ≤ S32x128x4096.size a), (Rect.unit (s := S32x128x4096) (k0_off662 v6768) S1x64x1024.size hinb).WholeWords (EltTy.packing .fp8e5m2)) ∧
  (∀ a, (k0_off664 v6768) a + S1x64x1024.size a ≤ S32x128x4096.size a) ∧
  (∀ (hinb : ∀ a, (k0_off664 v6768) a + S1x64x1024.size a ≤ S32x128x4096.size a), (Rect.unit (s := S32x128x4096) (k0_off664 v6768) S1x64x1024.size hinb).WholeWords (EltTy.packing .fp8e5m2)) ∧
  (∀ a, (k0_off666 v6768) a + S1x64x1024.size a ≤ S32x128x4096.size a) ∧
  (∀ (hinb : ∀ a, (k0_off666 v6768) a + S1x64x1024.size a ≤ S32x128x4096.size a), (Rect.unit (s := S32x128x4096) (k0_off666 v6768) S1x64x1024.size hinb).WholeWords (EltTy.packing .fp8e5m2))
theorem k0_off660_inb : ∀ (v6768 : BitVec 32) (k0_hw120 : k0_chk120 v6768), ∀ a, (k0_off660 v6768) a + S1x64x1024.size a ≤ S32x128x4096.size a := fun v6768 k0_hw120 => k0_hw120.1
theorem k0_off660_wordsfp8e5m2 : ∀ (v6768 : BitVec 32) (k0_hw120 : k0_chk120 v6768), (Rect.unit (s := S32x128x4096) (k0_off660 v6768) S1x64x1024.size (k0_off660_inb v6768 k0_hw120)).WholeWords (EltTy.packing .fp8e5m2) := fun v6768 k0_hw120 => k0_hw120.2.1 (k0_off660_inb v6768 k0_hw120)
theorem k0_off662_inb : ∀ (v6768 : BitVec 32) (k0_hw120 : k0_chk120 v6768), ∀ a, (k0_off662 v6768) a + S1x64x1024.size a ≤ S32x128x4096.size a := fun v6768 k0_hw120 => k0_hw120.2.2.1
theorem k0_off662_wordsfp8e5m2 : ∀ (v6768 : BitVec 32) (k0_hw120 : k0_chk120 v6768), (Rect.unit (s := S32x128x4096) (k0_off662 v6768) S1x64x1024.size (k0_off662_inb v6768 k0_hw120)).WholeWords (EltTy.packing .fp8e5m2) := fun v6768 k0_hw120 => k0_hw120.2.2.2.1 (k0_off662_inb v6768 k0_hw120)
theorem k0_off664_inb : ∀ (v6768 : BitVec 32) (k0_hw120 : k0_chk120 v6768), ∀ a, (k0_off664 v6768) a + S1x64x1024.size a ≤ S32x128x4096.size a := fun v6768 k0_hw120 => k0_hw120.2.2.2.2.1
theorem k0_off664_wordsfp8e5m2 : ∀ (v6768 : BitVec 32) (k0_hw120 : k0_chk120 v6768), (Rect.unit (s := S32x128x4096) (k0_off664 v6768) S1x64x1024.size (k0_off664_inb v6768 k0_hw120)).WholeWords (EltTy.packing .fp8e5m2) := fun v6768 k0_hw120 => k0_hw120.2.2.2.2.2.1 (k0_off664_inb v6768 k0_hw120)
theorem k0_off666_inb : ∀ (v6768 : BitVec 32) (k0_hw120 : k0_chk120 v6768), ∀ a, (k0_off666 v6768) a + S1x64x1024.size a ≤ S32x128x4096.size a := fun v6768 k0_hw120 => k0_hw120.2.2.2.2.2.2.1
theorem k0_off666_wordsfp8e5m2 : ∀ (v6768 : BitVec 32) (k0_hw120 : k0_chk120 v6768), (Rect.unit (s := S32x128x4096) (k0_off666 v6768) S1x64x1024.size (k0_off666_inb v6768 k0_hw120)).WholeWords (EltTy.packing .fp8e5m2) := fun v6768 k0_hw120 => k0_hw120.2.2.2.2.2.2.2 (k0_off666_inb v6768 k0_hw120)

def k0_off667 (d0 : Dev nD) : Fin 2 → Nat :=
  let c28_7417 : Index := 28#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v6817 : Index := Scalar.indexCast v2
  ![28, v6817.toNat]
def k0_off668 (v6818 : BitVec 32) : Fin 3 → Nat :=
  let c0_i32_7424 : BitVec 32 := 0#32
  let c0_i32_7425 : BitVec 32 := 0#32
  ![v6818.toNat, 0, 0]

def k0_off669 (v6820 : BitVec 32) : Fin 3 → Nat :=
  let c64_i32_7433 : BitVec 32 := 64#32
  let c0_i32_7434 : BitVec 32 := 0#32
  ![v6820.toNat, 64, 0]

def k0_off670 (v6818 : BitVec 32) : Fin 3 → Nat :=
  let c0_i32_7442 : BitVec 32 := 0#32
  let c1024_i32_7443 : BitVec 32 := 1024#32
  ![v6818.toNat, 0, 1024]
def k0_off671 (v6820 : BitVec 32) : Fin 3 → Nat :=
  let c64_i32_7451 : BitVec 32 := 64#32
  let c1024_i32_7452 : BitVec 32 := 1024#32
  ![v6820.toNat, 64, 1024]
def k0_off672 (v6818 : BitVec 32) : Fin 3 → Nat :=
  let c0_i32_7460 : BitVec 32 := 0#32
  let c2048_i32_7461 : BitVec 32 := 2048#32
  ![v6818.toNat, 0, 2048]
def k0_off673 (v6820 : BitVec 32) : Fin 3 → Nat :=
  let c64_i32_7469 : BitVec 32 := 64#32
  let c2048_i32_7470 : BitVec 32 := 2048#32
  ![v6820.toNat, 64, 2048]
def k0_off674 (v6818 : BitVec 32) : Fin 3 → Nat :=
  let c0_i32_7478 : BitVec 32 := 0#32
  let c3072_i32_7479 : BitVec 32 := 3072#32
  ![v6818.toNat, 0, 3072]

def k0_chk121 (v6818 : BitVec 32) : Prop :=
  (∀ a, (k0_off668 v6818) a + S1x64x1024.size a ≤ S32x128x4096.size a) ∧
  (∀ (hinb : ∀ a, (k0_off668 v6818) a + S1x64x1024.size a ≤ S32x128x4096.size a), (Rect.unit (s := S32x128x4096) (k0_off668 v6818) S1x64x1024.size hinb).WholeWords (EltTy.packing .fp8e5m2)) ∧
  (∀ a, (k0_off670 v6818) a + S1x64x1024.size a ≤ S32x128x4096.size a) ∧
  (∀ (hinb : ∀ a, (k0_off670 v6818) a + S1x64x1024.size a ≤ S32x128x4096.size a), (Rect.unit (s := S32x128x4096) (k0_off670 v6818) S1x64x1024.size hinb).WholeWords (EltTy.packing .fp8e5m2)) ∧
  (∀ a, (k0_off672 v6818) a + S1x64x1024.size a ≤ S32x128x4096.size a) ∧
  (∀ (hinb : ∀ a, (k0_off672 v6818) a + S1x64x1024.size a ≤ S32x128x4096.size a), (Rect.unit (s := S32x128x4096) (k0_off672 v6818) S1x64x1024.size hinb).WholeWords (EltTy.packing .fp8e5m2)) ∧
  (∀ a, (k0_off674 v6818) a + S1x64x1024.size a ≤ S32x128x4096.size a) ∧
  (∀ (hinb : ∀ a, (k0_off674 v6818) a + S1x64x1024.size a ≤ S32x128x4096.size a), (Rect.unit (s := S32x128x4096) (k0_off674 v6818) S1x64x1024.size hinb).WholeWords (EltTy.packing .fp8e5m2))
theorem k0_off668_inb : ∀ (v6818 : BitVec 32) (k0_hw121 : k0_chk121 v6818), ∀ a, (k0_off668 v6818) a + S1x64x1024.size a ≤ S32x128x4096.size a := fun v6818 k0_hw121 => k0_hw121.1
theorem k0_off668_wordsfp8e5m2 : ∀ (v6818 : BitVec 32) (k0_hw121 : k0_chk121 v6818), (Rect.unit (s := S32x128x4096) (k0_off668 v6818) S1x64x1024.size (k0_off668_inb v6818 k0_hw121)).WholeWords (EltTy.packing .fp8e5m2) := fun v6818 k0_hw121 => k0_hw121.2.1 (k0_off668_inb v6818 k0_hw121)
theorem k0_off670_inb : ∀ (v6818 : BitVec 32) (k0_hw121 : k0_chk121 v6818), ∀ a, (k0_off670 v6818) a + S1x64x1024.size a ≤ S32x128x4096.size a := fun v6818 k0_hw121 => k0_hw121.2.2.1
theorem k0_off670_wordsfp8e5m2 : ∀ (v6818 : BitVec 32) (k0_hw121 : k0_chk121 v6818), (Rect.unit (s := S32x128x4096) (k0_off670 v6818) S1x64x1024.size (k0_off670_inb v6818 k0_hw121)).WholeWords (EltTy.packing .fp8e5m2) := fun v6818 k0_hw121 => k0_hw121.2.2.2.1 (k0_off670_inb v6818 k0_hw121)
theorem k0_off672_inb : ∀ (v6818 : BitVec 32) (k0_hw121 : k0_chk121 v6818), ∀ a, (k0_off672 v6818) a + S1x64x1024.size a ≤ S32x128x4096.size a := fun v6818 k0_hw121 => k0_hw121.2.2.2.2.1
theorem k0_off672_wordsfp8e5m2 : ∀ (v6818 : BitVec 32) (k0_hw121 : k0_chk121 v6818), (Rect.unit (s := S32x128x4096) (k0_off672 v6818) S1x64x1024.size (k0_off672_inb v6818 k0_hw121)).WholeWords (EltTy.packing .fp8e5m2) := fun v6818 k0_hw121 => k0_hw121.2.2.2.2.2.1 (k0_off672_inb v6818 k0_hw121)
theorem k0_off674_inb : ∀ (v6818 : BitVec 32) (k0_hw121 : k0_chk121 v6818), ∀ a, (k0_off674 v6818) a + S1x64x1024.size a ≤ S32x128x4096.size a := fun v6818 k0_hw121 => k0_hw121.2.2.2.2.2.2.1
theorem k0_off674_wordsfp8e5m2 : ∀ (v6818 : BitVec 32) (k0_hw121 : k0_chk121 v6818), (Rect.unit (s := S32x128x4096) (k0_off674 v6818) S1x64x1024.size (k0_off674_inb v6818 k0_hw121)).WholeWords (EltTy.packing .fp8e5m2) := fun v6818 k0_hw121 => k0_hw121.2.2.2.2.2.2.2 (k0_off674_inb v6818 k0_hw121)

def k0_off675 (v6820 : BitVec 32) : Fin 3 → Nat :=
  let c64_i32_7487 : BitVec 32 := 64#32
  let c3072_i32_7488 : BitVec 32 := 3072#32
  ![v6820.toNat, 64, 3072]

def k0_chk122 (v6820 : BitVec 32) : Prop :=
  (∀ a, (k0_off669 v6820) a + S1x64x1024.size a ≤ S32x128x4096.size a) ∧
  (∀ (hinb : ∀ a, (k0_off669 v6820) a + S1x64x1024.size a ≤ S32x128x4096.size a), (Rect.unit (s := S32x128x4096) (k0_off669 v6820) S1x64x1024.size hinb).WholeWords (EltTy.packing .fp8e5m2)) ∧
  (∀ a, (k0_off671 v6820) a + S1x64x1024.size a ≤ S32x128x4096.size a) ∧
  (∀ (hinb : ∀ a, (k0_off671 v6820) a + S1x64x1024.size a ≤ S32x128x4096.size a), (Rect.unit (s := S32x128x4096) (k0_off671 v6820) S1x64x1024.size hinb).WholeWords (EltTy.packing .fp8e5m2)) ∧
  (∀ a, (k0_off673 v6820) a + S1x64x1024.size a ≤ S32x128x4096.size a) ∧
  (∀ (hinb : ∀ a, (k0_off673 v6820) a + S1x64x1024.size a ≤ S32x128x4096.size a), (Rect.unit (s := S32x128x4096) (k0_off673 v6820) S1x64x1024.size hinb).WholeWords (EltTy.packing .fp8e5m2)) ∧
  (∀ a, (k0_off675 v6820) a + S1x64x1024.size a ≤ S32x128x4096.size a) ∧
  (∀ (hinb : ∀ a, (k0_off675 v6820) a + S1x64x1024.size a ≤ S32x128x4096.size a), (Rect.unit (s := S32x128x4096) (k0_off675 v6820) S1x64x1024.size hinb).WholeWords (EltTy.packing .fp8e5m2))
theorem k0_off669_inb : ∀ (v6820 : BitVec 32) (k0_hw122 : k0_chk122 v6820), ∀ a, (k0_off669 v6820) a + S1x64x1024.size a ≤ S32x128x4096.size a := fun v6820 k0_hw122 => k0_hw122.1
theorem k0_off669_wordsfp8e5m2 : ∀ (v6820 : BitVec 32) (k0_hw122 : k0_chk122 v6820), (Rect.unit (s := S32x128x4096) (k0_off669 v6820) S1x64x1024.size (k0_off669_inb v6820 k0_hw122)).WholeWords (EltTy.packing .fp8e5m2) := fun v6820 k0_hw122 => k0_hw122.2.1 (k0_off669_inb v6820 k0_hw122)
theorem k0_off671_inb : ∀ (v6820 : BitVec 32) (k0_hw122 : k0_chk122 v6820), ∀ a, (k0_off671 v6820) a + S1x64x1024.size a ≤ S32x128x4096.size a := fun v6820 k0_hw122 => k0_hw122.2.2.1
theorem k0_off671_wordsfp8e5m2 : ∀ (v6820 : BitVec 32) (k0_hw122 : k0_chk122 v6820), (Rect.unit (s := S32x128x4096) (k0_off671 v6820) S1x64x1024.size (k0_off671_inb v6820 k0_hw122)).WholeWords (EltTy.packing .fp8e5m2) := fun v6820 k0_hw122 => k0_hw122.2.2.2.1 (k0_off671_inb v6820 k0_hw122)
theorem k0_off673_inb : ∀ (v6820 : BitVec 32) (k0_hw122 : k0_chk122 v6820), ∀ a, (k0_off673 v6820) a + S1x64x1024.size a ≤ S32x128x4096.size a := fun v6820 k0_hw122 => k0_hw122.2.2.2.2.1
theorem k0_off673_wordsfp8e5m2 : ∀ (v6820 : BitVec 32) (k0_hw122 : k0_chk122 v6820), (Rect.unit (s := S32x128x4096) (k0_off673 v6820) S1x64x1024.size (k0_off673_inb v6820 k0_hw122)).WholeWords (EltTy.packing .fp8e5m2) := fun v6820 k0_hw122 => k0_hw122.2.2.2.2.2.1 (k0_off673_inb v6820 k0_hw122)
theorem k0_off675_inb : ∀ (v6820 : BitVec 32) (k0_hw122 : k0_chk122 v6820), ∀ a, (k0_off675 v6820) a + S1x64x1024.size a ≤ S32x128x4096.size a := fun v6820 k0_hw122 => k0_hw122.2.2.2.2.2.2.1
theorem k0_off675_wordsfp8e5m2 : ∀ (v6820 : BitVec 32) (k0_hw122 : k0_chk122 v6820), (Rect.unit (s := S32x128x4096) (k0_off675 v6820) S1x64x1024.size (k0_off675_inb v6820 k0_hw122)).WholeWords (EltTy.packing .fp8e5m2) := fun v6820 k0_hw122 => k0_hw122.2.2.2.2.2.2.2 (k0_off675_inb v6820 k0_hw122)

def k0_off676 (d0 : Dev nD) : Fin 2 → Nat :=
  let c29_7491 : Index := 29#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v6869 : Index := Scalar.indexCast v2
  ![29, v6869.toNat]
def k0_off677 (v6870 : BitVec 32) : Fin 3 → Nat :=
  let c0_i32_7498 : BitVec 32 := 0#32
  let c0_i32_7499 : BitVec 32 := 0#32
  ![v6870.toNat, 0, 0]

def k0_off678 (v6872 : BitVec 32) : Fin 3 → Nat :=
  let c64_i32_7507 : BitVec 32 := 64#32
  let c0_i32_7508 : BitVec 32 := 0#32
  ![v6872.toNat, 64, 0]

def k0_off679 (v6870 : BitVec 32) : Fin 3 → Nat :=
  let c0_i32_7516 : BitVec 32 := 0#32
  let c1024_i32_7517 : BitVec 32 := 1024#32
  ![v6870.toNat, 0, 1024]
def k0_off680 (v6872 : BitVec 32) : Fin 3 → Nat :=
  let c64_i32_7525 : BitVec 32 := 64#32
  let c1024_i32_7526 : BitVec 32 := 1024#32
  ![v6872.toNat, 64, 1024]
def k0_off681 (v6870 : BitVec 32) : Fin 3 → Nat :=
  let c0_i32_7534 : BitVec 32 := 0#32
  let c2048_i32_7535 : BitVec 32 := 2048#32
  ![v6870.toNat, 0, 2048]
def k0_off682 (v6872 : BitVec 32) : Fin 3 → Nat :=
  let c64_i32_7543 : BitVec 32 := 64#32
  let c2048_i32_7544 : BitVec 32 := 2048#32
  ![v6872.toNat, 64, 2048]
def k0_off683 (v6870 : BitVec 32) : Fin 3 → Nat :=
  let c0_i32_7552 : BitVec 32 := 0#32
  let c3072_i32_7553 : BitVec 32 := 3072#32
  ![v6870.toNat, 0, 3072]

def k0_chk123 (v6870 : BitVec 32) : Prop :=
  (∀ a, (k0_off677 v6870) a + S1x64x1024.size a ≤ S32x128x4096.size a) ∧
  (∀ (hinb : ∀ a, (k0_off677 v6870) a + S1x64x1024.size a ≤ S32x128x4096.size a), (Rect.unit (s := S32x128x4096) (k0_off677 v6870) S1x64x1024.size hinb).WholeWords (EltTy.packing .fp8e5m2)) ∧
  (∀ a, (k0_off679 v6870) a + S1x64x1024.size a ≤ S32x128x4096.size a) ∧
  (∀ (hinb : ∀ a, (k0_off679 v6870) a + S1x64x1024.size a ≤ S32x128x4096.size a), (Rect.unit (s := S32x128x4096) (k0_off679 v6870) S1x64x1024.size hinb).WholeWords (EltTy.packing .fp8e5m2)) ∧
  (∀ a, (k0_off681 v6870) a + S1x64x1024.size a ≤ S32x128x4096.size a) ∧
  (∀ (hinb : ∀ a, (k0_off681 v6870) a + S1x64x1024.size a ≤ S32x128x4096.size a), (Rect.unit (s := S32x128x4096) (k0_off681 v6870) S1x64x1024.size hinb).WholeWords (EltTy.packing .fp8e5m2)) ∧
  (∀ a, (k0_off683 v6870) a + S1x64x1024.size a ≤ S32x128x4096.size a) ∧
  (∀ (hinb : ∀ a, (k0_off683 v6870) a + S1x64x1024.size a ≤ S32x128x4096.size a), (Rect.unit (s := S32x128x4096) (k0_off683 v6870) S1x64x1024.size hinb).WholeWords (EltTy.packing .fp8e5m2))
theorem k0_off677_inb : ∀ (v6870 : BitVec 32) (k0_hw123 : k0_chk123 v6870), ∀ a, (k0_off677 v6870) a + S1x64x1024.size a ≤ S32x128x4096.size a := fun v6870 k0_hw123 => k0_hw123.1
theorem k0_off677_wordsfp8e5m2 : ∀ (v6870 : BitVec 32) (k0_hw123 : k0_chk123 v6870), (Rect.unit (s := S32x128x4096) (k0_off677 v6870) S1x64x1024.size (k0_off677_inb v6870 k0_hw123)).WholeWords (EltTy.packing .fp8e5m2) := fun v6870 k0_hw123 => k0_hw123.2.1 (k0_off677_inb v6870 k0_hw123)
theorem k0_off679_inb : ∀ (v6870 : BitVec 32) (k0_hw123 : k0_chk123 v6870), ∀ a, (k0_off679 v6870) a + S1x64x1024.size a ≤ S32x128x4096.size a := fun v6870 k0_hw123 => k0_hw123.2.2.1
theorem k0_off679_wordsfp8e5m2 : ∀ (v6870 : BitVec 32) (k0_hw123 : k0_chk123 v6870), (Rect.unit (s := S32x128x4096) (k0_off679 v6870) S1x64x1024.size (k0_off679_inb v6870 k0_hw123)).WholeWords (EltTy.packing .fp8e5m2) := fun v6870 k0_hw123 => k0_hw123.2.2.2.1 (k0_off679_inb v6870 k0_hw123)
theorem k0_off681_inb : ∀ (v6870 : BitVec 32) (k0_hw123 : k0_chk123 v6870), ∀ a, (k0_off681 v6870) a + S1x64x1024.size a ≤ S32x128x4096.size a := fun v6870 k0_hw123 => k0_hw123.2.2.2.2.1
theorem k0_off681_wordsfp8e5m2 : ∀ (v6870 : BitVec 32) (k0_hw123 : k0_chk123 v6870), (Rect.unit (s := S32x128x4096) (k0_off681 v6870) S1x64x1024.size (k0_off681_inb v6870 k0_hw123)).WholeWords (EltTy.packing .fp8e5m2) := fun v6870 k0_hw123 => k0_hw123.2.2.2.2.2.1 (k0_off681_inb v6870 k0_hw123)
theorem k0_off683_inb : ∀ (v6870 : BitVec 32) (k0_hw123 : k0_chk123 v6870), ∀ a, (k0_off683 v6870) a + S1x64x1024.size a ≤ S32x128x4096.size a := fun v6870 k0_hw123 => k0_hw123.2.2.2.2.2.2.1
theorem k0_off683_wordsfp8e5m2 : ∀ (v6870 : BitVec 32) (k0_hw123 : k0_chk123 v6870), (Rect.unit (s := S32x128x4096) (k0_off683 v6870) S1x64x1024.size (k0_off683_inb v6870 k0_hw123)).WholeWords (EltTy.packing .fp8e5m2) := fun v6870 k0_hw123 => k0_hw123.2.2.2.2.2.2.2 (k0_off683_inb v6870 k0_hw123)

def k0_off684 (v6872 : BitVec 32) : Fin 3 → Nat :=
  let c64_i32_7561 : BitVec 32 := 64#32
  let c3072_i32_7562 : BitVec 32 := 3072#32
  ![v6872.toNat, 64, 3072]

def k0_chk124 (v6872 : BitVec 32) : Prop :=
  (∀ a, (k0_off678 v6872) a + S1x64x1024.size a ≤ S32x128x4096.size a) ∧
  (∀ (hinb : ∀ a, (k0_off678 v6872) a + S1x64x1024.size a ≤ S32x128x4096.size a), (Rect.unit (s := S32x128x4096) (k0_off678 v6872) S1x64x1024.size hinb).WholeWords (EltTy.packing .fp8e5m2)) ∧
  (∀ a, (k0_off680 v6872) a + S1x64x1024.size a ≤ S32x128x4096.size a) ∧
  (∀ (hinb : ∀ a, (k0_off680 v6872) a + S1x64x1024.size a ≤ S32x128x4096.size a), (Rect.unit (s := S32x128x4096) (k0_off680 v6872) S1x64x1024.size hinb).WholeWords (EltTy.packing .fp8e5m2)) ∧
  (∀ a, (k0_off682 v6872) a + S1x64x1024.size a ≤ S32x128x4096.size a) ∧
  (∀ (hinb : ∀ a, (k0_off682 v6872) a + S1x64x1024.size a ≤ S32x128x4096.size a), (Rect.unit (s := S32x128x4096) (k0_off682 v6872) S1x64x1024.size hinb).WholeWords (EltTy.packing .fp8e5m2)) ∧
  (∀ a, (k0_off684 v6872) a + S1x64x1024.size a ≤ S32x128x4096.size a) ∧
  (∀ (hinb : ∀ a, (k0_off684 v6872) a + S1x64x1024.size a ≤ S32x128x4096.size a), (Rect.unit (s := S32x128x4096) (k0_off684 v6872) S1x64x1024.size hinb).WholeWords (EltTy.packing .fp8e5m2))
theorem k0_off678_inb : ∀ (v6872 : BitVec 32) (k0_hw124 : k0_chk124 v6872), ∀ a, (k0_off678 v6872) a + S1x64x1024.size a ≤ S32x128x4096.size a := fun v6872 k0_hw124 => k0_hw124.1
theorem k0_off678_wordsfp8e5m2 : ∀ (v6872 : BitVec 32) (k0_hw124 : k0_chk124 v6872), (Rect.unit (s := S32x128x4096) (k0_off678 v6872) S1x64x1024.size (k0_off678_inb v6872 k0_hw124)).WholeWords (EltTy.packing .fp8e5m2) := fun v6872 k0_hw124 => k0_hw124.2.1 (k0_off678_inb v6872 k0_hw124)
theorem k0_off680_inb : ∀ (v6872 : BitVec 32) (k0_hw124 : k0_chk124 v6872), ∀ a, (k0_off680 v6872) a + S1x64x1024.size a ≤ S32x128x4096.size a := fun v6872 k0_hw124 => k0_hw124.2.2.1
theorem k0_off680_wordsfp8e5m2 : ∀ (v6872 : BitVec 32) (k0_hw124 : k0_chk124 v6872), (Rect.unit (s := S32x128x4096) (k0_off680 v6872) S1x64x1024.size (k0_off680_inb v6872 k0_hw124)).WholeWords (EltTy.packing .fp8e5m2) := fun v6872 k0_hw124 => k0_hw124.2.2.2.1 (k0_off680_inb v6872 k0_hw124)
theorem k0_off682_inb : ∀ (v6872 : BitVec 32) (k0_hw124 : k0_chk124 v6872), ∀ a, (k0_off682 v6872) a + S1x64x1024.size a ≤ S32x128x4096.size a := fun v6872 k0_hw124 => k0_hw124.2.2.2.2.1
theorem k0_off682_wordsfp8e5m2 : ∀ (v6872 : BitVec 32) (k0_hw124 : k0_chk124 v6872), (Rect.unit (s := S32x128x4096) (k0_off682 v6872) S1x64x1024.size (k0_off682_inb v6872 k0_hw124)).WholeWords (EltTy.packing .fp8e5m2) := fun v6872 k0_hw124 => k0_hw124.2.2.2.2.2.1 (k0_off682_inb v6872 k0_hw124)
theorem k0_off684_inb : ∀ (v6872 : BitVec 32) (k0_hw124 : k0_chk124 v6872), ∀ a, (k0_off684 v6872) a + S1x64x1024.size a ≤ S32x128x4096.size a := fun v6872 k0_hw124 => k0_hw124.2.2.2.2.2.2.1
theorem k0_off684_wordsfp8e5m2 : ∀ (v6872 : BitVec 32) (k0_hw124 : k0_chk124 v6872), (Rect.unit (s := S32x128x4096) (k0_off684 v6872) S1x64x1024.size (k0_off684_inb v6872 k0_hw124)).WholeWords (EltTy.packing .fp8e5m2) := fun v6872 k0_hw124 => k0_hw124.2.2.2.2.2.2.2 (k0_off684_inb v6872 k0_hw124)

def k0_off685 (d0 : Dev nD) : Fin 2 → Nat :=
  let c30_7565 : Index := 30#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v6921 : Index := Scalar.indexCast v2
  ![30, v6921.toNat]
def k0_off686 (v6922 : BitVec 32) : Fin 3 → Nat :=
  let c0_i32_7572 : BitVec 32 := 0#32
  let c0_i32_7573 : BitVec 32 := 0#32
  ![v6922.toNat, 0, 0]

def k0_off687 (v6924 : BitVec 32) : Fin 3 → Nat :=
  let c64_i32_7581 : BitVec 32 := 64#32
  let c0_i32_7582 : BitVec 32 := 0#32
  ![v6924.toNat, 64, 0]

def k0_off688 (v6922 : BitVec 32) : Fin 3 → Nat :=
  let c0_i32_7590 : BitVec 32 := 0#32
  let c1024_i32_7591 : BitVec 32 := 1024#32
  ![v6922.toNat, 0, 1024]
def k0_off689 (v6924 : BitVec 32) : Fin 3 → Nat :=
  let c64_i32_7599 : BitVec 32 := 64#32
  let c1024_i32_7600 : BitVec 32 := 1024#32
  ![v6924.toNat, 64, 1024]
def k0_off690 (v6922 : BitVec 32) : Fin 3 → Nat :=
  let c0_i32_7608 : BitVec 32 := 0#32
  let c2048_i32_7609 : BitVec 32 := 2048#32
  ![v6922.toNat, 0, 2048]
def k0_off691 (v6924 : BitVec 32) : Fin 3 → Nat :=
  let c64_i32_7617 : BitVec 32 := 64#32
  let c2048_i32_7618 : BitVec 32 := 2048#32
  ![v6924.toNat, 64, 2048]
def k0_off692 (v6922 : BitVec 32) : Fin 3 → Nat :=
  let c0_i32_7626 : BitVec 32 := 0#32
  let c3072_i32_7627 : BitVec 32 := 3072#32
  ![v6922.toNat, 0, 3072]

def k0_chk125 (v6922 : BitVec 32) : Prop :=
  (∀ a, (k0_off686 v6922) a + S1x64x1024.size a ≤ S32x128x4096.size a) ∧
  (∀ (hinb : ∀ a, (k0_off686 v6922) a + S1x64x1024.size a ≤ S32x128x4096.size a), (Rect.unit (s := S32x128x4096) (k0_off686 v6922) S1x64x1024.size hinb).WholeWords (EltTy.packing .fp8e5m2)) ∧
  (∀ a, (k0_off688 v6922) a + S1x64x1024.size a ≤ S32x128x4096.size a) ∧
  (∀ (hinb : ∀ a, (k0_off688 v6922) a + S1x64x1024.size a ≤ S32x128x4096.size a), (Rect.unit (s := S32x128x4096) (k0_off688 v6922) S1x64x1024.size hinb).WholeWords (EltTy.packing .fp8e5m2)) ∧
  (∀ a, (k0_off690 v6922) a + S1x64x1024.size a ≤ S32x128x4096.size a) ∧
  (∀ (hinb : ∀ a, (k0_off690 v6922) a + S1x64x1024.size a ≤ S32x128x4096.size a), (Rect.unit (s := S32x128x4096) (k0_off690 v6922) S1x64x1024.size hinb).WholeWords (EltTy.packing .fp8e5m2)) ∧
  (∀ a, (k0_off692 v6922) a + S1x64x1024.size a ≤ S32x128x4096.size a) ∧
  (∀ (hinb : ∀ a, (k0_off692 v6922) a + S1x64x1024.size a ≤ S32x128x4096.size a), (Rect.unit (s := S32x128x4096) (k0_off692 v6922) S1x64x1024.size hinb).WholeWords (EltTy.packing .fp8e5m2))
theorem k0_off686_inb : ∀ (v6922 : BitVec 32) (k0_hw125 : k0_chk125 v6922), ∀ a, (k0_off686 v6922) a + S1x64x1024.size a ≤ S32x128x4096.size a := fun v6922 k0_hw125 => k0_hw125.1
theorem k0_off686_wordsfp8e5m2 : ∀ (v6922 : BitVec 32) (k0_hw125 : k0_chk125 v6922), (Rect.unit (s := S32x128x4096) (k0_off686 v6922) S1x64x1024.size (k0_off686_inb v6922 k0_hw125)).WholeWords (EltTy.packing .fp8e5m2) := fun v6922 k0_hw125 => k0_hw125.2.1 (k0_off686_inb v6922 k0_hw125)
theorem k0_off688_inb : ∀ (v6922 : BitVec 32) (k0_hw125 : k0_chk125 v6922), ∀ a, (k0_off688 v6922) a + S1x64x1024.size a ≤ S32x128x4096.size a := fun v6922 k0_hw125 => k0_hw125.2.2.1
theorem k0_off688_wordsfp8e5m2 : ∀ (v6922 : BitVec 32) (k0_hw125 : k0_chk125 v6922), (Rect.unit (s := S32x128x4096) (k0_off688 v6922) S1x64x1024.size (k0_off688_inb v6922 k0_hw125)).WholeWords (EltTy.packing .fp8e5m2) := fun v6922 k0_hw125 => k0_hw125.2.2.2.1 (k0_off688_inb v6922 k0_hw125)
theorem k0_off690_inb : ∀ (v6922 : BitVec 32) (k0_hw125 : k0_chk125 v6922), ∀ a, (k0_off690 v6922) a + S1x64x1024.size a ≤ S32x128x4096.size a := fun v6922 k0_hw125 => k0_hw125.2.2.2.2.1
theorem k0_off690_wordsfp8e5m2 : ∀ (v6922 : BitVec 32) (k0_hw125 : k0_chk125 v6922), (Rect.unit (s := S32x128x4096) (k0_off690 v6922) S1x64x1024.size (k0_off690_inb v6922 k0_hw125)).WholeWords (EltTy.packing .fp8e5m2) := fun v6922 k0_hw125 => k0_hw125.2.2.2.2.2.1 (k0_off690_inb v6922 k0_hw125)
theorem k0_off692_inb : ∀ (v6922 : BitVec 32) (k0_hw125 : k0_chk125 v6922), ∀ a, (k0_off692 v6922) a + S1x64x1024.size a ≤ S32x128x4096.size a := fun v6922 k0_hw125 => k0_hw125.2.2.2.2.2.2.1
theorem k0_off692_wordsfp8e5m2 : ∀ (v6922 : BitVec 32) (k0_hw125 : k0_chk125 v6922), (Rect.unit (s := S32x128x4096) (k0_off692 v6922) S1x64x1024.size (k0_off692_inb v6922 k0_hw125)).WholeWords (EltTy.packing .fp8e5m2) := fun v6922 k0_hw125 => k0_hw125.2.2.2.2.2.2.2 (k0_off692_inb v6922 k0_hw125)

def k0_off693 (v6924 : BitVec 32) : Fin 3 → Nat :=
  let c64_i32_7635 : BitVec 32 := 64#32
  let c3072_i32_7636 : BitVec 32 := 3072#32
  ![v6924.toNat, 64, 3072]

def k0_chk126 (v6924 : BitVec 32) : Prop :=
  (∀ a, (k0_off687 v6924) a + S1x64x1024.size a ≤ S32x128x4096.size a) ∧
  (∀ (hinb : ∀ a, (k0_off687 v6924) a + S1x64x1024.size a ≤ S32x128x4096.size a), (Rect.unit (s := S32x128x4096) (k0_off687 v6924) S1x64x1024.size hinb).WholeWords (EltTy.packing .fp8e5m2)) ∧
  (∀ a, (k0_off689 v6924) a + S1x64x1024.size a ≤ S32x128x4096.size a) ∧
  (∀ (hinb : ∀ a, (k0_off689 v6924) a + S1x64x1024.size a ≤ S32x128x4096.size a), (Rect.unit (s := S32x128x4096) (k0_off689 v6924) S1x64x1024.size hinb).WholeWords (EltTy.packing .fp8e5m2)) ∧
  (∀ a, (k0_off691 v6924) a + S1x64x1024.size a ≤ S32x128x4096.size a) ∧
  (∀ (hinb : ∀ a, (k0_off691 v6924) a + S1x64x1024.size a ≤ S32x128x4096.size a), (Rect.unit (s := S32x128x4096) (k0_off691 v6924) S1x64x1024.size hinb).WholeWords (EltTy.packing .fp8e5m2)) ∧
  (∀ a, (k0_off693 v6924) a + S1x64x1024.size a ≤ S32x128x4096.size a) ∧
  (∀ (hinb : ∀ a, (k0_off693 v6924) a + S1x64x1024.size a ≤ S32x128x4096.size a), (Rect.unit (s := S32x128x4096) (k0_off693 v6924) S1x64x1024.size hinb).WholeWords (EltTy.packing .fp8e5m2))
theorem k0_off687_inb : ∀ (v6924 : BitVec 32) (k0_hw126 : k0_chk126 v6924), ∀ a, (k0_off687 v6924) a + S1x64x1024.size a ≤ S32x128x4096.size a := fun v6924 k0_hw126 => k0_hw126.1
theorem k0_off687_wordsfp8e5m2 : ∀ (v6924 : BitVec 32) (k0_hw126 : k0_chk126 v6924), (Rect.unit (s := S32x128x4096) (k0_off687 v6924) S1x64x1024.size (k0_off687_inb v6924 k0_hw126)).WholeWords (EltTy.packing .fp8e5m2) := fun v6924 k0_hw126 => k0_hw126.2.1 (k0_off687_inb v6924 k0_hw126)
theorem k0_off689_inb : ∀ (v6924 : BitVec 32) (k0_hw126 : k0_chk126 v6924), ∀ a, (k0_off689 v6924) a + S1x64x1024.size a ≤ S32x128x4096.size a := fun v6924 k0_hw126 => k0_hw126.2.2.1
theorem k0_off689_wordsfp8e5m2 : ∀ (v6924 : BitVec 32) (k0_hw126 : k0_chk126 v6924), (Rect.unit (s := S32x128x4096) (k0_off689 v6924) S1x64x1024.size (k0_off689_inb v6924 k0_hw126)).WholeWords (EltTy.packing .fp8e5m2) := fun v6924 k0_hw126 => k0_hw126.2.2.2.1 (k0_off689_inb v6924 k0_hw126)
theorem k0_off691_inb : ∀ (v6924 : BitVec 32) (k0_hw126 : k0_chk126 v6924), ∀ a, (k0_off691 v6924) a + S1x64x1024.size a ≤ S32x128x4096.size a := fun v6924 k0_hw126 => k0_hw126.2.2.2.2.1
theorem k0_off691_wordsfp8e5m2 : ∀ (v6924 : BitVec 32) (k0_hw126 : k0_chk126 v6924), (Rect.unit (s := S32x128x4096) (k0_off691 v6924) S1x64x1024.size (k0_off691_inb v6924 k0_hw126)).WholeWords (EltTy.packing .fp8e5m2) := fun v6924 k0_hw126 => k0_hw126.2.2.2.2.2.1 (k0_off691_inb v6924 k0_hw126)
theorem k0_off693_inb : ∀ (v6924 : BitVec 32) (k0_hw126 : k0_chk126 v6924), ∀ a, (k0_off693 v6924) a + S1x64x1024.size a ≤ S32x128x4096.size a := fun v6924 k0_hw126 => k0_hw126.2.2.2.2.2.2.1
theorem k0_off693_wordsfp8e5m2 : ∀ (v6924 : BitVec 32) (k0_hw126 : k0_chk126 v6924), (Rect.unit (s := S32x128x4096) (k0_off693 v6924) S1x64x1024.size (k0_off693_inb v6924 k0_hw126)).WholeWords (EltTy.packing .fp8e5m2) := fun v6924 k0_hw126 => k0_hw126.2.2.2.2.2.2.2 (k0_off693_inb v6924 k0_hw126)

abbrev stage0_0 : Fin 1 → Memref sig .tc .vmem S128x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x64 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S32 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S32 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S32x32 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S32x32 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e5m2⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e5m2⟩
  | .local _ .vmem, ⟨1, _⟩ => ⟨S4096x2048, .fp8e5m2⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Struct.lean ====
module

public import proofs.«01_k».proof.Proof.Gen.KernelIdeal.Skeleton

@[expose] public section

noncomputable section

namespace Cert.KernelIdeal.Hops

open Idealize.ShloMosaic Idealize.SL.Sem Cert.KernelIdeal Cert.KernelIdeal.Gen

variable {F : FTy → Type} [FloatOps F]

/-! # The kernel's body as a loop over hops

The printed body is unrolled: thirty-one hops of four column segments in each direction, then as many
waits for the sends.  Here the same operations are written once, at a symbolic hop, segment and block. -/

/-- A block's segment starts here: block `n`, row `r` of the block, column `k`. -/
abbrev segOff (n r k : ℕ) : Fin 3 → ℕ := ![n, r, k]

/-- A 64-row, 1024-column segment of a block lies in the gathered array. -/
theorem segOff_inb {n r k : ℕ} (hn : n < 32) (hr : r ≤ 64) (hk : k ≤ 3072) :
    ∀ a, segOff n r k a + S1x64x1024.size a ≤ S32x128x4096.size a := by
  intro a; fin_cases a
  · show n + 1 ≤ 32; omega
  · show r + 64 ≤ 128; omega
  · show k + 1024 ≤ 4096; omega

/-- A 64-row half of a block lies in the gathered array. -/
theorem halfOff_inb {n r : ℕ} (hn : n < 32) (hr : r ≤ 64) :
    ∀ a, segOff n r 0 a + S1x64x4096.size a ≤ S32x128x4096.size a := by
  intro a; fin_cases a
  · show n + 1 ≤ 32; omega
  · show r + 64 ≤ 128; omega
  · show 0 + 4096 ≤ 4096; omega

/-- A semaphore of a 32 by 4 array of them. -/
theorem semOff_inb {h s : ℕ} (hh : h < 32) (hs : s < 4) :
    ∀ a, (![h, s] : Fin 2 → ℕ) a + S1x1.size a ≤ S32x4.size a := by
  intro a; fin_cases a
  · show h + 1 ≤ 32; omega
  · show s + 1 ≤ 4; omega

/-- The device's own number, as the kernel computes it. -/
abbrev myW (d : Dev nD) : BitVec 32 := Scalar.remsi (Scalar.divsi (Dev.word d) 1#32) 32#32

theorem myW_toNat (d : Dev nD) : (myW d).toNat = d.val := by revert d; decide

/-- An entry of a 32 by 32 table, in this device's column. -/
theorem tabOff_inb {h : ℕ} (d : Dev nD) (hh : h < 32) :
    ∀ a, (![h, (myW d).toNat] : Fin 2 → ℕ) a + S1x1.size a ≤ S32x32.size a := by
  intro a; rw [myW_toNat]; have := d.isLt; fin_cases a
  · show h + 1 ≤ 32; omega
  · show d.val + 1 ≤ 32; change d.val < 32 at this; omega

/-- A segment of a block starts and ends at a word. -/
theorem seg_words {n r k : ℕ} (hr : 4 ∣ r) (h : ∀ a, segOff n r k a + S1x64x1024.size a ≤ S32x128x4096.size a) :
    (Rect.unit (s := S32x128x4096) (segOff n r k) S1x64x1024.size h).WholeWords (EltTy.packing .fp8e5m2) :=
  have h2 : 2 ≤ S32x128x4096.rank := by decide
  .inl (.inr ⟨h2, rfl, .inl ⟨hr, (by decide : 4 ∣ 64)⟩⟩)

/-- So does a whole block. -/
theorem block_words {n : ℕ} (h : ∀ a, segOff n 0 0 a + S1x128x4096.size a ≤ S32x128x4096.size a) :
    (Rect.unit (s := S32x128x4096) (segOff n 0 0) S1x128x4096.size h).WholeWords (EltTy.packing .fp8e5m2) :=
  have h2 : 2 ≤ S32x128x4096.rank := by decide
  .inl (.inr ⟨h2, rfl, .inl ⟨(by decide : 4 ∣ 0), (by decide : 4 ∣ 128)⟩⟩)

section

variable (arg0 : Memref sig .tc .vmem S128x4096 .fp8e5m2) (harg0 : arg0.IsWhole) (arg1 : Memref sig .tc .vmem S4096x64 .fp8e5m2) (harg1 : arg1.IsWhole) (arg2 : Memref sig .tc .smem S1x1 .f32) (harg2 : arg2.IsWhole) (arg3 : Memref sig .tc .smem S32 .i32) (harg3 : arg3.IsWhole) (arg4 : Memref sig .tc .smem S32 .i32) (harg4 : arg4.IsWhole) (arg5 : Memref sig .tc .smem S32x32 .i32) (harg5 : arg5.IsWhole) (arg6 : Memref sig .tc .smem S32x32 .i32) (harg6 : arg6.IsWhole) (arg7 : Memref sig .tc .vmem S4096x64 .f32) (harg7 : arg7.IsWhole) (arg8 : Memref sig .tc .vmem S32x128x4096 .fp8e5m2) (harg8 : arg8.IsWhole) (arg9 : DmaSems sig S_) (arg10 : DmaSems sig S32x4) (arg11 : DmaSems sig S32x4) (arg12 : DmaSems sig S32x4) (arg13 : DmaSems sig S32x4)

/-- Programs of a device's core. -/
abbrev PG (F : FTy → Type) (α : Type) := Prog (TpuEff nD τ sig (Elt F) Λ₀ .tc) α

/-- Segment `(n, r, k)` of the gathered array. -/
abbrev segV (n r k : ℕ) (h : ∀ a, segOff n r k a + S1x64x1024.size a ≤ S32x128x4096.size a) :
    Memref sig .tc .vmem S64x1024 .fp8e5m2 :=
  (arg8.slice (Rect.unit (s := S32x128x4096) (segOff n r k) S1x64x1024.size h) (fun _ => rfl)).squeeze S64x1024 squeezes_S1x64x1024_S64x1024

/-- Semaphore `(h, s)` of an array of them. -/
abbrev semAt (A : DmaSems sig S32x4) (h s : ℕ) (hh : h < 32) (hs : s < 4) : DmaSems sig S_ :=
  (A.slice (Rect.unit (s := S32x4) ![h, s] S1x1.size (semOff_inb hh hs))).squeeze S_ squeezes_S1x1_S_

/-- Start the copy of a segment to device `dst`, into the same place there. -/
def start (sS sR : DmaSems sig S32x4) (dst : Dev nD) (h s : ℕ) (hh : h < 32) (hs : s < 4) (n r : ℕ) (hn : n < 32)
    (hr : r ≤ 64) (hr4 : 4 ∣ r) : PG F PUnit :=
  Prog.lift (.enqueueDma (segV arg8 n r (1024 * s) (segOff_inb hn hr (by omega)))
    (.remote (Dev.tc dst) (segV arg8 n r (1024 * s) (segOff_inb hn hr (by omega))) (.dma (semAt sS h s hh hs).sem))
    (.dma (semAt sR h s hh hs).sem) ((harg8.wordExact_slice rfl _ (seg_words hr4 _)).reshape _ _)
    ((harg8.wordExact_slice rfl _ (seg_words hr4 _)).reshape _ _) ⟨⟨rfl, Or.inl rfl⟩, trivial⟩)

/-- Wait at a semaphore for one segment. -/
def await (sA : DmaSems sig S32x4) (h s : ℕ) (hh : h < 32) (hs : s < 4) (n r : ℕ) (hn : n < 32)
    (hr : r ≤ 64) (hr4 : 4 ∣ r) : PG F PUnit :=
  Prog.lift (.waitDma2 (semAt sA h s hh hs).sem (segV arg8 n r (1024 * s) (segOff_inb hn hr (by omega)))
    (segV arg8 n r (1024 * s) (segOff_inb hn hr (by omega))) ((harg8.wordExact_slice rfl _ (seg_words hr4 _)).reshape _ _)
    ((harg8.wordExact_slice rfl _ (seg_words hr4 _)).reshape _ _))

/-- The rows of the result a half block's product goes to. -/
abbrev rowOff (v r : BitVec 32) : Fin 2 → ℕ := ![(Scalar.addi (Scalar.muli v 128#32) r).toNat, 0]

theorem rowOff_toNat {v : BitVec 32} (hv : v.toNat < 32) (r : ℕ) (hr : r ≤ 64) :
    (Scalar.addi (Scalar.muli v 128#32) (BitVec.ofNat 32 r)).toNat = 128 * v.toNat + r := by
  show (v * 128#32 + BitVec.ofNat 32 r).toNat = _
  rw [BitVec.toNat_add, BitVec.toNat_mul, BitVec.toNat_ofNat, BitVec.toNat_ofNat]; omega

theorem rowOff_inb {v : BitVec 32} (hv : v.toNat < 32) (r : ℕ) (hr : r ≤ 64) :
    ∀ a, rowOff v (BitVec.ofNat 32 r) a + S64x64.size a ≤ S4096x64.size a := by
  intro a; fin_cases a
  · show (Scalar.addi (Scalar.muli v 128#32) (BitVec.ofNat 32 r)).toNat + 64 ≤ 4096
    rw [rowOff_toNat hv r hr]; omega
  · show 0 + 64 ≤ 64; omega

/-- The product of one half block, stored to its rows of the result. -/
def halfGemm (sc : Elt F .f32) (w : FVec F S4096x64 .fp8e5m2) (v : BitVec 32) (hv : v.toNat < 32) (r : ℕ) (hr : r ≤ 64) : PG F PUnit := do
  let a : Vec F S1x64x4096 .fp8e5m2 ← Prog.lift (.load arg8 (Rect.unit (s := S32x128x4096) (segOff v.toNat r 0) S1x64x4096.size (halfOff_inb hv hr)).toLoadRect (View.loadsAt_vmem h_S1x64x4096))
  let _o : Vec F S64x64 .f32 ← Prog.lift (.load arg7 (Rect.unit (s := S4096x64) (rowOff v (BitVec.ofNat 32 r)) S64x64.size (rowOff_inb hv r hr)).toLoadRect (View.loadsAt_vmem h_S64x64))
  Prog.lift (.store arg7 (Rect.unit (s := S4096x64) (rowOff v (BitVec.ofNat 32 r)) S64x64.size (rowOff_inb hv r hr)) (k0_pay3 sc w a) Finset.univ (View.stores_vmem_bits_univ h_S64x64 rfl) (.inl rfl))

theorem chk3_lt {v : BitVec 32} (h : k0_chk3 v) : v.toNat < 32 := by
  have := h.1 0; change v.toNat + 1 ≤ 32 at this; omega
theorem chk4_lt {v : BitVec 32} (h : k0_chk4 v) : v.toNat < 32 := by
  have := h.1 0; change v.toNat + 1 ≤ 32 at this; omega
theorem chk65_lt {v : BitVec 32} (h : k0_chk65 v) : v.toNat < 32 := by
  have := h.1 0; change v.toNat + 1 ≤ 32 at this; omega
theorem chk66_lt {v : BitVec 32} (h : k0_chk66 v) : v.toNat < 32 := by
  have := h.1 0; change v.toNat + 1 ≤ 32 at this; omega

/-- Read a table's entry at row `h`, in the device's column. -/
abbrev tab (A : Memref sig .tc .smem S32x32 .i32) (d0 : Dev nD) (h : ℕ) (hh : h < 32) : PG F (Elt F .i32) :=
  smemLoad A (Rect.unit (s := S32x32) ![h, (myW d0).toNat] S1x1.size (tabOff_inb d0 hh)) numel1_S1x1 rfl

/-- One segment of a hop: wait for it from one side, pass it on to the other; then the same in the other direction. -/
def hopSeg (rn ln : Dev nD) (h : ℕ) (hh : h < 31) (cw ccw : BitVec 32) (hcw : cw.toNat < 32) (hccw : ccw.toNat < 32)
    (s : ℕ) (hs : s < 4) : PG F PUnit := do
  await arg8 harg8 arg11 h s (by omega) hs cw.toNat 0 hcw (by omega) (by decide)
  if h < 30 then start arg8 harg8 arg10 arg11 rn (h + 1) s (by omega) hs cw.toNat 0 hcw (by omega) (by decide)
  await arg8 harg8 arg13 h s (by omega) hs ccw.toNat 64 hccw (by omega) (by decide)
  if h < 30 then start arg8 harg8 arg12 arg13 ln (h + 1) s (by omega) hs ccw.toNat 64 hccw (by omega) (by decide)

/-- One hop: the four segments, then the products of the two half blocks that have come. -/
def hop (d0 rn ln : Dev nD) (sc : Elt F .f32) (w : FVec F S4096x64 .fp8e5m2) (h : ℕ) (hh : h < 31) : PG F PUnit := do
  let cw : Elt F .i32 ← tab arg5 d0 (h + 1) (by omega)
  let hcw : PLift (k0_chk3 cw) ← Prog.lift (TpuEff.assume (k0_chk3 cw) (k0_chk3.dec cw))
  let ccw : Elt F .i32 ← tab arg6 d0 (h + 1) (by omega)
  let hccw : PLift (k0_chk4 ccw) ← Prog.lift (TpuEff.assume (k0_chk4 ccw) (k0_chk4.dec ccw))
  hopSeg arg8 harg8 arg10 arg11 arg12 arg13 rn ln h hh cw ccw (chk3_lt hcw.down) (chk4_lt hccw.down) 0 (by omega)
  hopSeg arg8 harg8 arg10 arg11 arg12 arg13 rn ln h hh cw ccw (chk3_lt hcw.down) (chk4_lt hccw.down) 1 (by omega)
  hopSeg arg8 harg8 arg10 arg11 arg12 arg13 rn ln h hh cw ccw (chk3_lt hcw.down) (chk4_lt hccw.down) 2 (by omega)
  hopSeg arg8 harg8 arg10 arg11 arg12 arg13 rn ln h hh cw ccw (chk3_lt hcw.down) (chk4_lt hccw.down) 3 (by omega)
  halfGemm arg7 arg8 sc w cw (chk3_lt hcw.down) 0 (by omega)
  halfGemm arg7 arg8 sc w ccw (chk4_lt hccw.down) 64 (by omega)

/-- One hop's sends, waited for. -/
def drainSeg (h : ℕ) (hh : h < 31) (cw ccw : BitVec 32) (hcw : cw.toNat < 32) (hccw : ccw.toNat < 32)
    (s : ℕ) (hs : s < 4) : PG F PUnit := do
  await arg8 harg8 arg10 h s (by omega) hs cw.toNat 0 hcw (by omega) (by decide)
  await arg8 harg8 arg12 h s (by omega) hs ccw.toNat 64 hccw (by omega) (by decide)

def drain (d0 : Dev nD) (h : ℕ) (hh : h < 31) : PG F PUnit := do
  let cw : Elt F .i32 ← tab arg5 d0 h (by omega)
  let hcw : PLift (k0_chk65 cw) ← Prog.lift (TpuEff.assume (k0_chk65 cw) (k0_chk65.dec cw))
  let ccw : Elt F .i32 ← tab arg6 d0 h (by omega)
  let hccw : PLift (k0_chk66 ccw) ← Prog.lift (TpuEff.assume (k0_chk66 ccw) (k0_chk66.dec ccw))
  drainSeg arg8 harg8 arg10 arg12 h hh cw ccw (chk65_lt hcw.down) (chk66_lt hccw.down) 0 (by omega)
  drainSeg arg8 harg8 arg10 arg12 h hh cw ccw (chk65_lt hcw.down) (chk66_lt hccw.down) 1 (by omega)
  drainSeg arg8 harg8 arg10 arg12 h hh cw ccw (chk65_lt hcw.down) (chk66_lt hccw.down) 2 (by omega)
  drainSeg arg8 harg8 arg10 arg12 h hh cw ccw (chk65_lt hcw.down) (chk66_lt hccw.down) 3 (by omega)

/-- Rounds `h, h + 1, …`, `n` of them. -/
def loop {N : ℕ} (f : (h : ℕ) → h < N → PG F PUnit) : (n h : ℕ) → (h + n ≤ N) → PG F PUnit
  | 0, _, _ => pure ⟨⟩
  | n + 1, h, hh => do f h (by omega); loop f n (h + 1) (by omega)

/-- The barrier, then the copy of the device's own block into its slot of the gathered array. -/
def prologue (d0 rn ln : Dev nD) : PG F PUnit := do
  semSignalWord ln (SemArray.scalar (sig.barrier 0 rfl) : Sems sig S_).sem 1#32
  semSignalWord rn (SemArray.scalar (sig.barrier 0 rfl) : Sems sig S_).sem 1#32
  semWaitWord (SemArray.scalar (sig.barrier 0 rfl) : Sems sig S_).sem 2#32
  Prog.lift (.enqueueDma arg0 (.here ((arg8.slice (Rect.unit (s := S32x128x4096) (k0_off2 d0) S1x128x4096.size (k0_off2_inb d0)) (fun _ => rfl)).squeeze S128x4096 squeezes_S1x128x4096_S128x4096)) (.dma arg9.sem) harg0.wordExact ((harg8.wordExact_slice rfl _ (k0_off2_wordsfp8e5m2 d0)).reshape _ _) ⟨Or.inl rfl, trivial⟩)
  Prog.lift (.waitDma2 arg9.sem arg0 ((arg8.slice (Rect.unit (s := S32x128x4096) (k0_off2 d0) S1x128x4096.size (k0_off2_inb d0)) (fun _ => rfl)).squeeze S128x4096 squeezes_S1x128x4096_S128x4096) harg0.wordExact ((harg8.wordExact_slice rfl _ (k0_off2_wordsfp8e5m2 d0)).reshape _ _))

/-- One segment of the device's own block, sent both ways. -/
def firstSeg (d0 rn ln : Dev nD) (s : ℕ) (hs : s < 4) : PG F PUnit := do
  start arg8 harg8 arg10 arg11 rn 0 s (by omega) hs (myW d0).toNat 0 (by rw [myW_toNat]; exact d0.isLt) (by omega) (by decide)
  start arg8 harg8 arg12 arg13 ln 0 s (by omega) hs (myW d0).toNat 64 (by rw [myW_toNat]; exact d0.isLt) (by omega) (by decide)

/-- The product of the device's own block. -/
def ownGemm (d0 : Dev nD) (sc : Elt F .f32) (w : FVec F S4096x64 .fp8e5m2) : PG F PUnit := do
  let a : Vec F S128x4096 .fp8e5m2 ← Prog.lift (.load arg0 (Rect.unit (s := S128x4096) ![0, 0] S128x4096.size inb_S128x4096_S128x4096_0_0).toLoadRect (View.loadsAt_vmem h_S128x4096))
  let _o : Vec F S128x64 .f32 ← Prog.lift (.load arg7 (Rect.unit (s := S4096x64) (k0_off11 d0) S128x64.size (k0_off11_inb d0)).toLoadRect (View.loadsAt_vmem h_S128x64))
  Prog.lift (.store arg7 (Rect.unit (s := S4096x64) (k0_off11 d0) S128x64.size (k0_off11_inb d0)) (k0_pay2 sc w a) Finset.univ (View.stores_vmem_bits_univ h_S128x64 rfl) (.inl rfl))

/-- The body: who the neighbours are, the barrier and the own block, thirty-one hops, and the sends waited for. -/
def body : PG F PUnit := do
  let d0 : Dev nD ← Prog.lift .deviceId
  let v4 : Elt F .i32 ← smemLoad arg3 (Rect.unit (s := S32) (k0_off1 d0) S1.size (k0_off1_inb d0)) numel1_S1 rfl
  let h2 : PLift (k0_chk2 v4) ← Prog.lift (TpuEff.assume (k0_chk2 v4) (k0_chk2.dec v4))
  let v6 : Elt F .i32 ← smemLoad arg4 (Rect.unit (s := S32) (k0_off1 d0) S1.size (k0_off1_inb d0)) numel1_S1 rfl
  let h1 : PLift (k0_chk1 v6) ← Prog.lift (TpuEff.assume (k0_chk1 v6) (k0_chk1.dec v6))
  prologue arg0 harg0 arg8 harg8 arg9 d0 ⟨k0_dev2 v4, k0_dev2_lt v4 h2.down⟩ ⟨k0_dev1 v6, k0_dev1_lt v6 h1.down⟩
  let sc : Elt F .f32 ← smemLoad arg2 (Rect.unit (s := S1x1) ![0, 0] S1x1.size inb_S1x1_S1x1_0_0) numel1_S1x1 rfl
  let w : Vec F S4096x64 .fp8e5m2 ← Prog.lift (.load arg1 (Rect.unit (s := S4096x64) ![0, 0] S4096x64.size inb_S4096x64_S4096x64_0_0).toLoadRect (View.loadsAt_vmem h_S4096x64))
  firstSeg arg8 harg8 arg10 arg11 arg12 arg13 d0 ⟨k0_dev2 v4, k0_dev2_lt v4 h2.down⟩ ⟨k0_dev1 v6, k0_dev1_lt v6 h1.down⟩ 0 (by omega)
  firstSeg arg8 harg8 arg10 arg11 arg12 arg13 d0 ⟨k0_dev2 v4, k0_dev2_lt v4 h2.down⟩ ⟨k0_dev1 v6, k0_dev1_lt v6 h1.down⟩ 1 (by omega)
  firstSeg arg8 harg8 arg10 arg11 arg12 arg13 d0 ⟨k0_dev2 v4, k0_dev2_lt v4 h2.down⟩ ⟨k0_dev1 v6, k0_dev1_lt v6 h1.down⟩ 2 (by omega)
  firstSeg arg8 harg8 arg10 arg11 arg12 arg13 d0 ⟨k0_dev2 v4, k0_dev2_lt v4 h2.down⟩ ⟨k0_dev1 v6, k0_dev1_lt v6 h1.down⟩ 3 (by omega)
  ownGemm arg0 arg7 d0 sc (k0_pay1 w)
  loop (fun h hh => hop arg5 arg6 arg7 arg8 harg8 arg10 arg11 arg12 arg13 d0 ⟨k0_dev2 v4, k0_dev2_lt v4 h2.down⟩ ⟨k0_dev1 v6, k0_dev1_lt v6 h1.down⟩ sc (k0_pay1 w) h hh) 31 0 (by omega)
  loop (fun h hh => drain arg5 arg6 arg8 harg8 arg10 arg12 d0 h hh) 31 0 (by omega)

/-- Two programs that ask for the same thing and go on alike are the same. -/
theorem op_congr {α β : Type} {e e' : TpuEff nD τ sig (Elt F) Λ₀ .tc β} {k k' : β → PG F α} (he : e = e')
    (hk : ∀ x, k x = k' x) : (Prog.op e k : PG F α) = Prog.op e' k' := by
  subst he; exact congrArg _ (funext hk)

end

end Cert.KernelIdeal.Hops
end
-- ==== Proof.StructEq.lean ====
module

public import proofs.«01_k».proof.Proof.Struct

@[expose] public section

noncomputable section

namespace Cert.KernelIdeal.Hops

open Idealize.ShloMosaic Idealize.SL.Sem Cert.KernelIdeal Cert.KernelIdeal.Gen

variable {F : FTy → Type} [FloatOps F]

set_option maxRecDepth 65536 in
set_option maxHeartbeats 4000000 in
/-- The printed body is the loop. -/
theorem body_eq (arg0 : Memref sig .tc .vmem S128x4096 .fp8e5m2) (harg0 : arg0.IsWhole) (arg1 : Memref sig .tc .vmem S4096x64 .fp8e5m2) (harg1 : arg1.IsWhole) (arg2 : Memref sig .tc .smem S1x1 .f32) (harg2 : arg2.IsWhole) (arg3 : Memref sig .tc .smem S32 .i32) (harg3 : arg3.IsWhole) (arg4 : Memref sig .tc .smem S32 .i32) (harg4 : arg4.IsWhole) (arg5 : Memref sig .tc .smem S32x32 .i32) (harg5 : arg5.IsWhole) (arg6 : Memref sig .tc .smem S32x32 .i32) (harg6 : arg6.IsWhole) (arg7 : Memref sig .tc .vmem S4096x64 .f32) (harg7 : arg7.IsWhole) (arg8 : Memref sig .tc .vmem S32x128x4096 .fp8e5m2) (harg8 : arg8.IsWhole) (arg9 : DmaSems sig S_) (arg10 : DmaSems sig S32x4) (arg11 : DmaSems sig S32x4) (arg12 : DmaSems sig S32x4) (arg13 : DmaSems sig S32x4) :
    cc0_body (F := F) arg0 harg0 arg1 harg1 arg2 harg2 arg3 harg3 arg4 harg4 arg5 harg5 arg6 harg6 arg7 harg7 arg8 harg8 arg9 arg10 arg11 arg12 arg13
      = body arg0 harg0 arg1 arg2 arg3 arg4 arg5 arg6 arg7 arg8 harg8 arg9 arg10 arg11 arg12 arg13 := by
  repeat (refine op_congr rfl fun x => ?_)
  rfl

end Cert.KernelIdeal.Hops
end
-- ==== Proof.Tables.lean ====
module

public import proofs.«01_k».proof.Proof.Struct

@[expose] public section

noncomputable section

namespace Cert.KernelIdeal.Hops

open Idealize.ShloMosaic Idealize.SL.Sem Cert.KernelIdeal Cert.KernelIdeal.Gen

/-! # The two rings, and whose block is where

Direction `0` is the one of rows 0 to 63 of a block, direction `1` that of rows 64 to 127.  `nb d c` is the
device that device `c` sends to in direction `d`, and `slot d h c` the block that device `c` passes on at
hop `h`: its own at hop 0, then the one that came at the hop before. -/

/-- The device that `c` sends to in direction `d`. -/
def nb (d : ℕ) (c : Dev nD) : Dev nD :=
  ⟨((if d = 0 then lit0 c else lit1 c : BitVec 32)).toNat % 32, Nat.mod_lt _ (by decide)⟩

/-- The device that sends to `c` in direction `d`: the other direction's neighbour. -/
def pv (d : ℕ) (c : Dev nD) : Dev nD := nb (1 - d) c

/-- The block that `c` passes on at hop `h` in direction `d`. -/
def slot (d h : ℕ) (c : Dev nD) : ℕ :=
  ((if d = 0 then lit2 (Fin.ofNat 1024 (32 * h + c.val)) else lit3 (Fin.ofNat 1024 (32 * h + c.val)) : BitVec 32)).toNat

theorem nb0_eq : ∀ c : Fin 32, (lit0 c).toNat < 32 := by decide +kernel
theorem nb1_eq : ∀ c : Fin 32, (lit1 c).toNat < 32 := by decide +kernel
theorem nb_pv01 : ∀ c : Dev nD, nb 0 (nb 1 c) = c := by decide +kernel
theorem nb_pv10 : ∀ c : Dev nD, nb 1 (nb 0 c) = c := by decide +kernel
theorem slot_lt0 : ∀ h c : Fin 32, slot 0 h.val c < 32 := by decide +kernel
theorem slot_lt1 : ∀ h c : Fin 32, slot 1 h.val c < 32 := by decide +kernel
theorem slot_own0 : ∀ c : Fin 32, slot 0 0 c = c.val := by decide +kernel
theorem slot_own1 : ∀ c : Fin 32, slot 1 0 c = c.val := by decide +kernel
theorem slot_next0 : ∀ (h : Fin 31) (c : Fin 32), slot 0 (h.val + 1) (nb 0 c) = slot 0 h.val c := by decide +kernel
theorem slot_next1 : ∀ (h : Fin 31) (c : Fin 32), slot 1 (h.val + 1) (nb 1 c) = slot 1 h.val c := by decide +kernel
theorem slot_onto0 : ∀ c n : Fin 32, ∃ h : Fin 32, slot 0 h.val c = n.val := by decide +kernel
theorem slot_onto1 : ∀ c n : Fin 32, ∃ h : Fin 32, slot 1 h.val c = n.val := by decide +kernel

section
variable {d h h' : ℕ} (c : Dev nD)

theorem slot_lt (hd : d < 2) (hh : h < 32) : slot d h c < 32 := by
  obtain rfl | rfl : d = 0 ∨ d = 1 := by omega
  · exact slot_lt0 ⟨h, hh⟩ c
  · exact slot_lt1 ⟨h, hh⟩ c

theorem slot_own (hd : d < 2) : slot d 0 c = c.val := by
  obtain rfl | rfl : d = 0 ∨ d = 1 := by omega
  · exact slot_own0 c
  · exact slot_own1 c

theorem slot_nb (hd : d < 2) (hh : h < 31) : slot d (h + 1) (nb d c) = slot d h c := by
  obtain rfl | rfl : d = 0 ∨ d = 1 := by omega
  · exact slot_next0 ⟨h, hh⟩ c
  · exact slot_next1 ⟨h, hh⟩ c

theorem nb_pv (hd : d < 2) : nb d (pv d c) = c := by
  obtain rfl | rfl : d = 0 ∨ d = 1 := by omega
  · exact nb_pv01 c
  · exact nb_pv10 c

theorem pv_nb (hd : d < 2) : pv d (nb d c) = c := by
  obtain rfl | rfl : d = 0 ∨ d = 1 := by omega
  · exact nb_pv10 c
  · exact nb_pv01 c

theorem slot_onto (hd : d < 2) {n : ℕ} (hn : n < 32) : ∃ h < 32, slot d h c = n := by
  obtain rfl | rfl : d = 0 ∨ d = 1 := by omega
  · obtain ⟨h, e⟩ := slot_onto0 c ⟨n, hn⟩; exact ⟨h, h.isLt, e⟩
  · obtain ⟨h, e⟩ := slot_onto1 c ⟨n, hn⟩; exact ⟨h, h.isLt, e⟩

/-- A device passes on a different block at every hop. -/
theorem slot_inj (hd : d < 2) (hh : h < 32) (hh' : h' < 32) (e : slot d h c = slot d h' c) : h = h' := by
  let f : Fin 32 → Fin 32 := fun k => ⟨slot d k.val c, slot_lt c hd k.isLt⟩
  have hs : Function.Surjective f := fun n => by
    obtain ⟨k, hk, e⟩ := slot_onto c hd n.isLt; exact ⟨⟨k, hk⟩, Fin.ext e⟩
  have := (Finite.injective_iff_surjective.mpr hs : Function.Injective f) (a₁ := ⟨h, hh⟩) (a₂ := ⟨h', hh'⟩) (Fin.ext e)
  exact congrArg Fin.val this

end

/-- `nb` in a direction is a permutation of the devices. -/
def ring (d : Fin 2) : Dev nD ≃ Dev nD := ⟨nb d, pv d, fun c => pv_nb c d.isLt, fun c => nb_pv c d.isLt⟩

/-! ## What the kernel's assumptions ask of the table's words -/

theorem chk2_tab : ∀ c : Fin 32, k0_chk2 (lit0 c) := by decide +kernel
theorem chk1_tab : ∀ c : Fin 32, k0_chk1 (lit1 c) := by decide +kernel

theorem dev2_tab (c : Dev nD) (h : k0_chk2 (lit0 c)) : (⟨k0_dev2 (lit0 c), k0_dev2_lt _ h⟩ : Dev nD) = nb 0 c := by
  revert h; revert c; decide +kernel

theorem dev1_tab (c : Dev nD) (h : k0_chk1 (lit1 c)) : (⟨k0_dev1 (lit1 c), k0_dev1_lt _ h⟩ : Dev nD) = nb 1 c := by
  revert h; revert c; decide +kernel

variable {v : BitVec 32} (hv : v.toNat < 32)

include hv in
theorem chk3_of_lt : k0_chk3 v :=
  ⟨segOff_inb hv (by decide) (by decide), fun h => seg_words (by decide) h, segOff_inb hv (by decide) (by decide), fun h => seg_words (by decide) h,
    segOff_inb hv (by decide) (by decide), fun h => seg_words (by decide) h, segOff_inb hv (by decide) (by decide), fun h => seg_words (by decide) h,
    halfOff_inb hv (by decide), rowOff_inb hv 0 (by decide)⟩
include hv in
theorem chk4_of_lt : k0_chk4 v :=
  ⟨segOff_inb hv (by decide) (by decide), fun h => seg_words (by decide) h, segOff_inb hv (by decide) (by decide), fun h => seg_words (by decide) h,
    segOff_inb hv (by decide) (by decide), fun h => seg_words (by decide) h, segOff_inb hv (by decide) (by decide), fun h => seg_words (by decide) h,
    halfOff_inb hv (by decide), rowOff_inb hv 64 (by decide)⟩
include hv in
theorem chk65_of_lt : k0_chk65 v :=
  ⟨segOff_inb hv (by decide) (by decide), fun h => seg_words (by decide) h, segOff_inb hv (by decide) (by decide), fun h => seg_words (by decide) h,
    segOff_inb hv (by decide) (by decide), fun h => seg_words (by decide) h, segOff_inb hv (by decide) (by decide), fun h => seg_words (by decide) h⟩
include hv in
theorem chk66_of_lt : k0_chk66 v :=
  ⟨segOff_inb hv (by decide) (by decide), fun h => seg_words (by decide) h, segOff_inb hv (by decide) (by decide), fun h => seg_words (by decide) h,
    segOff_inb hv (by decide) (by decide), fun h => seg_words (by decide) h, segOff_inb hv (by decide) (by decide), fun h => seg_words (by decide) h⟩

end Cert.KernelIdeal.Hops
end
-- ==== Proof.Pieces.lean ====
module

public import proofs.«01_k».proof.Proof.Tables

@[expose] public section

noncomputable section

namespace Cert.KernelIdeal.Hops

open Idealize.ShloMosaic Idealize.SL.Sem Cert.KernelIdeal Cert.KernelIdeal.Gen

/-! # The pieces of the gathered array

Every element of the gathered array is given one number, the key of the copy that carries it away from device
`c`: `8 h + 2 s + d` for segment `s` of the rows of direction `d` of the block passed on at hop `h`.  Piece `k`
is the elements with key `k`; copy `k` has piece `k` as source, and what is waited for at copy `k`'s counterpart
is piece `k + 8`. -/

/-- The hop at which device `c` passes on block `n` in direction `d`. -/
def hopOf (d : ℕ) (c : Dev nD) (n : ℕ) : ℕ :=
  open Classical in if h : ∃ h, h < 32 ∧ slot d h c = n then Nat.find h else 0

theorem hopOf_slot {d h : ℕ} (c : Dev nD) (hd : d < 2) (hh : h < 32) : hopOf d c (slot d h c) = h := by
  classical
  have hx : ∃ h', h' < 32 ∧ slot d h' c = slot d h c := ⟨h, hh, rfl⟩
  rw [hopOf, dif_pos hx]
  have := Nat.find_spec hx
  exact slot_inj c hd this.1 hh this.2

theorem slot_hopOf {d n : ℕ} (c : Dev nD) (hd : d < 2) (hn : n < 32) : hopOf d c n < 32 ∧ slot d (hopOf d c n) c = n := by
  classical
  have hx := slot_onto c hd hn
  rw [hopOf, dif_pos hx]
  exact Nat.find_spec hx

theorem hopOf_own {d : ℕ} (c : Dev nD) (hd : d < 2) : hopOf d c c.val = 0 := by
  have := hopOf_slot c hd (show 0 < 32 by decide)
  rwa [slot_own c hd] at this

/-- The key of an element. -/
def keyOf (c : Dev nD) (i : S32x128x4096.Idx) : ℕ :=
  8 * hopOf ((i (1 : Fin 3)).val / 64) c (i (0 : Fin 3)).val + 2 * ((i (2 : Fin 3)).val / 1024) + (i (1 : Fin 3)).val / 64

theorem i0_lt (i : S32x128x4096.Idx) : (i (0 : Fin 3)).val < 32 := (i (0 : Fin 3)).isLt
theorem i1_lt (i : S32x128x4096.Idx) : (i (1 : Fin 3)).val < 128 := (i (1 : Fin 3)).isLt
theorem i2_lt (i : S32x128x4096.Idx) : (i (2 : Fin 3)).val < 4096 := (i (2 : Fin 3)).isLt

theorem keyOf_lt (c : Dev nD) (i : S32x128x4096.Idx) : keyOf c i < 256 := by
  have h0 := i0_lt i; have h1 := i1_lt i; have h2 := i2_lt i
  have hd : (i (1 : Fin 3)).val / 64 < 2 := by omega
  have := (slot_hopOf c hd h0).1
  show 8 * hopOf ((i (1 : Fin 3)).val / 64) c _ + _ + _ < 256
  omega

/-- The elements with key `k`. -/
def piece (c : Dev nD) (k : ℕ) : Finset S32x128x4096.Idx := Finset.univ.filter fun i => keyOf c i = k
/-- The elements with a key below `n`. -/
def held (c : Dev nD) (n : ℕ) : Finset S32x128x4096.Idx := Finset.univ.filter fun i => keyOf c i < n

theorem mem_piece {c : Dev nD} {k : ℕ} {i : S32x128x4096.Idx} : i ∈ piece c k ↔ keyOf c i = k := by
  rw [piece, Finset.mem_filter]; exact ⟨fun h => h.2, fun h => ⟨Finset.mem_univ _, h⟩⟩
theorem mem_held {c : Dev nD} {n : ℕ} {i : S32x128x4096.Idx} : i ∈ held c n ↔ keyOf c i < n := by
  rw [held, Finset.mem_filter]; exact ⟨fun h => h.2, fun h => ⟨Finset.mem_univ _, h⟩⟩

theorem piece_disjoint (c : Dev nD) {k k' : ℕ} (h : k ≠ k') : Disjoint (piece c k) (piece c k') :=
  Finset.disjoint_left.mpr fun _ hi hj => h ((mem_piece.mp hi).symm.trans (mem_piece.mp hj))
theorem held_disjoint (c : Dev nD) (n : ℕ) : Disjoint (held c n) (piece c n) :=
  Finset.disjoint_left.mpr fun _ hi hj => absurd (mem_piece.mp hj) (Nat.ne_of_lt (mem_held.mp hi))
theorem held_succ (c : Dev nD) (n : ℕ) : held c (n + 1) = held c n ∪ piece c n := by
  ext i; rw [Finset.mem_union, mem_held, mem_held, mem_piece]; omega
theorem held_univ (c : Dev nD) : held c 256 = Finset.univ := by
  ext i; exact ⟨fun _ => Finset.mem_univ _, fun _ => mem_held.mpr (keyOf_lt c i)⟩
theorem biUnion_piece (c : Dev nD) (n : ℕ) : (Finset.range n).biUnion (piece c) = held c n := by
  ext i; rw [Finset.mem_biUnion, mem_held]
  exact ⟨fun ⟨k, hk, hi⟩ => by rw [mem_piece.mp hi]; exact Finset.mem_range.mp hk,
    fun h => ⟨_, Finset.mem_range.mpr h, mem_piece.mpr rfl⟩⟩
theorem biUnion_rest (c : Dev nD) : (Finset.Ico 8 256).biUnion (piece c) = Finset.univ \ held c 8 := by
  ext i; rw [Finset.mem_biUnion, Finset.mem_sdiff, mem_held]
  constructor
  · rintro ⟨k, hk, hi⟩
    have := Finset.mem_Ico.mp hk
    exact ⟨Finset.mem_univ _, by rw [mem_piece.mp hi]; omega⟩
  · rintro ⟨_, h⟩
    exact ⟨_, Finset.mem_Ico.mpr ⟨by omega, keyOf_lt c i⟩, mem_piece.mpr rfl⟩

/-! ## The kernel's views -/

/-- The gathered array. -/
abbrev G8 : Memref sig .tc .vmem S32x128x4096 .fp8e5m2 := Memref.whole cc0_scratch0

theorem mem_seg {n r k : ℕ} (h : ∀ a, segOff n r k a + S1x64x1024.size a ≤ S32x128x4096.size a) (i : S32x128x4096.Idx) :
    i ∈ (segV G8 n r k h).view.set ↔ (i (0 : Fin 3)).val = n ∧ r ≤ (i (1 : Fin 3)).val ∧ (i (1 : Fin 3)).val < r + 64
      ∧ k ≤ (i (2 : Fin 3)).val ∧ (i (2 : Fin 3)).val < k + 1024 := by
  have e : (segV G8 n r k h).view.set = (Rect.unit (s := S32x128x4096) (segOff n r k) S1x64x1024.size h).set :=
    (View.set_reshape _ _).trans (View.set_slice_whole _ _)
  have e' : i ∈ (segV G8 n r k h).view.set ↔ i ∈ (Rect.unit (s := S32x128x4096) (segOff n r k) S1x64x1024.size h).set := by rw [e]
  rw [e', Rect.mem_set_unit]
  constructor
  · intro H
    have h0 : n ≤ (i (0 : Fin 3)).val ∧ (i (0 : Fin 3)).val < n + 1 := H 0
    have h1 : r ≤ (i (1 : Fin 3)).val ∧ (i (1 : Fin 3)).val < r + 64 := H 1
    have h2 : k ≤ (i (2 : Fin 3)).val ∧ (i (2 : Fin 3)).val < k + 1024 := H 2
    omega
  · rintro ⟨h0, h1, h2, h3, h4⟩ a
    fin_cases a
    · show n ≤ (i (0 : Fin 3)).val ∧ (i (0 : Fin 3)).val < n + 1; omega
    · show r ≤ (i (1 : Fin 3)).val ∧ (i (1 : Fin 3)).val < r + 64; omega
    · show k ≤ (i (2 : Fin 3)).val ∧ (i (2 : Fin 3)).val < k + 1024; omega

/-- A segment of the block passed on at a hop is a piece. -/
theorem seg_eq_piece (c : Dev nD) {d h s n r : ℕ} (hd : d < 2) (hh : h < 32) (hs : s < 4) (hn : n = slot d h c) (hr : r = 64 * d)
    (hb : ∀ a, segOff n r (1024 * s) a + S1x64x1024.size a ≤ S32x128x4096.size a) :
    (segV G8 n r (1024 * s) hb).view.set = piece c (8 * h + 2 * s + d) := by
  ext i
  refine (mem_seg hb i).trans ?_
  rw [mem_piece]
  show _ ↔ 8 * hopOf ((i (1 : Fin 3)).val / 64) c (i (0 : Fin 3)).val + 2 * ((i (2 : Fin 3)).val / 1024) + (i (1 : Fin 3)).val / 64 = _
  have h1 := i1_lt i; have h2 := i2_lt i
  subst hn hr
  constructor
  · rintro ⟨e0, e1, e2, e3, e4⟩
    have ed : (i (1 : Fin 3)).val / 64 = d := by omega
    rw [ed, e0, hopOf_slot c hd hh]; omega
  · intro e
    have ed : (i (1 : Fin 3)).val / 64 = d := by omega
    rw [ed] at e
    have hx := slot_hopOf c hd (i0_lt i)
    have eh : hopOf d c (i (0 : Fin 3)).val = h := by omega
    rw [eh] at hx e
    exact ⟨hx.2.symm, by omega, by omega, by omega, by omega⟩

/-- Where a copy of `c` lands on the device it is sent to. -/
theorem piece_nb (c : Dev nD) {d h s : ℕ} (hd : d < 2) (hh : h < 31) (hs : s < 4) :
    piece (nb d c) (8 * h + 2 * s + d + 8) = piece c (8 * h + 2 * s + d) := by
  have hb := segOff_inb (slot_lt c hd (Nat.lt_trans hh (by decide))) (show 64 * d ≤ 64 by omega) (show 1024 * s ≤ 3072 by omega)
  have e1 := seg_eq_piece c (s := s) hd (Nat.lt_trans hh (by decide)) hs rfl rfl hb
  have e2 := seg_eq_piece (nb d c) (h := h + 1) (s := s) hd (by omega) hs (slot_nb c hd hh).symm rfl hb
  rw [← e1, e2]; congr 1; omega

/-- The rows of a half block that has come are among the elements held. -/
theorem mem_half {n r : ℕ} (h : ∀ a, segOff n r 0 a + S1x64x4096.size a ≤ S32x128x4096.size a) (i : S32x128x4096.Idx) :
    i ∈ (G8.access (Rect.unit (s := S32x128x4096) (segOff n r 0) S1x64x4096.size h)).set ↔
      (i (0 : Fin 3)).val = n ∧ r ≤ (i (1 : Fin 3)).val ∧ (i (1 : Fin 3)).val < r + 64 := by
  have e : (G8.access (Rect.unit (s := S32x128x4096) (segOff n r 0) S1x64x4096.size h)).set
      = (Rect.unit (s := S32x128x4096) (segOff n r 0) S1x64x4096.size h).set := View.set_slice_whole _ _
  have e' : i ∈ (G8.access (Rect.unit (s := S32x128x4096) (segOff n r 0) S1x64x4096.size h)).set ↔ i ∈ (Rect.unit (s := S32x128x4096) (segOff n r 0) S1x64x4096.size h).set := by rw [e]
  rw [e', Rect.mem_set_unit]
  have h2 := i2_lt i
  constructor
  · intro H
    have h0 : n ≤ (i (0 : Fin 3)).val ∧ (i (0 : Fin 3)).val < n + 1 := H 0
    have h1 : r ≤ (i (1 : Fin 3)).val ∧ (i (1 : Fin 3)).val < r + 64 := H 1
    omega
  · rintro ⟨h0, h1, h2'⟩ a
    fin_cases a
    · show n ≤ (i (0 : Fin 3)).val ∧ (i (0 : Fin 3)).val < n + 1; omega
    · show r ≤ (i (1 : Fin 3)).val ∧ (i (1 : Fin 3)).val < r + 64; omega
    · show 0 ≤ (i (2 : Fin 3)).val ∧ (i (2 : Fin 3)).val < 0 + 4096; omega

theorem half_subset (c : Dev nD) {d h n r m : ℕ} (hd : d < 2) (hh : h < 32) (hn : n = slot d h c) (hr : r = 64 * d) (hm : 8 * h + 8 ≤ m)
    (hb : ∀ a, segOff n r 0 a + S1x64x4096.size a ≤ S32x128x4096.size a) :
    (G8.access (Rect.unit (s := S32x128x4096) (segOff n r 0) S1x64x4096.size hb)).set ⊆ held c m := by
  intro i hi
  obtain ⟨e0, e1, e2⟩ := (mem_half hb i).mp hi
  have h1 := i1_lt i; have h2 := i2_lt i
  subst hn hr
  refine mem_held.mpr ?_
  show 8 * hopOf ((i (1 : Fin 3)).val / 64) c (i (0 : Fin 3)).val + 2 * ((i (2 : Fin 3)).val / 1024) + (i (1 : Fin 3)).val / 64 < _
  have ed : (i (1 : Fin 3)).val / 64 = d := by omega
  rw [ed, e0, hopOf_slot c hd hh]; omega

/-- The device's own block in the gathered array. -/
abbrev ownV (d0 : Dev nD) : Memref sig .tc .vmem S128x4096 .fp8e5m2 :=
  (G8.slice (Rect.unit (s := S32x128x4096) (k0_off2 d0) S1x128x4096.size (k0_off2_inb d0)) (fun _ => rfl)).squeeze S128x4096 squeezes_S1x128x4096_S128x4096

theorem own_eq_held (c : Dev nD) : (ownV c).view.set = held c 8 := by
  have e : (ownV c).view.set = (Rect.unit (s := S32x128x4096) (k0_off2 c) S1x128x4096.size (k0_off2_inb c)).set :=
    (View.set_reshape _ _).trans (View.set_slice_whole _ _)
  ext i
  have e' : i ∈ (ownV c).view.set ↔ i ∈ (Rect.unit (s := S32x128x4096) (k0_off2 c) S1x128x4096.size (k0_off2_inb c)).set := by rw [e]
  refine e'.trans ?_
  rw [Rect.mem_set_unit, mem_held]
  have h0 := i0_lt i; have h1 := i1_lt i; have h2 := i2_lt i
  have hd : (i (1 : Fin 3)).val / 64 < 2 := by omega
  show _ ↔ 8 * hopOf ((i (1 : Fin 3)).val / 64) c (i (0 : Fin 3)).val + 2 * ((i (2 : Fin 3)).val / 1024) + (i (1 : Fin 3)).val / 64 < _
  constructor
  · intro H
    have H0 := H 0
    rw [k0_off2_eq] at H0
    have H0 : c.val ≤ (i (0 : Fin 3)).val ∧ (i (0 : Fin 3)).val < c.val + 1 := H0
    rw [show (i (0 : Fin 3)).val = c.val by omega, hopOf_own c hd]; omega
  · intro H a
    have hx := slot_hopOf c hd h0
    rw [show hopOf ((i (1 : Fin 3)).val / 64) c (i (0 : Fin 3)).val = 0 by omega, slot_own c hd] at hx
    rw [k0_off2_eq]
    fin_cases a
    · show c.val ≤ (i (0 : Fin 3)).val ∧ (i (0 : Fin 3)).val < c.val + 1; omega
    · show 0 ≤ (i (1 : Fin 3)).val ∧ (i (1 : Fin 3)).val < 0 + 128; omega
    · show 0 ≤ (i (2 : Fin 3)).val ∧ (i (2 : Fin 3)).val < 0 + 4096; omega

end Cert.KernelIdeal.Hops
end
-- ==== Proof.Sched.lean ====
module

public import Idealize.ShloMosaic.Lib.Pipeline.RegionTalk
public import proofs.«01_k».proof.Proof.Gen.KernelIdeal.Launch
public import proofs.«01_k».proof.Proof.Pieces

@[expose] public section

noncomputable section

namespace Cert.KernelIdeal.Hops

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

/-! # The protocol: which semaphore is for what, and what its units hand over -/

/-- A semaphore's use: the barrier, the copy of the own block, the sending or the receiving side of copy `k`, or none. -/
inductive Role : Type
  | bar | copy | send (k : ℕ) | recv (k : ℕ) | idle
  deriving DecidableEq

def roleOf : SemLoc sig → Role
  | .reg _ => .bar
  | .dma i =>
    if i.val < 8 then .idle
    else if i.val = 8 then .copy
    else if (i.val - 9) % 128 / 4 = 31 then .idle
    else if (i.val - 9) / 128 % 2 = 0 then .send (8 * ((i.val - 9) % 128 / 4) + 2 * ((i.val - 9) % 4) + (i.val - 9) / 256)
    else .recv (8 * ((i.val - 9) % 128 / 4) + 2 * ((i.val - 9) % 4) + (i.val - 9) / 256)

/-- The sending side's semaphore of copy `k`, and the receiving side's. -/
def sendS (k : ℕ) : DmaSem sig := (⟨(9 + 256 * (k % 2) + 4 * (k / 8) + k / 2 % 4) % 521, Nat.mod_lt _ (by decide)⟩ : Fin 521)
def recvS (k : ℕ) : DmaSem sig := (⟨(137 + 256 * (k % 2) + 4 * (k / 8) + k / 2 % 4) % 521, Nat.mod_lt _ (by decide)⟩ : Fin 521)
abbrev copyS : DmaSem sig := cc0_scratch1.sem
abbrev barS : Sem sig := (SemArray.scalar (sig.barrier 0 rfl) : Sems sig S_).sem

theorem role_bar (s : Sem sig) : roleOf (.reg s) = .bar := rfl
theorem role_copy : roleOf (.dma copyS) = .copy := by decide
theorem role_send' : ∀ k : Fin 248, roleOf (.dma (sendS k.val)) = .send k.val := by decide +kernel
theorem role_recv' : ∀ k : Fin 248, roleOf (.dma (recvS k.val)) = .recv k.val := by decide +kernel
theorem role_send {k : ℕ} (hk : k < 248) : roleOf (.dma (sendS k)) = .send k := role_send' ⟨k, hk⟩
theorem role_recv {k : ℕ} (hk : k < 248) : roleOf (.dma (recvS k)) = .recv k := role_recv' ⟨k, hk⟩

/-- The kernel's semaphore arrays, read at a hop and a segment. -/
theorem sem10 : ∀ (h : Fin 32) (s : Fin 4), (semAt cc0_scratch2 h.val s.val h.isLt s.isLt).sem = sendS (8 * h.val + 2 * s.val + 0) := by decide +kernel
theorem sem11 : ∀ (h : Fin 32) (s : Fin 4), (semAt cc0_scratch3 h.val s.val h.isLt s.isLt).sem = recvS (8 * h.val + 2 * s.val + 0) := by decide +kernel
theorem sem12 : ∀ (h : Fin 32) (s : Fin 4), (semAt cc0_scratch4 h.val s.val h.isLt s.isLt).sem = sendS (8 * h.val + 2 * s.val + 1) := by decide +kernel
theorem sem13 : ∀ (h : Fin 32) (s : Fin 4), (semAt cc0_scratch5 h.val s.val h.isLt s.isLt).sem = recvS (8 * h.val + 2 * s.val + 1) := by decide +kernel

/-! ## Contents -/

variable {F : FTy → Type}

/-- Row and column of an element in its block. -/
def rowCol (i : S32x128x4096.Idx) : S128x4096.Idx := fun a => match a with
  | ⟨0, _⟩ => i (1 : Fin 3)
  | ⟨1, _⟩ => i (2 : Fin 3)

/-- The gathered array: block `n` is device `n`'s. -/
def GX (X : Dev nD → FVec F S128x4096 .fp8e5m2) : (cc0_scratch0 : Ref sig .tc).ty.Contents (Elt F) :=
  fun (i : S32x128x4096.Idx) => X ⟨(i (0 : Fin 3)).val, i0_lt i⟩ (rowCol i)

/-- Where an element of the own block's view lies. -/
theorem own_emb (c : Dev nD) (j : S128x4096.Idx) :
    (((ownV c).view.emb j : S32x128x4096.Idx) (0 : Fin 3)).val = c.val ∧ rowCol ((ownV c).view.emb j) = j := by
  let y : S1x128x4096.Idx := fun a => match a with
    | ⟨0, _⟩ => ⟨0, Nat.one_pos⟩
    | ⟨1, _⟩ => j (0 : Fin 2)
    | ⟨2, _⟩ => j (1 : Fin 2)
  have e : Shape.reshapeEquiv squeezes_S1x128x4096_S128x4096.numel_eq j = y := by
    refine Shape.reshapeEquiv_eq_of_rowMajor _ ?_
    rw [Shape.rowMajor_val_three, Shape.rowMajor_val_two]
    show (0 * 128 + (j (0 : Fin 2)).val) * 4096 + (j (1 : Fin 2)).val = (j (0 : Fin 2)).val * 4096 + (j (1 : Fin 2)).val
    omega
  have e' : ((ownV c).view.emb j : S32x128x4096.Idx) = (Rect.unit (s := S32x128x4096) (k0_off2 c) S1x128x4096.size (k0_off2_inb c)).emb y := by
    rw [← e]; rfl
  rw [e']
  refine ⟨?_, funext fun a => Fin.ext ?_⟩
  · rw [Rect.emb_apply]
    show k0_off2 c 0 + 1 * 0 = _
    rw [k0_off2_eq]; rfl
  · fin_cases a
    · show ((Rect.unit (s := S32x128x4096) (k0_off2 c) S1x128x4096.size (k0_off2_inb c)).emb y (1 : Fin 3)).val = (j (0 : Fin 2)).val
      rw [Rect.emb_apply]
      show k0_off2 c 1 + 1 * (j (0 : Fin 2)).val = _
      rw [k0_off2_eq]; show 0 + 1 * (j (0 : Fin 2)).val = _; omega
    · show ((Rect.unit (s := S32x128x4096) (k0_off2 c) S1x128x4096.size (k0_off2_inb c)).emb y (2 : Fin 3)).val = (j (1 : Fin 2)).val
      rw [Rect.emb_apply]
      show k0_off2 c 2 + 1 * (j (1 : Fin 2)).val = _
      rw [k0_off2_eq]; show 0 + 1 * (j (1 : Fin 2)).val = _; omega

/-- The local copy puts the own block where the gathered array wants it. -/
theorem write_own (X : Dev nD → FVec F S128x4096 .fp8e5m2) (c : Dev nD) (f : (cc0_scratch0 : Ref sig .tc).ty.Contents (Elt F)) :
    ∀ i ∈ (ownV c).view.set, (ownV c).view.write (Elt F) f (X c) Finset.univ i = GX X i := by
  intro i hi
  obtain ⟨j, -, rfl⟩ := Finset.mem_map.mp hi
  rw [View.write_emb_of_mem _ _ (Finset.mem_univ j)]
  obtain ⟨e1, e2⟩ := own_emb c j
  show X c j = X ⟨_, _⟩ (rowCol _)
  rw [e2]; congr 1; exact Fin.ext e1.symm

/-! ## The schedule -/

abbrev UU : Type := UR sig nD τ × Rounds.URounds (GSem nD τ sig) ℕ

local notation "𝕄" => MT nD τ sig Unit (Elt F) ℕ UU ℕ

abbrev EP : Emb (UR sig nD τ) (MT nD τ sig Unit (Elt F) ℕ UU ℕ) := embL
abbrev ER : Emb (Rounds.URounds (GSem nD τ sig) ℕ) (MT nD τ sig Unit (Elt F) ℕ UU ℕ) := embR

abbrev barCell (c : Dev nD) : GSem nD τ sig := ((c : Thread nD τ), .reg barS)
abbrev copyCell (c : Dev nD) : GSem nD τ sig := ((c : Thread nD τ), .dma copyS)
abbrev sendCell (c : Dev nD) (k : ℕ) : GSem nD τ sig := ((c : Thread nD τ), .dma (sendS k))
abbrev recvCell (c : Dev nD) (k : ℕ) : GSem nD τ sig := ((c : Thread nD τ), .dma (recvS k))

/-- The units one segment's copy brings, and the units the own block's does. -/
abbrev NB : ℕ := (segV G8 0 0 0 (segOff_inb (by decide) (by decide) (by decide))).view.dmaCredit
abbrev NC : ℕ := (ownV 0).view.dmaCredit
theorem NB_pos : 0 < NB := View.dmaCredit_pos _ (by decide)
theorem NC_pos : 0 < NC := View.dmaCredit_pos _ (by decide)

/-- Elements of device `c`'s gathered array. -/
abbrev gPts (c : Dev nD) (S : Finset S32x128x4096.Idx) (q : PosShare TreeShare) (f : (cc0_scratch0 : Ref sig .tc).ty.Contents (Elt F)) : sProp 𝕄 :=
  ((c : Thread nD τ).loc cc0_scratch0) ↦[S]{q} f

/-- Device `c`'s staged block, whole. -/
abbrev xPts (c : Dev nD) (f : (cc0_stg0_0 : Ref sig .tc).ty.Contents (Elt F)) : sProp 𝕄 :=
  ((c : Thread nD τ).loc cc0_stg0_0) ↦{fullShare} f

variable (X : Dev nD → FVec F S128x4096 .fp8e5m2)

/-- What copy `k` of device `c` needs of the device it goes to: the piece it overwrites, and that its semaphore is open. -/
def dstOf (c : Dev nD) (k : ℕ) : sProp 𝕄 :=
  iprop((∃ f, gPts (F := F) (nb (k % 2) c) (piece (nb (k % 2) c) (k + 8)) fullShare f) ∗ Rounds.reached ER (recvCell (nb (k % 2) c) k) 0)

/-- The keys of a direction. -/
def keys (d : ℕ) : Finset ℕ := (Finset.range 248).filter fun k => k % 2 = d

def barPay (c : Dev nD) (d : ℕ) : sProp 𝕄 := bigSep (keys d) fun k => dstOf (F := F) c k
def copyPay (c : Dev nD) : sProp 𝕄 := iprop(gPts c (held c 8) fullShare (GX X) ∗ xPts c (X c))
def sendPay (c : Dev nD) (k : ℕ) : sProp 𝕄 := gPts c (piece c k) fullShare.right (GX X)
def recvPay (c : Dev nD) (k : ℕ) : sProp 𝕄 := gPts c (piece c (k + 8)) fullShare (GX X)

def dutiesOf : Role → Finset ℕ
  | .bar => {0, 1}
  | .idle => ∅
  | _ => {0}
def amountOf : Role → ℕ
  | .bar => 1
  | .copy => NC
  | _ => NB
def payOf (c : Dev nD) (d : ℕ) : Role → sProp 𝕄
  | .bar => barPay c d
  | .copy => copyPay X c
  | .send k => sendPay X c k
  | .recv k => recvPay X c k
  | .idle => iprop(emp)

def Rd : Rounds.Schedule (GSem nD τ sig) ℕ 𝕄 where
  duties g r := if r = 0 ∧ g.1.2 = .tc then dutiesOf (roleOf g.2) else ∅
  unitless _ := False
  amount g _ _ := amountOf (roleOf g.2)
  payload g _ d := payOf X g.1.1 d (roleOf g.2)
  amount_pos g _ _ _ := by
    cases roleOf g.2
    · exact Nat.one_pos
    · exact NC_pos
    · exact NB_pos
    · exact NB_pos
    · exact NB_pos

instance Rd_payload_storable (g : GSem nD τ sig) (r : ℕ) (d : ℕ) :
    BI.Storable (upEmb : UEmb _ 𝕄) ((Rd X).payload g r d) := by
  show BI.Storable upEmb (payOf X g.1.1 d (roleOf g.2))
  cases roleOf g.2 <;> unfold payOf barPay copyPay sendPay recvPay dstOf <;> dsimp only <;> infer_instance

section Sched

variable (c : Dev nD) {k : ℕ} (hk : k < 248)

theorem duties_bar : (Rd X).duties (barCell c) 0 = {0, 1} := by
  dsimp only [Rd]; rw [if_pos ⟨rfl, rfl⟩]; rfl
theorem duties_copy : (Rd X).duties (copyCell c) 0 = {0} := by
  dsimp only [Rd]; rw [if_pos ⟨rfl, rfl⟩, role_copy]; rfl
include hk in
theorem duties_send : (Rd X).duties (sendCell c k) 0 = {0} := by
  dsimp only [Rd]; rw [if_pos ⟨rfl, rfl⟩, role_send hk]; rfl
include hk in
theorem duties_recv : (Rd X).duties (recvCell c k) 0 = {0} := by
  dsimp only [Rd]; rw [if_pos ⟨rfl, rfl⟩, role_recv hk]; rfl
theorem duties_later (g : GSem nD τ sig) : ∀ r, 1 ≤ r → (Rd X).duties g r = ∅ := fun r hr => if_neg fun h => by omega
theorem duties_idle (g : GSem nD τ sig) (hg : roleOf g.2 = .idle) : ∀ r, 0 ≤ r → (Rd X).duties g r = ∅ := fun r _ => by
  dsimp only [Rd]; rw [hg]; split <;> rfl

theorem amount_bar (d : ℕ) : (Rd X).amount (barCell c) 0 d = 1 := rfl
theorem amount_copy (d : ℕ) : (Rd X).amount (copyCell c) 0 d = NC := by dsimp only [Rd]; rw [role_copy]; rfl
include hk in
theorem amount_send (d : ℕ) : (Rd X).amount (sendCell c k) 0 d = NB := by dsimp only [Rd]; rw [role_send hk]; rfl
include hk in
theorem amount_recv (d : ℕ) : (Rd X).amount (recvCell c k) 0 d = NB := by dsimp only [Rd]; rw [role_recv hk]; rfl

theorem expect_bar : (Rd X).expect (barCell c) 0 = 2 := by
  unfold Rounds.Schedule.expect Rounds.Schedule.amountOf; rw [duties_bar]; rfl
theorem expect_copy : (Rd X).expect (copyCell c) 0 = NC := by
  unfold Rounds.Schedule.expect Rounds.Schedule.amountOf; rw [duties_copy, Finset.sum_singleton, amount_copy]
include hk in
theorem expect_send : (Rd X).expect (sendCell c k) 0 = NB := by
  unfold Rounds.Schedule.expect Rounds.Schedule.amountOf; rw [duties_send X c hk, Finset.sum_singleton, amount_send X c hk]
include hk in
theorem expect_recv : (Rd X).expect (recvCell c k) 0 = NB := by
  unfold Rounds.Schedule.expect Rounds.Schedule.amountOf; rw [duties_recv X c hk, Finset.sum_singleton, amount_recv X c hk]

theorem payload_bar (d : ℕ) : (Rd X).payload (barCell c) 0 d = barPay c d := rfl
theorem payload_copy (d : ℕ) : (Rd X).payload (copyCell c) 0 d = copyPay X c := by dsimp only [Rd]; rw [role_copy]; rfl
include hk in
theorem payload_send (d : ℕ) : (Rd X).payload (sendCell c k) 0 d = sendPay X c k := by dsimp only [Rd]; rw [role_send hk]; rfl
include hk in
theorem payload_recv (d : ℕ) : (Rd X).payload (recvCell c k) 0 d = recvPay X c k := by dsimp only [Rd]; rw [role_recv hk]; rfl

theorem rest_bar : bigSep ((Rd X).duties (barCell c) 0 \ ∅) (fun d => (Rd X).payload (barCell c) 0 d)
    = (iprop(barPay (F := F) c 0 ∗ barPay (F := F) c 1) : sProp 𝕄) := by
  rw [Finset.sdiff_empty, duties_bar, bigSep_insert (by decide), bigSep_singleton, payload_bar, payload_bar]; rfl
theorem rest_copy : bigSep ((Rd X).duties (copyCell c) 0 \ ∅) (fun d => (Rd X).payload (copyCell c) 0 d) = copyPay X c := by
  rw [Finset.sdiff_empty, duties_copy, bigSep_singleton, payload_copy]
include hk in
theorem rest_send : bigSep ((Rd X).duties (sendCell c k) 0 \ ∅) (fun d => (Rd X).payload (sendCell c k) 0 d) = sendPay X c k := by
  rw [Finset.sdiff_empty, duties_send X c hk, bigSep_singleton, payload_send X c hk]
include hk in
theorem rest_recv : bigSep ((Rd X).duties (recvCell c k) 0 \ ∅) (fun d => (Rd X).payload (recvCell c k) 0 d) = recvPay X c k := by
  rw [Finset.sdiff_empty, duties_recv X c hk, bigSep_singleton, payload_recv X c hk]

/-- The two barrier units together bring what all copies need. -/
theorem bar_join : (iprop(barPay (F := F) c 0 ∗ barPay (F := F) c 1) : sProp 𝕄) = bigSep (Finset.range 248) fun k => dstOf (F := F) c k := by
  unfold barPay keys
  rw [bigSep_filter_split (Finset.range 248) (fun k => k % 2 = 0)]
  congr 2

end Sched

/-! ## What each device owes at launch; the levels -/

/-- The units device `c` has still to bring the others by its copies from `a` on. -/
def owed (c : Dev nD) (a : ℕ) : CellTallies nD τ sig Unit := ∑ k ∈ Finset.Ico a 248, tallyAt (recvCell (nb (k % 2) c) k) () NB

theorem owed_succ (c : Dev nD) {a : ℕ} (h : a < 248) : owed c a = owed c (a + 1) + tallyAt (recvCell (nb (a % 2) c) a) () NB := by
  unfold owed
  rw [show Finset.Ico a 248 = insert a (Finset.Ico (a + 1) 248) by ext x; rw [Finset.mem_insert, Finset.mem_Ico, Finset.mem_Ico]; omega,
    Finset.sum_insert (by rw [Finset.mem_Ico]; omega), add_comm]
theorem owed_end (c : Dev nD) : owed c 248 = 0 := by unfold owed; rw [Finset.Ico_self, Finset.sum_empty]

/-- What device `c` owes at launch: all its copies, and a unit at each neighbour's barrier. -/
def O₀ (c : Dev nD) : CellTallies nD τ sig Unit := owed c 0 + tallyAt (barCell (nb 0 c)) () 1 + tallyAt (barCell (nb 1 c)) () 1

def L (g : GSem nD τ sig) : Finset Unit := if g.1.2 = .tc then {()} else ∅
def levelOf : Role → ℕ
  | .bar => 1
  | .recv k => 2 + k
  | _ => 0
def lv (g : GSem nD τ sig) (_ : Unit) : ℕ := levelOf (roleOf g.2)

theorem L_of_ne (g : GSem nD τ sig) (h : g.1.2 ≠ .tc) : L g = ∅ := if_neg h
theorem L_tc (c : Dev nD) (sm : SemLoc sig) : L ((c : Thread nD τ), sm) = {()} := if_pos rfl

/-- What is owed is owed at receiving sides of later copies. -/
theorem owed_pos {c : Dev nD} {a : ℕ} {g : GSem nD τ sig} {u : Unit} (h : 0 < owed c a g u) :
    ∃ k, a ≤ k ∧ k < 248 ∧ g = recvCell (nb (k % 2) c) k := by
  by_contra hx
  have : owed c a g u = 0 := by
    unfold owed
    rw [Finset.sum_apply, Finsupp.finset_sum_apply]
    refine Finset.sum_eq_zero fun k hk => ?_
    have hk := Finset.mem_Ico.mp hk
    rw [tallyAt_apply, if_neg fun e => hx ⟨k, hk.1, hk.2, e.1⟩]
  omega

/-- A device may wait at a semaphore whose level is below those of the copies it has still to make. -/
theorem mayWait (c : Dev nD) (sm : SemLoc sig) (a : ℕ) (h : levelOf (roleOf sm) < 2 + a) :
    (levAts L lv : sProp 𝕄) ⊢ MayWait (c : Thread nD τ) sm () (owed c a) :=
  MayOwe.of_cut (L := L) (lev := lv) (levelOf (roleOf sm))
    (fun p hp => by rw [Finset.mem_singleton.mp hp, L_tc]; exact Finset.mem_singleton_self _)
    (fun g u hg => by obtain ⟨k, _, _, rfl⟩ := owed_pos hg; rw [L_tc]; exact Finset.mem_singleton_self _)
    (fun p hp => by rw [Finset.mem_singleton.mp hp]; exact le_refl _)
    (fun g u hg => by
      obtain ⟨k, h1, h2, rfl⟩ := owed_pos hg
      dsimp only [lv]; rw [role_recv h2]; show _ < 2 + k; omega)

end Cert.KernelIdeal.Hops
end
-- ==== Proof.Steps.lean ====
module

public import proofs.«01_k».proof.Proof.Sched

@[expose] public section

noncomputable section

namespace Cert.KernelIdeal.Hops

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

/-! # One step of the protocol: a copy started, a copy's arrival waited for, a copy's departure waited for -/

variable {F : FTy → Type}

local notation "𝕄" => MT nD τ sig Unit (Elt F) ℕ UU ℕ

/-! ## Conjunctions over an interval of keys -/

theorem Ico_pop {M : Type} [URA M] {a b : ℕ} (h : a < b) (Φ : ℕ → sProp M) :
    bigSep (Finset.Ico a b) Φ = iprop(Φ a ∗ bigSep (Finset.Ico (a + 1) b) Φ) := by
  rw [show Finset.Ico a b = insert a (Finset.Ico (a + 1) b) by ext x; rw [Finset.mem_insert, Finset.mem_Ico, Finset.mem_Ico]; omega,
    bigSep_insert (by rw [Finset.mem_Ico]; omega)]
  rfl

theorem Ico_push {M : Type} [URA M] {a b : ℕ} (h : a ≤ b) (Φ : ℕ → sProp M) :
    bigSep (Finset.Ico a (b + 1)) Φ = iprop(Φ b ∗ bigSep (Finset.Ico a b) Φ) := by
  rw [show Finset.Ico a (b + 1) = insert b (Finset.Ico a b) by ext x; rw [Finset.mem_insert, Finset.mem_Ico, Finset.mem_Ico]; omega,
    bigSep_insert (by rw [Finset.mem_Ico]; omega)]
  rfl

theorem range_push {M : Type} [URA M] (b : ℕ) (Φ : ℕ → sProp M) :
    bigSep (Finset.range (b + 1)) Φ = iprop(Φ b ∗ bigSep (Finset.range b) Φ) := by
  rw [Finset.range_eq_Ico, Finset.range_eq_Ico]; exact Ico_push (Nat.zero_le b) Φ

/-! ## The cells' invariants -/

/-- Each device's barrier cell; each device's own semaphores of the kernel. -/
def barEmb : Dev nD ↪ GSem nD τ sig := ⟨barCell, fun c c' h => by have := congrArg (fun g : GSem nD τ sig => g.1.1) h; exact this⟩
def barCells : Finset (GSem nD τ sig) := Finset.univ.map barEmb
abbrev osem0 : Fin 513 → SemLoc sig := fun i => .dma (⟨8 + i.val, by have := i.isLt; omega⟩ : Fin 521)
def ownEmb : Dev nD × Fin 513 ↪ GSem nD τ sig :=
  ⟨fun p => ((p.1 : Thread nD τ), osem0 p.2), fun p p' h => by
    have h1 : p.1 = p'.1 := congrArg (fun g : GSem nD τ sig => g.1.1) h
    have h2 : osem0 p.2 = osem0 p'.2 := congrArg (fun g : GSem nD τ sig => g.2) h
    have h3 : 8 + p.2.val = 8 + p'.2.val := congrArg Fin.val (SemLoc.dma.inj h2 : (_ : Fin 521) = _)
    exact Prod.ext h1 (Fin.ext (by omega))⟩
def ownCells : Finset (GSem nD τ sig) := Finset.univ.map ownEmb

theorem bar_mem (c : Dev nD) : barCell c ∈ barCells ∪ ownCells :=
  Finset.mem_union_left _ (Finset.mem_map_of_mem barEmb (Finset.mem_univ c))
theorem own_mem (c : Dev nD) (i : DmaSem sig) (h : 8 ≤ i.val) : ((c : Thread nD τ), SemLoc.dma i) ∈ barCells ∪ ownCells := by
  refine Finset.mem_union_right _ ?_
  have h' : i.val < 521 := i.isLt
  have : ownEmb (c, ⟨i.val - 8, by omega⟩) = ((c : Thread nD τ), SemLoc.dma i) := by
    show ((c : Thread nD τ), osem0 _) = _
    refine congrArg (fun j : Fin 521 => ((c : Thread nD τ), (SemLoc.dma j : SemLoc sig))) (Fin.ext ?_)
    show 8 + (i.val - 8) = i.val; omega
  rw [← this]; exact Finset.mem_map_of_mem _ (Finset.mem_univ _)
theorem send_ge' : ∀ k : Fin 248, 8 ≤ (sendS k.val).val := by decide +kernel
theorem recv_ge' : ∀ k : Fin 248, 8 ≤ (recvS k.val).val := by decide +kernel
theorem send_ge {k : ℕ} (hk : k < 248) : 8 ≤ (sendS k).val := send_ge' ⟨k, hk⟩
theorem recv_ge {k : ℕ} (hk : k < 248) : 8 ≤ (recvS k).val := recv_ge' ⟨k, hk⟩

variable (X : Dev nD → FVec F S128x4096 .fp8e5m2) (K : GSem nD τ sig → ℕ)

/-- What every device knows throughout: the cells' invariants and the levels. -/
def Ctx : sProp 𝕄 := iprop(bigSep (barCells ∪ ownCells) (fun g => Rounds.cellInv ER (Rd X) (K g) g) ∗ levAts L lv)
instance Ctx_persistent : BI.Persistent (Ctx X K) := by unfold Ctx; infer_instance

theorem ctx_inv {g : GSem nD τ sig} (hg : g ∈ barCells ∪ ownCells) : Ctx X K ⊢ Rounds.cellInv ER (Rd X) (K g) g := by
  unfold Ctx; exact sep_elim_left.trans (bigSep_elim (Φ := fun g => Rounds.cellInv ER (Rd X) (K g) g) hg)
theorem ctx_mayWait (c : Dev nD) (sm : SemLoc sig) (a : ℕ) (h : levelOf (roleOf sm) < 2 + a) :
    Ctx X K ⊢ MayWait (c : Thread nD τ) sm () (owed c a) := by
  unfold Ctx; exact sep_elim_right.trans (mayWait c sm a h)

/-! ## The state between steps -/

variable (c : Dev nD)

/-- What copy `k` is started with, beside the elements it takes. -/
def sendRes (k : ℕ) : sProp 𝕄 :=
  iprop(Rounds.dutyTok ER (sendCell c k) 0 0 ∗ Rounds.reached ER (sendCell c k) 0 ∗ Rounds.dutyTok ER (recvCell (nb (k % 2) c) k) 0 0 ∗ dstOf (F := F) c k)
/-- What arrival `k` is waited for with. -/
def recvRes (k : ℕ) : sProp 𝕄 := iprop(cred (tallyAt (recvCell c k) () NB) ∗ Rounds.atPos ER (recvCell c k) 0 ∅ 0)

/-- Copies below `a` started, arrivals below `n` waited for: half of everything that has come is kept, the other half of
    what has not been passed on is there to be lent to the copies. -/
def St (a n : ℕ) : sProp 𝕄 :=
  iprop(Ctx X K ∗ gPts c (held c (n + 8)) fullShare.left (GX X) ∗ bigSep (Finset.Ico a (n + 8)) (sendPay X c)
    ∗ bigSep (Finset.Ico a 248) (sendRes (F := F) c) ∗ bigSep (Finset.Ico n 248) (recvRes (F := F) c)
    ∗ bigSep (Finset.range a) (fun k => cred (tallyAt (sendCell c k) () NB)) ∗ bigSep (Finset.range n) (fun k => semVal (recvCell c k) 0)
    ∗ ∃ W, owes (c : Thread nD τ) (owed c a) W)

/-- Departures below `j` waited for, nothing owed any more. -/
def Dr (j : ℕ) : sProp 𝕄 :=
  iprop(Ctx X K ∗ bigSep (Finset.Ico j 248) (fun k => cred (tallyAt (sendCell c k) () NB)) ∗ bigSep (Finset.Ico j 248) (fun k => Rounds.atPos ER (sendCell c k) 0 ∅ 0)
    ∗ bigSep (Finset.range j) (sendPay X c) ∗ bigSep (Finset.range j) (fun k => semVal (sendCell c k) 0)
    ∗ ∃ W, owes (c : Thread nD τ) (owed c 248) W)

abbrev 𝒱₀ : Variants := Variants.none

variable [FloatOps F]

/-- The program's logic on device `c`. -/
abbrev wpc {α : Type} (p : PG F α) (Q : α → sProp 𝕄) : sProp 𝕄 :=
  wp frame (wpE (defs₀ (F := F)) 𝒱₀ (c : Thread nD τ) none) Set.univ p Q

omit [FloatOps F] in
theorem close (κ : ℕ) (g : GSem nD τ sig) :
    iprop(Rounds.cellInv ER (Rd X) κ g ∗ Rounds.atPos ER g (0 + 1) ∅ 0) ⊢ (|={Set.univ}=> semVal g 0 : sProp 𝕄) :=
  Rounds.cell_close ER (Rd X) (Set.mem_univ κ) id (duties_later X g)

omit [FloatOps F] in
/-- Elements rewritten with what the view reads off `g` there are `g`'s. -/
theorem landed {sp : Space} {S : Shape} {e : EltTy} (v : View sig .tc sp S e) (f g : v.ty.Contents (Elt F)) :
    ∀ i ∈ v.set, v.write (Elt F) f (v.read (Elt F) g) Finset.univ i = g i := by
  intro i hi
  rw [View.write_read_eq_piecewise]
  exact Finset.piecewise_eq_of_mem _ _ _ hi

section Send

variable {a n h s d m r : ℕ} (ha : a < 248) (han : a < n + 8) (ka : a = 8 * h + 2 * s + d) (hd : d < 2) (hs : s < 4)
  (hm : m = slot d h c) (hr : r = 64 * d) (hb : ∀ i, segOff m r (1024 * s) i + S1x64x1024.size i ≤ S32x128x4096.size i)
  (dst : Dev nD) (hdst' : dst = nb d c) (x y : DmaSem sig) (hx : x = sendS a) (hy : y = recvS a)

include ha han ka hd hs hm hr hdst' hx hy in
/-- Starting copy `a`. -/
theorem send_op {hsc} {hsrc hdst} {hsem} :
    St X K c a n ⊢ wpc c (Prog.lift (.enqueueDma (segV G8 m r (1024 * s) hb)
      (.remote (Dev.tc dst) (segV G8 m r (1024 * s) hb) (.dma x) hsc) (.dma y) hsrc hdst hsem)) (fun _ => St X K c (a + 1) n) := by
  have hh : h < 31 := by omega
  have ed : a % 2 = d := by omega
  have eset : (segV G8 m r (1024 * s) hb).view.set = piece c a := by rw [ka]; exact seg_eq_piece c hd (by omega) hs hm hr hb
  have eset' : (segV G8 m r (1024 * s) hb).view.set = piece (nb d c) (a + 8) := by rw [eset, ka]; exact (piece_nb c hd hh hs).symm
  subst hx hy hdst'
  show _ ⊢ wpc c (.op _ _) _
  unfold St
  rw [Ico_pop han, Ico_pop ha, range_push]
  iintro ⟨#HC, HL, ⟨Hp, HR⟩, ⟨Hs, HS⟩, HV, Hcr, Hz, ⟨%W, HO⟩⟩
  ihave #HI1 := (ctx_inv X K (own_mem c (sendS a) (send_ge ha))) $$ HC
  ihave #HI2 := (ctx_inv X K (own_mem (nb d c) (recvS a) (recv_ge ha))) $$ HC
  unfold sendRes dstOf
  rw [ed]
  icases Hs with ⟨Ht1, #Hr1, Ht2, ⟨%fd, Hd⟩, #Hr2⟩
  unfold sendPay
  ihave Hp' := (Entails.of_eq (congrArg (fun S => gPts c S fullShare.right (GX X)) eset.symm)) $$ Hp
  ihave Hd' := (Entails.of_eq (congrArg (fun S => gPts (nb d c) S fullShare fd) eset'.symm)) $$ Hd
  iapply (Rounds.wp_send_pointsTo 𝒱₀ ER (Rd X) (c : Thread nD τ) none (c' := (nb d c : Thread nD τ)) (src := segV G8 m r (1024 * s) hb)
      (dst := segV G8 m r (1024 * s) hb)
      (sS := .dma (sendS a)) (sem := .dma (recvS a)) (q := fullShare.right) (fs := GX X) (κ₁ := K (sendCell c a)) (κ₂ := K (recvCell (nb d c) a))
      (r₁ := 0) (r₂ := 0) (d₁ := 0) (d₂ := 0) (fd := fd)
      (by rw [duties_send X c ha]; exact Finset.mem_singleton_self _) (by rw [duties_recv X _ ha]; exact Finset.mem_singleton_self _)
      () () NB rfl (amount_send X c ha 0) (amount_recv X (nb d c) ha 0) (O₀ := owed c a) (owed c (a + 1)) (by rw [owed_succ c ha, ed]) (W := W)
      (by rw [payload_send X c ha]; exact Entails.of_eq (congrArg (fun S => gPts c S fullShare.right (GX X)) eset))
      (by
        rw [payload_recv X _ ha]
        exact (Entails.of_eq (pointsTo_congr (landed (segV G8 m r (1024 * s) hb).view fd (GX X)))).trans (Entails.of_eq (congrArg (fun S => gPts (nb d c) S fullShare (GX X)) eset')))) $$ [Hp' Hd' HO Ht1 Ht2]
  · isplitr; · iexact HI1
    isplitr; · iexact HI2
    isplitl [Hp']; · iexact Hp'
    isplitl [Hd']; · iexact Hd'
    isplitl [HO]; · iexact HO
    isplitl [Ht1]; · iexact Ht1
    isplitr; · iexact Hr1
    isplitl [Ht2]; · iexact Ht2
    iexact Hr2
  iintro ⟨HcS, HO⟩
  rw [wp_ret]; imodintro
  isplitr; · iexact HC
  isplitl [HL]; · iexact HL
  isplitl [HR]; · iexact HR
  isplitl [HS]; · iexact HS
  isplitl [HV]; · iexact HV
  isplitl [HcS Hcr]
  · isplitl [HcS] <;> iassumption
  isplitl [Hz]; · iexact Hz
  iexists W; iexact HO

end Send

section Recv

variable {a n m r k : ℕ} (hn : n < 248) (hna : n < a) (han : a ≤ n + 8) (hb : ∀ i, segOff m r k i + S1x64x1024.size i ≤ S32x128x4096.size i)
  (y : DmaSem sig) (hy : y = recvS n)

include hn hna han hy in
/-- Waiting for arrival `n`. -/
theorem recv_op {hsrc hdst} :
    St X K c a n ⊢ wpc c (Prog.lift (.waitDma2 y (segV G8 m r k hb) (segV G8 m r k hb) hsrc hdst)) (fun _ => St X K c a (n + 1)) := by
  subst hy
  show _ ⊢ wpc c (.op _ _) _
  have hl : levelOf (roleOf (.dma (recvS n))) < 2 + a := by rw [role_recv hn]; show 2 + n < _; omega
  have hmw : Ctx X K ⊢ MayWait (c : Thread nD τ) (.dma (recvS n)) () (owed c a) := ctx_mayWait X K c _ a hl
  unfold St
  rw [Ico_pop hn, range_push, show n + 1 + 8 = n + 8 + 1 by omega, Ico_push han, held_succ c (n + 8)]
  unfold recvRes
  iintro ⟨#HC, HL, HR, HS, ⟨⟨Hc, Hat⟩, HV⟩, Hcr, Hz, ⟨%W, HO⟩⟩
  ihave #HI := (ctx_inv X K (own_mem c (recvS n) (recv_ge hn))) $$ HC
  iapply (Rounds.wp_wait_rest_token 𝒱₀ ER (Rd X) (c : Thread nD τ) none (κ := K (recvCell c n))
      (wpE_waitDma2_eq (src := segV G8 m r k hb) (dst := segV G8 m r k hb) 𝒱₀ (c : Thread nD τ) none Set.univ) (Set.mem_univ _) () (O := owed c a) (W := W) (R := 0) (m := 0) (T := ∅)
      ((Nat.zero_add _).trans (expect_recv X c hn).symm)) $$ [Hc HO Hat]
  · isplitr; · iexact HI
    isplitl [Hc]; · iexact Hc
    isplitl [HO]; · iexact HO
    isplitr
    · iapply hmw; iexact HC
    iexact Hat
  iintro ⟨HO, Hat, -, Hpay⟩
  ihave Hp := (Entails.of_eq (rest_recv X c hn)) $$ Hpay
  unfold recvPay
  ihave Hp := (pointsTo_share (PosShare.mem_left_op_right fullShare)).1 $$ Hp
  icases Hp with ⟨Hl, Hr⟩
  rw [wp_ret]
  imod (close X (K (recvCell c n)) (recvCell c n)) $$ [Hat] with Hz0
  · isplitr; · iexact HI
    iexact Hat
  imodintro
  isplitr; · iexact HC
  isplitl [HL Hl]
  · iapply (show iprop(gPts c (held c (n + 8)) fullShare.left (GX X) ∗ gPts c (piece c (n + 8)) fullShare.left (GX X))
      ⊢ gPts c (held c (n + 8) ∪ piece c (n + 8)) fullShare.left (GX X) from (pointsTo_union (held_disjoint c (n + 8))).2)
    isplitl [HL] <;> iassumption
  isplitl [HR Hr]
  · isplitl [Hr]; · (unfold sendPay; iexact Hr)
    iexact HR
  isplitl [HS]; · iexact HS
  isplitl [HV]; · iexact HV
  isplitl [Hcr]; · iexact Hcr
  isplitl [Hz Hz0]
  · isplitl [Hz0] <;> iassumption
  iexists _; iexact HO

end Recv

section Drain

variable {j m r k : ℕ} (hj : j < 248) (hb : ∀ i, segOff m r k i + S1x64x1024.size i ≤ S32x128x4096.size i)
  (x : DmaSem sig) (hx : x = sendS j)

include hj hx in
/-- Waiting for departure `j`. -/
theorem drain_op {hsrc hdst} :
    Dr X K c j ⊢ wpc c (Prog.lift (.waitDma2 x (segV G8 m r k hb) (segV G8 m r k hb) hsrc hdst)) (fun _ => Dr X K c (j + 1)) := by
  subst hx
  show _ ⊢ wpc c (.op _ _) _
  have hl : levelOf (roleOf (.dma (sendS j))) < 2 + 248 := by rw [role_send hj]; show 0 < _; omega
  have hmw : Ctx X K ⊢ MayWait (c : Thread nD τ) (.dma (sendS j)) () (owed c 248) := ctx_mayWait X K c _ 248 hl
  unfold Dr
  rw [Ico_pop hj, Ico_pop hj, range_push, range_push]
  iintro ⟨#HC, ⟨Hc, HV⟩, ⟨Hat, HA⟩, HR, Hz, ⟨%W, HO⟩⟩
  ihave #HI := (ctx_inv X K (own_mem c (sendS j) (send_ge hj))) $$ HC
  iapply (Rounds.wp_wait_rest_token 𝒱₀ ER (Rd X) (c : Thread nD τ) none (κ := K (sendCell c j))
      (wpE_waitDma2_eq (src := segV G8 m r k hb) (dst := segV G8 m r k hb) 𝒱₀ (c : Thread nD τ) none Set.univ) (Set.mem_univ _) () (O := owed c 248) (W := W) (R := 0) (m := 0) (T := ∅)
      ((Nat.zero_add _).trans (expect_send X c hj).symm)) $$ [Hc HO Hat]
  · isplitr; · iexact HI
    isplitl [Hc]; · iexact Hc
    isplitl [HO]; · iexact HO
    isplitr
    · iapply hmw; iexact HC
    iexact Hat
  iintro ⟨HO, Hat, -, Hpay⟩
  ihave Hp := (Entails.of_eq (rest_send X c hj)) $$ Hpay
  rw [wp_ret]
  imod (close X (K (sendCell c j)) (sendCell c j)) $$ [Hat] with Hz0
  · isplitr; · iexact HI
    iexact Hat
  imodintro
  isplitr; · iexact HC
  isplitl [HV]; · iexact HV
  isplitl [HA]; · iexact HA
  isplitl [HR Hp]
  · isplitl [Hp] <;> iassumption
  isplitl [Hz Hz0]
  · isplitl [Hz0] <;> iassumption
  iexists _; iexact HO

end Drain

end Cert.KernelIdeal.Hops
end
-- ==== Proof.Segs.lean ====
module

public import proofs.«01_k».proof.Proof.Steps

@[expose] public section

noncomputable section

namespace Cert.KernelIdeal.Hops

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

/-! # One segment of a hop, of the first sends, of the last waits -/

variable {F : FTy → Type} [FloatOps F]

local notation "𝕄" => MT nD τ sig Unit (Elt F) ℕ UU ℕ

variable (c : Dev nD)

/-- One program after another. -/
theorem seq_op {α : Type} {p : PG F PUnit} {k : PUnit → PG F α} {P R : sProp 𝕄} {Q : α → sProp 𝕄}
    (h1 : P ⊢ wpc c p (fun _ => R)) (h2 : R ⊢ wpc c (k ⟨⟩) Q) : P ⊢ wpc c (p >>= k) Q := by
  unfold wpc at *
  rw [wp_bind]
  exact h1.trans (wp_mono _ _ _ fun _ => h2)

/-- A program keeps what it is not given. -/
theorem frame_op {p : PG F PUnit} {P R : sProp 𝕄} (Z : sProp 𝕄) (h1 : P ⊢ wpc c p (fun _ => R)) :
    iprop(P ∗ Z) ⊢ wpc c p (fun _ => iprop(R ∗ Z)) :=
  (sep_mono_left h1).trans (wp_frame_r _ _ _)

theorem skip_op {P : sProp 𝕄} : P ⊢ wpc c (pure ⟨⟩ : PG F PUnit) (fun _ => P) := by
  show P ⊢ wpc c (.ret PUnit.unit) _
  unfold wpc
  rw [wp_ret]; exact fupd_intro

variable (X : Dev nD → FVec F S128x4096 .fp8e5m2) (K : GSem nD τ sig → ℕ)

/-- One piece taken, and passed on if it has further to go. -/
theorem step_op {d h s : ℕ} (hd : d < 2) (hh : h < 31) (hs : s < 4) (sS sR : DmaSems sig S32x4) (dst : Dev nD)
    (hS : ∀ (h s : ℕ) (hh : h < 32) (hs : s < 4), (semAt sS h s hh hs).sem = sendS (8 * h + 2 * s + d))
    (hR : ∀ (h s : ℕ) (hh : h < 32) (hs : s < 4), (semAt sR h s hh hs).sem = recvS (8 * h + 2 * s + d))
    (hdst : dst = nb d c) (v : BitVec 32) (hv : v.toNat = slot d (h + 1) c) (hv' : v.toNat < 32) {r : ℕ} (hr : r = 64 * d) (hr1 : r ≤ 64) (hr4 : 4 ∣ r)
    {α : Type} {k : PUnit → PG F α} {Q : α → sProp 𝕄}
    (hk : St X K c (min (8 * h + 2 * s + d + 1 + 8) 248) (8 * h + 2 * s + d + 1) ⊢ wpc c (k ⟨⟩) Q) :
    St X K c (min (8 * h + 2 * s + d + 8) 248) (8 * h + 2 * s + d) ⊢ wpc c
      (await G8 (Memref.isWhole_whole _) sR h s (by omega) hs v.toNat r hv' hr1 hr4 >>= fun _ =>
        if h < 30 then start G8 (Memref.isWhole_whole _) sS sR dst (h + 1) s (by omega) hs v.toNat r hv' hr1 hr4 >>= k else k ⟨⟩) Q := by
  refine seq_op c (recv_op X K c (n := 8 * h + 2 * s + d) (by omega) (by omega) (by omega) _ _ (hR h s _ hs)) ?_
  by_cases h30 : h < 30
  · rw [if_pos h30, show min (8 * h + 2 * s + d + 8) 248 = 8 * h + 2 * s + d + 8 by omega]
    have hk' := hk
    rw [show min (8 * h + 2 * s + d + 1 + 8) 248 = 8 * h + 2 * s + d + 8 + 1 by omega] at hk'
    refine seq_op c ?_ hk'
    exact send_op X K c (a := 8 * h + 2 * s + d + 8) (by omega) (by omega) (show _ = 8 * (h + 1) + 2 * s + d by omega) hd hs hv hr _ dst hdst _ _
      ((hS (h + 1) s _ hs).trans (congrArg sendS (by omega))) ((hR (h + 1) s _ hs).trans (congrArg recvS (by omega)))
  · rw [if_neg h30, show min (8 * h + 2 * s + d + 8) 248 = 248 by omega]
    rw [show min (8 * h + 2 * s + d + 1 + 8) 248 = 248 by omega] at hk
    exact hk

theorem s10 (h s : ℕ) (hh : h < 32) (hs : s < 4) : (semAt cc0_scratch2 h s hh hs).sem = sendS (8 * h + 2 * s + 0) := sem10 ⟨h, hh⟩ ⟨s, hs⟩
theorem s11 (h s : ℕ) (hh : h < 32) (hs : s < 4) : (semAt cc0_scratch3 h s hh hs).sem = recvS (8 * h + 2 * s + 0) := sem11 ⟨h, hh⟩ ⟨s, hs⟩
theorem s12 (h s : ℕ) (hh : h < 32) (hs : s < 4) : (semAt cc0_scratch4 h s hh hs).sem = sendS (8 * h + 2 * s + 1) := sem12 ⟨h, hh⟩ ⟨s, hs⟩
theorem s13 (h s : ℕ) (hh : h < 32) (hs : s < 4) : (semAt cc0_scratch5 h s hh hs).sem = recvS (8 * h + 2 * s + 1) := sem13 ⟨h, hh⟩ ⟨s, hs⟩

theorem hopSeg_op {h s : ℕ} (hh : h < 31) (hs : s < 4) (rn ln : Dev nD) (hrn : rn = nb 0 c) (hln : ln = nb 1 c)
    (cw ccw : BitVec 32) (hcw : cw.toNat < 32) (hccw : ccw.toNat < 32) (ecw : cw.toNat = slot 0 (h + 1) c) (eccw : ccw.toNat = slot 1 (h + 1) c) :
    St X K c (min (8 * h + 2 * s + 8) 248) (8 * h + 2 * s) ⊢ wpc c
      (hopSeg G8 (Memref.isWhole_whole _) cc0_scratch2 cc0_scratch3 cc0_scratch4 cc0_scratch5 rn ln h hh cw ccw hcw hccw s hs)
      (fun _ => St X K c (min (8 * h + 2 * (s + 1) + 8) 248) (8 * h + 2 * (s + 1))) := by
  refine step_op c X K (d := 0) (by omega) hh hs _ _ rn s10 s11 hrn cw ecw hcw rfl _ _
    (k := fun _ => (await G8 (Memref.isWhole_whole _) cc0_scratch5 h s (by omega) hs ccw.toNat 64 hccw (by omega) (by decide) >>= fun _ =>
      if h < 30 then start G8 (Memref.isWhole_whole _) cc0_scratch4 cc0_scratch5 ln (h + 1) s (by omega) hs ccw.toNat 64 hccw (by omega) (by decide)
      else pure ⟨⟩ : PG F PUnit)) ?_
  have h2 := step_op c X K (d := 1) (by omega) hh hs _ _ ln s12 s13 hln ccw eccw hccw rfl (by omega) (by decide) (k := pure)
    (Q := fun _ => St X K c (min (8 * h + 2 * (s + 1) + 8) 248) (8 * h + 2 * (s + 1))) (skip_op c)
  simp only [bind_pure] at h2
  exact h2

theorem firstSeg_op {s : ℕ} (hs : s < 4) (rn ln : Dev nD) (hrn : rn = nb 0 c) (hln : ln = nb 1 c) :
    St X K c (2 * s) 0 ⊢ wpc c
      (firstSeg G8 (Memref.isWhole_whole _) cc0_scratch2 cc0_scratch3 cc0_scratch4 cc0_scratch5 c rn ln s hs)
      (fun _ => St X K c (2 * (s + 1)) 0) := by
  have e0 : (myW c).toNat = slot 0 0 c := (myW_toNat c).trans (slot_own c (by omega)).symm
  have e1 : (myW c).toNat = slot 1 0 c := (myW_toNat c).trans (slot_own c (by omega)).symm
  refine seq_op c (send_op X K c (a := 2 * s) (h := 0) (s := s) (d := 0) (by omega) (by omega) (by omega) (by omega) hs e0 rfl _ rn hrn _ _
    ((s10 0 s _ hs).trans (congrArg sendS (by omega))) ((s11 0 s _ hs).trans (congrArg recvS (by omega)))) ?_
  exact send_op X K c (a := 2 * s + 1) (h := 0) (s := s) (d := 1) (by omega) (by omega) (by omega) (by omega) hs e1 rfl _ ln hln _ _
    ((s12 0 s _ hs).trans (congrArg sendS (by omega))) ((s13 0 s _ hs).trans (congrArg recvS (by omega)))

theorem drainSeg_op {h s : ℕ} (hh : h < 31) (hs : s < 4) (cw ccw : BitVec 32) (hcw : cw.toNat < 32) (hccw : ccw.toNat < 32) :
    Dr X K c (8 * h + 2 * s) ⊢ wpc c
      (drainSeg G8 (Memref.isWhole_whole _) cc0_scratch2 cc0_scratch4 h hh cw ccw hcw hccw s hs)
      (fun _ => Dr X K c (8 * h + 2 * (s + 1))) := by
  refine seq_op c (drain_op X K c (j := 8 * h + 2 * s) (by omega) _ _ (s10 h s _ hs)) ?_
  exact drain_op X K c (j := 8 * h + 2 * s + 1) (by omega) _ _ (s12 h s _ hs)

end Cert.KernelIdeal.Hops
end
-- ==== Proof.Out.lean ====
module

public import proofs.«01_k».proof.Proof.Segs

@[expose] public section

noncomputable section

namespace Cert.KernelIdeal.Hops

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

/-! # What the result array holds, product by product -/

variable {F : FTy → Type} [FloatOps F]

theorem o0_lt (i : S4096x64.Idx) : (i (0 : Fin 2)).val < 4096 := (i (0 : Fin 2)).isLt
theorem o1_lt (i : S4096x64.Idx) : (i (1 : Fin 2)).val < 64 := (i (1 : Fin 2)).isLt

/-- Half `d` of device `n`'s block. -/
def halfX (X : Dev nD → FVec F S128x4096 .fp8e5m2) (n : Dev nD) (d : ℕ) : FVec F S1x64x4096 .fp8e5m2 :=
  fun (j : S1x64x4096.Idx) => X n fun a => match a with
    | ⟨0, _⟩ => ⟨(64 * d + (j (1 : Fin 3)).val) % 128, Nat.mod_lt _ (by decide)⟩
    | ⟨1, _⟩ => j (2 : Fin 3)

/-- Place of a result's element within a whole block's product, and within a half block's. -/
def inBlock (i : S4096x64.Idx) : S128x64.Idx := fun a => match a with
  | ⟨0, _⟩ => ⟨(i (0 : Fin 2)).val % 128, Nat.mod_lt _ (by decide)⟩
  | ⟨1, _⟩ => i (1 : Fin 2)
def inHalf (i : S4096x64.Idx) : S64x64.Idx := fun a => match a with
  | ⟨0, _⟩ => ⟨(i (0 : Fin 2)).val % 64, Nat.mod_lt _ (by decide)⟩
  | ⟨1, _⟩ => i (1 : Fin 2)

variable (X : Dev nD → FVec F S128x4096 .fp8e5m2) (sc : Elt F .f32) (w : FVec F S4096x64 .fp8e5m2) (c : Dev nD)

/-- The result: the own block's rows from one product, every other half block's from its own. -/
def resF : FVec F S4096x64 .f32 := fun (i : S4096x64.Idx) =>
  if (i (0 : Fin 2)).val / 128 = c.val then k0_pay2 sc w (X c) (inBlock i)
  else k0_pay3 sc w (halfX X ⟨(i (0 : Fin 2)).val / 128, by have := o0_lt i; show _ < 32; omega⟩ ((i (0 : Fin 2)).val % 128 / 64)) (inHalf i)

/-- The order in which the rows come. -/
def outKey (i : S4096x64.Idx) : ℕ :=
  2 * hopOf ((i (0 : Fin 2)).val % 128 / 64) c ((i (0 : Fin 2)).val / 128) + (i (0 : Fin 2)).val % 128 / 64

theorem outKey_lt (i : S4096x64.Idx) : outKey c i < 64 := by
  have h0 := o0_lt i
  have := (slot_hopOf c (d := (i (0 : Fin 2)).val % 128 / 64) (n := (i (0 : Fin 2)).val / 128) (by omega) (by omega)).1
  unfold outKey; omega

abbrev G7 : Memref sig .tc .vmem S4096x64 .f32 := Memref.whole cc0_stg7_0

theorem mem_rows {o : Fin 2 → ℕ} {sz : Fin 2 → ℕ} (n : ℕ) (ho : o = ![n, 0]) (N : ℕ) (hs : sz = ![N, 64]) (hb : ∀ a, o a + sz a ≤ S4096x64.size a) (i : S4096x64.Idx) :
    i ∈ (G7.access (Rect.unit (s := S4096x64) o sz hb)).set ↔ n ≤ (i (0 : Fin 2)).val ∧ (i (0 : Fin 2)).val < n + N := by
  subst ho hs
  have e : (G7.access (Rect.unit (s := S4096x64) ![n, 0] ![N, 64] hb)).set = (Rect.unit (s := S4096x64) ![n, 0] ![N, 64] hb).set := View.set_slice_whole _ _
  have e' : i ∈ (G7.access (Rect.unit (s := S4096x64) ![n, 0] ![N, 64] hb)).set ↔ i ∈ (Rect.unit (s := S4096x64) ![n, 0] ![N, 64] hb).set := by rw [e]
  rw [e', Rect.mem_set_unit]
  have h1 := o1_lt i
  constructor
  · intro H
    exact H 0
  · intro H a
    fin_cases a
    · exact H
    · show 0 ≤ (i (1 : Fin 2)).val ∧ (i (1 : Fin 2)).val < 0 + 64; omega

/-- The own block's product stored: the rows that come first are right. -/
theorem own_stored (f : FVec F S4096x64 .f32) :
    ∀ i, outKey c i < 2 → (G7.access (Rect.unit (s := S4096x64) (k0_off11 c) S128x64.size (k0_off11_inb c))).write (Elt F) f (k0_pay2 sc w (X c)) Finset.univ i
      = resF X sc w c i := by
  intro i hi
  have h0 := o0_lt i
  have hd : (i (0 : Fin 2)).val % 128 / 64 < 2 := by omega
  obtain ⟨hl, hs⟩ := slot_hopOf c hd (n := (i (0 : Fin 2)).val / 128) (by omega)
  have hz : hopOf ((i (0 : Fin 2)).val % 128 / 64) c ((i (0 : Fin 2)).val / 128) = 0 := by unfold outKey at hi; omega
  rw [hz, slot_own c hd] at hs
  have hm : i ∈ (G7.access (Rect.unit (s := S4096x64) (k0_off11 c) S128x64.size (k0_off11_inb c))).set :=
    (mem_rows (128 * c.val) (k0_off11_eq c) 128 (by decide) _ i).mpr (by omega)
  obtain ⟨j, -, rfl⟩ := Finset.mem_map.mp hm
  rw [View.write_emb_of_mem _ _ (Finset.mem_univ j)]
  unfold resF
  rw [if_pos hs.symm]
  refine congrArg (k0_pay2 sc w (X c)) ?_
  have hj : (j (0 : Fin 2)).val < 128 := (j (0 : Fin 2)).isLt
  have e0 : ((G7.access (Rect.unit (s := S4096x64) (k0_off11 c) S128x64.size (k0_off11_inb c))).emb j (0 : Fin 2)).val = 128 * c.val + (j (0 : Fin 2)).val := by
    show ((Rect.unit (s := S4096x64) (k0_off11 c) S128x64.size (k0_off11_inb c)).emb j (0 : Fin 2)).val = _
    rw [Rect.emb_apply]
    show k0_off11 c 0 + 1 * (j (0 : Fin 2)).val = _
    rw [(congrFun (k0_off11_eq c) 0 : k0_off11 c 0 = 128 * c.val)]; show 128 * c.val + 1 * (j (0 : Fin 2)).val = 128 * c.val + (j (0 : Fin 2)).val; omega
  have e1 : ((G7.access (Rect.unit (s := S4096x64) (k0_off11 c) S128x64.size (k0_off11_inb c))).emb j (1 : Fin 2)).val = (j (1 : Fin 2)).val := by
    show ((Rect.unit (s := S4096x64) (k0_off11 c) S128x64.size (k0_off11_inb c)).emb j (1 : Fin 2)).val = _
    rw [Rect.emb_apply]
    show k0_off11 c 1 + 1 * (j (1 : Fin 2)).val = _
    rw [(congrFun (k0_off11_eq c) 1 : k0_off11 c 1 = 0)]; show 0 + 1 * (j (1 : Fin 2)).val = _; omega
  funext a
  refine Fin.ext ?_
  fin_cases a
  · show (j (0 : Fin 2)).val = ((G7.access _).emb j (0 : Fin 2)).val % 128
    rw [e0]; omega
  · show (j (1 : Fin 2)).val = ((G7.access _).emb j (1 : Fin 2)).val
    rw [e1]

/-- What the gathered array holds of a half block. -/
theorem half_read {n r d : ℕ} (hn : n < 32) (hd : d < 2) (hr : r = 64 * d) (hb : ∀ a, segOff n r 0 a + S1x64x4096.size a ≤ S32x128x4096.size a) :
    (G8.access (Rect.unit (s := S32x128x4096) (segOff n r 0) S1x64x4096.size hb)).read (Elt F) (GX X) = halfX X ⟨n, hn⟩ d := by
  funext j
  subst hr
  have h1 : (j (1 : Fin 3)).val < 64 := (j (1 : Fin 3)).isLt
  have h0 : (j (0 : Fin 3)).val < 1 := (j (0 : Fin 3)).isLt
  have e (a : Fin 3) : ((Rect.unit (s := S32x128x4096) (segOff n (64 * d) 0) S1x64x4096.size hb).emb j a).val = segOff n (64 * d) 0 a + 1 * (j a).val := Rect.emb_apply ..
  show GX X ((Rect.unit (s := S32x128x4096) (segOff n (64 * d) 0) S1x64x4096.size hb).emb j) = halfX X ⟨n, hn⟩ d j
  unfold GX halfX
  have e0 : ((Rect.unit (s := S32x128x4096) (segOff n (64 * d) 0) S1x64x4096.size hb).emb j (0 : Fin 3)).val = n := by
    rw [e]; show n + 1 * _ = n; omega
  have e1 : rowCol ((Rect.unit (s := S32x128x4096) (segOff n (64 * d) 0) S1x64x4096.size hb).emb j) = (fun a => match a with
    | ⟨0, _⟩ => ⟨(64 * d + (j (1 : Fin 3)).val) % 128, Nat.mod_lt _ (by decide)⟩
    | ⟨1, _⟩ => j (2 : Fin 3) : S128x4096.Idx) := by
    funext a
    refine Fin.ext ?_
    fin_cases a
    · show ((Rect.unit (s := S32x128x4096) (segOff n (64 * d) 0) S1x64x4096.size hb).emb j (1 : Fin 3)).val = (64 * d + (j (1 : Fin 3)).val) % 128
      rw [e]; show 64 * d + 1 * _ = _; omega
    · show ((Rect.unit (s := S32x128x4096) (segOff n (64 * d) 0) S1x64x4096.size hb).emb j (2 : Fin 3)).val = (j (2 : Fin 3)).val
      rw [e]; show 0 + 1 * _ = _; omega
  rw [e1]; congr 1; exact Fin.ext e0

/-- A half block's product stored: one half more of the rows is right. -/
theorem half_stored {h d r m : ℕ} (hd : d < 2) (hh : h < 31) (v : BitVec 32) (hv : v.toNat < 32) (ev : v.toNat = slot d (h + 1) c) (hr : r = 64 * d) (hr' : r ≤ 64)
    (hm : m = 2 * (h + 1) + d) (f : FVec F S4096x64 .f32) (hf : ∀ i, outKey c i < m → f i = resF X sc w c i) (a : FVec F S1x64x4096 .fp8e5m2) (ha : a = halfX X ⟨v.toNat, hv⟩ d) :
    ∀ i, outKey c i < m + 1 → (G7.access (Rect.unit (s := S4096x64) (rowOff v (BitVec.ofNat 32 r)) S64x64.size (rowOff_inb hv r hr'))).write (Elt F) f
      (k0_pay3 sc w a) Finset.univ i = resF X sc w c i := by
  intro i hi
  subst ha
  have h0 := o0_lt i
  have hd' : (i (0 : Fin 2)).val % 128 / 64 < 2 := by omega
  have ho : rowOff v (BitVec.ofNat 32 r) = ![128 * v.toNat + 64 * d, 0] := by
    unfold rowOff; rw [rowOff_toNat hv r hr', hr]
  have hmem := mem_rows (128 * v.toNat + 64 * d) ho 64 (sz := S64x64.size) (by decide) (rowOff_inb hv r hr') i
  by_cases hs : i ∈ (G7.access (Rect.unit (s := S4096x64) (rowOff v (BitVec.ofNat 32 r)) S64x64.size (rowOff_inb hv r hr'))).set
  · have hi' := hmem.mp hs
    have en : (i (0 : Fin 2)).val / 128 = v.toNat := by omega
    have ed : (i (0 : Fin 2)).val % 128 / 64 = d := by omega
    obtain ⟨j, -, rfl⟩ := Finset.mem_map.mp hs
    rw [View.write_emb_of_mem _ _ (Finset.mem_univ j)]
    unfold resF
    rw [if_neg (fun e => by
      have e1 := hopOf_slot c hd (h := h + 1) (by omega)
      rw [← ev, ← en, e, hopOf_own c hd] at e1
      omega)]
    have hj : (j (0 : Fin 2)).val < 64 := (j (0 : Fin 2)).isLt
    have e (a : Fin 2) : ((G7.access (Rect.unit (s := S4096x64) (rowOff v (BitVec.ofNat 32 r)) S64x64.size (rowOff_inb hv r hr'))).emb j a).val = rowOff v (BitVec.ofNat 32 r) a + 1 * (j a).val := by
      show ((Rect.unit (s := S4096x64) (rowOff v (BitVec.ofNat 32 r)) S64x64.size (rowOff_inb hv r hr')).emb j a).val = _
      exact Rect.emb_apply ..
    rw [ed]
    have en' : (⟨v.toNat, hv⟩ : Dev nD) = ⟨((G7.access (Rect.unit (s := S4096x64) (rowOff v (BitVec.ofNat 32 r)) S64x64.size (rowOff_inb hv r hr'))).emb j (0 : Fin 2)).val / 128, by show _ < 32; omega⟩ := Fin.ext en.symm
    rw [← en']
    refine congrArg (k0_pay3 sc w (halfX X ⟨v.toNat, hv⟩ d)) ?_
    funext b
    refine Fin.ext ?_
    fin_cases b
    · show (j (0 : Fin 2)).val = ((G7.access _).emb j (0 : Fin 2)).val % 64
      rw [e, (congrFun ho 0 : rowOff v (BitVec.ofNat 32 r) 0 = 128 * v.toNat + 64 * d)]; show (j (0 : Fin 2)).val = (128 * v.toNat + 64 * d + 1 * (j (0 : Fin 2)).val) % 64; omega
    · show (j (1 : Fin 2)).val = ((G7.access _).emb j (1 : Fin 2)).val
      rw [e, (congrFun ho 1 : rowOff v (BitVec.ofNat 32 r) 1 = 0)]; show _ = 0 + 1 * (j (1 : Fin 2)).val; omega
  · rw [View.write_of_not_mem _ _ _ hs]
    refine hf i ?_
    by_contra hge
    have hk : outKey c i = m := by omega
    unfold outKey at hk
    have ed : (i (0 : Fin 2)).val % 128 / 64 = d := by omega
    obtain ⟨hl, hs'⟩ := slot_hopOf c hd' (n := (i (0 : Fin 2)).val / 128) (by omega)
    rw [ed] at hk hs'
    rw [show hopOf d c ((i (0 : Fin 2)).val / 128) = h + 1 by omega, ← ev] at hs'
    exact hs (hmem.mpr (by omega))

end Cert.KernelIdeal.Hops
end
-- ==== Proof.Hop.lean ====
module

public import proofs.«01_k».proof.Proof.Out

@[expose] public section

noncomputable section

namespace Cert.KernelIdeal.Hops

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

/-! # One hop, one round of departures, and all of them -/

variable {F : FTy → Type} [FloatOps F]

local notation "𝕄" => MT nD τ sig Unit (Elt F) ℕ UU ℕ

variable (c : Dev nD)

/-- The tables of blocks, as the kernel's scalar memory holds them. -/
def T5 : (cc0_stg5_0 : Ref sig .tc).ty.Contents (Elt F) := fun (i : S32x32.Idx) => lit2 (S32x32.rowMajor i)
def T6 : (cc0_stg6_0 : Ref sig .tc).ty.Contents (Elt F) := fun (i : S32x32.Idx) => lit3 (S32x32.rowMajor i)

abbrev t5 : sProp 𝕄 := iprop((c : Thread nD τ).loc cc0_stg5_0 ↦{fullShare} T5 (F := F))
abbrev t6 : sProp 𝕄 := iprop((c : Thread nD τ).loc cc0_stg6_0 ↦{fullShare} T6 (F := F))

theorem tab_idx (h : ℕ) (hh : h < 32) (hb : ∀ a, ![h, (myW c).toNat] a + S1x1.size a ≤ S32x32.size a) (j : S1x1.Idx) :
    S32x32.rowMajor ((Rect.unit (s := S32x32) ![h, (myW c).toNat] S1x1.size hb).emb j) = (Fin.ofNat 1024 (32 * h + c.val) : Fin 1024) := by
  have hc : c.val < 32 := c.isLt
  have j0 : (j (0 : Fin 2)).val < 1 := (j (0 : Fin 2)).isLt
  have j1 : (j (1 : Fin 2)).val < 1 := (j (1 : Fin 2)).isLt
  have e (a : Fin 2) : ((Rect.unit (s := S32x32) ![h, (myW c).toNat] S1x1.size hb).emb j a).val = ![h, (myW c).toNat] a + 1 * (j a).val := Rect.emb_apply ..
  refine Fin.ext ?_
  rw [Shape.rowMajor_val_two]
  show ((Rect.unit (s := S32x32) ![h, (myW c).toNat] S1x1.size hb).emb j (0 : Fin 2)).val * 32
    + ((Rect.unit (s := S32x32) ![h, (myW c).toNat] S1x1.size hb).emb j (1 : Fin 2)).val = (32 * h + c.val) % 1024
  rw [e, e]
  show (h + 1 * (j (0 : Fin 2)).val) * 32 + ((myW c).toNat + 1 * (j (1 : Fin 2)).val) = _
  rw [myW_toNat]; omega

/-- Reading a table. -/
theorem tab5_op {Q : Elt F .i32 → sProp 𝕄} (h : ℕ) (hh : h < 32) :
    iprop(t5 (F := F) c ∗ (t5 (F := F) c -∗ Q (lit2 (Fin.ofNat 1024 (32 * h + c.val))))) ⊢ wpc c (tab (F := F) (Memref.whole cc0_stg5_0) c h hh) Q := by
  iintro ⟨H, HQ⟩
  unfold tab smemLoad wpc
  iapply (wp_smemLoadElt 𝒱₀ (c : Thread nD τ) none Set.univ (m := Memref.whole cc0_stg5_0) (r := Rect.unit (s := S32x32) ![h, (myW c).toNat] S1x1.size (tabOff_inb c hh))
    (S := Finset.univ) (q := fullShare) (f := T5 (F := F)) (Finset.subset_univ _)) $$ H
  iintro H
  rw [wp_ret]; imodintro
  have e (j : S1x1.Idx) : ((Memref.whole cc0_stg5_0).access (Rect.unit (s := S32x32) ![h, (myW c).toNat] S1x1.size (tabOff_inb c hh))).read (Elt F) (T5 (F := F)) j = lit2 (Fin.ofNat 1024 (32 * h + c.val)) :=
    congrArg lit2 (tab_idx c h hh (tabOff_inb c hh) _)
  iapply (Entails.of_eq (congrArg Q (e _).symm))
  iapply HQ; iexact H

theorem tab6_op {Q : Elt F .i32 → sProp 𝕄} (h : ℕ) (hh : h < 32) :
    iprop(t6 (F := F) c ∗ (t6 (F := F) c -∗ Q (lit3 (Fin.ofNat 1024 (32 * h + c.val))))) ⊢ wpc c (tab (F := F) (Memref.whole cc0_stg6_0) c h hh) Q := by
  iintro ⟨H, HQ⟩
  unfold tab smemLoad wpc
  iapply (wp_smemLoadElt 𝒱₀ (c : Thread nD τ) none Set.univ (m := Memref.whole cc0_stg6_0) (r := Rect.unit (s := S32x32) ![h, (myW c).toNat] S1x1.size (tabOff_inb c hh))
    (S := Finset.univ) (q := fullShare) (f := T6 (F := F)) (Finset.subset_univ _)) $$ H
  iintro H
  rw [wp_ret]; imodintro
  have e (j : S1x1.Idx) : ((Memref.whole cc0_stg6_0).access (Rect.unit (s := S32x32) ![h, (myW c).toNat] S1x1.size (tabOff_inb c hh))).read (Elt F) (T6 (F := F)) j = lit3 (Fin.ofNat 1024 (32 * h + c.val)) :=
    congrArg lit3 (tab_idx c h hh (tabOff_inb c hh) _)
  iapply (Entails.of_eq (congrArg Q (e _).symm))
  iapply HQ; iexact H

variable (X : Dev nD → FVec F S128x4096 .fp8e5m2) (K : GSem nD τ sig → ℕ) (sc : Elt F .f32) (w : FVec F S4096x64 .fp8e5m2)

/-- The result array, right where rows have come. -/
def outP (m : ℕ) : sProp 𝕄 :=
  iprop(∃ f : FVec F S4096x64 .f32, ⌜∀ i, outKey c i < m → f i = resF X sc w c i⌝ ∗ ((c : Thread nD τ).loc cc0_stg7_0 ↦{fullShare} f))

/-- The product of a half block that has come. -/
theorem halfGemm_op {a N h d r m : ℕ} (hd : d < 2) (hh : h < 31) (hN : 8 * (h + 1) ≤ N) (v : BitVec 32) (hv : v.toNat < 32)
    (ev : v.toNat = slot d (h + 1) c) (hr : r = 64 * d) (hr' : r ≤ 64) (hm : m = 2 * (h + 1) + d) :
    iprop(St X K c a N ∗ outP c X sc w m) ⊢ wpc c (halfGemm G7 G8 sc w v hv r hr') (fun _ => iprop(St X K c a N ∗ outP c X sc w (m + 1))) := by
  unfold St outP halfGemm wpc
  simp only [Prog.lift, Prog.bind_op, Prog.bind_ret, Prog.pure_eq_ret, Prog.bind_assoc]
  iintro ⟨⟨HC, HL, HR⟩, ⟨%f, %hf, Ho⟩⟩
  iapply (wp_load_rect 𝒱₀ (c : Thread nD τ) none Set.univ (m := G8)
    (half_subset c (h := h + 1) hd (by omega) ev hr (show 8 * (h + 1) + 8 ≤ N + 8 by omega) (halfOff_inb hv hr'))) $$ HL
  iintro HL
  iapply (wp_load_rect 𝒱₀ (c : Thread nD τ) none Set.univ (m := G7) (r := Rect.unit (s := S4096x64) (rowOff v (BitVec.ofNat 32 r)) S64x64.size (rowOff_inb hv r hr'))
    (S := Finset.univ) (q := fullShare) (f := f) (Finset.subset_univ _)) $$ Ho
  iintro Ho
  iapply (wp_store 𝒱₀ (c : Thread nD τ) none Set.univ (m := G7) (r := Rect.unit (s := S4096x64) (rowOff v (BitVec.ofNat 32 r)) S64x64.size (rowOff_inb hv r hr'))
    (S := Finset.univ) (f := f) (Finset.subset_univ _)) $$ Ho
  iintro Ho
  rw [wp_ret]; imodintro
  isplitl [HC HL HR]
  · isplitl [HC]; · iexact HC
    isplitl [HL]; · iexact HL
    iexact HR
  iexists _
  isplitr
  · ipureintro
    exact half_stored X sc w c hd hh v hv ev hr hr' hm f hf _ (half_read X hv hd hr (halfOff_inb hv hr'))
  iexact Ho

/-- The product of the own block. -/
theorem ownGemm_op (f : FVec F S4096x64 .f32) :
    iprop(xPts c (X c) ∗ ((c : Thread nD τ).loc cc0_stg7_0 ↦{fullShare} f)) ⊢ wpc c (ownGemm (Memref.whole cc0_stg0_0) G7 c sc w)
      (fun _ => iprop(xPts c (X c) ∗ outP c X sc w 2)) := by
  unfold outP ownGemm wpc xPts
  simp only [Prog.lift, Prog.bind_op, Prog.bind_ret, Prog.pure_eq_ret, Prog.bind_assoc]
  have e : ((Memref.whole cc0_stg0_0).access (Rect.unit (s := S128x4096) ![0, 0] S128x4096.size inb_S128x4096_S128x4096_0_0)).read (Elt F) (X c) = X c := by
    funext j
    show X c ((Rect.unit (s := S128x4096) ![0, 0] S128x4096.size inb_S128x4096_S128x4096_0_0).emb j) = X c j
    refine congrArg (X c) (funext fun a => Fin.ext ?_)
    rw [Rect.emb_apply]
    fin_cases a
    · show 0 + 1 * (j (0 : Fin 2)).val = (j (0 : Fin 2)).val; omega
    · show 0 + 1 * (j (1 : Fin 2)).val = (j (1 : Fin 2)).val; omega
  iintro ⟨Hx, Ho⟩
  iapply (wp_load_rect 𝒱₀ (c : Thread nD τ) none Set.univ (m := Memref.whole cc0_stg0_0) (r := Rect.unit (s := S128x4096) ![0, 0] S128x4096.size inb_S128x4096_S128x4096_0_0)
    (S := Finset.univ) (q := fullShare) (f := X c) (Finset.subset_univ _)) $$ Hx
  iintro Hx
  rw [e]
  iapply (wp_load_rect 𝒱₀ (c : Thread nD τ) none Set.univ (m := G7) (r := Rect.unit (s := S4096x64) (k0_off11 c) S128x64.size (k0_off11_inb c))
    (S := Finset.univ) (q := fullShare) (f := f) (Finset.subset_univ _)) $$ Ho
  iintro Ho
  iapply (wp_store 𝒱₀ (c : Thread nD τ) none Set.univ (m := G7) (r := Rect.unit (s := S4096x64) (k0_off11 c) S128x64.size (k0_off11_inb c))
    (S := Finset.univ) (f := f) (Finset.subset_univ _)) $$ Ho
  iintro Ho
  rw [wp_ret]; imodintro
  isplitl [Hx]; · iexact Hx
  iexists _
  isplitr
  · ipureintro
    exact own_stored X sc w c f
  iexact Ho

/-- The state before hop `h`. -/
def Hp (h : ℕ) : sProp 𝕄 :=
  iprop(St X K c (min (8 * h + 8) 248) (8 * h) ∗ outP c X sc w (2 * h + 2) ∗ t5 (F := F) c ∗ t6 (F := F) c)

/-- The segments and the two products of a hop. -/
theorem hopRest_op (rn ln : Dev nD) (hrn : rn = nb 0 c) (hln : ln = nb 1 c) (h : ℕ) (hh : h < 31) (cw ccw : BitVec 32)
    (hcw : cw.toNat < 32) (hccw : ccw.toNat < 32) (e5 : cw.toNat = slot 0 (h + 1) c) (e6 : ccw.toNat = slot 1 (h + 1) c) :
    Hp c X K sc w h ⊢ wpc c (do
        hopSeg G8 (Memref.isWhole_whole _) cc0_scratch2 cc0_scratch3 cc0_scratch4 cc0_scratch5 rn ln h hh cw ccw hcw hccw 0 (by omega)
        hopSeg G8 (Memref.isWhole_whole _) cc0_scratch2 cc0_scratch3 cc0_scratch4 cc0_scratch5 rn ln h hh cw ccw hcw hccw 1 (by omega)
        hopSeg G8 (Memref.isWhole_whole _) cc0_scratch2 cc0_scratch3 cc0_scratch4 cc0_scratch5 rn ln h hh cw ccw hcw hccw 2 (by omega)
        hopSeg G8 (Memref.isWhole_whole _) cc0_scratch2 cc0_scratch3 cc0_scratch4 cc0_scratch5 rn ln h hh cw ccw hcw hccw 3 (by omega)
        halfGemm G7 G8 sc w cw hcw 0 (by omega)
        halfGemm G7 G8 sc w ccw hccw 64 (by omega)) (fun _ => Hp c X K sc w (h + 1)) := by
  unfold Hp
  refine seq_op c (frame_op c _ (hopSeg_op c X K hh (s := 0) (by omega) rn ln hrn hln _ _ _ _ e5 e6)) ?_
  refine seq_op c (frame_op c _ (hopSeg_op c X K hh (s := 1) (by omega) rn ln hrn hln _ _ _ _ e5 e6)) ?_
  refine seq_op c (frame_op c _ (hopSeg_op c X K hh (s := 2) (by omega) rn ln hrn hln _ _ _ _ e5 e6)) ?_
  refine seq_op c (frame_op c _ (hopSeg_op c X K hh (s := 3) (by omega) rn ln hrn hln _ _ _ _ e5 e6)) ?_
  refine (sep_assoc (PROP := sProp 𝕄)).2.trans ?_
  refine seq_op c (frame_op c _ (halfGemm_op c X K sc w (h := h) (d := 0) (by omega) hh (by omega) _ _ e5 rfl _ (by omega))) ?_
  refine BI.Entails.trans (frame_op c _ (halfGemm_op c X K sc w (h := h) (d := 1) (r := 64) (by omega) hh (by omega) _ hccw e6 rfl (by omega) (by omega))) ?_
  refine wp_mono _ _ _ fun _ => ?_
  exact (sep_assoc (PROP := sProp 𝕄)).1

theorem hop_op (rn ln : Dev nD) (hrn : rn = nb 0 c) (hln : ln = nb 1 c) (h : ℕ) (hh : h < 31) :
    Hp c X K sc w h ⊢ wpc c (hop (Memref.whole cc0_stg5_0) (Memref.whole cc0_stg6_0) G7 G8 (Memref.isWhole_whole _) cc0_scratch2 cc0_scratch3 cc0_scratch4 cc0_scratch5
      c rn ln sc w h hh) (fun _ => Hp c X K sc w (h + 1)) := by
  have e5 : (lit2 (Fin.ofNat 1024 (32 * (h + 1) + c.val))).toNat = slot 0 (h + 1) c := rfl
  have e6 : (lit3 (Fin.ofNat 1024 (32 * (h + 1) + c.val))).toNat = slot 1 (h + 1) c := rfl
  have l5 := slot_lt c (d := 0) (h := h + 1) (by omega) (by omega)
  have l6 := slot_lt c (d := 1) (h := h + 1) (by omega) (by omega)
  rw [← e5] at l5
  rw [← e6] at l6
  unfold hop wpc Hp
  rw [wp_bind]
  iintro ⟨HS, Ho, H5, H6⟩
  iapply (tab5_op c (h + 1) _)
  isplitl [H5]; · iexact H5
  iintro H5
  rw [wp_bind]
  unfold Prog.lift
  iapply (wp_assume 𝒱₀ (c : Thread nD τ) none Set.univ (chk3_of_lt l5))
  rw [wp_ret]; imodintro
  rw [wp_bind]
  iapply (tab6_op c (h + 1) _)
  isplitl [H6]; · iexact H6
  iintro H6
  rw [wp_bind]
  iapply (wp_assume 𝒱₀ (c : Thread nD τ) none Set.univ (chk4_of_lt l6))
  rw [wp_ret]; imodintro
  iapply (hopRest_op c X K sc w rn ln hrn hln h hh _ _ l5 l6 e5 e6)
  unfold Hp
  isplitl [HS]; · iexact HS
  isplitl [Ho]; · iexact Ho
  isplitl [H5] <;> iassumption

/-- The departures of a round. -/
theorem drainRest_op (h : ℕ) (hh : h < 31) (cw ccw : BitVec 32) (hcw : cw.toNat < 32) (hccw : ccw.toNat < 32) :
    iprop(Dr X K c (8 * h) ∗ t5 (F := F) c ∗ t6 (F := F) c) ⊢ wpc c (do
        drainSeg G8 (Memref.isWhole_whole _) cc0_scratch2 cc0_scratch4 h hh cw ccw hcw hccw 0 (by omega)
        drainSeg G8 (Memref.isWhole_whole _) cc0_scratch2 cc0_scratch4 h hh cw ccw hcw hccw 1 (by omega)
        drainSeg G8 (Memref.isWhole_whole _) cc0_scratch2 cc0_scratch4 h hh cw ccw hcw hccw 2 (by omega)
        drainSeg G8 (Memref.isWhole_whole _) cc0_scratch2 cc0_scratch4 h hh cw ccw hcw hccw 3 (by omega))
      (fun _ => iprop(Dr X K c (8 * (h + 1)) ∗ t5 (F := F) c ∗ t6 (F := F) c)) := by
  refine seq_op c (frame_op c _ (drainSeg_op c X K hh (s := 0) (by omega) _ _ _ _)) ?_
  refine seq_op c (frame_op c _ (drainSeg_op c X K hh (s := 1) (by omega) _ _ _ _)) ?_
  refine seq_op c (frame_op c _ (drainSeg_op c X K hh (s := 2) (by omega) _ _ _ _)) ?_
  exact frame_op c _ (drainSeg_op c X K hh (s := 3) (by omega) _ _ _ _)

theorem drain_round_op (h : ℕ) (hh : h < 31) :
    iprop(Dr X K c (8 * h) ∗ t5 (F := F) c ∗ t6 (F := F) c) ⊢ wpc c (drain (Memref.whole cc0_stg5_0) (Memref.whole cc0_stg6_0) G8 (Memref.isWhole_whole _) cc0_scratch2 cc0_scratch4 c h hh)
      (fun _ => iprop(Dr X K c (8 * (h + 1)) ∗ t5 (F := F) c ∗ t6 (F := F) c)) := by
  have e5 : (lit2 (Fin.ofNat 1024 (32 * h + c.val))).toNat = slot 0 h c := rfl
  have e6 : (lit3 (Fin.ofNat 1024 (32 * h + c.val))).toNat = slot 1 h c := rfl
  have l5 := slot_lt c (d := 0) (h := h) (by omega) (by omega)
  have l6 := slot_lt c (d := 1) (h := h) (by omega) (by omega)
  rw [← e5] at l5
  rw [← e6] at l6
  unfold drain wpc
  rw [wp_bind]
  iintro ⟨HS, H5, H6⟩
  iapply (tab5_op c h _)
  isplitl [H5]; · iexact H5
  iintro H5
  rw [wp_bind]
  unfold Prog.lift
  iapply (wp_assume 𝒱₀ (c : Thread nD τ) none Set.univ (chk65_of_lt l5))
  rw [wp_ret]; imodintro
  rw [wp_bind]
  iapply (tab6_op c h _)
  isplitl [H6]; · iexact H6
  iintro H6
  rw [wp_bind]
  iapply (wp_assume 𝒱₀ (c : Thread nD τ) none Set.univ (chk66_of_lt l6))
  rw [wp_ret]; imodintro
  iapply (drainRest_op c X K h hh _ _ l5 l6)
  isplitl [HS]; · iexact HS
  isplitl [H5] <;> iassumption

/-- Rounds one after another. -/
theorem loop_op {N : ℕ} (f : (h : ℕ) → h < N → PG F PUnit) (I : ℕ → sProp 𝕄) (hf : ∀ h hh, I h ⊢ wpc c (f h hh) (fun _ => I (h + 1))) :
    ∀ (n h : ℕ) (hn : h + n ≤ N), I h ⊢ wpc c (loop f n h hn) (fun _ => I (h + n))
  | 0, h, hn => by unfold loop; exact skip_op c
  | n + 1, h, hn => by
    unfold loop
    refine seq_op c (hf h (by omega)) ?_
    have e : h + (n + 1) = h + 1 + n := by omega
    rw [e]
    exact loop_op f I hf n (h + 1) (by omega)

end Cert.KernelIdeal.Hops
end
-- ==== Proof.Pro.lean ====
module

public import proofs.«01_k».proof.Proof.Hop

@[expose] public section

noncomputable section

namespace Cert.KernelIdeal.Hops

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

/-! # The barrier and the own block: up to the first copy -/

variable {F : FTy → Type} [FloatOps F]

local notation "𝕄" => MT nD τ sig Unit (Elt F) ℕ UU ℕ

variable (c : Dev nD) (X : Dev nD → FVec F S128x4096 .fp8e5m2) (K : GSem nD τ sig → ℕ)

/-- What device `c` hands out at the barrier for one piece: its place, and that its semaphore is open. -/
def giveOf (k : ℕ) : sProp 𝕄 :=
  iprop((∃ f, gPts (F := F) c (piece c (k + 8)) fullShare f) ∗ Rounds.reached ER (recvCell c k) 0)

omit [FloatOps F] in
/-- What it hands out is what its two neighbours need of it. -/
theorem give_split : (bigSep (Finset.range 248) (giveOf (F := F) c) : sProp 𝕄) = iprop(barPay (F := F) (nb 1 c) 0 ∗ barPay (F := F) (nb 0 c) 1) := by
  unfold barPay keys
  rw [bigSep_filter_split (Finset.range 248) (fun k => k % 2 = 0)]
  have e0 : bigSep ((Finset.range 248).filter fun k => k % 2 = 0) (giveOf (F := F) c)
      = bigSep ((Finset.range 248).filter fun k => k % 2 = 0) (fun k => dstOf (F := F) (nb 1 c) k) :=
    bigSep_congr fun k hk => by
      have : k % 2 = 0 := (Finset.mem_filter.mp hk).2
      unfold giveOf dstOf; rw [this, nb_pv01]
  have e1 : bigSep ((Finset.range 248).filter fun k => ¬ k % 2 = 0) (giveOf (F := F) c)
      = bigSep ((Finset.range 248).filter fun k => k % 2 = 1) (fun k => dstOf (F := F) (nb 0 c) k) := by
    rw [show ((Finset.range 248).filter fun k => ¬ k % 2 = 0) = (Finset.range 248).filter fun k => k % 2 = 1 from
      Finset.filter_congr fun k _ => by omega]
    exact bigSep_congr fun k hk => by
      have : k % 2 = 1 := (Finset.mem_filter.mp hk).2
      unfold giveOf dstOf; rw [this, nb_pv10]
  rw [e0, e1]; rfl

theorem rest_pieces : (Finset.range 248).biUnion (fun k => piece c (k + 8)) = Finset.univ \ held c 8 := by
  rw [← biUnion_rest c]
  ext i
  rw [Finset.mem_biUnion, Finset.mem_biUnion]
  constructor
  · rintro ⟨k, hk, hi⟩
    exact ⟨k + 8, by rw [Finset.mem_Ico]; have := Finset.mem_range.mp hk; omega, hi⟩
  · rintro ⟨k, hk, hi⟩
    have hk := Finset.mem_Ico.mp hk
    exact ⟨k - 8, by rw [Finset.mem_range]; omega, by rw [show k - 8 + 8 = k by omega]; exact hi⟩

omit [FloatOps F] in
/-- The array before anything has come: the own block's place, and the pieces to hand out. -/
theorem scratch_split (f : (cc0_scratch0 : Ref sig .tc).ty.Contents (Elt F)) :
    (gPts c Finset.univ fullShare f : sProp 𝕄)
      ⊢ iprop(gPts c (held c 8) fullShare f ∗ bigSep (Finset.range 248) fun k => gPts c (piece c (k + 8)) fullShare f) := by
  refine (pointsTo_split_subset (Finset.subset_univ (held c 8))).1.trans (sep_mono_right ?_)
  rw [← rest_pieces c, pointsTo_biUnion _ _ (fun k _ k' _ h => piece_disjoint c (by omega))]

/-- What the device holds of the barrier and of its own copy. -/
def barRes : sProp 𝕄 :=
  iprop(cred (tallyAt (barCell c) () 2) ∗ Rounds.atPos ER (barCell c) 0 ∅ 0 ∗ Rounds.reached ER (barCell (nb 1 c)) 0 ∗ Rounds.reached ER (barCell (nb 0 c)) 0
    ∗ Rounds.dutyTok ER (barCell (nb 1 c)) 0 0 ∗ Rounds.dutyTok ER (barCell (nb 0 c)) 0 1)
def copyRes : sProp 𝕄 :=
  iprop(Rounds.atPos ER (copyCell c) 0 ∅ 0 ∗ Rounds.reached ER (copyCell c) 0 ∗ Rounds.dutyTok ER (copyCell c) 0 0)

omit [FloatOps F] in
theorem x_set (f : (cc0_stg0_0 : Ref sig .tc).ty.Contents (Elt F)) :
    (xPts c f : sProp 𝕄) = (((c : Thread nD τ).loc cc0_stg0_0) ↦[(Memref.whole cc0_stg0_0).view.set]{fullShare} f) := by
  rw [show (Memref.whole cc0_stg0_0 : Memref sig .tc _ _ _).view.set = Finset.univ from View.set_whole _]

/-- What the copy of the own block leaves: the block in its place, and the staged block again. -/
theorem copy_pay (f : (cc0_scratch0 : Ref sig .tc).ty.Contents (Elt F)) :
    iprop((gPts c (ownV c).view.set fullShare ((ownV c).view.write (Elt F) f ((Memref.whole cc0_stg0_0).view.read (Elt F) (X c)) Finset.univ))
      ∗ (((c : Thread nD τ).loc cc0_stg0_0) ↦[(Memref.whole cc0_stg0_0).view.set]{fullShare} X c))
    ⊢ (Rd X).payload (copyCell c) 0 0 := by
  rw [payload_copy, ← x_set c (X c)]
  unfold copyPay
  refine sep_mono_left ?_
  rw [show (Memref.whole cc0_stg0_0 : Memref sig .tc _ _ _).view.read (Elt F) (X c) = X c from View.read_whole _ _]
  have e : (gPts c (ownV c).view.set fullShare ((ownV c).view.write (Elt F) f (X c) Finset.univ) : sProp 𝕄) = gPts c (held c 8) fullShare (GX X) := by
    unfold gPts
    rw [pointsTo_congr (g := GX X) (write_own X c f), own_eq_held c]
  rw [e]

theorem copy_ge : 8 ≤ (copyS).val := by decide

theorem prologue_op :
    iprop(Ctx X K ∗ barRes (F := F) c ∗ copyRes (F := F) c ∗ bigSep (Finset.range 248) (fun k => Rounds.reached ER (recvCell c k) 0)
      ∗ (∃ f, gPts c Finset.univ fullShare f) ∗ xPts c (X c) ∗ ∃ W, owes (c : Thread nD τ) (O₀ c) W)
    ⊢ wpc c (prologue (Memref.whole cc0_stg0_0) (Memref.isWhole_whole _) G8 (Memref.isWhole_whole _) cc0_scratch1 c (nb 0 c) (nb 1 c))
      (fun _ => iprop(Ctx X K ∗ semVal (barCell c) 0 ∗ semVal (copyCell c) 0 ∗ bigSep (Finset.range 248) (dstOf (F := F) c)
        ∗ gPts c (held c 8) fullShare (GX X) ∗ xPts c (X c) ∗ ∃ W, owes (c : Thread nD τ) (owed c 0) W)) := by
  have hl : levelOf (roleOf (.reg barS)) < 2 + 0 := by decide
  have hmw : Ctx X K ⊢ MayWait (c : Thread nD τ) (.reg barS) () (owed c 0) := ctx_mayWait X K c _ 0 hl
  have hl2 : levelOf (roleOf (.dma copyS)) < 2 + 0 := by rw [role_copy]; decide
  have hmw2 : Ctx X K ⊢ MayWait (c : Thread nD τ) (.dma copyS) () (owed c 0) := ctx_mayWait X K c _ 0 hl2
  unfold prologue wpc barRes copyRes
  simp only [semSignalWord, semWaitWord, Prog.lift, Prog.bind_op, Prog.bind_ret, Prog.pure_eq_ret, Prog.bind_assoc]
  iintro ⟨#HC, ⟨HcB, HatB, #Hr1, #Hr0, Ht1, Ht0⟩, ⟨HatC, #HrC, HtC⟩, HrV, ⟨%f, Hs⟩, Hx, ⟨%W, HO⟩⟩
  ihave #HIb1 := (ctx_inv X K (bar_mem (nb 1 c))) $$ HC
  ihave #HIb0 := (ctx_inv X K (bar_mem (nb 0 c))) $$ HC
  ihave #HIb := (ctx_inv X K (bar_mem c)) $$ HC
  ihave #HIc := (ctx_inv X K (own_mem c copyS copy_ge)) $$ HC
  ihave Hs := (scratch_split c f) $$ Hs
  icases Hs with ⟨Hown, Hps⟩
  ihave Hg := (show iprop((bigSep (Finset.range 248) fun k => gPts c (piece c (k + 8)) fullShare f) ∗ bigSep (Finset.range 248) (fun k => Rounds.reached ER (recvCell c k) 0))
      ⊢ iprop(barPay (F := F) (nb 1 c) 0 ∗ barPay (F := F) (nb 0 c) 1) from by
    rw [← give_split, ← bigSep_sep']
    exact bigSep_mono fun k _ => by
      unfold giveOf
      exact sep_mono_left (exists_intro (Φ := fun f => gPts c (piece c (k + 8)) fullShare f) f)) $$ [Hps HrV]
  · isplitl [Hps] <;> iassumption
  icases Hg with ⟨Hg1, Hg0⟩
  unfold O₀
  iapply (Rounds.wp_signal 𝒱₀ ER (Rd X) (c : Thread nD τ) none (dst := (nb 1 c : Thread nD τ)) (sem := barS) (r := 0) (d := 0) (κ := K (barCell (nb 1 c)))
      (by rw [duties_bar]; decide) ((amount_bar X (nb 1 c) 0).trans (by decide)) () (owed c 0 + tallyAt (barCell (nb 0 c)) () 1) rfl)
    $$ [HO Ht1 Hg1]
  · isplitr; · iexact HIb1
    isplitl [HO]; · iexact HO
    isplitl [Ht1]; · iexact Ht1
    isplitl [Hg1]; · (rw [payload_bar]; iexact Hg1)
    iexact Hr1
  iintro HO
  iapply (Rounds.wp_signal 𝒱₀ ER (Rd X) (c : Thread nD τ) none (dst := (nb 0 c : Thread nD τ)) (sem := barS) (r := 0) (d := 1) (κ := K (barCell (nb 0 c)))
      (by rw [duties_bar]; decide) ((amount_bar X (nb 0 c) 1).trans (by decide)) () (owed c 0) rfl)
    $$ [HO Ht0 Hg0]
  · isplitr; · iexact HIb0
    isplitl [HO]; · iexact HO
    isplitl [Ht0]; · iexact Ht0
    isplitl [Hg0]; · (rw [payload_bar]; iexact Hg0)
    iexact Hr0
  iintro HO
  iapply (Rounds.wp_wait_rest_token 𝒱₀ ER (Rd X) (c : Thread nD τ) none (κ := K (barCell c))
      (wpE_semWait_eq 𝒱₀ (c : Thread nD τ) none Set.univ) (Set.mem_univ _) () (O := owed c 0) (W := W) (R := 0) (m := 0) (T := ∅)
      ((Nat.zero_add _).trans (expect_bar X c).symm)) $$ [HcB HO HatB]
  · isplitr; · iexact HIb
    isplitl [HcB]; · iexact HcB
    isplitl [HO]; · iexact HO
    isplitr; · (iapply hmw; iexact HC)
    iexact HatB
  iintro ⟨HO, HatB, -, Hpay⟩
  ihave Hd := (Entails.of_eq ((rest_bar X c).trans (bar_join c))) $$ Hpay
  ihave Hx := (Entails.of_eq (x_set (F := F) c (X c))) $$ Hx
  ihave Hown' := (Entails.of_eq (congrArg (fun S => gPts c S fullShare f) (own_eq_held c).symm)) $$ Hown
  iapply (Rounds.wp_copy_pointsTo 𝒱₀ ER (Rd X) (c : Thread nD τ) none (src := Memref.whole cc0_stg0_0) (dst := ownV c) (sem := .dma copyS) (q := fullShare)
      (fs := X c) (fd := f) (r := 0) (d := 0) (κ := K (copyCell c))
      (by rw [duties_copy]; exact Finset.mem_singleton_self _) () NC rfl (amount_copy X c 0)
(copy_pay c X f)) $$ [Hx Hown' HtC]
  · isplitr; · iexact HIc
    isplitl [Hx]; · iexact Hx
    isplitl [Hown']; · iexact Hown'
    isplitl [HtC]; · iexact HtC
    iexact HrC
  iintro HcC
  iapply (Rounds.wp_wait_rest_token 𝒱₀ ER (Rd X) (c : Thread nD τ) none (κ := K (copyCell c))
      (wpE_waitDma2_eq (src := Memref.whole cc0_stg0_0) (dst := ownV c) 𝒱₀ (c : Thread nD τ) none Set.univ) (Set.mem_univ _) () (O := owed c 0)
      (W := insert (SemLoc.reg barS, ()) W) (R := 0) (m := 0) (T := ∅)
      ((Nat.zero_add _).trans (expect_copy X c).symm)) $$ [HcC HO HatC]
  · isplitr; · iexact HIc
    isplitl [HcC]; · iexact HcC
    isplitl [HO]; · iexact HO
    isplitr; · (iapply hmw2; iexact HC)
    iexact HatC
  iintro ⟨HO, HatC, -, Hpay⟩
  ihave Hp := (Entails.of_eq (rest_copy X c)) $$ Hpay
  unfold copyPay
  icases Hp with ⟨Hg, Hx⟩
  rw [wp_ret]
  imod (close X (K (barCell c)) (barCell c)) $$ [HatB] with Hb0
  · isplitr; · iexact HIb
    iexact HatB
  imod (close X (K (copyCell c)) (copyCell c)) $$ [HatC] with Hc0
  · isplitr; · iexact HIc
    iexact HatC
  imodintro
  isplitr; · iexact HC
  isplitl [Hb0]; · iexact Hb0
  isplitl [Hc0]; · iexact Hc0
  isplitl [Hd]; · iexact Hd
  isplitl [Hg]; · iexact Hg
  isplitl [Hx]; · iexact Hx
  iexists _; iexact HO

end Cert.KernelIdeal.Hops
end
-- ==== Proof.Run.lean ====
module

public import proofs.«01_k».proof.Proof.Pro

@[expose] public section

noncomputable section

namespace Cert.KernelIdeal.Hops

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

/-! # The body, whole, on one device -/

variable {F : FTy → Type} [FloatOps F]

local notation "𝕄" => MT nD τ sig Unit (Elt F) ℕ UU ℕ

variable (c : Dev nD) (X : Dev nD → FVec F S128x4096 .fp8e5m2) (K : GSem nD τ sig → ℕ)

/-- The staged tables of neighbours. -/
def T3 : (cc0_stg3_0 : Ref sig .tc).ty.Contents (Elt F) := fun (i : S32.Idx) => lit0 (S32.rowMajor i)
def T4 : (cc0_stg4_0 : Ref sig .tc).ty.Contents (Elt F) := fun (i : S32.Idx) => lit1 (S32.rowMajor i)

abbrev t3 : sProp 𝕄 := iprop((c : Thread nD τ).loc cc0_stg3_0 ↦{fullShare} T3 (F := F))
abbrev t4 : sProp 𝕄 := iprop((c : Thread nD τ).loc cc0_stg4_0 ↦{fullShare} T4 (F := F))

theorem row_idx (j : S1.Idx) : S32.rowMajor ((Rect.unit (s := S32) (k0_off1 c) S1.size (k0_off1_inb c)).emb j) = c := by
  have j0 : (j (0 : Fin 1)).val < 1 := (j (0 : Fin 1)).isLt
  have e : ((Rect.unit (s := S32) (k0_off1 c) S1.size (k0_off1_inb c)).emb j (0 : Fin 1)).val = k0_off1 c (0 : Fin 1) + 1 * (j (0 : Fin 1)).val := Rect.emb_apply ..
  have o : k0_off1 c (0 : Fin 1) = c.val := congrFun (k0_off1_eq c) (0 : Fin 1)
  refine Fin.ext ?_
  rw [Shape.rowMajor_val_one]
  show ((Rect.unit (s := S32) (k0_off1 c) S1.size (k0_off1_inb c)).emb j (0 : Fin 1)).val = c.val
  omega

theorem tab3_op {Q : Elt F .i32 → sProp 𝕄} :
    iprop(t3 (F := F) c ∗ (t3 (F := F) c -∗ Q (lit0 c)))
      ⊢ wpc c (smemLoad (Memref.whole cc0_stg3_0) (Rect.unit (s := S32) (k0_off1 c) S1.size (k0_off1_inb c)) numel1_S1 rfl) Q := by
  iintro ⟨H, HQ⟩
  unfold smemLoad wpc
  iapply (wp_smemLoadElt 𝒱₀ (c : Thread nD τ) none Set.univ (m := Memref.whole cc0_stg3_0) (r := Rect.unit (s := S32) (k0_off1 c) S1.size (k0_off1_inb c))
    (S := Finset.univ) (q := fullShare) (f := T3 (F := F)) (Finset.subset_univ _)) $$ H
  iintro H
  rw [wp_ret]; imodintro
  have e (j : S1.Idx) : ((Memref.whole cc0_stg3_0).access (Rect.unit (s := S32) (k0_off1 c) S1.size (k0_off1_inb c))).read (Elt F) (T3 (F := F)) j = lit0 c :=
    congrArg lit0 (row_idx c _)
  iapply (Entails.of_eq (congrArg Q (e _).symm))
  iapply HQ; iexact H

theorem tab4_op {Q : Elt F .i32 → sProp 𝕄} :
    iprop(t4 (F := F) c ∗ (t4 (F := F) c -∗ Q (lit1 c)))
      ⊢ wpc c (smemLoad (Memref.whole cc0_stg4_0) (Rect.unit (s := S32) (k0_off1 c) S1.size (k0_off1_inb c)) numel1_S1 rfl) Q := by
  iintro ⟨H, HQ⟩
  unfold smemLoad wpc
  iapply (wp_smemLoadElt 𝒱₀ (c : Thread nD τ) none Set.univ (m := Memref.whole cc0_stg4_0) (r := Rect.unit (s := S32) (k0_off1 c) S1.size (k0_off1_inb c))
    (S := Finset.univ) (q := fullShare) (f := T4 (F := F)) (Finset.subset_univ _)) $$ H
  iintro H
  rw [wp_ret]; imodintro
  have e (j : S1.Idx) : ((Memref.whole cc0_stg4_0).access (Rect.unit (s := S32) (k0_off1 c) S1.size (k0_off1_inb c))).read (Elt F) (T4 (F := F)) j = lit1 c :=
    congrArg lit1 (row_idx c _)
  iapply (Entails.of_eq (congrArg Q (e _).symm))
  iapply HQ; iexact H

/-- The scale as a scalar. -/
def scOf (S : FVec F S1x1 .f32) : Elt F .f32 := S (Shape.Idx.first (by decide))

theorem scale_op (S : FVec F S1x1 .f32) {Q : Elt F .f32 → sProp 𝕄} :
    iprop(((c : Thread nD τ).loc cc0_stg2_0 ↦{fullShare} S) ∗ (((c : Thread nD τ).loc cc0_stg2_0 ↦{fullShare} S) -∗ Q (scOf S)))
      ⊢ wpc c (smemLoad (Memref.whole cc0_stg2_0) (Rect.unit (s := S1x1) ![0, 0] S1x1.size inb_S1x1_S1x1_0_0) numel1_S1x1 rfl) Q := by
  iintro ⟨H, HQ⟩
  unfold smemLoad wpc
  iapply (wp_smemLoadElt 𝒱₀ (c : Thread nD τ) none Set.univ (m := Memref.whole cc0_stg2_0) (r := Rect.unit (s := S1x1) ![0, 0] S1x1.size inb_S1x1_S1x1_0_0)
    (S := Finset.univ) (q := fullShare) (f := S) (Finset.subset_univ _)) $$ H
  iintro H
  rw [wp_ret]; imodintro
  have e (j : S1x1.Idx) : ((Memref.whole cc0_stg2_0).access (Rect.unit (s := S1x1) ![0, 0] S1x1.size inb_S1x1_S1x1_0_0)).read (Elt F) S j = scOf S := by
    refine congrArg S (funext fun a => Fin.ext ?_)
    have h1 : ∀ i : S1x1.Idx, (i a).val = 0 := fun i => by
      have := (i a).isLt
      have e : S1x1.size a = 1 := by fin_cases a <;> rfl
      omega
    exact (h1 _).trans (h1 _).symm
  iapply (Entails.of_eq (congrArg Q (e _).symm))
  iapply HQ; iexact H

/-- The whole factor, read. -/
theorem w_read (W : FVec F S4096x64 .fp8e5m2) :
    ((Memref.whole cc0_stg1_0).access (Rect.unit (s := S4096x64) ![0, 0] S4096x64.size inb_S4096x64_S4096x64_0_0)).read (Elt F) W = W := by
  funext j
  show W ((Rect.unit (s := S4096x64) ![0, 0] S4096x64.size inb_S4096x64_S4096x64_0_0).emb j) = W j
  refine congrArg W (funext fun a => Fin.ext ?_)
  rw [Rect.emb_apply]
  fin_cases a
  · show 0 + 1 * (j (0 : Fin 2)).val = (j (0 : Fin 2)).val; omega
  · show 0 + 1 * (j (1 : Fin 2)).val = (j (1 : Fin 2)).val; omega

/-! ## From the own block's first segments to the last send -/

variable (sc : Elt F .f32) (w : FVec F S4096x64 .fp8e5m2)

def atS : sProp 𝕄 := bigSep (Finset.range 248) fun k => Rounds.atPos ER (sendCell c k) 0 ∅ 0

/-- What is left once every send has been waited for. -/
def Fin1 : sProp 𝕄 :=
  iprop(Dr X K c 248 ∗ gPts c (held c 256) fullShare.left (GX X) ∗ bigSep (Finset.Ico 248 256) (sendPay X c)
    ∗ bigSep (Finset.range 248) (fun k => semVal (recvCell c k) 0) ∗ outP c X sc w 64)

/-- The sends waited for up to round `h`, with the tables. -/
def DI (h : ℕ) : sProp 𝕄 := iprop(Dr X K c (8 * h) ∗ t5 (F := F) c ∗ t6 (F := F) c)

/-- What the receives leave. -/
def Got : sProp 𝕄 :=
  iprop(gPts c (held c 256) fullShare.left (GX X) ∗ bigSep (Finset.Ico 248 256) (sendPay X c)
      ∗ bigSep (Finset.range 248) (fun k => semVal (recvCell c k) 0) ∗ outP c X sc w 64)

theorem to_drain : iprop(Hp c X K sc w 31 ∗ atS (F := F) c ∗ xPts c (X c)) ⊢ iprop(DI c X K 0 ∗ Got c X sc w ∗ xPts c (X c)) := by
  unfold Hp St DI Got Dr atS
  rw [Nat.mul_zero 8]
  rw [show min (8 * 31 + 8) 248 = 248 from rfl, show 8 * 31 = 248 from rfl, show (Finset.Ico 0 248 : Finset ℕ) = Finset.range 248 from (Finset.range_eq_Ico 248).symm,
    Finset.range_zero, bigSep_empty, bigSep_empty]
  iintro ⟨⟨⟨HC, HL, Hsp, -, -, Hcr, Hsv, HO⟩, Ho, H5, H6⟩, Hat, Hx⟩
  isplitl [HC Hcr Hat HO H5 H6]
  · isplitl [HC Hcr Hat HO]
    · isplitl [HC]; · iexact HC
      isplitl [Hcr]; · iexact Hcr
      isplitl [Hat]; · iexact Hat
      isplitr; · iempintro
      isplitr; · iempintro
      iexact HO
    isplitl [H5] <;> iassumption
  isplitr [Hx]
  · isplitl [HL]; · iexact HL
    isplitl [Hsp]; · iexact Hsp
    isplitl [Hsv]; · iexact Hsv
    iexact Ho
  iexact Hx

theorem drain_inv (h : ℕ) (hh : h < 31) : DI c X K h
    ⊢ wpc c (drain (Memref.whole cc0_stg5_0) (Memref.whole cc0_stg6_0) G8 (Memref.isWhole_whole _) cc0_scratch2 cc0_scratch4 c h hh) (fun _ => DI c X K (h + 1)) :=
  drain_round_op c X K h hh

omit X K sc w in
theorem from_zero {n : ℕ} {p : PG F PUnit} (I : ℕ → sProp 𝕄) (h : I 0 ⊢ wpc c p (fun _ => I (0 + n))) : I 0 ⊢ wpc c p (fun _ => I n) := by
  rw [Nat.zero_add] at h; exact h

omit X K sc w in
theorem mono_op {P R R' : sProp 𝕄} {p : PG F PUnit} (h : P ⊢ wpc c p (fun _ => R)) (h' : R ⊢ R') : P ⊢ wpc c p (fun _ => R') :=
  h.trans (wp_mono _ _ _ fun _ => h')

attribute [local irreducible] loop

theorem drains_op : DI c X K 0
    ⊢ wpc c (loop (fun h hh => drain (Memref.whole cc0_stg5_0) (Memref.whole cc0_stg6_0) G8 (Memref.isWhole_whole _) cc0_scratch2 cc0_scratch4 c h hh) 31 0 (by omega))
      (fun _ => DI c X K 31) := by
  have h := loop_op (N := 31) c _ (DI c X K) (drain_inv c X K) 31 0 (by omega)
  exact from_zero c (DI c X K) h

theorem hops_op (rn ln : Dev nD) (hrn : rn = nb 0 c) (hln : ln = nb 1 c) : Hp c X K sc w 0
    ⊢ wpc c (loop (fun h hh => hop (Memref.whole cc0_stg5_0) (Memref.whole cc0_stg6_0) G7 G8 (Memref.isWhole_whole _) cc0_scratch2 cc0_scratch3 cc0_scratch4 cc0_scratch5
          c rn ln sc w h hh) 31 0 (by omega))
      (fun _ => Hp c X K sc w 31) := by
  have h := loop_op (N := 31) c _ (Hp c X K sc w) (hop_op c X K sc w rn ln hrn hln) 31 0 (by omega)
  exact from_zero c (Hp c X K sc w) h

theorem rest_op (rn ln : Dev nD) (hrn : rn = nb 0 c) (hln : ln = nb 1 c) (f : FVec F S4096x64 .f32) :
    iprop((((St X K c 0 0 ∗ xPts c (X c) ∗ ((c : Thread nD τ).loc cc0_stg7_0 ↦{fullShare} f)) ∗ t5 (F := F) c ∗ t6 (F := F) c) ∗ atS (F := F) c))
    ⊢ wpc c (do
        firstSeg G8 (Memref.isWhole_whole _) cc0_scratch2 cc0_scratch3 cc0_scratch4 cc0_scratch5 c rn ln 0 (by omega)
        firstSeg G8 (Memref.isWhole_whole _) cc0_scratch2 cc0_scratch3 cc0_scratch4 cc0_scratch5 c rn ln 1 (by omega)
        firstSeg G8 (Memref.isWhole_whole _) cc0_scratch2 cc0_scratch3 cc0_scratch4 cc0_scratch5 c rn ln 2 (by omega)
        firstSeg G8 (Memref.isWhole_whole _) cc0_scratch2 cc0_scratch3 cc0_scratch4 cc0_scratch5 c rn ln 3 (by omega)
        ownGemm (Memref.whole cc0_stg0_0) G7 c sc w
        loop (fun h hh => hop (Memref.whole cc0_stg5_0) (Memref.whole cc0_stg6_0) G7 G8 (Memref.isWhole_whole _) cc0_scratch2 cc0_scratch3 cc0_scratch4 cc0_scratch5
          c rn ln sc w h hh) 31 0 (by omega)
        loop (fun h hh => drain (Memref.whole cc0_stg5_0) (Memref.whole cc0_stg6_0) G8 (Memref.isWhole_whole _) cc0_scratch2 cc0_scratch4 c h hh) 31 0 (by omega))
      (fun _ => iprop((Fin1 c X K sc w ∗ t5 (F := F) c ∗ t6 (F := F) c) ∗ xPts c (X c))) := by
  have f0 := fun s hs => firstSeg_op c X K (s := s) hs rn ln hrn hln
  refine (show _ ⊢ iprop(St X K c 0 0 ∗ (xPts c (X c) ∗ ((c : Thread nD τ).loc cc0_stg7_0 ↦{fullShare} f)) ∗ t5 (F := F) c ∗ t6 (F := F) c ∗ atS (F := F) c) from ?_).trans ?_
  · iintro ⟨⟨⟨HS, Hx, Ho⟩, H5, H6⟩, Ha⟩
    isplitl [HS]; · iexact HS
    isplitl [Hx Ho]; · (isplitl [Hx] <;> iassumption)
    isplitl [H5]; · iexact H5
    isplitl [H6] <;> iassumption
  refine seq_op c (frame_op c _ (f0 0 (by omega))) ?_
  refine seq_op c (frame_op c _ (f0 1 (by omega))) ?_
  refine seq_op c (frame_op c _ (f0 2 (by omega))) ?_
  refine seq_op c (frame_op c _ (f0 3 (by omega))) ?_
  refine (show _ ⊢ iprop((xPts c (X c) ∗ ((c : Thread nD τ).loc cc0_stg7_0 ↦{fullShare} f)) ∗ St X K c 8 0 ∗ t5 (F := F) c ∗ t6 (F := F) c ∗ atS (F := F) c) from ?_).trans ?_
  · iintro ⟨HS, Hx, HR⟩
    isplitl [Hx]; · iexact Hx
    isplitl [HS] <;> iassumption
  refine seq_op c (frame_op c _ (ownGemm_op c X sc w f)) ?_
  refine (show _ ⊢ iprop(Hp c X K sc w 0 ∗ atS (F := F) c ∗ xPts c (X c)) from ?_).trans ?_
  · unfold Hp
    iintro ⟨⟨Hx, Ho⟩, HS, H5, H6, Ha⟩
    isplitl [HS Ho H5 H6]
    · isplitl [HS]; · iexact HS
      isplitl [Ho]; · iexact Ho
      isplitl [H5] <;> iassumption
    isplitl [Ha] <;> iassumption
  refine seq_op c (frame_op c _ (hops_op c X K sc w rn ln hrn hln)) ?_
  refine (to_drain c X K sc w).trans ?_
  refine mono_op c (frame_op c _ (drains_op c X K)) ?_
  unfold Fin1 DI Got
  iintro ⟨⟨HD, H5, H6⟩, HR, Hx⟩
  isplitl [HD HR H5 H6]
  · isplitl [HD HR]
    · isplitl [HD] <;> iassumption
    isplitl [H5] <;> iassumption
  iexact Hx

end Cert.KernelIdeal.Hops
end
-- ==== Proof.Whole.lean ====
module

public import proofs.«01_k».proof.Proof.Run

@[expose] public section

noncomputable section

namespace Cert.KernelIdeal.Hops

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

/-! # The body on one device, from what it starts with to what it leaves -/

variable {F : FTy → Type} [FloatOps F]

local notation "𝕄" => MT nD τ sig Unit (Elt F) ℕ UU ℕ

variable (c : Dev nD) (X : Dev nD → FVec F S128x4096 .fp8e5m2) (K : GSem nD τ sig → ℕ)

/-- What device `c` starts with for its `k`-th send, apart from the place at the receiver. -/
def sendOwn (k : ℕ) : sProp 𝕄 :=
  iprop(Rounds.dutyTok ER (sendCell c k) 0 0 ∗ Rounds.reached ER (sendCell c k) 0 ∗ Rounds.dutyTok ER (recvCell (nb (k % 2) c) k) 0 0)

theorem own_share : (gPts c (held c 8) fullShare (GX X) : sProp 𝕄)
    ⊢ iprop(gPts c (held c 8) fullShare.left (GX X) ∗ bigSep (Finset.range 8) (sendPay X c)) := by
  refine (pointsTo_share (PosShare.mem_left_op_right fullShare)).1.trans (sep_mono_right ?_)
  rw [← biUnion_piece c 8, pointsTo_biUnion _ _ (fun k _ k' _ h => piece_disjoint c h)]
  exact bigSep_mono fun k _ => BI.Entails.refl _

theorem all_share : iprop(gPts c (held c 256) fullShare.left (GX X) ∗ bigSep (Finset.range 248) (sendPay X c) ∗ bigSep (Finset.Ico 248 256) (sendPay X c))
    ⊢ (gPts c Finset.univ fullShare (GX X) : sProp 𝕄) := by
  have e : iprop(bigSep (Finset.range 248) (sendPay X c) ∗ bigSep (Finset.Ico 248 256) (sendPay X c)) = bigSep (Finset.range 256) (sendPay X c) := by
    rw [show Finset.range 256 = Finset.range 248 ∪ Finset.Ico 248 256 from by ext k; simp only [Finset.mem_union, Finset.mem_range, Finset.mem_Ico]; omega]
    exact (bigSep_union (Finset.disjoint_left.mpr fun k h h' => by rw [Finset.mem_range] at h; rw [Finset.mem_Ico] at h'; omega)).symm
  rw [e, held_univ]
  have e' : (bigSep (Finset.range 256) (sendPay X c) : sProp 𝕄) = gPts c Finset.univ fullShare.right (GX X) := by
    unfold gPts
    rw [← held_univ c, ← biUnion_piece c 256, pointsTo_biUnion _ _ (fun k _ k' _ h => piece_disjoint c h)]
    rfl
  rw [e']
  exact (pointsTo_share (PosShare.mem_left_op_right fullShare)).2

theorem to_first : iprop(Ctx X K ∗ gPts c (held c 8) fullShare (GX X) ∗ bigSep (Finset.range 248) (sendOwn (F := F) c) ∗ bigSep (Finset.range 248) (dstOf (F := F) c)
      ∗ bigSep (Finset.range 248) (recvRes (F := F) c) ∗ ∃ W, owes (c : Thread nD τ) (owed c 0) W)
    ⊢ St X K c 0 0 := by
  have e : iprop(bigSep (Finset.range 248) (sendOwn (F := F) c) ∗ bigSep (Finset.range 248) (dstOf (F := F) c)) ⊢ bigSep (Finset.range 248) (sendRes (F := F) c) := by
    rw [← bigSep_sep']
    refine bigSep_mono fun k _ => ?_
    show iprop(sendOwn (F := F) c k ∗ dstOf (F := F) c k) ⊢ sendRes (F := F) c k
    unfold sendOwn sendRes
    iintro ⟨⟨H1, H2, H3⟩, H4⟩
    isplitl [H1]; · iexact H1
    isplitl [H2]; · iexact H2
    isplitl [H3] <;> iassumption
  unfold St
  rw [← Finset.range_eq_Ico, ← Finset.range_eq_Ico, Finset.range_zero, bigSep_empty, bigSep_empty, Nat.zero_add]
  iintro ⟨HC, Hg, Hs, Hd, Hr, HO⟩
  ihave Hg := (own_share c X) $$ Hg
  icases Hg with ⟨HL, HR⟩
  ihave Hsr := e $$ [Hs Hd]
  · isplitl [Hs] <;> iassumption
  isplitl [HC]; · iexact HC
  isplitl [HL]; · iexact HL
  isplitl [HR]; · iexact HR
  isplitl [Hsr]; · iexact Hsr
  isplitl [Hr]; · iexact Hr
  isplitr; · iempintro
  isplitr; · iempintro
  iexact HO

variable (S : FVec F S1x1 .f32) (Wt : FVec F S4096x64 .fp8e5m2)

/-- The staged operands but the block. -/
def opsRes : sProp 𝕄 :=
  iprop(((c : Thread nD τ).loc cc0_stg1_0 ↦{fullShare} Wt) ∗ ((c : Thread nD τ).loc cc0_stg2_0 ↦{fullShare} S) ∗ t3 (F := F) c ∗ t4 (F := F) c)

/-- What device `c` starts with of semaphores, counts and credits. -/
def ghostPre : sProp 𝕄 :=
  iprop(barRes (F := F) c ∗ copyRes (F := F) c ∗ bigSep (Finset.range 248) (sendOwn (F := F) c) ∗ atS (F := F) c
    ∗ bigSep (Finset.range 248) (recvRes (F := F) c) ∗ bigSep (Finset.range 248) fun k => Rounds.reached ER (recvCell c k) 0)

/-- The semaphores it leaves, all at zero. -/
def ghostPost : sProp 𝕄 :=
  iprop(semVal (barCell c) 0 ∗ semVal (copyCell c) 0 ∗ (bigSep (Finset.range 248) fun k => semVal (sendCell c k) 0) ∗ bigSep (Finset.range 248) fun k => semVal (recvCell c k) 0)

theorem out_end (sc : Elt F .f32) (w : FVec F S4096x64 .fp8e5m2) : outP c X sc w 64 ⊢ ((c : Thread nD τ).loc cc0_stg7_0 ↦{fullShare} resF X sc w c) := by
  unfold outP
  iintro ⟨%f, %hf, H⟩
  have e : f = resF X sc w c := funext fun i => hf i (outKey_lt c i)
  subst e
  iexact H

theorem body_op (f : FVec F S4096x64 .f32) :
    iprop(Ctx X K ∗ ghostPre (F := F) c ∗ (∃ f, gPts c Finset.univ fullShare f) ∗ xPts c (X c) ∗ opsRes c S Wt ∗ (t5 (F := F) c ∗ t6 (F := F) c)
      ∗ ((c : Thread nD τ).loc cc0_stg7_0 ↦{fullShare} f) ∗ ∃ W, owes (c : Thread nD τ) (O₀ c) W)
    ⊢ wpc c (body (Memref.whole cc0_stg0_0) (Memref.isWhole_whole _) (Memref.whole cc0_stg1_0) (Memref.whole cc0_stg2_0) (Memref.whole cc0_stg3_0) (Memref.whole cc0_stg4_0)
        (Memref.whole cc0_stg5_0) (Memref.whole cc0_stg6_0) G7 G8 (Memref.isWhole_whole _) cc0_scratch1 cc0_scratch2 cc0_scratch3 cc0_scratch4 cc0_scratch5)
      (fun _ => iprop(ghostPost (F := F) c ∗ (∃ f, gPts c Finset.univ fullShare f) ∗ xPts c (X c) ∗ opsRes c S Wt ∗ (t5 (F := F) c ∗ t6 (F := F) c)
        ∗ ((c : Thread nD τ).loc cc0_stg7_0 ↦{fullShare} resF X (scOf S) (k0_pay1 Wt) c) ∗ ∃ W, owes (c : Thread nD τ) 0 W)) := by
  unfold body wpc ghostPre opsRes
  simp only [Prog.lift, Prog.bind_op, Prog.bind_ret, Prog.pure_eq_ret, Prog.bind_assoc]
  rw [wp_deviceId, wp_bind]
  iintro ⟨#HC, ⟨HB, HcP, HsO, HaS, HrR, HrV⟩, Hg, Hx, ⟨Hw, Hsc, H3, H4⟩, H56, Ho, HO⟩
  iapply (tab3_op c)
  isplitl [H3]; · iexact H3
  iintro H3
  iapply (wp_assume 𝒱₀ (c : Thread nD τ) none Set.univ (chk2_tab c))
  rw [wp_bind]
  iapply (tab4_op c)
  isplitl [H4]; · iexact H4
  iintro H4
  iapply (wp_assume 𝒱₀ (c : Thread nD τ) none Set.univ (chk1_tab c))
  rw [dev2_tab c (chk2_tab c), dev1_tab c (chk1_tab c)]
  rw [wp_bind]
  iapply (wp_wand frame) $$ [HB HcP HrV Hg Hx HO]
  · iapply (prologue_op c X K)
    isplitr; · iexact HC
    isplitl [HB]; · iexact HB
    isplitl [HcP]; · iexact HcP
    isplitl [HrV]; · iexact HrV
    isplitl [Hg]; · iexact Hg
    isplitl [Hx] <;> iassumption
  iintro %_ ⟨-, Hb0, Hc0, Hd, Hg, Hx, HO⟩
  rw [wp_bind]
  iapply (scale_op c S)
  isplitl [Hsc]; · iexact Hsc
  iintro Hsc
  iapply (wp_load_rect 𝒱₀ (c : Thread nD τ) none Set.univ (m := Memref.whole cc0_stg1_0) (r := Rect.unit (s := S4096x64) ![0, 0] S4096x64.size inb_S4096x64_S4096x64_0_0)
    (S := Finset.univ) (q := fullShare) (f := Wt) (Finset.subset_univ _)) $$ Hw
  iintro Hw
  rw [w_read]
  ihave HS := (to_first c X K) $$ [Hg HsO Hd HrR HO]
  · isplitr; · iexact HC
    isplitl [Hg]; · iexact Hg
    isplitl [HsO]; · iexact HsO
    isplitl [Hd]; · iexact Hd
    isplitl [HrR] <;> iassumption
  iapply (wp_wand frame) $$ [HS Hx Ho H56 HaS]
  · iapply (rest_op c X K (scOf S) (k0_pay1 Wt) _ _ rfl rfl f)
    isplitr [HaS]
    · isplitr [H56]
      · isplitl [HS]; · iexact HS
        isplitl [Hx] <;> iassumption
      iexact H56
    iexact HaS
  unfold Fin1 Dr ghostPost
  iintro %_ ⟨⟨⟨⟨-, -, -, Hsp, Hsv, HO⟩, HL, Hsp', Hrv, Ho⟩, H56⟩, Hx⟩
  ihave Hg := (all_share c X) $$ [HL Hsp Hsp']
  · isplitl [HL]; · iexact HL
    isplitl [Hsp] <;> iassumption
  ihave Ho := (out_end c X _ _) $$ Ho
  isplitl [Hb0 Hc0 Hsv Hrv]
  · isplitl [Hb0]; · iexact Hb0
    isplitl [Hc0]; · iexact Hc0
    isplitl [Hsv] <;> iassumption
  isplitl [Hg]; · (iexists _; iexact Hg)
  isplitl [Hx]; · iexact Hx
  isplitl [Hw Hsc H3 H4]
  · isplitl [Hw]; · iexact Hw
    isplitl [Hsc]; · iexact Hsc
    isplitl [H3] <;> iassumption
  isplitl [H56]; · iexact H56
  isplitl [Ho]; · iexact Ho
  rw [owed_end]
  iexact HO

end Cert.KernelIdeal.Hops
end
-- ==== Proof.Deal.lean ====
module

public import proofs.«01_k».proof.Proof.Whole

@[expose] public section

noncomputable section

namespace Cert.KernelIdeal.Hops

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

/-! # The launch: every cell's invariant, and what is dealt to each device -/

variable {F : FTy → Type}

local notation "𝕄" => MT nD τ sig Unit (Elt F) ℕ UU ℕ

/-! ## A device's own semaphores: the one of the own block's copy, the senders' and receivers' sides, and the idle ones -/

def ixOf (i : DmaSem sig) : Fin 513 := ⟨(i.val - 8) % 513, Nat.mod_lt _ (by decide)⟩
theorem osem_ixOf (i : DmaSem sig) (h : 8 ≤ i.val) : osem0 (ixOf i) = .dma i := by
  have h' : i.val < 521 := i.isLt
  refine congrArg (fun j : Fin 521 => (SemLoc.dma j : SemLoc sig)) (Fin.ext ?_)
  show 8 + (i.val - 8) % 513 = i.val
  rw [Nat.mod_eq_of_lt (by omega)]; omega
theorem osem_copy : osem0 (ixOf copyS) = .dma copyS := osem_ixOf _ (by decide)
theorem osem_send {k : ℕ} (hk : k < 248) : osem0 (ixOf (sendS k)) = .dma (sendS k) := osem_ixOf _ (send_ge hk)
theorem osem_recv {k : ℕ} (hk : k < 248) : osem0 (ixOf (recvS k)) = .dma (recvS k) := osem_ixOf _ (recv_ge hk)

def sendIx : Finset (Fin 513) := (Finset.range 248).image fun k => ixOf (sendS k)
def recvIx : Finset (Fin 513) := (Finset.range 248).image fun k => ixOf (recvS k)
def usedIx : Finset (Fin 513) := {ixOf copyS} ∪ (sendIx ∪ recvIx)
def idleIx : Finset (Fin 513) := Finset.univ \ usedIx

theorem send_injOn : Set.InjOn (fun k => ixOf (sendS k)) (Finset.range 248 : Finset ℕ) := fun a ha b hb e => by
  have ha := Finset.mem_range.mp (Finset.mem_coe.mp ha); have hb := Finset.mem_range.mp (Finset.mem_coe.mp hb)
  have h := congrArg (fun i => roleOf (osem0 i)) e
  dsimp only at h
  rw [osem_send ha, osem_send hb, role_send ha, role_send hb] at h
  exact Role.send.inj h
theorem recv_injOn : Set.InjOn (fun k => ixOf (recvS k)) (Finset.range 248 : Finset ℕ) := fun a ha b hb e => by
  have ha := Finset.mem_range.mp (Finset.mem_coe.mp ha); have hb := Finset.mem_range.mp (Finset.mem_coe.mp hb)
  have h := congrArg (fun i => roleOf (osem0 i)) e
  dsimp only at h
  rw [osem_recv ha, osem_recv hb, role_recv ha, role_recv hb] at h
  exact Role.recv.inj h

theorem mem_sendIx {i : Fin 513} (h : i ∈ sendIx) : ∃ k, roleOf (osem0 i) = .send k := by
  obtain ⟨k, hk, rfl⟩ := Finset.mem_image.mp h
  exact ⟨k, by rw [osem_send (Finset.mem_range.mp hk), role_send (Finset.mem_range.mp hk)]⟩
theorem mem_recvIx {i : Fin 513} (h : i ∈ recvIx) : ∃ k, roleOf (osem0 i) = .recv k := by
  obtain ⟨k, hk, rfl⟩ := Finset.mem_image.mp h
  exact ⟨k, by rw [osem_recv (Finset.mem_range.mp hk), role_recv (Finset.mem_range.mp hk)]⟩

theorem disj_sr : Disjoint sendIx recvIx := Finset.disjoint_left.mpr fun i h h' => by
  obtain ⟨k, e⟩ := mem_sendIx h; obtain ⟨k', e'⟩ := mem_recvIx h'
  rw [e] at e'; cases e'
theorem disj_copy : Disjoint {ixOf copyS} (sendIx ∪ recvIx) := Finset.disjoint_left.mpr fun i h h' => by
  rw [Finset.mem_singleton.mp h] at h'
  rcases Finset.mem_union.mp h' with h' | h'
  · obtain ⟨k, e⟩ := mem_sendIx h'; rw [osem_copy, role_copy] at e; cases e
  · obtain ⟨k, e⟩ := mem_recvIx h'; rw [osem_copy, role_copy] at e; cases e

/-- A conjunction over the own semaphores, by their use. -/
theorem own_split (f : SemLoc sig → sProp 𝕄) :
    bigSep Finset.univ (fun i : Fin 513 => f (osem0 i))
      = iprop((f (.dma copyS) ∗ (bigSep (Finset.range 248) fun k => f (.dma (sendS k))) ∗ bigSep (Finset.range 248) fun k => f (.dma (recvS k)))
        ∗ bigSep idleIx fun i => f (osem0 i)) := by
  have e1 : bigSep sendIx (fun i : Fin 513 => f (osem0 i)) = bigSep (Finset.range 248) fun k => f (.dma (sendS k)) := by
    unfold sendIx; rw [bigSep_image_of_injOn send_injOn]
    exact bigSep_congr fun k hk => by rw [osem_send (Finset.mem_range.mp hk)]
  have e2 : bigSep recvIx (fun i : Fin 513 => f (osem0 i)) = bigSep (Finset.range 248) fun k => f (.dma (recvS k)) := by
    unfold recvIx; rw [bigSep_image_of_injOn recv_injOn]
    exact bigSep_congr fun k hk => by rw [osem_recv (Finset.mem_range.mp hk)]
  rw [bigSep_sdiff_split (Finset.subset_univ usedIx)]
  unfold idleIx
  rw [show bigSep usedIx (fun i : Fin 513 => f (osem0 i)) = iprop(f (.dma copyS) ∗ (bigSep (Finset.range 248) fun k => f (.dma (sendS k))) ∗ bigSep (Finset.range 248) fun k => f (.dma (recvS k))) from by
    unfold usedIx
    rw [bigSep_union disj_copy, bigSep_union disj_sr, bigSep_singleton, osem_copy, e1, e2]; rfl]
  rfl

/-- Devices and keys may be exchanged. -/
theorem exchange {M : Type} [URA M] (n : ℕ) (Φ : Dev nD → ℕ → sProp M) :
    bigSep Finset.univ (fun c => bigSep (Finset.range n) (Φ c)) = bigSep (Finset.range n) fun k => bigSep Finset.univ fun c => Φ c k := by
  induction n with
  | zero =>
    rw [Finset.range_zero, bigSep_empty]
    exact (bigSep_congr fun c _ => bigSep_empty).trans (bigSep_emp_const _)
  | succ n ih =>
    rw [range_push, ← ih, ← bigSep_sep']
    exact bigSep_congr fun c _ => range_push n (Φ c)

/-! ## The tokens -/

/-- The two barrier units of a device, and one unit at each of its own semaphores. -/
def barTokEmb : Dev nD × Fin 2 ↪ GSem nD τ sig × ℕ × ℕ :=
  ⟨fun p => (barCell p.1, 0, p.2.val), fun p p' h =>
    Prod.ext (congrArg (fun t : GSem nD τ sig × ℕ × ℕ => t.1.1.1) h) (Fin.ext (congrArg (fun t : GSem nD τ sig × ℕ × ℕ => t.2.2) h))⟩
def ownTokEmb : Dev nD × Fin 513 ↪ GSem nD τ sig × ℕ × ℕ :=
  ⟨fun p => (ownEmb p, 0, 0), fun _ _ h => ownEmb.injective (congrArg (fun t : GSem nD τ sig × ℕ × ℕ => t.1) h)⟩
def toks : Finset (GSem nD τ sig × ℕ × ℕ) := Finset.univ.map barTokEmb ∪ Finset.univ.map ownTokEmb

theorem disj_toks : Disjoint (Finset.univ.map barTokEmb) (Finset.univ.map ownTokEmb) := Finset.disjoint_left.mpr fun x h h' => by
  obtain ⟨p, -, rfl⟩ := Finset.mem_map.mp h
  obtain ⟨p', -, e⟩ := Finset.mem_map.mp h'
  have := congrArg (fun t : GSem nD τ sig × ℕ × ℕ => t.1.2) e
  cases (this : osem0 p'.2 = .reg barS)
theorem disjoint_cells : Disjoint barCells ownCells := Finset.disjoint_left.mpr fun x h h' => by
  obtain ⟨p, -, rfl⟩ := Finset.mem_map.mp h
  obtain ⟨p', -, e⟩ := Finset.mem_map.mp h'
  have := congrArg (fun t : GSem nD τ sig => t.2) e
  cases (this : osem0 p'.2 = .reg barS)

/-- The tokens of device `c`: those of its barrier's two units go to its neighbours, those of its receiving sides to the senders. -/
theorem toks_deal :
    bigSep toks (fun x => (Rounds.dutyTok ER x.1 x.2.1 x.2.2 : sProp 𝕄))
      ⊢ bigSep Finset.univ fun c : Dev nD => iprop((Rounds.dutyTok ER (barCell (nb 1 c)) 0 0 ∗ Rounds.dutyTok ER (barCell (nb 0 c)) 0 1)
          ∗ Rounds.dutyTok ER (copyCell c) 0 0 ∗ (bigSep (Finset.range 248) fun k => Rounds.dutyTok ER (sendCell c k) 0 0)
          ∗ bigSep (Finset.range 248) fun k => Rounds.dutyTok ER (recvCell (nb (k % 2) c) k) 0 0) := by
  have e1 : bigSep (Finset.univ.map barTokEmb) (fun x => (Rounds.dutyTok ER x.1 x.2.1 x.2.2 : sProp 𝕄))
      = bigSep Finset.univ fun c : Dev nD => iprop(Rounds.dutyTok ER (barCell (nb 1 c)) 0 0 ∗ Rounds.dutyTok ER (barCell (nb 0 c)) 0 1) := by
    rw [bigSep_map, bigSep_univ_prod, bigSep_sep']
    refine (bigSep_congr (s := Finset.univ) fun (c : Dev nD) _ => BI.bigSep_fin_two (fun d : Fin 2 => (Rounds.dutyTok ER (barCell c) 0 d.val : sProp 𝕄))).trans ?_
    refine (bigSep_sep' Finset.univ (fun c : Dev nD => (Rounds.dutyTok ER (barCell c) 0 0 : sProp 𝕄)) (fun c => Rounds.dutyTok ER (barCell c) 0 1)).trans ?_
    rw [bigSep_univ_equiv (ring 1) (fun c : Dev nD => (Rounds.dutyTok ER (barCell c) 0 0 : sProp 𝕄)),
      bigSep_univ_equiv (ring 0) (fun c : Dev nD => (Rounds.dutyTok ER (barCell c) 0 1 : sProp 𝕄))]
    rfl
  have e3 : bigSep Finset.univ (fun c : Dev nD => bigSep (Finset.range 248) fun k => (Rounds.dutyTok ER (recvCell c k) 0 0 : sProp 𝕄))
      = bigSep Finset.univ (fun c : Dev nD => bigSep (Finset.range 248) fun k => Rounds.dutyTok ER (recvCell (nb (k % 2) c) k) 0 0) := by
    rw [exchange, exchange]
    refine bigSep_congr fun k _ => ?_
    exact bigSep_univ_equiv (ring ⟨k % 2, Nat.mod_lt _ (by decide)⟩) (fun c : Dev nD => (Rounds.dutyTok ER (recvCell c k) 0 0 : sProp 𝕄))
  have e2 : bigSep (Finset.univ.map ownTokEmb) (fun x => (Rounds.dutyTok ER x.1 x.2.1 x.2.2 : sProp 𝕄))
      ⊢ bigSep Finset.univ fun c : Dev nD => iprop(Rounds.dutyTok ER (copyCell c) 0 0 ∗ (bigSep (Finset.range 248) fun k => Rounds.dutyTok ER (sendCell c k) 0 0)
          ∗ bigSep (Finset.range 248) fun k => Rounds.dutyTok ER (recvCell (nb (k % 2) c) k) 0 0) := by
    have e4 : bigSep Finset.univ (fun c : Dev nD => iprop(Rounds.dutyTok ER (copyCell c) 0 0 ∗ (bigSep (Finset.range 248) fun k => Rounds.dutyTok ER (sendCell c k) 0 0)
          ∗ bigSep (Finset.range 248) fun k => (Rounds.dutyTok ER (recvCell c k) 0 0 : sProp 𝕄)))
        = bigSep Finset.univ fun c : Dev nD => iprop(Rounds.dutyTok ER (copyCell c) 0 0 ∗ (bigSep (Finset.range 248) fun k => Rounds.dutyTok ER (sendCell c k) 0 0)
          ∗ bigSep (Finset.range 248) fun k => Rounds.dutyTok ER (recvCell (nb (k % 2) c) k) 0 0) := by
      rw [bigSep_sep', bigSep_sep', bigSep_sep', bigSep_sep', e3]
    rw [bigSep_map, bigSep_univ_prod, ← e4]
    refine bigSep_mono fun c _ => ?_
    show bigSep Finset.univ (fun i : Fin 513 => (Rounds.dutyTok ER ((c : Thread nD τ), osem0 i) 0 0 : sProp 𝕄)) ⊢ _
    rw [own_split fun sm => (Rounds.dutyTok ER ((c : Thread nD τ), sm) 0 0 : sProp 𝕄)]
    iintro ⟨H, -⟩; iexact H
  unfold toks
  rw [bigSep_union disj_toks, e1, bigSep_sep' Finset.univ (fun c : Dev nD => iprop(Rounds.dutyTok ER (barCell (nb 1 c)) 0 0 ∗ Rounds.dutyTok ER (barCell (nb 0 c)) 0 1)) _]
  exact sep_mono_right e2

/-! ## The credits -/

theorem recv_ne {c c' : Dev nD} {k k' : ℕ} (hk : k < 248) (hk' : k' < 248) (h : recvCell c k = recvCell c' k') : c = c' ∧ k = k' := by
  refine ⟨congrArg (fun g : GSem nD τ sig => g.1.1) h, ?_⟩
  have := congrArg (fun g : GSem nD τ sig => roleOf g.2) h
  dsimp only at this
  rw [role_recv hk, role_recv hk'] at this
  exact Role.recv.inj this

theorem owed_at_recv (d c : Dev nD) {k : ℕ} (hk : k < 248) : O₀ d (recvCell c k) () = if d = pv (k % 2) c then NB else 0 := by
  unfold O₀ owed
  rw [Pi.add_apply, Finsupp.add_apply, Pi.add_apply, Finsupp.add_apply, Finset.sum_apply, Finsupp.finset_sum_apply,
    tallyAt_apply, tallyAt_apply, if_neg (fun h => by cases congrArg (fun g : GSem nD τ sig => g.2) h.1),
    if_neg (fun h => by cases congrArg (fun g : GSem nD τ sig => g.2) h.1), Nat.add_zero,
    Finset.sum_eq_single k]
  · rw [tallyAt_apply]
    by_cases h : d = pv (k % 2) c
    · rw [if_pos h, if_pos ⟨by rw [h, nb_pv c (Nat.mod_lt _ (by decide))], rfl⟩]
    · rw [if_neg h, if_neg fun e => h ?_]
      rw [(recv_ne hk hk e.1).1, pv_nb d (Nat.mod_lt _ (by decide))]
  · intro k' hk' hne
    rw [tallyAt_apply, if_neg fun e => hne (recv_ne hk (Finset.mem_Ico.mp hk').2 e.1).2.symm]
  · intro h; exact absurd (Finset.mem_Ico.mpr ⟨Nat.zero_le k, hk⟩) h

theorem owed_at_bar (d c : Dev nD) : O₀ d (barCell c) () = (if d = nb 1 c then 1 else 0) + if d = nb 0 c then 1 else 0 := by
  unfold O₀ owed
  rw [Pi.add_apply, Finsupp.add_apply, Pi.add_apply, Finsupp.add_apply, Finset.sum_apply, Finsupp.finset_sum_apply,
    Finset.sum_eq_zero (fun k _ => by rw [tallyAt_apply, if_neg (fun h => by cases congrArg (fun g : GSem nD τ sig => g.2) h.1)]), Nat.zero_add,
    tallyAt_apply, tallyAt_apply]
  congr 1
  · refine if_congr ⟨fun h => ?_, fun h => ⟨by rw [h, nb_pv01], rfl⟩⟩ rfl rfl
    rw [show c = nb 0 d from congrArg (fun g : GSem nD τ sig => g.1.1) h.1, nb_pv10]
  · refine if_congr ⟨fun h => ?_, fun h => ⟨by rw [h, nb_pv10], rfl⟩⟩ rfl rfl
    rw [show c = nb 1 d from congrArg (fun g : GSem nD τ sig => g.1.1) h.1, nb_pv01]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_at_bar d c, Finset.sum_add_distrib,
    Finset.sum_ite_eq' Finset.univ (nb 1 c) fun _ => 1, Finset.sum_ite_eq' Finset.univ (nb 0 c) fun _ => 1,
    if_pos (Finset.mem_univ _), if_pos (Finset.mem_univ _)]

theorem launch_recv (c : Dev nD) {k : ℕ} (hk : k < 248) :
    tallyOn (recvCell c k) (launchCredit (Pipeline.owing O₀) 0 (recvCell c k)) = (tallyAt (recvCell c k) () NB : CellTallies nD τ sig Unit) := by
  unfold tallyAt; refine congrArg _ (Finsupp.ext fun u => ?_); cases u
  rw [Pipeline.launchCredit_owing, Finsupp.single_eq_same, Finset.sum_congr rfl fun d _ => owed_at_recv d c hk,
    Finset.sum_ite_eq' Finset.univ (pv (k % 2) c) fun _ => NB, if_pos (Finset.mem_univ _)]

theorem recv_injLoc : Set.InjOn (fun k => (SemLoc.dma (recvS k) : SemLoc sig)) (Finset.range 248 : Finset ℕ) := fun a ha b hb e => by
  have ha := Finset.mem_range.mp (Finset.mem_coe.mp ha); have hb := Finset.mem_range.mp (Finset.mem_coe.mp hb)
  have h := congrArg roleOf e
  dsimp only at h
  rw [role_recv ha, role_recv hb] at h
  exact Role.recv.inj h

theorem recv_locs (f : SemLoc sig → sProp 𝕄) :
    bigSep (Finset.univ.erase (SemLoc.reg barS)) f ⊢ bigSep (Finset.range 248) fun k => f (.dma (recvS k)) := by
  rw [← bigSep_image_of_injOn recv_injLoc f]
  refine bigSep_subset fun x hx => ?_
  obtain ⟨k, -, rfl⟩ := Finset.mem_image.mp hx
  exact Finset.mem_erase.mpr ⟨(nofun), Finset.mem_univ _⟩

theorem creds (c : Dev nD) :
    (Pipeline.launchCred O₀ c : sProp 𝕄) ⊢ iprop(cred (tallyAt (barCell c) () 2) ∗ bigSep (Finset.range 248) fun k => cred (tallyAt (recvCell c k) () NB)) := by
  unfold Pipeline.launchCred
  rw [bigSep_univ_at _ (SemLoc.reg barS)]
  refine BI.sep_mono (Entails.of_eq (congrArg cred (launch_bar c))) ?_
  refine (recv_locs fun sm => cred (tallyOn ((c.tc : Thread nD τ), sm) (launchCredit (Pipeline.owing O₀) 0 ((c.tc : Thread nD τ), sm)))).trans ?_
  exact bigSep_mono fun k hk => Entails.of_eq (congrArg cred (launch_recv c (Finset.mem_range.mp hk)))

end Cert.KernelIdeal.Hops
end
-- ==== Proof.Data.lean ====
module

public import proofs.«01_k».proof.Proof.Gen.KernelIdeal.Points
public import proofs.«01_k».proof.Proof.StructEq
public import proofs.«01_k».proof.Proof.Deal

@[expose] public section

noncomputable section

namespace Cert.KernelIdeal.Hops

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

open Idealize.ShloMosaic.Pipeline (Dat Cfg Window BodyObligation cellOf)

/-! # The call as a one-point pipeline: what its buffers hold before and after, and the body's obligation -/

variable {F : FTy → Type} [FloatOps F]

local notation "𝕄" => MT nD τ sig Unit (Elt F) ℕ UU ℕ

variable (m : (ℓ : Loc nD τ sig) → Buf (Elt F) ℓ)

/-! ## What the buffers hold -/

/-- As launched, after the host operations, after the call. -/
def V₀ (c : Dev nD) : Valuation τ sig (Elt F) := fun b => m (c, b)
def V₁ (c : Dev nD) : Valuation τ sig (Elt F) := StableHlo.after hostOps0 (V₀ m c)

def Xof (c : Dev nD) : FVec F S128x4096 .fp8e5m2 := V₁ m c (Proc.devRef .tc main_arg0)
def Wof (c : Dev nD) : FVec F S4096x64 .fp8e5m2 := V₁ m c (Proc.devRef .tc main_arg1)
def Sof (c : Dev nD) : FVec F S1x1 .f32 := V₁ m c (Proc.devRef .tc main_v2)
/-- Device `c`'s result. -/
def Rof (c : Dev nD) : FVec F S4096x64 .f32 := resF (Xof m) (scOf (Sof m c)) (k0_pay1 (Wof m c)) c

def V₂ (c : Dev nD) : Valuation τ sig (Elt F) := Function.update (V₁ m c) (Proc.devRef .tc main_v3) (Rof m c)

theorem V₁_c (c : Dev nD) : V₁ m c (Proc.devRef .tc main_c) = T3 (F := F) := by
  unfold V₁
  simp only [hostOps0, StableHlo.after_cons, StableHlo.after_nil]
  rw [StableHlo.reshape_result_ne _ _ _ _ _ _ _ (by decide), StableHlo.binary_result_ne _ _ _ _ _ _ _ _ (by decide), StableHlo.nullary_result_ne _ _ _ _ (by decide),
    StableHlo.nullary_result_ne _ _ _ _ (by decide), StableHlo.nullary_result_ne _ _ _ _ (by decide), StableHlo.nullary_result]
  rfl
theorem V₁_c0 (c : Dev nD) : V₁ m c (Proc.devRef .tc main_c_0) = T4 (F := F) := by
  unfold V₁
  simp only [hostOps0, StableHlo.after_cons, StableHlo.after_nil]
  rw [StableHlo.reshape_result_ne _ _ _ _ _ _ _ (by decide), StableHlo.binary_result_ne _ _ _ _ _ _ _ _ (by decide), StableHlo.nullary_result_ne _ _ _ _ (by decide),
    StableHlo.nullary_result_ne _ _ _ _ (by decide), StableHlo.nullary_result]
  rfl
theorem V₁_c1 (c : Dev nD) : V₁ m c (Proc.devRef .tc main_c_1) = T5 (F := F) := by
  unfold V₁
  simp only [hostOps0, StableHlo.after_cons, StableHlo.after_nil]
  rw [StableHlo.reshape_result_ne _ _ _ _ _ _ _ (by decide), StableHlo.binary_result_ne _ _ _ _ _ _ _ _ (by decide), StableHlo.nullary_result_ne _ _ _ _ (by decide),
    StableHlo.nullary_result]
  rfl
theorem V₁_c2 (c : Dev nD) : V₁ m c (Proc.devRef .tc main_c_2) = T6 (F := F) := by
  unfold V₁
  simp only [hostOps0, StableHlo.after_cons, StableHlo.after_nil]
  rw [StableHlo.reshape_result_ne _ _ _ _ _ _ _ (by decide), StableHlo.binary_result_ne _ _ _ _ _ _ _ _ (by decide), StableHlo.nullary_result]
  rfl

/-! ## The staged blocks are the whole arrays -/

theorem rd0 (f : main_arg0.ty.Contents (Elt F)) : (win0_0.blk (0 : Fin 1)).view.read (Elt F) f = f :=
  Memref.read_access_unit_zero (Elt F) main_arg0 (off := fun a => (win0_0.index (0 : Fin 1)) a * main_arg0.ty.shape.size a) (funext fun a => by fin_cases a <;> decide) (fun a => by fin_cases a <;> decide) f
theorem rd1 (f : main_arg1.ty.Contents (Elt F)) : (win0_1.blk (0 : Fin 1)).view.read (Elt F) f = f :=
  Memref.read_access_unit_zero (Elt F) main_arg1 (off := fun a => (win0_1.index (0 : Fin 1)) a * main_arg1.ty.shape.size a) (funext fun a => by fin_cases a <;> decide) (fun a => by fin_cases a <;> decide) f
theorem rd2 (f : main_v2.ty.Contents (Elt F)) : (win0_2.blk (0 : Fin 1)).view.read (Elt F) f = f :=
  Memref.read_access_unit_zero (Elt F) main_v2 (off := fun a => (win0_2.index (0 : Fin 1)) a * main_v2.ty.shape.size a) (funext fun a => by fin_cases a <;> decide) (fun a => by fin_cases a <;> decide) f
theorem rd3 (f : main_c.ty.Contents (Elt F)) : (win0_3.blk (0 : Fin 1)).view.read (Elt F) f = f :=
  Memref.read_access_unit_zero (Elt F) main_c (off := fun a => (win0_3.index (0 : Fin 1)) a * main_c.ty.shape.size a) (funext fun a => by fin_cases a <;> decide) (fun a => by fin_cases a <;> decide) f
theorem rd4 (f : main_c_0.ty.Contents (Elt F)) : (win0_4.blk (0 : Fin 1)).view.read (Elt F) f = f :=
  Memref.read_access_unit_zero (Elt F) main_c_0 (off := fun a => (win0_4.index (0 : Fin 1)) a * main_c_0.ty.shape.size a) (funext fun a => by fin_cases a <;> decide) (fun a => by fin_cases a <;> decide) f
theorem rd5 (f : main_c_1.ty.Contents (Elt F)) : (win0_5.blk (0 : Fin 1)).view.read (Elt F) f = f :=
  Memref.read_access_unit_zero (Elt F) main_c_1 (off := fun a => (win0_5.index (0 : Fin 1)) a * main_c_1.ty.shape.size a) (funext fun a => by fin_cases a <;> decide) (fun a => by fin_cases a <;> decide) f
theorem rd6 (f : main_c_2.ty.Contents (Elt F)) : (win0_6.blk (0 : Fin 1)).view.read (Elt F) f = f :=
  Memref.read_access_unit_zero (Elt F) main_c_2 (off := fun a => (win0_6.index (0 : Fin 1)) a * main_c_2.ty.shape.size a) (funext fun a => by fin_cases a <;> decide) (fun a => by fin_cases a <;> decide) f
theorem rd7 (f : main_v3.ty.Contents (Elt F)) : (win0_7.blk (0 : Fin 1)).view.read (Elt F) f = f :=
  Memref.read_access_unit_zero (Elt F) main_v3 (off := fun a => (win0_7.index (0 : Fin 1)) a * main_v3.ty.shape.size a) (funext fun a => by fin_cases a <;> decide) (fun a => by fin_cases a <;> decide) f

/-! ## The pipeline's data -/

/-- The gather buffer, at any contents. -/
def slotAny (c : Dev nD) : sProp 𝕄 := iprop(∃ f : Buf (Elt F) ((c : Thread nD τ).loc cc0_scratch0), ((c : Thread nD τ).loc cc0_scratch0) ↦{fullShare} f)
/-- The idle semaphores, at zero. -/
def idleV (c : Dev nD) : sProp 𝕄 := bigSep idleIx fun i => semVal ((c : Thread nD τ), osem0 i) 0

/-- What enters the body's invariant, and what it gives back. -/
def Xk (c : Dev nD) : sProp 𝕄 := iprop((∃ K, Ctx (Xof m) K ∗ ghostPre (F := F) c) ∗ idleV (F := F) c)

def dat0 (c : Dev nD) : Dat τ (Elt F) Unit ℕ UU ℕ cfg0 c where
  A w := V₁ m c (Proc.devRef .tc (Pipeline.arrRef spec0 w))
  after w _ := match w with
    | ⟨0, _⟩ => Xof m c
    | ⟨1, _⟩ => Wof m c
    | ⟨2, _⟩ => Sof m c
    | ⟨3, _⟩ => T3 (F := F)
    | ⟨4, _⟩ => T4 (F := F)
    | ⟨5, _⟩ => T5 (F := F)
    | ⟨6, _⟩ => T6 (F := F)
    | ⟨7, _⟩ => Rof m c
  Φ t := if t.val = 0 then iprop(Xk m c ∗ slotAny c ∗ ∃ r, prngReg c r) else iprop((ghostPost (F := F) c ∗ idleV (F := F) c) ∗ slotAny c ∗ ∃ r, prngReg c r)
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat0 m

theorem owed_first (c : Dev nD) : (dat0 m c).owed t0_0.castSucc = O₀ c := rfl
theorem owed_last (c : Dev nD) : (dat0 m c).owed t0_0.succ = 0 := rfl

theorem owesAt_in (c : Dev nD) (t : Fin (cfg0.N + 1)) (O : CellTallies nD τ sig Unit) (h : (dat0 m c).owed t = O) :
    (iprop(∃ W, owes (c : Thread nD τ) O W) : sProp 𝕄) ⊢ ((dat0 m c).owesAt () t : sProp 𝕄) := by
  unfold Dat.owesAt Pipeline.owesWithin Dat.bound; rw [h]
  iintro ⟨%W, HO⟩; iexists W; isplitr; · ipureintro; exact fun _ _ => Or.inl trivial
  iexact HO
theorem owesAt_out (c : Dev nD) (t : Fin (cfg0.N + 1)) (O : CellTallies nD τ sig Unit) (h : (dat0 m c).owed t = O) :
    ((dat0 m c).owesAt () t : sProp 𝕄) ⊢ iprop(∃ W, owes (c : Thread nD τ) O W) := by
  unfold Dat.owesAt Pipeline.owesWithin; rw [h]
  iintro ⟨%W, -, HO⟩; iexists W; iexact HO

/-- A staging buffer owned whole at contents `f`. -/
abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))
omit [FloatOps F] in
theorem owns_eq (c : Dev nD) (b : Ref sig .tc) (Y : b.ty.Contents (Elt F)) :
    (owns (Ix := Unit) (Name := ℕ) (U := UU) (Lvl := ℕ) (c : Thread nD τ) (Memref.whole b) fullShare Y : sProp 𝕄) = stg c b Y := by
  unfold owns; simp only [Memref.view_whole, View.read_whole, View.set_whole]
omit [FloatOps F] in
theorem stg_in (c : Dev nD) (b : Ref sig .tc) (Y : b.ty.Contents (Elt F)) : (((c : Thread nD τ).loc b ↦{fullShare} Y) : sProp 𝕄) ⊢ stg c b Y := by
  iintro H; iexists Y; isplitr; · (ipureintro; rfl)
  iexact H
omit [FloatOps F] in
theorem stg_out (c : Dev nD) (b : Ref sig .tc) {D : Type} (B : D → b.ty.Contents (Elt F)) (Y : b.ty.Contents (Elt F)) (h : ∀ d, B d = Y) :
    (iprop(∃ d, stg c b (B d)) : sProp 𝕄) ⊢ ((c : Thread nD τ).loc b ↦{fullShare} Y) := by
  iintro ⟨%d, %f, %hf, H⟩
  rw [h d] at hf; subst hf
  iexact H
omit [FloatOps F] in
theorem stg_some (c : Dev nD) (b : Ref sig .tc) {D : Type} (B : D → b.ty.Contents (Elt F)) :
    (iprop(∃ d, stg c b (B d)) : sProp 𝕄) ⊢ iprop(∃ f : Buf (Elt F) ((c : Thread nD τ).loc b), (c : Thread nD τ).loc b ↦{fullShare} f) := by
  iintro ⟨%d, %f, -, H⟩
  iexists f; iexact H

theorem before0 (c : Dev nD) (d) : (dat0 m c).before (0 : Fin 8) t0_0 d = Xof m c := by
  unfold Dat.before; rw [if_pos (fetch0_0 t0_0)]; exact rd0 (F := F) _
theorem before1 (c : Dev nD) (d) : (dat0 m c).before (1 : Fin 8) t0_0 d = Wof m c := by
  unfold Dat.before; rw [if_pos (fetch0_1 t0_0)]; exact rd1 (F := F) _
theorem before2 (c : Dev nD) (d) : (dat0 m c).before (2 : Fin 8) t0_0 d = Sof m c := by
  unfold Dat.before; rw [if_pos (fetch0_2 t0_0)]; exact rd2 (F := F) (Sof m c)
theorem before3 (c : Dev nD) (d) : (dat0 m c).before (3 : Fin 8) t0_0 d = T3 (F := F) := by
  unfold Dat.before; rw [if_pos (fetch0_3 t0_0)]; exact (rd3 (F := F) _).trans (V₁_c m c)
theorem before4 (c : Dev nD) (d) : (dat0 m c).before (4 : Fin 8) t0_0 d = T4 (F := F) := by
  unfold Dat.before; rw [if_pos (fetch0_4 t0_0)]; exact (rd4 (F := F) _).trans (V₁_c0 m c)
theorem before5 (c : Dev nD) (d) : (dat0 m c).before (5 : Fin 8) t0_0 d = T5 (F := F) := by
  unfold Dat.before; rw [if_pos (fetch0_5 t0_0)]; exact (rd5 (F := F) _).trans (V₁_c1 m c)
theorem before6 (c : Dev nD) (d) : (dat0 m c).before (6 : Fin 8) t0_0 d = T6 (F := F) := by
  unfold Dat.before; rw [if_pos (fetch0_6 t0_0)]; exact (rd6 (F := F) _).trans (V₁_c2 m c)

attribute [local irreducible] cc0_body in
theorem body_obligation (c : Dev nD) : BodyObligation (dat0 m c) defs₀ 𝒱₀ () Set.univ := fun t => by
  rw [fin_N0 t]
  rw [bigSep_W0, bigSep_W0]
  simp only [owns_eq]
  show iprop(iprop(Xk m c ∗ slotAny c ∗ ∃ r, prngReg c r) ∗ (dat0 m c).owesAt () t0_0.castSucc
      ∗ (∃ d, stg c cc0_stg0_0 ((dat0 m c).before (0 : Fin 8) t0_0 d))
      ∗ (∃ d, stg c cc0_stg1_0 ((dat0 m c).before (1 : Fin 8) t0_0 d))
      ∗ (∃ d, stg c cc0_stg2_0 ((dat0 m c).before (2 : Fin 8) t0_0 d))
      ∗ (∃ d, stg c cc0_stg3_0 ((dat0 m c).before (3 : Fin 8) t0_0 d))
      ∗ (∃ d, stg c cc0_stg4_0 ((dat0 m c).before (4 : Fin 8) t0_0 d))
      ∗ (∃ d, stg c cc0_stg5_0 ((dat0 m c).before (5 : Fin 8) t0_0 d))
      ∗ (∃ d, stg c cc0_stg6_0 ((dat0 m c).before (6 : Fin 8) t0_0 d))
      ∗ (∃ d, stg c cc0_stg7_0 ((dat0 m c).before (7 : Fin 8) t0_0 d)))
    ⊢ wp frame (wpE defs₀ 𝒱₀ (c : Thread nD τ) none) Set.univ
      (cc0_body (F := F) (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_stg5_0) (Memref.isWhole_whole _) (Memref.whole cc0_stg6_0) (Memref.isWhole_whole _)
        G7 (Memref.isWhole_whole _) G8 (Memref.isWhole_whole _) cc0_scratch1 cc0_scratch2 cc0_scratch3 cc0_scratch4 cc0_scratch5)
      (fun _ => iprop(iprop((ghostPost (F := F) c ∗ idleV (F := F) c) ∗ slotAny c ∗ ∃ r, prngReg c r) ∗ (dat0 m c).owesAt () t0_0.succ
        ∗ stg c cc0_stg0_0 (Xof m c) ∗ stg c cc0_stg1_0 (Wof m c) ∗ stg c cc0_stg2_0 (Sof m c) ∗ stg c cc0_stg3_0 (T3 (F := F)) ∗ stg c cc0_stg4_0 (T4 (F := F))
        ∗ stg c cc0_stg5_0 (T5 (F := F)) ∗ stg c cc0_stg6_0 (T6 (F := F)) ∗ stg c cc0_stg7_0 (Rof m c)))
  rw [body_eq]
  unfold Xk slotAny
  iintro ⟨⟨⟨⟨%K, #HC, Hg⟩, Hi⟩, Hs, Hp⟩, HO, H0, H1, H2, H3, H4, H5, H6, H7⟩
  ihave HO := (owesAt_out m c _ (O₀ c) (owed_first m c)) $$ HO
  ihave H0 := (stg_out c cc0_stg0_0 _ (Xof m c) (before0 m c)) $$ H0
  ihave H1 := (stg_out c cc0_stg1_0 _ (Wof m c) (before1 m c)) $$ H1
  ihave H2 := (stg_out c cc0_stg2_0 _ (Sof m c) (before2 m c)) $$ H2
  ihave H3 := (stg_out c cc0_stg3_0 _ (T3 (F := F)) (before3 m c)) $$ H3
  ihave H4 := (stg_out c cc0_stg4_0 _ (T4 (F := F)) (before4 m c)) $$ H4
  ihave H5 := (stg_out c cc0_stg5_0 _ (T5 (F := F)) (before5 m c)) $$ H5
  ihave H6 := (stg_out c cc0_stg6_0 _ (T6 (F := F)) (before6 m c)) $$ H6
  ihave H7 := (stg_some c cc0_stg7_0 _) $$ H7
  icases H7 with ⟨%f, H7⟩
  iapply (wp_wand frame) $$ [HO Hg Hs H0 H1 H2 H3 H4 H5 H6 H7]
  · iapply (body_op c (Xof m) K (Sof m c) (Wof m c) f)
    isplitr; · iexact HC
    isplitl [Hg]; · iexact Hg
    isplitl [Hs]; · iexact Hs
    isplitl [H0]; · iexact H0
    isplitl [H1 H2 H3 H4]
    · unfold opsRes
      isplitl [H1]; · iexact H1
      isplitl [H2]; · iexact H2
      isplitl [H3] <;> iassumption
    isplitl [H5 H6]
    · isplitl [H5] <;> iassumption
    isplitl [H7] <;> iassumption
  unfold opsRes
  iintro %_ ⟨Hg, Hs, H0, ⟨H1, H2, H3, H4⟩, ⟨H5, H6⟩, H7, HO⟩
  isplitl [Hg Hi Hs Hp]
  · isplitl [Hg Hi]; · (isplitl [Hg] <;> iassumption)
    isplitl [Hs] <;> iassumption
  isplitl [HO]; · (iapply (owesAt_in m c _ 0 (owed_last m c)); iexact HO)
  isplitl [H0]; · (iapply (stg_in c cc0_stg0_0); iexact H0)
  isplitl [H1]; · (iapply (stg_in c cc0_stg1_0); iexact H1)
  isplitl [H2]; · (iapply (stg_in c cc0_stg2_0); iexact H2)
  isplitl [H3]; · (iapply (stg_in c cc0_stg3_0); iexact H3)
  isplitl [H4]; · (iapply (stg_in c cc0_stg4_0); iexact H4)
  isplitl [H5]; · (iapply (stg_in c cc0_stg5_0); iexact H5)
  isplitl [H6]; · (iapply (stg_in c cc0_stg6_0); iexact H6)
  iapply (stg_in c cc0_stg7_0); iexact H7

end Cert.KernelIdeal.Hops
end
-- ==== Proof.Region.lean ====
module

public import proofs.«01_k».proof.Proof.Data

@[expose] public section

noncomputable section

namespace Cert.KernelIdeal.Hops

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

open Idealize.ShloMosaic.Pipeline (Dat Cfg Window BodyObligation cellOf)

/-! # The call as a segment of the program -/

variable {F : FTy → Type} [FloatOps F]

local notation "𝕄" => MT nD τ sig Unit (Elt F) ℕ UU ℕ

variable (m : (ℓ : Loc nD τ sig) → Buf (Elt F) ℓ)

/-! ## Opening the scoped semaphores' cells -/

/-- The cells `g k`, opened all at once with their counters. -/
theorem open_all (X : Dev nD → FVec F S128x4096 .fp8e5m2) (K : GSem nD τ sig → ℕ) (s : Finset ℕ) (g : ℕ → GSem nD τ sig) (hg : ∀ k ∈ s, g k ∈ barCells ∪ ownCells) :
    iprop(Ctx X K ∗ (bigSep s fun k => Rounds.openTok ER (g k)) ∗ bigSep s fun k => semVal (g k) 0)
      ⊢ (|={Set.univ}=> iprop((bigSep s fun k => Rounds.atPos ER (g k) 0 ∅ 0) ∗ bigSep s fun k => Rounds.reached ER (g k) 0) : sProp 𝕄) := by
  have h1 : iprop(Ctx X K ∗ bigSep s fun k => (iprop(Rounds.openTok ER (g k) ∗ semVal (g k) 0) : sProp 𝕄))
      ⊢ bigSep s fun k => (iprop(|={Set.univ}=> (Rounds.atPos ER (g k) 0 ∅ 0 ∗ Rounds.reached ER (g k) 0)) : sProp 𝕄) :=
    bigSep_with_persistent fun k hk => by
      show iprop(Ctx X K ∗ Rounds.openTok ER (g k) ∗ semVal (g k) 0) ⊢ (iprop(|={Set.univ}=> (Rounds.atPos ER (g k) 0 ∅ 0 ∗ Rounds.reached ER (g k) 0)) : sProp 𝕄)
      exact (BI.sep_mono (ctx_inv X K (hg k hk)) (BI.Entails.refl _)).trans (Rounds.cell_open ER (Rd X) (g := g k) (Set.mem_univ (K (g k))))
  rw [← bigSep_sep', ← bigSep_sep']
  exact h1.trans (bigSep_fupd s _)

/-- What stays with device `c` from the launch on: its barrier position, the rights to open its cells, the tokens of the duties it pays. -/
def linear (c : Dev nD) : sProp 𝕄 :=
  iprop(Rounds.atPos ER (barCell c) 0 ∅ 0
    ∗ (Rounds.openTok ER (copyCell c) ∗ (bigSep (Finset.range 248) fun k => Rounds.openTok ER (sendCell c k)) ∗ bigSep (Finset.range 248) fun k => Rounds.openTok ER (recvCell c k))
    ∗ (Rounds.dutyTok ER (barCell (nb 1 c)) 0 0 ∗ Rounds.dutyTok ER (barCell (nb 0 c)) 0 1) ∗ Rounds.dutyTok ER (copyCell c) 0 0
    ∗ (bigSep (Finset.range 248) fun k => Rounds.dutyTok ER (sendCell c k) 0 0)
    ∗ bigSep (Finset.range 248) fun k => Rounds.dutyTok ER (recvCell (nb (k % 2) c) k) 0 0)

/-- What every device may consult: the invariants; round 0 of every barrier cell reached. -/
def records (K : GSem nD τ sig → ℕ) : sProp 𝕄 :=
  iprop((bigSep (barCells ∪ ownCells) fun g => Rounds.cellInv ER (Rd (Xof m)) (K g) g) ∗ bigSep barCells fun g => Rounds.reached ER g 0)
instance records_persistent (K : GSem nD τ sig → ℕ) : BI.Persistent (records m K) := by unfold records; infer_instance

omit [FloatOps F] in
theorem reached_at (c : Dev nD) : (bigSep barCells fun g => (Rounds.reached ER g 0 : sProp 𝕄)) ⊢ Rounds.reached ER (barCell c) 0 :=
  bigSep_elim (Φ := fun g => (Rounds.reached ER g 0 : sProp 𝕄)) (Finset.mem_map_of_mem barEmb (Finset.mem_univ c))

/-- The launch credit device `c` waits on. -/
def credit (c : Dev nD) : sProp 𝕄 :=
  iprop(cred (tallyAt (barCell c) () 2) ∗ bigSep (Finset.range 248) fun k => cred (tallyAt (recvCell c k) () NB))

/-- What a device carries to the call, and takes from it. -/
def Tk (c : Dev nD) : sProp 𝕄 := iprop((∃ K, records m K ∗ linear (F := F) c) ∗ credit (F := F) c)
def Yk (c : Dev nD) : sProp 𝕄 := semVal (barCell c) 0

omit [FloatOps F] in
theorem ownSems_eq (c : Dev nD) : (Pipeline.ownSems0 osem0 c : sProp 𝕄)
    = iprop((semVal (copyCell c) 0 ∗ (bigSep (Finset.range 248) fun k => semVal (sendCell c k) 0) ∗ bigSep (Finset.range 248) fun k => semVal (recvCell c k) 0) ∗ idleV (F := F) c) :=
  own_split fun sm => semVal ((c : Thread nD τ), sm) 0

omit [FloatOps F] in
/-- Two facts about each send, beside the token of the arrival, are what the send owns. -/
theorem send_join (c : Dev nD) : (iprop((bigSep (Finset.range 248) fun k => Rounds.dutyTok ER (sendCell c k) 0 0) ∗ (bigSep (Finset.range 248) fun k => Rounds.reached ER (sendCell c k) 0)
      ∗ bigSep (Finset.range 248) fun k => Rounds.dutyTok ER (recvCell (nb (k % 2) c) k) 0 0) : sProp 𝕄) ⊢ bigSep (Finset.range 248) (sendOwn (F := F) c) := by
  rw [← bigSep_sep', ← bigSep_sep']
  exact BI.Entails.refl _
omit [FloatOps F] in
theorem recv_join (c : Dev nD) : (iprop((bigSep (Finset.range 248) fun k => cred (tallyAt (recvCell c k) () NB)) ∗ (bigSep (Finset.range 248) fun k => Rounds.atPos ER (recvCell c k) 0 ∅ 0)) : sProp 𝕄)
    ⊢ bigSep (Finset.range 248) (recvRes (F := F) c) := by
  rw [← bigSep_sep']
  exact BI.Entails.refl _

/-- A device's cells, opened. -/
theorem open_own (X : Dev nD → FVec F S128x4096 .fp8e5m2) (K : GSem nD τ sig → ℕ) (c : Dev nD) (s : Finset ℕ) (hs : ∀ k ∈ s, k < 248) :
    iprop(Ctx X K ∗ (Rounds.openTok ER (copyCell c) ∗ (bigSep s fun k => Rounds.openTok ER (sendCell c k)) ∗ bigSep s fun k => Rounds.openTok ER (recvCell c k))
        ∗ semVal (copyCell c) 0 ∗ (bigSep s fun k => semVal (sendCell c k) 0) ∗ bigSep s fun k => semVal (recvCell c k) 0)
      ⊢ (|={Set.univ}=> iprop((Rounds.atPos ER (copyCell c) 0 ∅ 0 ∗ Rounds.reached ER (copyCell c) 0)
        ∗ ((bigSep s fun k => Rounds.atPos ER (sendCell c k) 0 ∅ 0) ∗ bigSep s fun k => Rounds.reached ER (sendCell c k) 0)
        ∗ ((bigSep s fun k => Rounds.atPos ER (recvCell c k) 0 ∅ 0) ∗ bigSep s fun k => Rounds.reached ER (recvCell c k) 0)) : sProp 𝕄) := by
  iintro ⟨#HC, ⟨HoC, HoS, HoV⟩, HvC, HvS, HvV⟩
  imod (Rounds.cell_open ER (Rd X) (g := copyCell c) (Set.mem_univ (K (copyCell c)))) $$ [HoC HvC] with HaC
  · isplitr; · (iapply (ctx_inv X K (own_mem c copyS copy_ge)); iexact HC)
    isplitl [HoC] <;> iassumption
  imod (open_all X K s (sendCell c) (fun k hk => own_mem c (sendS k) (send_ge (hs k hk)))) $$ [HoS HvS] with HaS
  · isplitr; · iexact HC
    isplitl [HoS] <;> iassumption
  imod (open_all X K s (recvCell c) (fun k hk => own_mem c (recvS k) (recv_ge (hs k hk)))) $$ [HoV HvV] with HaV
  · isplitr; · iexact HC
    isplitl [HoV] <;> iassumption
  imodintro
  isplitl [HaC]; · iexact HaC
  isplitl [HaS] <;> iassumption

/-- The opened cells beside the tokens and the credit, put together as the body wants them. -/
theorem ghost_join (X : Dev nD → FVec F S128x4096 .fp8e5m2) (K : GSem nD τ sig → ℕ) (c : Dev nD) :
    iprop(Ctx X K ∗ (bigSep barCells fun g => Rounds.reached ER g 0) ∗ Rounds.atPos ER (barCell c) 0 ∅ 0
      ∗ ((Rounds.dutyTok ER (barCell (nb 1 c)) 0 0 ∗ Rounds.dutyTok ER (barCell (nb 0 c)) 0 1) ∗ Rounds.dutyTok ER (copyCell c) 0 0
        ∗ (bigSep (Finset.range 248) fun k => Rounds.dutyTok ER (sendCell c k) 0 0)
        ∗ bigSep (Finset.range 248) fun k => Rounds.dutyTok ER (recvCell (nb (k % 2) c) k) 0 0)
      ∗ credit (F := F) c
      ∗ (Rounds.atPos ER (copyCell c) 0 ∅ 0 ∗ Rounds.reached ER (copyCell c) 0)
      ∗ ((bigSep (Finset.range 248) fun k => Rounds.atPos ER (sendCell c k) 0 ∅ 0) ∗ bigSep (Finset.range 248) fun k => Rounds.reached ER (sendCell c k) 0)
      ∗ ((bigSep (Finset.range 248) fun k => Rounds.atPos ER (recvCell c k) 0 ∅ 0) ∗ bigSep (Finset.range 248) fun k => Rounds.reached ER (recvCell c k) 0))
    ⊢ (iprop(∃ K, Ctx X K ∗ ghostPre (F := F) c) : sProp 𝕄) := by
  unfold credit
  iintro ⟨#HC, #HR, HaB, ⟨⟨Ht1, Ht0⟩, HtC, HtS, HtV⟩, ⟨HcB, HcV⟩, ⟨HaC, HrC⟩, ⟨HaS, HrS⟩, HaV, HrV⟩
  ihave HS := (send_join (F := F) c) $$ [HtS HrS HtV]
  · isplitl [HtS]; · iexact HtS
    isplitl [HrS] <;> iassumption
  ihave HV := (recv_join (F := F) c) $$ [HcV HaV]
  · isplitl [HcV] <;> iassumption
  iexists K
  isplitr; · iexact HC
  unfold ghostPre barRes copyRes atS
  isplitl [HcB HaB Ht1 Ht0]
  · isplitl [HcB]; · iexact HcB
    isplitl [HaB]; · iexact HaB
    isplitr; · (iapply (reached_at (F := F) (nb 1 c)); iexact HR)
    isplitr; · (iapply (reached_at (F := F) (nb 0 c)); iexact HR)
    isplitl [Ht1] <;> iassumption
  isplitl [HaC HrC HtC]
  · isplitl [HaC]; · iexact HaC
    isplitl [HrC] <;> iassumption
  isplitl [HS]; · iexact HS
  isplitl [HaS]; · iexact HaS
  isplitl [HV]; · iexact HV
  iexact HrV

theorem ctx_intro (K : GSem nD τ sig → ℕ) : iprop((bigSep (barCells ∪ ownCells) fun g => Rounds.cellInv ER (Rd (Xof m)) (K g) g) ∗ levAts L lv) ⊢ Ctx (Xof m) K := by
  unfold Ctx; exact BI.Entails.refl _

theorem hopen (c : Dev nD) : iprop(Tk m c ∗ Pipeline.ownSems0 osem0 c ∗ levAts L lv) ⊢ (|={Set.univ}=> Xk m c : sProp 𝕄) := by
  rw [ownSems_eq]
  unfold Tk Xk records linear
  iintro ⟨⟨⟨%K, ⟨#HI, #HR⟩, HaB, Ho, Ht⟩, Hc⟩, ⟨Hv, Hidle⟩, #Hlev⟩
  ihave #HC := (ctx_intro m K) $$ [HI Hlev]
  · isplitr; · iexact HI
    iexact Hlev
  imod (open_own (Xof m) K c (Finset.range 248) fun k hk => Finset.mem_range.mp hk) $$ [Ho Hv] with H
  · isplitr; · iexact HC
    isplitl [Ho] <;> iassumption
  imodintro
  isplitr [Hidle]
  · iapply (ghost_join (Xof m) K c)
    isplitr; · iexact HC
    isplitr; · iexact HR
    isplitl [HaB]; · iexact HaB
    isplitl [Ht]; · iexact Ht
    isplitl [Hc] <;> iassumption
  iexact Hidle

/-! ## Into the invariant and out of it -/

abbrev bufs : Finset (DevRef τ sig) := Pipeline.ucRefs τ sig
abbrev arrs : Finset (DevRef τ sig) := Pipeline.arrRefs (τ := τ) spec0

theorem hin (c : Dev nD) : iprop(Pipeline.scopedRest (Pipeline.pin (pcfgs (F := F)) adm 0).spec c ∗ (∃ r, prngReg c r) ∗ StableHlo.held (c.tc : Thread nD τ) ∅ (V₁ m c) ∗ Xk m c)
    ⊢ (pdats m 0 c).Φ 0 := by
  rw [show (pdats m 0 c).Φ 0 = iprop(Xk m c ∗ slotAny c ∗ ∃ r, prngReg c r) from rfl, show (Pipeline.pin (pcfgs (F := F)) adm 0).spec = spec0 from rfl, scopedRest0_eq]
  unfold slotAny
  iintro ⟨Hs, Hp, -, HX⟩
  isplitl [HX]; · iexact HX
  isplitl [Hs] <;> iassumption

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V₂ m c) ∗ Pipeline.ownSems0 osem0 c ∗ Yk c) := by
  rw [show (pdats m 0 c).Φ (Fin.last _) = iprop((ghostPost (F := F) c ∗ idleV (F := F) c) ∗ slotAny c ∗ ∃ r, prngReg c r) from rfl,
    show (Pipeline.pin (pcfgs (F := F)) adm 0).spec = spec0 from rfl, scopedRest0_eq, ownSems_eq]
  unfold slotAny ghostPost Yk StableHlo.held
  rw [BI.bigSep_empty]
  iintro ⟨⟨⟨HB, HC, HS, HV⟩, Hi⟩, Hs, Hp⟩
  isplitl [Hs]; · iexact Hs
  isplitl [Hp]; · iexact Hp
  isplitr; · iempintro
  isplitr [HB]
  · isplitr [Hi]
    · isplitl [HC]; · iexact HC
      isplitl [HS] <;> iassumption
    iexact Hi
  iexact HB

theorem owed_level (c : Dev nD) (t : Fin ((Pipeline.pin (pcfgs (F := F)) adm 0).N + 1)) (g : GSem nD τ sig) (i : Unit) (h : 0 < (pdats m 0 c).owed t g i) :
    i ∈ L g ∧ (0 : ℕ) < lv g i := by
  have e : (pdats m 0 c).owed t = if t.val = 0 then O₀ c else 0 := rfl
  rw [e] at h
  split at h
  · unfold O₀ at h
    rw [Pi.add_apply, Finsupp.add_apply, Pi.add_apply, Finsupp.add_apply] at h
    have bar (c' : Dev nD) (h' : 0 < (tallyAt (barCell c') () 1 : CellTallies nD τ sig Unit) g i) : i ∈ L g ∧ (0 : ℕ) < lv g i := by
      rw [tallyAt_apply] at h'
      split at h'
      · rename_i hg
        rw [hg.1]
        exact ⟨by rw [L_tc]; exact Finset.mem_singleton_self _, Nat.zero_lt_one⟩
      · exact absurd h' (Nat.lt_irrefl 0)
    rcases Nat.pos_of_ne_zero (Nat.pos_iff_ne_zero.mp h) |> fun h => (by omega : 0 < owed c 0 g i ∨ 0 < (tallyAt (barCell (nb 0 c)) () 1 : CellTallies nD τ sig Unit) g i ∨ 0 < (tallyAt (barCell (nb 1 c)) () 1 : CellTallies nD τ sig Unit) g i) with h | h | h
    · obtain ⟨k, -, hk, rfl⟩ := owed_pos h
      refine ⟨by rw [L_tc]; exact Finset.mem_singleton_self _, ?_⟩
      unfold lv
      rw [show roleOf (recvCell (nb (k % 2) c) k).2 = .recv k from role_recv hk]
      show 0 < 2 + k; omega
    · exact bar _ h
    · exact bar _ h
  · exact absurd h (Nat.lt_irrefl 0)

/-! ## The region -/

theorem ownFacts : Pipeline.OwnSemFacts spec0 osem0 where
  isScoped := by decide +kernel
  inj a b h := by
    have h3 : 8 + a.val = 8 + b.val := congrArg Fin.val (SemLoc.dma.inj h : (_ : Fin 521) = _)
    exact Fin.ext (by omega)
  disj k w s h := by
    have h3 : 8 + k.val = ((spec0 w).sem s).val := congrArg Fin.val (SemLoc.dma.inj h : (_ : Fin 521) = _)
    have h4 : ∀ w, ∀ s, ((spec0 w).sem s).val < 8 := by decide +kernel
    have := h4 w s; omega

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

end Cert.KernelIdeal.Hops
end
-- x
-- ==== Proof.Launch.lean ====
module

public import proofs.«01_k».proof.Proof.Gen.KernelIdeal.Frame
public import proofs.«01_k».proof.Proof.Region

@[expose] public section

noncomputable section

namespace Cert.KernelIdeal.Hops

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

open Idealize.ShloMosaic.Pipeline (Dat Cfg Window BodyObligation cellOf)

/-! # The program's run: the host operations, then the call -/

variable {F : FTy → Type} [FloatOps F]

local notation "𝕄" => MT nD τ sig Unit (Elt F) ℕ UU ℕ

variable (m : (ℓ : Loc nD τ sig) → Buf (Elt F) ℓ) (ρ : Dev nD → PrngReg)

theorem V₂_out (c : Dev nD) : V₂ m c (Proc.devRef .tc main_v3) = Rof m c := Function.update_self _ _ _
theorem V₂_of_ne (c : Dev nD) (b : DevRef τ sig) (h : b ≠ Proc.devRef .tc main_v3) : V₂ m c b = V₁ m c b := Function.update_of_ne h _ _

/-! ## The arrays at the end -/

theorem out_final (c : Dev nD) : (dat0 m c).arrAt (7 : Fin 8) cfg0.N = Rof m c := by
  rw [show cfg0.N = ((0 : Fin 1) : Fin cfg0.N).val + 1 from rfl, (dat0 m c).arrAt_succ (7 : Fin 8) (0 : Fin 1), show (cfg0.win (7 : Fin 8)).flush (0 : Fin 1) = true from by decide, if_pos rfl]
  refine (rd7 (F := F) _).symm.trans ?_
  exact View.read_write_univ _ _

theorem arr_first (c : Dev nD) (w : Fin 8) : (dat0 m c).arrAt w 0 = V₁ m c (Proc.devRef .tc (Pipeline.arrRef spec0 w)) := rfl
theorem arr_last (c : Dev nD) (w : Fin 8) : (dat0 m c).arrAt w cfg0.N = V₂ m c (Proc.devRef .tc (Pipeline.arrRef spec0 w)) := by
  match w with
  | ⟨0, h⟩ => exact ((dat0 m c).arrAt_in ⟨0, h⟩ rfl _).trans (V₂_of_ne m c (Proc.devRef .tc main_arg0) (by decide)).symm
  | ⟨1, h⟩ => exact ((dat0 m c).arrAt_in ⟨1, h⟩ rfl _).trans (V₂_of_ne m c (Proc.devRef .tc main_arg1) (by decide)).symm
  | ⟨2, h⟩ => exact ((dat0 m c).arrAt_in ⟨2, h⟩ rfl _).trans (V₂_of_ne m c (Proc.devRef .tc main_v2) (by decide)).symm
  | ⟨3, h⟩ => exact ((dat0 m c).arrAt_in ⟨3, h⟩ rfl _).trans (V₂_of_ne m c (Proc.devRef .tc main_c) (by decide)).symm
  | ⟨4, h⟩ => exact ((dat0 m c).arrAt_in ⟨4, h⟩ rfl _).trans (V₂_of_ne m c (Proc.devRef .tc main_c_0) (by decide)).symm
  | ⟨5, h⟩ => exact ((dat0 m c).arrAt_in ⟨5, h⟩ rfl _).trans (V₂_of_ne m c (Proc.devRef .tc main_c_1) (by decide)).symm
  | ⟨6, h⟩ => exact ((dat0 m c).arrAt_in ⟨6, h⟩ rfl _).trans (V₂_of_ne m c (Proc.devRef .tc main_c_2) (by decide)).symm
  | ⟨7, h⟩ => exact (out_final m c).trans (V₂_out m c).symm

theorem out_mem : (Proc.devRef .tc main_v3 : DevRef τ sig) ∈ arrs := by
  unfold arrs Pipeline.arrRefs
  exact Finset.mem_map_of_mem ⟨Proc.devRef (sig := sig) .tc, Proc.devRef_injective _⟩ (Finset.mem_image.mpr ⟨(7 : Fin 8), Finset.mem_univ _, rfl⟩)

theorem rest_same (c : Dev nD) : ∀ b ∈ (bufs \ arrs) \ (∅ : Finset (DevRef τ sig)), V₂ m c b = V₁ m c b := fun b hb =>
  V₂_of_ne m c b fun h => (Finset.mem_sdiff.mp (Finset.mem_sdiff.mp hb).1).2 (h ▸ out_mem)

theorem share_full (c : Dev nD) (w : Fin (Pipeline.pin (pcfgs (F := F)) adm 0).W) : (pdats m 0 c).share w = fullShare := by
  unfold Dat.share; split <;> rfl

theorem stage_level (c : Dev nD) (w : Fin (Pipeline.pin (pcfgs (F := F)) adm 0).W) (s : Fin ((Pipeline.pin (pcfgs (F := F)) adm 0).win w).nbuf) :
    lv ((c : Thread nD τ), .dma (((Pipeline.pin (pcfgs (F := F)) adm 0).win w).sem s)) () ≤ 0 := by
  have h : ∀ w : Fin 8, ∀ s : Fin (spec0 w).nbuf, levelOf (roleOf (.dma ((spec0 w).sem s))) ≤ 0 := by decide +kernel
  exact h w s

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem0 ownFacts
    ∅ (bufs \ arrs) (Finset.empty_subset _) kitP rfl (fun c => (body_obligation m c).loose)
    (fun _ => 0) O₀ (fun c => (owed_first m c).trans (zero_add _).symm) (owed_last m) (fun _ => rfl) (share_full m)
    (V₁ m) (V₂ m) (rest_same m)
    (Tk m) Yk (Xk m) Yk (hopen m) (hin m) (hout m)
    (fun c => by iintro H; imodintro; iexact H)
    (fun _ => 0)
    ⟨fun c w s => by rw [L_tc]; exact Finset.mem_singleton_self _, stage_level, fun c t g i h => owed_level m c t g i h⟩
    (fun _ => iprop(emp))
    (arr_first m) (arr_last m)

/-! ## The host operations -/

/-- What rides beside the buffers up to the call. -/
def R (c : Dev nD) : sProp 𝕄 := iprop(Tk m c ∗ (∃ r, prngReg c r) ∗ ∃ W, owes (c : Thread nD τ) (O₀ c) W)

set_option backward.isDefEq.respectTransparency.types false in
def seg0 : Pipeline.HostSeg (Name := ℕ) (U := UU) (pcfgs (F := F)) defs₀ 𝒱₀ L lv :=
  Pipeline.HostSeg.ofOps _ _ _ _ _ bufs hostOps0 (fun op hop => Pipeline.sub_ucRefs op ((List.forall_iff_forall_mem.mp hostOps0_sub) op hop))
    (fun op hop => (List.forall_iff_forall_mem.mp hostOps0_fresh) op hop) (V₀ m) (R m)

theorem arrs_sub : arrs ⊆ bufs := Pipeline.arrRefs_sub_ucRefs spec0 winFacts0.arr_unscoped

theorem reg_pre (c : Dev nD) : iprop(StableHlo.held (c : Thread nD τ) bufs (V₁ m c) ∗ R m c) ⊢ (reg0 m).pre c := by
  show _ ⊢ iprop(StableHlo.held (c.tc : Thread nD τ) arrs (V₁ m c) ∗ (∃ r, prngReg c r)
    ∗ (StableHlo.held (c.tc : Thread nD τ) (bufs \ arrs) (V₁ m c) ∗ emp) ∗ Tk m c ∗ ∃ Wd, owes (c : Thread nD τ) (0 + O₀ c) Wd)
  rw [StableHlo.held_sub_split (c.tc : Thread nD τ) arrs_sub (V₁ m c), zero_add]
  unfold R
  iintro ⟨⟨Ha, Hb⟩, HT, Hp, HO⟩
  isplitl [Ha]; · iexact Ha
  isplitl [Hp]; · iexact Hp
  isplitl [Hb]
  · isplitl [Hb]; · iexact Hb
    iempintro
  isplitl [HT] <;> iassumption

theorem reg_post (c : Dev nD) : (reg0 m).post c
    ⊢ iprop(StableHlo.held (c : Thread nD τ) bufs (V₂ m c) ∗ (semVal (barCell c) 0 ∗ ∃ W, owes (c : Thread nD τ) (0 : CellTallies nD τ sig Unit) W)) := by
  show iprop(StableHlo.held (c.tc : Thread nD τ) arrs (V₂ m c) ∗ (∃ r, prngReg c r)
    ∗ (StableHlo.held (c.tc : Thread nD τ) (bufs \ arrs) (V₂ m c) ∗ emp) ∗ Yk c ∗ ∃ Wd, owes (c : Thread nD τ) (0 : CellTallies nD τ sig Unit) Wd) ⊢ _
  rw [StableHlo.held_sub_split (c.tc : Thread nD τ) arrs_sub (V₂ m c)]
  unfold Yk
  iintro ⟨Ha, -, ⟨Hb, -⟩, HB, HO⟩
  isplitl [Ha Hb]; · (isplitl [Ha] <;> iassumption)
  isplitl [HB] <;> iassumption

def segs : List (Pipeline.Seg (pcfgs (F := F)) adm (pdats m) () defs₀ 𝒱₀ L lv) := [.host (seg0 m), .region (reg0 m)]

theorem main_eq (c : Dev nD) : main (F := F) c = Pipeline.Seg.run (segs m) := main_segs adm (pdats m) () 𝒱₀ L lv (seg0 m) (reg0 m) rfl c

end Cert.KernelIdeal.Hops
end
-- ==== Proof.Start.lean ====
module

public import proofs.«01_k».proof.Proof.Launch

@[expose] public section

noncomputable section

namespace Cert.KernelIdeal.Hops

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

open Idealize.ShloMosaic.Pipeline (Dat Cfg Window BodyObligation cellOf)

/-! # The launch, and the run of the whole program -/

variable {F : FTy → Type} [FloatOps F]

local notation "𝕄" => MT nD τ sig Unit (Elt F) ℕ UU ℕ

variable (m : (ℓ : Loc nD τ sig) → Buf (Elt F) ℓ) (ρ : Dev nD → PrngReg)

/-- The launch element: the pipeline's own beside the protocol's. -/
def u₀ : UU :=
  (Rounds.initOf (Pipeline.cells (Pipeline.pin (pcfgs (F := F)) adm) cellOf_inj) (Pipeline.launchToks (Pipeline.pin (pcfgs (F := F)) adm) cellOf_inj),
    Rounds.launchOf barCells ownCells toks)

/-- The protocol's launch element rests with device 0 until it is dealt. -/
def G (c : Dev nD) : sProp 𝕄 := if c = 0 then BI.own (ER (Rounds.launchOf barCells ownCells toks)) else iprop(emp)
omit [FloatOps F] in
theorem G_all : bigSep Finset.univ (G (F := F)) = BI.own (ER (Rounds.launchOf barCells ownCells toks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

omit [FloatOps F] in
theorem bufs_held (c : Dev nD) (W : Valuation τ sig (Elt F)) : (unscopedBufs c (fun b => W b) : sProp 𝕄) = StableHlo.held (c : Thread nD τ) bufs W := by
  unfold unscopedBufs StableHlo.held bufs Pipeline.ucRefs StableHlo.tcRefs
  rw [Finset.filter_map, BI.bigSep_map]
  rfl

theorem unscoped_only : ∀ sm : SemLoc sig, sm.isScoped .tc = false → sm = .reg barS := by decide +kernel
theorem unscoped_set : (Finset.univ.filter fun sm : SemLoc sig => ¬ sm.isScoped .tc) = {SemLoc.reg barS} := by
  ext sm
  rw [Finset.mem_filter, Finset.mem_singleton]
  constructor
  · rintro ⟨-, h⟩; exact unscoped_only sm (by simpa using h)
  · rintro rfl; exact ⟨Finset.mem_univ _, by decide⟩
omit [FloatOps F] in
theorem sems_held (c : Dev nD) : (unscopedSems0 c : sProp 𝕄) = semVal (barCell c) 0 := by
  unfold unscopedSems0
  rw [unscoped_set, BI.bigSep_singleton]

/-! ## Dealing the ghost state -/

omit [FloatOps F] in
theorem open_deal : bigSep ownCells (fun g => (Rounds.openTok ER g : sProp 𝕄))
    ⊢ bigSep Finset.univ fun c : Dev nD => iprop(Rounds.openTok ER (copyCell c) ∗ (bigSep (Finset.range 248) fun k => Rounds.openTok ER (sendCell c k)) ∗ bigSep (Finset.range 248) fun k => Rounds.openTok ER (recvCell c k)) := by
  unfold ownCells
  rw [bigSep_map, bigSep_univ_prod]
  refine bigSep_mono fun c _ => ?_
  show bigSep Finset.univ (fun i : Fin 513 => (Rounds.openTok ER ((c : Thread nD τ), osem0 i) : sProp 𝕄)) ⊢ _
  rw [own_split fun sm => (Rounds.openTok ER ((c : Thread nD τ), sm) : sProp 𝕄)]
  exact sep_elim_left

abbrev T₀ (c : Dev nD) : sProp 𝕄 := iprop(StableHlo.held (c : Thread nD τ) bufs (V₀ m c) ∗ R m c)
abbrev Tₙ (c : Dev nD) : sProp 𝕄 := iprop(StableHlo.held (c : Thread nD τ) bufs (V₂ m c) ∗ semVal (barCell c) 0)

/-- What a device holds at launch that is not the protocol's. -/
def bundle (c : Dev nD) : sProp 𝕄 :=
  iprop(StableHlo.held (c : Thread nD τ) bufs (V₀ m c) ∗ credit (F := F) c ∗ owes (c : Thread nD τ) (O₀ c) ∅ ∗ ∃ r, prngReg c r)

theorem T₀_intro (K : GSem nD τ sig → ℕ) (c : Dev nD) : iprop(records m K ∗ (linear c ∗ bundle m c)) ⊢ T₀ m c := by
  unfold bundle T₀ R Tk
  iintro ⟨#HR, Hl, Hh, Hc, HO, Hp⟩
  isplitl [Hh]; · iexact Hh
  isplitl [Hl Hc]
  · isplitl [Hl]
    · iexists K
      isplitr; · iexact HR
      iexact Hl
    iexact Hc
  isplitl [Hp]; · iexact Hp
  iexists ∅; iexact HO

theorem bundle_intro (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(bundle m c ∗ (semVal (barCell c) 0 ∗ G c)) : sProp 𝕄) := by
  rw [show unscopedBufs c (fun b => m ((c : Thread nD τ).loc b)) = StableHlo.held (c : Thread nD τ) bufs (V₀ m c) from bufs_held c (V₀ m c), sems_held]
  unfold bundle
  iintro ⟨Hh, Hs, HO, Hc, Hp, HG⟩
  ihave Hc := (show Pipeline.launchCred O₀ c ⊢ credit (F := F) c from creds c) $$ Hc
  isplitl [Hh Hc HO Hp]
  · isplitl [Hh]; · iexact Hh
    isplitl [Hc]; · iexact Hc
    isplitl [HO]; · iexact HO
    iexists (ρ c); iexact Hp
  isplitl [Hs] <;> iassumption

omit [FloatOps F] in
theorem linear_deal :
    iprop((bigSep Finset.univ fun c : Dev nD => Rounds.atPos ER (barCell c) 0 ∅ 0)
      ∗ (bigSep Finset.univ fun c : Dev nD => iprop(Rounds.openTok ER (copyCell c) ∗ (bigSep (Finset.range 248) fun k => Rounds.openTok ER (sendCell c k)) ∗ bigSep (Finset.range 248) fun k => Rounds.openTok ER (recvCell c k)))
      ∗ bigSep Finset.univ fun c : Dev nD => iprop((Rounds.dutyTok ER (barCell (nb 1 c)) 0 0 ∗ Rounds.dutyTok ER (barCell (nb 0 c)) 0 1) ∗ Rounds.dutyTok ER (copyCell c) 0 0
        ∗ (bigSep (Finset.range 248) fun k => Rounds.dutyTok ER (sendCell c k) 0 0)
        ∗ bigSep (Finset.range 248) fun k => Rounds.dutyTok ER (recvCell (nb (k % 2) c) k) 0 0))
    ⊢ (bigSep Finset.univ (linear (F := F)) : sProp 𝕄) := by
  rw [← bigSep_sep', ← bigSep_sep']
  exact bigSep_mono fun c _ => by unfold linear; exact BI.Entails.refl _

omit [FloatOps F] in
theorem linear_all : iprop((bigSep barCells fun g => Rounds.atPos ER g 0 ∅ 0) ∗ (bigSep ownCells fun g => Rounds.openTok ER g) ∗ bigSep toks fun x => Rounds.dutyTok ER x.1 x.2.1 x.2.2)
    ⊢ (bigSep Finset.univ (linear (F := F)) : sProp 𝕄) :=
  (BI.sep_mono (Entails.of_eq (bigSep_map (s := Finset.univ) barEmb (Φ := fun g : GSem nD τ sig => (Rounds.atPos ER g 0 ∅ 0 : sProp 𝕄))))
    (BI.sep_mono (open_deal (F := F)) (toks_deal (F := F)))).trans (linear_deal (F := F))

theorem T₀_all (K : GSem nD τ sig → ℕ) : iprop(records m K ∗ bigSep Finset.univ (linear (F := F)) ∗ bigSep Finset.univ (bundle m)) ⊢ bigSep Finset.univ (T₀ m) := by
  rw [← bigSep_sep']
  exact bigSep_with_persistent fun c _ => T₀_intro m K c

theorem fund : iprop((bigSep Finset.univ fun c : Dev nD => semVal (barCell c) 0) ∗ bigSep Finset.univ (G (F := F)))
    ⊢ (|={Set.univ}=> iprop(∃ K, records m K ∗ (bigSep barCells fun g => Rounds.atPos ER g 0 ∅ 0) ∗ (bigSep ownCells fun g => Rounds.openTok ER g) ∗ bigSep toks fun x => Rounds.dutyTok ER x.1 x.2.1 x.2.2) : sProp 𝕄) := by
  rw [G_all, ← show bigSep barCells (fun g => (semVal g 0 : sProp 𝕄)) = bigSep Finset.univ fun c : Dev nD => semVal (barCell c) 0 from
    bigSep_map (s := Finset.univ) barEmb (Φ := fun g : GSem nD τ sig => (semVal g 0 : sProp 𝕄))]
  unfold records
  iintro H
  imod (Rounds.fund_launch ER (Rd (Xof m)) disjoint_cells (fun g _ h => h) toks) $$ H with ⟨%K, -, Hinv, Hr, H⟩
  imodintro
  iexists K
  isplitl [Hinv Hr]
  · isplitl [Hinv] <;> iassumption
  iexact H

theorem launch_split :
    (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (iprop((bigSep Finset.univ (bundle m)) ∗ (bigSep Finset.univ fun c : Dev nD => semVal (barCell c) 0) ∗ bigSep Finset.univ (G (F := F))) : sProp 𝕄) := by
  rw [← bigSep_sep', ← bigSep_sep']
  exact bigSep_mono fun c _ => bundle_intro m ρ c

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  iintro ⟨H, -⟩
  ihave H := (launch_split m ρ) $$ H
  icases H with ⟨HB, HG⟩
  imod (fund m) $$ HG with ⟨%K, HR, H⟩
  imodintro
  iapply (T₀_all m K)
  isplitl [HR]; · iexact HR
  isplitl [H]
  · iapply (linear_all (F := F)); iexact H
  iexact HB

/-! ## The run -/

/-- The buffers read at the end. -/
def seen : Finset (DevRef τ sig) := {Proc.devRef .tc main_arg0, Proc.devRef .tc main_arg1, Proc.devRef .tc main_arg2, Proc.devRef .tc main_arg3, Proc.devRef .tc main_v3}
theorem seen_sub : seen ⊆ bufs := by
  have h : ∀ b ∈ ([main_arg0, main_arg1, main_arg2, main_arg3, main_v3] : List (Ref sig .tc)), b.isScoped = false := by decide
  intro b hb
  have hb' : b ∈ ([main_arg0, main_arg1, main_arg2, main_arg3, main_v3] : List (Ref sig .tc)).map (Proc.devRef (τ := τ) .tc) := by
    simpa [seen] using hb
  obtain ⟨r, hr, rfl⟩ := List.mem_map.mp hb'
  exact Finset.mem_filter.mpr ⟨StableHlo.devRef_mem_tcRefs _, fun h' => Bool.false_ne_true ((h r hr).symm.trans h')⟩

omit [FloatOps F] in
theorem seen_held (c : Dev nD) (W : Valuation τ sig (Elt F)) : (StableHlo.held (c : Thread nD τ) seen W : sProp 𝕄)
    = iprop((((c : Thread nD τ).loc main_arg0) ↦{fullShare} W (Proc.devRef .tc main_arg0)) ∗ (((c : Thread nD τ).loc main_arg1) ↦{fullShare} W (Proc.devRef .tc main_arg1))
      ∗ (((c : Thread nD τ).loc main_arg2) ↦{fullShare} W (Proc.devRef .tc main_arg2)) ∗ (((c : Thread nD τ).loc main_arg3) ↦{fullShare} W (Proc.devRef .tc main_arg3))
      ∗ (((c : Thread nD τ).loc main_v3) ↦{fullShare} W (Proc.devRef .tc main_v3))) := by
  unfold StableHlo.held seen
  rw [bigSep_insert (by decide), bigSep_insert (by decide), bigSep_insert (by decide), bigSep_insert (by decide), bigSep_singleton]
  rfl

theorem kept (c : Dev nD) : V₂ m c (Proc.devRef .tc main_arg0) = m ((c : Thread nD τ).loc main_arg0) ∧ V₂ m c (Proc.devRef .tc main_arg1) = m ((c : Thread nD τ).loc main_arg1)
    ∧ V₂ m c (Proc.devRef .tc main_arg2) = m ((c : Thread nD τ).loc main_arg2) ∧ V₂ m c (Proc.devRef .tc main_arg3) = m ((c : Thread nD τ).loc main_arg3) :=
  ⟨(V₂_of_ne m c (Proc.devRef .tc main_arg0) (by decide)).trans (V_main_arg0 m c), (V₂_of_ne m c (Proc.devRef .tc main_arg1) (by decide)).trans (V_main_arg1 m c),
    (V₂_of_ne m c (Proc.devRef .tc main_arg2) (by decide)).trans (V_main_arg2 m c), (V₂_of_ne m c (Proc.devRef .tc main_arg3) (by decide)).trans (V_main_arg3 m c)⟩

/-- What a device's memory holds at the end. -/
def Final (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3)
    ∧ s.mem ((c : Thread nD τ).loc main_v3) = Rof m c

set_option backward.isDefEq.respectTransparency.types false in
/-- Every weakly fair execution ends, with every argument unchanged, every result as computed, every semaphore at zero. -/
theorem run_main : θ_run defs (onTc (τ := τ) (main (F := F))) ⟨m, fun _ => 0, ρ⟩
    (fun r => (∀ c : Dev nD, Final m c r.2) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := by
      refine ⟨fun c => .rfl, fun c => reg_pre m c, fun c => (reg_post m c).trans ?_⟩
      show iprop(StableHlo.held (c : Thread nD τ) bufs (V₂ m c) ∗ (semVal (barCell c) 0 ∗ ∃ W, owes (c : Thread nD τ) (0 : CellTallies nD τ sig Unit) W))
        ⊢ iprop(Tₙ m c ∗ ∃ W, owes (c : Thread nD τ) (0 : CellTallies nD τ sig Unit) W)
      iintro ⟨Hh, Hb, HO⟩
      isplitr [HO]
      · isplitl [Hh] <;> iassumption
      · iexact HO)
    (hinit := init m ρ)
    (QY := fun c s => Final m c s ∧ s.sem (barCell c) = 0)
    (hfin := fun c s' => by
      dsimp only [Tₙ]
      rw [StableHlo.held_sub_split (c : Thread nD τ) seen_sub (V₂ m c), seen_held, (kept m c).1, (kept m c).2.1, (kept m c).2.2.1, (kept m c).2.2.2, V₂_out]
      iintro ⟨⟨⟨⟨H0, H1, H2, H3, H4⟩, -⟩, Hb⟩, HSI⟩
      icombine HSI H0 gives %h0
      icombine HSI H1 gives %h1
      icombine HSI H2 gives %h2
      icombine HSI H3 gives %h3
      icombine HSI H4 gives %h4
      icombine HSI Hb gives %hb
      imodintro
      isplitr
      · ipureintro
        exact ⟨⟨Buf.eq_of_forall_mem_univ h0, Buf.eq_of_forall_mem_univ h1, Buf.eq_of_forall_mem_univ h2, Buf.eq_of_forall_mem_univ h3, Buf.eq_of_forall_mem_univ h4⟩, by simpa using hb⟩
      iexact HSI)
    (hQ := fun s h hs => ⟨fun c => (h c).1, sem_eq_zero hs fun c sm hsm => by
        obtain rfl := unscoped_only sm hsm
        exact (h c).2⟩)

end Cert.KernelIdeal.Hops
end
-- ==== Proof.Frames.lean ====
module

public import proofs.«01_k».proof.Defs
public import proofs.«01_k».proof.Proof.Gen.Kernel
public import proofs.«01_k».proof.Proof.Start

@[expose] public section

noncomputable section

namespace Cert.KernelIdeal.Hops

open Idealize.ShloMosaic Idealize.ShloMosaic.TcCoe Idealize.SL.Sem

/-! # The program leaves its arguments unchanged and every semaphore at zero -/

theorem frame_ideal : Cert.quiescent_KernelIdeal := fun m ρ _ =>
  (θ_run Cert.KernelIdeal.defs _ _).mono (fun _ h => ⟨fun c => ⟨(h.1 c).1, (h.1 c).2.1, (h.1 c).2.2.1, (h.1 c).2.2.2.1⟩, h.2⟩) (run_main (F := Ideal) m ρ)

/-- The same of the program read at machine floats. -/
theorem frame_bits (m : (ℓ : Loc Cert.KernelIdeal.nD Cert.KernelIdeal.τ Cert.KernelIdeal.sig) → Buf (Elt Bits) ℓ) (ρ : Dev Cert.KernelIdeal.nD → PrngReg) :
    θ_run (Cert.KernelIdeal.defs (F := Bits)) (onTc (τ := Cert.KernelIdeal.τ) (Cert.KernelIdeal.main (F := Bits))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun _ h => ⟨fun c => ⟨(h.1 c).1, (h.1 c).2.1, (h.1 c).2.2.1, (h.1 c).2.2.2.1⟩, h.2⟩) (run_main (F := Bits) m ρ)

set_option maxRecDepth 65536 in
set_option maxHeartbeats 4000000 in
/-- The two programs are the same text: their one label's body is, -/
theorem body_same {F : FTy → Type} [FloatOps F] : @Cert.Kernel.cc0_body F _ Cert.Kernel.Gen.facts = @Cert.KernelIdeal.cc0_body F _ Cert.KernelIdeal.Gen.facts := (rfl)

/-- so their labels are, -/
theorem defs₀_same {F : FTy → Type} [FloatOps F] : (Cert.Kernel.defs₀ (F := F)) = Cert.KernelIdeal.defs₀ (F := F) := by
  unfold Cert.Kernel.defs₀ Cert.KernelIdeal.defs₀
  refine congrArg Defs.onTc (funext fun l => funext fun a => ?_)
  match l, a with
  | 0, (t, s) =>
    dsimp only
    rw [body_same]
  | ⟨n + 1, h⟩, _ => exact absurd h (by omega)

/-- so their definitions are. -/
theorem defs_same {F : FTy → Type} [FloatOps F] : (Cert.Kernel.defs (F := F)) = Cert.KernelIdeal.defs (F := F) :=
  congrArg (Pipeline.defs (Cert.KernelIdeal.pcfgs (F := F))) defs₀_same

set_option maxRecDepth 65536 in
theorem frame_kernel : Cert.quiescent_Kernel := fun m ρ _ => by
  have h := frame_bits m ρ
  rw [← defs_same] at h
  exact h

end Cert.KernelIdeal.Hops
end
-- ==== Proof.Value.lean ====
module

public import Idealize.ShloMosaic.Lib.Pointwise
public import proofs.«01_k».proof.Proof.Out

@[expose] public section

noncomputable section

namespace Cert.KernelIdeal.Hops

open Idealize.ShloMosaic Cert.KernelIdeal Cert.KernelIdeal.Gen

/-! # The products over the reals, element by element -/

/-- `y` through the gate. -/
def gate (y : EReal) : EReal := Ideal.div y (1 + Ideal.exp (0 - y))

theorem one_add_exp_ne (z : EReal) : (1 : EReal) + Ideal.exp z ≠ 0 := by
  induction z using EReal.rec with
  | bot => rw [Ideal.exp_bot, add_zero]; exact one_ne_zero
  | coe r =>
    rw [Ideal.exp_coe, ← EReal.coe_one, ← EReal.coe_add]
    have h : (1 + Real.exp r : ℝ) ≠ 0 := by positivity
    exact_mod_cast h
  | top => rw [Ideal.exp_top, EReal.add_top_of_ne_bot (show (1 : EReal) ≠ ⊥ from EReal.coe_ne_bot 1)]; exact EReal.top_ne_zero

theorem mul_logistic (y : EReal) : y * Ideal.logistic y = gate y := by
  unfold gate Ideal.logistic
  rw [zero_sub, Ideal.div, Ideal.div, if_neg (one_add_exp_ne _), if_neg (one_add_exp_ne _), one_mul]

theorem pay1_eq (w : FVec Ideal S4096x64 .fp8e5m2) : k0_pay1 w = w := by
  funext i
  pointwise [k0_pay1]

theorem pay2_at (sc : Elt Ideal .f32) (w : FVec Ideal S4096x64 .fp8e5m2) (x : FVec Ideal S128x4096 .fp8e5m2) (i : S128x64.Idx) :
    k0_pay2 sc w x i = gate ((∑ k : Fin 4096, x (ix2 (i 0) k) * w (ix2 k (i 1))) * sc) := by
  pointwise [k0_pay2]
  exact mul_logistic _

theorem pay3_at (sc : Elt Ideal .f32) (w : FVec Ideal S4096x64 .fp8e5m2) (x : FVec Ideal S1x64x4096 .fp8e5m2) (i : S64x64.Idx) :
    k0_pay3 sc w x i = gate ((∑ k : Fin 4096, x (ix3 0 (i 0) k) * w (ix2 k (i 1))) * sc) := by
  pointwise [k0_pay3]
  exact mul_logistic _

/-- The block that holds a row, and the row's place in it. -/
def blockOf (r : Fin 4096) : Dev nD := ⟨r.val / 128, by show _ < 32; omega⟩
def rowIn (r : Fin 4096) : Fin 128 := ⟨r.val % 128, Nat.mod_lt _ (by decide)⟩

/-- The result, whichever product a row came from. -/
theorem res_at (X : Dev nD → FVec Ideal S128x4096 .fp8e5m2) (sc : Elt Ideal .f32) (w : FVec Ideal S4096x64 .fp8e5m2) (c : Dev nD) (r : Fin 4096) (l : Fin 64) :
    resF X sc w c (ix2 r l) = gate ((∑ k : Fin 4096, X (blockOf r) (ix2 (rowIn r) k) * w (ix2 k l)) * sc) := by
  unfold resF
  split
  · next h =>
    have hb : blockOf r = c := Fin.ext h
    rw [pay2_at, hb]
    rfl
  · rw [pay3_at]
    have e : ∀ k : Fin 4096, halfX X (blockOf r) (r.val % 128 / 64) (ix3 0 (inHalf (ix2 r l) 0) k) = X (blockOf r) (ix2 (rowIn r) k) := by
      intro k
      unfold halfX
      refine congrArg (X (blockOf r)) (funext fun a => Fin.ext ?_)
      fin_cases a
      · show (64 * (r.val % 128 / 64) + r.val % 64) % 128 = r.val % 128
        omega
      · rfl
    exact congrArg gate (congrArg (· * sc) (Finset.sum_congr rfl fun k _ => congrArg (· * w (ix2 k l)) (e k)))

end Cert.KernelIdeal.Hops
end
-- ==== Proof.Args.lean ====
module

public import proofs.«01_k».proof.Proof.Value
public import proofs.«01_k».proof.Proof.Start

@[expose] public section

noncomputable section

namespace Cert.KernelIdeal.Hops

open Idealize.ShloMosaic Idealize.ShloMosaic.TcCoe Cert.KernelIdeal Cert.KernelIdeal.Gen

/-! # A device's result in terms of the arguments -/

variable (m : (ℓ : Loc nD τ sig) → Buf (Elt Ideal) ℓ)

def argX (c : Dev nD) : FVec Ideal S128x4096 .fp8e5m2 := m ((c.tc : Thread nD τ).loc main_arg0)
def argW (c : Dev nD) : FVec Ideal S4096x64 .fp8e5m2 := m ((c.tc : Thread nD τ).loc main_arg1)
def argS (c : Dev nD) : FVec Ideal S1 .f32 := m ((c.tc : Thread nD τ).loc main_arg2)
def argT (c : Dev nD) : FVec Ideal S1 .f32 := m ((c.tc : Thread nD τ).loc main_arg3)

theorem Xof_eq : Xof m = argX m := funext fun c => V_main_arg0 m c
theorem Wof_eq (c : Dev nD) : Wof m c = argW m c := V_main_arg1 m c

/-- The scale is the product of the two scales. -/
theorem scale_eq (c : Dev nD) : scOf (Sof m c) = argS m c (ix1 0) * argT m c (ix1 0) := by
  have h : Sof m c = shapeCast S1x1 (mulf (argS m c) (argT m c)) shapeCasts_S1_S1x1 := by
    unfold Sof V₁
    simp only [hostOps0, StableHlo.after_cons, StableHlo.after_nil]
    rw [StableHlo.reshape_result, StableHlo.binary_result, StableHlo.nullary_result_ne _ _ _ _ (by decide), StableHlo.nullary_result_ne _ _ _ _ (by decide),
      StableHlo.nullary_result_ne _ _ _ _ (by decide), StableHlo.nullary_result_ne _ _ _ _ (by decide), StableHlo.nullary_result_ne _ _ _ _ (by decide),
      StableHlo.nullary_result_ne _ _ _ _ (by decide), StableHlo.nullary_result_ne _ _ _ _ (by decide), StableHlo.nullary_result_ne _ _ _ _ (by decide)]
    rfl
  rw [h]
  have e : ∀ j : S1.Idx, j = ix1 0 := fun j => funext fun a => by
    fin_cases a
    exact Fin.ext (by have : (j (0 : Fin 1)).val < 1 := (j (0 : Fin 1)).isLt; show (j (0 : Fin 1)).val = 0; omega)
  show argS m c _ * argT m c _ = _
  rw [e (Shape.reshapeEquiv _ _)]

/-- What a device ends with. -/
theorem Rof_at (c : Dev nD) (r : Fin 4096) (l : Fin 64) :
    Rof m c (ix2 r l) = gate ((∑ k : Fin 4096, argX m (blockOf r) (ix2 (rowIn r) k) * argW m c (ix2 k l)) * (argS m c (ix1 0) * argT m c (ix1 0))) := by
  unfold Rof
  rw [pay1_eq, res_at, Xof_eq, Wof_eq, scale_eq]

end Cert.KernelIdeal.Hops
end
-- ==== Proof.Plain.lean ====
module

public import Idealize.ShloMosaic.Lib.Pointwise
public import proofs.«01_k».proof.Proof.Gen.ReferenceIdeal.Value

@[expose] public section

noncomputable section

namespace Cert.ReferenceIdeal.Plain

open Idealize.ShloMosaic Idealize.ShloMosaic.TcCoe Idealize.SL.Sem
open Cert.ReferenceIdeal Cert.ReferenceIdeal.Gen

/-! # What the reference computes -/

section Run

variable {F : FTy → Type} [FloatOps F] (m : (ℓ : Loc nD τ sig) → Buf (Elt F) ℓ) (ρ : Dev nD → PrngReg)

/-- The one word of a scale. -/
def word (s : Vec F S1 .f32) : Elt F .f32 := s (ix1 0)

theorem one_index (j : S1.Idx) : j = ix1 0 := funext fun a => by
  fin_cases a
  exact Fin.ext (by have : (j (0 : Fin 1)).val < 1 := (j (0 : Fin 1)).isLt; show (j (0 : Fin 1)).val = 0; omega)

theorem zero_offsets : (![0, 0] : Fin 2 → ℕ) = fun _ => 0 := funext fun a => by fin_cases a <;> rfl

/-- The body's one store, of the whole result. -/
theorem stored (c : Dev nD) (a0 : Memref sig .tc .vmem S4096x4096 .fp8e5m2) (h0 : a0.IsWhole) (a1 : Memref sig .tc .vmem S4096x2048 .fp8e5m2) (h1 : a1.IsWhole)
    (a2 : Memref sig .tc .smem S1 .f32) (h2 : a2.IsWhole) (a3 : Memref sig .tc .smem S1 .f32) (h3 : a3.IsWhole) (a4 : Memref sig .tc .vmem S4096x2048 .f32) (h4 : a4.IsWhole)
    (x : Vec F S4096x4096 .fp8e5m2) (w : Vec F S4096x2048 .fp8e5m2) (s t : Vec F S1 .f32) :
    out0_A_4 c a0 h0 a1 h1 a2 h2 a3 h3 a4 h4 x w s t = k0_pay1 x w (word s) (word t) := by
  unfold out0_A_4
  rw [View.read_writes_junk_eq_canon]
  show View.canon ([⟨Rect.unit ![0, 0] S4096x2048.size inb_S4096x2048_S4096x2048_0_0,
    k0_pay1 (View.readAt (Elt F) a0.view (Rect.unit ![0, 0] S4096x4096.size inb_S4096x4096_S4096x4096_0_0).toLoadRect (h0.unread x))
      (View.readAt (Elt F) a1.view (Rect.unit ![0, 0] S4096x2048.size inb_S4096x2048_S4096x2048_0_0).toLoadRect (h1.unread w))
      (View.readAt (Elt F) a2.view (Rect.unit (s := S1) ![0] S1.size inb_S1_S1_0).toLoadRect (h2.unread s) _)
      (View.readAt (Elt F) a3.view (Rect.unit (s := S1) ![0] S1.size inb_S1_S1_0).toLoadRect (h3.unread t) _)⟩] : List (View.Piece (Elt F) S4096x2048 .f32)) = _
  rw [View.canon_unit_zero zero_offsets]
  simp only [View.readAt_eq_ld]
  rw [h0.read_unread, h1.read_unread, h2.read_unread, h3.read_unread, View.ld_unit_zero zero_offsets, View.ld_unit_zero zero_offsets]
  exact congrArg₂ (k0_pay1 x w) (congrArg s (one_index _)) (congrArg t (one_index _))

/-! ## At the one grid point a window's block is its array -/

theorem blk0 (f : main_arg0.ty.Contents (Elt F)) : (win0_0.blk (0 : Fin 1)).view.read (Elt F) f = f :=
  Memref.read_access_unit_zero (Elt F) main_arg0 (off := fun a => (win0_0.index (0 : Fin 1)) a * main_arg0.ty.shape.size a) (funext fun a => by fin_cases a <;> decide) (fun a => by fin_cases a <;> decide) f
theorem blk1 (f : main_arg1.ty.Contents (Elt F)) : (win0_1.blk (0 : Fin 1)).view.read (Elt F) f = f :=
  Memref.read_access_unit_zero (Elt F) main_arg1 (off := fun a => (win0_1.index (0 : Fin 1)) a * main_arg1.ty.shape.size a) (funext fun a => by fin_cases a <;> decide) (fun a => by fin_cases a <;> decide) f
theorem blk2 (f : main_arg2.ty.Contents (Elt F)) : (win0_2.blk (0 : Fin 1)).view.read (Elt F) f = f :=
  Memref.read_access_unit_zero (Elt F) main_arg2 (off := fun a => (win0_2.index (0 : Fin 1)) a * main_arg2.ty.shape.size a) (funext fun a => by fin_cases a <;> decide) (fun a => by fin_cases a <;> decide) f
theorem blk3 (f : main_arg3.ty.Contents (Elt F)) : (win0_3.blk (0 : Fin 1)).view.read (Elt F) f = f :=
  Memref.read_access_unit_zero (Elt F) main_arg3 (off := fun a => (win0_3.index (0 : Fin 1)) a * main_arg3.ty.shape.size a) (funext fun a => by fin_cases a <;> decide) (fun a => by fin_cases a <;> decide) f
theorem blk4 (f : main_v0.ty.Contents (Elt F)) : (win0_4.blk (0 : Fin 1)).view.read (Elt F) f = f :=
  Memref.read_access_unit_zero (Elt F) main_v0 (off := fun a => (win0_4.index (0 : Fin 1)) a * main_v0.ty.shape.size a) (funext fun a => by fin_cases a <;> decide) (fun a => by fin_cases a <;> decide) f

/-- The result as a function of the arguments. -/
def result (c : Dev nD) : Vec F S4096x2048 .f32 :=
  k0_pay1 (m ((c : Thread nD τ).loc main_arg0)) (m ((c : Thread nD τ).loc main_arg1)) (word (m ((c : Thread nD τ).loc main_arg2))) (word (m ((c : Thread nD τ).loc main_arg3)))

theorem array_eq (c : Dev nD) : (dats m 0 c).arrAt 4 cfg0.N = result m c := by
  have h := (Value.blocks4 m c (0 : Fin 1) (flush0_4 _)).trans (Value.flushed4_A m c (0 : Fin 1))
  rw [stored] at h
  refine (blk4 (F := F) _).symm.trans (h.trans ?_)
  show k0_pay1 (iblk m c 0 (0 : Fin 1)) (iblk m c 1 (0 : Fin 1)) (word (iblk m c 2 (0 : Fin 1))) (word (iblk m c 3 (0 : Fin 1))) = _
  have e0 : iblk m c 0 (0 : Fin 1) = m ((c : Thread nD τ).loc main_arg0) := blk0 (F := F) _
  have e1 : iblk m c 1 (0 : Fin 1) = m ((c : Thread nD τ).loc main_arg1) := blk1 (F := F) _
  have e2 : iblk m c 2 (0 : Fin 1) = m ((c : Thread nD τ).loc main_arg2) := blk2 (F := F) _
  have e3 : iblk m c 3 (0 : Fin 1) = m ((c : Thread nD τ).loc main_arg3) := blk3 (F := F) _
  rw [e0, e1, e2, e3]
  rfl

/-- The reference's run, its result named. -/
theorem run : θ_run defs (onTc (τ := τ) (main (F := F))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (array_eq m c), (h c).2⟩) (Value.run_blocks m ρ)

end Run

/-- The reference's payload over the reals, element by element. -/
theorem pay_at (x : FVec Ideal S4096x4096 .fp8e5m2) (w : FVec Ideal S4096x2048 .fp8e5m2) (s t : Elt Ideal .f32) (r : Fin 4096) (l : Fin 2048) :
    k0_pay1 x w s t (ix2 r l)
      = Ideal.div ((∑ k : Fin 4096, x (ix2 r k) * w (ix2 k l)) * (s * t)) (1 + Ideal.exp (0 - (∑ k : Fin 4096, x (ix2 r k) * w (ix2 k l)) * (s * t))) := by
  pointwise [k0_pay1]

end Cert.ReferenceIdeal.Plain
end
-- ==== Proof.Equal.lean ====
module

public import proofs.«01_k».proof.Defs
public import proofs.«01_k».proof.Proof.Args
public import proofs.«01_k».proof.Proof.Plain

@[expose] public section

noncomputable section

namespace Cert.KernelIdeal.Hops

open Idealize.ShloMosaic Idealize.ShloMosaic.TcCoe Idealize.SL.Sem Cert.KernelIdeal Cert.KernelIdeal.Gen

/-! # Every device's result is its block of the reference's -/

variable (m : (ℓ : Loc nD τ sig) → Buf (Elt Ideal) ℓ)

/-- Device `c`'s column `l` as a column of the whole. -/
def colOf (c : Dev nD) (l : Fin 64) : Fin 2048 := ⟨c.val * 64 + l.val, by have : c.val < 32 := c.isLt; omega⟩

/-- A row of the first operand, read off the block that holds it. -/
theorem rows_eq {A : FVec Ideal ⟨2, ![4096, 4096]⟩ .fp8e5m2} (hA : ∀ c, argX m c = Layout.block ⟨2, ![128, 4096]⟩ ⟨2, ![4096, 4096]⟩ 0 32 c A) (r k : Fin 4096) :
    argX m (blockOf r) (ix2 (rowIn r) k) = A (ix2 r k) := by
  rw [hA, Layout.block_apply]
  refine congrArg A (funext fun a => Fin.ext ?_)
  fin_cases a
  · show r.val / 128 * 128 + r.val % 128 = r.val
    omega
  · rfl

/-- A column of the second operand, read off the block that holds it. -/
theorem cols_eq {B : FVec Ideal ⟨2, ![4096, 2048]⟩ .fp8e5m2} (c : Dev nD) (hB : argW m c = Layout.block ⟨2, ![4096, 64]⟩ ⟨2, ![4096, 2048]⟩ 1 32 c B) (k : Fin 4096) (l : Fin 64) :
    argW m c (ix2 k l) = B (ix2 k (colOf c l)) := by
  rw [hB, Layout.block_apply]
  refine congrArg B (funext fun a => Fin.ext ?_)
  fin_cases a <;> rfl

variable (m' : (ℓ : Loc Cert.ReferenceIdeal.nD Cert.ReferenceIdeal.τ Cert.ReferenceIdeal.sig) → Buf (Elt Ideal) ℓ)

/-- The reference's arguments. -/
def refX : FVec Ideal ⟨2, ![4096, 4096]⟩ .fp8e5m2 := m' (((0 : Dev Cert.ReferenceIdeal.nD).tc : Thread Cert.ReferenceIdeal.nD Cert.ReferenceIdeal.τ).loc Cert.ReferenceIdeal.main_arg0)
def refW : FVec Ideal ⟨2, ![4096, 2048]⟩ .fp8e5m2 := m' (((0 : Dev Cert.ReferenceIdeal.nD).tc : Thread Cert.ReferenceIdeal.nD Cert.ReferenceIdeal.τ).loc Cert.ReferenceIdeal.main_arg1)
def refS : FVec Ideal ⟨1, ![1]⟩ .f32 := m' (((0 : Dev Cert.ReferenceIdeal.nD).tc : Thread Cert.ReferenceIdeal.nD Cert.ReferenceIdeal.τ).loc Cert.ReferenceIdeal.main_arg2)
def refT : FVec Ideal ⟨1, ![1]⟩ .f32 := m' (((0 : Dev Cert.ReferenceIdeal.nD).tc : Thread Cert.ReferenceIdeal.nD Cert.ReferenceIdeal.τ).loc Cert.ReferenceIdeal.main_arg3)

theorem ref_at (r : Fin 4096) (l : Fin 2048) :
    Cert.ReferenceIdeal.Plain.result m' 0 (ix2 r l) = gate ((∑ k : Fin 4096, refX m' (ix2 r k) * refW m' (ix2 k l)) * (refS m' (ix1 0) * refT m' (ix1 0))) :=
  Cert.ReferenceIdeal.Plain.pay_at _ _ _ _ r l

theorem block_eq (c : Dev nD) (hA : ∀ c, argX m c = Layout.block ⟨2, ![128, 4096]⟩ ⟨2, ![4096, 4096]⟩ 0 32 c (refX m'))
    (hB : argW m c = Layout.block ⟨2, ![4096, 64]⟩ ⟨2, ![4096, 2048]⟩ 1 32 c (refW m')) (hS : argS m c = refS m') (hT : argT m c = refT m') :
    Rof m c = Layout.block ⟨2, ![4096, 64]⟩ ⟨2, ![4096, 2048]⟩ 1 32 c (Cert.ReferenceIdeal.Plain.result m' 0) := by
  funext i
  obtain ⟨r, l, rfl⟩ : ∃ (r : Fin 4096) (l : Fin 64), i = ix2 r l := ⟨i 0, i 1, funext fun a => by fin_cases a <;> rfl⟩
  rw [Layout.block_apply]
  have e : (by decide : Layout.Tiles ⟨2, ![4096, 64]⟩ ⟨2, ![4096, 2048]⟩ 1 32).idx c (ix2 r l) = ix2 r (colOf c l) :=
    funext fun a => Fin.ext (by fin_cases a <;> rfl)
  refine (Rof_at m c r l).trans (Eq.trans ?_ (congrArg (Cert.ReferenceIdeal.Plain.result m' 0) e).symm)
  rw [ref_at, hS, hT]
  refine congrArg gate (congrArg (· * (refS m' (ix1 0) * refT m' (ix1 0))) (Finset.sum_congr rfl fun k _ => ?_))
  rw [rows_eq m hA, cols_eq m c hB]

theorem algebraic : Cert.algebraic_KernelIdeal_ReferenceIdeal := fun m g m' g' _ hm =>
  ⟨Cert.ReferenceIdeal.Plain.result m' 0,
    (θ_run Cert.KernelIdeal.defs _ _).mono (fun _ h c =>
      ⟨(h.1 c).2.2.2.2.trans (block_eq m m' c (fun c => (hm c).1) (hm c).2.1 (hm c).2.2.1 (hm c).2.2.2),
        (h.1 c).1, (h.1 c).2.1, (h.1 c).2.2.1, (h.1 c).2.2.2.1⟩) (run_main (F := Ideal) m g),
    (θ_run Cert.ReferenceIdeal.defs _ _).mono (fun _ h => h 0) (Cert.ReferenceIdeal.Plain.run (F := Ideal) m' g')⟩

end Cert.KernelIdeal.Hops
end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Frames
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KernelIdeal.Hops.frame_kernel, Cert.KernelIdeal.Hops.frame_ideal, fun m ρ _ => Cert.ReferenceIdeal.Gen.frame m ρ, trivial, Cert.KernelIdeal.Hops.algebraic⟩

end Cert.Proof

end
